-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_forget [hPre_finite_forget : Cert.Pre_finite_forget.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_forget.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_forget [hPre_finite_forget : Cert.Pre_finite_forget.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_forget.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gates [hPre_finite_gates : Cert.Pre_finite_gates.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gates.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gates [hPre_finite_gates : Cert.Pre_finite_gates.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gates.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_forget_sample [hPre_finite_forget_sample : Cert.Pre_finite_forget_sample.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_forget_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_forget_sample [hPre_finite_forget_sample : Cert.Pre_finite_forget_sample.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_forget_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_forget [hKernel3Ideal : Cert.Kernel3Ideal.Facts] [hPre_finite_forget : Cert.Pre_finite_forget.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_forget m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_forget [hReference3Ideal : Cert.Reference3Ideal.Facts] [hPre_finite_forget : Cert.Pre_finite_forget.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_forget m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_gates [hKernel4Ideal : Cert.Kernel4Ideal.Facts] [hPre_finite_gates : Cert.Pre_finite_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gates m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_gates [hReference4Ideal : Cert.Reference4Ideal.Facts] [hPre_finite_gates : Cert.Pre_finite_gates.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gates m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_forget_sample [hKernel6Ideal : Cert.Kernel6Ideal.Facts] [hPre_finite_forget_sample : Cert.Pre_finite_forget_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_forget_sample m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_forget_sample [hReference6Ideal : Cert.Reference6Ideal.Facts] [hPre_finite_forget_sample : Cert.Pre_finite_forget_sample.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_forget_sample m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_forget [hKernel3Ideal : Cert.Kernel3Ideal.Facts] [hReference3Ideal : Cert.Reference3Ideal.Facts] [hPre_finite_forget : Cert.Pre_finite_forget.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_forget m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v20_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v20_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v70) = v4 c
          ∧ r.2.mem ((c.tc : Thread Cert.Reference3Ideal.nD Cert.Reference3Ideal.τ).loc Cert.Reference3Ideal.main_v71) = v5 c
          ∧ r.2.mem ((c.tc : Thread Cert.Reference3Ideal.nD Cert.Reference3Ideal.τ).loc Cert.Reference3Ideal.main_v51) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_gates [hKernel4Ideal : Cert.Kernel4Ideal.Facts] [hReference4Ideal : Cert.Reference4Ideal.Facts] [hPre_finite_gates : Cert.Pre_finite_gates.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gates m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v17) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_forget_sample [hKernel6Ideal : Cert.Kernel6Ideal.Facts] [hReference6Ideal : Cert.Reference6Ideal.Facts] [hPre_finite_forget_sample : Cert.Pre_finite_forget_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_forget_sample m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)) (v3 : (c : Dev Cert.Kernel6Ideal.nD) → Buf (Elt Ideal) ((c.tc : Thread Cert.Kernel6Ideal.nD Cert.Kernel6Ideal.τ).loc Cert.Kernel6Ideal.main_v20_3)) (v4 : (c : Dev Cert.Kernel6Ideal.nD) → Buf (Elt Ideal) ((c.tc : Thread Cert.Kernel6Ideal.nD Cert.Kernel6Ideal.τ).loc Cert.Kernel6Ideal.main_v20_4)) (v5 : (c : Dev Cert.Kernel6Ideal.nD) → Buf (Elt Ideal) ((c.tc : Thread Cert.Kernel6Ideal.nD Cert.Kernel6Ideal.τ).loc Cert.Kernel6Ideal.main_v20_5)) (v6 : (c : Dev Cert.Kernel6Ideal.nD) → Buf (Elt Ideal) ((c.tc : Thread Cert.Kernel6Ideal.nD Cert.Kernel6Ideal.τ).loc Cert.Kernel6Ideal.main_v20_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_v20_3) = v3 c
          ∧ r.2.mem ((c.tc : Thread Cert.Kernel6Ideal.nD Cert.Kernel6Ideal.τ).loc Cert.Kernel6Ideal.main_v20_4) = v4 c
          ∧ r.2.mem ((c.tc : Thread Cert.Kernel6Ideal.nD Cert.Kernel6Ideal.τ).loc Cert.Kernel6Ideal.main_v20_5) = v5 c
          ∧ r.2.mem ((c.tc : Thread Cert.Kernel6Ideal.nD Cert.Kernel6Ideal.τ).loc Cert.Kernel6Ideal.main_v20_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_v69) = v3 c
          ∧ r.2.mem ((c.tc : Thread Cert.Reference6Ideal.nD Cert.Reference6Ideal.τ).loc Cert.Reference6Ideal.main_v70) = v4 c
          ∧ r.2.mem ((c.tc : Thread Cert.Reference6Ideal.nD Cert.Reference6Ideal.τ).loc Cert.Reference6Ideal.main_v71) = v5 c
          ∧ r.2.mem ((c.tc : Thread Cert.Reference6Ideal.nD Cert.Reference6Ideal.τ).loc Cert.Reference6Ideal.main_v51) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)) (v3 : (c : Dev Cert.Kernel7Ideal.nD) → Buf (Elt Ideal) ((c.tc : Thread Cert.Kernel7Ideal.nD Cert.Kernel7Ideal.τ).loc Cert.Kernel7Ideal.main_v11_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_v11_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v128) = v0 c
          ∧ r.2.mem ((c.tc : Thread Cert.Reference7Ideal.nD Cert.Reference7Ideal.τ).loc Cert.Reference7Ideal.main_v124) = v1 c
          ∧ r.2.mem ((c.tc : Thread Cert.Reference7Ideal.nD Cert.Reference7Ideal.τ).loc Cert.Reference7Ideal.main_v125) = v2 c
          ∧ r.2.mem ((c.tc : Thread Cert.Reference7Ideal.nD Cert.Reference7Ideal.τ).loc Cert.Reference7Ideal.main_v127) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_logits : Cert.Pre_finite_logits.Facts) (hPre_finite_forget : Cert.Pre_finite_forget.Facts) (hPre_finite_gates : Cert.Pre_finite_gates.Facts) (hPre_finite_forget_sample : Cert.Pre_finite_forget_sample.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_forget (hKernel3Ideal := hKernel3Ideal) (hPre_finite_forget := hPre_finite_forget)
    ∧ quiescent_Reference3Ideal (hReference3Ideal := hReference3Ideal)
    ∧ quiescent_Reference3Ideal_pre_finite_forget (hReference3Ideal := hReference3Ideal) (hPre_finite_forget := hPre_finite_forget)
    ∧ quiescent_Kernel4 (hKernel4 := hKernel4)
    ∧ quiescent_Kernel4Ideal (hKernel4Ideal := hKernel4Ideal)
    ∧ quiescent_Kernel4Ideal_pre_finite_gates (hKernel4Ideal := hKernel4Ideal) (hPre_finite_gates := hPre_finite_gates)
    ∧ quiescent_Reference4Ideal (hReference4Ideal := hReference4Ideal)
    ∧ quiescent_Reference4Ideal_pre_finite_gates (hReference4Ideal := hReference4Ideal) (hPre_finite_gates := hPre_finite_gates)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_forget_sample (hKernel6Ideal := hKernel6Ideal) (hPre_finite_forget_sample := hPre_finite_forget_sample)
    ∧ quiescent_Reference6Ideal (hReference6Ideal := hReference6Ideal)
    ∧ quiescent_Reference6Ideal_pre_finite_forget_sample (hReference6Ideal := hReference6Ideal) (hPre_finite_forget_sample := hPre_finite_forget_sample)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_forget (hKernel3Ideal := hKernel3Ideal) (hReference3Ideal := hReference3Ideal) (hPre_finite_forget := hPre_finite_forget)
    ∧ preserves_Kernel4_Kernel4Ideal
    ∧ algebraic_Kernel4Ideal_Reference4Ideal_pre_finite_gates (hKernel4Ideal := hKernel4Ideal) (hReference4Ideal := hReference4Ideal) (hPre_finite_gates := hPre_finite_gates)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_forget_sample (hKernel6Ideal := hKernel6Ideal) (hReference6Ideal := hReference6Ideal) (hPre_finite_forget_sample := hPre_finite_forget_sample)
    ∧ preserves_Kernel7_Kernel7Ideal
    ∧ algebraic_Kernel7Ideal_Reference7Ideal (hKernel7Ideal := hKernel7Ideal) (hReference7Ideal := hReference7Ideal)
-- ==== Pre_finite_forget.lean ====
abbrev S16384x1024 : Shape := ⟨2, ![16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S_ : Shape := ⟨0, ![]⟩
abbrev S1024x16 : Shape := ⟨2, ![1024, 16]⟩

class Facts : Prop where
  bcast_S_S1024 : S_.BroadcastsInDim S1024 (![] : Fin 0 → Fin S1024.rank)
  reducesTo_S1024_S_d0 : S1024.ReducesTo [0] S_
  h_S_ : 0 < S_.numel
  slices_S1024x2064_S1024x16_0_2048 : S1024x2064.Slices ![0, 2048] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x1024 .f32) (main_arg1 : FVec F S1024 .f32) (main_arg2 : FVec F S1024 .f32) (main_arg3 : FVec F S1024x2064 .f32) (main_arg4 : FVec F S16 .f32) (main_arg5 : FVec F S64 .f32) (main_arg6 : FVec F S1024x2048 .f32) (main_arg7 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := (extractStridedSlice S1024x16 ![0, 2048] · slices_S1024x2064_S1024x16_0_2048) main_arg3
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Pre_finite_forget_sample.lean ====
abbrev S512x1024 : Shape := ⟨2, ![512, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S_ : Shape := ⟨0, ![]⟩
abbrev S1024x16 : Shape := ⟨2, ![1024, 16]⟩

class Facts : Prop where
  bcast_S_S1024 : S_.BroadcastsInDim S1024 (![] : Fin 0 → Fin S1024.rank)
  reducesTo_S1024_S_d0 : S1024.ReducesTo [0] S_
  h_S_ : 0 < S_.numel
  slices_S1024x2064_S1024x16_0_2048 : S1024x2064.Slices ![0, 2048] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S512x1024 .f32) (main_arg1 : FVec F S1024 .f32) (main_arg2 : FVec F S1024 .f32) (main_arg3 : FVec F S1024x2064 .f32) (main_arg4 : FVec F S16 .f32) (main_arg5 : FVec F S64 .f32) (main_arg6 : FVec F S1024x2048 .f32) (main_arg7 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := (extractStridedSlice S1024x16 ![0, 2048] · slices_S1024x2064_S1024x16_0_2048) main_arg3
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Pre_finite_gates.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S1024x16 : Shape := ⟨2, ![1024, 16]⟩

class Facts : Prop where
  bcast_S_S1024 : S_.BroadcastsInDim S1024 (![] : Fin 0 → Fin S1024.rank)
  reducesTo_S1024_S_d0 : S1024.ReducesTo [0] S_
  h_S_ : 0 < S_.numel
  slices_S1024x3088_S1024x16_0_3072 : S1024x3088.Slices ![0, 3072] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x1024 .f32) (main_arg1 : FVec F S1024 .f32) (main_arg2 : FVec F S1024x3088 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := (extractStridedSlice S1024x16 ![0, 3072] · slices_S1024x3088_S1024x16_0_3072) main_arg2
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Pre_finite_logits.lean ====
abbrev S32x16x1024 : Shape := ⟨3, ![32, 16, 1024]⟩
abbrev S32x4096x16x64 : Shape := ⟨4, ![32, 4096, 16, 64]⟩
abbrev S32x4096x16 : Shape := ⟨3, ![32, 4096, 16]⟩
abbrev S32x16x16 : Shape := ⟨3, ![32, 16, 16]⟩
abbrev S_ : Shape := ⟨0, ![]⟩

class Facts : Prop where
  bitsLt_bf16_f32 : FTy.bits .bf16 < FTy.bits .f32
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S32x4096x16x64 : S_.BroadcastsInDim S32x4096x16x64 (![] : Fin 0 → Fin S32x4096x16x64.rank)
  reducesTo_S32x4096x16x64_S_d0_1_2_3 : S32x4096x16x64.ReducesTo [0, 1, 2, 3] S_
  bcast_S_S32x4096x16 : S_.BroadcastsInDim S32x4096x16 (![] : Fin 0 → Fin S32x4096x16.rank)
  reducesTo_S32x4096x16_S_d0_1_2 : S32x4096x16.ReducesTo [0, 1, 2] S_
  bcast_S_S32x16x16 : S_.BroadcastsInDim S32x16x16 (![] : Fin 0 → Fin S32x16x16.rank)
  reducesTo_S32x16x16_S_d0_1_2 : S32x16x16.ReducesTo [0, 1, 2] S_

variable [Facts]

def fn_part1 {F : FTy → Type} [FloatOps F] (main_arg6 : FVec F S32x16x16 .f32) (main_v14 : IVec S_ 1) (main_v16 : FVec F S32x16x1024 .f32) (main_cst_4 : FVec F S_ .f32) : IVec S_ 1 :=
  let main_v17 : FVec F S32x16x1024 .f32 := broadcastInDim S32x16x1024 ![] bcast_S_S32x16x1024 main_cst_4
  let main_v18 : IVec S32x16x1024 1 := cmpf .olt main_v16 main_v17
  let main_c_5 : IVec S_ 1 := constantI S_ 1 1#1
  let main_v19 : IVec S_ 1 := (fun x v => Host.reduce IntOp.andi x v reducesTo_S32x16x1024_S_d0_1_2 h_S_) main_v18 main_c_5
  let main_v20 : IVec S_ 1 := andi main_v14 main_v19
  let main_v21 : FVec F S32x16x16 .f32 := Host.absf main_arg6
  let main_cst_6 : FVec F S_ .f32 := constant S_ .f32 0x7F800000#32
  let main_v22 : FVec F S32x16x16 .f32 := broadcastInDim S32x16x16 ![] bcast_S_S32x16x16 main_cst_6
  let main_v23 : IVec S32x16x16 1 := cmpf .olt main_v21 main_v22
  let main_c_7 : IVec S_ 1 := constantI S_ 1 1#1
  let main_v24 : IVec S_ 1 := (fun x v => Host.reduce IntOp.andi x v reducesTo_S32x16x16_S_d0_1_2 h_S_) main_v23 main_c_7
  let main_v25 : IVec S_ 1 := andi main_v20 main_v24
  main_v25

def fn {F : FTy → Type} [FloatOps F] (main_arg0 : FVec F S32x16x1024 .bf16) (main_arg1 : FVec F S32x4096x16x64 .f32) (main_arg2 : FVec F S32x4096x16x64 .f32) (main_arg3 : FVec F S32x4096x16 .f32) (main_arg4 : FVec F S32x16x1024 .bf16) (main_arg5 : FVec F S32x16x1024 .bf16) (main_arg6 : FVec F S32x16x16 .f32) (main_arg7 : FVec F S32x16x1024 .f32) : IVec S_ 1 :=
  let main_v0 : FVec F S32x16x1024 .f32 := (extf .f32 · bitsLt_bf16_f32) main_arg0
  let main_v1 : FVec F S32x16x1024 .f32 := Host.absf main_v0
  let main_cst : FVec F S_ .f32 := constant S_ .f32 0x7F800000#32
  let main_v2 : FVec F S32x16x1024 .f32 := broadcastInDim S32x16x1024 ![] bcast_S_S32x16x1024 main_cst
  let main_v3 : IVec S32x16x1024 1 := cmpf .olt main_v1 main_v2
  let main_c : IVec S_ 1 := constantI S_ 1 1#1
  let main_v4 : IVec S_ 1 := (fun x v => Host.reduce IntOp.andi x v reducesTo_S32x16x1024_S_d0_1_2 h_S_) main_v3 main_c
  let main_v5 : FVec F S32x4096x16x64 .f32 := Host.absf main_arg1
  let main_cst_0 : FVec F S_ .f32 := constant S_ .f32 0x7F800000#32
  let main_v6 : FVec F S32x4096x16x64 .f32 := broadcastInDim S32x4096x16x64 ![] bcast_S_S32x4096x16x64 main_cst_0
  let main_v7 : IVec S32x4096x16x64 1 := cmpf .olt main_v5 main_v6
  let main_c_1 : IVec S_ 1 := constantI S_ 1 1#1
  let main_v8 : IVec S_ 1 := (fun x v => Host.reduce IntOp.andi x v reducesTo_S32x4096x16x64_S_d0_1_2_3 h_S_) main_v7 main_c_1
  let main_v9 : IVec S_ 1 := andi main_v4 main_v8
  let main_v10 : FVec F S32x4096x16 .f32 := Host.absf main_arg3
  let main_cst_2 : FVec F S_ .f32 := constant S_ .f32 0x7F800000#32
  let main_v11 : FVec F S32x4096x16 .f32 := broadcastInDim S32x4096x16 ![] bcast_S_S32x4096x16 main_cst_2
  let main_v12 : IVec S32x4096x16 1 := cmpf .olt main_v10 main_v11
  let main_c_3 : IVec S_ 1 := constantI S_ 1 1#1
  let main_v13 : IVec S_ 1 := (fun x v => Host.reduce IntOp.andi x v reducesTo_S32x4096x16_S_d0_1_2 h_S_) main_v12 main_c_3
  let main_v14 : IVec S_ 1 := andi main_v9 main_v13
  let main_v15 : FVec F S32x16x1024 .f32 := (extf .f32 · bitsLt_bf16_f32) main_arg4
  let main_v16 : FVec F S32x16x1024 .f32 := Host.absf main_v15
  let main_cst_4 : FVec F S_ .f32 := constant S_ .f32 0x7F800000#32
  fn_part1 (F := F) main_arg6 main_v14 main_v16 main_cst_4
-- ==== Kernel.lean ====
abbrev S32x16x1024 : Shape := ⟨3, ![32, 16, 1024]⟩
abbrev S32x4096x16x64 : Shape := ⟨4, ![32, 4096, 16, 64]⟩
abbrev S32x4096x16 : Shape := ⟨3, ![32, 4096, 16]⟩
abbrev S32x16x16 : Shape := ⟨3, ![32, 16, 16]⟩
abbrev S32x4096x1024 : Shape := ⟨3, ![32, 4096, 1024]⟩
abbrev S32x16x4096 : Shape := ⟨3, ![32, 16, 4096]⟩
abbrev S1x16x1024 : Shape := ⟨3, ![1, 16, 1024]⟩
abbrev S1x512x1024 : Shape := ⟨3, ![1, 512, 1024]⟩
abbrev S1x16x512 : Shape := ⟨3, ![1, 16, 512]⟩
abbrev S1x16x16 : Shape := ⟨3, ![1, 16, 16]⟩
abbrev S16x16x1 : Shape := ⟨3, ![16, 16, 1]⟩
abbrev S16x16x128 : Shape := ⟨3, ![16, 16, 128]⟩
abbrev S1x128 : Shape := ⟨2, ![1, 128]⟩
abbrev S1x16x128 : Shape := ⟨3, ![1, 16, 128]⟩
abbrev S16x128 : Shape := ⟨2, ![16, 128]⟩
abbrev S1x512x128 : Shape := ⟨3, ![1, 512, 128]⟩
abbrev S512x128 : Shape := ⟨2, ![512, 128]⟩
abbrev S1x1x512 : Shape := ⟨3, ![1, 1, 512]⟩
abbrev S1x512 : Shape := ⟨2, ![1, 512]⟩
abbrev S16x512 : Shape := ⟨2, ![16, 512]⟩
abbrev S1x16x1 : Shape := ⟨3, ![1, 16, 1]⟩
abbrev S16x1 : Shape := ⟨2, ![16, 1]⟩
abbrev S16 : Shape := ⟨1, ![16]⟩
abbrev S16x16 : Shape := ⟨2, ![16, 16]⟩
abbrev S1x1x16 : Shape := ⟨3, ![1, 1, 16]⟩
abbrev S1x16 : Shape := ⟨2, ![1, 16]⟩

abbrev nBuf : Space → Nat
  | .hbm => 13
  | .vmem => 21
  | .smem => 0
  | _ => 0

abbrev bufTy : (tb : Table) → Fin (tcTables nBuf tb) → BufTy
  | .hbm, ⟨0, _⟩ => ⟨S32x16x1024, .bf16⟩
  | .hbm, ⟨1, _⟩ => ⟨S32x4096x16x64, .f32⟩
  | .hbm, ⟨2, _⟩ => ⟨S32x4096x16x64, .f32⟩
  | .hbm, ⟨3, _⟩ => ⟨S32x4096x16, .f32⟩
  | .hbm, ⟨4, _⟩ => ⟨S32x16x1024, .bf16⟩
  | .hbm, ⟨5, _⟩ => ⟨S32x16x1024, .bf16⟩
  | .hbm, ⟨6, _⟩ => ⟨S32x16x16, .f32⟩
  | .hbm, ⟨7, _⟩ => ⟨S32x16x1024, .f32⟩
  | .hbm, ⟨8, _⟩ => ⟨S32x4096x1024, .f32⟩
  | .hbm, ⟨9, _⟩ => ⟨S32x4096x1024, .f32⟩
  | .hbm, ⟨10, _⟩ => ⟨S32x16x4096, .f32⟩
  | .hbm, ⟨11, _⟩ => ⟨S32x16x16, .f32⟩
  | .hbm, ⟨12, _⟩ => ⟨S32x16x1024, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x16x512, .f32⟩
  | .local _ .vmem, ⟨7, _⟩ => ⟨S1x16x512, .f32⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x16, .f32⟩
  | .local _ .vmem, ⟨13, _⟩ => ⟨S1x16x16, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .bf16⟩
  | .local _ .vmem, ⟨17, _⟩ => ⟨S1x16x1024, .bf16⟩
  | .local _ .vmem, ⟨18, _⟩ => ⟨S16x16x1, .f32⟩
  | .local _ .vmem, ⟨19, _⟩ => ⟨S16x16x1, .f32⟩
  | .local _ .vmem, ⟨20, _⟩ => ⟨S16x16x128, .f32⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v734 : BitVec 1 := Scalar.cmpi .eq arg1 c7_i32
  let v735 : BitVec 32 := Scalar.extui v734
  let c0_i32_473 : BitVec 32 := 0#32
  let v736 : BitVec 1 := Scalar.cmpi .ne v735 c0_i32_473
  v736

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32x16x1024 : Shape := ⟨3, ![32, 16, 1024]⟩
abbrev S32x4096x16x64 : Shape := ⟨4, ![32, 4096, 16, 64]⟩
abbrev S32x4096x16 : Shape := ⟨3, ![32, 4096, 16]⟩
abbrev S32x16x16 : Shape := ⟨3, ![32, 16, 16]⟩
abbrev S32x16x16x64 : Shape := ⟨4, ![32, 16, 16, 64]⟩
abbrev S32x4112x16x64 : Shape := ⟨4, ![32, 4112, 16, 64]⟩
abbrev S32x4112x16 : Shape := ⟨3, ![32, 4112, 16]⟩
abbrev S32x16x16x4112 : Shape := ⟨4, ![32, 16, 16, 4112]⟩
abbrev S32x16x16x1 : Shape := ⟨4, ![32, 16, 16, 1]⟩
abbrev S32x16x4112 : Shape := ⟨3, ![32, 16, 4112]⟩
abbrev S32x16x1x4112 : Shape := ⟨4, ![32, 16, 1, 4112]⟩
abbrev S16 : Shape := ⟨1, ![16]⟩
abbrev S_ : Shape := ⟨0, ![]⟩
abbrev S16x1 : Shape := ⟨2, ![16, 1]⟩
abbrev S4112 : Shape := ⟨1, ![4112]⟩
abbrev S1x4112 : Shape := ⟨2, ![1, 4112]⟩
abbrev S16x4112 : Shape := ⟨2, ![16, 4112]⟩
abbrev S32x16x64x16 : Shape := ⟨4, ![32, 16, 64, 16]⟩

abbrev nBuf : Space → Nat
  | .hbm => 68
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S32x4096x16x64, .f32⟩
  | .hbm, ⟨2, _⟩ => ⟨S32x4096x16x64, .f32⟩
  | .hbm, ⟨3, _⟩ => ⟨S32x4096x16, .f32⟩
  | .hbm, ⟨4, _⟩ => ⟨S32x16x1024, .bf16⟩
  | .hbm, ⟨5, _⟩ => ⟨S32x16x1024, .bf16⟩
  | .hbm, ⟨6, _⟩ => ⟨S32x16x16, .f32⟩
  | .hbm, ⟨7, _⟩ => ⟨S32x16x1024, .f32⟩
  | .hbm, ⟨8, _⟩ => ⟨S32x16x1024, .f32⟩
  | .hbm, ⟨9, _⟩ => ⟨S32x16x16x64, .f32⟩
  | .hbm, ⟨10, _⟩ => ⟨S32x16x1024, .f32⟩
  | .hbm, ⟨11, _⟩ => ⟨S32x16x16x64, .f32⟩
  | .hbm, ⟨12, _⟩ => ⟨S32x16x1024, .f32⟩
  | .hbm, ⟨13, _⟩ => ⟨S32x16x16x64, .f32⟩
  | .hbm, ⟨14, _⟩ => ⟨S32x4112x16x64, .f32⟩
  | .hbm, ⟨15, _⟩ => ⟨S32x4112x16x64, .f32⟩
  | .hbm, ⟨16, _⟩ => ⟨S32x4112x16, .f32⟩
  | .hbm, ⟨17, _⟩ => ⟨S32x16x16x4112, .f32⟩
  | .hbm, ⟨18, _⟩ => ⟨S32x16x16, .f32⟩
  | .hbm, ⟨19, _⟩ => ⟨S32x16x16x1, .f32⟩
  | .hbm, ⟨20, _⟩ => ⟨S32x16x16x4112, .f32⟩
  | .hbm, ⟨21, _⟩ => ⟨S32x16x16x4112, .f32⟩
  | .hbm, ⟨22, _⟩ => ⟨S32x16x4112, .f32⟩
  | .hbm, ⟨23, _⟩ => ⟨S32x16x1x4112, .f32⟩
  | .hbm, ⟨24, _⟩ => ⟨S32x16x16x4112, .f32⟩
  | .hbm, ⟨25, _⟩ => ⟨S32x16x16x4112, .f32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16x1, .i32⟩
  | .hbm, ⟨31, _⟩ => ⟨S4112, .i32⟩
  | .hbm, ⟨32, _⟩ => ⟨S1x4112, .i32⟩
  | .hbm, ⟨33, _⟩ => ⟨S16x4112, .i32⟩
  | .hbm, ⟨34, _⟩ => ⟨S16x4112, .i32⟩
  | .hbm, ⟨35, _⟩ => ⟨S16x4112, .i1⟩
  | .hbm, ⟨36, _⟩ => ⟨S_, .f32⟩
  | .hbm, ⟨37, _⟩ => ⟨S_, .f32⟩
  | .hbm, ⟨38, _⟩ => ⟨S32x16x16x4112, .i1⟩
  | .hbm, ⟨39, _⟩ => ⟨S32x16x16x4112, .f32⟩
  | .hbm, ⟨40, _⟩ => ⟨S32x16x16x4112, .f32⟩
  | .hbm, ⟨41, _⟩ => ⟨S_, .f32⟩
  | .hbm, ⟨42, _⟩ => ⟨S32x16x16, .f32⟩
  | .hbm, ⟨43, _⟩ => ⟨S_, .f32⟩
  | .hbm, ⟨44, _⟩ => ⟨S32x16x16, .f32⟩
  | .hbm, ⟨45, _⟩ => ⟨S32x16x16, .f32⟩
  | .hbm, ⟨46, _⟩ => ⟨S32x16x16x1, .f32⟩
  | .hbm, ⟨47, _⟩ => ⟨S32x16x16x4112, .f32⟩
  | .hbm, ⟨48, _⟩ => ⟨S32x16x16x4112, .f32⟩
  | .hbm, ⟨49, _⟩ => ⟨S32x16x16x4112, .f32⟩
  | .hbm, ⟨50, _⟩ => ⟨S_, .f32⟩
  | .hbm, ⟨51, _⟩ => ⟨S32x16x16, .f32⟩
  | .hbm, ⟨52, _⟩ => ⟨S32x16x16x1, .f32⟩
  | .hbm, ⟨53, _⟩ => ⟨S32x16x16x4112, .f32⟩
  | .hbm, ⟨54, _⟩ => ⟨S32x16x16x4112, .f32⟩
  | .hbm, ⟨55, _⟩ => ⟨S32x16x64x16, .f32⟩
  | .hbm, ⟨56, _⟩ => ⟨S32x16x16x64, .f32⟩
  | .hbm, ⟨57, _⟩ => ⟨S32x16x1024, .f32⟩
  | .hbm, ⟨58, _⟩ => ⟨S32x16x1024, .f32⟩
  | .hbm, ⟨59, _⟩ => ⟨S32x16x1024, .f32⟩
  | .hbm, ⟨60, _⟩ => ⟨S_, .f32⟩
  | .hbm, ⟨61, _⟩ => ⟨S32x16x1024, .f32⟩
  | .hbm, ⟨62, _⟩ => ⟨S32x16x1024, .f32⟩
  | .hbm, ⟨63, _⟩ => ⟨S_, .f32⟩
  | .hbm, ⟨64, _⟩ => ⟨S32x16x1024, .f32⟩
  | .hbm, ⟨65, _⟩ => ⟨S32x16x1024, .f32⟩
  | .hbm, ⟨66, _⟩ => ⟨S32x16x1024, .f32⟩
  | .hbm, ⟨67, _⟩ => ⟨S32x16x1024, .bf16⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S1024x2816, .bf16⟩
  | .hbm, ⟨8, _⟩ => ⟨S1024x11x256, .bf16⟩
  | .hbm, ⟨9, _⟩ => ⟨S11x1024x256, .bf16⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S2816x1024, .bf16⟩
  | .hbm, ⟨14, _⟩ => ⟨S11x256x1024, .bf16⟩
  | .hbm, ⟨15, _⟩ => ⟨S1024x1024, .bf16⟩
  | .hbm, ⟨16, _⟩ => ⟨S1x1024, .f32⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S11x1024x256, .bf16⟩
  | .local _ .vmem, ⟨7, _⟩ => ⟨S11x1024x256, .bf16⟩
  | .local _ .vmem, ⟨8, _⟩ => ⟨S11x256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v27 : BitVec 32 := Scalar.addi c0_i32 c11_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v31 : Index := Scalar.indexCast arg11
  let c0_21 : Index := 0#32
  let c0_22 : Index := 0#32
  ![v31.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v50 : Index := Scalar.indexCast arg11
  let c0_32 : Index := 0#32
  let c0_33 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S1024x2816, .bf16⟩
  | .hbm, ⟨8, _⟩ => ⟨S1024x11x256, .bf16⟩
  | .hbm, ⟨9, _⟩ => ⟨S11x1024x256, .bf16⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S2816x1024, .bf16⟩
  | .hbm, ⟨14, _⟩ => ⟨S11x256x1024, .bf16⟩
  | .hbm, ⟨15, _⟩ => ⟨S1024x1024, .bf16⟩
  | .hbm, ⟨16, _⟩ => ⟨S1x1024, .f32⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S11x1024x256, .bf16⟩
  | .local _ .vmem, ⟨7, _⟩ => ⟨S11x1024x256, .bf16⟩
  | .local _ .vmem, ⟨8, _⟩ => ⟨S11x256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v27 : BitVec 32 := Scalar.addi c0_i32 c11_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v31 : Index := Scalar.indexCast arg11
  let c0_21 : Index := 0#32
  let c0_22 : Index := 0#32
  ![v31.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v50 : Index := Scalar.indexCast arg11
  let c0_32 : Index := 0#32
  let c0_33 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1x16 : Shape := ⟨2, ![1, 16]⟩
abbrev S1x64 : Shape := ⟨2, ![1, 64]⟩
abbrev S16x64 : Shape := ⟨2, ![16, 64]⟩
abbrev S16384x16 : Shape := ⟨2, ![16384, 16]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S1024x256 : Shape := ⟨2, ![1024, 256]⟩
abbrev S512x256 : Shape := ⟨2, ![512, 256]⟩
abbrev S1024x1024 : Shape := ⟨2, ![1024, 1024]⟩

abbrev nBuf : Space → Nat
  | .hbm => 37
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2064, .f32⟩
  | .hbm, ⟨4, _⟩ => ⟨S16, .f32⟩
  | .hbm, ⟨5, _⟩ => ⟨S64, .f32⟩
  | .hbm, ⟨6, _⟩ => ⟨S1024x2048, .f32⟩
  | .hbm, ⟨7, _⟩ => ⟨S64, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1x1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S1024x2048, .bf16⟩
  | .hbm, ⟨21, _⟩ => ⟨S1x16, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x16, .f32⟩
  | .hbm, ⟨33, _⟩ => ⟨S16384x1024, .bf16⟩
  | .hbm, ⟨34, _⟩ => ⟨S16384x1024, .bf16⟩
  | .hbm, ⟨35, _⟩ => ⟨S16384x1024, .bf16⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x128, .bf16⟩
  | .local _ .vmem, ⟨6, _⟩ => ⟨S1024x128, .bf16⟩
  | .local _ .vmem, ⟨7, _⟩ => ⟨S1024x2048, .bf16⟩
  | .local _ .vmem, ⟨8, _⟩ => ⟨S1x16, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x16, .f32⟩
  | .local _ .vmem, ⟨16, _⟩ => ⟨S512x16, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
abbrev S16384x1024 : Shape := ⟨2, ![16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1x16 : Shape := ⟨2, ![1, 16]⟩
abbrev S1x64 : Shape := ⟨2, ![1, 64]⟩
abbrev S16x64 : Shape := ⟨2, ![16, 64]⟩
abbrev S16384x16 : Shape := ⟨2, ![16384, 16]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S1024x256 : Shape := ⟨2, ![1024, 256]⟩
abbrev S512x256 : Shape := ⟨2, ![512, 256]⟩
abbrev S1024x1024 : Shape := ⟨2, ![1024, 1024]⟩

abbrev nBuf : Space → Nat
  | .hbm => 37
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2064, .f32⟩
  | .hbm, ⟨4, _⟩ => ⟨S16, .f32⟩
  | .hbm, ⟨5, _⟩ => ⟨S64, .f32⟩
  | .hbm, ⟨6, _⟩ => ⟨S1024x2048, .f32⟩
  | .hbm, ⟨7, _⟩ => ⟨S64, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1x1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S1024x2048, .bf16⟩
  | .hbm, ⟨21, _⟩ => ⟨S1x16, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x16, .f32⟩
  | .hbm, ⟨33, _⟩ => ⟨S16384x1024, .bf16⟩
  | .hbm, ⟨34, _⟩ => ⟨S16384x1024, .bf16⟩
  | .hbm, ⟨35, _⟩ => ⟨S16384x1024, .bf16⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x128, .bf16⟩
  | .local _ .vmem, ⟨6, _⟩ => ⟨S1024x128, .bf16⟩
  | .local _ .vmem, ⟨7, _⟩ => ⟨S1024x2048, .bf16⟩
  | .local _ .vmem, ⟨8, _⟩ => ⟨S1x16, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x16, .f32⟩
  | .local _ .vmem, ⟨16, _⟩ => ⟨S512x16, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2064 : Shape := ⟨2, ![16384, 2064]⟩
abbrev S16384x16 : Shape := ⟨2, ![16384, 16]⟩
abbrev S16384x16x64 : Shape := ⟨3, ![16384, 16, 64]⟩
abbrev S16384x16x1 : Shape := ⟨3, ![16384, 16, 1]⟩
abbrev S1x1x64 : Shape := ⟨3, ![1, 1, 64]⟩
abbrev S1x16 : Shape := ⟨2, ![1, 16]⟩
abbrev S16384x2048 : Shape := ⟨2, ![16384, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2064, .f32⟩
  | .hbm, ⟨4, _⟩ => ⟨S16, .f32⟩
  | .hbm, ⟨5, _⟩ => ⟨S64, .f32⟩
  | .hbm, ⟨6, _⟩ => ⟨S1024x2048, .f32⟩
  | .hbm, ⟨7, _⟩ => ⟨S64, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2064, .f32⟩
  | .hbm, ⟨25, _⟩ => ⟨S16384x1024, .f32⟩
  | .hbm, ⟨26, _⟩ => ⟨S16384x1024, .f32⟩
  | .hbm, ⟨27, _⟩ => ⟨S16384x16, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S16384x16, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S_, .f32⟩
  | .hbm, ⟨37, _⟩ => ⟨S16384x16x1, .f32⟩
  | .hbm, ⟨38, _⟩ => ⟨S16384x16x1, .f32⟩
  | .hbm, ⟨39, _⟩ => ⟨S16384x16x1, .f32⟩
  | .hbm, ⟨40, _⟩ => ⟨S16384x16x64, .f32⟩
  | .hbm, ⟨41, _⟩ => ⟨S16384x16x64, .f32⟩
  | .hbm, ⟨42, _⟩ => ⟨S1x1x64, .f32⟩
  | .hbm, ⟨43, _⟩ => ⟨S16384x16x64, .f32⟩
  | .hbm, ⟨44, _⟩ => ⟨S16384x16x64, .f32⟩
  | .hbm, ⟨45, _⟩ => ⟨S16384x1024, .f32⟩
  | .hbm, ⟨46, _⟩ => ⟨S1x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S16384x16, .f32⟩
  | .hbm, ⟨55, _⟩ => ⟨S16384x16, .i1⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x2048, .f32⟩
  | .hbm, ⟨82, _⟩ => ⟨S16384x1024, .f32⟩
  | .hbm, ⟨83, _⟩ => ⟨S16384x1024, .f32⟩
  | .hbm, ⟨84, _⟩ => ⟨S16384x16x64, .f32⟩
  | .hbm, ⟨85, _⟩ => ⟨S16384x16x64, .f32⟩
  | .hbm, ⟨86, _⟩ => ⟨S_, .f32⟩
  | .hbm, ⟨87, _⟩ => ⟨S16384x16, .f32⟩
  | .hbm, ⟨88, _⟩ => ⟨S16384x16x1, .f32⟩
  | .hbm, ⟨89, _⟩ => ⟨S_, .f32⟩
  | .hbm, ⟨90, _⟩ => ⟨S16384x16x1, .f32⟩
  | .hbm, ⟨91, _⟩ => ⟨S16384x16x1, .f32⟩
  | .hbm, ⟨92, _⟩ => ⟨S_, .f32⟩
  | .hbm, ⟨93, _⟩ => ⟨S16384x16x1, .f32⟩
  | .hbm, ⟨94, _⟩ => ⟨S16384x16x1, .f32⟩
  | .hbm, ⟨95, _⟩ => ⟨S16384x16x1, .f32⟩
  | .hbm, ⟨96, _⟩ => ⟨S16384x16x64, .f32⟩
  | .hbm, ⟨97, _⟩ => ⟨S16384x16x64, .f32⟩
  | .hbm, ⟨98, _⟩ => ⟨S1x1x64, .f32⟩
  | .hbm, ⟨99, _⟩ => ⟨S16384x16x64, .f32⟩
  | .hbm, ⟨100, _⟩ => ⟨S16384x16x64, .f32⟩
  | .hbm, ⟨101, _⟩ => ⟨S16384x1024, .f32⟩
  | .hbm, ⟨102, _⟩ => ⟨S_, .f32⟩
  | .hbm, ⟨103, _⟩ => ⟨S16384x1024, .f32⟩
  | .hbm, ⟨104, _⟩ => ⟨S16384x1024, .f32⟩
  | .hbm, ⟨105, _⟩ => ⟨S16384x1024, .bf16⟩
  | .hbm, ⟨106, _⟩ => ⟨S16384x1024, .bf16⟩
  | .hbm, ⟨107, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x3072 : Shape := ⟨2, ![1024, 3072]⟩
abbrev S16384x512 : Shape := ⟨2, ![16384, 512]⟩
abbrev S16384x16 : Shape := ⟨2, ![16384, 16]⟩
abbrev S512x1024 : Shape := ⟨2, ![512, 1024]⟩
abbrev S512x512 : Shape := ⟨2, ![512, 512]⟩
abbrev S512x16 : Shape := ⟨2, ![512, 16]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S512x128 : Shape := ⟨2, ![512, 128]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S1024x16, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1024x128, .f32⟩
  | .hbm, ⟨10, _⟩ => ⟨S1024x128, .bf16⟩
  | .hbm, ⟨11, _⟩ => ⟨S1x1024, .f32⟩
  | .hbm, ⟨12, _⟩ => ⟨S1024x3072, .f32⟩
  | .hbm, ⟨13, _⟩ => ⟨S1024x3072, .bf16⟩
  | .hbm, ⟨14, _⟩ => ⟨S16384x512, .bf16⟩
  | .hbm, ⟨15, _⟩ => ⟨S16384x512, .bf16⟩
  | .hbm, ⟨16, _⟩ => ⟨S16384x1024, .bf16⟩
  | .hbm, ⟨17, _⟩ => ⟨S16384x1024, .f32⟩
  | .hbm, ⟨18, _⟩ => ⟨S16384x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1024x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x16, .f32⟩
  | .local _ .vmem, ⟨15, _⟩ => ⟨S512x16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x512 : Shape := ⟨2, ![16384, 512]⟩
abbrev S16384x16 : Shape := ⟨2, ![16384, 16]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3088, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S16384x1024, .f32⟩
  | .hbm, ⟨24, _⟩ => ⟨S16384x16, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x512, .bf16⟩
  | .hbm, ⟨30, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 10
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S1024x2816, .bf16⟩
  | .hbm, ⟨8, _⟩ => ⟨S1024x11x256, .bf16⟩
  | .hbm, ⟨9, _⟩ => ⟨S11x1024x256, .bf16⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S2816x1024, .bf16⟩
  | .hbm, ⟨14, _⟩ => ⟨S11x256x1024, .bf16⟩
  | .hbm, ⟨15, _⟩ => ⟨S1024x1024, .bf16⟩
  | .hbm, ⟨16, _⟩ => ⟨S1x1024, .f32⟩
  | .hbm, ⟨17, _⟩ => ⟨S512x1024, .f32⟩
  | .local _ .vmem, ⟨0, _⟩ => ⟨S512x1024, .bf16⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S11x256x1024, .bf16⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v27 : BitVec 32 := Scalar.addi c0_i32 c11_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v31 : Index := Scalar.indexCast arg11
  let c0_21 : Index := 0#32
  let c0_22 : Index := 0#32
  ![v31.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v50 : Index := Scalar.indexCast arg11
  let c0_32 : Index := 0#32
  let c0_33 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference5Ideal.lean ====
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1024, .f32⟩
  | .hbm, ⟨21, _⟩ => ⟨S512x1024, .f32⟩
  | .hbm, ⟨22, _⟩ => ⟨S1x1024, .f32⟩
  | .hbm, ⟨23, _⟩ => ⟨S512x1024, .f32⟩
  | .hbm, ⟨24, _⟩ => ⟨S512x1024, .f32⟩
  | .hbm, ⟨25, _⟩ => ⟨S512x5632, .f32⟩
  | .hbm, ⟨26, _⟩ => ⟨S512x2816, .f32⟩
  | .hbm, ⟨27, _⟩ => ⟨S512x2816, .f32⟩
  | .hbm, ⟨28, _⟩ => ⟨S512x2816, .f32⟩
  | .hbm, ⟨29, _⟩ => ⟨S512x2816, .f32⟩
  | .hbm, ⟨30, _⟩ => ⟨S_, .f32⟩
  | .hbm, ⟨31, _⟩ => ⟨S512x2816, .f32⟩
  | .hbm, ⟨32, _⟩ => ⟨S512x2816, .f32⟩
  | .hbm, ⟨33, _⟩ => ⟨S_, .f32⟩
  | .hbm, ⟨34, _⟩ => ⟨S512x2816, .f32⟩
  | .hbm, ⟨35, _⟩ => ⟨S512x2816, .f32⟩
  | .hbm, ⟨36, _⟩ => ⟨S512x2816, .f32⟩
  | .hbm, ⟨37, _⟩ => ⟨S512x2816, .f32⟩
  | .hbm, ⟨38, _⟩ => ⟨S512x1024, .f32⟩
  | .hbm, ⟨39, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel6.lean ====
abbrev S512x1024 : Shape := ⟨2, ![512, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1x16 : Shape := ⟨2, ![1, 16]⟩
abbrev S1x64 : Shape := ⟨2, ![1, 64]⟩
abbrev S16x64 : Shape := ⟨2, ![16, 64]⟩
abbrev S512x16 : Shape := ⟨2, ![512, 16]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S1024x256 : Shape := ⟨2, ![1024, 256]⟩
abbrev S512x256 : Shape := ⟨2, ![512, 256]⟩
abbrev S1024x1024 : Shape := ⟨2, ![1024, 1024]⟩

abbrev nBuf : Space → Nat
  | .hbm => 37
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2064, .f32⟩
  | .hbm, ⟨4, _⟩ => ⟨S16, .f32⟩
  | .hbm, ⟨5, _⟩ => ⟨S64, .f32⟩
  | .hbm, ⟨6, _⟩ => ⟨S1024x2048, .f32⟩
  | .hbm, ⟨7, _⟩ => ⟨S64, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1x1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S1024x2048, .bf16⟩
  | .hbm, ⟨21, _⟩ => ⟨S1x16, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S512x1024, .f32⟩
  | .hbm, ⟨31, _⟩ => ⟨S512x1024, .f32⟩
  | .hbm, ⟨32, _⟩ => ⟨S512x16, .f32⟩
  | .hbm, ⟨33, _⟩ => ⟨S512x1024, .bf16⟩
  | .hbm, ⟨34, _⟩ => ⟨S512x1024, .bf16⟩
  | .hbm, ⟨35, _⟩ => ⟨S512x1024, .bf16⟩
  | .hbm, ⟨36, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x128, .bf16⟩
  | .local _ .vmem, ⟨6, _⟩ => ⟨S1024x2048, .bf16⟩
  | .local _ .vmem, ⟨7, _⟩ => ⟨S1x16, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x16, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference6Ideal.lean ====
abbrev S512x1024 : Shape := ⟨2, ![512, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2064 : Shape := ⟨2, ![512, 2064]⟩
abbrev S512x16 : Shape := ⟨2, ![512, 16]⟩
abbrev S512x16x64 : Shape := ⟨3, ![512, 16, 64]⟩
abbrev S512x16x1 : Shape := ⟨3, ![512, 16, 1]⟩
abbrev S1x1x64 : Shape := ⟨3, ![1, 1, 64]⟩
abbrev S1x16 : Shape := ⟨2, ![1, 16]⟩
abbrev S512x2048 : Shape := ⟨2, ![512, 2048]⟩

abbrev nBuf : Space → Nat
  | .hbm => 108
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2064, .f32⟩
  | .hbm, ⟨4, _⟩ => ⟨S16, .f32⟩
  | .hbm, ⟨5, _⟩ => ⟨S64, .f32⟩
  | .hbm, ⟨6, _⟩ => ⟨S1024x2048, .f32⟩
  | .hbm, ⟨7, _⟩ => ⟨S64, .f32⟩
  | .hbm, ⟨8, _⟩ => ⟨S512x1024, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S512x1024, .f32⟩
  | .hbm, ⟨23, _⟩ => ⟨S512x1024, .f32⟩
  | .hbm, ⟨24, _⟩ => ⟨S512x2064, .f32⟩
  | .hbm, ⟨25, _⟩ => ⟨S512x1024, .f32⟩
  | .hbm, ⟨26, _⟩ => ⟨S512x1024, .f32⟩
  | .hbm, ⟨27, _⟩ => ⟨S512x16, .f32⟩
  | .hbm, ⟨28, _⟩ => ⟨S512x16x64, .f32⟩
  | .hbm, ⟨29, _⟩ => ⟨S512x16x64, .f32⟩
  | .hbm, ⟨30, _⟩ => ⟨S_, .f32⟩
  | .hbm, ⟨31, _⟩ => ⟨S512x16, .f32⟩
  | .hbm, ⟨32, _⟩ => ⟨S512x16x1, .f32⟩
  | .hbm, ⟨33, _⟩ => ⟨S_, .f32⟩
  | .hbm, ⟨34, _⟩ => ⟨S512x16x1, .f32⟩
  | .hbm, ⟨35, _⟩ => ⟨S512x16x1, .f32⟩
  | .hbm, ⟨36, _⟩ => ⟨S_, .f32⟩
  | .hbm, ⟨37, _⟩ => ⟨S512x16x1, .f32⟩
  | .hbm, ⟨38, _⟩ => ⟨S512x16x1, .f32⟩
  | .hbm, ⟨39, _⟩ => ⟨S512x16x1, .f32⟩
  | .hbm, ⟨40, _⟩ => ⟨S512x16x64, .f32⟩
  | .hbm, ⟨41, _⟩ => ⟨S512x16x64, .f32⟩
  | .hbm, ⟨42, _⟩ => ⟨S1x1x64, .f32⟩
  | .hbm, ⟨43, _⟩ => ⟨S512x16x64, .f32⟩
  | .hbm, ⟨44, _⟩ => ⟨S512x16x64, .f32⟩
  | .hbm, ⟨45, _⟩ => ⟨S512x1024, .f32⟩
  | .hbm, ⟨46, _⟩ => ⟨S1x16, .f32⟩
  | .hbm, ⟨47, _⟩ => ⟨S512x16, .f32⟩
  | .hbm, ⟨48, _⟩ => ⟨S512x16, .f32⟩
  | .hbm, ⟨49, _⟩ => ⟨S512x16, .f32⟩
  | .hbm, ⟨50, _⟩ => ⟨S_, .f32⟩
  | .hbm, ⟨51, _⟩ => ⟨S512x16, .f32⟩
  | .hbm, ⟨52, _⟩ => ⟨S512x16, .f32⟩
  | .hbm, ⟨53, _⟩ => ⟨S512x16, .f32⟩
  | .hbm, ⟨54, _⟩ => ⟨S512x16, .f32⟩
  | .hbm, ⟨55, _⟩ => ⟨S512x16, .i1⟩
  | .hbm, ⟨56, _⟩ => ⟨S512x16, .f32⟩
  | .hbm, ⟨57, _⟩ => ⟨S512x16, .f32⟩
  | .hbm, ⟨58, _⟩ => ⟨S512x16, .f32⟩
  | .hbm, ⟨59, _⟩ => ⟨S512x16, .f32⟩
  | .hbm, ⟨60, _⟩ => ⟨S512x16, .f32⟩
  | .hbm, ⟨61, _⟩ => ⟨S512x16, .f32⟩
  | .hbm, ⟨62, _⟩ => ⟨S512x16, .f32⟩
  | .hbm, ⟨63, _⟩ => ⟨S512x16, .f32⟩
  | .hbm, ⟨64, _⟩ => ⟨S512x16, .f32⟩
  | .hbm, ⟨65, _⟩ => ⟨S512x1024, .f32⟩
  | .hbm, ⟨66, _⟩ => ⟨S_, .f32⟩
  | .hbm, ⟨67, _⟩ => ⟨S512, .f32⟩
  | .hbm, ⟨68, _⟩ => ⟨S512x1, .f32⟩
  | .hbm, ⟨69, _⟩ => ⟨S_, .f32⟩
  | .hbm, ⟨70, _⟩ => ⟨S512x1, .f32⟩
  | .hbm, ⟨71, _⟩ => ⟨S512x1, .f32⟩
  | .hbm, ⟨72, _⟩ => ⟨S_, .f32⟩
  | .hbm, ⟨73, _⟩ => ⟨S512x1, .f32⟩
  | .hbm, ⟨74, _⟩ => ⟨S512x1, .f32⟩
  | .hbm, ⟨75, _⟩ => ⟨S512x1, .f32⟩
  | .hbm, ⟨76, _⟩ => ⟨S512x1024, .f32⟩
  | .hbm, ⟨77, _⟩ => ⟨S512x1024, .f32⟩
  | .hbm, ⟨78, _⟩ => ⟨S1x1024, .f32⟩
  | .hbm, ⟨79, _⟩ => ⟨S512x1024, .f32⟩
  | .hbm, ⟨80, _⟩ => ⟨S512x1024, .f32⟩
  | .hbm, ⟨81, _⟩ => ⟨S512x2048, .f32⟩
  | .hbm, ⟨82, _⟩ => ⟨S512x1024, .f32⟩
  | .hbm, ⟨83, _⟩ => ⟨S512x1024, .f32⟩
  | .hbm, ⟨84, _⟩ => ⟨S512x16x64, .f32⟩
  | .hbm, ⟨85, _⟩ => ⟨S512x16x64, .f32⟩
  | .hbm, ⟨86, _⟩ => ⟨S_, .f32⟩
  | .hbm, ⟨87, _⟩ => ⟨S512x16, .f32⟩
  | .hbm, ⟨88, _⟩ => ⟨S512x16x1, .f32⟩
  | .hbm, ⟨89, _⟩ => ⟨S_, .f32⟩
  | .hbm, ⟨90, _⟩ => ⟨S512x16x1, .f32⟩
  | .hbm, ⟨91, _⟩ => ⟨S512x16x1, .f32⟩
  | .hbm, ⟨92, _⟩ => ⟨S_, .f32⟩
  | .hbm, ⟨93, _⟩ => ⟨S512x16x1, .f32⟩
  | .hbm, ⟨94, _⟩ => ⟨S512x16x1, .f32⟩
  | .hbm, ⟨95, _⟩ => ⟨S512x16x1, .f32⟩
  | .hbm, ⟨96, _⟩ => ⟨S512x16x64, .f32⟩
  | .hbm, ⟨97, _⟩ => ⟨S512x16x64, .f32⟩
  | .hbm, ⟨98, _⟩ => ⟨S1x1x64, .f32⟩
  | .hbm, ⟨99, _⟩ => ⟨S512x16x64, .f32⟩
  | .hbm, ⟨100, _⟩ => ⟨S512x16x64, .f32⟩
  | .hbm, ⟨101, _⟩ => ⟨S512x1024, .f32⟩
  | .hbm, ⟨102, _⟩ => ⟨S_, .f32⟩
  | .hbm, ⟨103, _⟩ => ⟨S512x1024, .f32⟩
  | .hbm, ⟨104, _⟩ => ⟨S512x1024, .f32⟩
  | .hbm, ⟨105, _⟩ => ⟨S512x1024, .bf16⟩
  | .hbm, ⟨106, _⟩ => ⟨S512x1024, .bf16⟩
  | .hbm, ⟨107, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== Kernel7.lean ====
abbrev S32x16x512 : Shape := ⟨3, ![32, 16, 512]⟩
abbrev S32x16x1024 : Shape := ⟨3, ![32, 16, 1024]⟩
abbrev S32x16x16 : Shape := ⟨3, ![32, 16, 16]⟩
abbrev S8 : Shape := ⟨1, ![8]⟩
abbrev S1024 : Shape := ⟨1, ![1024]⟩
abbrev S32x8x128x64 : Shape := ⟨4, ![32, 8, 128, 64]⟩
abbrev S32x8x64 : Shape := ⟨3, ![32, 8, 64]⟩
abbrev S32x8 : Shape := ⟨2, ![32, 8]⟩
abbrev S16 : Shape := ⟨1, ![16]⟩
abbrev S32x4x2x128x64 : Shape := ⟨5, ![32, 4, 2, 128, 64]⟩
abbrev S32x4x2x64x128 : Shape := ⟨5, ![32, 4, 2, 64, 128]⟩
abbrev S32x4x128x128 : Shape := ⟨4, ![32, 4, 128, 128]⟩
abbrev S32x4x1x128 : Shape := ⟨4, ![32, 4, 1, 128]⟩
abbrev S32x8x1x1 : Shape := ⟨4, ![32, 8, 1, 1]⟩
abbrev S32x8x1x128 : Shape := ⟨4, ![32, 8, 1, 128]⟩
abbrev S1x16 : Shape := ⟨2, ![1, 16]⟩
abbrev S16x1 : Shape := ⟨2, ![16, 1]⟩
abbrev S1x1024 : Shape := ⟨2, ![1, 1024]⟩
abbrev S1x16x512 : Shape := ⟨3, ![1, 16, 512]⟩
abbrev S1x16x1024 : Shape := ⟨3, ![1, 16, 1024]⟩
abbrev S1x16x16 : Shape := ⟨3, ![1, 16, 16]⟩
abbrev S1x4x128x128 : Shape := ⟨4, ![1, 4, 128, 128]⟩
abbrev S1x4x1x128 : Shape := ⟨4, ![1, 4, 1, 128]⟩
abbrev S1x8x1x128 : Shape := ⟨4, ![1, 8, 1, 128]⟩
abbrev S4x128x128 : Shape := ⟨3, ![4, 128, 128]⟩
abbrev S4x1x128 : Shape := ⟨3, ![4, 1, 128]⟩
abbrev S8x1x128 : Shape := ⟨3, ![8, 1, 128]⟩
abbrev S16x16 : Shape := ⟨2, ![16, 16]⟩
abbrev S16x8 : Shape := ⟨2, ![16, 8]⟩
abbrev S8x16 : Shape := ⟨2, ![8, 16]⟩
abbrev S1x128 : Shape := ⟨2, ![1, 128]⟩
abbrev S128x1 : Shape := ⟨2, ![128, 1]⟩
abbrev S128x128 : Shape := ⟨2, ![128, 128]⟩
abbrev S1x16x128 : Shape := ⟨3, ![1, 16, 128]⟩
abbrev S16x128 : Shape := ⟨2, ![16, 128]⟩
abbrev S128x16 : Shape := ⟨2, ![128, 16]⟩
abbrev S1x128x128 : Shape := ⟨3, ![1, 128, 128]⟩
abbrev S1x1x128 : Shape := ⟨3, ![1, 1, 128]⟩
abbrev S1x1 : Shape := ⟨2, ![1, 1]⟩
abbrev S1 : Shape := ⟨1, ![1]⟩
abbrev S128 : Shape := ⟨1, ![128]⟩

abbrev nBuf : Space → Nat
  | .hbm => 26
  | .vmem => 32
  | .smem => 0
  | _ => 0

abbrev bufTy : (tb : Table) → Fin (tcTables nBuf tb) → BufTy
  | .hbm, ⟨0, _⟩ => ⟨S32x16x512, .bf16⟩
  | .hbm, ⟨1, _⟩ => ⟨S32x16x512, .bf16⟩
  | .hbm, ⟨2, _⟩ => ⟨S32x16x1024, .bf16⟩
  | .hbm, ⟨3, _⟩ => ⟨S32x16x1024, .f32⟩
  | .hbm, ⟨4, _⟩ => ⟨S32x16x16, .f32⟩
  | .hbm, ⟨5, _⟩ => ⟨S8, .f32⟩
  | .hbm, ⟨6, _⟩ => ⟨S8, .f32⟩
  | .hbm, ⟨7, _⟩ => ⟨S1024, .f32⟩
  | .hbm, ⟨8, _⟩ => ⟨S32x8x128x64, .f32⟩
  | .hbm, ⟨9, _⟩ => ⟨S32x8x64, .f32⟩
  | .hbm, ⟨10, _⟩ => ⟨S32x8, .f32⟩
  | .hbm, ⟨11, _⟩ => ⟨S16, .f32⟩
  | .hbm, ⟨12, _⟩ => ⟨S32x4x2x128x64, .f32⟩
  | .hbm, ⟨13, _⟩ => ⟨S32x4x2x64x128, .f32⟩
  | .hbm, ⟨14, _⟩ => ⟨S32x4x128x128, .f32⟩
  | .hbm, ⟨15, _⟩ => ⟨S32x4x1x128, .f32⟩
  | .hbm, ⟨16, _⟩ => ⟨S32x8x1x1, .f32⟩
  | .hbm, ⟨17, _⟩ => ⟨S32x8x1x128, .f32⟩
  | .hbm, ⟨18, _⟩ => ⟨S32x16x16, .f32⟩
  | .hbm, ⟨19, _⟩ => ⟨S1x16, .f32⟩
  | .hbm, ⟨20, _⟩ => ⟨S16x1, .f32⟩
  | .hbm, ⟨21, _⟩ => ⟨S1x1024, .f32⟩
  | .hbm, ⟨22, _⟩ => ⟨S32x16x1024, .bf16⟩
  | .hbm, ⟨23, _⟩ => ⟨S32x4x128x128, .f32⟩
  | .hbm, ⟨24, _⟩ => ⟨S32x4x1x128, .f32⟩
  | .hbm, ⟨25, _⟩ => ⟨S32x8x1x128, .f32⟩
  | .local _ .vmem, ⟨0, _⟩ => ⟨S1x16x512, .bf16⟩
  | .local _ .vmem, ⟨1, _⟩ => ⟨S1x16x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .f32⟩
  | .local _ .vmem, ⟨7, _⟩ => ⟨S1x16x1024, .f32⟩
  | .local _ .vmem, ⟨8, _⟩ => ⟨S1x16x16, .f32⟩
  | .local _ .vmem, ⟨9, _⟩ => ⟨S1x16x16, .f32⟩
  | .local _ .vmem, ⟨10, _⟩ => ⟨S1x16x16, .f32⟩
  | .local _ .vmem, ⟨11, _⟩ => ⟨S1x16x16, .f32⟩
  | .local _ .vmem, ⟨12, _⟩ => ⟨S1x16, .f32⟩
  | .local _ .vmem, ⟨13, _⟩ => ⟨S16x1, .f32⟩
  | .local _ .vmem, ⟨14, _⟩ => ⟨S1x1024, .f32⟩
  | .local _ .vmem, ⟨15, _⟩ => ⟨S1x4x128x128, .f32⟩
  | .local _ .vmem, ⟨16, _⟩ => ⟨S1x4x128x128, .f32⟩
  | .local _ .vmem, ⟨17, _⟩ => ⟨S1x4x1x128, .f32⟩
  | .local _ .vmem, ⟨18, _⟩ => ⟨S1x4x1x128, .f32⟩
  | .local _ .vmem, ⟨19, _⟩ => ⟨S1x8x1x128, .f32⟩
  | .local _ .vmem, ⟨20, _⟩ => ⟨S1x8x1x128, .f32⟩
  | .local _ .vmem, ⟨21, _⟩ => ⟨S1x16x1024, .bf16⟩
  | .local _ .vmem, ⟨22, _⟩ => ⟨S1x16x1024, .bf16⟩
  | .local _ .vmem, ⟨23, _⟩ => ⟨S1x4x128x128, .f32⟩
  | .local _ .vmem, ⟨24, _⟩ => ⟨S1x4x128x128, .f32⟩
  | .local _ .vmem, ⟨25, _⟩ => ⟨S1x4x1x128, .f32⟩
  | .local _ .vmem, ⟨26, _⟩ => ⟨S1x4x1x128, .f32⟩
  | .local _ .vmem, ⟨27, _⟩ => ⟨S1x8x1x128, .f32⟩
  | .local _ .vmem, ⟨28, _⟩ => ⟨S1x8x1x128, .f32⟩
  | .local _ .vmem, ⟨29, _⟩ => ⟨S4x128x128, .f32⟩
  | .local _ .vmem, ⟨30, _⟩ => ⟨S4x1x128, .f32⟩
  | .local _ .vmem, ⟨31, _⟩ => ⟨S8x1x128, .f32⟩
  | _, _ => ⟨S32x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_418 : BitVec 32 := 0#32
  let v1248 : BitVec 1 := Scalar.cmpi .eq arg1 c0_i32_418
  let v1249 : BitVec 32 := Scalar.extui v1248
  let c0_i32_419 : BitVec 32 := 0#32
  let v1250 : BitVec 1 := Scalar.cmpi .ne v1249 c0_i32_419
  v1250

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Kernel7Ideal.lean ====
variable {F : FTy → Type} [FloatOps F] [Named F]
def κ : String → Option EReal := fun
  | "mask" => some ⊥
  | _ => none
-- ==== Reference7Ideal.lean ====
abbrev S32x16x512 : Shape := ⟨3, ![32, 16, 512]⟩
abbrev S32x16x1024 : Shape := ⟨3, ![32, 16, 1024]⟩
abbrev S32x16x16 : Shape := ⟨3, ![32, 16, 16]⟩
abbrev S8 : Shape := ⟨1, ![8]⟩
abbrev S1024 : Shape := ⟨1, ![1024]⟩
abbrev S32x8x128x64 : Shape := ⟨4, ![32, 8, 128, 64]⟩
abbrev S32x8x64 : Shape := ⟨3, ![32, 8, 64]⟩
abbrev S32x8 : Shape := ⟨2, ![32, 8]⟩
abbrev S32x16x8x64 : Shape := ⟨4, ![32, 16, 8, 64]⟩
abbrev S32x8x16x64 : Shape := ⟨4, ![32, 8, 16, 64]⟩
abbrev S32x16x8x128 : Shape := ⟨4, ![32, 16, 8, 128]⟩
abbrev S32x8x16x128 : Shape := ⟨4, ![32, 8, 16, 128]⟩
abbrev S32x16x8 : Shape := ⟨3, ![32, 16, 8]⟩
abbrev S1x1x8 : Shape := ⟨3, ![1, 1, 8]⟩
abbrev S_ : Shape := ⟨0, ![]⟩
abbrev S32x8x16 : Shape := ⟨3, ![32, 8, 16]⟩
abbrev S16x16 : Shape := ⟨2, ![16, 16]⟩
abbrev S32x8x16x1 : Shape := ⟨4, ![32, 8, 16, 1]⟩
abbrev S32x8x1x16 : Shape := ⟨4, ![32, 8, 1, 16]⟩
abbrev S32x8x16x16 : Shape := ⟨4, ![32, 8, 16, 16]⟩
abbrev S32x8x1 : Shape := ⟨3, ![32, 8, 1]⟩
abbrev S32x8x1x1 : Shape := ⟨4, ![32, 8, 1, 1]⟩
abbrev S32x16x8x1 : Shape := ⟨4, ![32, 16, 8, 1]⟩
abbrev S1x1x1024 : Shape := ⟨3, ![1, 1, 1024]⟩
abbrev S32x8x64x128 : Shape := ⟨4, ![32, 8, 64, 128]⟩
abbrev S32x4x128x128 : Shape := ⟨4, ![32, 4, 128, 128]⟩
abbrev S32x4x1x128 : Shape := ⟨4, ![32, 4, 1, 128]⟩
abbrev S32x8x1x128 : Shape := ⟨4, ![32, 8, 1, 128]⟩

abbrev nBuf : Space → Nat
  | .hbm => 182
  | .vmem => 0
  | .smem => 0
  | _ => 0

abbrev hbmTy0_0 (i : Nat) : BufTy := match i % 128 with
  | 0 => ⟨S32x16x512, .bf16⟩
  | 1 => ⟨S32x16x512, .bf16⟩
  | 2 => ⟨S32x16x1024, .bf16⟩
  | 3 => ⟨S32x16x1024, .f32⟩
  | 4 => ⟨S32x16x16, .f32⟩
  | 5 => ⟨S8, .f32⟩
  | 6 => ⟨S8, .f32⟩
  | 7 => ⟨S1024, .f32⟩
  | 8 => ⟨S32x8x128x64, .f32⟩
  | 9 => ⟨S32x8x64, .f32⟩
  | 10 => ⟨S32x8, .f32⟩
  | 11 => ⟨S32x16x512, .f32⟩
  | 12 => ⟨S32x16x8x64, .f32⟩
  | 13 => ⟨S32x8x16x64, .f32⟩
  | 14 => ⟨S32x16x512, .f32⟩
  | 15 => ⟨S32x16x8x64, .f32⟩
  | 16 => ⟨S32x8x16x64, .f32⟩
  | 17 => ⟨S32x16x1024, .f32⟩
  | 18 => ⟨S32x16x8x128, .f32⟩
  | 19 => ⟨S32x8x16x128, .f32⟩
  | 20 => ⟨S32x16x8, .f32⟩
  | 21 => ⟨S1x1x8, .f32⟩
  | 22 => ⟨S32x16x8, .f32⟩
  | 23 => ⟨S32x16x8, .f32⟩
  | 24 => ⟨S_, .f32⟩
  | 25 => ⟨S32x16x8, .f32⟩
  | 26 => ⟨S32x16x8, .f32⟩
  | 27 => ⟨S32x16x8, .f32⟩
  | 28 => ⟨S_, .f32⟩
  | 29 => ⟨S32x16x8, .f32⟩
  | 30 => ⟨S32x16x8, .f32⟩
  | 31 => ⟨S32x8x16, .f32⟩
  | 32 => ⟨S32x16x8, .f32⟩
  | 33 => ⟨S1x1x8, .f32⟩
  | 34 => ⟨S32x16x8, .f32⟩
  | 35 => ⟨S32x16x8, .f32⟩
  | 36 => ⟨S_, .f32⟩
  | 37 => ⟨S32x16x8, .f32⟩
  | 38 => ⟨S32x16x8, .f32⟩
  | 39 => ⟨S32x16x8, .f32⟩
  | 40 => ⟨S_, .f32⟩
  | 41 => ⟨S32x16x8, .f32⟩
  | 42 => ⟨S32x16x8, .f32⟩
  | 43 => ⟨S32x16x8, .f32⟩
  | 44 => ⟨S_, .f32⟩
  | 45 => ⟨S32x16x8, .f32⟩
  | 46 => ⟨S32x16x8, .f32⟩
  | 47 => ⟨S32x16x8, .f32⟩
  | 48 => ⟨S32x16x8, .f32⟩
  | 49 => ⟨S32x16x8, .i1⟩
  | 50 => ⟨S32x16x8, .f32⟩
  | 51 => ⟨S32x16x8, .f32⟩
  | 52 => ⟨S32x16x8, .f32⟩
  | 53 => ⟨S32x16x8, .f32⟩
  | 54 => ⟨S32x16x8, .f32⟩
  | 55 => ⟨S32x16x8, .f32⟩
  | 56 => ⟨S32x16x8, .f32⟩
  | 57 => ⟨S32x16x8, .f32⟩
  | 58 => ⟨S32x16x8, .f32⟩
  | 59 => ⟨S32x8x16, .f32⟩
  | 60 => ⟨S_, .f32⟩
  | 61 => ⟨S_, .f32⟩
  | 62 => ⟨S32x8x16, .f32⟩
  | 63 => ⟨S_, .i1⟩
  | 64 => ⟨S16x16, .i1⟩
  | 65 => ⟨S16x16, .i32⟩
  | 66 => ⟨S_, .i32⟩
  | 67 => ⟨S16x16, .i32⟩
  | 68 => ⟨S16x16, .i32⟩
  | 69 => ⟨S16x16, .i32⟩
  | 70 => ⟨S16x16, .i1⟩
  | 71 => ⟨S_, .i1⟩
  | 72 => ⟨S16x16, .i1⟩
  | 73 => ⟨S16x16, .i1⟩
  | 74 => ⟨S32x8x16x1, .f32⟩
  | 75 => ⟨S32x8x1x16, .f32⟩
  | 76 => ⟨S32x8x16x16, .f32⟩
  | 77 => ⟨S32x8x16x16, .f32⟩
  | 78 => ⟨S32x8x16x16, .f32⟩
  | 79 => ⟨S32x8x1x16, .f32⟩
  | 80 => ⟨S32x8x16x16, .f32⟩
  | 81 => ⟨S32x8x16x16, .f32⟩
  | 82 => ⟨S_, .f32⟩
  | 83 => ⟨S_, .f32⟩
  | 84 => ⟨S32x8x16x16, .i1⟩
  | 85 => ⟨S32x8x16x16, .f32⟩
  | 86 => ⟨S32x8x16x16, .f32⟩
  | 87 => ⟨S32x8x1, .f32⟩
  | 88 => ⟨S32x8x16, .f32⟩
  | 89 => ⟨S32x8x16, .f32⟩
  | 90 => ⟨S_, .f32⟩
  | 91 => ⟨S32x8x16, .f32⟩
  | 92 => ⟨S32x8x16, .f32⟩
  | 93 => ⟨S32x8x16, .f32⟩
  | 94 => ⟨S32x8x16, .f32⟩
  | 95 => ⟨S32x8x16x16, .f32⟩
  | 96 => ⟨S32x8x16x1, .f32⟩
  | 97 => ⟨S32x8x16x16, .f32⟩
  | 98 => ⟨S32x8x16x16, .f32⟩
  | 99 => ⟨S32x8x16x16, .f32⟩
  | 100 => ⟨S32x8x16x16, .f32⟩
  | 101 => ⟨S32x8x16x1, .f32⟩
  | 102 => ⟨S32x8x16x128, .f32⟩
  | 103 => ⟨S32x8x16x128, .f32⟩
  | 104 => ⟨S32x8x16x128, .f32⟩
  | 105 => ⟨S32x8x16x128, .f32⟩
  | 106 => ⟨S32x8x16x128, .f32⟩
  | 107 => ⟨S32x8x16, .f32⟩
  | 108 => ⟨S32x8x16, .f32⟩
  | 109 => ⟨S_, .f32⟩
  | 110 => ⟨S32x8x16, .f32⟩
  | 111 => ⟨S32x8x16, .f32⟩
  | 112 => ⟨S32x8x16, .f32⟩
  | 113 => ⟨S32x8x16, .f32⟩
  | 114 => ⟨S32x8x16, .f32⟩
  | 115 => ⟨S32x8x16, .f32⟩
  | 116 => ⟨S32x8x16x1, .f32⟩
  | 117 => ⟨S32x8x16x128, .f32⟩
  | 118 => ⟨S32x8x16x128, .f32⟩
  | 119 => ⟨S32x8x1, .f32⟩
  | 120 => ⟨S32x8, .f32⟩
  | 121 => ⟨S32x8x1, .f32⟩
  | 122 => ⟨S32x8x16, .f32⟩
  | 123 => ⟨S32x8x16, .f32⟩
  | 124 => ⟨S32x8x16, .f32⟩
  | 125 => ⟨S32x8, .f32⟩
  | 126 => ⟨S_, .f32⟩
  | 127 => ⟨S32x8, .f32⟩
  | _ => ⟨S32x16x512, .bf16⟩

abbrev hbmTy0_1 (i : Nat) : BufTy := match i % 128 with
  | 0 => ⟨S32x8, .f32⟩
  | 1 => ⟨S32x8, .f32⟩
  | 2 => ⟨S32x8, .f32⟩
  | 3 => ⟨S32x8, .f32⟩
  | 4 => ⟨S32x8x1, .f32⟩
  | 5 => ⟨S32x8x16, .f32⟩
  | 6 => ⟨S32x8x16, .f32⟩
  | 7 => ⟨S32x8x16, .f32⟩
  | 8 => ⟨S32x8x1x1, .f32⟩
  | 9 => ⟨S32x8x128x64, .f32⟩
  | 10 => ⟨S32x8x128x64, .f32⟩
  | 11 => ⟨S32x8x16x1, .f32⟩
  | 12 => ⟨S32x8x16x128, .f32⟩
  | 13 => ⟨S32x8x16x128, .f32⟩
  | 14 => ⟨S32x8x128x64, .f32⟩
  | 15 => ⟨S32x8x128x64, .f32⟩
  | 16 => ⟨S32x8x1, .f32⟩
  | 17 => ⟨S32x8x64, .f32⟩
  | 18 => ⟨S32x8x64, .f32⟩
  | 19 => ⟨S32x8x64, .f32⟩
  | 20 => ⟨S32x8x64, .f32⟩
  | 21 => ⟨S32x16x8x128, .f32⟩
  | 22 => ⟨S32x16x8x128, .f32⟩
  | 23 => ⟨S_, .f32⟩
  | 24 => ⟨S32x16x8, .f32⟩
  | 25 => ⟨S32x16x8x1, .f32⟩
  | 26 => ⟨S_, .f32⟩
  | 27 => ⟨S32x16x8x1, .f32⟩
  | 28 => ⟨S32x16x8x1, .f32⟩
  | 29 => ⟨S_, .f32⟩
  | 30 => ⟨S32x16x8x1, .f32⟩
  | 31 => ⟨S32x16x8x1, .f32⟩
  | 32 => ⟨S32x16x8x1, .f32⟩
  | 33 => ⟨S32x16x8x128, .f32⟩
  | 34 => ⟨S32x16x8x128, .f32⟩
  | 35 => ⟨S32x16x1024, .f32⟩
  | 36 => ⟨S1x1x1024, .f32⟩
  | 37 => ⟨S32x16x1024, .f32⟩
  | 38 => ⟨S32x16x1024, .f32⟩
  | 39 => ⟨S32x16x1024, .f32⟩
  | 40 => ⟨S32x16x1024, .f32⟩
  | 41 => ⟨S_, .f32⟩
  | 42 => ⟨S32x16x1024, .f32⟩
  | 43 => ⟨S32x16x1024, .f32⟩
  | 44 => ⟨S_, .f32⟩
  | 45 => ⟨S32x16x1024, .f32⟩
  | 46 => ⟨S32x16x1024, .f32⟩
  | 47 => ⟨S32x16x1024, .f32⟩
  | 48 => ⟨S32x8x64x128, .f32⟩
  | 49 => ⟨S32x4x128x128, .f32⟩
  | 50 => ⟨S32x4x1x128, .f32⟩
  | 51 => ⟨S32x8x1x1, .f32⟩
  | 52 => ⟨S32x8x1x128, .f32⟩
  | 53 => ⟨S32x16x1024, .bf16⟩
  | _ => ⟨S32x16x512, .bf16⟩

abbrev hbmTy (i : Nat) : BufTy := match i / 128 with
  | 0 => hbmTy0_0 i
  | 1 => hbmTy0_1 i
  | _ => ⟨S32x16x512, .bf16⟩

abbrev bufTy : (tb : Table) → Fin (tcTables nBuf tb) → BufTy
  | .hbm, ⟨i, _⟩ => hbmTy i
  | _, _ => ⟨S32x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v28 : Ref sig .tc := ⟨.hbm, 58, rfl⟩
abbrev main_v29 : Ref sig .tc := ⟨.hbm, 59, rfl⟩
abbrev main_call1_call0_cst : Ref sig .tc := ⟨.hbm, 60, rfl⟩
abbrev main_call1_call0_v0 : Ref sig .tc := ⟨.hbm, 61, rfl⟩
abbrev main_v30 : Ref sig .tc := ⟨.hbm, 62, rfl⟩
abbrev main_c : Ref sig .tc := ⟨.hbm, 63, rfl⟩
abbrev main_v31 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_3 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_4 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_5 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_6 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_7 : Ref sig .tc := ⟨.hbm, 151, rfl⟩
abbrev main_v103 : Ref sig .tc := ⟨.hbm, 152, rfl⟩
abbrev main_v104 : Ref sig .tc := ⟨.hbm, 153, rfl⟩
abbrev main_cst_8 : Ref sig .tc := ⟨.hbm, 154, rfl⟩
abbrev main_v105 : Ref sig .tc := ⟨.hbm, 155, rfl⟩
abbrev main_v106 : Ref sig .tc := ⟨.hbm, 156, rfl⟩
abbrev main_cst_9 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_10 : Ref sig .tc := ⟨.hbm, 169, rfl⟩
abbrev main_v118 : Ref sig .tc := ⟨.hbm, 170, rfl⟩
abbrev main_v119 : Ref sig .tc := ⟨.hbm, 171, rfl⟩
abbrev main_cst_11 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩

abbrev nD : Nat := 1
abbrev τ : Topo := Topo.v7x

variable {F : FTy → Type} [FloatOps F]
-- ==== Proof.SampleStep.lean ====
/- One step of the sample attention for one head, as the kernel's body computes it: the operations of the first head's
   payloads, as functions of the blocks that the head loads. Every other head's payloads are these at that head's blocks. -/
module

public import proofs.«01_k».proof.Proof.Gen.KernelIdeal.Value

@[expose] public section

noncomputable section

namespace Cert.KernelIdeal.Step

open Cert.KernelIdeal Cert.KernelIdeal.Gen Idealize.ShloMosaic

variable {F : FTy → Type} [FloatOps F] [Named F]

/-- The lanes of a head: the lower half of its pair's for an even head, the upper half for an odd one. -/
def half (h : Fin 16) : IVec S1x128 1 :=
  match h.val % 2 with
  | 0 => k0_pay200
  | _ => xori k0_pay200 (constantI S1x128 1 1#1)

/-- The block of a head's pair in an array of rows of 1024 lanes. -/
def lanes16 {e : EltTy} (x : Vec F S1x16x1024 e) (h : Fin 16) : Vec F S1x16x128 e :=
  View.ld x (Rect.unit ![0, 0, 128 * (h.val / 2)] ![1, 16, 128] (by intro a; have := h.isLt; fin_cases a <;> simp [S1x16x1024] <;> omega))

def lanes512 {e : EltTy} (x : Vec F S1x512x1024 e) (h : Fin 16) : Vec F S1x512x128 e :=
  View.ld x (Rect.unit ![0, 0, 128 * (h.val / 2)] ![1, 512, 128] (by intro a; have := h.isLt; fin_cases a <;> simp [S1x512x1024] <;> omega))

/-- A head's row of the cumulative gates. -/
def row512 (x : Vec F S1x16x512 .f32) (h : Fin 16) : Vec F S1x1x512 .f32 :=
  View.ld x (Rect.unit ![0, h.val, 0] ![1, 1, 512] (by intro a; have := h.isLt; fin_cases a <;> simp [S1x16x512] <;> omega))

def row16 (x : Vec F S1x16x16 .f32) (h : Fin 16) : Vec F S1x1x16 .f32 :=
  View.ld x (Rect.unit ![0, h.val, 0] ![1, 1, 16] (by intro a; have := h.isLt; fin_cases a <;> simp [S1x16x16] <;> omega))

/-- A head's part of the running maximum or sum, and of the accumulator. -/
def part1 (x : Vec F S16x16x1 .f32) (h : Fin 16) : Vec F S1x16x1 .f32 :=
  View.ld x (Rect.unit ![h.val, 0, 0] ![1, 16, 1] (by intro a; have := h.isLt; fin_cases a <;> simp [S16x16x1] <;> omega))

def part128 (x : Vec F S16x16x128 .f32) (h : Fin 16) : Vec F S1x16x128 .f32 :=
  View.ld x (Rect.unit ![h.val, 0, 0] ![1, 16, 128] (by intro a; have := h.isLt; fin_cases a <;> simp [S16x16x128] <;> omega))

/-- The heads' parts put together. -/
def stack1 {α : Type} (f : Fin 16 → S1x16x1.Idx → α) : S16x16x1.Idx → α :=
  fun y => f (y 0) (fun a => match a with | 0 => (0 : Fin 1) | 1 => y 1 | 2 => y 2)

def stack128 {α : Type} (f : Fin 16 → S1x16x128.Idx → α) : S16x16x128.Idx → α :=
  fun y => f (y 0) (fun a => match a with | 0 => (0 : Fin 1) | 1 => y 1 | 2 => y 2)

theorem stack1_at {α : Type} (f : Fin 16 → S1x16x1.Idx → α) (h : Fin 16) (x : S1x16x1.Idx) (y : S16x16x1.Idx)
    (h0 : (y 0 : ℕ) = h.val + (x 0 : ℕ)) (h1 : (y 1 : ℕ) = (x 1 : ℕ)) (h2 : (y 2 : ℕ) = (x 2 : ℕ)) : f h x = stack1 f y := by
  have hx0 : (x 0 : ℕ) < 1 := (x 0).isLt
  have e : y 0 = h := Fin.ext (by omega)
  unfold stack1
  rw [e]
  congr 1
  funext a
  match a with
  | 0 => exact Fin.ext (by show (x 0 : ℕ) = 0; omega)
  | 1 => exact Fin.ext h1.symm
  | 2 => exact Fin.ext h2.symm

theorem stack128_at {α : Type} (f : Fin 16 → S1x16x128.Idx → α) (h : Fin 16) (x : S1x16x128.Idx) (y : S16x16x128.Idx)
    (h0 : (y 0 : ℕ) = h.val + (x 0 : ℕ)) (h1 : (y 1 : ℕ) = (x 1 : ℕ)) (h2 : (y 2 : ℕ) = (x 2 : ℕ)) : f h x = stack128 f y := by
  have hx0 : (x 0 : ℕ) < 1 := (x 0).isLt
  have e : y 0 = h := Fin.ext (by omega)
  unfold stack128
  rw [e]
  congr 1
  funext a
  match a with
  | 0 => exact Fin.ext (by show (x 0 : ℕ) = 0; omega)
  | 1 => exact Fin.ext h1.symm
  | 2 => exact Fin.ext h2.symm

/-- Where the later stores cover an index, the earlier ones do not matter. -/
theorem canon_append_of_cover {Val : EltTy → Type} [∀ e, Nonempty (Val e)] {s : Shape} {e : EltTy} (L' : List (View.Piece Val s e)) :
    ∀ (L : List (View.Piece Val s e)) (y : s.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append]
      exact (View.canon_cons_emb p.1 p.2 _ x).trans (View.canon_cons_emb p.1 p.2 _ x).symm
    · rw [List.cons_append, View.canon_cons_of_not_mem _ _ hm, View.canon_cons_of_not_mem _ _ hm]
      refine canon_append_of_cover L' L y ?_
      obtain ⟨q, hq, hqy⟩ := hy
      rcases List.mem_cons.mp hq with rfl | hq
      · exact absurd hqy hm
      · exact ⟨q, hq, hqy⟩

/-! ## A step over a block of 512 cached keys -/

def logit (hf : IVec S1x128 1) (q : Vec F S1x16x128 .bf16) (k : Vec F S1x512x128 .f32) (ck : Vec F S1x1x512 .f32) : FVec F S16x512 .f32 :=
  subf (matmul dot_S16x128_S512x128_S16x512_1_1_0_0_n_n none
      (select (broadcastTo S16x128 (shapeCast S1x128 hf shapeCasts_S1x128_S1x128) broadcasts_S1x128_S16x128)
        (shapeCast S16x128 q shapeCasts_S1x16x128_S16x128) (broadcast S16x128 (FloatOps.ofBits FTy.bf16 0#16)))
      (truncf FTy.bf16 (shapeCast S512x128 k shapeCasts_S1x512x128_S512x128) bitsLt_bf16_f32) (constant S16x512 FTy.f32 0#32))
    (broadcastTo S16x512 (shapeCast S1x512 ck shapeCasts_S1x1x512_S1x512) broadcasts_S1x512_S16x512)

def newMax (s : FVec F S16x512 .f32) (m : Vec F S1x16x1 .f32) : FVec F S16x1 .f32 :=
  maximumf (shapeCast S16x1 m shapeCasts_S1x16x1_S16x1)
    (shapeCast S16x1 (multiReduction FKind.maximumf [1] S16 s (4286578688#32) reduces_S16x512_S16 k0_pay11._proof_1 k0_pay11._proof_2) shapeCasts_S16_S16x1)

def scale (s : FVec F S16x512 .f32) (m : Vec F S1x16x1 .f32) : FVec F S16x1 .f32 :=
  exp (subf (shapeCast S16x1 m shapeCasts_S1x16x1_S16x1) (newMax s m))

def weight (s : FVec F S16x512 .f32) (m : Vec F S1x16x1 .f32) : FVec F S16x512 .f32 :=
  exp (subf s (broadcastTo S16x512 (newMax s m) broadcasts_S16x1_S16x512))

def stepM (s : FVec F S16x512 .f32) (m : Vec F S1x16x1 .f32) : Vec F S1x16x1 .f32 :=
  shapeCast S1x16x1 (newMax s m) shapeCasts_S16x1_S1x16x1

def stepL (s : FVec F S16x512 .f32) (m l : Vec F S1x16x1 .f32) : Vec F S1x16x1 .f32 :=
  shapeCast S1x16x1 (addf (mulf (scale s m) (shapeCast S16x1 l shapeCasts_S1x16x1_S16x1))
    (shapeCast S16x1 (multiReduction FKind.add [1] S16 (weight s m) (0#32) reduces_S16x512_S16 k0_pay11._proof_1 k0_pay14._proof_1) shapeCasts_S16_S16x1))
    shapeCasts_S16x1_S1x16x1

def stepA (s : FVec F S16x512 .f32) (v : Vec F S1x512x128 .f32) (m : Vec F S1x16x1 .f32) (a : Vec F S1x16x128 .f32) : Vec F S1x16x128 .f32 :=
  shapeCast S1x16x128 (addf (mulf (broadcastTo S16x128 (scale s m) broadcasts_S16x1_S16x128) (shapeCast S16x128 a shapeCasts_S1x16x128_S16x128))
    (matmul dot_S16x512_S512x128_S16x128_1_0_0_1_n_n none (truncf FTy.bf16 (weight s m) bitsLt_bf16_f32)
      (truncf FTy.bf16 (shapeCast S512x128 v shapeCasts_S1x512x128_S512x128) bitsLt_bf16_f32) (constant S16x128 FTy.f32 0#32)))
    shapeCasts_S16x128_S1x16x128

/-! ## A step over the 16 new keys, masked -/

/-- Key `k` is visible from row `r` when `k ≤ r`. -/
abbrev seen : IVec S16x16 1 := k0_pay4

def logitN (hf : IVec S1x128 1) (q k : Vec F S1x16x128 .bf16) (ck : Vec F S1x1x16 .f32) : FVec F S16x16 .f32 :=
  select seen (subf (matmul dot_S16x128_S16x128_S16x16_1_1_0_0_n_n none
      (select (broadcastTo S16x128 (shapeCast S1x128 hf shapeCasts_S1x128_S1x128) broadcasts_S1x128_S16x128)
        (shapeCast S16x128 q shapeCasts_S1x16x128_S16x128) (broadcast S16x128 (FloatOps.ofBits FTy.bf16 0#16)))
      (shapeCast S16x128 k shapeCasts_S1x16x128_S16x128) (constant S16x16 FTy.f32 0#32))
    (broadcastTo S16x16 (shapeCast S1x16 ck shapeCasts_S1x1x16_S1x16) broadcasts_S1x16_S16x16))
    (broadcast S16x16 (Named.named κ "mask" 4048155338#32))

def newMaxN (s : FVec F S16x16 .f32) (m : Vec F S1x16x1 .f32) : FVec F S16x1 .f32 :=
  maximumf (shapeCast S16x1 m shapeCasts_S1x16x1_S16x1)
    (shapeCast S16x1 (multiReduction FKind.maximumf [1] S16 s (4286578688#32) reduces_S16x16_S16 k0_pay11._proof_1 k0_pay11._proof_2) shapeCasts_S16_S16x1)

def scaleN (s : FVec F S16x16 .f32) (m : Vec F S1x16x1 .f32) : FVec F S16x1 .f32 :=
  exp (subf (shapeCast S16x1 m shapeCasts_S1x16x1_S16x1) (newMaxN s m))

def weightN (s : FVec F S16x16 .f32) (m : Vec F S1x16x1 .f32) : FVec F S16x16 .f32 :=
  select seen (exp (subf s (broadcastTo S16x16 (newMaxN s m) broadcasts_S16x1_S16x16))) (broadcast S16x16 (FloatOps.ofBits FTy.f32 0#32))

def stepMN (s : FVec F S16x16 .f32) (m : Vec F S1x16x1 .f32) : Vec F S1x16x1 .f32 :=
  shapeCast S1x16x1 (newMaxN s m) shapeCasts_S16x1_S1x16x1

def stepLN (s : FVec F S16x16 .f32) (m l : Vec F S1x16x1 .f32) : Vec F S1x16x1 .f32 :=
  shapeCast S1x16x1 (addf (mulf (scaleN s m) (shapeCast S16x1 l shapeCasts_S1x16x1_S16x1))
    (shapeCast S16x1 (multiReduction FKind.add [1] S16 (weightN s m) (0#32) reduces_S16x16_S16 k0_pay11._proof_1 k0_pay14._proof_1) shapeCasts_S16_S16x1))
    shapeCasts_S16x1_S1x16x1

def stepAN (s : FVec F S16x16 .f32) (v : Vec F S1x16x128 .bf16) (m : Vec F S1x16x1 .f32) (a : Vec F S1x16x128 .f32) : Vec F S1x16x128 .f32 :=
  shapeCast S1x16x128 (addf (mulf (broadcastTo S16x128 (scaleN s m) broadcasts_S16x1_S16x128) (shapeCast S16x128 a shapeCasts_S1x16x128_S16x128))
    (matmul dot_S16x16_S16x128_S16x128_1_0_0_1_n_n none (truncf FTy.bf16 (weightN s m) bitsLt_bf16_f32)
      (shapeCast S16x128 v shapeCasts_S1x16x128_S16x128) (constant S16x128 FTy.f32 0#32)))
    shapeCasts_S16x128_S1x16x128

/-! ## The end: the quotients of a pair of heads, gated -/

def quot (a : Vec F S1x16x128 .f32) (l : Vec F S1x16x1 .f32) : FVec F S16x128 .f32 :=
  divf (shapeCast S16x128 a shapeCasts_S1x16x128_S16x128) (broadcastTo S16x128 (shapeCast S16x1 l shapeCasts_S1x16x1_S16x1) broadcasts_S16x1_S16x128)

def finish (a0 : Vec F S1x16x128 .f32) (l0 : Vec F S1x16x1 .f32) (a1 : Vec F S1x16x128 .f32) (l1 : Vec F S1x16x1 .f32)
    (g : Vec F S1x16x128 .f32) : Vec F S1x16x128 .bf16 :=
  shapeCast S1x16x128 (truncf FTy.bf16 (mulf
      (select (broadcastTo S16x128 (shapeCast S1x128 k0_pay200 shapeCasts_S1x128_S1x128) broadcasts_S1x128_S16x128) (quot a0 l0) (quot a1 l1))
      (divf (broadcast S16x128 (FloatOps.ofBits FTy.f32 1065353216#32))
        (addf (broadcast S16x128 (FloatOps.ofBits FTy.f32 1065353216#32))
          (exp (subf (broadcast S16x128 (FloatOps.ofBits FTy.f32 0#32)) (shapeCast S16x128 g shapeCasts_S1x16x128_S16x128))))))
      bitsLt_bf16_f32) shapeCasts_S16x128_S1x16x128

/-! ## All heads at once -/

variable (x0 : Vec F S1x16x1024 .bf16) (x1 x2 : Vec F S1x512x1024 .f32) (x3 : Vec F S1x16x512 .f32)
  (x4 x5 : Vec F S1x16x1024 .bf16) (x6 : Vec F S1x16x16 .f32) (x7 : Vec F S1x16x1024 .f32)
  (pm pl : Fin 16 → Vec F S1x16x1 .f32) (pa : Fin 16 → Vec F S1x16x128 .f32)

def logits (h : Fin 16) : FVec F S16x512 .f32 := logit (half h) (lanes16 x0 h) (lanes512 x1 h) (row512 x3 h)
def logitsN (h : Fin 16) : FVec F S16x16 .f32 := logitN (half h) (lanes16 x0 h) (lanes16 x4 h) (row16 x6 h)

def headM (h : Fin 16) : Vec F S1x16x1 .f32 := stepM (logits x0 x1 x3 h) (pm h)
def headL (h : Fin 16) : Vec F S1x16x1 .f32 := stepL (logits x0 x1 x3 h) (pm h) (pl h)
def headA (h : Fin 16) : Vec F S1x16x128 .f32 := stepA (logits x0 x1 x3 h) (lanes512 x2 h) (pm h) (pa h)

def headLN (h : Fin 16) : Vec F S1x16x1 .f32 := stepLN (logitsN x0 x4 x6 h) (pm h) (pl h)
def headAN (h : Fin 16) : Vec F S1x16x128 .f32 := stepAN (logitsN x0 x4 x6 h) (lanes16 x5 h) (pm h) (pa h)

/-- The two heads of a pair. -/
def even (p : Fin 8) : Fin 16 := ⟨2 * p.val, by omega⟩
def odd (p : Fin 8) : Fin 16 := ⟨2 * p.val + 1, by omega⟩

def pairOut (p : Fin 8) : Vec F S1x16x128 .bf16 :=
  finish (pa (even p)) (pl (even p)) (pa (odd p)) (pl (odd p)) (lanes16 x7 (even p))

/-- The pairs' outputs side by side. -/
def stackLanes {α : Type} (f : Fin 8 → S1x16x128.Idx → α) : S1x16x1024.Idx → α :=
  fun y => f ⟨(y 2).val / 128, by have : (y 2).val < 1024 := (y 2).isLt; omega⟩
    (fun a => match a with | 0 => y 0 | 1 => y 1 | 2 => (⟨(y 2).val % 128, Nat.mod_lt _ (by decide)⟩ : Fin 128))

theorem stackLanes_at {α : Type} (f : Fin 8 → S1x16x128.Idx → α) (p : Fin 8) (x : S1x16x128.Idx) (y : S1x16x1024.Idx)
    (h0 : (y 0 : ℕ) = (x 0 : ℕ)) (h1 : (y 1 : ℕ) = (x 1 : ℕ)) (h2 : (y 2 : ℕ) = 128 * p.val + (x 2 : ℕ)) : f p x = stackLanes f y := by
  have hx2 : (x 2 : ℕ) < 128 := (x 2).isLt
  unfold stackLanes
  congr 1
  · have e : p = ⟨(y 2).val / 128, by omega⟩ := Fin.ext (by show p.val = (y 2).val / 128; omega)
    rw [← e]
  · funext a
    match a with
    | 0 => exact Fin.ext h0.symm
    | 1 => exact Fin.ext h1.symm
    | 2 => exact Fin.ext (by show (x 2 : ℕ) = (y 2).val % 128; omega)

end Cert.KernelIdeal.Step

end
-- ==== Proof.SampleA.lean ====
/- What case A of the sample attention's body leaves, read off the frame certificate's recorded stores:
   the running values reset, then one step over the point's block of cached keys, for each of the 16 heads. -/
module

public import proofs.«01_k».proof.Proof.SampleStep
public import Idealize.ShloMosaic.Lib.Pipeline.ReadBack
public import Idealize.ShloMosaic.Lib.Pipeline.ValueKit

@[expose] public section

set_option maxRecDepth 100000
set_option maxHeartbeats 4000000

noncomputable section

namespace Cert.KernelIdeal.Step

open Cert.KernelIdeal Cert.KernelIdeal.Gen Idealize.ShloMosaic

variable {F : FTy → Type} [FloatOps F] [Named F]

theorem sout_A_0 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stack1 (headM x0 x1 x3 (part1 k0_pay201)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  simp (disch := decide) only [Gen.kernelRun0_A.sl.cst_309, Gen.kernelRun0_A.sl.cst_331, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_55, Gen.kernelRun0_A.sl.r_56, Gen.kernelRun0_A.sl.r_57, Gen.kernelRun0_A.sl.r_58, Gen.kernelRun0_A.sl.r_59, Gen.kernelRun0_A.sl.r_6, Gen.kernelRun0_A.sl.r_60, Gen.kernelRun0_A.sl.r_61, Gen.kernelRun0_A.sl.r_62, Gen.kernelRun0_A.sl.r_63, Gen.kernelRun0_A.sl.r_64, Gen.kernelRun0_A.sl.r_65, Gen.kernelRun0_A.sl.r_66, Gen.kernelRun0_A.sl.r_67, Gen.kernelRun0_A.sl.r_68, Gen.kernelRun0_A.sl.r_69, Gen.kernelRun0_A.sl.r_7, Gen.kernelRun0_A.sl.r_70, Gen.kernelRun0_A.sl.r_71, Gen.kernelRun0_A.sl.r_72, Gen.kernelRun0_A.sl.r_73, Gen.kernelRun0_A.sl.r_74, Gen.kernelRun0_A.sl.r_75, Gen.kernelRun0_A.sl.r_76, Gen.kernelRun0_A.sl.r_77, Gen.kernelRun0_A.sl.r_78, Gen.kernelRun0_A.sl.r_79, Gen.kernelRun0_A.sl.r_8, Gen.kernelRun0_A.sl.r_9, Gen.kernelRun0_A.sl.v116, Gen.kernelRun0_A.sl.v126, Gen.kernelRun0_A.sl.v135, Gen.kernelRun0_A.sl.v156, Gen.kernelRun0_A.sl.v166, Gen.kernelRun0_A.sl.v175, Gen.kernelRun0_A.sl.v207, Gen.kernelRun0_A.sl.v217, Gen.kernelRun0_A.sl.v226, Gen.kernelRun0_A.sl.v247, Gen.kernelRun0_A.sl.v25, Gen.kernelRun0_A.sl.v257, Gen.kernelRun0_A.sl.v266, Gen.kernelRun0_A.sl.v298, Gen.kernelRun0_A.sl.v3, Gen.kernelRun0_A.sl.v308, Gen.kernelRun0_A.sl.v317, Gen.kernelRun0_A.sl.v338, Gen.kernelRun0_A.sl.v348, Gen.kernelRun0_A.sl.v35, Gen.kernelRun0_A.sl.v357, Gen.kernelRun0_A.sl.v389, Gen.kernelRun0_A.sl.v399, Gen.kernelRun0_A.sl.v4, Gen.kernelRun0_A.sl.v408, Gen.kernelRun0_A.sl.v429, Gen.kernelRun0_A.sl.v439, Gen.kernelRun0_A.sl.v44, Gen.kernelRun0_A.sl.v448, Gen.kernelRun0_A.sl.v480, Gen.kernelRun0_A.sl.v490, Gen.kernelRun0_A.sl.v499, Gen.kernelRun0_A.sl.v5, Gen.kernelRun0_A.sl.v520, Gen.kernelRun0_A.sl.v530, Gen.kernelRun0_A.sl.v539, Gen.kernelRun0_A.sl.v571, Gen.kernelRun0_A.sl.v581, Gen.kernelRun0_A.sl.v590, Gen.kernelRun0_A.sl.v611, Gen.kernelRun0_A.sl.v621, Gen.kernelRun0_A.sl.v630, Gen.kernelRun0_A.sl.v65, Gen.kernelRun0_A.sl.v662, Gen.kernelRun0_A.sl.v672, Gen.kernelRun0_A.sl.v681, Gen.kernelRun0_A.sl.v702, Gen.kernelRun0_A.sl.v712, Gen.kernelRun0_A.sl.v721, Gen.kernelRun0_A.sl.v75, Gen.kernelRun0_A.sl.v84, Gen.kernelRun0_A.sl.HS0_1, Gen.kernelRun0_A.sl.HS0_10, Gen.kernelRun0_A.sl.HS0_11, Gen.kernelRun0_A.sl.HS0_12, Gen.kernelRun0_A.sl.HS0_13, Gen.kernelRun0_A.sl.HS0_14, Gen.kernelRun0_A.sl.HS0_15, Gen.kernelRun0_A.sl.HS0_16, Gen.kernelRun0_A.sl.HS0_2, Gen.kernelRun0_A.sl.HS0_3, Gen.kernelRun0_A.sl.HS0_4, Gen.kernelRun0_A.sl.HS0_5, Gen.kernelRun0_A.sl.HS0_6, Gen.kernelRun0_A.sl.HS0_7, Gen.kernelRun0_A.sl.HS0_8, Gen.kernelRun0_A.sl.HS0_9, Gen.kernelRun0_A.sl.HS1_1, Gen.kernelRun0_A.sl.HS1_10, Gen.kernelRun0_A.sl.HS1_11, Gen.kernelRun0_A.sl.HS1_12, Gen.kernelRun0_A.sl.HS1_13, Gen.kernelRun0_A.sl.HS1_14, Gen.kernelRun0_A.sl.HS1_15, Gen.kernelRun0_A.sl.HS1_16, Gen.kernelRun0_A.sl.HS1_2, Gen.kernelRun0_A.sl.HS1_3, Gen.kernelRun0_A.sl.HS1_4, Gen.kernelRun0_A.sl.HS1_5, Gen.kernelRun0_A.sl.HS1_6, Gen.kernelRun0_A.sl.HS1_7, Gen.kernelRun0_A.sl.HS1_8, Gen.kernelRun0_A.sl.HS1_9, Gen.kernelRun0_A.sl.HS2_1, Gen.kernelRun0_A.sl.HS2_10, Gen.kernelRun0_A.sl.HS2_11, Gen.kernelRun0_A.sl.HS2_12, Gen.kernelRun0_A.sl.HS2_13, Gen.kernelRun0_A.sl.HS2_14, Gen.kernelRun0_A.sl.HS2_15, Gen.kernelRun0_A.sl.HS2_16, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, View.readCov_skip, View.readCov_cons_toLoadRect, View.readCov_fill, View.readAt_eq_ld, Memref.IsWhole.read_unread]
  funext y
  refine (canon_append_of_cover _ [_, _, _, _, _, _, _, _, _, _, _, _, _, _, _, _] y ?_).trans ?_
  · exact View.cover_of_tiledL (s := S16x16x1) _ S1x16x1.size (by sl_kernel_rfl) y
  canon_tiles x h
  case piece0 => exact Eq.trans (congrFun (by rfl) x) (stack1_at (headM x0 x1 x3 (part1 k0_pay201)) 15 x y h0 h1 h2)
  case piece1 => exact Eq.trans (congrFun (by rfl) x) (stack1_at (headM x0 x1 x3 (part1 k0_pay201)) 14 x y h0 h1 h2)
  case piece2 => exact Eq.trans (congrFun (by rfl) x) (stack1_at (headM x0 x1 x3 (part1 k0_pay201)) 13 x y h0 h1 h2)
  case piece3 => exact Eq.trans (congrFun (by rfl) x) (stack1_at (headM x0 x1 x3 (part1 k0_pay201)) 12 x y h0 h1 h2)
  case piece4 => exact Eq.trans (congrFun (by rfl) x) (stack1_at (headM x0 x1 x3 (part1 k0_pay201)) 11 x y h0 h1 h2)
  case piece5 => exact Eq.trans (congrFun (by rfl) x) (stack1_at (headM x0 x1 x3 (part1 k0_pay201)) 10 x y h0 h1 h2)
  case piece6 => exact Eq.trans (congrFun (by rfl) x) (stack1_at (headM x0 x1 x3 (part1 k0_pay201)) 9 x y h0 h1 h2)
  case piece7 => exact Eq.trans (congrFun (by rfl) x) (stack1_at (headM x0 x1 x3 (part1 k0_pay201)) 8 x y h0 h1 h2)
  case piece8 => exact Eq.trans (congrFun (by rfl) x) (stack1_at (headM x0 x1 x3 (part1 k0_pay201)) 7 x y h0 h1 h2)
  case piece9 => exact Eq.trans (congrFun (by rfl) x) (stack1_at (headM x0 x1 x3 (part1 k0_pay201)) 6 x y h0 h1 h2)
  case piece10 => exact Eq.trans (congrFun (by rfl) x) (stack1_at (headM x0 x1 x3 (part1 k0_pay201)) 5 x y h0 h1 h2)
  case piece11 => exact Eq.trans (congrFun (by rfl) x) (stack1_at (headM x0 x1 x3 (part1 k0_pay201)) 4 x y h0 h1 h2)
  case piece12 => exact Eq.trans (congrFun (by rfl) x) (stack1_at (headM x0 x1 x3 (part1 k0_pay201)) 3 x y h0 h1 h2)
  case piece13 => exact Eq.trans (congrFun (by rfl) x) (stack1_at (headM x0 x1 x3 (part1 k0_pay201)) 2 x y h0 h1 h2)
  case piece14 => exact Eq.trans (congrFun (by rfl) x) (stack1_at (headM x0 x1 x3 (part1 k0_pay201)) 1 x y h0 h1 h2)
  case piece15 => exact Eq.trans (congrFun (by rfl) x) (stack1_at (headM x0 x1 x3 (part1 k0_pay201)) 0 x y (by simpa using h0) h1 h2)

theorem sout_A_1 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stack1 (headL x0 x1 x3 (part1 k0_pay201) (part1 k0_pay202)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  simp (disch := decide) only [Gen.kernelRun0_A.sl.cst_309, Gen.kernelRun0_A.sl.cst_331, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_55, Gen.kernelRun0_A.sl.r_56, Gen.kernelRun0_A.sl.r_57, Gen.kernelRun0_A.sl.r_58, Gen.kernelRun0_A.sl.r_59, Gen.kernelRun0_A.sl.r_6, Gen.kernelRun0_A.sl.r_60, Gen.kernelRun0_A.sl.r_61, Gen.kernelRun0_A.sl.r_62, Gen.kernelRun0_A.sl.r_63, Gen.kernelRun0_A.sl.r_64, Gen.kernelRun0_A.sl.r_65, Gen.kernelRun0_A.sl.r_66, Gen.kernelRun0_A.sl.r_67, Gen.kernelRun0_A.sl.r_68, Gen.kernelRun0_A.sl.r_69, Gen.kernelRun0_A.sl.r_7, Gen.kernelRun0_A.sl.r_70, Gen.kernelRun0_A.sl.r_71, Gen.kernelRun0_A.sl.r_72, Gen.kernelRun0_A.sl.r_73, Gen.kernelRun0_A.sl.r_74, Gen.kernelRun0_A.sl.r_75, Gen.kernelRun0_A.sl.r_76, Gen.kernelRun0_A.sl.r_77, Gen.kernelRun0_A.sl.r_78, Gen.kernelRun0_A.sl.r_79, Gen.kernelRun0_A.sl.r_8, Gen.kernelRun0_A.sl.r_9, Gen.kernelRun0_A.sl.v116, Gen.kernelRun0_A.sl.v126, Gen.kernelRun0_A.sl.v135, Gen.kernelRun0_A.sl.v156, Gen.kernelRun0_A.sl.v166, Gen.kernelRun0_A.sl.v175, Gen.kernelRun0_A.sl.v207, Gen.kernelRun0_A.sl.v217, Gen.kernelRun0_A.sl.v226, Gen.kernelRun0_A.sl.v247, Gen.kernelRun0_A.sl.v25, Gen.kernelRun0_A.sl.v257, Gen.kernelRun0_A.sl.v266, Gen.kernelRun0_A.sl.v298, Gen.kernelRun0_A.sl.v3, Gen.kernelRun0_A.sl.v308, Gen.kernelRun0_A.sl.v317, Gen.kernelRun0_A.sl.v338, Gen.kernelRun0_A.sl.v348, Gen.kernelRun0_A.sl.v35, Gen.kernelRun0_A.sl.v357, Gen.kernelRun0_A.sl.v389, Gen.kernelRun0_A.sl.v399, Gen.kernelRun0_A.sl.v4, Gen.kernelRun0_A.sl.v408, Gen.kernelRun0_A.sl.v429, Gen.kernelRun0_A.sl.v439, Gen.kernelRun0_A.sl.v44, Gen.kernelRun0_A.sl.v448, Gen.kernelRun0_A.sl.v480, Gen.kernelRun0_A.sl.v490, Gen.kernelRun0_A.sl.v499, Gen.kernelRun0_A.sl.v5, Gen.kernelRun0_A.sl.v520, Gen.kernelRun0_A.sl.v530, Gen.kernelRun0_A.sl.v539, Gen.kernelRun0_A.sl.v571, Gen.kernelRun0_A.sl.v581, Gen.kernelRun0_A.sl.v590, Gen.kernelRun0_A.sl.v611, Gen.kernelRun0_A.sl.v621, Gen.kernelRun0_A.sl.v630, Gen.kernelRun0_A.sl.v65, Gen.kernelRun0_A.sl.v662, Gen.kernelRun0_A.sl.v672, Gen.kernelRun0_A.sl.v681, Gen.kernelRun0_A.sl.v702, Gen.kernelRun0_A.sl.v712, Gen.kernelRun0_A.sl.v721, Gen.kernelRun0_A.sl.v75, Gen.kernelRun0_A.sl.v84, Gen.kernelRun0_A.sl.HS0_1, Gen.kernelRun0_A.sl.HS0_10, Gen.kernelRun0_A.sl.HS0_11, Gen.kernelRun0_A.sl.HS0_12, Gen.kernelRun0_A.sl.HS0_13, Gen.kernelRun0_A.sl.HS0_14, Gen.kernelRun0_A.sl.HS0_15, Gen.kernelRun0_A.sl.HS0_16, Gen.kernelRun0_A.sl.HS0_2, Gen.kernelRun0_A.sl.HS0_3, Gen.kernelRun0_A.sl.HS0_4, Gen.kernelRun0_A.sl.HS0_5, Gen.kernelRun0_A.sl.HS0_6, Gen.kernelRun0_A.sl.HS0_7, Gen.kernelRun0_A.sl.HS0_8, Gen.kernelRun0_A.sl.HS0_9, Gen.kernelRun0_A.sl.HS1_1, Gen.kernelRun0_A.sl.HS1_10, Gen.kernelRun0_A.sl.HS1_11, Gen.kernelRun0_A.sl.HS1_12, Gen.kernelRun0_A.sl.HS1_13, Gen.kernelRun0_A.sl.HS1_14, Gen.kernelRun0_A.sl.HS1_15, Gen.kernelRun0_A.sl.HS1_16, Gen.kernelRun0_A.sl.HS1_2, Gen.kernelRun0_A.sl.HS1_3, Gen.kernelRun0_A.sl.HS1_4, Gen.kernelRun0_A.sl.HS1_5, Gen.kernelRun0_A.sl.HS1_6, Gen.kernelRun0_A.sl.HS1_7, Gen.kernelRun0_A.sl.HS1_8, Gen.kernelRun0_A.sl.HS1_9, Gen.kernelRun0_A.sl.HS2_1, Gen.kernelRun0_A.sl.HS2_10, Gen.kernelRun0_A.sl.HS2_11, Gen.kernelRun0_A.sl.HS2_12, Gen.kernelRun0_A.sl.HS2_13, Gen.kernelRun0_A.sl.HS2_14, Gen.kernelRun0_A.sl.HS2_15, Gen.kernelRun0_A.sl.HS2_16, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, View.readCov_skip, View.readCov_cons_toLoadRect, View.readCov_fill, View.readAt_eq_ld, Memref.IsWhole.read_unread]
  funext y
  refine (canon_append_of_cover _ [_, _, _, _, _, _, _, _, _, _, _, _, _, _, _, _] y ?_).trans ?_
  · exact View.cover_of_tiledL (s := S16x16x1) _ S1x16x1.size (by sl_kernel_rfl) y
  canon_tiles x h
  case piece0 => exact Eq.trans (congrFun (by rfl) x) (stack1_at (headL x0 x1 x3 (part1 k0_pay201) (part1 k0_pay202)) 15 x y h0 h1 h2)
  case piece1 => exact Eq.trans (congrFun (by rfl) x) (stack1_at (headL x0 x1 x3 (part1 k0_pay201) (part1 k0_pay202)) 14 x y h0 h1 h2)
  case piece2 => exact Eq.trans (congrFun (by rfl) x) (stack1_at (headL x0 x1 x3 (part1 k0_pay201) (part1 k0_pay202)) 13 x y h0 h1 h2)
  case piece3 => exact Eq.trans (congrFun (by rfl) x) (stack1_at (headL x0 x1 x3 (part1 k0_pay201) (part1 k0_pay202)) 12 x y h0 h1 h2)
  case piece4 => exact Eq.trans (congrFun (by rfl) x) (stack1_at (headL x0 x1 x3 (part1 k0_pay201) (part1 k0_pay202)) 11 x y h0 h1 h2)
  case piece5 => exact Eq.trans (congrFun (by rfl) x) (stack1_at (headL x0 x1 x3 (part1 k0_pay201) (part1 k0_pay202)) 10 x y h0 h1 h2)
  case piece6 => exact Eq.trans (congrFun (by rfl) x) (stack1_at (headL x0 x1 x3 (part1 k0_pay201) (part1 k0_pay202)) 9 x y h0 h1 h2)
  case piece7 => exact Eq.trans (congrFun (by rfl) x) (stack1_at (headL x0 x1 x3 (part1 k0_pay201) (part1 k0_pay202)) 8 x y h0 h1 h2)
  case piece8 => exact Eq.trans (congrFun (by rfl) x) (stack1_at (headL x0 x1 x3 (part1 k0_pay201) (part1 k0_pay202)) 7 x y h0 h1 h2)
  case piece9 => exact Eq.trans (congrFun (by rfl) x) (stack1_at (headL x0 x1 x3 (part1 k0_pay201) (part1 k0_pay202)) 6 x y h0 h1 h2)
  case piece10 => exact Eq.trans (congrFun (by rfl) x) (stack1_at (headL x0 x1 x3 (part1 k0_pay201) (part1 k0_pay202)) 5 x y h0 h1 h2)
  case piece11 => exact Eq.trans (congrFun (by rfl) x) (stack1_at (headL x0 x1 x3 (part1 k0_pay201) (part1 k0_pay202)) 4 x y h0 h1 h2)
  case piece12 => exact Eq.trans (congrFun (by rfl) x) (stack1_at (headL x0 x1 x3 (part1 k0_pay201) (part1 k0_pay202)) 3 x y h0 h1 h2)
  case piece13 => exact Eq.trans (congrFun (by rfl) x) (stack1_at (headL x0 x1 x3 (part1 k0_pay201) (part1 k0_pay202)) 2 x y h0 h1 h2)
  case piece14 => exact Eq.trans (congrFun (by rfl) x) (stack1_at (headL x0 x1 x3 (part1 k0_pay201) (part1 k0_pay202)) 1 x y h0 h1 h2)
  case piece15 => exact Eq.trans (congrFun (by rfl) x) (stack1_at (headL x0 x1 x3 (part1 k0_pay201) (part1 k0_pay202)) 0 x y (by simpa using h0) h1 h2)

theorem sout_A_2 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stack128 (headA x0 x1 x2 x3 (part1 k0_pay201) (part128 k0_pay203)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  simp (disch := decide) only [Gen.kernelRun0_A.sl.cst_309, Gen.kernelRun0_A.sl.cst_331, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_55, Gen.kernelRun0_A.sl.r_56, Gen.kernelRun0_A.sl.r_57, Gen.kernelRun0_A.sl.r_58, Gen.kernelRun0_A.sl.r_59, Gen.kernelRun0_A.sl.r_6, Gen.kernelRun0_A.sl.r_60, Gen.kernelRun0_A.sl.r_61, Gen.kernelRun0_A.sl.r_62, Gen.kernelRun0_A.sl.r_63, Gen.kernelRun0_A.sl.r_64, Gen.kernelRun0_A.sl.r_65, Gen.kernelRun0_A.sl.r_66, Gen.kernelRun0_A.sl.r_67, Gen.kernelRun0_A.sl.r_68, Gen.kernelRun0_A.sl.r_69, Gen.kernelRun0_A.sl.r_7, Gen.kernelRun0_A.sl.r_70, Gen.kernelRun0_A.sl.r_71, Gen.kernelRun0_A.sl.r_72, Gen.kernelRun0_A.sl.r_73, Gen.kernelRun0_A.sl.r_74, Gen.kernelRun0_A.sl.r_75, Gen.kernelRun0_A.sl.r_76, Gen.kernelRun0_A.sl.r_77, Gen.kernelRun0_A.sl.r_78, Gen.kernelRun0_A.sl.r_79, Gen.kernelRun0_A.sl.r_8, Gen.kernelRun0_A.sl.r_9, Gen.kernelRun0_A.sl.v116, Gen.kernelRun0_A.sl.v126, Gen.kernelRun0_A.sl.v135, Gen.kernelRun0_A.sl.v156, Gen.kernelRun0_A.sl.v166, Gen.kernelRun0_A.sl.v175, Gen.kernelRun0_A.sl.v207, Gen.kernelRun0_A.sl.v217, Gen.kernelRun0_A.sl.v226, Gen.kernelRun0_A.sl.v247, Gen.kernelRun0_A.sl.v25, Gen.kernelRun0_A.sl.v257, Gen.kernelRun0_A.sl.v266, Gen.kernelRun0_A.sl.v298, Gen.kernelRun0_A.sl.v3, Gen.kernelRun0_A.sl.v308, Gen.kernelRun0_A.sl.v317, Gen.kernelRun0_A.sl.v338, Gen.kernelRun0_A.sl.v348, Gen.kernelRun0_A.sl.v35, Gen.kernelRun0_A.sl.v357, Gen.kernelRun0_A.sl.v389, Gen.kernelRun0_A.sl.v399, Gen.kernelRun0_A.sl.v4, Gen.kernelRun0_A.sl.v408, Gen.kernelRun0_A.sl.v429, Gen.kernelRun0_A.sl.v439, Gen.kernelRun0_A.sl.v44, Gen.kernelRun0_A.sl.v448, Gen.kernelRun0_A.sl.v480, Gen.kernelRun0_A.sl.v490, Gen.kernelRun0_A.sl.v499, Gen.kernelRun0_A.sl.v5, Gen.kernelRun0_A.sl.v520, Gen.kernelRun0_A.sl.v530, Gen.kernelRun0_A.sl.v539, Gen.kernelRun0_A.sl.v571, Gen.kernelRun0_A.sl.v581, Gen.kernelRun0_A.sl.v590, Gen.kernelRun0_A.sl.v611, Gen.kernelRun0_A.sl.v621, Gen.kernelRun0_A.sl.v630, Gen.kernelRun0_A.sl.v65, Gen.kernelRun0_A.sl.v662, Gen.kernelRun0_A.sl.v672, Gen.kernelRun0_A.sl.v681, Gen.kernelRun0_A.sl.v702, Gen.kernelRun0_A.sl.v712, Gen.kernelRun0_A.sl.v721, Gen.kernelRun0_A.sl.v75, Gen.kernelRun0_A.sl.v84, Gen.kernelRun0_A.sl.HS0_1, Gen.kernelRun0_A.sl.HS0_10, Gen.kernelRun0_A.sl.HS0_11, Gen.kernelRun0_A.sl.HS0_12, Gen.kernelRun0_A.sl.HS0_13, Gen.kernelRun0_A.sl.HS0_14, Gen.kernelRun0_A.sl.HS0_15, Gen.kernelRun0_A.sl.HS0_16, Gen.kernelRun0_A.sl.HS0_2, Gen.kernelRun0_A.sl.HS0_3, Gen.kernelRun0_A.sl.HS0_4, Gen.kernelRun0_A.sl.HS0_5, Gen.kernelRun0_A.sl.HS0_6, Gen.kernelRun0_A.sl.HS0_7, Gen.kernelRun0_A.sl.HS0_8, Gen.kernelRun0_A.sl.HS0_9, Gen.kernelRun0_A.sl.HS1_1, Gen.kernelRun0_A.sl.HS1_10, Gen.kernelRun0_A.sl.HS1_11, Gen.kernelRun0_A.sl.HS1_12, Gen.kernelRun0_A.sl.HS1_13, Gen.kernelRun0_A.sl.HS1_14, Gen.kernelRun0_A.sl.HS1_15, Gen.kernelRun0_A.sl.HS1_16, Gen.kernelRun0_A.sl.HS1_2, Gen.kernelRun0_A.sl.HS1_3, Gen.kernelRun0_A.sl.HS1_4, Gen.kernelRun0_A.sl.HS1_5, Gen.kernelRun0_A.sl.HS1_6, Gen.kernelRun0_A.sl.HS1_7, Gen.kernelRun0_A.sl.HS1_8, Gen.kernelRun0_A.sl.HS1_9, Gen.kernelRun0_A.sl.HS2_1, Gen.kernelRun0_A.sl.HS2_10, Gen.kernelRun0_A.sl.HS2_11, Gen.kernelRun0_A.sl.HS2_12, Gen.kernelRun0_A.sl.HS2_13, Gen.kernelRun0_A.sl.HS2_14, Gen.kernelRun0_A.sl.HS2_15, Gen.kernelRun0_A.sl.HS2_16, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, View.readCov_skip, View.readCov_cons_toLoadRect, View.readCov_fill, View.readAt_eq_ld, Memref.IsWhole.read_unread]
  funext y
  refine (canon_append_of_cover _ [_, _, _, _, _, _, _, _, _, _, _, _, _, _, _, _] y ?_).trans ?_
  · exact View.cover_of_tiledL (s := S16x16x128) _ S1x16x128.size (by sl_kernel_rfl) y
  canon_tiles x h
  case piece0 => exact Eq.trans (congrFun (by rfl) x) (stack128_at (headA x0 x1 x2 x3 (part1 k0_pay201) (part128 k0_pay203)) 15 x y h0 h1 h2)
  case piece1 => exact Eq.trans (congrFun (by rfl) x) (stack128_at (headA x0 x1 x2 x3 (part1 k0_pay201) (part128 k0_pay203)) 14 x y h0 h1 h2)
  case piece2 => exact Eq.trans (congrFun (by rfl) x) (stack128_at (headA x0 x1 x2 x3 (part1 k0_pay201) (part128 k0_pay203)) 13 x y h0 h1 h2)
  case piece3 => exact Eq.trans (congrFun (by rfl) x) (stack128_at (headA x0 x1 x2 x3 (part1 k0_pay201) (part128 k0_pay203)) 12 x y h0 h1 h2)
  case piece4 => exact Eq.trans (congrFun (by rfl) x) (stack128_at (headA x0 x1 x2 x3 (part1 k0_pay201) (part128 k0_pay203)) 11 x y h0 h1 h2)
  case piece5 => exact Eq.trans (congrFun (by rfl) x) (stack128_at (headA x0 x1 x2 x3 (part1 k0_pay201) (part128 k0_pay203)) 10 x y h0 h1 h2)
  case piece6 => exact Eq.trans (congrFun (by rfl) x) (stack128_at (headA x0 x1 x2 x3 (part1 k0_pay201) (part128 k0_pay203)) 9 x y h0 h1 h2)
  case piece7 => exact Eq.trans (congrFun (by rfl) x) (stack128_at (headA x0 x1 x2 x3 (part1 k0_pay201) (part128 k0_pay203)) 8 x y h0 h1 h2)
  case piece8 => exact Eq.trans (congrFun (by rfl) x) (stack128_at (headA x0 x1 x2 x3 (part1 k0_pay201) (part128 k0_pay203)) 7 x y h0 h1 h2)
  case piece9 => exact Eq.trans (congrFun (by rfl) x) (stack128_at (headA x0 x1 x2 x3 (part1 k0_pay201) (part128 k0_pay203)) 6 x y h0 h1 h2)
  case piece10 => exact Eq.trans (congrFun (by rfl) x) (stack128_at (headA x0 x1 x2 x3 (part1 k0_pay201) (part128 k0_pay203)) 5 x y h0 h1 h2)
  case piece11 => exact Eq.trans (congrFun (by rfl) x) (stack128_at (headA x0 x1 x2 x3 (part1 k0_pay201) (part128 k0_pay203)) 4 x y h0 h1 h2)
  case piece12 => exact Eq.trans (congrFun (by rfl) x) (stack128_at (headA x0 x1 x2 x3 (part1 k0_pay201) (part128 k0_pay203)) 3 x y h0 h1 h2)
  case piece13 => exact Eq.trans (congrFun (by rfl) x) (stack128_at (headA x0 x1 x2 x3 (part1 k0_pay201) (part128 k0_pay203)) 2 x y h0 h1 h2)
  case piece14 => exact Eq.trans (congrFun (by rfl) x) (stack128_at (headA x0 x1 x2 x3 (part1 k0_pay201) (part128 k0_pay203)) 1 x y h0 h1 h2)
  case piece15 => exact Eq.trans (congrFun (by rfl) x) (stack128_at (headA x0 x1 x2 x3 (part1 k0_pay201) (part128 k0_pay203)) 0 x y (by simpa using h0) h1 h2)

end Cert.KernelIdeal.Step

end
-- ==== Proof.SampleB.lean ====
/- What case B of the sample attention's body leaves, read off the frame certificate's recorded stores:
   one step over the point's block of cached keys, for each of the 16 heads. -/
module

public import proofs.«01_k».proof.Proof.SampleStep
public import Idealize.ShloMosaic.Lib.Pipeline.ReadBack
public import Idealize.ShloMosaic.Lib.Pipeline.ValueKit

@[expose] public section

set_option maxRecDepth 100000
set_option maxHeartbeats 4000000

noncomputable section

namespace Cert.KernelIdeal.Step

open Cert.KernelIdeal Cert.KernelIdeal.Gen Idealize.ShloMosaic

variable {F : FTy → Type} [FloatOps F] [Named F]

theorem sout_B_0 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : ¬cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) (xs0 : Vec F S16x16x1 .f32) (xs1 : Vec F S16x16x1 .f32) (xs2 : Vec F S16x16x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stack1 (headM x0 x1 x3 (part1 xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  simp only [Gen.kernelRun0_B.sl.cst_309, Gen.kernelRun0_B.sl.cst_331, Gen.kernelRun0_B.sl.r, Gen.kernelRun0_B.sl.r_1, Gen.kernelRun0_B.sl.r_10, Gen.kernelRun0_B.sl.r_11, Gen.kernelRun0_B.sl.r_12, Gen.kernelRun0_B.sl.r_13, Gen.kernelRun0_B.sl.r_14, Gen.kernelRun0_B.sl.r_15, Gen.kernelRun0_B.sl.r_16, Gen.kernelRun0_B.sl.r_17, Gen.kernelRun0_B.sl.r_18, Gen.kernelRun0_B.sl.r_19, Gen.kernelRun0_B.sl.r_2, Gen.kernelRun0_B.sl.r_20, Gen.kernelRun0_B.sl.r_21, Gen.kernelRun0_B.sl.r_22, Gen.kernelRun0_B.sl.r_23, Gen.kernelRun0_B.sl.r_24, Gen.kernelRun0_B.sl.r_25, Gen.kernelRun0_B.sl.r_26, Gen.kernelRun0_B.sl.r_27, Gen.kernelRun0_B.sl.r_28, Gen.kernelRun0_B.sl.r_29, Gen.kernelRun0_B.sl.r_3, Gen.kernelRun0_B.sl.r_30, Gen.kernelRun0_B.sl.r_31, Gen.kernelRun0_B.sl.r_32, Gen.kernelRun0_B.sl.r_33, Gen.kernelRun0_B.sl.r_34, Gen.kernelRun0_B.sl.r_35, Gen.kernelRun0_B.sl.r_36, Gen.kernelRun0_B.sl.r_37, Gen.kernelRun0_B.sl.r_38, Gen.kernelRun0_B.sl.r_39, Gen.kernelRun0_B.sl.r_4, Gen.kernelRun0_B.sl.r_40, Gen.kernelRun0_B.sl.r_41, Gen.kernelRun0_B.sl.r_42, Gen.kernelRun0_B.sl.r_43, Gen.kernelRun0_B.sl.r_44, Gen.kernelRun0_B.sl.r_45, Gen.kernelRun0_B.sl.r_46, Gen.kernelRun0_B.sl.r_47, Gen.kernelRun0_B.sl.r_48, Gen.kernelRun0_B.sl.r_49, Gen.kernelRun0_B.sl.r_5, Gen.kernelRun0_B.sl.r_50, Gen.kernelRun0_B.sl.r_51, Gen.kernelRun0_B.sl.r_52, Gen.kernelRun0_B.sl.r_53, Gen.kernelRun0_B.sl.r_54, Gen.kernelRun0_B.sl.r_55, Gen.kernelRun0_B.sl.r_56, Gen.kernelRun0_B.sl.r_57, Gen.kernelRun0_B.sl.r_58, Gen.kernelRun0_B.sl.r_59, Gen.kernelRun0_B.sl.r_6, Gen.kernelRun0_B.sl.r_60, Gen.kernelRun0_B.sl.r_61, Gen.kernelRun0_B.sl.r_62, Gen.kernelRun0_B.sl.r_63, Gen.kernelRun0_B.sl.r_64, Gen.kernelRun0_B.sl.r_65, Gen.kernelRun0_B.sl.r_66, Gen.kernelRun0_B.sl.r_67, Gen.kernelRun0_B.sl.r_68, Gen.kernelRun0_B.sl.r_69, Gen.kernelRun0_B.sl.r_7, Gen.kernelRun0_B.sl.r_70, Gen.kernelRun0_B.sl.r_71, Gen.kernelRun0_B.sl.r_72, Gen.kernelRun0_B.sl.r_73, Gen.kernelRun0_B.sl.r_74, Gen.kernelRun0_B.sl.r_75, Gen.kernelRun0_B.sl.r_76, Gen.kernelRun0_B.sl.r_77, Gen.kernelRun0_B.sl.r_78, Gen.kernelRun0_B.sl.r_79, Gen.kernelRun0_B.sl.r_8, Gen.kernelRun0_B.sl.r_9, Gen.kernelRun0_B.sl.v116, Gen.kernelRun0_B.sl.v126, Gen.kernelRun0_B.sl.v135, Gen.kernelRun0_B.sl.v156, Gen.kernelRun0_B.sl.v166, Gen.kernelRun0_B.sl.v175, Gen.kernelRun0_B.sl.v207, Gen.kernelRun0_B.sl.v217, Gen.kernelRun0_B.sl.v226, Gen.kernelRun0_B.sl.v247, Gen.kernelRun0_B.sl.v257, Gen.kernelRun0_B.sl.v266, Gen.kernelRun0_B.sl.v298, Gen.kernelRun0_B.sl.v3, Gen.kernelRun0_B.sl.v308, Gen.kernelRun0_B.sl.v317, Gen.kernelRun0_B.sl.v338, Gen.kernelRun0_B.sl.v348, Gen.kernelRun0_B.sl.v357, Gen.kernelRun0_B.sl.v389, Gen.kernelRun0_B.sl.v399, Gen.kernelRun0_B.sl.v4, Gen.kernelRun0_B.sl.v408, Gen.kernelRun0_B.sl.v429, Gen.kernelRun0_B.sl.v439, Gen.kernelRun0_B.sl.v448, Gen.kernelRun0_B.sl.v480, Gen.kernelRun0_B.sl.v490, Gen.kernelRun0_B.sl.v499, Gen.kernelRun0_B.sl.v5, Gen.kernelRun0_B.sl.v520, Gen.kernelRun0_B.sl.v530, Gen.kernelRun0_B.sl.v539, Gen.kernelRun0_B.sl.v571, Gen.kernelRun0_B.sl.v581, Gen.kernelRun0_B.sl.v590, Gen.kernelRun0_B.sl.v611, Gen.kernelRun0_B.sl.v621, Gen.kernelRun0_B.sl.v630, Gen.kernelRun0_B.sl.v65, Gen.kernelRun0_B.sl.v662, Gen.kernelRun0_B.sl.v672, Gen.kernelRun0_B.sl.v681, Gen.kernelRun0_B.sl.v702, Gen.kernelRun0_B.sl.v712, Gen.kernelRun0_B.sl.v721, Gen.kernelRun0_B.sl.v75, Gen.kernelRun0_B.sl.v84, View.readAt_eq_ld, Memref.IsWhole.read_unread]
  funext y
  canon_tiles x h
  case piece0 => exact Eq.trans (congrFun (by rfl) x) (stack1_at (headM x0 x1 x3 (part1 xs0)) 15 x y h0 h1 h2)
  case piece1 => exact Eq.trans (congrFun (by rfl) x) (stack1_at (headM x0 x1 x3 (part1 xs0)) 14 x y h0 h1 h2)
  case piece2 => exact Eq.trans (congrFun (by rfl) x) (stack1_at (headM x0 x1 x3 (part1 xs0)) 13 x y h0 h1 h2)
  case piece3 => exact Eq.trans (congrFun (by rfl) x) (stack1_at (headM x0 x1 x3 (part1 xs0)) 12 x y h0 h1 h2)
  case piece4 => exact Eq.trans (congrFun (by rfl) x) (stack1_at (headM x0 x1 x3 (part1 xs0)) 11 x y h0 h1 h2)
  case piece5 => exact Eq.trans (congrFun (by rfl) x) (stack1_at (headM x0 x1 x3 (part1 xs0)) 10 x y h0 h1 h2)
  case piece6 => exact Eq.trans (congrFun (by rfl) x) (stack1_at (headM x0 x1 x3 (part1 xs0)) 9 x y h0 h1 h2)
  case piece7 => exact Eq.trans (congrFun (by rfl) x) (stack1_at (headM x0 x1 x3 (part1 xs0)) 8 x y h0 h1 h2)
  case piece8 => exact Eq.trans (congrFun (by rfl) x) (stack1_at (headM x0 x1 x3 (part1 xs0)) 7 x y h0 h1 h2)
  case piece9 => exact Eq.trans (congrFun (by rfl) x) (stack1_at (headM x0 x1 x3 (part1 xs0)) 6 x y h0 h1 h2)
  case piece10 => exact Eq.trans (congrFun (by rfl) x) (stack1_at (headM x0 x1 x3 (part1 xs0)) 5 x y h0 h1 h2)
  case piece11 => exact Eq.trans (congrFun (by rfl) x) (stack1_at (headM x0 x1 x3 (part1 xs0)) 4 x y h0 h1 h2)
  case piece12 => exact Eq.trans (congrFun (by rfl) x) (stack1_at (headM x0 x1 x3 (part1 xs0)) 3 x y h0 h1 h2)
  case piece13 => exact Eq.trans (congrFun (by rfl) x) (stack1_at (headM x0 x1 x3 (part1 xs0)) 2 x y h0 h1 h2)
  case piece14 => exact Eq.trans (congrFun (by rfl) x) (stack1_at (headM x0 x1 x3 (part1 xs0)) 1 x y h0 h1 h2)
  case piece15 => exact Eq.trans (congrFun (by rfl) x) (stack1_at (headM x0 x1 x3 (part1 xs0)) 0 x y (by simpa using h0) h1 h2)

theorem sout_B_1 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : ¬cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) (xs0 : Vec F S16x16x1 .f32) (xs1 : Vec F S16x16x1 .f32) (xs2 : Vec F S16x16x128 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stack1 (headL x0 x1 x3 (part1 xs0) (part1 xs1)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  simp only [Gen.kernelRun0_B.sl.cst_309, Gen.kernelRun0_B.sl.cst_331, Gen.kernelRun0_B.sl.r, Gen.kernelRun0_B.sl.r_1, Gen.kernelRun0_B.sl.r_10, Gen.kernelRun0_B.sl.r_11, Gen.kernelRun0_B.sl.r_12, Gen.kernelRun0_B.sl.r_13, Gen.kernelRun0_B.sl.r_14, Gen.kernelRun0_B.sl.r_15, Gen.kernelRun0_B.sl.r_16, Gen.kernelRun0_B.sl.r_17, Gen.kernelRun0_B.sl.r_18, Gen.kernelRun0_B.sl.r_19, Gen.kernelRun0_B.sl.r_2, Gen.kernelRun0_B.sl.r_20, Gen.kernelRun0_B.sl.r_21, Gen.kernelRun0_B.sl.r_22, Gen.kernelRun0_B.sl.r_23, Gen.kernelRun0_B.sl.r_24, Gen.kernelRun0_B.sl.r_25, Gen.kernelRun0_B.sl.r_26, Gen.kernelRun0_B.sl.r_27, Gen.kernelRun0_B.sl.r_28, Gen.kernelRun0_B.sl.r_29, Gen.kernelRun0_B.sl.r_3, Gen.kernelRun0_B.sl.r_30, Gen.kernelRun0_B.sl.r_31, Gen.kernelRun0_B.sl.r_32, Gen.kernelRun0_B.sl.r_33, Gen.kernelRun0_B.sl.r_34, Gen.kernelRun0_B.sl.r_35, Gen.kernelRun0_B.sl.r_36, Gen.kernelRun0_B.sl.r_37, Gen.kernelRun0_B.sl.r_38, Gen.kernelRun0_B.sl.r_39, Gen.kernelRun0_B.sl.r_4, Gen.kernelRun0_B.sl.r_40, Gen.kernelRun0_B.sl.r_41, Gen.kernelRun0_B.sl.r_42, Gen.kernelRun0_B.sl.r_43, Gen.kernelRun0_B.sl.r_44, Gen.kernelRun0_B.sl.r_45, Gen.kernelRun0_B.sl.r_46, Gen.kernelRun0_B.sl.r_47, Gen.kernelRun0_B.sl.r_48, Gen.kernelRun0_B.sl.r_49, Gen.kernelRun0_B.sl.r_5, Gen.kernelRun0_B.sl.r_50, Gen.kernelRun0_B.sl.r_51, Gen.kernelRun0_B.sl.r_52, Gen.kernelRun0_B.sl.r_53, Gen.kernelRun0_B.sl.r_54, Gen.kernelRun0_B.sl.r_55, Gen.kernelRun0_B.sl.r_56, Gen.kernelRun0_B.sl.r_57, Gen.kernelRun0_B.sl.r_58, Gen.kernelRun0_B.sl.r_59, Gen.kernelRun0_B.sl.r_6, Gen.kernelRun0_B.sl.r_60, Gen.kernelRun0_B.sl.r_61, Gen.kernelRun0_B.sl.r_62, Gen.kernelRun0_B.sl.r_63, Gen.kernelRun0_B.sl.r_64, Gen.kernelRun0_B.sl.r_65, Gen.kernelRun0_B.sl.r_66, Gen.kernelRun0_B.sl.r_67, Gen.kernelRun0_B.sl.r_68, Gen.kernelRun0_B.sl.r_69, Gen.kernelRun0_B.sl.r_7, Gen.kernelRun0_B.sl.r_70, Gen.kernelRun0_B.sl.r_71, Gen.kernelRun0_B.sl.r_72, Gen.kernelRun0_B.sl.r_73, Gen.kernelRun0_B.sl.r_74, Gen.kernelRun0_B.sl.r_75, Gen.kernelRun0_B.sl.r_76, Gen.kernelRun0_B.sl.r_77, Gen.kernelRun0_B.sl.r_78, Gen.kernelRun0_B.sl.r_79, Gen.kernelRun0_B.sl.r_8, Gen.kernelRun0_B.sl.r_9, Gen.kernelRun0_B.sl.v116, Gen.kernelRun0_B.sl.v126, Gen.kernelRun0_B.sl.v135, Gen.kernelRun0_B.sl.v156, Gen.kernelRun0_B.sl.v166, Gen.kernelRun0_B.sl.v175, Gen.kernelRun0_B.sl.v207, Gen.kernelRun0_B.sl.v217, Gen.kernelRun0_B.sl.v226, Gen.kernelRun0_B.sl.v247, Gen.kernelRun0_B.sl.v257, Gen.kernelRun0_B.sl.v266, Gen.kernelRun0_B.sl.v298, Gen.kernelRun0_B.sl.v3, Gen.kernelRun0_B.sl.v308, Gen.kernelRun0_B.sl.v317, Gen.kernelRun0_B.sl.v338, Gen.kernelRun0_B.sl.v348, Gen.kernelRun0_B.sl.v357, Gen.kernelRun0_B.sl.v389, Gen.kernelRun0_B.sl.v399, Gen.kernelRun0_B.sl.v4, Gen.kernelRun0_B.sl.v408, Gen.kernelRun0_B.sl.v429, Gen.kernelRun0_B.sl.v439, Gen.kernelRun0_B.sl.v448, Gen.kernelRun0_B.sl.v480, Gen.kernelRun0_B.sl.v490, Gen.kernelRun0_B.sl.v499, Gen.kernelRun0_B.sl.v5, Gen.kernelRun0_B.sl.v520, Gen.kernelRun0_B.sl.v530, Gen.kernelRun0_B.sl.v539, Gen.kernelRun0_B.sl.v571, Gen.kernelRun0_B.sl.v581, Gen.kernelRun0_B.sl.v590, Gen.kernelRun0_B.sl.v611, Gen.kernelRun0_B.sl.v621, Gen.kernelRun0_B.sl.v630, Gen.kernelRun0_B.sl.v65, Gen.kernelRun0_B.sl.v662, Gen.kernelRun0_B.sl.v672, Gen.kernelRun0_B.sl.v681, Gen.kernelRun0_B.sl.v702, Gen.kernelRun0_B.sl.v712, Gen.kernelRun0_B.sl.v721, Gen.kernelRun0_B.sl.v75, Gen.kernelRun0_B.sl.v84, View.readAt_eq_ld, Memref.IsWhole.read_unread]
  funext y
  canon_tiles x h
  case piece0 => exact Eq.trans (congrFun (by rfl) x) (stack1_at (headL x0 x1 x3 (part1 xs0) (part1 xs1)) 15 x y h0 h1 h2)
  case piece1 => exact Eq.trans (congrFun (by rfl) x) (stack1_at (headL x0 x1 x3 (part1 xs0) (part1 xs1)) 14 x y h0 h1 h2)
  case piece2 => exact Eq.trans (congrFun (by rfl) x) (stack1_at (headL x0 x1 x3 (part1 xs0) (part1 xs1)) 13 x y h0 h1 h2)
  case piece3 => exact Eq.trans (congrFun (by rfl) x) (stack1_at (headL x0 x1 x3 (part1 xs0) (part1 xs1)) 12 x y h0 h1 h2)
  case piece4 => exact Eq.trans (congrFun (by rfl) x) (stack1_at (headL x0 x1 x3 (part1 xs0) (part1 xs1)) 11 x y h0 h1 h2)
  case piece5 => exact Eq.trans (congrFun (by rfl) x) (stack1_at (headL x0 x1 x3 (part1 xs0) (part1 xs1)) 10 x y h0 h1 h2)
  case piece6 => exact Eq.trans (congrFun (by rfl) x) (stack1_at (headL x0 x1 x3 (part1 xs0) (part1 xs1)) 9 x y h0 h1 h2)
  case piece7 => exact Eq.trans (congrFun (by rfl) x) (stack1_at (headL x0 x1 x3 (part1 xs0) (part1 xs1)) 8 x y h0 h1 h2)
  case piece8 => exact Eq.trans (congrFun (by rfl) x) (stack1_at (headL x0 x1 x3 (part1 xs0) (part1 xs1)) 7 x y h0 h1 h2)
  case piece9 => exact Eq.trans (congrFun (by rfl) x) (stack1_at (headL x0 x1 x3 (part1 xs0) (part1 xs1)) 6 x y h0 h1 h2)
  case piece10 => exact Eq.trans (congrFun (by rfl) x) (stack1_at (headL x0 x1 x3 (part1 xs0) (part1 xs1)) 5 x y h0 h1 h2)
  case piece11 => exact Eq.trans (congrFun (by rfl) x) (stack1_at (headL x0 x1 x3 (part1 xs0) (part1 xs1)) 4 x y h0 h1 h2)
  case piece12 => exact Eq.trans (congrFun (by rfl) x) (stack1_at (headL x0 x1 x3 (part1 xs0) (part1 xs1)) 3 x y h0 h1 h2)
  case piece13 => exact Eq.trans (congrFun (by rfl) x) (stack1_at (headL x0 x1 x3 (part1 xs0) (part1 xs1)) 2 x y h0 h1 h2)
  case piece14 => exact Eq.trans (congrFun (by rfl) x) (stack1_at (headL x0 x1 x3 (part1 xs0) (part1 xs1)) 1 x y h0 h1 h2)
  case piece15 => exact Eq.trans (congrFun (by rfl) x) (stack1_at (headL x0 x1 x3 (part1 xs0) (part1 xs1)) 0 x y (by simpa using h0) h1 h2)

theorem sout_B_2 (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : ¬cond0_0 i) (hc1 : ¬cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) (xs0 : Vec F S16x16x1 .f32) (xs1 : Vec F S16x16x1 .f32) (xs2 : Vec F S16x16x128 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stack128 (headA x0 x1 x2 x3 (part1 xs0) (part128 xs2)) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  simp only [Gen.kernelRun0_B.sl.cst_309, Gen.kernelRun0_B.sl.cst_331, Gen.kernelRun0_B.sl.r, Gen.kernelRun0_B.sl.r_1, Gen.kernelRun0_B.sl.r_10, Gen.kernelRun0_B.sl.r_11, Gen.kernelRun0_B.sl.r_12, Gen.kernelRun0_B.sl.r_13, Gen.kernelRun0_B.sl.r_14, Gen.kernelRun0_B.sl.r_15, Gen.kernelRun0_B.sl.r_16, Gen.kernelRun0_B.sl.r_17, Gen.kernelRun0_B.sl.r_18, Gen.kernelRun0_B.sl.r_19, Gen.kernelRun0_B.sl.r_2, Gen.kernelRun0_B.sl.r_20, Gen.kernelRun0_B.sl.r_21, Gen.kernelRun0_B.sl.r_22, Gen.kernelRun0_B.sl.r_23, Gen.kernelRun0_B.sl.r_24, Gen.kernelRun0_B.sl.r_25, Gen.kernelRun0_B.sl.r_26, Gen.kernelRun0_B.sl.r_27, Gen.kernelRun0_B.sl.r_28, Gen.kernelRun0_B.sl.r_29, Gen.kernelRun0_B.sl.r_3, Gen.kernelRun0_B.sl.r_30, Gen.kernelRun0_B.sl.r_31, Gen.kernelRun0_B.sl.r_32, Gen.kernelRun0_B.sl.r_33, Gen.kernelRun0_B.sl.r_34, Gen.kernelRun0_B.sl.r_35, Gen.kernelRun0_B.sl.r_36, Gen.kernelRun0_B.sl.r_37, Gen.kernelRun0_B.sl.r_38, Gen.kernelRun0_B.sl.r_39, Gen.kernelRun0_B.sl.r_4, Gen.kernelRun0_B.sl.r_40, Gen.kernelRun0_B.sl.r_41, Gen.kernelRun0_B.sl.r_42, Gen.kernelRun0_B.sl.r_43, Gen.kernelRun0_B.sl.r_44, Gen.kernelRun0_B.sl.r_45, Gen.kernelRun0_B.sl.r_46, Gen.kernelRun0_B.sl.r_47, Gen.kernelRun0_B.sl.r_48, Gen.kernelRun0_B.sl.r_49, Gen.kernelRun0_B.sl.r_5, Gen.kernelRun0_B.sl.r_50, Gen.kernelRun0_B.sl.r_51, Gen.kernelRun0_B.sl.r_52, Gen.kernelRun0_B.sl.r_53, Gen.kernelRun0_B.sl.r_54, Gen.kernelRun0_B.sl.r_55, Gen.kernelRun0_B.sl.r_56, Gen.kernelRun0_B.sl.r_57, Gen.kernelRun0_B.sl.r_58, Gen.kernelRun0_B.sl.r_59, Gen.kernelRun0_B.sl.r_6, Gen.kernelRun0_B.sl.r_60, Gen.kernelRun0_B.sl.r_61, Gen.kernelRun0_B.sl.r_62, Gen.kernelRun0_B.sl.r_63, Gen.kernelRun0_B.sl.r_64, Gen.kernelRun0_B.sl.r_65, Gen.kernelRun0_B.sl.r_66, Gen.kernelRun0_B.sl.r_67, Gen.kernelRun0_B.sl.r_68, Gen.kernelRun0_B.sl.r_69, Gen.kernelRun0_B.sl.r_7, Gen.kernelRun0_B.sl.r_70, Gen.kernelRun0_B.sl.r_71, Gen.kernelRun0_B.sl.r_72, Gen.kernelRun0_B.sl.r_73, Gen.kernelRun0_B.sl.r_74, Gen.kernelRun0_B.sl.r_75, Gen.kernelRun0_B.sl.r_76, Gen.kernelRun0_B.sl.r_77, Gen.kernelRun0_B.sl.r_78, Gen.kernelRun0_B.sl.r_79, Gen.kernelRun0_B.sl.r_8, Gen.kernelRun0_B.sl.r_9, Gen.kernelRun0_B.sl.v116, Gen.kernelRun0_B.sl.v126, Gen.kernelRun0_B.sl.v135, Gen.kernelRun0_B.sl.v156, Gen.kernelRun0_B.sl.v166, Gen.kernelRun0_B.sl.v175, Gen.kernelRun0_B.sl.v207, Gen.kernelRun0_B.sl.v217, Gen.kernelRun0_B.sl.v226, Gen.kernelRun0_B.sl.v247, Gen.kernelRun0_B.sl.v257, Gen.kernelRun0_B.sl.v266, Gen.kernelRun0_B.sl.v298, Gen.kernelRun0_B.sl.v3, Gen.kernelRun0_B.sl.v308, Gen.kernelRun0_B.sl.v317, Gen.kernelRun0_B.sl.v338, Gen.kernelRun0_B.sl.v348, Gen.kernelRun0_B.sl.v357, Gen.kernelRun0_B.sl.v389, Gen.kernelRun0_B.sl.v399, Gen.kernelRun0_B.sl.v4, Gen.kernelRun0_B.sl.v408, Gen.kernelRun0_B.sl.v429, Gen.kernelRun0_B.sl.v439, Gen.kernelRun0_B.sl.v448, Gen.kernelRun0_B.sl.v480, Gen.kernelRun0_B.sl.v490, Gen.kernelRun0_B.sl.v499, Gen.kernelRun0_B.sl.v5, Gen.kernelRun0_B.sl.v520, Gen.kernelRun0_B.sl.v530, Gen.kernelRun0_B.sl.v539, Gen.kernelRun0_B.sl.v571, Gen.kernelRun0_B.sl.v581, Gen.kernelRun0_B.sl.v590, Gen.kernelRun0_B.sl.v611, Gen.kernelRun0_B.sl.v621, Gen.kernelRun0_B.sl.v630, Gen.kernelRun0_B.sl.v65, Gen.kernelRun0_B.sl.v662, Gen.kernelRun0_B.sl.v672, Gen.kernelRun0_B.sl.v681, Gen.kernelRun0_B.sl.v702, Gen.kernelRun0_B.sl.v712, Gen.kernelRun0_B.sl.v721, Gen.kernelRun0_B.sl.v75, Gen.kernelRun0_B.sl.v84, View.readAt_eq_ld, Memref.IsWhole.read_unread]
  funext y
  canon_tiles x h
  case piece0 => exact Eq.trans (congrFun (by rfl) x) (stack128_at (headA x0 x1 x2 x3 (part1 xs0) (part128 xs2)) 15 x y h0 h1 h2)
  case piece1 => exact Eq.trans (congrFun (by rfl) x) (stack128_at (headA x0 x1 x2 x3 (part1 xs0) (part128 xs2)) 14 x y h0 h1 h2)
  case piece2 => exact Eq.trans (congrFun (by rfl) x) (stack128_at (headA x0 x1 x2 x3 (part1 xs0) (part128 xs2)) 13 x y h0 h1 h2)
  case piece3 => exact Eq.trans (congrFun (by rfl) x) (stack128_at (headA x0 x1 x2 x3 (part1 xs0) (part128 xs2)) 12 x y h0 h1 h2)
  case piece4 => exact Eq.trans (congrFun (by rfl) x) (stack128_at (headA x0 x1 x2 x3 (part1 xs0) (part128 xs2)) 11 x y h0 h1 h2)
  case piece5 => exact Eq.trans (congrFun (by rfl) x) (stack128_at (headA x0 x1 x2 x3 (part1 xs0) (part128 xs2)) 10 x y h0 h1 h2)
  case piece6 => exact Eq.trans (congrFun (by rfl) x) (stack128_at (headA x0 x1 x2 x3 (part1 xs0) (part128 xs2)) 9 x y h0 h1 h2)
  case piece7 => exact Eq.trans (congrFun (by rfl) x) (stack128_at (headA x0 x1 x2 x3 (part1 xs0) (part128 xs2)) 8 x y h0 h1 h2)
  case piece8 => exact Eq.trans (congrFun (by rfl) x) (stack128_at (headA x0 x1 x2 x3 (part1 xs0) (part128 xs2)) 7 x y h0 h1 h2)
  case piece9 => exact Eq.trans (congrFun (by rfl) x) (stack128_at (headA x0 x1 x2 x3 (part1 xs0) (part128 xs2)) 6 x y h0 h1 h2)
  case piece10 => exact Eq.trans (congrFun (by rfl) x) (stack128_at (headA x0 x1 x2 x3 (part1 xs0) (part128 xs2)) 5 x y h0 h1 h2)
  case piece11 => exact Eq.trans (congrFun (by rfl) x) (stack128_at (headA x0 x1 x2 x3 (part1 xs0) (part128 xs2)) 4 x y h0 h1 h2)
  case piece12 => exact Eq.trans (congrFun (by rfl) x) (stack128_at (headA x0 x1 x2 x3 (part1 xs0) (part128 xs2)) 3 x y h0 h1 h2)
  case piece13 => exact Eq.trans (congrFun (by rfl) x) (stack128_at (headA x0 x1 x2 x3 (part1 xs0) (part128 xs2)) 2 x y h0 h1 h2)
  case piece14 => exact Eq.trans (congrFun (by rfl) x) (stack128_at (headA x0 x1 x2 x3 (part1 xs0) (part128 xs2)) 1 x y h0 h1 h2)
  case piece15 => exact Eq.trans (congrFun (by rfl) x) (stack128_at (headA x0 x1 x2 x3 (part1 xs0) (part128 xs2)) 0 x y (by simpa using h0) h1 h2)

end Cert.KernelIdeal.Step

end
-- ==== Proof.SampleC.lean ====
/- What case C of the sample attention's body leaves, read off the frame certificate's recorded stores:
   one step over the point's block of cached keys, one masked step over the new keys, and the gated quotients stored. -/
module

public import proofs.«01_k».proof.Proof.SampleStep
public import Idealize.ShloMosaic.Lib.Pipeline.ReadBack
public import Idealize.ShloMosaic.Lib.Pipeline.ValueKit

@[expose] public section

set_option maxRecDepth 100000
set_option maxHeartbeats 4000000

noncomputable section

namespace Cert.KernelIdeal.Step

open Cert.KernelIdeal Cert.KernelIdeal.Gen Idealize.ShloMosaic

variable {F : FTy → Type} [FloatOps F] [Named F]

theorem out_C (c : Dev nD) (i : grid0.Coords) (arg2 : Memref sig .tc .vmem S1x16x1024 .bf16) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x16x512 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x16x16 .f32) (harg8 : arg8.IsWhole) (arg9 : Memref sig .tc .vmem S1x16x1024 .f32) (harg9 : arg9.IsWhole) (arg10 : Memref sig .tc .vmem S1x16x1024 .bf16) (harg10 : arg10.IsWhole) (arg11 : Memref sig .tc .vmem S16x16x1 .f32) (harg11 : arg11.IsWhole) (arg12 : Memref sig .tc .vmem S16x16x1 .f32) (harg12 : arg12.IsWhole) (arg13 : Memref sig .tc .vmem S16x16x128 .f32) (harg13 : arg13.IsWhole) (hc0 : ¬cond0_0 i) (hc1 : cond0_1 i)
    (x0 : Vec F S1x16x1024 .bf16) (x1 : Vec F S1x512x1024 .f32) (x2 : Vec F S1x512x1024 .f32) (x3 : Vec F S1x16x512 .f32) (x4 : Vec F S1x16x1024 .bf16) (x5 : Vec F S1x16x1024 .bf16) (x6 : Vec F S1x16x16 .f32) (x7 : Vec F S1x16x1024 .f32) (xs0 : Vec F S16x16x1 .f32) (xs1 : Vec F S16x16x1 .f32) (xs2 : Vec F S16x16x128 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stackLanes (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  simp (disch := decide) only [Gen.kernelRun0_C.sl.cst_309, Gen.kernelRun0_C.sl.cst_331, Gen.kernelRun0_C.sl.cst_826, Gen.kernelRun0_C.sl.r, Gen.kernelRun0_C.sl.r_1, Gen.kernelRun0_C.sl.r_10, Gen.kernelRun0_C.sl.r_100, Gen.kernelRun0_C.sl.r_101, Gen.kernelRun0_C.sl.r_102, Gen.kernelRun0_C.sl.r_103, Gen.kernelRun0_C.sl.r_104, Gen.kernelRun0_C.sl.r_105, Gen.kernelRun0_C.sl.r_106, Gen.kernelRun0_C.sl.r_107, Gen.kernelRun0_C.sl.r_108, Gen.kernelRun0_C.sl.r_109, Gen.kernelRun0_C.sl.r_11, Gen.kernelRun0_C.sl.r_110, Gen.kernelRun0_C.sl.r_111, Gen.kernelRun0_C.sl.r_112, Gen.kernelRun0_C.sl.r_113, Gen.kernelRun0_C.sl.r_114, Gen.kernelRun0_C.sl.r_115, Gen.kernelRun0_C.sl.r_116, Gen.kernelRun0_C.sl.r_117, Gen.kernelRun0_C.sl.r_118, Gen.kernelRun0_C.sl.r_119, Gen.kernelRun0_C.sl.r_12, Gen.kernelRun0_C.sl.r_120, Gen.kernelRun0_C.sl.r_121, Gen.kernelRun0_C.sl.r_122, Gen.kernelRun0_C.sl.r_123, Gen.kernelRun0_C.sl.r_124, Gen.kernelRun0_C.sl.r_125, Gen.kernelRun0_C.sl.r_126, Gen.kernelRun0_C.sl.r_127, Gen.kernelRun0_C.sl.r_128, Gen.kernelRun0_C.sl.r_129, Gen.kernelRun0_C.sl.r_13, Gen.kernelRun0_C.sl.r_130, Gen.kernelRun0_C.sl.r_131, Gen.kernelRun0_C.sl.r_132, Gen.kernelRun0_C.sl.r_133, Gen.kernelRun0_C.sl.r_134, Gen.kernelRun0_C.sl.r_135, Gen.kernelRun0_C.sl.r_136, Gen.kernelRun0_C.sl.r_137, Gen.kernelRun0_C.sl.r_138, Gen.kernelRun0_C.sl.r_139, Gen.kernelRun0_C.sl.r_14, Gen.kernelRun0_C.sl.r_140, Gen.kernelRun0_C.sl.r_141, Gen.kernelRun0_C.sl.r_142, Gen.kernelRun0_C.sl.r_143, Gen.kernelRun0_C.sl.r_144, Gen.kernelRun0_C.sl.r_145, Gen.kernelRun0_C.sl.r_146, Gen.kernelRun0_C.sl.r_147, Gen.kernelRun0_C.sl.r_148, Gen.kernelRun0_C.sl.r_149, Gen.kernelRun0_C.sl.r_15, Gen.kernelRun0_C.sl.r_150, Gen.kernelRun0_C.sl.r_151, Gen.kernelRun0_C.sl.r_152, Gen.kernelRun0_C.sl.r_153, Gen.kernelRun0_C.sl.r_154, Gen.kernelRun0_C.sl.r_155, Gen.kernelRun0_C.sl.r_156, Gen.kernelRun0_C.sl.r_157, Gen.kernelRun0_C.sl.r_158, Gen.kernelRun0_C.sl.r_159, Gen.kernelRun0_C.sl.r_16, Gen.kernelRun0_C.sl.r_160, Gen.kernelRun0_C.sl.r_161, Gen.kernelRun0_C.sl.r_162, Gen.kernelRun0_C.sl.r_163, Gen.kernelRun0_C.sl.r_164, Gen.kernelRun0_C.sl.r_165, Gen.kernelRun0_C.sl.r_166, Gen.kernelRun0_C.sl.r_167, Gen.kernelRun0_C.sl.r_168, Gen.kernelRun0_C.sl.r_169, Gen.kernelRun0_C.sl.r_17, Gen.kernelRun0_C.sl.r_170, Gen.kernelRun0_C.sl.r_171, Gen.kernelRun0_C.sl.r_172, Gen.kernelRun0_C.sl.r_18, Gen.kernelRun0_C.sl.r_19, Gen.kernelRun0_C.sl.r_2, Gen.kernelRun0_C.sl.r_20, Gen.kernelRun0_C.sl.r_21, Gen.kernelRun0_C.sl.r_22, Gen.kernelRun0_C.sl.r_23, Gen.kernelRun0_C.sl.r_24, Gen.kernelRun0_C.sl.r_25, Gen.kernelRun0_C.sl.r_26, Gen.kernelRun0_C.sl.r_27, Gen.kernelRun0_C.sl.r_28, Gen.kernelRun0_C.sl.r_29, Gen.kernelRun0_C.sl.r_3, Gen.kernelRun0_C.sl.r_30, Gen.kernelRun0_C.sl.r_31, Gen.kernelRun0_C.sl.r_32, Gen.kernelRun0_C.sl.r_33, Gen.kernelRun0_C.sl.r_34, Gen.kernelRun0_C.sl.r_35, Gen.kernelRun0_C.sl.r_36, Gen.kernelRun0_C.sl.r_37, Gen.kernelRun0_C.sl.r_38, Gen.kernelRun0_C.sl.r_39, Gen.kernelRun0_C.sl.r_4, Gen.kernelRun0_C.sl.r_40, Gen.kernelRun0_C.sl.r_41, Gen.kernelRun0_C.sl.r_42, Gen.kernelRun0_C.sl.r_43, Gen.kernelRun0_C.sl.r_44, Gen.kernelRun0_C.sl.r_45, Gen.kernelRun0_C.sl.r_46, Gen.kernelRun0_C.sl.r_47, Gen.kernelRun0_C.sl.r_48, Gen.kernelRun0_C.sl.r_49, Gen.kernelRun0_C.sl.r_5, Gen.kernelRun0_C.sl.r_50, Gen.kernelRun0_C.sl.r_51, Gen.kernelRun0_C.sl.r_52, Gen.kernelRun0_C.sl.r_53, Gen.kernelRun0_C.sl.r_54, Gen.kernelRun0_C.sl.r_55, Gen.kernelRun0_C.sl.r_56, Gen.kernelRun0_C.sl.r_57, Gen.kernelRun0_C.sl.r_58, Gen.kernelRun0_C.sl.r_59, Gen.kernelRun0_C.sl.r_6, Gen.kernelRun0_C.sl.r_60, Gen.kernelRun0_C.sl.r_61, Gen.kernelRun0_C.sl.r_62, Gen.kernelRun0_C.sl.r_63, Gen.kernelRun0_C.sl.r_64, Gen.kernelRun0_C.sl.r_65, Gen.kernelRun0_C.sl.r_66, Gen.kernelRun0_C.sl.r_67, Gen.kernelRun0_C.sl.r_68, Gen.kernelRun0_C.sl.r_69, Gen.kernelRun0_C.sl.r_7, Gen.kernelRun0_C.sl.r_70, Gen.kernelRun0_C.sl.r_71, Gen.kernelRun0_C.sl.r_72, Gen.kernelRun0_C.sl.r_73, Gen.kernelRun0_C.sl.r_74, Gen.kernelRun0_C.sl.r_75, Gen.kernelRun0_C.sl.r_76, Gen.kernelRun0_C.sl.r_77, Gen.kernelRun0_C.sl.r_78, Gen.kernelRun0_C.sl.r_79, Gen.kernelRun0_C.sl.r_8, Gen.kernelRun0_C.sl.r_80, Gen.kernelRun0_C.sl.r_81, Gen.kernelRun0_C.sl.r_82, Gen.kernelRun0_C.sl.r_83, Gen.kernelRun0_C.sl.r_84, Gen.kernelRun0_C.sl.r_85, Gen.kernelRun0_C.sl.r_86, Gen.kernelRun0_C.sl.r_87, Gen.kernelRun0_C.sl.r_88, Gen.kernelRun0_C.sl.r_89, Gen.kernelRun0_C.sl.r_9, Gen.kernelRun0_C.sl.r_90, Gen.kernelRun0_C.sl.r_91, Gen.kernelRun0_C.sl.r_92, Gen.kernelRun0_C.sl.r_93, Gen.kernelRun0_C.sl.r_94, Gen.kernelRun0_C.sl.r_95, Gen.kernelRun0_C.sl.r_96, Gen.kernelRun0_C.sl.r_97, Gen.kernelRun0_C.sl.r_98, Gen.kernelRun0_C.sl.r_99, Gen.kernelRun0_C.sl.v1009, Gen.kernelRun0_C.sl.v1018, Gen.kernelRun0_C.sl.v1050, Gen.kernelRun0_C.sl.v1062, Gen.kernelRun0_C.sl.v1071, Gen.kernelRun0_C.sl.v1094, Gen.kernelRun0_C.sl.v1106, Gen.kernelRun0_C.sl.v1115, Gen.kernelRun0_C.sl.v1147, Gen.kernelRun0_C.sl.v1159, Gen.kernelRun0_C.sl.v116, Gen.kernelRun0_C.sl.v1168, Gen.kernelRun0_C.sl.v1191, Gen.kernelRun0_C.sl.v1203, Gen.kernelRun0_C.sl.v1212, Gen.kernelRun0_C.sl.v1244, Gen.kernelRun0_C.sl.v1256, Gen.kernelRun0_C.sl.v126, Gen.kernelRun0_C.sl.v1265, Gen.kernelRun0_C.sl.v1288, Gen.kernelRun0_C.sl.v1300, Gen.kernelRun0_C.sl.v1309, Gen.kernelRun0_C.sl.v1341, Gen.kernelRun0_C.sl.v135, Gen.kernelRun0_C.sl.v1353, Gen.kernelRun0_C.sl.v1362, Gen.kernelRun0_C.sl.v1385, Gen.kernelRun0_C.sl.v1397, Gen.kernelRun0_C.sl.v1406, Gen.kernelRun0_C.sl.v1438, Gen.kernelRun0_C.sl.v1450, Gen.kernelRun0_C.sl.v1459, Gen.kernelRun0_C.sl.v1482, Gen.kernelRun0_C.sl.v1494, Gen.kernelRun0_C.sl.v1503, Gen.kernelRun0_C.sl.v1516, Gen.kernelRun0_C.sl.v1518, Gen.kernelRun0_C.sl.v1522, Gen.kernelRun0_C.sl.v1524, Gen.kernelRun0_C.sl.v1545, Gen.kernelRun0_C.sl.v1547, Gen.kernelRun0_C.sl.v1551, Gen.kernelRun0_C.sl.v1553, Gen.kernelRun0_C.sl.v156, Gen.kernelRun0_C.sl.v1574, Gen.kernelRun0_C.sl.v1576, Gen.kernelRun0_C.sl.v1580, Gen.kernelRun0_C.sl.v1582, Gen.kernelRun0_C.sl.v1603, Gen.kernelRun0_C.sl.v1605, Gen.kernelRun0_C.sl.v1609, Gen.kernelRun0_C.sl.v1611, Gen.kernelRun0_C.sl.v1632, Gen.kernelRun0_C.sl.v1634, Gen.kernelRun0_C.sl.v1638, Gen.kernelRun0_C.sl.v1640, Gen.kernelRun0_C.sl.v166, Gen.kernelRun0_C.sl.v1661, Gen.kernelRun0_C.sl.v1663, Gen.kernelRun0_C.sl.v1667, Gen.kernelRun0_C.sl.v1669, Gen.kernelRun0_C.sl.v1690, Gen.kernelRun0_C.sl.v1692, Gen.kernelRun0_C.sl.v1696, Gen.kernelRun0_C.sl.v1698, Gen.kernelRun0_C.sl.v1719, Gen.kernelRun0_C.sl.v1721, Gen.kernelRun0_C.sl.v1725, Gen.kernelRun0_C.sl.v1727, Gen.kernelRun0_C.sl.v175, Gen.kernelRun0_C.sl.v207, Gen.kernelRun0_C.sl.v217, Gen.kernelRun0_C.sl.v226, Gen.kernelRun0_C.sl.v247, Gen.kernelRun0_C.sl.v257, Gen.kernelRun0_C.sl.v266, Gen.kernelRun0_C.sl.v298, Gen.kernelRun0_C.sl.v3, Gen.kernelRun0_C.sl.v308, Gen.kernelRun0_C.sl.v317, Gen.kernelRun0_C.sl.v338, Gen.kernelRun0_C.sl.v348, Gen.kernelRun0_C.sl.v357, Gen.kernelRun0_C.sl.v389, Gen.kernelRun0_C.sl.v399, Gen.kernelRun0_C.sl.v4, Gen.kernelRun0_C.sl.v408, Gen.kernelRun0_C.sl.v429, Gen.kernelRun0_C.sl.v439, Gen.kernelRun0_C.sl.v448, Gen.kernelRun0_C.sl.v480, Gen.kernelRun0_C.sl.v490, Gen.kernelRun0_C.sl.v499, Gen.kernelRun0_C.sl.v5, Gen.kernelRun0_C.sl.v520, Gen.kernelRun0_C.sl.v530, Gen.kernelRun0_C.sl.v539, Gen.kernelRun0_C.sl.v571, Gen.kernelRun0_C.sl.v581, Gen.kernelRun0_C.sl.v590, Gen.kernelRun0_C.sl.v611, Gen.kernelRun0_C.sl.v621, Gen.kernelRun0_C.sl.v630, Gen.kernelRun0_C.sl.v65, Gen.kernelRun0_C.sl.v662, Gen.kernelRun0_C.sl.v672, Gen.kernelRun0_C.sl.v681, Gen.kernelRun0_C.sl.v702, Gen.kernelRun0_C.sl.v712, Gen.kernelRun0_C.sl.v721, Gen.kernelRun0_C.sl.v75, Gen.kernelRun0_C.sl.v759, Gen.kernelRun0_C.sl.v771, Gen.kernelRun0_C.sl.v780, Gen.kernelRun0_C.sl.v803, Gen.kernelRun0_C.sl.v815, Gen.kernelRun0_C.sl.v824, Gen.kernelRun0_C.sl.v84, Gen.kernelRun0_C.sl.v856, Gen.kernelRun0_C.sl.v868, Gen.kernelRun0_C.sl.v877, Gen.kernelRun0_C.sl.v900, Gen.kernelRun0_C.sl.v912, Gen.kernelRun0_C.sl.v921, Gen.kernelRun0_C.sl.v953, Gen.kernelRun0_C.sl.v965, Gen.kernelRun0_C.sl.v974, Gen.kernelRun0_C.sl.v997, Gen.kernelRun0_C.sl.HS0_16, Gen.kernelRun0_C.sl.HS0_17, Gen.kernelRun0_C.sl.HS0_18, Gen.kernelRun0_C.sl.HS0_19, Gen.kernelRun0_C.sl.HS0_20, Gen.kernelRun0_C.sl.HS0_21, Gen.kernelRun0_C.sl.HS0_22, Gen.kernelRun0_C.sl.HS0_23, Gen.kernelRun0_C.sl.HS0_24, Gen.kernelRun0_C.sl.HS0_25, Gen.kernelRun0_C.sl.HS0_26, Gen.kernelRun0_C.sl.HS0_27, Gen.kernelRun0_C.sl.HS0_28, Gen.kernelRun0_C.sl.HS0_29, Gen.kernelRun0_C.sl.HS0_30, Gen.kernelRun0_C.sl.HS0_31, Gen.kernelRun0_C.sl.HS1_16, Gen.kernelRun0_C.sl.HS1_17, Gen.kernelRun0_C.sl.HS1_18, Gen.kernelRun0_C.sl.HS1_19, Gen.kernelRun0_C.sl.HS1_20, Gen.kernelRun0_C.sl.HS1_21, Gen.kernelRun0_C.sl.HS1_22, Gen.kernelRun0_C.sl.HS1_23, Gen.kernelRun0_C.sl.HS1_24, Gen.kernelRun0_C.sl.HS1_25, Gen.kernelRun0_C.sl.HS1_26, Gen.kernelRun0_C.sl.HS1_27, Gen.kernelRun0_C.sl.HS1_28, Gen.kernelRun0_C.sl.HS1_29, Gen.kernelRun0_C.sl.HS1_30, Gen.kernelRun0_C.sl.HS1_31, Gen.kernelRun0_C.sl.HS1_32, Gen.kernelRun0_C.sl.HS2_16, Gen.kernelRun0_C.sl.HS2_17, Gen.kernelRun0_C.sl.HS2_18, Gen.kernelRun0_C.sl.HS2_19, Gen.kernelRun0_C.sl.HS2_20, Gen.kernelRun0_C.sl.HS2_21, Gen.kernelRun0_C.sl.HS2_22, Gen.kernelRun0_C.sl.HS2_23, Gen.kernelRun0_C.sl.HS2_24, Gen.kernelRun0_C.sl.HS2_25, Gen.kernelRun0_C.sl.HS2_26, Gen.kernelRun0_C.sl.HS2_27, Gen.kernelRun0_C.sl.HS2_28, Gen.kernelRun0_C.sl.HS2_29, Gen.kernelRun0_C.sl.HS2_30, Gen.kernelRun0_C.sl.HS2_31, Gen.kernelRun0_C.sl.HS2_32, View.readCov_skip, View.readCov_cons_toLoadRect, View.readAt_eq_ld, Memref.IsWhole.read_unread]
  funext y
  canon_tiles x h
  case piece0 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 7 x y h0 h1 h2)
  case piece1 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 6 x y h0 h1 h2)
  case piece2 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 5 x y h0 h1 h2)
  case piece3 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 4 x y h0 h1 h2)
  case piece4 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 3 x y h0 h1 h2)
  case piece5 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 2 x y h0 h1 h2)
  case piece6 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 1 x y h0 h1 h2)
  case piece7 => exact Eq.trans (congrFun (by rfl) x) (stackLanes_at (pairOut x7 (headLN x0 x4 x6 (headM x0 x1 x3 (part1 xs0)) (headL x0 x1 x3 (part1 xs0) (part1 xs1))) (headAN x0 x4 x5 x6 (headM x0 x1 x3 (part1 xs0)) (headA x0 x1 x2 x3 (part1 xs0) (part128 xs2)))) 0 x y h0 h1 (by simpa using h2))

end Cert.KernelIdeal.Step

end
-- ==== Proof.Online.lean ====
/- The softmax of a row of logits, taken block by block with a running maximum, at the ideal values (the extended reals).
   `mx s n`, `den s n` and `num s v n` are the maximum, the sum of the weights and the weighted sum of the values of the
   first `n` keys. `*_step` says what one more block of keys does to them; `softmax_eq` says that their quotient is the
   softmax average of the values. A masked key has the logit `⊥` and so the weight 0. -/
module

public import Idealize.ShloMosaic.PureOps.Ideal
public import Mathlib.Data.EReal.Inv

@[expose] public section

noncomputable section

namespace Online

open Idealize.ShloMosaic Finset

/-- The largest logit of the first `n` keys. -/
def mx (s : ℕ → EReal) (n : ℕ) : EReal := (range n).sup s

/-- The weight of a logit under a maximum. -/
def wt (x m : EReal) : EReal := Ideal.exp (x - m)

/-- The sum of the weights of the first `n` keys. -/
def den (s : ℕ → EReal) (n : ℕ) : EReal := ∑ i ∈ range n, wt (s i) (mx s n)

/-- The weighted sum of the values of the first `n` keys. -/
def num (s v : ℕ → EReal) (n : ℕ) : EReal := ∑ i ∈ range n, wt (s i) (mx s n) * v i

theorem exp_nonneg (x : EReal) : 0 ≤ Ideal.exp x := by
  induction x with
  | bot => simp
  | top => simp
  | coe r => rw [Ideal.exp_coe]; exact_mod_cast (Real.exp_pos r).le

theorem wt_nonneg (x m : EReal) : 0 ≤ wt x m := exp_nonneg _

theorem wt_bot (m : EReal) : wt ⊥ m = 0 := by
  unfold wt; rw [EReal.bot_sub, Ideal.exp_bot]

theorem wt_coe (x m : ℝ) : wt x m = (Real.exp (x - m) : ℝ) := by
  unfold wt; rw [← EReal.coe_sub, Ideal.exp_coe]

/-- A weight under a maximum is finite. -/
theorem wt_ne_top {x m : EReal} (hx : x ≠ ⊤) (h : x ≤ m) (hm : m ≠ ⊤) : wt x m ≠ ⊤ := by
  induction x with
  | bot => rw [wt_bot]; exact EReal.zero_ne_top
  | top => exact absurd rfl hx
  | coe x =>
    induction m with
    | bot => exact absurd h (by simp)
    | top => exact absurd rfl hm
    | coe m => rw [wt_coe]; exact EReal.coe_ne_top _

/-- Raising the maximum rescales a weight. -/
theorem wt_mul {x m m' : EReal} (hx : x ≠ ⊤) (h : x ≤ m) (h' : m ≤ m') (hm' : m' ≠ ⊤) :
    wt m m' * wt x m = wt x m' := by
  induction x with
  | bot => rw [wt_bot, wt_bot, mul_zero]
  | top => exact absurd rfl hx
  | coe x =>
    induction m' with
    | bot => exact absurd (le_trans h h') (by simp)
    | top => exact absurd rfl hm'
    | coe m' =>
      induction m with
      | bot => exact absurd h (by simp)
      | top => exact absurd h' (by simp)
      | coe m =>
        rw [wt_coe, wt_coe, wt_coe, ← EReal.coe_mul, ← Real.exp_add]
        congr 2; ring

theorem mul_sum {ι : Type*} (S : Finset ι) (f : ι → EReal) {a : EReal} (h0 : 0 ≤ a) (ht : a ≠ ⊤) :
    a * ∑ i ∈ S, f i = ∑ i ∈ S, a * f i := by
  classical
  induction S using Finset.induction_on with
  | empty => simp
  | insert i S hi ih => rw [sum_insert hi, sum_insert hi, EReal.left_distrib_of_nonneg_of_ne_top h0 ht, ih]

variable {s v : ℕ → EReal}

theorem le_mx {n i : ℕ} (h : i < n) : s i ≤ mx s n := le_sup (mem_range.mpr h)

theorem mx_ne_top {n : ℕ} (hs : ∀ i < n, s i ≠ ⊤) : mx s n ≠ ⊤ := by
  unfold mx
  rw [← lt_top_iff_ne_top, Finset.sup_lt_iff (by simp)]
  exact fun i hi => lt_top_iff_ne_top.mpr (hs i (mem_range.mp hi))

theorem mx_zero : mx s 0 = ⊥ := by simp [mx]
theorem den_zero : den s 0 = 0 := by simp [den]
theorem num_zero : num s v 0 = 0 := by simp [num]

/-- The maximum after one more block of `b` keys. -/
theorem mx_step (n b : ℕ) (t : Fin b → EReal) (ht : ∀ k : Fin b, t k = s (n + k)) :
    max (mx s n) ((univ : Finset (Fin b)).fold max ⊥ t) = mx s (n + b) := by
  have h1 : (univ : Finset (Fin b)).fold max ⊥ t = (univ : Finset (Fin b)).sup t := rfl
  rw [h1]
  apply le_antisymm
  · refine max_le (sup_mono (range_mono (by omega))) (Finset.sup_le fun k _ => ?_)
    rw [ht]; exact le_mx (by have := k.isLt; omega)
  · refine Finset.sup_le fun i hi => ?_
    rw [mem_range] at hi
    by_cases h : i < n
    · exact le_max_of_le_left (le_mx h)
    · refine le_max_of_le_right ?_
      have e : s i = t ⟨i - n, by omega⟩ := by rw [ht]; congr 1; simp only; omega
      rw [e]; exact le_sup (mem_univ _)

theorem sum_block (n b : ℕ) (f : ℕ → EReal) :
    ∑ i ∈ range (n + b), f i = ∑ i ∈ range n, f i + ∑ k : Fin b, f (n + k) := by
  rw [sum_range_add, Finset.sum_range fun k => f (n + k)]

/-- The sum of the weights after one more block. -/
theorem den_step (n b : ℕ) (hs : ∀ i < n + b, s i ≠ ⊤) (t : Fin b → EReal) (ht : ∀ k : Fin b, t k = s (n + k)) :
    wt (mx s n) (mx s (n + b)) * den s n + ∑ k : Fin b, wt (t k) (mx s (n + b)) = den s (n + b) := by
  have hle : mx s n ≤ mx s (n + b) := sup_mono (range_mono (by omega))
  have hT := mx_ne_top hs
  have hT0 : mx s n ≠ ⊤ := mx_ne_top fun i hi => hs i (by omega)
  unfold den
  rw [sum_block, mul_sum _ _ (wt_nonneg _ _) (wt_ne_top hT0 hle hT)]
  congr 1
  · refine sum_congr rfl fun i hi => ?_
    rw [mem_range] at hi
    exact wt_mul (hs i (by omega)) (le_mx hi) hle hT
  · exact sum_congr rfl fun k _ => by rw [ht]

/-- The weighted sum after one more block. -/
theorem num_step (n b : ℕ) (hs : ∀ i < n + b, s i ≠ ⊤) (t w : Fin b → EReal) (ht : ∀ k : Fin b, t k = s (n + k))
    (hw : ∀ k : Fin b, w k = v (n + k)) :
    wt (mx s n) (mx s (n + b)) * num s v n + ∑ k : Fin b, wt (t k) (mx s (n + b)) * w k = num s v (n + b) := by
  have hle : mx s n ≤ mx s (n + b) := sup_mono (range_mono (by omega))
  have hT := mx_ne_top hs
  have hT0 : mx s n ≠ ⊤ := mx_ne_top fun i hi => hs i (by omega)
  unfold num
  rw [sum_block, mul_sum _ _ (wt_nonneg _ _) (wt_ne_top hT0 hle hT)]
  congr 1
  · refine sum_congr rfl fun i hi => ?_
    rw [mem_range] at hi
    rw [← mul_assoc, wt_mul (hs i (by omega)) (le_mx hi) hle hT]
  · exact sum_congr rfl fun k _ => by rw [ht, hw]

/-- Masked keys after the first `n` change nothing. -/
theorem mx_masked {n N : ℕ} (h : n ≤ N) (hs : ∀ i, n ≤ i → i < N → s i = ⊥) : mx s N = mx s n := by
  apply le_antisymm
  · refine Finset.sup_le fun i hi => ?_
    rw [mem_range] at hi
    by_cases hn : i < n
    · exact le_mx hn
    · rw [hs i (by omega) hi]; exact bot_le
  · exact sup_mono (range_mono h)

theorem sum_masked {n N : ℕ} (h : n ≤ N) (f : ℕ → EReal) (hf : ∀ i, n ≤ i → i < N → f i = 0) :
    ∑ i ∈ range N, f i = ∑ i ∈ range n, f i := by
  symm
  refine sum_subset (range_mono h) fun i hi hn => ?_
  rw [mem_range] at hi hn
  exact hf i (by omega) hi

theorem den_masked {n N : ℕ} (h : n ≤ N) (hs : ∀ i, n ≤ i → i < N → s i = ⊥) : den s N = den s n := by
  unfold den
  rw [mx_masked h hs]
  exact sum_masked h _ fun i h1 h2 => by rw [hs i h1 h2, wt_bot]

theorem num_masked {n N : ℕ} (h : n ≤ N) (hs : ∀ i, n ≤ i → i < N → s i = ⊥) : num s v N = num s v n := by
  unfold num
  rw [mx_masked h hs]
  exact sum_masked h _ fun i h1 h2 => by rw [hs i h1 h2, wt_bot, zero_mul]

/-- Adding one real number to every logit changes no weight. -/
theorem mx_shift (c : ℝ) (n : ℕ) : mx (fun i => s i + c) n = mx s n + c := by
  induction n with
  | zero => simp [mx]
  | succ n ih =>
    unfold mx at ih ⊢
    rw [range_add_one, sup_insert, sup_insert, ih]
    exact (Monotone.map_max (f := fun x : EReal => x + (c : EReal)) fun a b h => add_le_add_left h _).symm

theorem wt_shift (x m : EReal) (c : ℝ) : wt (x + c) (m + c) = wt x m := by
  unfold wt
  congr 1
  induction x <;> induction m <;> simp [← EReal.coe_add, ← EReal.coe_sub]

/-- The quotient of a weighted sum by the sum of the weights is the sum of the values, each by its weight's share. -/
theorem softmax_eq (N : ℕ) (hs : ∀ i < N, s i ≠ ⊤) (h0 : ∃ i < N, s i ≠ ⊥) (c : ℝ) (x : ℕ → EReal) (hx : ∀ i < N, x i = s i + c) :
    Ideal.div (num s v N) (den s N) = ∑ i ∈ range N, v i * Ideal.div (wt (x i) (mx x N)) (den x N) := by
  have hmx : mx x N = mx s N + c := by
    rw [← mx_shift]; exact sup_congr rfl fun i hi => hx i (mem_range.mp hi)
  have hwt : ∀ i < N, wt (x i) (mx x N) = wt (s i) (mx s N) := fun i hi => by rw [hmx, hx i hi, wt_shift]
  have hden : den x N = den s N := sum_congr rfl fun i hi => hwt i (mem_range.mp hi)
  have hT := mx_ne_top hs
  have hfin : ∀ i ∈ range N, wt (s i) (mx s N) ≠ ⊤ := fun i hi =>
    wt_ne_top (hs i (mem_range.mp hi)) (le_mx (mem_range.mp hi)) hT
  have hd : den s N ≠ ⊤ := by
    unfold den
    have : ∀ S ⊆ range N, ∑ i ∈ S, wt (s i) (mx s N) ≠ ⊤ := by
      intro S
      induction S using Finset.induction_on with
      | empty => intro _; simp
      | insert i S hi ih =>
        intro h
        rw [sum_insert hi]
        exact EReal.add_ne_top (hfin i (h (mem_insert_self _ _))) (ih fun j hj => h (mem_insert_of_mem hj))
    exact this _ (Subset.refl _)
  have hpos : 0 < den s N := by
    obtain ⟨i, hi, hb⟩ := h0
    refine lt_of_lt_of_le ?_ (single_le_sum (f := fun i => wt (s i) (mx s N)) (fun j _ => wt_nonneg _ _) (mem_range.mpr hi))
    have hle := le_mx (s := s) hi
    have hsi := hs i hi
    show 0 < wt (s i) (mx s N)
    generalize mx s N = m at *
    generalize s i = y at *
    induction y with
    | bot => exact absurd rfl hb
    | top => exact absurd rfl hsi
    | coe y =>
      induction m with
      | bot => exact absurd hle (by simp)
      | top => exact absurd rfl hT
      | coe m => rw [wt_coe]; exact_mod_cast Real.exp_pos _
  have hdiv : ∀ a, Ideal.div a (den s N) = (den s N)⁻¹ * a := fun a => by
    unfold Ideal.div; rw [if_neg hpos.ne', mul_comm]
  rw [hden, hdiv]
  unfold num
  rw [mul_sum _ _ (EReal.inv_nonneg_of_nonneg hpos.le) (by
    rw [← EReal.coe_toReal hd (ne_bot_of_gt hpos), ← EReal.coe_inv]; exact EReal.coe_ne_top _)]
  refine sum_congr rfl fun i hi => ?_
  rw [hdiv, hwt i (mem_range.mp hi), ← mul_assoc, mul_comm]

end Online

end
-- ==== Proof.SampleIdeal.lean ====
/- One step of the sample attention over the extended reals, read at an index: the running maximum, sum and accumulator of
   a head's row move from the first `n` keys to the next ones. -/
module

public import proofs.«01_k».proof.Proof.SampleStep
public import proofs.«01_k».proof.Proof.Online
public import Idealize.ShloMosaic.Lib.Pointwise

@[expose] public section

set_option maxRecDepth 100000

noncomputable section

namespace Cert.KernelIdeal.Step

open Cert.KernelIdeal Cert.KernelIdeal.Gen Idealize.ShloMosaic

theorem lower (x : Fin 128) : k0_pay200 (ix2 0 x) = if x.val < 64 then 1#1 else 0#1 := by
  pointwise [k0_pay200]
  revert x
  decide +kernel

theorem upper (x : Fin 128) : xori k0_pay200 (constantI S1x128 1 1#1) (ix2 0 x) = if x.val < 64 then 0#1 else 1#1 := by
  pointwise [k0_pay200]
  revert x
  decide +kernel

theorem seen_apply (r j : Fin 16) : seen (ix2 r j) = if j.val ≤ r.val then 1#1 else 0#1 := by
  pointwise [seen, k0_pay4]
  revert r j
  decide +kernel

theorem mask_eq : (Named.named κ "mask" 4048155338#32 : Ideal .f32) = ⊥ := rfl

theorem start_eq : Ideal.ofBits FTy.f32 4286578688#32 = ⊥ := by simp [Ideal.ofBits, Ideal.ieee]

/-- The lane `l` of head `h`, and the lane `l` of the head's pair, in a row of 1024 lanes. -/
def lane (h : Fin 16) (l : Fin 64) : Fin 1024 := ⟨64 * h.val + l.val, by omega⟩
def pairLane (h : Fin 16) (l : Fin 128) : Fin 1024 := ⟨128 * (h.val / 2) + l.val, by omega⟩

/-- The product of a query with a key, over one head's lanes. -/
def dot (q k : Fin 1024 → EReal) (h : Fin 16) : EReal := ∑ l : Fin 64, q (lane h l) * k (lane h l)

/-- The other head's lanes drop out of a product over a pair's 128. -/
theorem sum_half (h : Fin 16) (f : Fin 1024 → EReal) :
    ∑ x : Fin 128, Scalar.select (half h (ix2 0 x)) (f (pairLane h x)) 0 = ∑ l : Fin 64, f (lane h l) := by
  rw [show (∑ x : Fin 128, Scalar.select (half h (ix2 0 x)) (f (pairLane h x)) 0)
      = ∑ x : Fin (64 + 64), Scalar.select (half h (ix2 0 x)) (f (pairLane h x)) 0 from rfl, Fin.sum_univ_add]
  obtain hp | hp := Nat.mod_two_eq_zero_or_one h.val
  · have hh : half h = k0_pay200 := by unfold half; rw [hp]; rfl
    rw [hh, Finset.sum_eq_zero (s := Finset.univ) (f := fun i : Fin 64 => Scalar.select (k0_pay200 (ix2 0 (Fin.natAdd 64 i))) _ 0), add_zero]
    · refine Finset.sum_congr rfl fun l _ => ?_
      rw [lower, if_pos (by simp)]
      exact congrArg f (Fin.ext (by simp [pairLane, lane]; omega))
    · intro l _
      rw [lower, if_neg (by simp)]
      rfl
  · have hh : half h = xori k0_pay200 (constantI S1x128 1 1#1) := by unfold half; rw [hp]; rfl
    rw [hh, Finset.sum_eq_zero (s := Finset.univ) (f := fun i : Fin 64 => Scalar.select (xori k0_pay200 (constantI S1x128 1 1#1) (ix2 0 (Fin.castAdd 64 i))) _ 0), zero_add]
    · refine Finset.sum_congr rfl fun l _ => ?_
      rw [upper, if_neg (by simp)]
      exact congrArg f (Fin.ext (by simp [pairLane, lane]; omega))
    · intro l _
      rw [upper, if_pos (by simp)]
      rfl

variable (x0 : Vec Ideal S1x16x1024 .bf16) (x1 x2 : Vec Ideal S1x512x1024 .f32) (x3 : Vec Ideal S1x16x512 .f32)
  (x4 x5 : Vec Ideal S1x16x1024 .bf16) (x6 : Vec Ideal S1x16x16 .f32) (x7 : Vec Ideal S1x16x1024 .f32)
  (pm pl : Fin 16 → Vec Ideal S1x16x1 .f32) (pa : Fin 16 → Vec Ideal S1x16x128 .f32)

theorem lanes16_apply {e : EltTy} (x : Vec Ideal S1x16x1024 e) (h : Fin 16) (r : Fin 16) (l : Fin 128) :
    lanes16 x h (ix3 0 r l) = x (ix3 0 r (pairLane h l)) := by
  unfold lanes16
  pointwise
  rfl

theorem lanes512_apply {e : EltTy} (x : Vec Ideal S1x512x1024 e) (h : Fin 16) (r : Fin 512) (l : Fin 128) :
    lanes512 x h (ix3 0 r l) = x (ix3 0 r (pairLane h l)) := by
  unfold lanes512
  pointwise
  rfl

theorem row512_apply (x : Vec Ideal S1x16x512 .f32) (h : Fin 16) (j : Fin 512) : row512 x h (ix3 0 0 j) = x (ix3 0 h j) := by
  unfold row512
  pointwise

theorem row16_apply (x : Vec Ideal S1x16x16 .f32) (h : Fin 16) (j : Fin 16) : row16 x h (ix3 0 0 j) = x (ix3 0 h j) := by
  unfold row16
  pointwise

theorem part1_apply (x : Vec Ideal S16x16x1 .f32) (h r : Fin 16) : part1 x h (ix3 0 r 0) = x (ix3 h r 0) := by
  unfold part1
  pointwise

theorem part128_apply (x : Vec Ideal S16x16x128 .f32) (h r : Fin 16) (l : Fin 128) : part128 x h (ix3 0 r l) = x (ix3 h r l) := by
  unfold part128
  pointwise

theorem logits_apply (h r : Fin 16) (j : Fin 512) :
    logits x0 x1 x3 h (ix2 r j) = dot (fun L => x0 (ix3 0 r L)) (fun L => x1 (ix3 0 j L)) h - x3 (ix3 0 h j) := by
  unfold logits
  pointwise [logit]
  rw [row512_apply]
  refine congrArg (· - x3 (ix3 0 h j)) ?_
  refine Eq.trans ?_ (sum_half h fun L => x0 (ix3 0 r L) * x1 (ix3 0 j L))
  refine Finset.sum_congr rfl fun l _ => ?_
  rw [lanes16_apply, lanes512_apply]

theorem logitsN_apply (h r j : Fin 16) :
    logitsN x0 x4 x6 h (ix2 r j) = if j.val ≤ r.val then dot (fun L => x0 (ix3 0 r L)) (fun L => x4 (ix3 0 j L)) h - x6 (ix3 0 h j) else ⊥ := by
  unfold logitsN
  pointwise [logitN]
  rw [row16_apply, seen_apply, mask_eq]
  have e : ∑ l : Fin 128, Scalar.select (half h (ix2 0 l)) (lanes16 x0 h (ix3 0 r l) * lanes16 x4 h (ix3 0 j l)) 0
      = dot (fun L => x0 (ix3 0 r L)) (fun L => x4 (ix3 0 j L)) h := by
    refine Eq.trans ?_ (sum_half h fun L => x0 (ix3 0 r L) * x4 (ix3 0 j L))
    refine Finset.sum_congr rfl fun l _ => ?_
    rw [lanes16_apply, lanes16_apply]
  split
  · rw [← e]; rfl
  · rfl

section Steps

variable (n : ℕ) (S : ℕ → EReal) (h r : Fin 16)

theorem newMax_step (s : FVec Ideal S16x512 .f32) (m : Vec Ideal S1x16x1 .f32) (hm : m (ix3 0 r 0) = Online.mx S n)
    (hS : ∀ j : Fin 512, s (ix2 r j) = S (n + j)) : newMax s m (ix2 r 0) = Online.mx S (n + 512) := by
  pointwise [newMax]
  rw [hm, start_eq]
  exact Online.mx_step n 512 _ hS

theorem headM_step (hm : pm h (ix3 0 r 0) = Online.mx S n) (hS : ∀ j : Fin 512, logits x0 x1 x3 h (ix2 r j) = S (n + j)) :
    headM x0 x1 x3 pm h (ix3 0 r 0) = Online.mx S (n + 512) := by
  unfold headM
  pointwise [stepM]
  exact newMax_step n S r _ _ hm hS

theorem headL_step (hs : ∀ i < n + 512, S i ≠ ⊤) (hm : pm h (ix3 0 r 0) = Online.mx S n) (hl : pl h (ix3 0 r 0) = Online.den S n)
    (hS : ∀ j : Fin 512, logits x0 x1 x3 h (ix2 r j) = S (n + j)) :
    headL x0 x1 x3 pm pl h (ix3 0 r 0) = Online.den S (n + 512) := by
  unfold headL
  pointwise [stepL, scale, weight]
  rw [newMax_step n S r _ _ hm hS, hm, hl]
  exact Online.den_step n 512 hs _ hS

theorem headA_step (hs : ∀ i < n + 512, S i ≠ ⊤) (V : ℕ → EReal) (l : Fin 128) (hm : pm h (ix3 0 r 0) = Online.mx S n)
    (ha : pa h (ix3 0 r l) = Online.num S V n) (hS : ∀ j : Fin 512, logits x0 x1 x3 h (ix2 r j) = S (n + j))
    (hV : ∀ j : Fin 512, x2 (ix3 0 j (pairLane h l)) = V (n + j)) :
    headA x0 x1 x2 x3 pm pa h (ix3 0 r l) = Online.num S V (n + 512) := by
  unfold headA
  pointwise [stepA, scale, weight]
  rw [newMax_step n S r _ _ hm hS, hm, ha]
  refine Online.num_step n 512 hs _ _ hS fun j => ?_
  rw [lanes512_apply]
  exact hV j

theorem newMaxN_step (s : FVec Ideal S16x16 .f32) (m : Vec Ideal S1x16x1 .f32) (hm : m (ix3 0 r 0) = Online.mx S n)
    (hS : ∀ j : Fin 16, s (ix2 r j) = S (n + j)) : newMaxN s m (ix2 r 0) = Online.mx S (n + 16) := by
  pointwise [newMaxN]
  rw [hm, start_eq]
  exact Online.mx_step n 16 _ hS

/-- A weight under the mask is the weight: a masked logit's weight is zero anyway. -/
theorem select_weight (j : Fin 16) (s m w : EReal) (hs : ¬ j.val ≤ r.val → s = ⊥) :
    Scalar.select (seen (ix2 r j)) (Ideal.exp (s - m) * w) 0 = Online.wt s m * w := by
  rw [seen_apply]
  split
  · rfl
  · rename_i hj
    rw [hs hj, Online.wt_bot, zero_mul]
    rfl

theorem headLN_step (hs : ∀ i < n + 16, S i ≠ ⊤) (hm : pm h (ix3 0 r 0) = Online.mx S n) (hl : pl h (ix3 0 r 0) = Online.den S n)
    (hS : ∀ j : Fin 16, logitsN x0 x4 x6 h (ix2 r j) = S (n + j)) :
    headLN x0 x4 x6 pm pl h (ix3 0 r 0) = Online.den S (n + 16) := by
  unfold headLN
  pointwise [stepLN, scaleN, weightN]
  rw [newMaxN_step n S r _ _ hm hS, hm, hl]
  refine Eq.trans ?_ (Online.den_step n 16 hs _ hS)
  refine congrArg (Online.wt (Online.mx S n) (Online.mx S (n + 16)) * Online.den S n + ·) (Finset.sum_congr rfl fun j _ => ?_)
  have e := select_weight r j (logitsN x0 x4 x6 h (ix2 r j)) (Online.mx S (n + 16)) 1 (fun hj => by rw [logitsN_apply, if_neg hj])
  rw [mul_one, mul_one] at e
  exact e

theorem headAN_step (hs : ∀ i < n + 16, S i ≠ ⊤) (V : ℕ → EReal) (l : Fin 128) (hm : pm h (ix3 0 r 0) = Online.mx S n)
    (ha : pa h (ix3 0 r l) = Online.num S V n) (hS : ∀ j : Fin 16, logitsN x0 x4 x6 h (ix2 r j) = S (n + j))
    (hV : ∀ j : Fin 16, x5 (ix3 0 j (pairLane h l)) = V (n + j)) :
    headAN x0 x4 x5 x6 pm pa h (ix3 0 r l) = Online.num S V (n + 16) := by
  unfold headAN
  pointwise [stepAN, scaleN, weightN]
  rw [newMaxN_step n S r _ _ hm hS, hm, ha]
  refine Eq.trans ?_ (Online.num_step n 16 hs _ (fun j => lanes16 x5 h (ix3 0 j l)) hS fun j => by rw [lanes16_apply]; exact hV j)
  refine congrArg (Online.wt (Online.mx S n) (Online.mx S (n + 16)) * Online.num S V n + ·) (Finset.sum_congr rfl fun j _ => ?_)
  exact select_weight r j (logitsN x0 x4 x6 h (ix2 r j)) (Online.mx S (n + 16)) _ (fun hj => by rw [logitsN_apply, if_neg hj])

end Steps

/-- The gate. -/
def sigm (g : EReal) : EReal := Ideal.div 1 (1 + Ideal.exp (0 - g))

/-- The head of a lane, and the lane within its pair. -/
def headOf (L : Fin 1024) : Fin 16 := ⟨L.val / 64, by omega⟩
def within (L : Fin 1024) : Fin 128 := ⟨L.val % 128, by omega⟩

/-- The stored output at a lane: the quotient of the lane's own head, gated. -/
theorem pairOut_apply (r : Fin 16) (L : Fin 1024) :
    stackLanes (pairOut x7 pl pa) (ix3 0 r L)
      = Ideal.div (pa (headOf L) (ix3 0 r (within L))) (pl (headOf L) (ix3 0 r 0)) * sigm (x7 (ix3 0 r L)) := by
  have e : stackLanes (pairOut x7 pl pa) (ix3 0 r L) = pairOut x7 pl pa ⟨L.val / 128, by omega⟩ (ix3 0 r (within L)) := by
    unfold stackLanes
    refine congrArg _ ?_
    funext a
    match a with
    | 0 => rfl
    | 1 => rfl
    | 2 => rfl
  rw [e]
  pointwise [pairOut, finish, quot]
  rw [lower, lanes16_apply, show pairLane (even ⟨L.val / 128, by omega⟩) (within L) = L from
    Fin.ext (by simp [pairLane, even, within]; omega)]
  refine congrArg (· * sigm (x7 (ix3 0 r L))) ?_
  split
  · rename_i hl
    rw [show headOf L = even ⟨L.val / 128, by omega⟩ from Fin.ext (by simp [headOf, even, within] at hl ⊢; omega)]
    rfl
  · rename_i hl
    rw [show headOf L = odd ⟨L.val / 128, by omega⟩ from Fin.ext (by simp [headOf, odd, within] at hl ⊢; omega)]
    rfl

end Cert.KernelIdeal.Step

end
-- ==== Proof.SampleBlocks.lean ====
/- The blocks the sample attention's grid point `t` stages, read at an index: batch element `t / 8`, keys `512 * (t % 8) …`. -/
module

public import proofs.«01_k».proof.Proof.SampleStep
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 100000

noncomputable section

namespace Cert.KernelIdeal.Step

open Cert.KernelIdeal Cert.KernelIdeal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val / 8, 0, 0] ∧ win0_1.index t = ![t.val / 8, t.val % 8, 0]
    ∧ win0_2.index t = ![t.val / 8, t.val % 8, 0] ∧ win0_3.index t = ![t.val / 8, 0, t.val % 8]
    ∧ win0_4.index t = ![t.val / 8, 0, 0] ∧ win0_5.index t = ![t.val / 8, 0, 0] ∧ win0_6.index t = ![t.val / 8, 0, 0]
    ∧ win0_7.index t = ![t.val / 8, 0, 0] :=
  (by decide +kernel : ∀ t : Fin grid0.N, _)

def batch (t : Fin cfg0.N) : Fin 32 := ⟨t.val / 8, by have := lt_of_lt_of_eq t.isLt (show cfg0.N = 256 from N_0); omega⟩
def key (t : Fin cfg0.N) (j : Fin 512) : Fin 4096 := ⟨512 * (t.val % 8) + j.val, by omega⟩

theorem blk0 (c : Dev nD) (t : Fin cfg0.N) (r : Fin 16) (L : Fin 1024) :
    iblk m c 0 t (ix3 0 r L) = m ((c : Thread nD τ).loc main_arg0) (ix3 (batch t) r L) := by
  blk_ext! [iblk, V, idx t, batch]

theorem blk1 (c : Dev nD) (t : Fin cfg0.N) (j : Fin 512) (L : Fin 1024) :
    iblk m c 1 t (ix3 0 j L) = m ((c : Thread nD τ).loc main_arg1) (ix4 (batch t) (key t j) ⟨L.val / 64, by omega⟩ ⟨L.val % 64, by omega⟩) := by
  blk_simp [iblk]
  entry_read
  pointwise
  blk_ext! [idx t, batch, key]

theorem blk2 (c : Dev nD) (t : Fin cfg0.N) (j : Fin 512) (L : Fin 1024) :
    iblk m c 2 t (ix3 0 j L) = m ((c : Thread nD τ).loc main_arg2) (ix4 (batch t) (key t j) ⟨L.val / 64, by omega⟩ ⟨L.val % 64, by omega⟩) := by
  blk_simp [iblk]
  entry_read
  pointwise
  blk_ext! [idx t, batch, key]

theorem blk3 (c : Dev nD) (t : Fin cfg0.N) (h : Fin 16) (j : Fin 512) :
    iblk m c 3 t (ix3 0 h j) = m ((c : Thread nD τ).loc main_arg3) (ix3 (batch t) (key t j) h) := by
  blk_simp [iblk]
  entry_read
  pointwise
  blk_ext! [idx t, batch, key]

theorem blk4 (c : Dev nD) (t : Fin cfg0.N) (r : Fin 16) (L : Fin 1024) :
    iblk m c 4 t (ix3 0 r L) = m ((c : Thread nD τ).loc main_arg4) (ix3 (batch t) r L) := by
  blk_ext! [iblk, V, idx t, batch]

theorem blk5 (c : Dev nD) (t : Fin cfg0.N) (r : Fin 16) (L : Fin 1024) :
    iblk m c 5 t (ix3 0 r L) = m ((c : Thread nD τ).loc main_arg5) (ix3 (batch t) r L) := by
  blk_ext! [iblk, V, idx t, batch]

theorem blk6 (c : Dev nD) (t : Fin cfg0.N) (h j : Fin 16) :
    iblk m c 6 t (ix3 0 h j) = m ((c : Thread nD τ).loc main_arg6) (ix3 (batch t) j h) := by
  blk_simp [iblk]
  entry_read
  pointwise
  blk_ext! [idx t, batch]

theorem blk7 (c : Dev nD) (t : Fin cfg0.N) (r : Fin 16) (L : Fin 1024) :
    iblk m c 7 t (ix3 0 r L) = m ((c : Thread nD τ).loc main_arg7) (ix3 (batch t) r L) := by
  blk_ext! [iblk, V, idx t, batch]

end Cert.KernelIdeal.Step

end
-- ==== Proof.SampleRun.lean ====
/- The sample attention's run over one batch element: after the point that takes the cached keys up to `n`, the scratch holds
   each head's running maximum, sum and accumulator over the first `n` keys, and the last point stores the gated quotients. -/
module

public import proofs.«01_k».proof.Proof.SampleA
public import proofs.«01_k».proof.Proof.SampleB
public import proofs.«01_k».proof.Proof.SampleC
public import proofs.«01_k».proof.Proof.SampleIdeal
public import proofs.«01_k».proof.Proof.SampleBlocks

@[expose] public section

set_option maxRecDepth 100000

noncomputable section

namespace Cert.KernelIdeal.Step

open Cert.KernelIdeal Cert.KernelIdeal.Gen Idealize.ShloMosaic Idealize.ShloMosaic.TcCoe Idealize.SL.Sem

/-- The logit of key `i`, without the query's own bias: the cached keys first, then the new ones, masked. -/
def keyLogit (q : S32x16x1024.Idx → EReal) (ck : S32x4096x16x64.Idx → EReal) (cc : S32x4096x16.Idx → EReal)
    (k : S32x16x1024.Idx → EReal) (nc : S32x16x16.Idx → EReal) (b : Fin 32) (h r : Fin 16) (i : ℕ) : EReal :=
  if hi : i < 4096 then (∑ l : Fin 64, q (ix3 b r (lane h l)) * ck (ix4 b ⟨i, hi⟩ h l)) - cc (ix3 b ⟨i, hi⟩ h)
  else if hj : i - 4096 < 16 then
    if i - 4096 ≤ r.val then (∑ l : Fin 64, q (ix3 b r (lane h l)) * k (ix3 b ⟨i - 4096, hj⟩ (lane h l))) - nc (ix3 b ⟨i - 4096, hj⟩ h)
    else ⊥
  else ⊥

/-- The value of key `i` at a lane. -/
def keyValue (cv : S32x4096x16x64.Idx → EReal) (v : S32x16x1024.Idx → EReal) (b : Fin 32) (L : Fin 1024) (i : ℕ) : EReal :=
  if hi : i < 4096 then cv (ix4 b ⟨i, hi⟩ ⟨L.val / 64, by omega⟩ ⟨L.val % 64, by omega⟩)
  else if hj : i - 4096 < 16 then v (ix3 b ⟨i - 4096, hj⟩ L) else 0

theorem lane_div (h : Fin 16) (l : Fin 64) (hb : (lane h l).val / 64 < 16) : (⟨(lane h l).val / 64, hb⟩ : Fin 16) = h :=
  Fin.ext (by show (64 * h.val + l.val) / 64 = h.val; omega)

theorem lane_mod (h : Fin 16) (l : Fin 64) (hb : (lane h l).val % 64 < 64) : (⟨(lane h l).val % 64, hb⟩ : Fin 64) = l :=
  Fin.ext (by show (64 * h.val + l.val) % 64 = l.val; omega)

theorem stack1_apply {α : Type} (f : Fin 16 → S1x16x1.Idx → α) (h r : Fin 16) : stack1 f (ix3 h r 0) = f h (ix3 0 r 0) :=
  (stack1_at f h (ix3 0 r 0) (ix3 h r 0) (by simp) rfl rfl).symm

theorem stack128_apply {α : Type} (f : Fin 16 → S1x16x128.Idx → α) (h r : Fin 16) (l : Fin 128) :
    stack128 f (ix3 h r l) = f h (ix3 0 r l) :=
  (stack128_at f h (ix3 0 r l) (ix3 h r l) (by simp) rfl rfl).symm

variable (m : (ℓ : Loc nD τ sig) → Buf (Elt Ideal) ℓ) (c : Dev nD)

/-- The logits and the values of the call's arguments. -/
abbrev S (b : Fin 32) (h r : Fin 16) : ℕ → EReal :=
  keyLogit (m ((c : Thread nD τ).loc main_arg0)) (m ((c : Thread nD τ).loc main_arg1)) (m ((c : Thread nD τ).loc main_arg3))
    (m ((c : Thread nD τ).loc main_arg4)) (m ((c : Thread nD τ).loc main_arg6)) b h r

abbrev W (b : Fin 32) (L : Fin 1024) : ℕ → EReal :=
  keyValue (m ((c : Thread nD τ).loc main_arg2)) (m ((c : Thread nD τ).loc main_arg5)) b L

theorem logits_S (t : Fin cfg0.N) (h r : Fin 16) (j : Fin 512) :
    logits (iblk m c 0 t) (iblk m c 1 t) (iblk m c 3 t) h (ix2 r j) = S m c (batch t) h r (512 * (t.val % 8) + j.val) := by
  have hk : 512 * (t.val % 8) + j.val < 4096 := (key t j).isLt
  rw [logits_apply, blk3]
  unfold S keyLogit
  rw [dif_pos hk]
  refine congrArg₂ (· - ·) (Finset.sum_congr rfl fun l _ => ?_) rfl
  beta_reduce
  rw [blk0, blk1, lane_div, lane_mod]
  rfl

theorem logitsN_S (t : Fin cfg0.N) (h r : Fin 16) (j : Fin 16) :
    logitsN (iblk m c 0 t) (iblk m c 4 t) (iblk m c 6 t) h (ix2 r j) = S m c (batch t) h r (4096 + j.val) := by
  rw [logitsN_apply, blk6]
  unfold S keyLogit
  rw [dif_neg (by omega), dif_pos (by omega)]
  have e : (⟨4096 + j.val - 4096, by omega⟩ : Fin 16) = j := Fin.ext (by show 4096 + j.val - 4096 = j.val; omega)
  rw [e, show 4096 + j.val - 4096 = j.val by omega]
  refine if_congr Iff.rfl ?_ rfl
  refine congrArg₂ (· - ·) (Finset.sum_congr rfl fun l _ => ?_) rfl
  beta_reduce
  rw [blk0, blk4]

theorem value_W (t : Fin cfg0.N) (L : Fin 1024) (j : Fin 512) :
    iblk m c 2 t (ix3 0 j L) = W m c (batch t) L (512 * (t.val % 8) + j.val) := by
  have hk : 512 * (t.val % 8) + j.val < 4096 := (key t j).isLt
  rw [blk2]
  unfold W keyValue
  rw [dif_pos hk]
  rfl

theorem valueN_W (t : Fin cfg0.N) (L : Fin 1024) (j : Fin 16) :
    iblk m c 5 t (ix3 0 j L) = W m c (batch t) L (4096 + j.val) := by
  rw [blk5]
  unfold W keyValue
  rw [dif_neg (by omega), dif_pos (by omega)]
  exact congrArg (fun k => m ((c : Thread nD τ).loc main_arg5) (ix3 (batch t) k L)) (Fin.ext (by show j.val = 4096 + j.val - 4096; omega))

/-- What the scratch holds over the first `n` keys of batch element `b`. -/
def Holds (b : Fin 32) (n : ℕ) (M L : Vec Ideal S16x16x1 .f32) (A : Vec Ideal S16x16x128 .f32) : Prop :=
  ∀ h r : Fin 16, M (ix3 h r 0) = Online.mx (S m c b h r) n ∧ L (ix3 h r 0) = Online.den (S m c b h r) n
    ∧ ∀ l : Fin 128, A (ix3 h r l) = Online.num (S m c b h r) (W m c b (pairLane h l)) n

/-- One step over a block of cached keys. -/
theorem holds_step (hs : ∀ b h r i, i < 4112 → S m c b h r i ≠ ⊤) (t : Fin cfg0.N) (M L : Vec Ideal S16x16x1 .f32) (A : Vec Ideal S16x16x128 .f32)
    (H : Holds m c (batch t) (512 * (t.val % 8)) M L A) :
    Holds m c (batch t) (512 * (t.val % 8) + 512)
      (stack1 (headM (iblk m c 0 t) (iblk m c 1 t) (iblk m c 3 t) (part1 M)))
      (stack1 (headL (iblk m c 0 t) (iblk m c 1 t) (iblk m c 3 t) (part1 M) (part1 L)))
      (stack128 (headA (iblk m c 0 t) (iblk m c 1 t) (iblk m c 2 t) (iblk m c 3 t) (part1 M) (part128 A))) := by
  intro h r
  obtain ⟨hM, hL, hA⟩ := H h r
  have hs' : ∀ i < 512 * (t.val % 8) + 512, S m c (batch t) h r i ≠ ⊤ := fun i hi => hs _ _ _ _ (by omega)
  refine ⟨?_, ?_, fun l => ?_⟩
  · rw [stack1_apply]
    exact headM_step _ _ _ _ _ _ h r (by rw [part1_apply, hM]) (logits_S m c t h r)
  · rw [stack1_apply]
    exact headL_step _ _ _ _ _ _ _ h r hs' (by rw [part1_apply, hM]) (by rw [part1_apply, hL]) (logits_S m c t h r)
  · rw [stack128_apply]
    exact headA_step _ _ _ _ _ _ _ _ h r hs' _ l (by rw [part1_apply, hM]) (by rw [part128_apply, hA]) (logits_S m c t h r)
      (value_W m c t _)

theorem holds_start (b : Fin 32) : Holds m c b 0 (k0_pay201 (F := Ideal)) (k0_pay202 (F := Ideal)) (k0_pay203 (F := Ideal)) := by
  intro h r
  refine ⟨?_, ?_, fun l => ?_⟩
  · rw [Online.mx_zero]; rfl
  · rw [Online.den_zero]; pointwise [k0_pay202]
  · rw [Online.num_zero]; pointwise [k0_pay203]

/-- The scratch before the last point of a batch element. -/
theorem holds (hs : ∀ b h r i, i < 4112 → S m c b h r i ≠ ⊤) : ∀ (n : ℕ) (hn : n < cfg0.N), ¬ n % 8 = 7 →
    Holds m c (batch ⟨n, hn⟩) (512 * (n % 8) + 512) (outsAt0 m c n hn).2.1 (outsAt0 m c n hn).2.2.1 (outsAt0 m c n hn).2.2.2 := by
  intro n
  induction n with
  | zero =>
    intro hn h7
    rw [outsAt0_A m c ⟨0, hn⟩ rfl h7]
    dsimp only
    rw [sout_A_0, sout_A_1, sout_A_2]
    exact holds_step m c hs ⟨0, hn⟩ _ _ _ (holds_start m c _)
  | succ n ih =>
    intro hn h7
    by_cases h0 : (n + 1) % 8 = 0
    · rw [outsAt0_A m c ⟨n + 1, hn⟩ h0 h7]
      dsimp only
      rw [sout_A_0, sout_A_1, sout_A_2]
      refine holds_step m c hs ⟨n + 1, hn⟩ _ _ _ ?_
      show Holds m c _ (512 * ((n + 1) % 8)) _ _ _
      rw [h0]
      exact holds_start m c _
    · rw [outsAt0_B m c ⟨n + 1, hn⟩ h0 h7]
      dsimp only
      rw [sout_B_0, sout_B_1, sout_B_2]
      refine holds_step m c hs ⟨n + 1, hn⟩ _ _ _ ?_
      have H := ih (by omega) (by omega)
      have e : batch ⟨n, by omega⟩ = batch ⟨n + 1, hn⟩ := Fin.ext (by show n / 8 = (n + 1) / 8; omega)
      have e' : 512 * (n % 8) + 512 = 512 * ((n + 1) % 8) := by omega
      rw [e, e'] at H
      exact H

/-- The output of a batch element: what its last point stores. -/
theorem out_apply (hs : ∀ b h r i, i < 4112 → S m c b h r i ≠ ⊤) (t : Fin cfg0.N) (h7 : t.val % 8 = 7) (r : Fin 16) (L : Fin 1024) :
    (outsAt0 m c t.val t.isLt).1 (ix3 0 r L)
      = Ideal.div (Online.num (S m c (batch t) (headOf L) r) (W m c (batch t) L) 4112) (Online.den (S m c (batch t) (headOf L) r) 4112)
        * sigm (m ((c : Thread nD τ).loc main_arg7) (ix3 (batch t) r L)) := by
  have hN : t.val < 256 := lt_of_lt_of_eq t.isLt (show cfg0.N = 256 from N_0)
  rw [outsAt0_C m c t (by omega) h7]
  dsimp only
  rw [out_C, pairOut_apply, blk7]
  have H := holds m c hs (t.val - 1) (by omega) (by omega)
  have e : batch ⟨t.val - 1, by omega⟩ = batch t := Fin.ext (by show (t.val - 1) / 8 = t.val / 8; omega)
  have e' : 512 * ((t.val - 1) % 8) + 512 = 512 * (t.val % 8) := by omega
  rw [e, e'] at H
  obtain ⟨hM, hL, hA⟩ := H (headOf L) r
  have hA := hA (within L)
  have eL : pairLane (headOf L) (within L) = L := Fin.ext (by simp [pairLane, headOf, within]; omega)
  have eN : 512 * (t.val % 8) + 512 = 4096 := by omega
  have hs' : ∀ i < 512 * (t.val % 8) + 512, S m c (batch t) (headOf L) r i ≠ ⊤ := fun i hi => hs _ _ _ _ (by omega)
  have hM' := headM_step (iblk m c 0 t) (iblk m c 1 t) (iblk m c 3 t) (part1 _) _ _ (headOf L) r ((part1_apply _ _ _).trans hM) (logits_S m c t _ r)
  have hL' := headL_step (iblk m c 0 t) (iblk m c 1 t) (iblk m c 3 t) (part1 _) (part1 _) _ _ (headOf L) r hs' ((part1_apply _ _ _).trans hM)
    ((part1_apply _ _ _).trans hL) (logits_S m c t _ r)
  have hA' := headA_step (iblk m c 0 t) (iblk m c 1 t) (iblk m c 2 t) (iblk m c 3 t) (part1 _) (part128 _) _ _ (headOf L) r hs' _ (within L)
    ((part1_apply _ _ _).trans hM) ((part128_apply _ _ _ _).trans hA) (logits_S m c t _ r) (value_W m c t _)
  rw [eN] at hM' hL' hA'
  have hs4 : ∀ i < 4096 + 16, S m c (batch t) (headOf L) r i ≠ ⊤ := fun i hi => hs _ _ _ _ (by omega)
  refine congrArg (· * sigm (m ((c : Thread nD τ).loc main_arg7) (ix3 (batch t) r L))) (congrArg₂ Ideal.div ?_ ?_)
  · rw [headAN_step _ _ _ _ _ _ 4096 _ _ r hs4 _ (within L) hM' hA' (logitsN_S m c t _ r) (valueN_W m c t _), eL]
  · rw [headLN_step _ _ _ _ _ 4096 _ _ r hs4 hM' hL' (logitsN_S m c t _ r)]

end Cert.KernelIdeal.Step

end
-- ==== Proof.SampleRef.lean ====
/- The reference's softmax attention, read at an index: a weighted sum over all 4112 keys with the weights of the full softmax. -/
module

public import proofs.«01_k».proof.Proof.SampleRun
public import proofs.«01_k».proof.Proof.Gen.ReferenceIdeal.Run
public import proofs.«01_k».proof.Proof.Gen.ReferenceIdeal.Read
public import Idealize.ShloMosaic.Lib.Pointwise
public import Idealize.ShloMosaic.Lib.KernelVsHost

@[expose] public section

set_option maxRecDepth 100000

noncomputable section

namespace Cert.ReferenceIdeal.Read

open Cert.ReferenceIdeal Cert.ReferenceIdeal.Gen Idealize.ShloMosaic
open Cert.KernelIdeal.Step (keyLogit keyValue lane sigm headOf)

variable (x0 : FVec Ideal S32x16x1024 .bf16) (x1 x2 : FVec Ideal S32x4096x16x64 .f32) (x3 : FVec Ideal S32x4096x16 .f32)
  (x4 x5 : FVec Ideal S32x16x1024 .bf16) (x6 : FVec Ideal S32x16x16 .f32) (x7 : FVec Ideal S32x16x1024 .f32)

/-- The causal mask: query `r` of the sample sees the first `4096 + r + 1` keys. -/
theorem mask_apply (r : Fin 16) (i : Fin 4112) : val_main_v26 (F := Ideal) (ix2 r i) = if i.val ≤ 4096 + r.val then 1#1 else 0#1 := by
  pointwise [val_main_v26, val_main_v25, val_main_v24, val_main_v23, val_main_v22, val_main_v21, val_main_v20, val_main_v19, val_main_v18, val_main_c]
  have hr : (IntOp.addi (4096#32) (BitVec.ofNat 32 r.val)).toInt = 4096 + r.val := by
    have : IntOp.addi (4096#32) (BitVec.ofNat 32 r.val) = BitVec.ofNat 32 (4096 + r.val) := by
      show 4096#32 + BitVec.ofNat 32 r.val = _
      rw [BitVec.ofNat_add]
    rw [this, BitVec.toInt_eq_toNat_cond, BitVec.toNat_ofNat]
    have := r.isLt
    rw [Nat.mod_eq_of_lt (by omega), if_pos (by omega)]
    push_cast; rfl
  have hi : (BitVec.ofNat 32 i.val).toInt = i.val := by
    have := i.isLt
    rw [BitVec.toInt_eq_toNat_cond, BitVec.toNat_ofNat, Nat.mod_eq_of_lt (by omega), if_pos (by omega)]
  simp only [IntOp.cmpi, BitVec.sle, hr, hi]
  by_cases h : i.val ≤ 4096 + r.val
  · rw [if_pos h, decide_eq_true (by omega)]; rfl
  · rw [if_neg h, decide_eq_false (by omega)]; rfl

theorem lane_eq (h : Fin 16) (l : Fin 64) (hb : h.val * 64 + l.val < 1024) : (⟨h.val * 64 + l.val, hb⟩ : Fin 1024) = lane h l :=
  Fin.ext (by show h.val * 64 + l.val = 64 * h.val + l.val; omega)

theorem swap (a n c : EReal) : a + n - c = a - c + n := by
  rw [sub_eq_add_neg, sub_eq_add_neg, add_right_comm]

/-- A logit of the reference is the kernel's logit with the query's own cumulative gate added. -/
theorem logit_apply (b : Fin 32) (h r : Fin 16) (i : Fin 4112) :
    val_main_v27 (F := Ideal) x0 x1 x3 x4 x6 (ix4 b h r i) = keyLogit x0 x1 x3 x4 x6 b h r i.val + x6 (ix3 b r h) := by
  pointwise [val_main_v27, val_main_call0_v1, val_main_call0_v2, val_main_call0_v0, val_main_cst, val_main_v17, val_main_v16, val_main_v15, val_main_v14, val_main_v13, val_main_v12, val_main_v11, val_main_v10, val_main_v9, val_main_v8, val_main_v6, val_main_v3, val_main_v2, val_main_v1, val_main_v0]
  rw [mask_apply]
  have hb : (id (constant (F := Ideal) S_ .f32 4286578688#32) ix0 : EReal) = ⊥ := Cert.KernelIdeal.Step.start_eq
  have hi := i.isLt
  unfold keyLogit
  by_cases h1 : i.val < 4096
  · rw [if_pos (by omega), dif_pos h1]
    simp only [Scalar.select, dif_pos h1, lane_eq]
    exact (if_pos (show (1#1 : BitVec 1) = 1 from rfl)).trans (swap _ _ _)
  · have hj : i.val - 4096 < 16 := by omega
    simp only [dif_neg h1, dif_pos hj]
    by_cases h2 : i.val - 4096 ≤ r.val
    · rw [if_pos (by omega), if_pos h2]
      simp only [Scalar.select, lane_eq]
      exact (if_pos (show (1#1 : BitVec 1) = 1 from rfl)).trans (swap _ _ _)
    · rw [if_neg (by omega), if_neg h2]
      exact hb.trans (EReal.bot_add _).symm

theorem value_apply (b : Fin 32) (h : Fin 16) (l : Fin 64) (i : Fin 4112) :
    val_main_v7 (F := Ideal) x2 x5 (ix4 b i h l) = keyValue x2 x5 b (lane h l) i.val := by
  pointwise [val_main_v7, val_main_v5, val_main_v4]
  have hi := i.isLt
  unfold keyValue
  by_cases h1 : i.val < 4096
  · rw [dif_pos h1, dif_pos h1, Cert.KernelIdeal.Step.lane_div, Cert.KernelIdeal.Step.lane_mod]
  · rw [dif_neg h1, dif_neg h1, dif_pos (by omega), lane_eq]

section stages
variable {x0 x1 x2 x3 x4 x5 x6} {b : Fin 32} {h r : Fin 16} {x : ℕ → EReal}

theorem fold_eq (N : ℕ) (s : ℕ → EReal) : max ⊥ ((Finset.univ : Finset (Fin N)).fold max ⊥ fun k => s k.val) = Online.mx s N := by
  have := Online.mx_step (s := s) 0 N (fun k => s k) (fun k => by rw [Nat.zero_add])
  rw [Online.mx_zero, Nat.zero_add] at this
  exact this

theorem rowMax_apply (y : FVec Ideal S32x16x16x4112 .f32) (b : Fin 32) (h r : Fin 16) :
    Host.reduce FloatOps.maximumf y (val_main_cst_0 (F := Ideal)) reducesTo_S32x16x16x4112_S32x16x16_d3 h_S_ (ix3 b h r)
      = Finset.fold max ⊥ (fun k => y (ix4 b h r k)) Finset.univ := by
  rw [← Cert.KernelIdeal.Step.start_eq]
  pointwise [val_main_cst_0]

theorem max_apply (hx : ∀ k : Fin 4112, val_main_v27 (F := Ideal) x0 x1 x3 x4 x6 (ix4 b h r k) = x k) :
    val_main_v30 (F := Ideal) x0 x1 x3 x4 x6 (ix3 b h r) = Online.mx x 4112 := by
  have e : val_main_v28 (F := Ideal) x0 x1 x3 x4 x6 (ix3 b h r) = _ := rowMax_apply _ b h r
  simp only [hx] at e
  rw [val_main_v30_apply, val_main_v29_apply, val_main_cst_1_apply, e, ← fold_eq 4112 x]
  exact congrArg₂ max Cert.KernelIdeal.Step.start_eq rfl

theorem exp_apply (hx : ∀ k : Fin 4112, val_main_v27 (F := Ideal) x0 x1 x3 x4 x6 (ix4 b h r k) = x k) (k : Fin 4112) :
    val_main_v34 (F := Ideal) x0 x1 x3 x4 x6 (ix4 b h r k) = Online.wt (x k) (Online.mx x 4112) := by
  rw [← hx k, ← max_apply hx]
  pointwise [val_main_v34, val_main_v33, val_main_v32, val_main_v31]
  rfl

theorem sum_apply (hx : ∀ k : Fin 4112, val_main_v27 (F := Ideal) x0 x1 x3 x4 x6 (ix4 b h r k) = x k) :
    val_main_v35 (F := Ideal) x0 x1 x3 x4 x6 (ix3 b h r) = Online.den x 4112 := by
  pointwise [val_main_v35, val_main_cst_2]
  unfold Online.den
  rw [Finset.sum_range]
  exact Finset.sum_congr rfl fun k _ => exp_apply hx k

theorem weight_apply (hx : ∀ k : Fin 4112, val_main_v27 (F := Ideal) x0 x1 x3 x4 x6 (ix4 b h r k) = x k) (k : Fin 4112) :
    val_main_v38 (F := Ideal) x0 x1 x3 x4 x6 (ix4 b h r k) = Ideal.div (Online.wt (x k) (Online.mx x 4112)) (Online.den x 4112) := by
  rw [← exp_apply hx k, ← sum_apply hx]
  pointwise [val_main_v38, val_main_v37, val_main_v36]

theorem attend_apply (hx : ∀ k : Fin 4112, val_main_v27 (F := Ideal) x0 x1 x3 x4 x6 (ix4 b h r k) = x k) (l : Fin 64) :
    val_main_v39 (F := Ideal) x0 x1 x2 x3 x4 x5 x6 (ix4 b h l r)
      = ∑ i ∈ Finset.range 4112, keyValue x2 x5 b (lane h l) i * Ideal.div (Online.wt (x i) (Online.mx x 4112)) (Online.den x 4112) := by
  rw [Finset.sum_range]
  pointwise [val_main_v39]
  exact Finset.sum_congr rfl fun k _ => by rw [weight_apply hx k, value_apply]

end stages

theorem lane_head (L : Fin 1024) (h2 : L.val % 64 < 64) : lane (headOf L) ⟨L.val % 64, h2⟩ = L :=
  Fin.ext (by show 64 * (L.val / 64) + L.val % 64 = L.val; omega)

/-- The reference at an index: the softmax weighted sum of the values, times the gate. -/
theorem out_apply (b : Fin 32) (r : Fin 16) (L : Fin 1024) (x : ℕ → EReal)
    (hx : ∀ i < 4112, x i = keyLogit x0 x1 x3 x4 x6 b (headOf L) r i + x6 (ix3 b r (headOf L))) :
    val_main_v49 (F := Ideal) x0 x1 x2 x3 x4 x5 x6 x7 (ix3 b r L)
      = (∑ i ∈ Finset.range 4112, keyValue x2 x5 b L i * Ideal.div (Online.wt (x i) (Online.mx x 4112)) (Online.den x 4112))
        * sigm (x7 (ix3 b r L)) := by
  have hv := attend_apply (x2 := x2) (x5 := x5) (fun k => (logit_apply x0 x1 x3 x4 x6 b (headOf L) r k).trans (hx k k.isLt).symm) ⟨L.val % 64, by omega⟩
  rw [lane_head] at hv
  rw [← hv]
  pointwise [val_main_v49, val_main_v48, val_main_v47, val_main_v46, val_main_v45, val_main_v44, val_main_v43, val_main_v42, val_main_v41, val_main_v40, val_main_cst_3, val_main_cst_4]
  unfold sigm
  rw [zero_sub]
  rfl

end Cert.ReferenceIdeal.Read
-- ==== Proof.SampleValue.lean ====
/- The sample attention's call against the softmax attention of the reference: the kernel's array is the reference's, on finite queries,
   keys and cumulative gates. -/
module

public import proofs.«01_k».proof.Proof.SampleRef
public import proofs.«01_k».proof.Proof.Gen.KernelIdeal.Value
public import proofs.«01_k».proof.Proof.Gen.Pre_finite_logits
public import Idealize.ShloMosaic.Lib.ReduceAll
public import Idealize.ShloMosaic.Lib.Pointwise

@[expose] public section

set_option maxRecDepth 100000

noncomputable section

/-! ## The precondition, read: every float it names is a real -/

namespace Cert.Pre_finite_logits.Read

open Idealize.ShloMosaic Cert.Pre_finite_logits Cert.Pre_finite_logits.Gen

instance : Subsingleton S_.Idx := ⟨fun a b => funext fun i => i.elim0⟩

theorem lt_inf (x : EReal) (h : FloatOps.cmpf (F := Ideal) .olt (FloatOps.hostAbsf (F := Ideal) (φ := .f32) x) (FloatOps.ofBits .f32 0x7F800000#32) = 1#1) :
    x ≠ ⊤ ∧ x ≠ ⊥ := by
  have hi : Ideal.ofBits FTy.f32 0x7F800000#32 = ⊤ := by simp [Ideal.ofBits, Ideal.ieee]
  have ht : FloatOps.absf (F := Ideal) (φ := .f32) (⊤ : EReal) = (⊤ : EReal) := by show max (⊤ : EReal) (-⊤) = ⊤; simp
  have hb : FloatOps.absf (F := Ideal) (φ := .f32) (⊥ : EReal) = (⊤ : EReal) := by show max (⊥ : EReal) (-⊥) = ⊤; simp
  constructor <;> rintro rfl <;> revert h <;> pointwise [hi] <;> simp [ht, hb]

theorem real_of_one {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : x i ≠ ⊤ ∧ x i ≠ ⊥ :=
  lt_inf (x i) (Host.reduce_andi_all _ _ hr hu ix0 h i)

theorem finite (x0 : FVec Ideal S32x16x1024 .bf16) (x1 x2 : FVec Ideal S32x4096x16x64 .f32) (x3 : FVec Ideal S32x4096x16 .f32)
    (x4 x5 : FVec Ideal S32x16x1024 .bf16) (x6 : FVec Ideal S32x16x16 .f32) (x7 : FVec Ideal S32x16x1024 .f32)
    (h : fn (F := Ideal) x0 x1 x2 x3 x4 x5 x6 x7 = fun _ => 1#1) :
    (∀ i, x0 i ≠ ⊤ ∧ x0 i ≠ ⊥) ∧ (∀ i, x1 i ≠ ⊤ ∧ x1 i ≠ ⊥) ∧ (∀ i, x3 i ≠ ⊤ ∧ x3 i ≠ ⊥) ∧ (∀ i, x4 i ≠ ⊤ ∧ x4 i ≠ ⊥) ∧ (∀ i, x6 i ≠ ⊤ ∧ x6 i ≠ ⊥) := by
  have e := congrFun h ix0
  unfold fn fn_part1 at e
  have andi_one (a b : BitVec 1) : IntOp.andi a b = 1#1 ↔ a = 1#1 ∧ b = 1#1 := by revert a b; decide
  simp only [andi, andi_one] at e
  obtain ⟨⟨⟨⟨e0, e1⟩, e3⟩, e4⟩, e6⟩ := e
  exact ⟨fun i => real_of_one _ _ _ _ e0 i, fun i => real_of_one _ _ _ _ e1 i, fun i => real_of_one _ _ _ _ e3 i,
    fun i => real_of_one _ _ _ _ e4 i, fun i => real_of_one _ _ _ _ e6 i⟩

end Cert.Pre_finite_logits.Read

namespace Cert.KernelIdeal.Step

open Cert.KernelIdeal Cert.KernelIdeal.Gen Cert.KernelIdeal.Value Idealize.ShloMosaic Idealize.ShloMosaic.TcCoe

theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem real_sub {a b : EReal} (ha : a ≠ ⊤ ∧ a ≠ ⊥) (hb : b ≠ ⊤ ∧ b ≠ ⊥) : a - b ≠ ⊤ ∧ a - b ≠ ⊥ := by
  lift a to ℝ using ha
  lift b to ℝ using hb
  rw [← EReal.coe_sub]
  exact ⟨EReal.coe_ne_top _, EReal.coe_ne_bot _⟩

theorem real_sum {ι : Type} (S : Finset ι) (f : ι → EReal) (h : ∀ i, f i ≠ ⊤ ∧ f i ≠ ⊥) : (∑ i ∈ S, f i) ≠ ⊤ ∧ (∑ i ∈ S, f i) ≠ ⊥ := by
  have e : ∀ i, f i = ((f i).toReal : EReal) := fun i => (EReal.coe_toReal (h i).1 (h i).2).symm
  have : (∑ i ∈ S, f i) = ((∑ i ∈ S, (f i).toReal : ℝ) : EReal) := by
    classical
    induction S using Finset.induction_on with
    | empty => simp
    | insert a T ha ih => rw [Finset.sum_insert ha, Finset.sum_insert ha, ih, EReal.coe_add, ← e a]
  rw [this]
  exact ⟨EReal.coe_ne_top _, EReal.coe_ne_bot _⟩

section logits
variable {q : S32x16x1024.Idx → EReal} {ck : S32x4096x16x64.Idx → EReal} {cc : S32x4096x16.Idx → EReal}
  {k : S32x16x1024.Idx → EReal} {nc : S32x16x16.Idx → EReal}
  (hq : ∀ i, q i ≠ ⊤ ∧ q i ≠ ⊥) (hck : ∀ i, ck i ≠ ⊤ ∧ ck i ≠ ⊥) (hcc : ∀ i, cc i ≠ ⊤ ∧ cc i ≠ ⊥)
  (hk : ∀ i, k i ≠ ⊤ ∧ k i ≠ ⊥) (hnc : ∀ i, nc i ≠ ⊤ ∧ nc i ≠ ⊥)
include hq hck hcc

theorem keyLogit_cached (b : Fin 32) (h r : Fin 16) (i : ℕ) (hi : i < 4096) :
    keyLogit q ck cc k nc b h r i ≠ ⊤ ∧ keyLogit q ck cc k nc b h r i ≠ ⊥ := by
  unfold keyLogit
  rw [dif_pos hi]
  exact real_sub (real_sum _ _ fun l => real_mul (hq _) (hck _)) (hcc _)

include hk hnc

theorem keyLogit_ne_top (b : Fin 32) (h r : Fin 16) (i : ℕ) : keyLogit q ck cc k nc b h r i ≠ ⊤ := by
  by_cases hi : i < 4096
  · exact (keyLogit_cached hq hck hcc b h r i hi).1
  · unfold keyLogit
    rw [dif_neg hi]
    split
    · split
      · exact (real_sub (real_sum _ _ fun l => real_mul (hq _) (hk _)) (hnc _)).1
      · exact bot_ne_top
    · exact bot_ne_top

end logits

variable (m : (ℓ : Loc nD τ sig) → Buf (Elt Ideal) ℓ) (c : Dev nD)

theorem G8_apply (hs : ∀ b h r i, i < 4112 → S m c b h r i ≠ ⊤) (b : Fin 32) (r : Fin 16) (L : Fin 1024) :
    G8 m c (ix3 b r L) = Ideal.div (Online.num (S m c b (headOf L) r) (W m c b L) 4112) (Online.den (S m c b (headOf L) r) 4112)
      * sigm (m ((c : Thread nD τ).loc main_arg7) (ix3 b r L)) := by
  have hp : pt8Of (ix3 b r L) = 8 * b.val + 7 := by
    show 8 * run8Of (ix3 b r L) + 7 = _
    have : run8Of (ix3 b r L) = b.val := by
      show 1 * (b.val / 1 - 0) + 1 * (r.val / 16 - 0) + 1 * (L.val / 1024 - 0) = b.val; omega
    rw [this]
  have hN : 8 * b.val + 7 < cfg0.N := by rw [show cfg0.N = 256 from N_0]; omega
  have hl : loc8Of (ix3 b r L) = ix3 0 r L := by
    funext a; apply Fin.ext
    match a with
    | ⟨0, _⟩ => exact Nat.mod_one _
    | ⟨1, _⟩ => exact Nat.mod_eq_of_lt r.isLt
    | ⟨2, _⟩ => exact Nat.mod_eq_of_lt L.isLt
  have hb : batch ⟨8 * b.val + 7, hN⟩ = b := Fin.ext (by show (8 * b.val + 7) / 8 = b.val; omega)
  have e := out_apply m c hs ⟨8 * b.val + 7, hN⟩ (by show (8 * b.val + 7) % 8 = 7; omega) r L
  rw [outsAt0_sweep, hb] at e
  unfold G8
  rw [dif_pos (hp ▸ hN), hl]
  simp only [hp]
  exact e

/-- Every element is a real. -/
def IsReal {s : Shape} (x : s.Idx → EReal) : Prop := ∀ i, x i ≠ ⊤ ∧ x i ≠ ⊥

/-- The array the call leaves is the reference's softmax attention of the same arguments. -/
theorem value_eq (hq : IsReal (s := S32x16x1024) (m ((c : Thread nD τ).loc main_arg0)))
    (hck : IsReal (s := S32x4096x16x64) (m ((c : Thread nD τ).loc main_arg1)))
    (hcc : IsReal (s := S32x4096x16) (m ((c : Thread nD τ).loc main_arg3)))
    (hk : IsReal (s := S32x16x1024) (m ((c : Thread nD τ).loc main_arg4)))
    (hnc : IsReal (s := S32x16x16) (m ((c : Thread nD τ).loc main_arg6))) :
    (G8 m c : S32x16x1024.Idx → EReal) = Cert.ReferenceIdeal.Read.val_main_v49 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  have hs : ∀ b h r i, i < 4112 → S m c b h r i ≠ ⊤ := fun b h r i _ => keyLogit_ne_top hq hck hcc hk hnc b h r i
  funext y
  obtain ⟨b, r, L, rfl⟩ : ∃ (b : Fin 32) (r : Fin 16) (L : Fin 1024), y = ix3 b r L := ⟨y 0, y 1, y 2, eq_ix3 y⟩
  have hc := EReal.coe_toReal (hnc (ix3 b r (headOf L))).1 (hnc (ix3 b r (headOf L))).2
  refine (G8_apply m c hs b r L).trans ?_
  refine Eq.trans ?_ (Cert.ReferenceIdeal.Read.out_apply _ _ _ _ _ _ _ _ b r L
    (fun i => S m c b (headOf L) r i + m ((c : Thread nD τ).loc main_arg6) (ix3 b r (headOf L))) (fun i _ => rfl)).symm
  refine congrArg (· * _) ?_
  exact Online.softmax_eq 4112 (fun i hi => hs _ _ _ i hi) ⟨0, by omega, (keyLogit_cached hq hck hcc b (headOf L) r 0 (by omega)).2⟩
    (EReal.toReal (m ((c : Thread nD τ).loc main_arg6) (ix3 b r (headOf L)))) _ (fun i _ => congrArg (_ + ·) hc.symm)

end Cert.KernelIdeal.Step
-- ==== Proof.FfnLoop.lean ====
/- The feed-forward kernel's loop over the slices of the hidden width: what the accumulator holds after each trip,
   and so what the body leaves in its output block. -/
module

public import proofs.«01_k».proof.Proof.Gen.Kernel2Ideal.Value
public import Idealize.ShloMosaic.Lib.Pipeline.ReadBack
public import Idealize.ShloMosaic.Lib.Pipeline.ValueKit
public import Idealize.ShloMosaic.Lib.VecWindow

@[expose] public section

set_option maxRecDepth 100000
set_option maxHeartbeats 400000

noncomputable section

namespace Proof.Ffn

open Cert.Kernel2Ideal Cert.Kernel2Ideal.Gen Idealize.ShloMosaic Idealize.ShloMosaic.TcCoe Idealize.ShloMosaic.Tactic

variable {F : FTy → Type} [FloatOps F]

theorem off1_eq (k : Fin k0_t1_loop.trips) : k0_off1 k = ![k.val, 0, 0] := by revert k; decide +kernel
theorem off2_eq (k : Fin k0_t1_loop.trips) : k0_off2 k = ![k.val, 0, 0] := by revert k; decide +kernel

theorem inb1 (k : Fin 11) : ∀ a, (![k.val, 0, 0] : Fin 3 → ℕ) a + S1x1024x256.size a ≤ S11x1024x256.size a := by revert k; decide +kernel
theorem inb2 (k : Fin 11) : ∀ a, (![k.val, 0, 0] : Fin 3 → ℕ) a + S1x256x1024.size a ≤ S11x256x1024.size a := by revert k; decide +kernel

/-- Slice `k` of a stack of 11 weight slices (gate or up). -/
def slab1 (w : Vec F S11x1024x256 .bf16) (k : Fin 11) : Vec F S1x1024x256 .bf16 :=
  VecWindow.window w ![k.val, 0, 0] S1x1024x256.size (inb1 k)

/-- Slice `k` of a stack of 11 weight slices (down). -/
def slab2 (w : Vec F S11x256x1024 .bf16) (k : Fin 11) : Vec F S1x256x1024 .bf16 :=
  VecWindow.window w ![k.val, 0, 0] S1x256x1024.size (inb2 k)

/-- The accumulator after `n` trips of the loop. -/
def accum (xn : Vec F S512x1024 .bf16) (wg wu : Vec F S11x1024x256 .bf16) (wd : Vec F S11x256x1024 .bf16) (a0 : Vec F S512x1024 .f32) : ℕ → Vec F S512x1024 .f32
  | 0 => a0
  | n + 1 => if h : n < 11 then k0_pay4 xn (slab1 wg ⟨n, h⟩) (slab1 wu ⟨n, h⟩) (accum xn wg wu wd a0 n) (slab2 wd ⟨n, h⟩) else accum xn wg wu wd a0 n

/-- One trip's one store. -/
theorem trip_eq (𝒱 : Variants) (c : Dev nD) (bd : Option 𝒱.V) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (k : Fin k0_t1_loop.trips) (hk : k.val < 11) (f : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 X_arg5 X_arg6 X_arg7 X_arg9 k f
      = [⟨Rect.unit ![0, 0] ![512, 1024] inb_S512x1024_S512x1024_0_0,
          k0_pay4 (arg9.view.read (Elt F) X_arg9) (slab1 (arg5.view.read (Elt F) X_arg5) ⟨k.val, hk⟩) (slab1 (arg6.view.read (Elt F) X_arg6) ⟨k.val, hk⟩)
            (arg10.view.read (Elt F) f) (slab2 (arg7.view.read (Elt F) X_arg7) ⟨k.val, hk⟩)⟩] := by
  unfold tripL_k0_t1 trip_k0_t1
  dsimp only
  rw [show View.readAt (Elt F) arg9.view (Rect.unit ![0, 0] ![512, 1024] inb_S512x1024_S512x1024_0_0).toLoadRect X_arg9 = arg9.view.read (Elt F) X_arg9 from View.readAt_full arg9.view X_arg9 inb_S512x1024_S512x1024_0_0,
    show View.readAt (Elt F) arg10.view (Rect.unit ![0, 0] ![512, 1024] inb_S512x1024_S512x1024_0_0).toLoadRect f = arg10.view.read (Elt F) f from View.readAt_full arg10.view f inb_S512x1024_S512x1024_0_0]
  rw [show View.readAt (Elt F) arg5.view (Rect.unit (k0_off1 k) ![1, 1024, 256] (k0_off1_inb k)).toLoadRect X_arg5 = slab1 (arg5.view.read (Elt F) X_arg5) ⟨k.val, hk⟩ from View.readAt_unit arg5.view X_arg5 (k0_off1_inb k) (off1_eq k) (inb1 ⟨k.val, hk⟩),
    show View.readAt (Elt F) arg6.view (Rect.unit (k0_off1 k) ![1, 1024, 256] (k0_off1_inb k)).toLoadRect X_arg6 = slab1 (arg6.view.read (Elt F) X_arg6) ⟨k.val, hk⟩ from View.readAt_unit arg6.view X_arg6 (k0_off1_inb k) (off1_eq k) (inb1 ⟨k.val, hk⟩),
    show View.readAt (Elt F) arg7.view (Rect.unit (k0_off2 k) ![1, 256, 1024] (k0_off2_inb k)).toLoadRect X_arg7 = slab2 (arg7.view.read (Elt F) X_arg7) ⟨k.val, hk⟩ from View.readAt_unit arg7.view X_arg7 (k0_off2_inb k) (off2_eq k) (inb2 ⟨k.val, hk⟩)]

theorem trips_eq : k0_t1_loop.trips = 11 := by decide +kernel

/-- The accumulator's contents after `n` trips. -/
theorem read_pb (𝒱 : Variants) (c : Dev nD) (bd : Option 𝒱.V) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (G_arg10 : BufTy.Contents (Elt F) arg10.view.ty) (n : ℕ) (hn : n ≤ 11) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 X_arg5 X_arg6 X_arg7 X_arg9 G_arg10 n))
      = accum (arg9.view.read (Elt F) X_arg9) (arg5.view.read (Elt F) X_arg5) (arg6.view.read (Elt F) X_arg6) (arg7.view.read (Elt F) X_arg7) (arg10.view.read (Elt F) G_arg10) n := by
  induction n with
  | zero => rfl
  | succ n ih =>
    have hk : n < k0_t1_loop.trips := by rw [trips_eq]; omega
    rw [pb_k0_t1_succ 𝒱 c bd i arg1 harg1 arg2 harg2 arg3 harg3 arg4 harg4 arg5 harg5 arg6 harg6 arg7 harg7 arg8 harg8 arg9 harg9 arg10 harg10 X_arg5 X_arg6 X_arg7 X_arg9 G_arg10 ⟨n, hk⟩, trip_eq 𝒱 c bd i arg1 harg1 arg2 harg2 arg3 harg3 arg4 harg4 arg5 harg5 arg6 harg6 arg7 harg7 arg8 harg8 arg9 harg9 arg10 harg10 X_arg5 X_arg6 X_arg7 X_arg9 ⟨n, hk⟩ (show n < 11 by omega), List.singleton_append]
    refine (View.read_writes_full arg10.view G_arg10 inb_S512x1024_S512x1024_0_0 _ _).trans ?_
    rw [ih (by omega), accum, dif_pos (by omega : n < 11)]

/-- What the body leaves in its output block, from its seven input blocks. -/
theorem out_A (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (x0 : Vec F S512x1024 .bf16) (x1 : Vec F S512x1024 .f32) (x2 : Vec F S1024x1024 .bf16) (x3 : Vec F S1x1024 .f32) (x4 : Vec F S11x1024x256 .bf16) (x5 : Vec F S11x1024x256 .bf16) (x6 : Vec F S11x256x1024 .bf16) :
    out0_A_7 c i arg1 harg1 arg2 harg2 arg3 harg3 arg4 harg4 arg5 harg5 arg6 harg6 arg7 harg7 arg8 harg8 arg9 harg9 arg10 harg10 x0 x1 x2 x3 x4 x5 x6
      = accum (k0_pay2 x1 x0 x2 x3) x4 x5 x6 (k0_pay3 x1 x0 x2) 11 := by
  unfold out0_A_7
  unfold kernelRun0_A
  dsimp only
  refine (View.read_writes_full VO0_7 _ inb_S512x1024_S512x1024_0_0 _ []).trans ?_
  unfold kernelRun0_A.sl.v28 kernelRun0_A.sl.HS0_1 kernelRun0_A.sl.HS1_1
  have e1 : View.readAt (Elt F) arg2.view (Rect.unit ![0, 0] S512x1024.size inb_S512x1024_S512x1024_0_0).toLoadRect (harg2.unread x1) = x1 :=
    (View.readAt_full arg2.view _ inb_S512x1024_S512x1024_0_0).trans (harg2.read_unread x1)
  have e0 : View.readAt (Elt F) arg1.view (Rect.unit ![0, 0] S512x1024.size inb_S512x1024_S512x1024_0_0).toLoadRect (harg1.unread x0) = x0 :=
    (View.readAt_full arg1.view _ inb_S512x1024_S512x1024_0_0).trans (harg1.read_unread x0)
  have e2 : View.readAt (Elt F) arg3.view (Rect.unit ![0, 0] S1024x1024.size inb_S1024x1024_S1024x1024_0_0).toLoadRect (harg3.unread x2) = x2 :=
    (View.readAt_full arg3.view _ inb_S1024x1024_S1024x1024_0_0).trans (harg3.read_unread x2)
  have e3 : View.readAt (Elt F) arg4.view (Rect.unit ![0, 0] S1x1024.size inb_S1x1024_S1x1024_0_0).toLoadRect (harg4.unread x3) = x3 :=
    (View.readAt_full arg4.view _ inb_S1x1024_S1x1024_0_0).trans (harg4.read_unread x3)
  rw [e0, e1, e2, e3]
  refine (View.readAt_full arg10.view _ inb_S512x1024_S512x1024_0_0).trans ?_
  rw [View.writes_append]
  refine (congrArg (fun n => arg10.view.read (Elt F) (arg10.view.writes (Elt F) _ (pb_k0_t1 (F := F) Variants.none c none i arg1 harg1 arg2 harg2 arg3 harg3 arg4 harg4 arg5 harg5 arg6 harg6 arg7 harg7 arg8 harg8 arg9 harg9 arg10 harg10 (harg5.unread x4) (harg6.unread x5) (harg7.unread x6) _ _ n))) trips_eq).trans ?_
  refine (read_pb Variants.none c none i arg1 harg1 arg2 harg2 arg3 harg3 arg4 harg4 arg5 harg5 arg6 harg6 arg7 harg7 arg8 harg8 arg9 harg9 arg10 harg10 (harg5.unread x4) (harg6.unread x5) (harg7.unread x6) _ _ 11 (le_refl 11)).trans ?_
  rw [harg5.read_unread, harg6.read_unread, harg7.read_unread]
  have h9 : arg9.view.read (Elt F) (arg9.view.writes (Elt F) arg9.view.junk [⟨Rect.unit ![0, 0] S512x1024.size inb_S512x1024_S512x1024_0_0, k0_pay2 x1 x0 x2 x3⟩]) = k0_pay2 x1 x0 x2 x3 :=
    View.read_writes_full (Val := Elt F) arg9.view arg9.view.junk inb_S512x1024_S512x1024_0_0 _ []
  have h10 : arg10.view.read (Elt F) (arg10.view.writes (Elt F) arg10.view.junk [⟨Rect.unit ![0, 0] S512x1024.size inb_S512x1024_S512x1024_0_0, k0_pay3 x1 x0 x2⟩]) = k0_pay3 x1 x0 x2 :=
    View.read_writes_full (Val := Elt F) arg10.view arg10.view.junk inb_S512x1024_S512x1024_0_0 _ []
  rw [h9, h10]

end Proof.Ffn
-- ==== Proof.FfnIdeal.lean ====
/- The feed-forward kernel's arithmetic read at an index, over the extended reals. -/
module

public import proofs.«01_k».proof.Proof.FfnLoop
public import Idealize.ShloMosaic.Lib.Pointwise
public import Idealize.ShloMosaic.Lib.KernelVsHost

@[expose] public section

set_option maxRecDepth 100000

noncomputable section

namespace Proof.Ffn

open Cert.Kernel2Ideal Cert.Kernel2Ideal.Gen Idealize.ShloMosaic

/-- A hidden unit from its two projections: the gate through `g * sigmoid g`, times the other. -/
def gated (g u : EReal) : EReal := g * Ideal.div 1 (1 + Ideal.exp (0 - g)) * u

/-- The mixed stream: the residual plus the attention's output through the output projection. -/
theorem pay1_apply (v0 : Vec Ideal S512x1024 .f32) (v1 : Vec Ideal S512x1024 .bf16) (v2 : Vec Ideal S1024x1024 .bf16) (r : Fin 512) (l : Fin 1024) :
    k0_pay1 v0 v1 v2 (ix2 r l) = v0 (ix2 r l) + ∑ k : Fin 1024, v1 (ix2 r k) * v2 (ix2 k l) := by
  pointwise [k0_pay1]

/-- The accumulator starts at the mixed stream. -/
theorem pay3_apply (v0 : Vec Ideal S512x1024 .f32) (v1 : Vec Ideal S512x1024 .bf16) (v2 : Vec Ideal S1024x1024 .bf16) (r : Fin 512) (l : Fin 1024) :
    k0_pay3 v0 v1 v2 (ix2 r l) = k0_pay1 v0 v1 v2 (ix2 r l) := by
  unfold k0_pay3
  generalize k0_pay1 v0 v1 v2 = p
  pointwise

/-- The mixed stream normalised by its root mean square, with the gain. -/
theorem pay2_apply (v0 : Vec Ideal S512x1024 .f32) (v1 : Vec Ideal S512x1024 .bf16) (v2 : Vec Ideal S1024x1024 .bf16) (v16 : Vec Ideal S1x1024 .f32) (r : Fin 512) (l : Fin 1024) :
    k0_pay2 v0 v1 v2 v16 (ix2 r l) = k0_pay1 v0 v1 v2 (ix2 r l) * Ideal.rsqrt (Ideal.div (∑ k : Fin 1024, k0_pay1 v0 v1 v2 (ix2 r k) * k0_pay1 v0 v1 v2 (ix2 r k))
        (Ideal.ofBits .f32 1149239296#32) + Ideal.ofBits .f32 897988541#32) * v16 (ix2 0 l) := by
  unfold k0_pay2
  generalize k0_pay1 v0 v1 v2 = p
  pointwise

/-- One trip: the slice's hidden units through its slice of the down projection, added on. -/
theorem pay4_apply (v30 : Vec Ideal S512x1024 .bf16) (v32 v36 : Vec Ideal S1x1024x256 .bf16) (v49 : Vec Ideal S512x1024 .f32) (v51 : Vec Ideal S1x256x1024 .bf16) (r : Fin 512) (l : Fin 1024) :
    k0_pay4 v30 v32 v36 v49 v51 (ix2 r l) = v49 (ix2 r l) + ∑ j : Fin 256,
      gated (∑ k : Fin 1024, v30 (ix2 r k) * v32 (ix3 0 k j)) (∑ k : Fin 1024, v30 (ix2 r k) * v36 (ix3 0 k j)) * v51 (ix3 0 j l) := by
  unfold gated
  pointwise [k0_pay4]

end Proof.Ffn

end
-- ==== Proof.FfnBlocks.lean ====
/- The blocks the feed-forward kernel's grid point `t` stages, read at an index: rows `512 * t …` of the two streams, and the
   weights whole, the hidden width cut into 11 slices of 256. -/
module

public import proofs.«01_k».proof.Proof.FfnIdeal
public import Idealize.ShloMosaic.Lib.Claim

@[expose] public section

set_option maxRecDepth 100000

noncomputable section

namespace Proof.Ffn

open Cert.Kernel2Ideal Cert.Kernel2Ideal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val, 0] ∧ win0_1.index t = ![t.val, 0]
    ∧ win0_2.index t = ![0, 0] ∧ win0_3.index t = ![0, 0]
    ∧ win0_4.index t = ![0, 0, 0] ∧ win0_5.index t = ![0, 0, 0] ∧ win0_6.index t = ![0, 0, 0]
    ∧ win0_7.index t = ![t.val, 0] :=
  (by decide +kernel : ∀ t : Fin grid0.N, _)

def row (t : Fin cfg0.N) (r : Fin 512) : Fin 16384 := ⟨512 * t.val + r.val, by have := lt_of_lt_of_eq t.isLt (show cfg0.N = 32 from N_0); omega⟩

theorem blk0 (c : Dev nD) (t : Fin cfg0.N) (r : Fin 512) (l : Fin 1024) :
    iblk m c 0 t (ix2 r l) = m ((c : Thread nD τ).loc main_arg0) (ix2 (row t r) l) := by
  blk_ext! [iblk, V, idx t, row]

theorem blk1 (c : Dev nD) (t : Fin cfg0.N) (r : Fin 512) (l : Fin 1024) :
    iblk m c 1 t (ix2 r l) = m ((c : Thread nD τ).loc main_arg1) (ix2 (row t r) l) := by
  blk_ext! [iblk, V, idx t, row]

theorem blk2 (c : Dev nD) (t : Fin cfg0.N) (k l : Fin 1024) :
    iblk m c 2 t (ix2 k l) = m ((c : Thread nD τ).loc main_arg2) (ix2 k l) := by
  blk_simp [iblk]
  entry_read
  pointwise
  blk_ext! [idx t]

theorem blk3 (c : Dev nD) (t : Fin cfg0.N) (l : Fin 1024) :
    iblk m c 3 t (ix2 0 l) = m ((c : Thread nD τ).loc main_arg3) (ix1 l) := by
  blk_simp [iblk]
  entry_read
  pointwise
  blk_ext! [idx t]

theorem blk4 (c : Dev nD) (t : Fin cfg0.N) (n : Fin 11) (k : Fin 1024) (j : Fin 256) :
    iblk m c 4 t (ix3 n k j) = m ((c : Thread nD τ).loc main_arg4) (ix2 k ⟨256 * n.val + j.val, by omega⟩) := by
  blk_simp [iblk]
  entry_read
  pointwise
  blk_ext! [idx t]

theorem blk5 (c : Dev nD) (t : Fin cfg0.N) (n : Fin 11) (k : Fin 1024) (j : Fin 256) :
    iblk m c 5 t (ix3 n k j) = m ((c : Thread nD τ).loc main_arg4) (ix2 k ⟨2816 + (256 * n.val + j.val), by omega⟩) := by
  blk_simp [iblk]
  entry_read
  pointwise
  blk_ext! [idx t]

theorem blk6 (c : Dev nD) (t : Fin cfg0.N) (n : Fin 11) (j : Fin 256) (l : Fin 1024) :
    iblk m c 6 t (ix3 n j l) = m ((c : Thread nD τ).loc main_arg5) (ix2 ⟨256 * n.val + j.val, by omega⟩ l) := by
  blk_simp [iblk]
  entry_read
  pointwise
  blk_ext! [idx t]

end Proof.Ffn

end
-- ==== Proof.FfnSpec.lean ====
/- The feed-forward block as a function of the call's arguments, an element at a time, over the extended reals; and the
   reference read at an index is that function. -/
module

public import proofs.«01_k».proof.Proof.FfnIdeal
public import proofs.«01_k».proof.Proof.Gen.Reference2Ideal.Run
public import proofs.«01_k».proof.Proof.Gen.Reference2Ideal.Read

@[expose] public section

set_option maxRecDepth 100000

noncomputable section

namespace Proof.Ffn

open Idealize.ShloMosaic

section Spec

open Cert.Kernel2Ideal (S16384x1024 S1024x1024 S1024 S1024x5632 S2816x1024)

variable (a : FVec Ideal S16384x1024 .bf16) (x : FVec Ideal S16384x1024 .f32) (wo : FVec Ideal S1024x1024 .f32) (g : FVec Ideal S1024 .f32)
  (wgu : FVec Ideal S1024x5632 .f32) (wd : FVec Ideal S2816x1024 .f32)

/-- The residual plus the attention's output through the output projection. -/
def mixed (r : Fin 16384) (l : Fin 1024) : EReal := x (ix2 r l) + ∑ k : Fin 1024, a (ix2 r k) * wo (ix2 k l)

/-- Normalised by its root mean square, with the gain. -/
def normed (r : Fin 16384) (l : Fin 1024) : EReal :=
  mixed a x wo r l * Ideal.rsqrt (Ideal.div (∑ k : Fin 1024, mixed a x wo r k * mixed a x wo r k)
    (Ideal.ofBits .f32 1149239296#32) + Ideal.ofBits .f32 897988541#32) * g (ix1 l)

/-- One column of the gate-and-up projection. -/
def proj (r : Fin 16384) (f : Fin 5632) : EReal := ∑ k : Fin 1024, normed a x wo g r k * wgu (ix2 k f)

/-- One hidden unit. -/
def hidden (r : Fin 16384) (f : Fin 2816) : EReal :=
  gated (proj a x wo g wgu r ⟨f.val, by omega⟩) (proj a x wo g wgu r ⟨2816 + f.val, by omega⟩)

/-- The block's output. -/
def ffn (r : Fin 16384) (l : Fin 1024) : EReal :=
  mixed a x wo r l + ∑ f : Fin 2816, hidden a x wo g wgu r f * wd (ix2 f l)

/-- Hidden unit `f`'s contribution to an output element; nothing past the last unit. -/
def term (r : Fin 16384) (l : Fin 1024) (f : ℕ) : EReal :=
  if h : f < 2816 then hidden a x wo g wgu r ⟨f, h⟩ * wd (ix2 ⟨f, h⟩ l) else 0

theorem ffn_eq (r : Fin 16384) (l : Fin 1024) :
    ffn a x wo g wgu wd r l = mixed a x wo r l + ∑ f ∈ Finset.range 2816, term a x wo g wgu wd r l f := by
  unfold ffn
  rw [Finset.sum_range]
  refine congrArg (mixed a x wo r l + ·) (Finset.sum_congr rfl fun f _ => ?_)
  unfold term
  rw [dif_pos f.isLt]

end Spec

section Reference

open Cert.Reference2Ideal Cert.Reference2Ideal.Read

variable (a : FVec Ideal S16384x1024 .bf16) (x : FVec Ideal S16384x1024 .f32) (wo : FVec Ideal S1024x1024 .f32) (g : FVec Ideal S1024 .f32)
  (wgu : FVec Ideal S1024x5632 .f32) (wd : FVec Ideal S2816x1024 .f32)

theorem ref_mixed (r : Fin 16384) (l : Fin 1024) : val_main_v2 (F := Ideal) a x wo (ix2 r l) = mixed a x wo r l := by
  unfold mixed
  pointwise [val_main_v2, val_main_v1, val_main_v0]

theorem ref_normed (r : Fin 16384) (l : Fin 1024) : val_main_v15 (F := Ideal) a x wo g (ix2 r l) = normed a x wo g r l := by
  unfold normed
  simp only [← ref_mixed]
  unfold val_main_v15 val_main_v14 val_main_v13 val_main_v12 val_main_v11 val_main_v10 val_main_v9 val_main_v8 val_main_v7 val_main_v6 val_main_v5 val_main_v4 val_main_v3
  generalize val_main_v2 (F := Ideal) a x wo = p
  pointwise [val_main_cst, val_main_cst_0, val_main_cst_1]

theorem ref_proj (r : Fin 16384) (f : Fin 5632) : val_main_v16 (F := Ideal) a x wo g wgu (ix2 r f) = proj a x wo g wgu r f := by
  unfold proj
  simp only [← ref_normed]
  unfold val_main_v16
  generalize val_main_v15 (F := Ideal) a x wo g = p
  pointwise

theorem ref_hidden (r : Fin 16384) (f : Fin 2816) : val_main_v20 (F := Ideal) a x wo g wgu (ix2 r f) = hidden a x wo g wgu r f := by
  unfold hidden gated
  simp only [← ref_proj]
  unfold val_main_v20 val_main_v19 val_main_v18 val_main_call0_v5 val_main_call0_v4 val_main_call0_v3 val_main_call0_v2 val_main_call0_v1 val_main_call0_v0 val_main_v17
  generalize val_main_v16 (F := Ideal) a x wo g wgu = p
  pointwise [val_main_call0_cst, val_main_call0_cst_0]
  simp only [zero_sub]

theorem ref_ffn (r : Fin 16384) (l : Fin 1024) : val_main_v22 (F := Ideal) a x wo g wgu wd (ix2 r l) = ffn a x wo g wgu wd r l := by
  unfold ffn
  simp only [← ref_mixed, ← ref_hidden]
  unfold val_main_v22 val_main_v21
  generalize val_main_v2 (F := Ideal) a x wo = p
  generalize val_main_v20 (F := Ideal) a x wo g wgu = q
  pointwise

end Reference

end Proof.Ffn

end
-- ==== Proof.FfnValue.lean ====
/- The array the feed-forward call leaves is the reference's feed-forward block of the same arguments: every grid point
   adds the 11 slices' contributions to its rows, which is the one sum over the hidden width. -/
module

public import proofs.«01_k».proof.Proof.FfnBlocks
public import proofs.«01_k».proof.Proof.FfnSpec

@[expose] public section

set_option maxRecDepth 100000

noncomputable section

namespace Proof.Ffn

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ) (c : Dev nD)

/-- The call's arguments. -/
abbrev A0 : FVec Ideal S16384x1024 .bf16 := m ((c : Thread nD τ).loc main_arg0)
abbrev A1 : FVec Ideal S16384x1024 .f32 := m ((c : Thread nD τ).loc main_arg1)
abbrev A2 : FVec Ideal S1024x1024 .f32 := m ((c : Thread nD τ).loc main_arg2)
abbrev A3 : FVec Ideal S1024 .f32 := m ((c : Thread nD τ).loc main_arg3)
abbrev A4 : FVec Ideal S1024x5632 .f32 := m ((c : Thread nD τ).loc main_arg4)
abbrev A5 : FVec Ideal S2816x1024 .f32 := m ((c : Thread nD τ).loc main_arg5)

theorem blk_mixed (t : Fin cfg0.N) (r : Fin 512) (l : Fin 1024) :
    k0_pay1 (iblk m c 1 t) (iblk m c 0 t) (iblk m c 2 t) (ix2 r l) = mixed (A0 m c) (A1 m c) (A2 m c) (row t r) l := by
  rw [pay1_apply, blk1]
  unfold mixed
  refine congrArg (A1 m c (ix2 (row t r) l) + ·) (Finset.sum_congr rfl fun k _ => ?_)
  rw [blk0, blk2]

theorem blk_normed (t : Fin cfg0.N) (r : Fin 512) (l : Fin 1024) :
    k0_pay2 (iblk m c 1 t) (iblk m c 0 t) (iblk m c 2 t) (iblk m c 3 t) (ix2 r l) = normed (A0 m c) (A1 m c) (A2 m c) (A3 m c) (row t r) l := by
  rw [pay2_apply, blk3]
  simp only [blk_mixed]
  rfl

theorem slab1_apply (w : Vec Ideal S11x1024x256 .bf16) (n : Fin 11) (k : Fin 1024) (j : Fin 256) : slab1 w n (ix3 0 k j) = w (ix3 n k j) := by
  unfold slab1 VecWindow.window
  refine congrArg w (funext fun a => Fin.ext ?_)
  match a with
  | 0 => show n.val + 1 * 0 = n.val; omega
  | 1 => show 0 + 1 * k.val = k.val; omega
  | 2 => show 0 + 1 * j.val = j.val; omega

theorem slab2_apply (w : Vec Ideal S11x256x1024 .bf16) (n : Fin 11) (j : Fin 256) (l : Fin 1024) : slab2 w n (ix3 0 j l) = w (ix3 n j l) := by
  unfold slab2 VecWindow.window
  refine congrArg w (funext fun a => Fin.ext ?_)
  match a with
  | 0 => show n.val + 1 * 0 = n.val; omega
  | 1 => show 0 + 1 * j.val = j.val; omega
  | 2 => show 0 + 1 * l.val = l.val; omega

/-- The accumulator after `n` slices: the mixed stream and the first `256 * n` hidden units' contributions. -/
theorem accum_apply (t : Fin cfg0.N) (r : Fin 512) (l : Fin 1024) : ∀ n : ℕ, n ≤ 11 →
    accum (k0_pay2 (iblk m c 1 t) (iblk m c 0 t) (iblk m c 2 t) (iblk m c 3 t)) (iblk m c 4 t) (iblk m c 5 t) (iblk m c 6 t)
        (k0_pay3 (iblk m c 1 t) (iblk m c 0 t) (iblk m c 2 t)) n (ix2 r l)
      = mixed (A0 m c) (A1 m c) (A2 m c) (row t r) l
        + ∑ f ∈ Finset.range (256 * n), term (A0 m c) (A1 m c) (A2 m c) (A3 m c) (A4 m c) (A5 m c) (row t r) l f := by
  intro n
  induction n with
  | zero =>
    intro _
    rw [accum, pay3_apply, blk_mixed]
    simp
  | succ n ih =>
    intro hn
    rw [accum, dif_pos (by omega : n < 11), pay4_apply, ih (by omega), show 256 * (n + 1) = 256 * n + 256 by ring, Finset.sum_range_add, ← add_assoc]
    rw [Finset.sum_range (n := 256)]
    refine congrArg₂ (· + ·) rfl (Finset.sum_congr rfl fun j _ => ?_)
    have hf : 256 * n + j.val < 2816 := by omega
    unfold term
    rw [dif_pos hf, slab2_apply, blk6]
    refine congrArg (· * A5 m c (ix2 ⟨256 * n + j.val, hf⟩ l)) ?_
    unfold hidden proj
    simp only [blk_normed, slab1_apply, blk4, blk5]

/-- What a grid point writes back. -/
theorem out_apply (t : Fin cfg0.N) (r : Fin 512) (l : Fin 1024) :
    outsAt0 m c t (ix2 r l) = ffn (A0 m c) (A1 m c) (A2 m c) (A3 m c) (A4 m c) (A5 m c) (row t r) l := by
  unfold outsAt0
  rw [out_A, ffn_eq]
  exact accum_apply m c t r l 11 (le_refl 11)

/-- The output array. -/
def G7 : Buf (Elt Ideal) ((c : Thread nD τ).loc main_v11) := fun i =>
  ffn (A0 m c) (A1 m c) (A2 m c) (A3 m c) (A4 m c) (A5 m c) (i 0) (i 1)

theorem flushed7_eq (t : Fin cfg0.N) : (dats m 0 c).flushed 7 t = ((cfg0.win 7).blk t).view.read (Elt Ideal) (G7 m c) := by
  rw [flushed7]
  obtain ⟨-, -, -, -, -, -, -, e⟩ := idx t
  funext y
  have h0 : (y 0).val < 512 := (y 0).isLt
  have h1 : (y 1).val < 1024 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  rw [e] at hb0 hb1
  have hx : (cfg0.win 7).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show outsAt0 m c t ((cfg0.win 7).xinj (grid0.coords t) y) = G7 m c (((cfg0.win 7).blk t).view.emb y)
  rw [hx, out_apply]
  unfold G7
  refine congrArg₂ (ffn (A0 m c) (A1 m c) (A2 m c) (A3 m c) (A4 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, e⟩ := idx ⟨(i 0).val / 512, hN⟩
  refine ⟨⟨(i 0).val / 512, hN⟩, flush0_7 _, ?_⟩
  show i ∈ ((View.whole main_v11).slice (win0_7.rect ⟨(i 0).val / 512, hN⟩)).set
  rw [View.set_slice_whole, Rect.mem_set_unit]
  intro a
  have q0 : win0_7.index ⟨(i 0).val / 512, hN⟩ (0 : Fin 2) = (i 0).val / 512 := congrFun e 0
  have q1 : win0_7.index ⟨(i 0).val / 512, hN⟩ (1 : Fin 2) = 0 := congrFun e 1
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; omega
  | ⟨1, _⟩ => show win0_7.index ⟨(i 0).val / 512, hN⟩ (1 : Fin 2) * 1024 ≤ (i 1).val ∧ (i 1).val < win0_7.index ⟨(i 0).val / 512, hN⟩ (1 : Fin 2) * 1024 + 1024; omega

theorem final7 : (dats m 0 c).arrAt 7 cfg0.N = G7 m c :=
  (dats m 0 c).arrAt_eq_of_cover 7 _ (fun t _ => flushed7_eq m c t) (fun i => covered7 i)

/-- The array the call leaves is the reference's result on the same arguments. -/
theorem value_eq : (G7 m c : S16384x1024.Idx → EReal)
    = Cert.Reference2Ideal.Read.val_main_v22 (F := Ideal) (A0 m c) (A1 m c) (A2 m c) (A3 m c) (A4 m c) (A5 m c) := by
  funext y
  obtain ⟨r, l, rfl⟩ : ∃ (r : Fin 16384) (l : Fin 1024), y = ix2 r l := ⟨y 0, y 1, eq_ix2 y⟩
  exact (ref_ffn (A0 m c) (A1 m c) (A2 m c) (A3 m c) (A4 m c) (A5 m c) r l).symm

end Proof.Ffn

end
-- ==== Proof.FoxSpec.lean ====
/- The key, value, forget, query and gate projections as functions of the call's arguments, an element at a time, over the
   extended reals; and the reference read at an index is those functions. -/
module

public import proofs.«01_k».proof.Proof.Gen.Reference3Ideal.Run
public import proofs.«01_k».proof.Proof.Gen.Reference3Ideal.Read
public import Idealize.ShloMosaic.Lib.Pointwise
public import Idealize.ShloMosaic.Lib.KernelVsHost

@[expose] public section

set_option maxRecDepth 100000

noncomputable section

namespace Proof.Fox

open Idealize.ShloMosaic

/-- The constant added to a mean square. -/
abbrev eps : EReal := Ideal.ofBits .f32 897988541#32

/-- A row normalised by its root mean square, with a gain. -/
def normed (x g : Fin 1024 → EReal) (l : Fin 1024) : EReal :=
  x l * Ideal.rsqrt (Ideal.div (∑ k : Fin 1024, x k * x k) (Ideal.ofBits .f32 1149239296#32) + eps) * g l

/-- Lane `j` of the head that lane `l` belongs to. -/
def headLane (l : Fin 1024) (j : Fin 64) : Fin 1024 := ⟨l.val / 64 * 64 + j.val, by omega⟩

/-- A row normalised by the root mean square over each head's 64 lanes, with a gain shared by the heads. -/
def headNormed (p : Fin 1024 → EReal) (g : Fin 64 → EReal) (l : Fin 1024) : EReal :=
  p l * Ideal.rsqrt (Ideal.div (∑ j : Fin 64, p (headLane l j) * p (headLane l j)) (Ideal.ofBits .f32 1115684864#32) + eps)
    * g ⟨l.val % 64, by omega⟩

/-- The logarithm of the logistic function. -/
def logSig (z : EReal) : EReal := -(max (-z) 0 + Ideal.log (1 + Ideal.exp (-max (-z) (- -z))))

theorem log_ne_bot (u : EReal) : Ideal.log (1 + Ideal.exp u) ≠ ⊥ := by
  have hp : ∀ r : ℝ, 0 ≤ r → Ideal.log (1 + (r : EReal)) ≠ ⊥ := by
    intro r hr
    rw [show (1 : EReal) + (r : EReal) = ((1 + r : ℝ) : EReal) by push_cast; rfl]
    show (if 1 + r ≤ 0 then (⊥ : EReal) else (Real.log (1 + r) : EReal)) ≠ ⊥
    rw [if_neg (by linarith)]
    exact EReal.coe_ne_bot _
  induction u with
  | bot => exact hp 0 (le_refl 0)
  | top =>
    show Ideal.log ((1 : EReal) + ⊤) ≠ ⊥
    rw [EReal.add_top_of_ne_bot (x := (1 : EReal)) (EReal.coe_ne_bot 1)]
    exact top_ne_bot
  | coe r => exact hp (Real.exp r) (Real.exp_pos r).le

/-- The kernel's form of it. -/
theorem logSig_eq (z : EReal) : min z 0 - Ideal.log (1 + Ideal.exp (0 - max z (-z))) = logSig z := by
  unfold logSig
  have hm : min z 0 = -max (-z) 0 := by
    obtain h | h := le_total z 0
    · rw [min_eq_left h, max_eq_left (EReal.neg_nonneg.mpr h), neg_neg]
    · rw [min_eq_right h, max_eq_right (by rw [← neg_zero]; exact EReal.neg_le_neg_iff.mpr h), neg_zero]
  have ha : max (-z) 0 ≠ ⊥ := fun h => by
    have := le_max_right (-z) (0 : EReal)
    rw [h] at this
    simp at this
  rw [hm, zero_sub, neg_neg, max_comm z, EReal.neg_add (.inl ha) (.inr (log_ne_bot _))]

section Reference

open Cert.Reference3Ideal Cert.Reference3Ideal.Read

variable (x : FVec Ideal S16384x1024 .f32) (gkv gmix : FVec Ideal S1024 .f32) (wkvf : FVec Ideal S1024x2064 .f32)
  (bf : FVec Ideal S16 .f32) (gk : FVec Ideal S64 .f32) (wqg : FVec Ideal S1024x2048 .f32) (gq : FVec Ideal S64 .f32)

/-- The stream normalised for the keys and values, and one column of its projection. -/
def kvIn (r : Fin 16384) : Fin 1024 → EReal := normed (fun k => x (ix2 r k)) (fun k => gkv (ix1 k))
def kvf (r : Fin 16384) (l : Fin 2064) : EReal := ∑ k : Fin 1024, kvIn x gkv r k * wkvf (ix2 k l)

/-- The stream normalised for the queries and the gate, and one column of its projection. -/
def qIn (r : Fin 16384) : Fin 1024 → EReal := normed (fun k => x (ix2 r k)) (fun k => gmix (ix1 k))
def qg (r : Fin 16384) (l : Fin 2048) : EReal := ∑ k : Fin 1024, qIn x gmix r k * wqg (ix2 k l)

/-- The seven results, at an index. -/
def key (r : Fin 16384) (l : Fin 1024) : EReal :=
  headNormed (fun l => kvf x gkv wkvf r ⟨l.val, by omega⟩) (fun j => gk (ix1 j)) l
def val (r : Fin 16384) (l : Fin 1024) : EReal := kvf x gkv wkvf r ⟨1024 + l.val, by omega⟩
def forget (r : Fin 16384) (h : Fin 16) : EReal := logSig (kvf x gkv wkvf r ⟨2048 + h.val, by omega⟩ + bf (ix1 h))
def query (r : Fin 16384) (l : Fin 1024) : EReal :=
  headNormed (fun l => qg x gmix wqg r ⟨l.val, by omega⟩) (fun j => gq (ix1 j)) l * Ideal.ofBits .f32 1040187392#32
def gate (r : Fin 16384) (l : Fin 1024) : EReal := qg x gmix wqg r ⟨1024 + l.val, by omega⟩

theorem ref_kvIn (r : Fin 16384) (l : Fin 1024) : val_main_v12 (F := Ideal) x gkv (ix2 r l) = kvIn x gkv r l := by
  unfold kvIn normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_qIn (r : Fin 16384) (l : Fin 1024) : val_main_v48 (F := Ideal) x gmix (ix2 r l) = qIn x gmix r l := by
  unfold qIn normed
  pointwise [val_main_v48, val_main_v47, val_main_v46, val_main_v45, val_main_v44, val_main_v43, val_main_v42, val_main_v41, val_main_v40, val_main_v39, val_main_v38, val_main_v37, val_main_v36, val_main_cst_5, val_main_cst_6, val_main_cst_7]

theorem ref_kvf (r : Fin 16384) (l : Fin 2064) : val_main_v13 (F := Ideal) x gkv wkvf (ix2 r l) = kvf x gkv wkvf r l := by
  unfold kvf
  simp only [← ref_kvIn]
  unfold val_main_v13
  generalize val_main_v12 (F := Ideal) x gkv = p
  pointwise

theorem ref_qg (r : Fin 16384) (l : Fin 2048) : val_main_v49 (F := Ideal) x gmix wqg (ix2 r l) = qg x gmix wqg r l := by
  unfold qg
  simp only [← ref_qIn]
  unfold val_main_v49
  generalize val_main_v48 (F := Ideal) x gmix = p
  pointwise

theorem ref_val (r : Fin 16384) (l : Fin 1024) : val_main_v15 (F := Ideal) x gkv wkvf (ix2 r l) = val x gkv wkvf r l := by
  unfold val
  rw [← ref_kvf]
  unfold val_main_v15
  generalize val_main_v13 (F := Ideal) x gkv wkvf = p
  pointwise

theorem ref_gate (r : Fin 16384) (l : Fin 1024) : val_main_v51 (F := Ideal) x gmix wqg (ix2 r l) = gate x gmix wqg r l := by
  unfold gate
  rw [← ref_qg]
  unfold val_main_v51
  generalize val_main_v49 (F := Ideal) x gmix wqg = p
  pointwise

theorem ref_forget (r : Fin 16384) (h : Fin 16) : val_main_v35 (F := Ideal) x gkv wkvf bf (ix2 r h) = forget x gkv wkvf bf r h := by
  unfold forget logSig
  simp only [← ref_kvf]
  unfold val_main_v35 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0 val_main_v34 val_main_v33 val_main_v32 val_main_v16
  generalize val_main_v13 (F := Ideal) x gkv wkvf = p
  pointwise [val_main_call0_call0_cst]
  rw [if_neg (fun h => h rfl)]
  rfl

theorem ref_key (r : Fin 16384) (l : Fin 1024) : val_main_v31 (F := Ideal) x gkv wkvf gk (ix2 r l) = key x gkv wkvf gk r l := by
  unfold key headNormed headLane
  simp only [← ref_kvf]
  unfold val_main_v31 val_main_v30 val_main_v29 val_main_v28 val_main_v27 val_main_v26 val_main_v25 val_main_v24 val_main_v23 val_main_v22 val_main_v21 val_main_v20 val_main_v19 val_main_v18 val_main_v17 val_main_v14
  generalize val_main_v13 (F := Ideal) x gkv wkvf = p
  pointwise [val_main_cst_2, val_main_cst_3, val_main_cst_4, eps]

theorem ref_query (r : Fin 16384) (l : Fin 1024) : val_main_v68 (F := Ideal) x gmix wqg gq (ix2 r l) = query x gmix wqg gq r l := by
  unfold query headNormed headLane
  simp only [← ref_qg]
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v50
  generalize val_main_v49 (F := Ideal) x gmix wqg = p
  pointwise [val_main_cst_8, val_main_cst_9, val_main_cst_10, val_main_cst_11, eps]

end Reference

end Proof.Fox

end
-- ==== Proof.FoxIdeal.lean ====
/- The projection kernel's arithmetic read at an index, over the extended reals. -/
module

public import proofs.«01_k».proof.Proof.Gen.Kernel3Ideal.Value
public import proofs.«01_k».proof.Proof.FoxSpec
public import Idealize.ShloMosaic.Lib.Pipeline.ValueKit

@[expose] public section

set_option maxRecDepth 100000

noncomputable section

namespace Proof.Fox

open Cert.Kernel3Ideal Cert.Kernel3Ideal.Gen Idealize.ShloMosaic

/-- Two heads' lanes normalised, the heads' means of squares taken by masking the other head's lanes. -/
def pairNorm {F : FTy → Type} [FloatOps F] (x : FVec F S512x128 .f32) (g : Vec F S1x128 .f32) : FVec F S512x128 .f32 :=
  let sq := mulf x x
  let lo := broadcastTo S512x128 (shapeCast S1x128 k0_pay6 shapeCasts_S1x128_S1x128) broadcasts_S1x128_S512x128
  let z : FVec F S512x128 .f32 := broadcast S512x128 (Scalar.ofBits .f32 0x00000000#32)
  let a := shapeCast S512x1 (multiReduction .add [1] S512 (select lo sq z) 0x00000000#32 reduces_S512x128_S512 (.inl rfl) rfl) shapeCasts_S512_S512x1
  let b := shapeCast S512x1 (multiReduction .add [1] S512 (select lo z sq) 0x00000000#32 reduces_S512x128_S512 (.inl rfl) rfl) shapeCasts_S512_S512x1
  let ms := select lo (broadcastTo S512x128 (shapeCast S512x1 a shapeCasts_S512x1_S512x1) broadcasts_S512x1_S512x128)
    (broadcastTo S512x128 (shapeCast S512x1 b shapeCasts_S512x1_S512x1) broadcasts_S512x1_S512x128)
  let rs := rsqrt (addf (mulf ms (broadcast S512x128 (Scalar.ofBits .f32 0x3C800000#32))) (broadcast S512x128 (Scalar.ofBits .f32 0x358637BD#32)))
  mulf (mulf x rs) (broadcastTo S512x128 (shapeCast S1x128 g shapeCasts_S1x128_S1x128) broadcasts_S1x128_S512x128)

theorem lower (x : Fin 128) : k0_pay6 (ix2 0 x) = if x.val < 64 then 1#1 else 0#1 := by
  pointwise [k0_pay6]
  revert x
  decide +kernel

/-- A mean over 64 lanes by a product with the reciprocal is the quotient. -/
theorem div64 (s : EReal) : s * Ideal.ofBits .f32 1015021568#32 = Ideal.div s (Ideal.ofBits .f32 1115684864#32) := by
  have h1 : Ideal.ofBits .f32 1015021568#32 = ((1 / 64 : ℝ) : EReal) := by
    simp [Ideal.ofBits, Ideal.ieee]
    rw [← EReal.coe_mul]
    norm_num
  have h2 : Ideal.ofBits .f32 1115684864#32 = ((64 : ℝ) : EReal) := by
    simp [Ideal.ofBits, Ideal.ieee]
    rw [← EReal.coe_mul]
    norm_num
  rw [h1, h2]
  unfold Ideal.div
  rw [if_neg (by norm_num), ← EReal.coe_inv]
  norm_num

/-- The lanes of a head among its pair's 128. -/
def pairLane (l : Fin 128) (j : Fin 64) : Fin 128 := ⟨l.val / 64 * 64 + j.val, by omega⟩

theorem pairLane_lower (l : Fin 128) (j : Fin 64) (h : l.val < 64) : pairLane l j = Fin.castAdd 64 j :=
  Fin.ext (by show l.val / 64 * 64 + j.val = j.val; omega)

theorem pairLane_upper (l : Fin 128) (j : Fin 64) (h : ¬l.val < 64) : pairLane l j = Fin.natAdd 64 j :=
  Fin.ext (by show l.val / 64 * 64 + j.val = 64 + j.val; omega)

theorem sum_lower (f : Fin 128 → EReal) :
    (∑ y : Fin 128, Scalar.select (if y.val < 64 then 1#1 else 0#1) (f y) 0) = ∑ j : Fin 64, f (Fin.castAdd 64 j) := by
  refine (Fin.sum_univ_add (a := 64) (b := 64) _).trans ?_
  rw [Finset.sum_eq_zero (s := Finset.univ) (f := fun i : Fin 64 => Scalar.select (if (Fin.natAdd 64 i).val < 64 then 1#1 else 0#1) (f (Fin.natAdd 64 i)) 0), add_zero]
  · refine Finset.sum_congr rfl fun j _ => ?_
    rw [if_pos (by simp)]
    rfl
  · intro j _
    rw [if_neg (by simp)]
    rfl

theorem sum_upper (f : Fin 128 → EReal) :
    (∑ y : Fin 128, Scalar.select (if y.val < 64 then 1#1 else 0#1) 0 (f y)) = ∑ j : Fin 64, f (Fin.natAdd 64 j) := by
  refine (Fin.sum_univ_add (a := 64) (b := 64) _).trans ?_
  rw [Finset.sum_eq_zero (s := Finset.univ) (f := fun i : Fin 64 => Scalar.select (if (Fin.castAdd 64 i).val < 64 then 1#1 else 0#1) 0 (f (Fin.castAdd 64 i))), zero_add]
  · refine Finset.sum_congr rfl fun j _ => ?_
    rw [if_neg (by simp)]
    rfl
  · intro j _
    rw [if_pos (by simp)]
    rfl

theorem pairNorm_apply (x : FVec Ideal S512x128 .f32) (g : Vec Ideal S1x128 .f32) (r : Fin 512) (l : Fin 128) :
    pairNorm x g (ix2 r l) = x (ix2 r l) * Ideal.rsqrt (Ideal.div (∑ j : Fin 64, x (ix2 r (pairLane l j)) * x (ix2 r (pairLane l j)))
      (Ideal.ofBits .f32 1115684864#32) + eps) * g (ix2 0 l) := by
  rw [← div64]
  pointwise [pairNorm]
  rw [lower]
  refine congrArg (fun z => x (ix2 r l) * Ideal.rsqrt (z * _ + _) * g (ix2 0 l)) ?_
  simp only [lower]
  by_cases h : l.val < 64
  · rw [if_pos h]
    exact (sum_lower fun y => x (ix2 r y) * x (ix2 r y)).trans (Finset.sum_congr rfl fun j _ => by rw [pairLane_lower l j h])
  · rw [if_neg h]
    exact (sum_upper fun y => x (ix2 r y) * x (ix2 r y)).trans (Finset.sum_congr rfl fun j _ => by rw [pairLane_upper l j h])

/-- One head pair's projected lanes, and the pair normalised: chunk `g / 2` of 256 columns, half `g % 2` of it. -/
def rawTile {F : FTy → Type} [FloatOps F] (s : FVec F S512x1024 .bf16) (w : Vec F S1024x2048 .bf16) (g : Fin 8) : FVec F S512x128 .f32 :=
  extractStridedSlice S512x128 ![0, 128 * (g.val % 2)]
    (matmul dot_S512x1024_S1024x256_S512x256_1_0_0_1_n_n none s
      (shapeCast S1024x256 (View.ld w (Rect.unit (s := S1024x2048) ![0, 256 * (g.val / 2)] S1024x256.size (by revert g; decide)) : Vec F S1024x256 .bf16) shapeCasts_S1024x256_S1024x256)
      (constant S512x256 .f32 0x00000000#32)) (by revert g; decide)

def tile {F : FTy → Type} [FloatOps F] (s : FVec F S512x1024 .bf16) (w : Vec F S1024x2048 .bf16) (gain : Vec F S1x1024 .f32) (g : Fin 8) : FVec F S512x128 .f32 :=
  pairNorm (rawTile s w g) (View.ld gain (Rect.unit (s := S1x1024) ![0, 128 * g.val] S1x128.size (by revert g; decide)) : Vec F S1x128 .f32)

/-- A row's projection through a weight block. -/
def projRow (s : FVec Ideal S512x1024 .bf16) (w : Vec Ideal S1024x2048 .bf16) (r : Fin 512) (l : Fin 2048) : EReal :=
  ∑ k : Fin 1024, s (ix2 r k) * w (ix2 k l)

theorem rawTile_apply (s : FVec Ideal S512x1024 .bf16) (w : Vec Ideal S1024x2048 .bf16) (g : Fin 8) (r : Fin 512) (l : Fin 128) :
    rawTile s w g (ix2 r l) = projRow s w r ⟨128 * g.val + l.val, by omega⟩ := by
  unfold rawTile projRow
  pointwise
  refine Finset.sum_congr rfl fun k _ => congrArg (fun z => s (ix2 r k) * w (ix2 k z)) (Fin.ext ?_)
  show 256 * (g.val / 2) + (128 * (g.val % 2) + l.val) = 128 * g.val + l.val
  omega

/-- A row normalised over each head's lanes, with a gain per lane. -/
def headRow (p gain : Fin 1024 → EReal) (l : Fin 1024) : EReal :=
  p l * Ideal.rsqrt (Ideal.div (∑ j : Fin 64, p (headLane l j) * p (headLane l j)) (Ideal.ofBits .f32 1115684864#32) + eps) * gain l

theorem tile_at (s : FVec Ideal S512x1024 .bf16) (w : Vec Ideal S1024x2048 .bf16) (gain : Vec Ideal S1x1024 .f32) (g : Fin 8)
    (x : S512x128.Idx) (y : S512x1024.Idx) (h0 : (y 0).val = (x 0).val) (h1 : (y 1).val = 128 * g.val + (x 1).val) :
    tile s w gain g x = headRow (fun l => projRow s w (y 0) ⟨l.val, by omega⟩) (fun l => gain (ix2 0 l)) (y 1) := by
  obtain ⟨r, l, rfl⟩ : ∃ (r : Fin 512) (l : Fin 128), x = ix2 r l := ⟨x 0, x 1, eq_ix2 x⟩
  obtain ⟨r', l', rfl⟩ : ∃ (r' : Fin 512) (l' : Fin 1024), y = ix2 r' l' := ⟨y 0, y 1, eq_ix2 y⟩
  obtain rfl : r' = r := Fin.ext h0
  have hl : 128 * g.val + l.val < 1024 := by omega
  obtain rfl : l' = ⟨128 * g.val + l.val, hl⟩ := Fin.ext h1
  unfold tile headRow
  rw [pairNorm_apply]
  simp only [rawTile_apply]
  have hj : ∀ j : Fin 64, (128 * g.val + (pairLane l j).val) = (headLane ⟨128 * g.val + l.val, hl⟩ j).val := fun j => by
    show 128 * g.val + (l.val / 64 * 64 + j.val) = (128 * g.val + l.val) / 64 * 64 + j.val
    omega
  simp only [hj]
  refine congrArg₂ (· * ·) rfl (congrArg gain (funext fun a => Fin.ext ?_))
  match a with
  | 0 => rfl
  | 1 => show 128 * g.val + 1 * l.val = 128 * g.val + l.val; omega

variable (x0 : Vec Ideal S512x1024 .f32) (x1 : Vec Ideal S1x1024 .f32) (x2 : Vec Ideal S1x1024 .f32) (x3 : Vec Ideal S1024x2048 .bf16) (x4 x5 : Vec Ideal S1024x128 .bf16) (x6 : Vec Ideal S1024x2048 .bf16) (x7 : Vec Ideal S1x16 .f32) (x8 x9 : Vec Ideal S1x1024 .f32)

/-- The two normalised streams the projections read. -/
abbrev sIn : FVec Ideal S512x1024 .bf16 := k0_pay83 x0 x1 x2 x3 x4 x5 x6 x7 x8 x9
abbrev hIn : FVec Ideal S512x1024 .bf16 := k0_pay84 x0 x1 x2 x3 x4 x5 x6 x7 x8 x9

def out10 (y : S512x1024.Idx) : EReal :=
  headRow (fun l => projRow (sIn x0 x1 x2 x3 x4 x5 x6 x7 x8 x9) x3 (y 0) ⟨l.val, by omega⟩) (fun l => x8 (ix2 0 l)) (y 1)

def out15 (y : S512x1024.Idx) : EReal :=
  headRow (fun l => projRow (hIn x0 x1 x2 x3 x4 x5 x6 x7 x8 x9) x6 (y 0) ⟨l.val, by omega⟩) (fun l => x9 (ix2 0 l)) (y 1) * Ideal.ofBits .f32 1040187392#32

theorem out0_10_eq : out0_10 x0 x1 x2 x3 x4 x5 x6 x7 x8 x9 = out10 x0 x1 x2 x3 x4 x5 x6 x7 x8 x9 := by
  unfold out0_10
  funext y
  canon_tiles x h
  case piece0 => exact (congrFun (show _ = tile (sIn x0 x1 x2 x3 x4 x5 x6 x7 x8 x9) x3 x8 7 from by rfl) x).trans (id (tile_at _ _ _ 7 x y h0 h1))
  case piece1 => exact (congrFun (show _ = tile (sIn x0 x1 x2 x3 x4 x5 x6 x7 x8 x9) x3 x8 6 from by rfl) x).trans (id (tile_at _ _ _ 6 x y h0 h1))
  case piece2 => exact (congrFun (show _ = tile (sIn x0 x1 x2 x3 x4 x5 x6 x7 x8 x9) x3 x8 5 from by rfl) x).trans (id (tile_at _ _ _ 5 x y h0 h1))
  case piece3 => exact (congrFun (show _ = tile (sIn x0 x1 x2 x3 x4 x5 x6 x7 x8 x9) x3 x8 4 from by rfl) x).trans (id (tile_at _ _ _ 4 x y h0 h1))
  case piece4 => exact (congrFun (show _ = tile (sIn x0 x1 x2 x3 x4 x5 x6 x7 x8 x9) x3 x8 3 from by rfl) x).trans (id (tile_at _ _ _ 3 x y h0 h1))
  case piece5 => exact (congrFun (show _ = tile (sIn x0 x1 x2 x3 x4 x5 x6 x7 x8 x9) x3 x8 2 from by rfl) x).trans (id (tile_at _ _ _ 2 x y h0 h1))
  case piece6 => exact (congrFun (show _ = tile (sIn x0 x1 x2 x3 x4 x5 x6 x7 x8 x9) x3 x8 1 from by rfl) x).trans (id (tile_at _ _ _ 1 x y h0 h1))
  case piece7 => exact (congrFun (show _ = tile (sIn x0 x1 x2 x3 x4 x5 x6 x7 x8 x9) x3 x8 0 from by rfl) x).trans (id (tile_at _ _ _ 0 x y h0 (by simpa using h1)))

theorem out0_13_eq : out0_13 x0 x1 x2 x3 x4 x5 x6 x7 x8 x9 = out10 x0 x1 x2 x3 x4 x5 x6 x7 x8 x9 := by
  unfold out0_13
  funext y
  canon_tiles x h
  case piece0 => exact (congrFun (show _ = truncf .bf16 (tile (sIn x0 x1 x2 x3 x4 x5 x6 x7 x8 x9) x3 x8 7) bitsLt_bf16_f32 from by rfl) x).trans (id (tile_at _ _ _ 7 x y h0 h1))
  case piece1 => exact (congrFun (show _ = truncf .bf16 (tile (sIn x0 x1 x2 x3 x4 x5 x6 x7 x8 x9) x3 x8 6) bitsLt_bf16_f32 from by rfl) x).trans (id (tile_at _ _ _ 6 x y h0 h1))
  case piece2 => exact (congrFun (show _ = truncf .bf16 (tile (sIn x0 x1 x2 x3 x4 x5 x6 x7 x8 x9) x3 x8 5) bitsLt_bf16_f32 from by rfl) x).trans (id (tile_at _ _ _ 5 x y h0 h1))
  case piece3 => exact (congrFun (show _ = truncf .bf16 (tile (sIn x0 x1 x2 x3 x4 x5 x6 x7 x8 x9) x3 x8 4) bitsLt_bf16_f32 from by rfl) x).trans (id (tile_at _ _ _ 4 x y h0 h1))
  case piece4 => exact (congrFun (show _ = truncf .bf16 (tile (sIn x0 x1 x2 x3 x4 x5 x6 x7 x8 x9) x3 x8 3) bitsLt_bf16_f32 from by rfl) x).trans (id (tile_at _ _ _ 3 x y h0 h1))
  case piece5 => exact (congrFun (show _ = truncf .bf16 (tile (sIn x0 x1 x2 x3 x4 x5 x6 x7 x8 x9) x3 x8 2) bitsLt_bf16_f32 from by rfl) x).trans (id (tile_at _ _ _ 2 x y h0 h1))
  case piece6 => exact (congrFun (show _ = truncf .bf16 (tile (sIn x0 x1 x2 x3 x4 x5 x6 x7 x8 x9) x3 x8 1) bitsLt_bf16_f32 from by rfl) x).trans (id (tile_at _ _ _ 1 x y h0 h1))
  case piece7 => exact (congrFun (show _ = truncf .bf16 (tile (sIn x0 x1 x2 x3 x4 x5 x6 x7 x8 x9) x3 x8 0) bitsLt_bf16_f32 from by rfl) x).trans (id (tile_at _ _ _ 0 x y h0 (by simpa using h1)))

theorem out0_15_eq : out0_15 x0 x1 x2 x3 x4 x5 x6 x7 x8 x9 = out15 x0 x1 x2 x3 x4 x5 x6 x7 x8 x9 := by
  unfold out0_15
  funext y
  canon_tiles x h
  case piece0 => exact (congrFun (show _ = truncf .bf16 (mulf (tile (hIn x0 x1 x2 x3 x4 x5 x6 x7 x8 x9) x6 x9 7) (broadcast S512x128 (Scalar.ofBits .f32 0x3E000000#32))) bitsLt_bf16_f32 from by rfl) x).trans (congrArg (· * Ideal.ofBits .f32 1040187392#32) (tile_at _ _ _ 7 x y h0 h1))
  case piece1 => exact (congrFun (show _ = truncf .bf16 (mulf (tile (hIn x0 x1 x2 x3 x4 x5 x6 x7 x8 x9) x6 x9 6) (broadcast S512x128 (Scalar.ofBits .f32 0x3E000000#32))) bitsLt_bf16_f32 from by rfl) x).trans (congrArg (· * Ideal.ofBits .f32 1040187392#32) (tile_at _ _ _ 6 x y h0 h1))
  case piece2 => exact (congrFun (show _ = truncf .bf16 (mulf (tile (hIn x0 x1 x2 x3 x4 x5 x6 x7 x8 x9) x6 x9 5) (broadcast S512x128 (Scalar.ofBits .f32 0x3E000000#32))) bitsLt_bf16_f32 from by rfl) x).trans (congrArg (· * Ideal.ofBits .f32 1040187392#32) (tile_at _ _ _ 5 x y h0 h1))
  case piece3 => exact (congrFun (show _ = truncf .bf16 (mulf (tile (hIn x0 x1 x2 x3 x4 x5 x6 x7 x8 x9) x6 x9 4) (broadcast S512x128 (Scalar.ofBits .f32 0x3E000000#32))) bitsLt_bf16_f32 from by rfl) x).trans (congrArg (· * Ideal.ofBits .f32 1040187392#32) (tile_at _ _ _ 4 x y h0 h1))
  case piece4 => exact (congrFun (show _ = truncf .bf16 (mulf (tile (hIn x0 x1 x2 x3 x4 x5 x6 x7 x8 x9) x6 x9 3) (broadcast S512x128 (Scalar.ofBits .f32 0x3E000000#32))) bitsLt_bf16_f32 from by rfl) x).trans (congrArg (· * Ideal.ofBits .f32 1040187392#32) (tile_at _ _ _ 3 x y h0 h1))
  case piece5 => exact (congrFun (show _ = truncf .bf16 (mulf (tile (hIn x0 x1 x2 x3 x4 x5 x6 x7 x8 x9) x6 x9 2) (broadcast S512x128 (Scalar.ofBits .f32 0x3E000000#32))) bitsLt_bf16_f32 from by rfl) x).trans (congrArg (· * Ideal.ofBits .f32 1040187392#32) (tile_at _ _ _ 2 x y h0 h1))
  case piece6 => exact (congrFun (show _ = truncf .bf16 (mulf (tile (hIn x0 x1 x2 x3 x4 x5 x6 x7 x8 x9) x6 x9 1) (broadcast S512x128 (Scalar.ofBits .f32 0x3E000000#32))) bitsLt_bf16_f32 from by rfl) x).trans (congrArg (· * Ideal.ofBits .f32 1040187392#32) (tile_at _ _ _ 1 x y h0 h1))
  case piece7 => exact (congrFun (show _ = truncf .bf16 (mulf (tile (hIn x0 x1 x2 x3 x4 x5 x6 x7 x8 x9) x6 x9 0) (broadcast S512x128 (Scalar.ofBits .f32 0x3E000000#32))) bitsLt_bf16_f32 from by rfl) x).trans (congrArg (· * Ideal.ofBits .f32 1040187392#32) (tile_at _ _ _ 0 x y h0 (by simpa using h1)))

theorem sIn_apply (r : Fin 512) (l : Fin 1024) :
    sIn x0 x1 x2 x3 x4 x5 x6 x7 x8 x9 (ix2 r l) = normed (fun k => x0 (ix2 r k)) (fun k => x1 (ix2 0 k)) l := by
  unfold normed eps
  pointwise [sIn, k0_pay83, k0_pay4, k0_pay3, k0_pay2]

theorem hIn_apply (r : Fin 512) (l : Fin 1024) :
    hIn x0 x1 x2 x3 x4 x5 x6 x7 x8 x9 (ix2 r l) = normed (fun k => x0 (ix2 r k)) (fun k => x2 (ix2 0 k)) l := by
  unfold normed eps
  pointwise [hIn, k0_pay84, k0_pay5, k0_pay2]

theorem pay81_apply (s : FVec Ideal S512x1024 .bf16) (w : Vec Ideal S1024x2048 .bf16) (r : Fin 512) (l : Fin 1024) :
    k0_pay81 s (View.ld w r0_25) (ix2 r l) = projRow s w r ⟨1024 + l.val, by omega⟩ := by
  unfold projRow
  pointwise [k0_pay81]

theorem out0_11_eq (r : Fin 512) (l : Fin 1024) : out0_11 x0 x1 x2 x3 x4 x5 x6 x7 x8 x9 (ix2 r l) = projRow (sIn x0 x1 x2 x3 x4 x5 x6 x7 x8 x9) x3 r ⟨1024 + l.val, by omega⟩ := by
  rw [← pay81_apply]
  unfold out0_11
  canon_tiles x h
  rw [show x = ix2 r l from (eq_ix2 x).trans (congrArg₂ ix2 (Fin.ext h0.symm) (Fin.ext h1.symm))]

theorem pay82_apply (s : FVec Ideal S512x1024 .bf16) (w : Vec Ideal S1024x2048 .bf16) (r : Fin 512) (l : Fin 1024) :
    k0_pay82 s (View.ld w r0_25) (ix2 r l) = projRow s w r ⟨1024 + l.val, by omega⟩ := pay81_apply s w r l

theorem out0_14_eq (r : Fin 512) (l : Fin 1024) : out0_14 x0 x1 x2 x3 x4 x5 x6 x7 x8 x9 (ix2 r l) = projRow (sIn x0 x1 x2 x3 x4 x5 x6 x7 x8 x9) x3 r ⟨1024 + l.val, by omega⟩ := by
  rw [← pay82_apply]
  unfold out0_14
  canon_tiles x h
  rw [show x = ix2 r l from (eq_ix2 x).trans (congrArg₂ ix2 (Fin.ext h0.symm) (Fin.ext h1.symm))]

theorem out0_16_eq (r : Fin 512) (l : Fin 1024) : out0_16 x0 x1 x2 x3 x4 x5 x6 x7 x8 x9 (ix2 r l) = projRow (hIn x0 x1 x2 x3 x4 x5 x6 x7 x8 x9) x6 r ⟨1024 + l.val, by omega⟩ := by
  rw [← pay81_apply]
  unfold out0_16
  canon_tiles x h
  rw [show x = ix2 r l from (eq_ix2 x).trans (congrArg₂ ix2 (Fin.ext h0.symm) (Fin.ext h1.symm))]
  rfl

/-- The split of a row into a rounded part and a rest, times the split weights, is the one product when the rests vanish. -/
theorem pay7_apply (v0 : Vec Ideal S512x1024 .f32) (v1 : Vec Ideal S1x1024 .f32) (w4 w5 : Vec Ideal S1024x128 .bf16)
    (hs : ∀ r k, k0_pay3 v0 v1 (ix2 r k) - k0_pay3 v0 v1 (ix2 r k) = 0) (h5 : ∀ k h, w5 (ix2 k h) = 0) (r : Fin 512) (h : Fin 16) :
    k0_pay7 v0 v1 w4 w5 (ix2 r h) = ∑ k : Fin 1024, k0_pay3 v0 v1 (ix2 r k) * w4 (ix2 k ⟨h.val, by omega⟩) := by
  unfold k0_pay7
  have e : (k0_pay4 v0 v1 : FVec Ideal S512x1024 .bf16) = k0_pay3 v0 v1 := rfl
  rw [e]
  generalize k0_pay3 v0 v1 = p at hs ⊢
  pointwise
  simp only [hs, h5]
  simp

theorem pay8_apply (w : Vec Ideal S1x16 .f32) (r : Fin 512) (h : Fin 16) : k0_pay8 w (ix2 r h) = w (ix2 0 h) := by
  pointwise [k0_pay8]

theorem pay9_apply (a b : FVec Ideal S512x16 .f32) (r : Fin 512) (h : Fin 16) : k0_pay9 a b (ix2 r h) = logSig (a (ix2 r h) + b (ix2 r h)) := by
  rw [← logSig_eq]
  pointwise [k0_pay9]
  rfl

theorem ld_whole (w : Vec Ideal S1024x128 .bf16) (k : Fin 1024) (h : Fin 128) : View.ld w r0_2 (ix2 k h) = w (ix2 k h) := by
  pointwise

theorem ld_row (w : Vec Ideal S1x16 .f32) (h : Fin 16) : View.ld w r0_3 (ix2 0 h) = w (ix2 0 h) := by
  pointwise

theorem out0_12_eq (hs : ∀ r k, sIn x0 x1 x2 x3 x4 x5 x6 x7 x8 x9 (ix2 r k) - sIn x0 x1 x2 x3 x4 x5 x6 x7 x8 x9 (ix2 r k) = 0) (h5 : ∀ k h, x5 (ix2 k h) = 0) (r : Fin 512) (h : Fin 16) :
    out0_12 x0 x1 x2 x3 x4 x5 x6 x7 x8 x9 (ix2 r h) = logSig ((∑ k : Fin 1024, sIn x0 x1 x2 x3 x4 x5 x6 x7 x8 x9 (ix2 r k) * x4 (ix2 k ⟨h.val, by omega⟩)) + x7 (ix2 0 h)) := by
  unfold out0_12
  canon_tiles x hx
  rw [show x = ix2 r h from (eq_ix2 x).trans (congrArg₂ ix2 (Fin.ext hx0.symm) (Fin.ext hx1.symm))]
  rw [pay9_apply, pay8_apply, pay7_apply _ _ _ _ hs (fun k h => (ld_whole x5 k h).trans (h5 k h)), ld_row]
  refine congrArg (fun z => logSig (z + x7 (ix2 0 h))) (Finset.sum_congr rfl fun k _ => congrArg (_ * ·) ?_)
  exact ld_whole x4 k ⟨h.val, by omega⟩

end Proof.Fox

end
-- ==== Proof.FoxBlocks.lean ====
/- The blocks the projection kernel's grid point `t` stages, read at an index: rows `512 * t …` of the stream, and the weights
   whole. The forget gate's 16 columns come padded to 128 and split into a rounded part and a rest. -/
module

public import proofs.«01_k».proof.Proof.FoxIdeal
public import Idealize.ShloMosaic.Lib.Claim

@[expose] public section

set_option maxRecDepth 100000

noncomputable section

namespace Proof.Fox

open Cert.Kernel3Ideal Cert.Kernel3Ideal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val, 0] ∧ win0_1.index t = ![0, 0]
    ∧ win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

def row (t : Fin cfg0.N) (r : Fin 512) : Fin 16384 := ⟨512 * t.val + r.val, by have := lt_of_lt_of_eq t.isLt (show cfg0.N = 32 from N_0); omega⟩

theorem blk0 (c : Dev nD) (t : Fin cfg0.N) (r : Fin 512) (l : Fin 1024) :
    iblk m c 0 t (ix2 r l) = m ((c : Thread nD τ).loc main_arg0) (ix2 (row t r) l) := by
  blk_ext! [iblk, V, idx t, row]

theorem blk1 (c : Dev nD) (t : Fin cfg0.N) (l : Fin 1024) :
    iblk m c 1 t (ix2 0 l) = m ((c : Thread nD τ).loc main_arg1) (ix1 l) := by
  blk_simp [iblk]
  simp only [V, hostOps0, hostOps0_1, hostOps0_2, List.flatten_cons, List.flatten_nil, List.append_nil, List.cons_append, List.nil_append]
  entry_read
  pointwise
  blk_ext! [idx t]

theorem blk2 (c : Dev nD) (t : Fin cfg0.N) (l : Fin 1024) :
    iblk m c 2 t (ix2 0 l) = m ((c : Thread nD τ).loc main_arg2) (ix1 l) := by
  blk_simp [iblk]
  simp only [V, hostOps0, hostOps0_1, hostOps0_2, List.flatten_cons, List.flatten_nil, List.append_nil, List.cons_append, List.nil_append]
  entry_read
  pointwise
  blk_ext! [idx t]

theorem blk3 (c : Dev nD) (t : Fin cfg0.N) (k : Fin 1024) (l : Fin 2048) :
    iblk m c 3 t (ix2 k l) = m ((c : Thread nD τ).loc main_arg3) (ix2 k ⟨l.val, by omega⟩) := by
  blk_simp [iblk]
  simp only [V, hostOps0, hostOps0_1, hostOps0_2, List.flatten_cons, List.flatten_nil, List.append_nil, List.cons_append, List.nil_append]
  entry_read
  pointwise
  blk_ext! [idx t]

/-- The forget gate's columns padded with zeros to 128. -/
def padW (w : FVec Ideal S1024x2064 .f32) : FVec Ideal S1024x128 .f32 :=
  pad S1024x128 ![0, 0] ![0, 112] ![0, 0] (extractStridedSlice S1024x16 ![0, 2048] w slices_S1024x2064_S1024x16_0_2048)
    (sitofp (F := Ideal) FTy.f32 (constantI S_ 32 0#32)) pads_S1024x16_S1024x128_000_01120 h_S_

theorem padW_apply (w : FVec Ideal S1024x2064 .f32) (k : Fin 1024) (h : Fin 128) :
    padW w (ix2 k h) = if hh : h.val < 16 then w (ix2 k ⟨2048 + h.val, by omega⟩) else 0 := by
  pointwise [padW]
  split
  · rfl
  · show (((0#32 : BitVec 32).toInt : ℝ) : EReal) = 0
    simp

theorem blk4 (c : Dev nD) (t : Fin cfg0.N) (k : Fin 1024) (h : Fin 128) :
    iblk m c 4 t (ix2 k h) = padW (m ((c : Thread nD τ).loc main_arg3)) (ix2 k h) := by
  blk_simp [iblk]
  simp only [V, hostOps0, hostOps0_1, hostOps0_2, List.flatten_cons, List.flatten_nil, List.append_nil, List.cons_append, List.nil_append]
  entry_read
  have e : (((cfg0.win 4).blk t).view.emb (ix2 k h) : S1024x128.Idx) = ix2 k h := by
    blk_ext! [idx t]
  show padW _ (((cfg0.win 4).blk t).view.emb (ix2 k h)) = _
  rw [e]

theorem blk5 (c : Dev nD) (t : Fin cfg0.N) (k : Fin 1024) (h : Fin 128) :
    (show EReal from iblk m c 5 t (ix2 k h))
      = padW (m ((c : Thread nD τ).loc main_arg3)) (ix2 k h) - padW (m ((c : Thread nD τ).loc main_arg3)) (ix2 k h) := by
  blk_simp [iblk]
  simp only [V, hostOps0, hostOps0_1, hostOps0_2, List.flatten_cons, List.flatten_nil, List.append_nil, List.cons_append, List.nil_append]
  entry_read
  have e : (((cfg0.win 5).blk t).view.emb (ix2 k h) : S1024x128.Idx) = ix2 k h := by
    blk_ext! [idx t]
  show padW _ (((cfg0.win 5).blk t).view.emb (ix2 k h)) - padW _ (((cfg0.win 5).blk t).view.emb (ix2 k h)) = _
  rw [e]

theorem blk6 (c : Dev nD) (t : Fin cfg0.N) (k : Fin 1024) (l : Fin 2048) :
    iblk m c 6 t (ix2 k l) = m ((c : Thread nD τ).loc main_arg6) (ix2 k l) := by
  blk_simp [iblk]
  simp only [V, hostOps0, hostOps0_1, hostOps0_2, List.flatten_cons, List.flatten_nil, List.append_nil, List.cons_append, List.nil_append]
  entry_read
  pointwise
  blk_ext! [idx t]

theorem blk7 (c : Dev nD) (t : Fin cfg0.N) (h : Fin 16) :
    iblk m c 7 t (ix2 0 h) = m ((c : Thread nD τ).loc main_arg4) (ix1 h) := by
  blk_simp [iblk]
  simp only [V, hostOps0, hostOps0_1, hostOps0_2, List.flatten_cons, List.flatten_nil, List.append_nil, List.cons_append, List.nil_append]
  entry_read
  pointwise
  blk_ext! [idx t]

theorem blk8 (c : Dev nD) (t : Fin cfg0.N) (l : Fin 1024) :
    iblk m c 8 t (ix2 0 l) = m ((c : Thread nD τ).loc main_arg5) (ix1 ⟨l.val % 64, by omega⟩) := by
  blk_simp [iblk]
  simp only [V, hostOps0, hostOps0_1, hostOps0_2, List.flatten_cons, List.flatten_nil, List.append_nil, List.cons_append, List.nil_append]
  entry_read
  pointwise
  blk_ext! [idx t]

theorem blk9 (c : Dev nD) (t : Fin cfg0.N) (l : Fin 1024) :
    iblk m c 9 t (ix2 0 l) = m ((c : Thread nD τ).loc main_arg7) (ix1 ⟨l.val % 64, by omega⟩) := by
  blk_simp [iblk]
  simp only [V, hostOps0, hostOps0_1, hostOps0_2, List.flatten_cons, List.flatten_nil, List.append_nil, List.cons_append, List.nil_append]
  entry_read
  pointwise
  blk_ext! [idx t]

end Proof.Fox

end
-- ==== Proof.FoxFinite.lean ====
/- A row normalised with a finite gain is finite whatever the row holds, so the rest of splitting it is zero. And what the
   precondition says of the gain and of the forget gate's columns. -/
module

public import proofs.«01_k».proof.Proof.FoxSpec
public import proofs.«01_k».proof.Proof.SampleValue
public import proofs.«01_k».proof.Proof.Gen.Pre_finite_forget

@[expose] public section

set_option maxRecDepth 100000

noncomputable section

namespace Proof.Fox

open Idealize.ShloMosaic

theorem sub_self_real (x : EReal) (h : x ≠ ⊤ ∧ x ≠ ⊥) : x - x = 0 := by
  lift x to ℝ using h
  rw [← EReal.coe_sub, sub_self]
  rfl

theorem mul_self_nonneg (x : EReal) : 0 ≤ x * x := by
  induction x with
  | bot => rw [EReal.bot_mul_bot]; exact le_top
  | top => rw [EReal.top_mul_top]; exact le_top
  | coe r => rw [← EReal.coe_mul]; exact_mod_cast _root_.mul_self_nonneg r

theorem n1024 : Ideal.ofBits .f32 1149239296#32 = ((1024 : ℝ) : EReal) := by
  simp [Ideal.ofBits, Ideal.ieee]
  rw [← EReal.coe_mul]
  norm_num

theorem eps_real : ∃ e : ℝ, eps = (e : EReal) ∧ 0 < e := by
  refine ⟨8796093 * ((2 : ℝ) ^ 43)⁻¹, ?_, by positivity⟩
  simp [eps, Ideal.ofBits, Ideal.ieee]

theorem rsqrt_real (s : EReal) (hs : 0 ≤ s) (ht : s ≠ ⊤) :
    ∃ r : ℝ, Ideal.rsqrt (Ideal.div s (Ideal.ofBits .f32 1149239296#32) + eps) = (r : EReal) := by
  lift s to ℝ using ⟨ht, fun h => by rw [h] at hs; simp at hs⟩
  have hs' : 0 ≤ s := by exact_mod_cast hs
  obtain ⟨e, he, h0⟩ := eps_real
  refine ⟨(√(s * (1024 : ℝ)⁻¹ + e))⁻¹, ?_⟩
  have hd : Ideal.div (s : EReal) (Ideal.ofBits .f32 1149239296#32) = ((s * (1024 : ℝ)⁻¹ : ℝ) : EReal) := by
    rw [n1024]
    unfold Ideal.div
    rw [if_neg (by norm_num), ← EReal.coe_inv, ← EReal.coe_mul]
  rw [hd, he, ← EReal.coe_add]
  have hp : 0 < s * (1024 : ℝ)⁻¹ + e := by positivity
  show (if s * (1024 : ℝ)⁻¹ + e < 0 then (⊥ : EReal) else if s * (1024 : ℝ)⁻¹ + e = 0 then ⊤ else (((√(s * (1024 : ℝ)⁻¹ + e))⁻¹ : ℝ) : EReal)) = _
  rw [if_neg (by linarith), if_neg (by linarith)]

theorem normed_sub (x g : Fin 1024 → EReal) (l : Fin 1024) (hg : g l ≠ ⊤ ∧ g l ≠ ⊥) : normed x g l - normed x g l = 0 := by
  suffices h : ∃ r : ℝ, x l * Ideal.rsqrt (Ideal.div (∑ k : Fin 1024, x k * x k) (Ideal.ofBits .f32 1149239296#32) + eps) = (r : EReal) by
    obtain ⟨r, hr⟩ := h
    unfold normed
    rw [hr]
    generalize g l = b at hg
    lift b to ℝ using hg
    rw [← EReal.coe_mul]
    exact sub_self_real _ ⟨EReal.coe_ne_top _, EReal.coe_ne_bot _⟩
  have h0 : 0 ≤ ∑ k : Fin 1024, x k * x k := Finset.sum_nonneg fun k _ => mul_self_nonneg (x k)
  have h1 : x l * x l ≤ ∑ k : Fin 1024, x k * x k := Finset.single_le_sum (f := fun k => x k * x k) (fun k _ => mul_self_nonneg (x k)) (Finset.mem_univ l)
  by_cases ht : ∑ k : Fin 1024, x k * x k = ⊤
  · refine ⟨0, ?_⟩
    rw [ht]
    have hd : Ideal.div (⊤ : EReal) (Ideal.ofBits .f32 1149239296#32) + eps = ⊤ := by
      obtain ⟨e, he, -⟩ := eps_real
      rw [n1024, he]
      unfold Ideal.div
      rw [if_neg (by norm_num), ← EReal.coe_inv, EReal.top_mul_coe_of_pos (by norm_num), EReal.top_add_coe]
    rw [hd]
    show x l * 0 = _
    rw [mul_zero]; rfl
  · obtain ⟨r, hr⟩ := rsqrt_real _ h0 ht
    rw [hr]
    have hx : x l ≠ ⊤ ∧ x l ≠ ⊥ := by
      constructor <;> intro h <;> rw [h] at h1
      · rw [EReal.top_mul_top] at h1; exact ht (top_le_iff.mp h1)
      · rw [EReal.bot_mul_bot] at h1; exact ht (top_le_iff.mp h1)
    generalize x l = a at hx
    lift a to ℝ using hx
    exact ⟨a * r, (EReal.coe_mul _ _).symm⟩

end Proof.Fox

namespace Cert.Pre_finite_forget.Read

open Idealize.ShloMosaic Cert.Pre_finite_forget Cert.Pre_finite_forget.Gen

theorem finite (x0 : FVec Ideal S16384x1024 .f32) (x1 x2 : FVec Ideal S1024 .f32) (x3 : FVec Ideal S1024x2064 .f32)
    (x4 : FVec Ideal S16 .f32) (x5 : FVec Ideal S64 .f32) (x6 : FVec Ideal S1024x2048 .f32) (x7 : FVec Ideal S64 .f32)
    (h : fn (F := Ideal) x0 x1 x2 x3 x4 x5 x6 x7 = fun _ => 1#1) :
    (∀ i, x1 i ≠ ⊤ ∧ x1 i ≠ ⊥) ∧ ∀ (k : Fin 1024) (j : Fin 16), x3 (ix2 k ⟨2048 + j.val, by omega⟩) ≠ ⊤ ∧ x3 (ix2 k ⟨2048 + j.val, by omega⟩) ≠ ⊥ := by
  have e := congrFun h ix0
  unfold fn at e
  have andi_one (a b : BitVec 1) : IntOp.andi a b = 1#1 ↔ a = 1#1 ∧ b = 1#1 := by revert a b; decide
  simp only [andi, andi_one] at e
  obtain ⟨e0, e1⟩ := e
  refine ⟨fun i => Cert.Pre_finite_logits.Read.real_of_one _ _ _ _ e0 i, fun k j => ?_⟩
  have := Cert.Pre_finite_logits.Read.real_of_one _ _ _ _ e1 (ix2 k j)
  revert this
  pointwise
  exact id

end Cert.Pre_finite_forget.Read

end
-- ==== Proof.FoxValue.lean ====
/- The arrays the projection call leaves are the reference's keys, values, forget gates, queries and output gates of the same
   arguments, where the gain of the keys' norm and the forget gate's columns are finite. -/
module

public import proofs.«01_k».proof.Proof.FoxBlocks
public import proofs.«01_k».proof.Proof.FoxFinite

@[expose] public section

set_option maxRecDepth 100000

noncomputable section

namespace Proof.Fox

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (c : Dev nD)

/-- The call's arguments. -/
abbrev A0 : FVec Ideal S16384x1024 .f32 := m ((c : Thread nD τ).loc main_arg0)
abbrev A1 : FVec Ideal S1024 .f32 := m ((c : Thread nD τ).loc main_arg1)
abbrev A2 : FVec Ideal S1024 .f32 := m ((c : Thread nD τ).loc main_arg2)
abbrev A3 : FVec Ideal S1024x2064 .f32 := m ((c : Thread nD τ).loc main_arg3)
abbrev A4 : FVec Ideal S16 .f32 := m ((c : Thread nD τ).loc main_arg4)
abbrev A5 : FVec Ideal S64 .f32 := m ((c : Thread nD τ).loc main_arg5)
abbrev A6 : FVec Ideal S1024x2048 .f32 := m ((c : Thread nD τ).loc main_arg6)
abbrev A7 : FVec Ideal S64 .f32 := m ((c : Thread nD τ).loc main_arg7)

theorem headRow_eq (p q gain : Fin 1024 → EReal) (g : Fin 64 → EReal) (hp : ∀ l, p l = q l) (hg : ∀ l : Fin 1024, gain l = g ⟨l.val % 64, by omega⟩)
    (l : Fin 1024) : headRow p gain l = headNormed q g l := by
  obtain rfl : p = q := funext hp
  unfold headRow headNormed
  rw [hg]

/-- What the precondition says of them. -/
def Fin1 : Prop := ∀ l : Fin 1024, A1 m c (ix1 l) ≠ ⊤ ∧ A1 m c (ix1 l) ≠ ⊥
def Fin3 : Prop := ∀ (k : Fin 1024) (j : Fin 16), A3 m c (ix2 k ⟨2048 + j.val, by omega⟩) ≠ ⊤ ∧ A3 m c (ix2 k ⟨2048 + j.val, by omega⟩) ≠ ⊥

/-- The normalised streams of a grid point. -/
theorem blk_kvIn (t : Fin cfg0.N) (r : Fin 512) (l : Fin 1024) :
    sIn (iblk m c 0 t) (iblk m c 1 t) (iblk m c 2 t) (iblk m c 3 t) (iblk m c 4 t) (iblk m c 5 t) (iblk m c 6 t) (iblk m c 7 t) (iblk m c 8 t) (iblk m c 9 t) (ix2 r l) = kvIn (A0 m c) (A1 m c) (row t r) l := by
  rw [sIn_apply]
  simp only [blk0, blk1]
  rfl

theorem blk_qIn (t : Fin cfg0.N) (r : Fin 512) (l : Fin 1024) :
    hIn (iblk m c 0 t) (iblk m c 1 t) (iblk m c 2 t) (iblk m c 3 t) (iblk m c 4 t) (iblk m c 5 t) (iblk m c 6 t) (iblk m c 7 t) (iblk m c 8 t) (iblk m c 9 t) (ix2 r l) = qIn (A0 m c) (A2 m c) (row t r) l := by
  rw [hIn_apply]
  simp only [blk0, blk2]
  rfl

/-- Their projections. -/
theorem blk_kvf (t : Fin cfg0.N) (r : Fin 512) (l : Fin 2048) :
    projRow (sIn (iblk m c 0 t) (iblk m c 1 t) (iblk m c 2 t) (iblk m c 3 t) (iblk m c 4 t) (iblk m c 5 t) (iblk m c 6 t) (iblk m c 7 t) (iblk m c 8 t) (iblk m c 9 t)) (iblk m c 3 t) r l = kvf (A0 m c) (A1 m c) (A3 m c) (row t r) ⟨l.val, by omega⟩ := by
  unfold projRow kvf
  refine Finset.sum_congr rfl fun k _ => ?_
  rw [blk_kvIn, blk3]

theorem blk_qg (t : Fin cfg0.N) (r : Fin 512) (l : Fin 2048) :
    projRow (hIn (iblk m c 0 t) (iblk m c 1 t) (iblk m c 2 t) (iblk m c 3 t) (iblk m c 4 t) (iblk m c 5 t) (iblk m c 6 t) (iblk m c 7 t) (iblk m c 8 t) (iblk m c 9 t)) (iblk m c 6 t) r l = qg (A0 m c) (A2 m c) (A6 m c) (row t r) l := by
  unfold projRow qg
  refine Finset.sum_congr rfl fun k _ => ?_
  rw [blk_qIn, blk6]

theorem out10_apply (t : Fin cfg0.N) (r : Fin 512) (l : Fin 1024) :
    out10 (iblk m c 0 t) (iblk m c 1 t) (iblk m c 2 t) (iblk m c 3 t) (iblk m c 4 t) (iblk m c 5 t) (iblk m c 6 t) (iblk m c 7 t) (iblk m c 8 t) (iblk m c 9 t) (ix2 r l) = key (A0 m c) (A1 m c) (A3 m c) (A5 m c) (row t r) l := by
  exact headRow_eq _ _ _ _ (fun l => blk_kvf m c t r ⟨l.val, by omega⟩) (fun l => blk8 m c t l) l

theorem out15_apply (t : Fin cfg0.N) (r : Fin 512) (l : Fin 1024) :
    out15 (iblk m c 0 t) (iblk m c 1 t) (iblk m c 2 t) (iblk m c 3 t) (iblk m c 4 t) (iblk m c 5 t) (iblk m c 6 t) (iblk m c 7 t) (iblk m c 8 t) (iblk m c 9 t) (ix2 r l) = query (A0 m c) (A2 m c) (A6 m c) (A7 m c) (row t r) l := by
  exact congrArg (· * Ideal.ofBits .f32 1040187392#32)
    (headRow_eq _ _ _ _ (fun l => blk_qg m c t r ⟨l.val, by omega⟩) (fun l => blk9 m c t l) l)

theorem val_apply (t : Fin cfg0.N) (r : Fin 512) (l : Fin 1024) :
    projRow (sIn (iblk m c 0 t) (iblk m c 1 t) (iblk m c 2 t) (iblk m c 3 t) (iblk m c 4 t) (iblk m c 5 t) (iblk m c 6 t) (iblk m c 7 t) (iblk m c 8 t) (iblk m c 9 t)) (iblk m c 3 t) r ⟨1024 + l.val, by omega⟩ = val (A0 m c) (A1 m c) (A3 m c) (row t r) l := blk_kvf m c t r _

theorem gate_apply (t : Fin cfg0.N) (r : Fin 512) (l : Fin 1024) :
    projRow (hIn (iblk m c 0 t) (iblk m c 1 t) (iblk m c 2 t) (iblk m c 3 t) (iblk m c 4 t) (iblk m c 5 t) (iblk m c 6 t) (iblk m c 7 t) (iblk m c 8 t) (iblk m c 9 t)) (iblk m c 6 t) r ⟨1024 + l.val, by omega⟩ = gate (A0 m c) (A2 m c) (A6 m c) (row t r) l := blk_qg m c t r _

/-- The rest of the split stream, and of the split columns, is zero. -/
theorem rest_stream (h1 : Fin1 m c) (t : Fin cfg0.N) (r : Fin 512) (k : Fin 1024) :
    sIn (iblk m c 0 t) (iblk m c 1 t) (iblk m c 2 t) (iblk m c 3 t) (iblk m c 4 t) (iblk m c 5 t) (iblk m c 6 t) (iblk m c 7 t) (iblk m c 8 t) (iblk m c 9 t) (ix2 r k) - sIn (iblk m c 0 t) (iblk m c 1 t) (iblk m c 2 t) (iblk m c 3 t) (iblk m c 4 t) (iblk m c 5 t) (iblk m c 6 t) (iblk m c 7 t) (iblk m c 8 t) (iblk m c 9 t) (ix2 r k) = 0 := by
  rw [blk_kvIn]
  exact normed_sub _ _ _ (h1 k)

theorem rest_cols (h3 : Fin3 m c) (t : Fin cfg0.N) (k : Fin 1024) (h : Fin 128) : iblk m c 5 t (ix2 k h) = (0 : EReal) := by
  refine (blk5 m c t k h).trans ?_
  rw [padW_apply]
  split
  · rename_i hh
    exact sub_self_real _ (h3 k ⟨h.val, hh⟩)
  · exact sub_self_real _ ⟨EReal.zero_ne_top, EReal.zero_ne_bot⟩

theorem forget_apply (h1 : Fin1 m c) (h3 : Fin3 m c) (t : Fin cfg0.N) (r : Fin 512) (h : Fin 16) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r h) = forget (A0 m c) (A1 m c) (A3 m c) (A4 m c) (row t r) h := by
  rw [out0_12_eq _ _ _ _ _ _ _ _ _ _ (rest_stream m c h1 t) (rest_cols m c h3 t)]
  unfold forget kvf
  refine congrArg logSig (congrArg₂ (· + ·) (Finset.sum_congr rfl fun k _ => ?_) (blk7 m c t h))
  rw [blk_kvIn]
  refine congrArg (_ * ·) ((blk4 m c t k ⟨h.val, by omega⟩).trans ?_)
  rw [padW_apply, dif_pos h.isLt]

/-- Output 0: the keys. -/
def G10 : Buf (Elt Ideal) ((c : Thread nD τ).loc main_v20_0) := fun i =>
  key (A0 m c) (A1 m c) (A3 m c) (A5 m c) (i 0) (i 1)

theorem flushed10_eq (t : Fin cfg0.N) : (dats m 0 c).flushed 10 t = ((cfg0.win 10).blk t).view.read (Elt Ideal) (G10 m c) := by
  rw [flushed10]
  obtain ⟨-, -, -, -, -, -, -, -, -, -, e, -, -, -, -, -, -⟩ := idx t
  funext y
  have h0 : (y 0).val < 512 := (y 0).isLt
  have h1 : (y 1).val < 1024 := (y 1).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 1024 + 1 * (y 1).val := rfl
  rw [e] at hb0 hb1
  have hx : (cfg0.win 10).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_10 (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) y) = G10 m c (((cfg0.win 10).blk t).view.emb y)
  rw [hx]
  refine ((congrFun (out0_10_eq _ _ _ _ _ _ _ _ _ _) _).trans (out10_apply m c t _ _)).trans ?_
  unfold G10
  refine congrArg₂ (key (A0 m c) (A1 m c) (A3 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, e, -, -, -, -, -, -⟩ := idx ⟨(i 0).val / 512, hN⟩
  refine ⟨⟨(i 0).val / 512, hN⟩, flush0_10 _, ?_⟩
  show i ∈ ((View.whole main_v20_0).slice (win0_10.rect ⟨(i 0).val / 512, hN⟩)).set
  rw [View.set_slice_whole, Rect.mem_set_unit]
  intro a
  have q0 : win0_10.index ⟨(i 0).val / 512, hN⟩ (0 : Fin 2) = (i 0).val / 512 := congrFun e 0
  have q1 : win0_10.index ⟨(i 0).val / 512, hN⟩ (1 : Fin 2) = 0 := congrFun e 1
  match a with
  | ⟨0, _⟩ => show win0_10.index ⟨(i 0).val / 512, hN⟩ (0 : Fin 2) * 512 ≤ (i 0).val ∧ (i 0).val < win0_10.index ⟨(i 0).val / 512, hN⟩ (0 : Fin 2) * 512 + 512; omega
  | ⟨1, _⟩ => show win0_10.index ⟨(i 0).val / 512, hN⟩ (1 : Fin 2) * 1024 ≤ (i 1).val ∧ (i 1).val < win0_10.index ⟨(i 0).val / 512, hN⟩ (1 : Fin 2) * 1024 + 1024; omega

theorem final10 : (dats m 0 c).arrAt 10 cfg0.N = G10 m c :=
  (dats m 0 c).arrAt_eq_of_cover 10 _ (fun t _ => flushed10_eq m c t) (fun i => covered10 i)

/-- Output 1: the values. -/
def G11 : Buf (Elt Ideal) ((c : Thread nD τ).loc main_v20_1) := fun i =>
  val (A0 m c) (A1 m c) (A3 m c) (i 0) (i 1)

theorem flushed11_eq (t : Fin cfg0.N) : (dats m 0 c).flushed 11 t = ((cfg0.win 11).blk t).view.read (Elt Ideal) (G11 m c) := by
  rw [flushed11]
  obtain ⟨-, -, -, -, -, -, -, -, -, -, -, e, -, -, -, -, -⟩ := idx t
  funext y
  have h0 : (y 0).val < 512 := (y 0).isLt
  have h1 : (y 1).val < 1024 := (y 1).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 1024 + 1 * (y 1).val := rfl
  rw [e] at hb0 hb1
  have hx : (cfg0.win 11).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_11 (iblk m c 0 t) (iblk m c 1 t) (iblk m c 2 t) (iblk m c 3 t) (iblk m c 4 t) (iblk m c 5 t) (iblk m c 6 t) (iblk m c 7 t) (iblk m c 8 t) (iblk m c 9 t) ((cfg0.win 11).xinj (grid0.coords t) y) = G11 m c (((cfg0.win 11).blk t).view.emb y)
  rw [hx]
  refine ((out0_11_eq _ _ _ _ _ _ _ _ _ _ _ _).trans (val_apply m c t _ _)).trans ?_
  unfold G11
  refine congrArg₂ (val (A0 m c) (A1 m c) (A3 m c)) (Fin.ext ?_) (Fin.ext ?_)
  · rw [hb0]; show 512 * t.val + (y 0).val = t.val * 512 + 1 * (y 0).val; omega
  · rw [hb1]; show (y 1).val = 0 * 1024 + 1 * (y 1).val; omega

theorem covered11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, -, e, -, -, -, -, -⟩ := idx ⟨(i 0).val / 512, hN⟩
  refine ⟨⟨(i 0).val / 512, hN⟩, flush0_11 _, ?_⟩
  show i ∈ ((View.whole main_v20_1).slice (win0_11.rect ⟨(i 0).val / 512, hN⟩)).set
  rw [View.set_slice_whole, Rect.mem_set_unit]
  intro a
  have q0 : win0_11.index ⟨(i 0).val / 512, hN⟩ (0 : Fin 2) = (i 0).val / 512 := congrFun e 0
  have q1 : win0_11.index ⟨(i 0).val / 512, hN⟩ (1 : Fin 2) = 0 := congrFun e 1
  match a with
  | ⟨0, _⟩ => show win0_11.index ⟨(i 0).val / 512, hN⟩ (0 : Fin 2) * 512 ≤ (i 0).val ∧ (i 0).val < win0_11.index ⟨(i 0).val / 512, hN⟩ (0 : Fin 2) * 512 + 512; omega
  | ⟨1, _⟩ => show win0_11.index ⟨(i 0).val / 512, hN⟩ (1 : Fin 2) * 1024 ≤ (i 1).val ∧ (i 1).val < win0_11.index ⟨(i 0).val / 512, hN⟩ (1 : Fin 2) * 1024 + 1024; omega

theorem final11 : (dats m 0 c).arrAt 11 cfg0.N = G11 m c :=
  (dats m 0 c).arrAt_eq_of_cover 11 _ (fun t _ => flushed11_eq m c t) (fun i => covered11 i)

/-- Output 2: the forget gates. -/
def G12 : Buf (Elt Ideal) ((c : Thread nD τ).loc main_v20_2) := fun i =>
  forget (A0 m c) (A1 m c) (A3 m c) (A4 m c) (i 0) (i 1)

theorem flushed12_eq (f1 : Fin1 m c) (f3 : Fin3 m c) (t : Fin cfg0.N) : (dats m 0 c).flushed 12 t = ((cfg0.win 12).blk t).view.read (Elt Ideal) (G12 m c) := by
  rw [flushed12]
  obtain ⟨-, -, -, -, -, -, -, -, -, -, -, -, e, -, -, -, -⟩ := idx t
  funext y
  have h0 : (y 0).val < 512 := (y 0).isLt
  have h1 : (y 1).val < 16 := (y 1).isLt
  have hb0 : (((cfg0.win 12).blk t).view.emb y 0).val = win0_12.index t (0 : Fin 2) * 512 + 1 * (y 0).val := rfl
  have hb1 : (((cfg0.win 12).blk t).view.emb y 1).val = win0_12.index t (1 : Fin 2) * 16 + 1 * (y 1).val := rfl
  rw [e] at hb0 hb1
  have hx : (cfg0.win 12).xinj (grid0.coords t) y = ix2 (⟨(y 0).val, h0⟩ : Fin 512) (⟨(y 1).val, h1⟩ : Fin 16) := by
    funext a; apply Fin.ext
    match a with
    | ⟨0, _⟩ => rfl
    | ⟨1, _⟩ => rfl
  show out0_12 (iblk m c 0 t) (iblk m c 1 t) (iblk m c 2 t) (iblk m c 3 t) (iblk m c 4 t) (iblk m c 5 t) (iblk m c 6 t) (iblk m c 7 t) (iblk m c 8 t) (iblk m c 9 t) ((cfg0.win 12).xinj (grid0.coords t) y) = G12 m c (((cfg0.win 12).blk t).view.emb y)
  rw [hx]
  refine (forget_apply m c f1 f3 t _ _).trans ?_
  unfold G12
  refine congrArg₂ (forget (A0 m c) (A1 m c) (A3 m c) (A4 m c)) (Fin.ext ?_) (Fin.ext ?_)
  · rw [hb0]; show 512 * t.val + (y 0).val = t.val * 512 + 1 * (y 0).val; omega
  · rw [hb1]; show (y 1).val = 0 * 16 + 1 * (y 1).val; omega

theorem covered12 (i : S16384x16.Idx) : ∃ t : Fin cfg0.N, (cfg0.win 12).flush t = true ∧ i ∈ ((cfg0.win 12).blk t).view.set := by
  have hi0 : (i 0).val < 16384 := (i 0).isLt
  have hi1 : (i 1).val < 16 := (i 1).isLt
  have hN : (i 0).val / 512 < cfg0.N := by rw [show cfg0.N = 32 from N_0]; omega
  obtain ⟨-, -, -, -, -, -, -, -, -, -, -, -, e, -, -, -, -⟩ := idx ⟨(i 0).val / 512, hN⟩
  refine ⟨⟨(i 0).val / 512, hN⟩, flush0_12 _, ?_⟩
  show i ∈ ((View.whole main_v20_2).slice (win0_12.rect ⟨(i 0).val / 512, hN⟩)).set
  rw [View.set_slice_whole, Rect.mem_set_unit]
  intro a
  have q0 : win0_12.index ⟨(i 0).val / 512, hN⟩ (0 : Fin 2) = (i 0).val / 512 := congrFun e 0
  have q1 : win0_12.index ⟨(i 0).val / 512, hN⟩ (1 : Fin 2) = 0 := congrFun e 1
  match a with
  | ⟨0, _⟩ => show win0_12.index ⟨(i 0).val / 512, hN⟩ (0 : Fin 2) * 512 ≤ (i 0).val ∧ (i 0).val < win0_12.index ⟨(i 0).val / 512, hN⟩ (0 : Fin 2) * 512 + 512; omega
  | ⟨1, _⟩ => show win0_12.index ⟨(i 0).val / 512, hN⟩ (1 : Fin 2) * 16 ≤ (i 1).val ∧ (i 1).val < win0_12.index ⟨(i 0).val / 512, hN⟩ (1 : Fin 2) * 16 + 16; omega

theorem final12 (f1 : Fin1 m c) (f3 : Fin3 m c) : (dats m 0 c).arrAt 12 cfg0.N = G12 m c :=
  (dats m 0 c).arrAt_eq_of_cover 12 _ (fun t _ => flushed12_eq m c f1 f3 t) (fun i => covered12 i)

/-- Output 3: the keys, rounded. -/
def G13 : Buf (Elt Ideal) ((c : Thread nD τ).loc main_v20_3) := fun i =>
  key (A0 m c) (A1 m c) (A3 m c) (A5 m c) (i 0) (i 1)

theorem flushed13_eq (t : Fin cfg0.N) : (dats m 0 c).flushed 13 t = ((cfg0.win 13).blk t).view.read (Elt Ideal) (G13 m c) := by
  rw [flushed13]
  obtain ⟨-, -, -, -, -, -, -, -, -, -, -, -, -, e, -, -, -⟩ := idx t
  funext y
  have h0 : (y 0).val < 512 := (y 0).isLt
  have h1 : (y 1).val < 1024 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 1024 + 1 * (y 1).val := rfl
  rw [e] at hb0 hb1
  have hx : (cfg0.win 13).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_13 (iblk m c 0 t) (iblk m c 1 t) (iblk m c 2 t) (iblk m c 3 t) (iblk m c 4 t) (iblk m c 5 t) (iblk m c 6 t) (iblk m c 7 t) (iblk m c 8 t) (iblk m c 9 t) ((cfg0.win 13).xinj (grid0.coords t) y) = G13 m c (((cfg0.win 13).blk t).view.emb y)
  rw [hx]
  refine ((congrFun (out0_13_eq _ _ _ _ _ _ _ _ _ _) _).trans (out10_apply m c t _ _)).trans ?_
  unfold G13
  refine congrArg₂ (key (A0 m c) (A1 m c) (A3 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered13 (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, -, -, -, e, -, -, -⟩ := idx ⟨(i 0).val / 512, hN⟩
  refine ⟨⟨(i 0).val / 512, hN⟩, flush0_13 _, ?_⟩
  show i ∈ ((View.whole main_v20_3).slice (win0_13.rect ⟨(i 0).val / 512, hN⟩)).set
  rw [View.set_slice_whole, Rect.mem_set_unit]
  intro a
  have q0 : win0_13.index ⟨(i 0).val / 512, hN⟩ (0 : Fin 2) = (i 0).val / 512 := congrFun e 0
  have q1 : win0_13.index ⟨(i 0).val / 512, hN⟩ (1 : Fin 2) = 0 := congrFun e 1
  match a with
  | ⟨0, _⟩ => show win0_13.index ⟨(i 0).val / 512, hN⟩ (0 : Fin 2) * 512 ≤ (i 0).val ∧ (i 0).val < win0_13.index ⟨(i 0).val / 512, hN⟩ (0 : Fin 2) * 512 + 512; omega
  | ⟨1, _⟩ => show win0_13.index ⟨(i 0).val / 512, hN⟩ (1 : Fin 2) * 1024 ≤ (i 1).val ∧ (i 1).val < win0_13.index ⟨(i 0).val / 512, hN⟩ (1 : Fin 2) * 1024 + 1024; omega

theorem final13 : (dats m 0 c).arrAt 13 cfg0.N = G13 m c :=
  (dats m 0 c).arrAt_eq_of_cover 13 _ (fun t _ => flushed13_eq m c t) (fun i => covered13 i)

/-- Output 4: the values, rounded. -/
def G14 : Buf (Elt Ideal) ((c : Thread nD τ).loc main_v20_4) := fun i =>
  val (A0 m c) (A1 m c) (A3 m c) (i 0) (i 1)

theorem flushed14_eq (t : Fin cfg0.N) : (dats m 0 c).flushed 14 t = ((cfg0.win 14).blk t).view.read (Elt Ideal) (G14 m c) := by
  rw [flushed14]
  obtain ⟨-, -, -, -, -, -, -, -, -, -, -, -, -, -, e, -, -⟩ := idx t
  funext y
  have h0 : (y 0).val < 512 := (y 0).isLt
  have h1 : (y 1).val < 1024 := (y 1).isLt
  have hb0 : (((cfg0.win 14).blk t).view.emb y 0).val = win0_14.index t (0 : Fin 2) * 512 + 1 * (y 0).val := rfl
  have hb1 : (((cfg0.win 14).blk t).view.emb y 1).val = win0_14.index t (1 : Fin 2) * 1024 + 1 * (y 1).val := rfl
  rw [e] at hb0 hb1
  have hx : (cfg0.win 14).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_14 (iblk m c 0 t) (iblk m c 1 t) (iblk m c 2 t) (iblk m c 3 t) (iblk m c 4 t) (iblk m c 5 t) (iblk m c 6 t) (iblk m c 7 t) (iblk m c 8 t) (iblk m c 9 t) ((cfg0.win 14).xinj (grid0.coords t) y) = G14 m c (((cfg0.win 14).blk t).view.emb y)
  rw [hx]
  refine ((out0_14_eq _ _ _ _ _ _ _ _ _ _ _ _).trans (val_apply m c t _ _)).trans ?_
  unfold G14
  refine congrArg₂ (val (A0 m c) (A1 m c) (A3 m c)) (Fin.ext ?_) (Fin.ext ?_)
  · rw [hb0]; show 512 * t.val + (y 0).val = t.val * 512 + 1 * (y 0).val; omega
  · rw [hb1]; show (y 1).val = 0 * 1024 + 1 * (y 1).val; omega

theorem covered14 (i : S16384x1024.Idx) : ∃ t : Fin cfg0.N, (cfg0.win 14).flush t = true ∧ i ∈ ((cfg0.win 14).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, -, -, -, -, e, -, -⟩ := idx ⟨(i 0).val / 512, hN⟩
  refine ⟨⟨(i 0).val / 512, hN⟩, flush0_14 _, ?_⟩
  show i ∈ ((View.whole main_v20_4).slice (win0_14.rect ⟨(i 0).val / 512, hN⟩)).set
  rw [View.set_slice_whole, Rect.mem_set_unit]
  intro a
  have q0 : win0_14.index ⟨(i 0).val / 512, hN⟩ (0 : Fin 2) = (i 0).val / 512 := congrFun e 0
  have q1 : win0_14.index ⟨(i 0).val / 512, hN⟩ (1 : Fin 2) = 0 := congrFun e 1
  match a with
  | ⟨0, _⟩ => show win0_14.index ⟨(i 0).val / 512, hN⟩ (0 : Fin 2) * 512 ≤ (i 0).val ∧ (i 0).val < win0_14.index ⟨(i 0).val / 512, hN⟩ (0 : Fin 2) * 512 + 512; omega
  | ⟨1, _⟩ => show win0_14.index ⟨(i 0).val / 512, hN⟩ (1 : Fin 2) * 1024 ≤ (i 1).val ∧ (i 1).val < win0_14.index ⟨(i 0).val / 512, hN⟩ (1 : Fin 2) * 1024 + 1024; omega

theorem final14 : (dats m 0 c).arrAt 14 cfg0.N = G14 m c :=
  (dats m 0 c).arrAt_eq_of_cover 14 _ (fun t _ => flushed14_eq m c t) (fun i => covered14 i)

/-- Output 5: the queries. -/
def G15 : Buf (Elt Ideal) ((c : Thread nD τ).loc main_v20_5) := fun i =>
  query (A0 m c) (A2 m c) (A6 m c) (A7 m c) (i 0) (i 1)

theorem flushed15_eq (t : Fin cfg0.N) : (dats m 0 c).flushed 15 t = ((cfg0.win 15).blk t).view.read (Elt Ideal) (G15 m c) := by
  rw [flushed15]
  obtain ⟨-, -, -, -, -, -, -, -, -, -, -, -, -, -, -, e, -⟩ := idx t
  funext y
  have h0 : (y 0).val < 512 := (y 0).isLt
  have h1 : (y 1).val < 1024 := (y 1).isLt
  have hb0 : (((cfg0.win 15).blk t).view.emb y 0).val = win0_15.index t (0 : Fin 2) * 512 + 1 * (y 0).val := rfl
  have hb1 : (((cfg0.win 15).blk t).view.emb y 1).val = win0_15.index t (1 : Fin 2) * 1024 + 1 * (y 1).val := rfl
  rw [e] at hb0 hb1
  have hx : (cfg0.win 15).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_15 (iblk m c 0 t) (iblk m c 1 t) (iblk m c 2 t) (iblk m c 3 t) (iblk m c 4 t) (iblk m c 5 t) (iblk m c 6 t) (iblk m c 7 t) (iblk m c 8 t) (iblk m c 9 t) ((cfg0.win 15).xinj (grid0.coords t) y) = G15 m c (((cfg0.win 15).blk t).view.emb y)
  rw [hx]
  refine ((congrFun (out0_15_eq _ _ _ _ _ _ _ _ _ _) _).trans (out15_apply m c t _ _)).trans ?_
  unfold G15
  refine congrArg₂ (query (A0 m c) (A2 m c) (A6 m c) (A7 m c)) (Fin.ext ?_) (Fin.ext ?_)
  · rw [hb0]; show 512 * t.val + (y 0).val = t.val * 512 + 1 * (y 0).val; omega
  · rw [hb1]; show (y 1).val = 0 * 1024 + 1 * (y 1).val; omega

theorem covered15 (i : S16384x1024.Idx) : ∃ t : Fin cfg0.N, (cfg0.win 15).flush t = true ∧ i ∈ ((cfg0.win 15).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, -, -, -, -, -, e, -⟩ := idx ⟨(i 0).val / 512, hN⟩
  refine ⟨⟨(i 0).val / 512, hN⟩, flush0_15 _, ?_⟩
  show i ∈ ((View.whole main_v20_5).slice (win0_15.rect ⟨(i 0).val / 512, hN⟩)).set
  rw [View.set_slice_whole, Rect.mem_set_unit]
  intro a
  have q0 : win0_15.index ⟨(i 0).val / 512, hN⟩ (0 : Fin 2) = (i 0).val / 512 := congrFun e 0
  have q1 : win0_15.index ⟨(i 0).val / 512, hN⟩ (1 : Fin 2) = 0 := congrFun e 1
  match a with
  | ⟨0, _⟩ => show win0_15.index ⟨(i 0).val / 512, hN⟩ (0 : Fin 2) * 512 ≤ (i 0).val ∧ (i 0).val < win0_15.index ⟨(i 0).val / 512, hN⟩ (0 : Fin 2) * 512 + 512; omega
  | ⟨1, _⟩ => show win0_15.index ⟨(i 0).val / 512, hN⟩ (1 : Fin 2) * 1024 ≤ (i 1).val ∧ (i 1).val < win0_15.index ⟨(i 0).val / 512, hN⟩ (1 : Fin 2) * 1024 + 1024; omega

theorem final15 : (dats m 0 c).arrAt 15 cfg0.N = G15 m c :=
  (dats m 0 c).arrAt_eq_of_cover 15 _ (fun t _ => flushed15_eq m c t) (fun i => covered15 i)

/-- Output 6: the output gates. -/
def G16 : Buf (Elt Ideal) ((c : Thread nD τ).loc main_v20_6) := fun i =>
  gate (A0 m c) (A2 m c) (A6 m c) (i 0) (i 1)

theorem flushed16_eq (t : Fin cfg0.N) : (dats m 0 c).flushed 16 t = ((cfg0.win 16).blk t).view.read (Elt Ideal) (G16 m c) := by
  rw [flushed16]
  obtain ⟨-, -, -, -, -, -, -, -, -, -, -, -, -, -, -, -, e⟩ := idx t
  funext y
  have h0 : (y 0).val < 512 := (y 0).isLt
  have h1 : (y 1).val < 1024 := (y 1).isLt
  have hb0 : (((cfg0.win 16).blk t).view.emb y 0).val = win0_16.index t (0 : Fin 2) * 512 + 1 * (y 0).val := rfl
  have hb1 : (((cfg0.win 16).blk t).view.emb y 1).val = win0_16.index t (1 : Fin 2) * 1024 + 1 * (y 1).val := rfl
  rw [e] at hb0 hb1
  have hx : (cfg0.win 16).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_16 (iblk m c 0 t) (iblk m c 1 t) (iblk m c 2 t) (iblk m c 3 t) (iblk m c 4 t) (iblk m c 5 t) (iblk m c 6 t) (iblk m c 7 t) (iblk m c 8 t) (iblk m c 9 t) ((cfg0.win 16).xinj (grid0.coords t) y) = G16 m c (((cfg0.win 16).blk t).view.emb y)
  rw [hx]
  refine ((out0_16_eq _ _ _ _ _ _ _ _ _ _ _ _).trans (gate_apply m c t _ _)).trans ?_
  unfold G16
  refine congrArg₂ (gate (A0 m c) (A2 m c) (A6 m c)) (Fin.ext ?_) (Fin.ext ?_)
  · rw [hb0]; show 512 * t.val + (y 0).val = t.val * 512 + 1 * (y 0).val; omega
  · rw [hb1]; show (y 1).val = 0 * 1024 + 1 * (y 1).val; omega

theorem covered16 (i : S16384x1024.Idx) : ∃ t : Fin cfg0.N, (cfg0.win 16).flush t = true ∧ i ∈ ((cfg0.win 16).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, -, -, -, -, -, -, -, -, e⟩ := idx ⟨(i 0).val / 512, hN⟩
  refine ⟨⟨(i 0).val / 512, hN⟩, flush0_16 _, ?_⟩
  show i ∈ ((View.whole main_v20_6).slice (win0_16.rect ⟨(i 0).val / 512, hN⟩)).set
  rw [View.set_slice_whole, Rect.mem_set_unit]
  intro a
  have q0 : win0_16.index ⟨(i 0).val / 512, hN⟩ (0 : Fin 2) = (i 0).val / 512 := congrFun e 0
  have q1 : win0_16.index ⟨(i 0).val / 512, hN⟩ (1 : Fin 2) = 0 := congrFun e 1
  match a with
  | ⟨0, _⟩ => show win0_16.index ⟨(i 0).val / 512, hN⟩ (0 : Fin 2) * 512 ≤ (i 0).val ∧ (i 0).val < win0_16.index ⟨(i 0).val / 512, hN⟩ (0 : Fin 2) * 512 + 512; omega
  | ⟨1, _⟩ => show win0_16.index ⟨(i 0).val / 512, hN⟩ (1 : Fin 2) * 1024 ≤ (i 1).val ∧ (i 1).val < win0_16.index ⟨(i 0).val / 512, hN⟩ (1 : Fin 2) * 1024 + 1024; omega

theorem final16 : (dats m 0 c).arrAt 16 cfg0.N = G16 m c :=
  (dats m 0 c).arrAt_eq_of_cover 16 _ (fun t _ => flushed16_eq m c t) (fun i => covered16 i)

/-! The arrays are the reference's results on the same arguments. -/

theorem value10 : (G10 m c : S16384x1024.Idx → EReal) = Cert.Reference3Ideal.Read.val_main_v31 (F := Ideal) (A0 m c) (A1 m c) (A3 m c) (A5 m c) := by
  funext y
  obtain ⟨r, l, rfl⟩ : ∃ (r : Fin 16384) (l : Fin 1024), y = ix2 r l := ⟨y 0, y 1, eq_ix2 y⟩
  exact (ref_key (A0 m c) (A1 m c) (A3 m c) (A5 m c) r l).symm

theorem value11 : (G11 m c : S16384x1024.Idx → EReal) = Cert.Reference3Ideal.Read.val_main_v15 (F := Ideal) (A0 m c) (A1 m c) (A3 m c) := by
  funext y
  obtain ⟨r, l, rfl⟩ : ∃ (r : Fin 16384) (l : Fin 1024), y = ix2 r l := ⟨y 0, y 1, eq_ix2 y⟩
  exact (ref_val (A0 m c) (A1 m c) (A3 m c) r l).symm

theorem value12 : (G12 m c : S16384x16.Idx → EReal) = Cert.Reference3Ideal.Read.val_main_v35 (F := Ideal) (A0 m c) (A1 m c) (A3 m c) (A4 m c) := by
  funext y
  obtain ⟨r, l, rfl⟩ : ∃ (r : Fin 16384) (l : Fin 16), y = ix2 r l := ⟨y 0, y 1, eq_ix2 y⟩
  exact (ref_forget (A0 m c) (A1 m c) (A3 m c) (A4 m c) r l).symm

theorem value13 : (G13 m c : S16384x1024.Idx → EReal) = Cert.Reference3Ideal.Read.val_main_v69 (F := Ideal) (A0 m c) (A1 m c) (A3 m c) (A5 m c) := by
  funext y
  obtain ⟨r, l, rfl⟩ : ∃ (r : Fin 16384) (l : Fin 1024), y = ix2 r l := ⟨y 0, y 1, eq_ix2 y⟩
  exact (ref_key (A0 m c) (A1 m c) (A3 m c) (A5 m c) r l).symm

theorem value14 : (G14 m c : S16384x1024.Idx → EReal) = Cert.Reference3Ideal.Read.val_main_v70 (F := Ideal) (A0 m c) (A1 m c) (A3 m c) := by
  funext y
  obtain ⟨r, l, rfl⟩ : ∃ (r : Fin 16384) (l : Fin 1024), y = ix2 r l := ⟨y 0, y 1, eq_ix2 y⟩
  exact (ref_val (A0 m c) (A1 m c) (A3 m c) r l).symm

theorem value15 : (G15 m c : S16384x1024.Idx → EReal) = Cert.Reference3Ideal.Read.val_main_v71 (F := Ideal) (A0 m c) (A2 m c) (A6 m c) (A7 m c) := by
  funext y
  obtain ⟨r, l, rfl⟩ : ∃ (r : Fin 16384) (l : Fin 1024), y = ix2 r l := ⟨y 0, y 1, eq_ix2 y⟩
  exact (ref_query (A0 m c) (A2 m c) (A6 m c) (A7 m c) r l).symm

theorem value16 : (G16 m c : S16384x1024.Idx → EReal) = Cert.Reference3Ideal.Read.val_main_v51 (F := Ideal) (A0 m c) (A2 m c) (A6 m c) := by
  funext y
  obtain ⟨r, l, rfl⟩ : ∃ (r : Fin 16384) (l : Fin 1024), y = ix2 r l := ⟨y 0, y 1, eq_ix2 y⟩
  exact (ref_gate (A0 m c) (A2 m c) (A6 m c) r l).symm

end Proof.Fox

end
-- ==== Proof.InSpec.lean ====
/- The mLSTM's query, key, value, output-gate and gate projections as functions of the call's arguments, an element at a time,
   over the extended reals; and the reference read at an index is those functions. -/
module

public import proofs.«01_k».proof.Proof.Gen.Reference4Ideal.Run
public import proofs.«01_k».proof.Proof.Gen.Reference4Ideal.Read
public import proofs.«01_k».proof.Proof.FoxSpec

@[expose] public section

set_option maxRecDepth 100000

noncomputable section

namespace Proof.In

open Idealize.ShloMosaic Proof.Fox Cert.Reference4Ideal Cert.Reference4Ideal.Read

variable (x : FVec Ideal S16384x1024 .f32) (g : FVec Ideal S1024 .f32) (w : FVec Ideal S1024x3088 .f32)

/-- The normalised stream, and one column of its projection. -/
def xn (r : Fin 16384) : Fin 1024 → EReal := normed (fun k => x (ix2 r k)) (fun k => g (ix1 k))
def proj (r : Fin 16384) (l : Fin 3088) : EReal := ∑ k : Fin 1024, xn x g r k * w (ix2 k l)

/-- The five results, at an index. -/
def query (r : Fin 16384) (l : Fin 512) : EReal := proj x g w r ⟨l.val, by omega⟩
def key (r : Fin 16384) (l : Fin 512) : EReal := proj x g w r ⟨512 + l.val, by omega⟩ * Ideal.ofBits .f32 1040187392#32
def val (r : Fin 16384) (l : Fin 1024) : EReal := proj x g w r ⟨1024 + l.val, by omega⟩
def outGate (r : Fin 16384) (l : Fin 1024) : EReal := proj x g w r ⟨2048 + l.val, by omega⟩
def gates (r : Fin 16384) (h : Fin 16) : EReal := proj x g w r ⟨3072 + h.val, by omega⟩

theorem ref_xn (r : Fin 16384) (l : Fin 1024) : val_main_v12 (F := Ideal) x g (ix2 r l) = xn x g r l := by
  unfold xn normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_proj (r : Fin 16384) (l : Fin 3088) : val_main_v13 (F := Ideal) x g w (ix2 r l) = proj x g w r l := by
  unfold proj
  simp only [← ref_xn]
  unfold val_main_v13
  generalize val_main_v12 (F := Ideal) x g = p
  pointwise

theorem ref_query (r : Fin 16384) (l : Fin 512) : val_main_v21 (F := Ideal) x g w (ix2 r l) = query x g w r l := by
  unfold query
  rw [← ref_proj]
  unfold val_main_v21 val_main_v14
  generalize val_main_v13 (F := Ideal) x g w = p
  pointwise

theorem ref_key (r : Fin 16384) (l : Fin 512) : val_main_v22 (F := Ideal) x g w (ix2 r l) = key x g w r l := by
  unfold key
  rw [← ref_proj]
  unfold val_main_v22 val_main_v20 val_main_v15
  generalize val_main_v13 (F := Ideal) x g w = p
  pointwise [val_main_v19, val_main_cst_2]

theorem ref_val (r : Fin 16384) (l : Fin 1024) : val_main_v23 (F := Ideal) x g w (ix2 r l) = val x g w r l := by
  unfold val
  rw [← ref_proj]
  unfold val_main_v23 val_main_v16
  generalize val_main_v13 (F := Ideal) x g w = p
  pointwise

theorem ref_outGate (r : Fin 16384) (l : Fin 1024) : val_main_v17 (F := Ideal) x g w (ix2 r l) = outGate x g w r l := by
  unfold outGate
  rw [← ref_proj]
  unfold val_main_v17
  generalize val_main_v13 (F := Ideal) x g w = p
  pointwise

theorem ref_gates (r : Fin 16384) (h : Fin 16) : val_main_v18 (F := Ideal) x g w (ix2 r h) = gates x g w r h := by
  unfold gates
  rw [← ref_proj]
  unfold val_main_v18
  generalize val_main_v13 (F := Ideal) x g w = p
  pointwise

end Proof.In

end
-- ==== Proof.InIdeal.lean ====
/- The mLSTM's projection kernel's arithmetic read at an index, over the extended reals. -/
module

public import proofs.«01_k».proof.Proof.Gen.Kernel4Ideal.Value
public import proofs.«01_k».proof.Proof.InSpec
public import Idealize.ShloMosaic.Lib.Pipeline.ValueKit

@[expose] public section

set_option maxRecDepth 100000

noncomputable section

namespace Proof.In

open Cert.Kernel4Ideal Cert.Kernel4Ideal.Gen Idealize.ShloMosaic Proof.Fox

/-- A block of rows normalised. -/
def rows (x0 : Vec Ideal S512x1024 .f32) (x1 : Vec Ideal S1x1024 .f32) : FVec Ideal S512x1024 .f32 :=
  k0_pay3 (View.ld x0 r0_0) (View.ld x1 r0_1)

theorem rows_apply (x0 : Vec Ideal S512x1024 .f32) (x1 : Vec Ideal S1x1024 .f32) (r : Fin 512) (l : Fin 1024) :
    rows x0 x1 (ix2 r l) = normed (fun k => x0 (ix2 r k)) (fun k => x1 (ix2 0 k)) l := by
  unfold normed eps
  pointwise [rows, k0_pay3]

/-- A row's projection through the weights' first 3072 columns. -/
def projRow (s : FVec Ideal S512x1024 .f32) (w : Vec Ideal S1024x3072 .bf16) (r : Fin 512) (l : Fin 3072) : EReal :=
  ∑ k : Fin 1024, s (ix2 r k) * w (ix2 k l)

variable (x0 : Vec Ideal S512x1024 .f32) (x1 : Vec Ideal S1x1024 .f32) (x2 : Vec Ideal S1024x3072 .bf16)
  (x3 x4 : Vec Ideal S1024x128 .bf16)

theorem pay4_eq : (k0_pay4 (View.ld x0 r0_0) (View.ld x1 r0_1) : S512x1024.Idx → EReal) = rows x0 x1 := rfl
theorem pay9_eq : (k0_pay9 x0 x1 x2 x3 x4 : S512x1024.Idx → EReal) = rows x0 x1 := rfl

theorem out0_5_eq (r : Fin 512) (l : Fin 512) : out0_5 x0 x1 x2 x3 x4 (ix2 r l) = projRow (rows x0 x1) x2 r ⟨l.val, by omega⟩ := by
  unfold out0_5 projRow
  canon_tiles x hx
  rw [show x = ix2 r l from (eq_ix2 x).trans (congrArg₂ ix2 (Fin.ext hx0.symm) (Fin.ext hx1.symm))]
  unfold k0_pay6
  rw [← pay4_eq]
  generalize k0_pay4 (View.ld x0 r0_0) (View.ld x1 r0_1) = p
  pointwise

theorem out0_6_eq (r : Fin 512) (l : Fin 512) :
    out0_6 x0 x1 x2 x3 x4 (ix2 r l) = projRow (rows x0 x1) x2 r ⟨512 + l.val, by omega⟩ * Ideal.ofBits .f32 1040187392#32 := by
  unfold out0_6 projRow
  canon_tiles x hx
  rw [show x = ix2 r l from (eq_ix2 x).trans (congrArg₂ ix2 (Fin.ext hx0.symm) (Fin.ext hx1.symm))]
  unfold k0_pay7
  rw [← pay4_eq]
  generalize k0_pay4 (View.ld x0 r0_0) (View.ld x1 r0_1) = p
  pointwise

theorem out0_7_eq (r : Fin 512) (l : Fin 1024) : out0_7 x0 x1 x2 x3 x4 (ix2 r l) = projRow (rows x0 x1) x2 r ⟨1024 + l.val, by omega⟩ := by
  unfold out0_7 projRow
  canon_tiles x hx
  rw [show x = ix2 r l from (eq_ix2 x).trans (congrArg₂ ix2 (Fin.ext hx0.symm) (Fin.ext hx1.symm))]
  unfold k0_pay8
  rw [← pay4_eq]
  generalize k0_pay4 (View.ld x0 r0_0) (View.ld x1 r0_1) = p
  pointwise

theorem out0_8_eq (r : Fin 512) (l : Fin 1024) : out0_8 x0 x1 x2 x3 x4 (ix2 r l) = projRow (rows x0 x1) x2 r ⟨2048 + l.val, by omega⟩ := by
  unfold out0_8 projRow
  canon_tiles x hx
  rw [show x = ix2 r l from (eq_ix2 x).trans (congrArg₂ ix2 (Fin.ext hx0.symm) (Fin.ext hx1.symm))]
  rw [← pay9_eq x0 x1 x2 x3 x4]
  generalize k0_pay9 x0 x1 x2 x3 x4 = p
  pointwise [k0_pay1]

/-- The split of a row into a rounded part and a rest, times the split weights, is the one product when the rests vanish. -/
theorem pay2_apply (s d : FVec Ideal S512x1024 .bf16) (w4 w5 : Vec Ideal S1024x128 .bf16)
    (hs : ∀ r k, d (ix2 r k) = (0 : EReal)) (h5 : ∀ k h, w5 (ix2 k h) = (0 : EReal)) (r : Fin 512) (h : Fin 16) :
    k0_pay2 s d w4 w5 (ix2 r h) = ∑ k : Fin 1024, s (ix2 r k) * w4 (ix2 k ⟨h.val, by omega⟩) := by
  pointwise [k0_pay2]
  simp only [hs, h5]
  simp

theorem ld_whole (w : Vec Ideal S1024x128 .bf16) (k : Fin 1024) (h : Fin 128) : View.ld w r0_7 (ix2 k h) = w (ix2 k h) := by
  pointwise

theorem out0_9_eq (hs : ∀ r k, rows x0 x1 (ix2 r k) - rows x0 x1 (ix2 r k) = 0) (h4 : ∀ k h, x4 (ix2 k h) = (0 : EReal)) (r : Fin 512) (h : Fin 16) :
    out0_9 x0 x1 x2 x3 x4 (ix2 r h) = ∑ k : Fin 1024, rows x0 x1 (ix2 r k) * x3 (ix2 k ⟨h.val, by omega⟩) := by
  unfold out0_9
  canon_tiles x hx
  rw [show x = ix2 r h from (eq_ix2 x).trans (congrArg₂ ix2 (Fin.ext hx0.symm) (Fin.ext hx1.symm))]
  refine (pay2_apply _ _ _ _ hs (fun k h => (ld_whole x4 k h).trans (h4 k h)) r h).trans ?_
  exact Finset.sum_congr rfl fun k _ => congrArg₂ (· * ·) rfl (ld_whole x3 k ⟨h.val, by omega⟩)

end Proof.In

end
-- ==== Proof.InBlocks.lean ====
/- The blocks the mLSTM's projection kernel's grid point `t` stages, read at an index: rows `512 * t …` of the stream, and the
   weights whole. The gates' 16 columns come padded to 128 and split into a rounded part and a rest. -/
module

public import proofs.«01_k».proof.Proof.InIdeal
public import Idealize.ShloMosaic.Lib.Claim

@[expose] public section

set_option maxRecDepth 100000

noncomputable section

namespace Proof.In

open Cert.Kernel4Ideal Cert.Kernel4Ideal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

def row (t : Fin cfg0.N) (r : Fin 512) : Fin 16384 := ⟨512 * t.val + r.val, by have := lt_of_lt_of_eq t.isLt (show cfg0.N = 32 from N_0); omega⟩

theorem blk0 (c : Dev nD) (t : Fin cfg0.N) (r : Fin 512) (l : Fin 1024) :
    iblk m c 0 t (ix2 r l) = m ((c : Thread nD τ).loc main_arg0) (ix2 (row t r) l) := by
  blk_ext! [iblk, V, idx t, row]

theorem blk1 (c : Dev nD) (t : Fin cfg0.N) (l : Fin 1024) :
    iblk m c 1 t (ix2 0 l) = m ((c : Thread nD τ).loc main_arg1) (ix1 l) := by
  blk_simp [iblk]
  simp only [V, hostOps0, hostOps0_1, hostOps0_2, List.flatten_cons, List.flatten_nil, List.append_nil, List.cons_append, List.nil_append]
  entry_read
  pointwise
  blk_ext! [idx t]

theorem blk2 (c : Dev nD) (t : Fin cfg0.N) (k : Fin 1024) (l : Fin 3072) :
    iblk m c 2 t (ix2 k l) = m ((c : Thread nD τ).loc main_arg2) (ix2 k ⟨l.val, by omega⟩) := by
  blk_simp [iblk]
  simp only [V, hostOps0, hostOps0_1, hostOps0_2, List.flatten_cons, List.flatten_nil, List.append_nil, List.cons_append, List.nil_append]
  entry_read
  pointwise
  blk_ext! [idx t]

/-- The gates' columns padded with zeros to 128. -/
def padW (w : FVec Ideal S1024x3088 .f32) : FVec Ideal S1024x128 .f32 :=
  pad S1024x128 ![0, 0] ![0, 112] ![0, 0] (extractStridedSlice S1024x16 ![0, 3072] w slices_S1024x3088_S1024x16_0_3072)
    (sitofp (F := Ideal) FTy.f32 (constantI S_ 32 0#32)) pads_S1024x16_S1024x128_000_01120 h_S_

theorem padW_apply (w : FVec Ideal S1024x3088 .f32) (k : Fin 1024) (h : Fin 128) :
    padW w (ix2 k h) = if hh : h.val < 16 then w (ix2 k ⟨3072 + h.val, by omega⟩) else 0 := by
  pointwise [padW]
  split
  · rfl
  · show (((0#32 : BitVec 32).toInt : ℝ) : EReal) = 0
    simp

theorem blk3 (c : Dev nD) (t : Fin cfg0.N) (k : Fin 1024) (h : Fin 128) :
    iblk m c 3 t (ix2 k h) = padW (m ((c : Thread nD τ).loc main_arg2)) (ix2 k h) := by
  blk_simp [iblk]
  simp only [V, hostOps0, hostOps0_1, hostOps0_2, List.flatten_cons, List.flatten_nil, List.append_nil, List.cons_append, List.nil_append]
  entry_read
  have e : (((cfg0.win 3).blk t).view.emb (ix2 k h) : S1024x128.Idx) = ix2 k h := by
    blk_ext! [idx t]
  show padW _ (((cfg0.win 3).blk t).view.emb (ix2 k h)) = _
  rw [e]

theorem blk4 (c : Dev nD) (t : Fin cfg0.N) (k : Fin 1024) (h : Fin 128) :
    (show EReal from iblk m c 4 t (ix2 k h))
      = padW (m ((c : Thread nD τ).loc main_arg2)) (ix2 k h) - padW (m ((c : Thread nD τ).loc main_arg2)) (ix2 k h) := by
  blk_simp [iblk]
  simp only [V, hostOps0, hostOps0_1, hostOps0_2, List.flatten_cons, List.flatten_nil, List.append_nil, List.cons_append, List.nil_append]
  entry_read
  have e : (((cfg0.win 4).blk t).view.emb (ix2 k h) : S1024x128.Idx) = ix2 k h := by
    blk_ext! [idx t]
  show padW _ (((cfg0.win 4).blk t).view.emb (ix2 k h)) - padW _ (((cfg0.win 4).blk t).view.emb (ix2 k h)) = _
  rw [e]

end Proof.In

end
-- ==== Proof.InValue.lean ====
/- The arrays the mLSTM's projection call leaves are the reference's queries, keys, values, output gates and gate
   pre-activations of the same arguments, where the gain and the gates' columns are finite. -/
module

public import proofs.«01_k».proof.Proof.InBlocks
public import proofs.«01_k».proof.Proof.FoxFinite
public import proofs.«01_k».proof.Proof.Gen.Pre_finite_gates

@[expose] public section

set_option maxRecDepth 100000

noncomputable section

namespace Cert.Pre_finite_gates.Read

open Idealize.ShloMosaic Cert.Pre_finite_gates Cert.Pre_finite_gates.Gen

/-- What the precondition says: the gain and the gates' columns are finite. -/
theorem finite (x0 : FVec Ideal S16384x1024 .f32) (x1 : FVec Ideal S1024 .f32) (x2 : FVec Ideal S1024x3088 .f32)
    (h : fn (F := Ideal) x0 x1 x2 = fun _ => 1#1) :
    (∀ i, x1 i ≠ ⊤ ∧ x1 i ≠ ⊥) ∧ ∀ (k : Fin 1024) (j : Fin 16), x2 (ix2 k ⟨3072 + j.val, by omega⟩) ≠ ⊤ ∧ x2 (ix2 k ⟨3072 + j.val, by omega⟩) ≠ ⊥ := by
  have e := congrFun h ix0
  unfold fn at e
  have andi_one (a b : BitVec 1) : IntOp.andi a b = 1#1 ↔ a = 1#1 ∧ b = 1#1 := by revert a b; decide
  simp only [andi, andi_one] at e
  obtain ⟨e0, e1⟩ := e
  refine ⟨fun i => Cert.Pre_finite_logits.Read.real_of_one _ _ _ _ e0 i, fun k j => ?_⟩
  have := Cert.Pre_finite_logits.Read.real_of_one _ _ _ _ e1 (ix2 k j)
  revert this
  pointwise
  exact id

end Cert.Pre_finite_gates.Read

namespace Proof.In

open Cert.Kernel4Ideal Cert.Kernel4Ideal.Gen Cert.Kernel4Ideal.Value Idealize.ShloMosaic Idealize.ShloMosaic.TcCoe Idealize.SL.Sem
open Proof.Fox (normed_sub sub_self_real)

variable (m : (ℓ : Loc nD τ sig) → Buf (Elt Ideal) ℓ) (c : Dev nD)

/-- The call's arguments. -/
abbrev A0 : FVec Ideal S16384x1024 .f32 := m ((c : Thread nD τ).loc main_arg0)
abbrev A1 : FVec Ideal S1024 .f32 := m ((c : Thread nD τ).loc main_arg1)
abbrev A2 : FVec Ideal S1024x3088 .f32 := m ((c : Thread nD τ).loc main_arg2)

/-- What the precondition says of them. -/
def Fin1 : Prop := ∀ l : Fin 1024, A1 m c (ix1 l) ≠ ⊤ ∧ A1 m c (ix1 l) ≠ ⊥
def Fin2 : Prop := ∀ (k : Fin 1024) (j : Fin 16), A2 m c (ix2 k ⟨3072 + j.val, by omega⟩) ≠ ⊤ ∧ A2 m c (ix2 k ⟨3072 + j.val, by omega⟩) ≠ ⊥

/-- The normalised stream of a grid point. -/
theorem blk_xn (t : Fin cfg0.N) (r : Fin 512) (l : Fin 1024) :
    rows (iblk m c 0 t) (iblk m c 1 t) (ix2 r l) = xn (A0 m c) (A1 m c) (row t r) l := by
  rw [rows_apply]
  simp only [blk0, blk1]
  rfl

/-- Its projection. -/
theorem blk_proj (t : Fin cfg0.N) (r : Fin 512) (l : Fin 3072) :
    projRow (rows (iblk m c 0 t) (iblk m c 1 t)) (iblk m c 2 t) r l = proj (A0 m c) (A1 m c) (A2 m c) (row t r) ⟨l.val, by omega⟩ := by
  unfold projRow proj
  refine Finset.sum_congr rfl fun k _ => ?_
  rw [blk_xn, blk2]

theorem apply5 (t : Fin cfg0.N) (r : Fin 512) (l : Fin 512) :
    out0_5 (iblk m c 0 t) (iblk m c 1 t) (iblk m c 2 t) (iblk m c 3 t) (iblk m c 4 t) (ix2 r l) = query (A0 m c) (A1 m c) (A2 m c) (row t r) l :=
  (out0_5_eq _ _ _ _ _ r l).trans (blk_proj m c t r _)

theorem apply6 (t : Fin cfg0.N) (r : Fin 512) (l : Fin 512) :
    out0_6 (iblk m c 0 t) (iblk m c 1 t) (iblk m c 2 t) (iblk m c 3 t) (iblk m c 4 t) (ix2 r l) = key (A0 m c) (A1 m c) (A2 m c) (row t r) l :=
  (out0_6_eq _ _ _ _ _ r l).trans (congrArg (· * Ideal.ofBits .f32 1040187392#32) (blk_proj m c t r _))

theorem apply7 (t : Fin cfg0.N) (r : Fin 512) (l : Fin 1024) :
    out0_7 (iblk m c 0 t) (iblk m c 1 t) (iblk m c 2 t) (iblk m c 3 t) (iblk m c 4 t) (ix2 r l) = val (A0 m c) (A1 m c) (A2 m c) (row t r) l :=
  (out0_7_eq _ _ _ _ _ r l).trans (blk_proj m c t r _)

theorem apply8 (t : Fin cfg0.N) (r : Fin 512) (l : Fin 1024) :
    out0_8 (iblk m c 0 t) (iblk m c 1 t) (iblk m c 2 t) (iblk m c 3 t) (iblk m c 4 t) (ix2 r l) = outGate (A0 m c) (A1 m c) (A2 m c) (row t r) l :=
  (out0_8_eq _ _ _ _ _ r l).trans (blk_proj m c t r _)

/-- The rest of the split stream, and of the split columns, is zero. -/
theorem rest_stream (h1 : Fin1 m c) (t : Fin cfg0.N) (r : Fin 512) (k : Fin 1024) :
    rows (iblk m c 0 t) (iblk m c 1 t) (ix2 r k) - rows (iblk m c 0 t) (iblk m c 1 t) (ix2 r k) = 0 := by
  rw [blk_xn]
  exact normed_sub _ _ _ (h1 k)

theorem rest_cols (h2 : Fin2 m c) (t : Fin cfg0.N) (k : Fin 1024) (h : Fin 128) : iblk m c 4 t (ix2 k h) = (0 : EReal) := by
  refine (blk4 m c t k h).trans ?_
  rw [padW_apply]
  split
  · rename_i hh
    exact sub_self_real _ (h2 k ⟨h.val, hh⟩)
  · exact sub_self_real _ ⟨EReal.zero_ne_top, EReal.zero_ne_bot⟩

theorem apply9 (h1 : Fin1 m c) (h2 : Fin2 m c) (t : Fin cfg0.N) (r : Fin 512) (h : Fin 16) :
    out0_9 (iblk m c 0 t) (iblk m c 1 t) (iblk m c 2 t) (iblk m c 3 t) (iblk m c 4 t) (ix2 r h) = gates (A0 m c) (A1 m c) (A2 m c) (row t r) h := by
  rw [out0_9_eq _ _ _ _ _ (rest_stream m c h1 t) (rest_cols m c h2 t)]
  unfold gates proj
  refine Finset.sum_congr rfl fun k _ => ?_
  rw [blk_xn]
  refine congrArg (_ * ·) ((blk3 m c t k ⟨h.val, by omega⟩).trans ?_)
  rw [padW_apply, dif_pos h.isLt]

/-- Output 0: the queries. -/
def G5 : Buf (Elt Ideal) ((c : Thread nD τ).loc main_v9_0) := fun i =>
  query (A0 m c) (A1 m c) (A2 m c) (i 0) (i 1)

theorem flushed5_eq (t : Fin cfg0.N) : (dats m 0 c).flushed 5 t = ((cfg0.win 5).blk t).view.read (Elt Ideal) (G5 m c) := by
  rw [flushed5]
  obtain ⟨-, -, -, -, -, e, -, -, -, -⟩ := idx t
  funext y
  have h0 : (y 0).val < 512 := (y 0).isLt
  have h1 : (y 1).val < 512 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 512 + 1 * (y 1).val := rfl
  rw [e] at hb0 hb1
  have hx : (cfg0.win 5).xinj (grid0.coords t) y = ix2 (⟨(y 0).val, h0⟩ : Fin 512) (⟨(y 1).val, h1⟩ : Fin 512) := by
    funext a; apply Fin.ext
    match a with
    | ⟨0, _⟩ => rfl
    | ⟨1, _⟩ => rfl
  show out0_5 (iblk m c 0 t) (iblk m c 1 t) (iblk m c 2 t) (iblk m c 3 t) (iblk m c 4 t) ((cfg0.win 5).xinj (grid0.coords t) y) = G5 m c (((cfg0.win 5).blk t).view.emb y)
  rw [hx]
  refine (apply5 m c t _ _).trans ?_
  unfold G5
  refine congrArg₂ (query (A0 m c) (A1 m c) (A2 m c)) (Fin.ext ?_) (Fin.ext ?_)
  · rw [hb0]; show 512 * t.val + (y 0).val = t.val * 512 + 1 * (y 0).val; omega
  · rw [hb1]; show (y 1).val = 0 * 512 + 1 * (y 1).val; omega

theorem covered5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : (i 0).val / 512 < cfg0.N := by rw [show cfg0.N = 32 from N_0]; omega
  obtain ⟨-, -, -, -, -, e, -, -, -, -⟩ := idx ⟨(i 0).val / 512, hN⟩
  refine ⟨⟨(i 0).val / 512, hN⟩, flush0_5 _, ?_⟩
  show i ∈ ((View.whole main_v9_0).slice (win0_5.rect ⟨(i 0).val / 512, hN⟩)).set
  rw [View.set_slice_whole, Rect.mem_set_unit]
  intro a
  have q0 : win0_5.index ⟨(i 0).val / 512, hN⟩ (0 : Fin 2) = (i 0).val / 512 := congrFun e 0
  have q1 : win0_5.index ⟨(i 0).val / 512, hN⟩ (1 : Fin 2) = 0 := congrFun e 1
  match a with
  | ⟨0, _⟩ => show win0_5.index ⟨(i 0).val / 512, hN⟩ (0 : Fin 2) * 512 ≤ (i 0).val ∧ (i 0).val < win0_5.index ⟨(i 0).val / 512, hN⟩ (0 : Fin 2) * 512 + 512; omega
  | ⟨1, _⟩ => show win0_5.index ⟨(i 0).val / 512, hN⟩ (1 : Fin 2) * 512 ≤ (i 1).val ∧ (i 1).val < win0_5.index ⟨(i 0).val / 512, hN⟩ (1 : Fin 2) * 512 + 512; omega

theorem final5 : (dats m 0 c).arrAt 5 cfg0.N = G5 m c :=
  (dats m 0 c).arrAt_eq_of_cover 5 _ (fun t _ => flushed5_eq m c t) (fun i => covered5 i)

/-- Output 1: the keys, scaled. -/
def G6 : Buf (Elt Ideal) ((c : Thread nD τ).loc main_v9_1) := fun i =>
  key (A0 m c) (A1 m c) (A2 m c) (i 0) (i 1)

theorem flushed6_eq (t : Fin cfg0.N) : (dats m 0 c).flushed 6 t = ((cfg0.win 6).blk t).view.read (Elt Ideal) (G6 m c) := by
  rw [flushed6]
  obtain ⟨-, -, -, -, -, -, e, -, -, -⟩ := idx t
  funext y
  have h0 : (y 0).val < 512 := (y 0).isLt
  have h1 : (y 1).val < 512 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  rw [e] at hb0 hb1
  have hx : (cfg0.win 6).xinj (grid0.coords t) y = ix2 (⟨(y 0).val, h0⟩ : Fin 512) (⟨(y 1).val, h1⟩ : Fin 512) := by
    funext a; apply Fin.ext
    match a with
    | ⟨0, _⟩ => rfl
    | ⟨1, _⟩ => rfl
  show out0_6 (iblk m c 0 t) (iblk m c 1 t) (iblk m c 2 t) (iblk m c 3 t) (iblk m c 4 t) ((cfg0.win 6).xinj (grid0.coords t) y) = G6 m c (((cfg0.win 6).blk t).view.emb y)
  rw [hx]
  refine (apply6 m c t _ _).trans ?_
  unfold G6
  refine congrArg₂ (key (A0 m c) (A1 m c) (A2 m c)) (Fin.ext ?_) (Fin.ext ?_)
  · rw [hb0]; show 512 * t.val + (y 0).val = t.val * 512 + 1 * (y 0).val; omega
  · rw [hb1]; show (y 1).val = 0 * 512 + 1 * (y 1).val; omega

theorem covered6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : (i 0).val / 512 < cfg0.N := by rw [show cfg0.N = 32 from N_0]; omega
  obtain ⟨-, -, -, -, -, -, e, -, -, -⟩ := idx ⟨(i 0).val / 512, hN⟩
  refine ⟨⟨(i 0).val / 512, hN⟩, flush0_6 _, ?_⟩
  show i ∈ ((View.whole main_v9_1).slice (win0_6.rect ⟨(i 0).val / 512, hN⟩)).set
  rw [View.set_slice_whole, Rect.mem_set_unit]
  intro a
  have q0 : win0_6.index ⟨(i 0).val / 512, hN⟩ (0 : Fin 2) = (i 0).val / 512 := congrFun e 0
  have q1 : win0_6.index ⟨(i 0).val / 512, hN⟩ (1 : Fin 2) = 0 := congrFun e 1
  match a with
  | ⟨0, _⟩ => show win0_6.index ⟨(i 0).val / 512, hN⟩ (0 : Fin 2) * 512 ≤ (i 0).val ∧ (i 0).val < win0_6.index ⟨(i 0).val / 512, hN⟩ (0 : Fin 2) * 512 + 512; omega
  | ⟨1, _⟩ => show win0_6.index ⟨(i 0).val / 512, hN⟩ (1 : Fin 2) * 512 ≤ (i 1).val ∧ (i 1).val < win0_6.index ⟨(i 0).val / 512, hN⟩ (1 : Fin 2) * 512 + 512; omega

theorem final6 : (dats m 0 c).arrAt 6 cfg0.N = G6 m c :=
  (dats m 0 c).arrAt_eq_of_cover 6 _ (fun t _ => flushed6_eq m c t) (fun i => covered6 i)

/-- Output 2: the values. -/
def G7 : Buf (Elt Ideal) ((c : Thread nD τ).loc main_v9_2) := fun i =>
  val (A0 m c) (A1 m c) (A2 m c) (i 0) (i 1)

theorem flushed7_eq (t : Fin cfg0.N) : (dats m 0 c).flushed 7 t = ((cfg0.win 7).blk t).view.read (Elt Ideal) (G7 m c) := by
  rw [flushed7]
  obtain ⟨-, -, -, -, -, -, -, e, -, -⟩ := idx t
  funext y
  have h0 : (y 0).val < 512 := (y 0).isLt
  have h1 : (y 1).val < 1024 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  rw [e] at hb0 hb1
  have hx : (cfg0.win 7).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_7 (iblk m c 0 t) (iblk m c 1 t) (iblk m c 2 t) (iblk m c 3 t) (iblk m c 4 t) ((cfg0.win 7).xinj (grid0.coords t) y) = G7 m c (((cfg0.win 7).blk t).view.emb y)
  rw [hx]
  refine (apply7 m c t _ _).trans ?_
  unfold G7
  refine congrArg₂ (val (A0 m c) (A1 m c) (A2 m c)) (Fin.ext ?_) (Fin.ext ?_)
  · rw [hb0]; show 512 * t.val + (y 0).val = t.val * 512 + 1 * (y 0).val; omega
  · rw [hb1]; show (y 1).val = 0 * 1024 + 1 * (y 1).val; omega

theorem covered7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, e, -, -⟩ := idx ⟨(i 0).val / 512, hN⟩
  refine ⟨⟨(i 0).val / 512, hN⟩, flush0_7 _, ?_⟩
  show i ∈ ((View.whole main_v9_2).slice (win0_7.rect ⟨(i 0).val / 512, hN⟩)).set
  rw [View.set_slice_whole, Rect.mem_set_unit]
  intro a
  have q0 : win0_7.index ⟨(i 0).val / 512, hN⟩ (0 : Fin 2) = (i 0).val / 512 := congrFun e 0
  have q1 : win0_7.index ⟨(i 0).val / 512, hN⟩ (1 : Fin 2) = 0 := congrFun e 1
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; omega
  | ⟨1, _⟩ => show win0_7.index ⟨(i 0).val / 512, hN⟩ (1 : Fin 2) * 1024 ≤ (i 1).val ∧ (i 1).val < win0_7.index ⟨(i 0).val / 512, hN⟩ (1 : Fin 2) * 1024 + 1024; omega

theorem final7 : (dats m 0 c).arrAt 7 cfg0.N = G7 m c :=
  (dats m 0 c).arrAt_eq_of_cover 7 _ (fun t _ => flushed7_eq m c t) (fun i => covered7 i)

/-- Output 3: the output gates. -/
def G8 : Buf (Elt Ideal) ((c : Thread nD τ).loc main_v9_3) := fun i =>
  outGate (A0 m c) (A1 m c) (A2 m c) (i 0) (i 1)

theorem flushed8_eq (t : Fin cfg0.N) : (dats m 0 c).flushed 8 t = ((cfg0.win 8).blk t).view.read (Elt Ideal) (G8 m c) := by
  rw [flushed8]
  obtain ⟨-, -, -, -, -, -, -, -, e, -⟩ := idx t
  funext y
  have h0 : (y 0).val < 512 := (y 0).isLt
  have h1 : (y 1).val < 1024 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 1024 + 1 * (y 1).val := rfl
  rw [e] at hb0 hb1
  have hx : (cfg0.win 8).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_8 (iblk m c 0 t) (iblk m c 1 t) (iblk m c 2 t) (iblk m c 3 t) (iblk m c 4 t) ((cfg0.win 8).xinj (grid0.coords t) y) = G8 m c (((cfg0.win 8).blk t).view.emb y)
  rw [hx]
  refine (apply8 m c t _ _).trans ?_
  unfold G8
  refine congrArg₂ (outGate (A0 m c) (A1 m c) (A2 m c)) (Fin.ext ?_) (Fin.ext ?_)
  · rw [hb0]; show 512 * t.val + (y 0).val = t.val * 512 + 1 * (y 0).val; omega
  · rw [hb1]; show (y 1).val = 0 * 1024 + 1 * (y 1).val; omega

theorem covered8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : (i 0).val / 512 < cfg0.N := by rw [show cfg0.N = 32 from N_0]; omega
  obtain ⟨-, -, -, -, -, -, -, -, e, -⟩ := idx ⟨(i 0).val / 512, hN⟩
  refine ⟨⟨(i 0).val / 512, hN⟩, flush0_8 _, ?_⟩
  show i ∈ ((View.whole main_v9_3).slice (win0_8.rect ⟨(i 0).val / 512, hN⟩)).set
  rw [View.set_slice_whole, Rect.mem_set_unit]
  intro a
  have q0 : win0_8.index ⟨(i 0).val / 512, hN⟩ (0 : Fin 2) = (i 0).val / 512 := congrFun e 0
  have q1 : win0_8.index ⟨(i 0).val / 512, hN⟩ (1 : Fin 2) = 0 := congrFun e 1
  match a with
  | ⟨0, _⟩ => show win0_8.index ⟨(i 0).val / 512, hN⟩ (0 : Fin 2) * 512 ≤ (i 0).val ∧ (i 0).val < win0_8.index ⟨(i 0).val / 512, hN⟩ (0 : Fin 2) * 512 + 512; omega
  | ⟨1, _⟩ => show win0_8.index ⟨(i 0).val / 512, hN⟩ (1 : Fin 2) * 1024 ≤ (i 1).val ∧ (i 1).val < win0_8.index ⟨(i 0).val / 512, hN⟩ (1 : Fin 2) * 1024 + 1024; omega

theorem final8 : (dats m 0 c).arrAt 8 cfg0.N = G8 m c :=
  (dats m 0 c).arrAt_eq_of_cover 8 _ (fun t _ => flushed8_eq m c t) (fun i => covered8 i)

/-- Output 4: the gate pre-activations. -/
def G9 : Buf (Elt Ideal) ((c : Thread nD τ).loc main_v9_4) := fun i =>
  gates (A0 m c) (A1 m c) (A2 m c) (i 0) (i 1)

theorem flushed9_eq (f1 : Fin1 m c) (f2 : Fin2 m c) (t : Fin cfg0.N) : (dats m 0 c).flushed 9 t = ((cfg0.win 9).blk t).view.read (Elt Ideal) (G9 m c) := by
  rw [flushed9]
  obtain ⟨-, -, -, -, -, -, -, -, -, e⟩ := idx t
  funext y
  have h0 : (y 0).val < 512 := (y 0).isLt
  have h1 : (y 1).val < 16 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 16 + 1 * (y 1).val := rfl
  rw [e] at hb0 hb1
  have hx : (cfg0.win 9).xinj (grid0.coords t) y = ix2 (⟨(y 0).val, h0⟩ : Fin 512) (⟨(y 1).val, h1⟩ : Fin 16) := by
    funext a; apply Fin.ext
    match a with
    | ⟨0, _⟩ => rfl
    | ⟨1, _⟩ => rfl
  show out0_9 (iblk m c 0 t) (iblk m c 1 t) (iblk m c 2 t) (iblk m c 3 t) (iblk m c 4 t) ((cfg0.win 9).xinj (grid0.coords t) y) = G9 m c (((cfg0.win 9).blk t).view.emb y)
  rw [hx]
  refine (apply9 m c f1 f2 t _ _).trans ?_
  unfold G9
  refine congrArg₂ (gates (A0 m c) (A1 m c) (A2 m c)) (Fin.ext ?_) (Fin.ext ?_)
  · rw [hb0]; show 512 * t.val + (y 0).val = t.val * 512 + 1 * (y 0).val; omega
  · rw [hb1]; show (y 1).val = 0 * 16 + 1 * (y 1).val; omega

theorem covered9 (i : S16384x16.Idx) : ∃ t : Fin cfg0.N, (cfg0.win 9).flush t = true ∧ i ∈ ((cfg0.win 9).blk t).view.set := by
  have hi0 : (i 0).val < 16384 := (i 0).isLt
  have hi1 : (i 1).val < 16 := (i 1).isLt
  have hN : (i 0).val / 512 < cfg0.N := by rw [show cfg0.N = 32 from N_0]; omega
  obtain ⟨-, -, -, -, -, -, -, -, -, e⟩ := idx ⟨(i 0).val / 512, hN⟩
  refine ⟨⟨(i 0).val / 512, hN⟩, flush0_9 _, ?_⟩
  show i ∈ ((View.whole main_v9_4).slice (win0_9.rect ⟨(i 0).val / 512, hN⟩)).set
  rw [View.set_slice_whole, Rect.mem_set_unit]
  intro a
  have q0 : win0_9.index ⟨(i 0).val / 512, hN⟩ (0 : Fin 2) = (i 0).val / 512 := congrFun e 0
  have q1 : win0_9.index ⟨(i 0).val / 512, hN⟩ (1 : Fin 2) = 0 := congrFun e 1
  match a with
  | ⟨0, _⟩ => show win0_9.index ⟨(i 0).val / 512, hN⟩ (0 : Fin 2) * 512 ≤ (i 0).val ∧ (i 0).val < win0_9.index ⟨(i 0).val / 512, hN⟩ (0 : Fin 2) * 512 + 512; omega
  | ⟨1, _⟩ => show win0_9.index ⟨(i 0).val / 512, hN⟩ (1 : Fin 2) * 16 ≤ (i 1).val ∧ (i 1).val < win0_9.index ⟨(i 0).val / 512, hN⟩ (1 : Fin 2) * 16 + 16; omega

theorem final9 (f1 : Fin1 m c) (f2 : Fin2 m c) : (dats m 0 c).arrAt 9 cfg0.N = G9 m c :=
  (dats m 0 c).arrAt_eq_of_cover 9 _ (fun t _ => flushed9_eq m c f1 f2 t) (fun i => covered9 i)

/-! The arrays are the reference's results on the same arguments. -/

theorem value5 : (G5 m c : S16384x512.Idx → EReal) = Cert.Reference4Ideal.Read.val_main_v21 (F := Ideal) (A0 m c) (A1 m c) (A2 m c) := by
  funext y
  obtain ⟨r, l, rfl⟩ : ∃ (r : Fin 16384) (l : Fin 512), y = ix2 r l := ⟨y 0, y 1, eq_ix2 y⟩
  exact (ref_query (A0 m c) (A1 m c) (A2 m c) r l).symm

theorem value6 : (G6 m c : S16384x512.Idx → EReal) = Cert.Reference4Ideal.Read.val_main_v22 (F := Ideal) (A0 m c) (A1 m c) (A2 m c) := by
  funext y
  obtain ⟨r, l, rfl⟩ : ∃ (r : Fin 16384) (l : Fin 512), y = ix2 r l := ⟨y 0, y 1, eq_ix2 y⟩
  exact (ref_key (A0 m c) (A1 m c) (A2 m c) r l).symm

theorem value7 : (G7 m c : S16384x1024.Idx → EReal) = Cert.Reference4Ideal.Read.val_main_v23 (F := Ideal) (A0 m c) (A1 m c) (A2 m c) := by
  funext y
  obtain ⟨r, l, rfl⟩ : ∃ (r : Fin 16384) (l : Fin 1024), y = ix2 r l := ⟨y 0, y 1, eq_ix2 y⟩
  exact (ref_val (A0 m c) (A1 m c) (A2 m c) r l).symm

theorem value8 : (G8 m c : S16384x1024.Idx → EReal) = Cert.Reference4Ideal.Read.val_main_v17 (F := Ideal) (A0 m c) (A1 m c) (A2 m c) := by
  funext y
  obtain ⟨r, l, rfl⟩ : ∃ (r : Fin 16384) (l : Fin 1024), y = ix2 r l := ⟨y 0, y 1, eq_ix2 y⟩
  exact (ref_outGate (A0 m c) (A1 m c) (A2 m c) r l).symm

theorem value9 : (G9 m c : S16384x16.Idx → EReal) = Cert.Reference4Ideal.Read.val_main_v18 (F := Ideal) (A0 m c) (A1 m c) (A2 m c) := by
  funext y
  obtain ⟨r, l, rfl⟩ : ∃ (r : Fin 16384) (l : Fin 16), y = ix2 r l := ⟨y 0, y 1, eq_ix2 y⟩
  exact (ref_gates (A0 m c) (A1 m c) (A2 m c) r l).symm

end Proof.In

end
-- ==== Proof.NewFfnLoop.lean ====
/- The feed-forward kernel's loop over the slices of the hidden width: what the accumulator holds after each trip,
   and so what the body leaves in its output block. Here over the sample
   batch's 512 rows. -/
module

public import proofs.«01_k».proof.Proof.Gen.Kernel5Ideal.Value
public import Idealize.ShloMosaic.Lib.Pipeline.ReadBack
public import Idealize.ShloMosaic.Lib.Pipeline.ValueKit
public import Idealize.ShloMosaic.Lib.VecWindow

@[expose] public section

set_option maxRecDepth 100000
set_option maxHeartbeats 400000

noncomputable section

namespace Proof.NewFfn

open Cert.Kernel5Ideal Cert.Kernel5Ideal.Gen Idealize.ShloMosaic Idealize.ShloMosaic.TcCoe Idealize.ShloMosaic.Tactic

variable {F : FTy → Type} [FloatOps F]

theorem off1_eq (k : Fin k0_t1_loop.trips) : k0_off1 k = ![k.val, 0, 0] := by revert k; decide +kernel
theorem off2_eq (k : Fin k0_t1_loop.trips) : k0_off2 k = ![k.val, 0, 0] := by revert k; decide +kernel

theorem inb1 (k : Fin 11) : ∀ a, (![k.val, 0, 0] : Fin 3 → ℕ) a + S1x1024x256.size a ≤ S11x1024x256.size a := by revert k; decide +kernel
theorem inb2 (k : Fin 11) : ∀ a, (![k.val, 0, 0] : Fin 3 → ℕ) a + S1x256x1024.size a ≤ S11x256x1024.size a := by revert k; decide +kernel

/-- Slice `k` of a stack of 11 weight slices (gate or up). -/
def slab1 (w : Vec F S11x1024x256 .bf16) (k : Fin 11) : Vec F S1x1024x256 .bf16 :=
  VecWindow.window w ![k.val, 0, 0] S1x1024x256.size (inb1 k)

/-- Slice `k` of a stack of 11 weight slices (down). -/
def slab2 (w : Vec F S11x256x1024 .bf16) (k : Fin 11) : Vec F S1x256x1024 .bf16 :=
  VecWindow.window w ![k.val, 0, 0] S1x256x1024.size (inb2 k)

/-- The accumulator after `n` trips of the loop. -/
def accum (xn : Vec F S512x1024 .bf16) (wg wu : Vec F S11x1024x256 .bf16) (wd : Vec F S11x256x1024 .bf16) (a0 : Vec F S512x1024 .f32) : ℕ → Vec F S512x1024 .f32
  | 0 => a0
  | n + 1 => if h : n < 11 then k0_pay4 xn (slab1 wg ⟨n, h⟩) (slab1 wu ⟨n, h⟩) (accum xn wg wu wd a0 n) (slab2 wd ⟨n, h⟩) else accum xn wg wu wd a0 n

/-- One trip's one store. -/
theorem trip_eq (𝒱 : Variants) (c : Dev nD) (bd : Option 𝒱.V) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (k : Fin k0_t1_loop.trips) (hk : k.val < 11) (f : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 X_arg5 X_arg6 X_arg7 X_arg9 k f
      = [⟨Rect.unit ![0, 0] ![512, 1024] inb_S512x1024_S512x1024_0_0,
          k0_pay4 (arg9.view.read (Elt F) X_arg9) (slab1 (arg5.view.read (Elt F) X_arg5) ⟨k.val, hk⟩) (slab1 (arg6.view.read (Elt F) X_arg6) ⟨k.val, hk⟩)
            (arg10.view.read (Elt F) f) (slab2 (arg7.view.read (Elt F) X_arg7) ⟨k.val, hk⟩)⟩] := by
  unfold tripL_k0_t1 trip_k0_t1
  dsimp only
  rw [show View.readAt (Elt F) arg9.view (Rect.unit ![0, 0] ![512, 1024] inb_S512x1024_S512x1024_0_0).toLoadRect X_arg9 = arg9.view.read (Elt F) X_arg9 from View.readAt_full arg9.view X_arg9 inb_S512x1024_S512x1024_0_0,
    show View.readAt (Elt F) arg10.view (Rect.unit ![0, 0] ![512, 1024] inb_S512x1024_S512x1024_0_0).toLoadRect f = arg10.view.read (Elt F) f from View.readAt_full arg10.view f inb_S512x1024_S512x1024_0_0]
  rw [show View.readAt (Elt F) arg5.view (Rect.unit (k0_off1 k) ![1, 1024, 256] (k0_off1_inb k)).toLoadRect X_arg5 = slab1 (arg5.view.read (Elt F) X_arg5) ⟨k.val, hk⟩ from View.readAt_unit arg5.view X_arg5 (k0_off1_inb k) (off1_eq k) (inb1 ⟨k.val, hk⟩),
    show View.readAt (Elt F) arg6.view (Rect.unit (k0_off1 k) ![1, 1024, 256] (k0_off1_inb k)).toLoadRect X_arg6 = slab1 (arg6.view.read (Elt F) X_arg6) ⟨k.val, hk⟩ from View.readAt_unit arg6.view X_arg6 (k0_off1_inb k) (off1_eq k) (inb1 ⟨k.val, hk⟩),
    show View.readAt (Elt F) arg7.view (Rect.unit (k0_off2 k) ![1, 256, 1024] (k0_off2_inb k)).toLoadRect X_arg7 = slab2 (arg7.view.read (Elt F) X_arg7) ⟨k.val, hk⟩ from View.readAt_unit arg7.view X_arg7 (k0_off2_inb k) (off2_eq k) (inb2 ⟨k.val, hk⟩)]

theorem trips_eq : k0_t1_loop.trips = 11 := by decide +kernel

/-- The accumulator's contents after `n` trips. -/
theorem read_pb (𝒱 : Variants) (c : Dev nD) (bd : Option 𝒱.V) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (G_arg10 : BufTy.Contents (Elt F) arg10.view.ty) (n : ℕ) (hn : n ≤ 11) :
    arg10.view.read (Elt F) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 X_arg5 X_arg6 X_arg7 X_arg9 G_arg10 n))
      = accum (arg9.view.read (Elt F) X_arg9) (arg5.view.read (Elt F) X_arg5) (arg6.view.read (Elt F) X_arg6) (arg7.view.read (Elt F) X_arg7) (arg10.view.read (Elt F) G_arg10) n := by
  induction n with
  | zero => rfl
  | succ n ih =>
    have hk : n < k0_t1_loop.trips := by rw [trips_eq]; omega
    rw [pb_k0_t1_succ 𝒱 c bd i arg1 harg1 arg2 harg2 arg3 harg3 arg4 harg4 arg5 harg5 arg6 harg6 arg7 harg7 arg8 harg8 arg9 harg9 arg10 harg10 X_arg5 X_arg6 X_arg7 X_arg9 G_arg10 ⟨n, hk⟩, trip_eq 𝒱 c bd i arg1 harg1 arg2 harg2 arg3 harg3 arg4 harg4 arg5 harg5 arg6 harg6 arg7 harg7 arg8 harg8 arg9 harg9 arg10 harg10 X_arg5 X_arg6 X_arg7 X_arg9 ⟨n, hk⟩ (show n < 11 by omega), List.singleton_append]
    refine (View.read_writes_full arg10.view G_arg10 inb_S512x1024_S512x1024_0_0 _ _).trans ?_
    rw [ih (by omega), accum, dif_pos (by omega : n < 11)]

/-- What the body leaves in its output block, from its seven input blocks. -/
theorem out_A (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x256x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (x0 : Vec F S512x1024 .bf16) (x1 : Vec F S512x1024 .f32) (x2 : Vec F S1024x1024 .bf16) (x3 : Vec F S1x1024 .f32) (x4 : Vec F S11x1024x256 .bf16) (x5 : Vec F S11x1024x256 .bf16) (x6 : Vec F S11x256x1024 .bf16) :
    out0_A_7 c i arg1 harg1 arg2 harg2 arg3 harg3 arg4 harg4 arg5 harg5 arg6 harg6 arg7 harg7 arg8 harg8 arg9 harg9 arg10 harg10 x0 x1 x2 x3 x4 x5 x6
      = accum (k0_pay2 x1 x0 x2 x3) x4 x5 x6 (k0_pay3 x1 x0 x2) 11 := by
  unfold out0_A_7
  unfold kernelRun0_A
  dsimp only
  refine (View.read_writes_full VO0_7 _ inb_S512x1024_S512x1024_0_0 _ []).trans ?_
  unfold kernelRun0_A.sl.v28 kernelRun0_A.sl.HS0_1 kernelRun0_A.sl.HS1_1
  have e1 : View.readAt (Elt F) arg2.view (Rect.unit ![0, 0] S512x1024.size inb_S512x1024_S512x1024_0_0).toLoadRect (harg2.unread x1) = x1 :=
    (View.readAt_full arg2.view _ inb_S512x1024_S512x1024_0_0).trans (harg2.read_unread x1)
  have e0 : View.readAt (Elt F) arg1.view (Rect.unit ![0, 0] S512x1024.size inb_S512x1024_S512x1024_0_0).toLoadRect (harg1.unread x0) = x0 :=
    (View.readAt_full arg1.view _ inb_S512x1024_S512x1024_0_0).trans (harg1.read_unread x0)
  have e2 : View.readAt (Elt F) arg3.view (Rect.unit ![0, 0] S1024x1024.size inb_S1024x1024_S1024x1024_0_0).toLoadRect (harg3.unread x2) = x2 :=
    (View.readAt_full arg3.view _ inb_S1024x1024_S1024x1024_0_0).trans (harg3.read_unread x2)
  have e3 : View.readAt (Elt F) arg4.view (Rect.unit ![0, 0] S1x1024.size inb_S1x1024_S1x1024_0_0).toLoadRect (harg4.unread x3) = x3 :=
    (View.readAt_full arg4.view _ inb_S1x1024_S1x1024_0_0).trans (harg4.read_unread x3)
  rw [e0, e1, e2, e3]
  refine (View.readAt_full arg10.view _ inb_S512x1024_S512x1024_0_0).trans ?_
  rw [View.writes_append]
  refine (congrArg (fun n => arg10.view.read (Elt F) (arg10.view.writes (Elt F) _ (pb_k0_t1 (F := F) Variants.none c none i arg1 harg1 arg2 harg2 arg3 harg3 arg4 harg4 arg5 harg5 arg6 harg6 arg7 harg7 arg8 harg8 arg9 harg9 arg10 harg10 (harg5.unread x4) (harg6.unread x5) (harg7.unread x6) _ _ n))) trips_eq).trans ?_
  refine (read_pb Variants.none c none i arg1 harg1 arg2 harg2 arg3 harg3 arg4 harg4 arg5 harg5 arg6 harg6 arg7 harg7 arg8 harg8 arg9 harg9 arg10 harg10 (harg5.unread x4) (harg6.unread x5) (harg7.unread x6) _ _ 11 (le_refl 11)).trans ?_
  rw [harg5.read_unread, harg6.read_unread, harg7.read_unread]
  have h9 : arg9.view.read (Elt F) (arg9.view.writes (Elt F) arg9.view.junk [⟨Rect.unit ![0, 0] S512x1024.size inb_S512x1024_S512x1024_0_0, k0_pay2 x1 x0 x2 x3⟩]) = k0_pay2 x1 x0 x2 x3 :=
    View.read_writes_full (Val := Elt F) arg9.view arg9.view.junk inb_S512x1024_S512x1024_0_0 _ []
  have h10 : arg10.view.read (Elt F) (arg10.view.writes (Elt F) arg10.view.junk [⟨Rect.unit ![0, 0] S512x1024.size inb_S512x1024_S512x1024_0_0, k0_pay3 x1 x0 x2⟩]) = k0_pay3 x1 x0 x2 :=
    View.read_writes_full (Val := Elt F) arg10.view arg10.view.junk inb_S512x1024_S512x1024_0_0 _ []
  rw [h9, h10]

end Proof.NewFfn
-- ==== Proof.NewFfnIdeal.lean ====
/- The feed-forward kernel's arithmetic read at an index, over the extended reals. Here over the sample
   batch's 512 rows. -/
module

public import proofs.«01_k».proof.Proof.NewFfnLoop
public import Idealize.ShloMosaic.Lib.Pointwise
public import Idealize.ShloMosaic.Lib.KernelVsHost

@[expose] public section

set_option maxRecDepth 100000

noncomputable section

namespace Proof.NewFfn

open Cert.Kernel5Ideal Cert.Kernel5Ideal.Gen Idealize.ShloMosaic

/-- A hidden unit from its two projections: the gate through `g * sigmoid g`, times the other. -/
def gated (g u : EReal) : EReal := g * Ideal.div 1 (1 + Ideal.exp (0 - g)) * u

/-- The mixed stream: the residual plus the attention's output through the output projection. -/
theorem pay1_apply (v0 : Vec Ideal S512x1024 .f32) (v1 : Vec Ideal S512x1024 .bf16) (v2 : Vec Ideal S1024x1024 .bf16) (r : Fin 512) (l : Fin 1024) :
    k0_pay1 v0 v1 v2 (ix2 r l) = v0 (ix2 r l) + ∑ k : Fin 1024, v1 (ix2 r k) * v2 (ix2 k l) := by
  pointwise [k0_pay1]

/-- The accumulator starts at the mixed stream. -/
theorem pay3_apply (v0 : Vec Ideal S512x1024 .f32) (v1 : Vec Ideal S512x1024 .bf16) (v2 : Vec Ideal S1024x1024 .bf16) (r : Fin 512) (l : Fin 1024) :
    k0_pay3 v0 v1 v2 (ix2 r l) = k0_pay1 v0 v1 v2 (ix2 r l) := by
  unfold k0_pay3
  generalize k0_pay1 v0 v1 v2 = p
  pointwise

/-- The mixed stream normalised by its root mean square, with the gain. -/
theorem pay2_apply (v0 : Vec Ideal S512x1024 .f32) (v1 : Vec Ideal S512x1024 .bf16) (v2 : Vec Ideal S1024x1024 .bf16) (v16 : Vec Ideal S1x1024 .f32) (r : Fin 512) (l : Fin 1024) :
    k0_pay2 v0 v1 v2 v16 (ix2 r l) = k0_pay1 v0 v1 v2 (ix2 r l) * Ideal.rsqrt (Ideal.div (∑ k : Fin 1024, k0_pay1 v0 v1 v2 (ix2 r k) * k0_pay1 v0 v1 v2 (ix2 r k))
        (Ideal.ofBits .f32 1149239296#32) + Ideal.ofBits .f32 897988541#32) * v16 (ix2 0 l) := by
  unfold k0_pay2
  generalize k0_pay1 v0 v1 v2 = p
  pointwise

/-- One trip: the slice's hidden units through its slice of the down projection, added on. -/
theorem pay4_apply (v30 : Vec Ideal S512x1024 .bf16) (v32 v36 : Vec Ideal S1x1024x256 .bf16) (v49 : Vec Ideal S512x1024 .f32) (v51 : Vec Ideal S1x256x1024 .bf16) (r : Fin 512) (l : Fin 1024) :
    k0_pay4 v30 v32 v36 v49 v51 (ix2 r l) = v49 (ix2 r l) + ∑ j : Fin 256,
      gated (∑ k : Fin 1024, v30 (ix2 r k) * v32 (ix3 0 k j)) (∑ k : Fin 1024, v30 (ix2 r k) * v36 (ix3 0 k j)) * v51 (ix3 0 j l) := by
  unfold gated
  pointwise [k0_pay4]

end Proof.NewFfn

end
-- ==== Proof.NewFfnBlocks.lean ====
/- The blocks the feed-forward kernel's grid point `t` stages, read at an index: rows `512 * t …` of the two streams, and the
   weights whole, the hidden width cut into 11 slices of 256. Here over the sample
   batch's 512 rows. -/
module

public import proofs.«01_k».proof.Proof.NewFfnIdeal
public import Idealize.ShloMosaic.Lib.Claim

@[expose] public section

set_option maxRecDepth 100000

noncomputable section

namespace Proof.NewFfn

open Cert.Kernel5Ideal Cert.Kernel5Ideal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val, 0] ∧ win0_1.index t = ![t.val, 0]
    ∧ win0_2.index t = ![0, 0] ∧ win0_3.index t = ![0, 0]
    ∧ win0_4.index t = ![0, 0, 0] ∧ win0_5.index t = ![0, 0, 0] ∧ win0_6.index t = ![0, 0, 0]
    ∧ win0_7.index t = ![t.val, 0] :=
  (by decide +kernel : ∀ t : Fin grid0.N, _)

def row (t : Fin cfg0.N) (r : Fin 512) : Fin 512 := ⟨512 * t.val + r.val, by have := lt_of_lt_of_eq t.isLt (show cfg0.N = 1 from N_0); omega⟩

theorem blk0 (c : Dev nD) (t : Fin cfg0.N) (r : Fin 512) (l : Fin 1024) :
    iblk m c 0 t (ix2 r l) = m ((c : Thread nD τ).loc main_arg0) (ix2 (row t r) l) := by
  blk_ext! [iblk, V, idx t, row]

theorem blk1 (c : Dev nD) (t : Fin cfg0.N) (r : Fin 512) (l : Fin 1024) :
    iblk m c 1 t (ix2 r l) = m ((c : Thread nD τ).loc main_arg1) (ix2 (row t r) l) := by
  blk_ext! [iblk, V, idx t, row]

theorem blk2 (c : Dev nD) (t : Fin cfg0.N) (k l : Fin 1024) :
    iblk m c 2 t (ix2 k l) = m ((c : Thread nD τ).loc main_arg2) (ix2 k l) := by
  blk_simp [iblk]
  entry_read
  pointwise
  blk_ext! [idx t]

theorem blk3 (c : Dev nD) (t : Fin cfg0.N) (l : Fin 1024) :
    iblk m c 3 t (ix2 0 l) = m ((c : Thread nD τ).loc main_arg3) (ix1 l) := by
  blk_simp [iblk]
  entry_read
  pointwise
  blk_ext! [idx t]

theorem blk4 (c : Dev nD) (t : Fin cfg0.N) (n : Fin 11) (k : Fin 1024) (j : Fin 256) :
    iblk m c 4 t (ix3 n k j) = m ((c : Thread nD τ).loc main_arg4) (ix2 k ⟨256 * n.val + j.val, by omega⟩) := by
  blk_simp [iblk]
  entry_read
  pointwise
  blk_ext! [idx t]

theorem blk5 (c : Dev nD) (t : Fin cfg0.N) (n : Fin 11) (k : Fin 1024) (j : Fin 256) :
    iblk m c 5 t (ix3 n k j) = m ((c : Thread nD τ).loc main_arg4) (ix2 k ⟨2816 + (256 * n.val + j.val), by omega⟩) := by
  blk_simp [iblk]
  entry_read
  pointwise
  blk_ext! [idx t]

theorem blk6 (c : Dev nD) (t : Fin cfg0.N) (n : Fin 11) (j : Fin 256) (l : Fin 1024) :
    iblk m c 6 t (ix3 n j l) = m ((c : Thread nD τ).loc main_arg5) (ix2 ⟨256 * n.val + j.val, by omega⟩ l) := by
  blk_simp [iblk]
  entry_read
  pointwise
  blk_ext! [idx t]

end Proof.NewFfn

end
-- ==== Proof.NewFfnSpec.lean ====
/- The feed-forward block as a function of the call's arguments, an element at a time, over the extended reals; and the
   reference read at an index is that function. Here over the sample
   batch's 512 rows. -/
module

public import proofs.«01_k».proof.Proof.NewFfnIdeal
public import proofs.«01_k».proof.Proof.Gen.Reference5Ideal.Run
public import proofs.«01_k».proof.Proof.Gen.Reference5Ideal.Read

@[expose] public section

set_option maxRecDepth 100000

noncomputable section

namespace Proof.NewFfn

open Idealize.ShloMosaic

section Spec

open Cert.Kernel5Ideal (S512x1024 S1024x1024 S1024 S1024x5632 S2816x1024)

variable (a : FVec Ideal S512x1024 .bf16) (x : FVec Ideal S512x1024 .f32) (wo : FVec Ideal S1024x1024 .f32) (g : FVec Ideal S1024 .f32)
  (wgu : FVec Ideal S1024x5632 .f32) (wd : FVec Ideal S2816x1024 .f32)

/-- The residual plus the attention's output through the output projection. -/
def mixed (r : Fin 512) (l : Fin 1024) : EReal := x (ix2 r l) + ∑ k : Fin 1024, a (ix2 r k) * wo (ix2 k l)

/-- Normalised by its root mean square, with the gain. -/
def normed (r : Fin 512) (l : Fin 1024) : EReal :=
  mixed a x wo r l * Ideal.rsqrt (Ideal.div (∑ k : Fin 1024, mixed a x wo r k * mixed a x wo r k)
    (Ideal.ofBits .f32 1149239296#32) + Ideal.ofBits .f32 897988541#32) * g (ix1 l)

/-- One column of the gate-and-up projection. -/
def proj (r : Fin 512) (f : Fin 5632) : EReal := ∑ k : Fin 1024, normed a x wo g r k * wgu (ix2 k f)

/-- One hidden unit. -/
def hidden (r : Fin 512) (f : Fin 2816) : EReal :=
  gated (proj a x wo g wgu r ⟨f.val, by omega⟩) (proj a x wo g wgu r ⟨2816 + f.val, by omega⟩)

/-- The block's output. -/
def ffn (r : Fin 512) (l : Fin 1024) : EReal :=
  mixed a x wo r l + ∑ f : Fin 2816, hidden a x wo g wgu r f * wd (ix2 f l)

/-- Hidden unit `f`'s contribution to an output element; nothing past the last unit. -/
def term (r : Fin 512) (l : Fin 1024) (f : ℕ) : EReal :=
  if h : f < 2816 then hidden a x wo g wgu r ⟨f, h⟩ * wd (ix2 ⟨f, h⟩ l) else 0

theorem ffn_eq (r : Fin 512) (l : Fin 1024) :
    ffn a x wo g wgu wd r l = mixed a x wo r l + ∑ f ∈ Finset.range 2816, term a x wo g wgu wd r l f := by
  unfold ffn
  rw [Finset.sum_range]
  refine congrArg (mixed a x wo r l + ·) (Finset.sum_congr rfl fun f _ => ?_)
  unfold term
  rw [dif_pos f.isLt]

end Spec

section Reference

open Cert.Reference5Ideal Cert.Reference5Ideal.Read

variable (a : FVec Ideal S512x1024 .bf16) (x : FVec Ideal S512x1024 .f32) (wo : FVec Ideal S1024x1024 .f32) (g : FVec Ideal S1024 .f32)
  (wgu : FVec Ideal S1024x5632 .f32) (wd : FVec Ideal S2816x1024 .f32)

theorem ref_mixed (r : Fin 512) (l : Fin 1024) : val_main_v2 (F := Ideal) a x wo (ix2 r l) = mixed a x wo r l := by
  unfold mixed
  pointwise [val_main_v2, val_main_v1, val_main_v0]

theorem ref_normed (r : Fin 512) (l : Fin 1024) : val_main_v15 (F := Ideal) a x wo g (ix2 r l) = normed a x wo g r l := by
  unfold normed
  simp only [← ref_mixed]
  unfold val_main_v15 val_main_v14 val_main_v13 val_main_v12 val_main_v11 val_main_v10 val_main_v9 val_main_v8 val_main_v7 val_main_v6 val_main_v5 val_main_v4 val_main_v3
  generalize val_main_v2 (F := Ideal) a x wo = p
  pointwise [val_main_cst, val_main_cst_0, val_main_cst_1]

theorem ref_proj (r : Fin 512) (f : Fin 5632) : val_main_v16 (F := Ideal) a x wo g wgu (ix2 r f) = proj a x wo g wgu r f := by
  unfold proj
  simp only [← ref_normed]
  unfold val_main_v16
  generalize val_main_v15 (F := Ideal) a x wo g = p
  pointwise

theorem ref_hidden (r : Fin 512) (f : Fin 2816) : val_main_v20 (F := Ideal) a x wo g wgu (ix2 r f) = hidden a x wo g wgu r f := by
  unfold hidden gated
  simp only [← ref_proj]
  unfold val_main_v20 val_main_v19 val_main_v18 val_main_call0_v5 val_main_call0_v4 val_main_call0_v3 val_main_call0_v2 val_main_call0_v1 val_main_call0_v0 val_main_v17
  generalize val_main_v16 (F := Ideal) a x wo g wgu = p
  pointwise [val_main_call0_cst, val_main_call0_cst_0]
  simp only [zero_sub]

theorem ref_ffn (r : Fin 512) (l : Fin 1024) : val_main_v22 (F := Ideal) a x wo g wgu wd (ix2 r l) = ffn a x wo g wgu wd r l := by
  unfold ffn
  simp only [← ref_mixed, ← ref_hidden]
  unfold val_main_v22 val_main_v21
  generalize val_main_v2 (F := Ideal) a x wo = p
  generalize val_main_v20 (F := Ideal) a x wo g wgu = q
  pointwise

end Reference

end Proof.NewFfn

end
-- ==== Proof.NewFfnValue.lean ====
/- The array the feed-forward call leaves is the reference's feed-forward block of the same arguments: every grid point
   adds the 11 slices' contributions to its rows, which is the one sum over the hidden width. Here over the sample
   batch's 512 rows. -/
module

public import proofs.«01_k».proof.Proof.NewFfnBlocks
public import proofs.«01_k».proof.Proof.NewFfnSpec

@[expose] public section

set_option maxRecDepth 100000

noncomputable section

namespace Proof.NewFfn

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ) (c : Dev nD)

/-- The call's arguments. -/
abbrev A0 : FVec Ideal S512x1024 .bf16 := m ((c : Thread nD τ).loc main_arg0)
abbrev A1 : FVec Ideal S512x1024 .f32 := m ((c : Thread nD τ).loc main_arg1)
abbrev A2 : FVec Ideal S1024x1024 .f32 := m ((c : Thread nD τ).loc main_arg2)
abbrev A3 : FVec Ideal S1024 .f32 := m ((c : Thread nD τ).loc main_arg3)
abbrev A4 : FVec Ideal S1024x5632 .f32 := m ((c : Thread nD τ).loc main_arg4)
abbrev A5 : FVec Ideal S2816x1024 .f32 := m ((c : Thread nD τ).loc main_arg5)

theorem blk_mixed (t : Fin cfg0.N) (r : Fin 512) (l : Fin 1024) :
    k0_pay1 (iblk m c 1 t) (iblk m c 0 t) (iblk m c 2 t) (ix2 r l) = mixed (A0 m c) (A1 m c) (A2 m c) (row t r) l := by
  rw [pay1_apply, blk1]
  unfold mixed
  refine congrArg (A1 m c (ix2 (row t r) l) + ·) (Finset.sum_congr rfl fun k _ => ?_)
  rw [blk0, blk2]

theorem blk_normed (t : Fin cfg0.N) (r : Fin 512) (l : Fin 1024) :
    k0_pay2 (iblk m c 1 t) (iblk m c 0 t) (iblk m c 2 t) (iblk m c 3 t) (ix2 r l) = normed (A0 m c) (A1 m c) (A2 m c) (A3 m c) (row t r) l := by
  rw [pay2_apply, blk3]
  simp only [blk_mixed]
  rfl

theorem slab1_apply (w : Vec Ideal S11x1024x256 .bf16) (n : Fin 11) (k : Fin 1024) (j : Fin 256) : slab1 w n (ix3 0 k j) = w (ix3 n k j) := by
  unfold slab1 VecWindow.window
  refine congrArg w (funext fun a => Fin.ext ?_)
  match a with
  | 0 => show n.val + 1 * 0 = n.val; omega
  | 1 => show 0 + 1 * k.val = k.val; omega
  | 2 => show 0 + 1 * j.val = j.val; omega

theorem slab2_apply (w : Vec Ideal S11x256x1024 .bf16) (n : Fin 11) (j : Fin 256) (l : Fin 1024) : slab2 w n (ix3 0 j l) = w (ix3 n j l) := by
  unfold slab2 VecWindow.window
  refine congrArg w (funext fun a => Fin.ext ?_)
  match a with
  | 0 => show n.val + 1 * 0 = n.val; omega
  | 1 => show 0 + 1 * j.val = j.val; omega
  | 2 => show 0 + 1 * l.val = l.val; omega

/-- The accumulator after `n` slices: the mixed stream and the first `256 * n` hidden units' contributions. -/
theorem accum_apply (t : Fin cfg0.N) (r : Fin 512) (l : Fin 1024) : ∀ n : ℕ, n ≤ 11 →
    accum (k0_pay2 (iblk m c 1 t) (iblk m c 0 t) (iblk m c 2 t) (iblk m c 3 t)) (iblk m c 4 t) (iblk m c 5 t) (iblk m c 6 t)
        (k0_pay3 (iblk m c 1 t) (iblk m c 0 t) (iblk m c 2 t)) n (ix2 r l)
      = mixed (A0 m c) (A1 m c) (A2 m c) (row t r) l
        + ∑ f ∈ Finset.range (256 * n), term (A0 m c) (A1 m c) (A2 m c) (A3 m c) (A4 m c) (A5 m c) (row t r) l f := by
  intro n
  induction n with
  | zero =>
    intro _
    rw [accum, pay3_apply, blk_mixed]
    simp
  | succ n ih =>
    intro hn
    rw [accum, dif_pos (by omega : n < 11), pay4_apply, ih (by omega), show 256 * (n + 1) = 256 * n + 256 by ring, Finset.sum_range_add, ← add_assoc]
    rw [Finset.sum_range (n := 256)]
    refine congrArg₂ (· + ·) rfl (Finset.sum_congr rfl fun j _ => ?_)
    have hf : 256 * n + j.val < 2816 := by omega
    unfold term
    rw [dif_pos hf, slab2_apply, blk6]
    refine congrArg (· * A5 m c (ix2 ⟨256 * n + j.val, hf⟩ l)) ?_
    unfold hidden proj
    simp only [blk_normed, slab1_apply, blk4, blk5]

/-- What a grid point writes back. -/
theorem out_apply (t : Fin cfg0.N) (r : Fin 512) (l : Fin 1024) :
    outsAt0 m c t (ix2 r l) = ffn (A0 m c) (A1 m c) (A2 m c) (A3 m c) (A4 m c) (A5 m c) (row t r) l := by
  unfold outsAt0
  rw [out_A, ffn_eq]
  exact accum_apply m c t r l 11 (le_refl 11)

/-- The output array. -/
def G7 : Buf (Elt Ideal) ((c : Thread nD τ).loc main_v11) := fun i =>
  ffn (A0 m c) (A1 m c) (A2 m c) (A3 m c) (A4 m c) (A5 m c) (i 0) (i 1)

theorem flushed7_eq (t : Fin cfg0.N) : (dats m 0 c).flushed 7 t = ((cfg0.win 7).blk t).view.read (Elt Ideal) (G7 m c) := by
  rw [flushed7]
  obtain ⟨-, -, -, -, -, -, -, e⟩ := idx t
  funext y
  have h0 : (y 0).val < 512 := (y 0).isLt
  have h1 : (y 1).val < 1024 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1024 + 1 * (y 1).val := rfl
  rw [e] at hb0 hb1
  have hx : (cfg0.win 7).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show outsAt0 m c t ((cfg0.win 7).xinj (grid0.coords t) y) = G7 m c (((cfg0.win 7).blk t).view.emb y)
  rw [hx, out_apply]
  unfold G7
  refine congrArg₂ (ffn (A0 m c) (A1 m c) (A2 m c) (A3 m c) (A4 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered7 (i : S512x1024.Idx) : ∃ t : Fin cfg0.N, (cfg0.win 7).flush t = true ∧ i ∈ ((cfg0.win 7).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, e⟩ := idx ⟨(i 0).val / 512, hN⟩
  refine ⟨⟨(i 0).val / 512, hN⟩, flush0_7 _, ?_⟩
  show i ∈ ((View.whole main_v11).slice (win0_7.rect ⟨(i 0).val / 512, hN⟩)).set
  rw [View.set_slice_whole, Rect.mem_set_unit]
  intro a
  have q0 : win0_7.index ⟨(i 0).val / 512, hN⟩ (0 : Fin 2) = (i 0).val / 512 := congrFun e 0
  have q1 : win0_7.index ⟨(i 0).val / 512, hN⟩ (1 : Fin 2) = 0 := congrFun e 1
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; omega
  | ⟨1, _⟩ => show win0_7.index ⟨(i 0).val / 512, hN⟩ (1 : Fin 2) * 1024 ≤ (i 1).val ∧ (i 1).val < win0_7.index ⟨(i 0).val / 512, hN⟩ (1 : Fin 2) * 1024 + 1024; omega

theorem final7 : (dats m 0 c).arrAt 7 cfg0.N = G7 m c :=
  (dats m 0 c).arrAt_eq_of_cover 7 _ (fun t _ => flushed7_eq m c t) (fun i => covered7 i)

/-- The array the call leaves is the reference's result on the same arguments. -/
theorem value_eq : (G7 m c : S512x1024.Idx → EReal)
    = Cert.Reference5Ideal.Read.val_main_v22 (F := Ideal) (A0 m c) (A1 m c) (A2 m c) (A3 m c) (A4 m c) (A5 m c) := by
  funext y
  obtain ⟨r, l, rfl⟩ : ∃ (r : Fin 512) (l : Fin 1024), y = ix2 r l := ⟨y 0, y 1, eq_ix2 y⟩
  exact (ref_ffn (A0 m c) (A1 m c) (A2 m c) (A3 m c) (A4 m c) (A5 m c) r l).symm

end Proof.NewFfn

end
-- ==== Proof.NewFoxSpec.lean ====
/- The key, value, forget, query and gate projections as functions of the call's arguments, an element at a time, over the
   extended reals; and the reference read at an index is those functions. Here over the sample
   batch's 512 rows. -/
module

public import proofs.«01_k».proof.Proof.Gen.Reference6Ideal.Run
public import proofs.«01_k».proof.Proof.Gen.Reference6Ideal.Read
public import proofs.«01_k».proof.Proof.FoxSpec
public import Idealize.ShloMosaic.Lib.Pointwise
public import Idealize.ShloMosaic.Lib.KernelVsHost

@[expose] public section

set_option maxRecDepth 100000

noncomputable section

namespace Proof.NewFox

open Idealize.ShloMosaic Proof.Fox

section Reference

open Cert.Reference6Ideal Cert.Reference6Ideal.Read

variable (x : FVec Ideal S512x1024 .f32) (gkv gmix : FVec Ideal S1024 .f32) (wkvf : FVec Ideal S1024x2064 .f32)
  (bf : FVec Ideal S16 .f32) (gk : FVec Ideal S64 .f32) (wqg : FVec Ideal S1024x2048 .f32) (gq : FVec Ideal S64 .f32)

/-- The stream normalised for the keys and values, and one column of its projection. -/
def kvIn (r : Fin 512) : Fin 1024 → EReal := normed (fun k => x (ix2 r k)) (fun k => gkv (ix1 k))
def kvf (r : Fin 512) (l : Fin 2064) : EReal := ∑ k : Fin 1024, kvIn x gkv r k * wkvf (ix2 k l)

/-- The stream normalised for the queries and the gate, and one column of its projection. -/
def qIn (r : Fin 512) : Fin 1024 → EReal := normed (fun k => x (ix2 r k)) (fun k => gmix (ix1 k))
def qg (r : Fin 512) (l : Fin 2048) : EReal := ∑ k : Fin 1024, qIn x gmix r k * wqg (ix2 k l)

/-- The seven results, at an index. -/
def key (r : Fin 512) (l : Fin 1024) : EReal :=
  headNormed (fun l => kvf x gkv wkvf r ⟨l.val, by omega⟩) (fun j => gk (ix1 j)) l
def val (r : Fin 512) (l : Fin 1024) : EReal := kvf x gkv wkvf r ⟨1024 + l.val, by omega⟩
def forget (r : Fin 512) (h : Fin 16) : EReal := logSig (kvf x gkv wkvf r ⟨2048 + h.val, by omega⟩ + bf (ix1 h))
def query (r : Fin 512) (l : Fin 1024) : EReal :=
  headNormed (fun l => qg x gmix wqg r ⟨l.val, by omega⟩) (fun j => gq (ix1 j)) l * Ideal.ofBits .f32 1040187392#32
def gate (r : Fin 512) (l : Fin 1024) : EReal := qg x gmix wqg r ⟨1024 + l.val, by omega⟩

theorem ref_kvIn (r : Fin 512) (l : Fin 1024) : val_main_v12 (F := Ideal) x gkv (ix2 r l) = kvIn x gkv r l := by
  unfold kvIn normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_qIn (r : Fin 512) (l : Fin 1024) : val_main_v48 (F := Ideal) x gmix (ix2 r l) = qIn x gmix r l := by
  unfold qIn normed
  pointwise [val_main_v48, val_main_v47, val_main_v46, val_main_v45, val_main_v44, val_main_v43, val_main_v42, val_main_v41, val_main_v40, val_main_v39, val_main_v38, val_main_v37, val_main_v36, val_main_cst_5, val_main_cst_6, val_main_cst_7]

theorem ref_kvf (r : Fin 512) (l : Fin 2064) : val_main_v13 (F := Ideal) x gkv wkvf (ix2 r l) = kvf x gkv wkvf r l := by
  unfold kvf
  simp only [← ref_kvIn]
  unfold val_main_v13
  generalize val_main_v12 (F := Ideal) x gkv = p
  pointwise

theorem ref_qg (r : Fin 512) (l : Fin 2048) : val_main_v49 (F := Ideal) x gmix wqg (ix2 r l) = qg x gmix wqg r l := by
  unfold qg
  simp only [← ref_qIn]
  unfold val_main_v49
  generalize val_main_v48 (F := Ideal) x gmix = p
  pointwise

theorem ref_val (r : Fin 512) (l : Fin 1024) : val_main_v15 (F := Ideal) x gkv wkvf (ix2 r l) = val x gkv wkvf r l := by
  unfold val
  rw [← ref_kvf]
  unfold val_main_v15
  generalize val_main_v13 (F := Ideal) x gkv wkvf = p
  pointwise

theorem ref_gate (r : Fin 512) (l : Fin 1024) : val_main_v51 (F := Ideal) x gmix wqg (ix2 r l) = gate x gmix wqg r l := by
  unfold gate
  rw [← ref_qg]
  unfold val_main_v51
  generalize val_main_v49 (F := Ideal) x gmix wqg = p
  pointwise

theorem ref_forget (r : Fin 512) (h : Fin 16) : val_main_v35 (F := Ideal) x gkv wkvf bf (ix2 r h) = forget x gkv wkvf bf r h := by
  unfold forget logSig
  simp only [← ref_kvf]
  unfold val_main_v35 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0 val_main_v34 val_main_v33 val_main_v32 val_main_v16
  generalize val_main_v13 (F := Ideal) x gkv wkvf = p
  pointwise [val_main_call0_call0_cst]
  rw [if_neg (fun h => h rfl)]
  rfl

theorem ref_key (r : Fin 512) (l : Fin 1024) : val_main_v31 (F := Ideal) x gkv wkvf gk (ix2 r l) = key x gkv wkvf gk r l := by
  unfold key headNormed headLane
  simp only [← ref_kvf]
  unfold val_main_v31 val_main_v30 val_main_v29 val_main_v28 val_main_v27 val_main_v26 val_main_v25 val_main_v24 val_main_v23 val_main_v22 val_main_v21 val_main_v20 val_main_v19 val_main_v18 val_main_v17 val_main_v14
  generalize val_main_v13 (F := Ideal) x gkv wkvf = p
  pointwise [val_main_cst_2, val_main_cst_3, val_main_cst_4, eps]

theorem ref_query (r : Fin 512) (l : Fin 1024) : val_main_v68 (F := Ideal) x gmix wqg gq (ix2 r l) = query x gmix wqg gq r l := by
  unfold query headNormed headLane
  simp only [← ref_qg]
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v50
  generalize val_main_v49 (F := Ideal) x gmix wqg = p
  pointwise [val_main_cst_8, val_main_cst_9, val_main_cst_10, val_main_cst_11, eps]

end Reference

end Proof.NewFox

end
-- ==== Proof.NewFoxIdeal.lean ====
/- The projection kernel's arithmetic read at an index, over the extended reals. Here over the sample
   batch's 512 rows. -/
module

public import proofs.«01_k».proof.Proof.Gen.Kernel6Ideal.Value
public import proofs.«01_k».proof.Proof.NewFoxSpec
public import Idealize.ShloMosaic.Lib.Pipeline.ValueKit

@[expose] public section

set_option maxRecDepth 100000

noncomputable section

namespace Proof.NewFox

open Cert.Kernel6Ideal Cert.Kernel6Ideal.Gen Idealize.ShloMosaic Proof.Fox

/-- Two heads' lanes normalised, the heads' means of squares taken by masking the other head's lanes. -/
def pairNorm {F : FTy → Type} [FloatOps F] (x : FVec F S512x128 .f32) (g : Vec F S1x128 .f32) : FVec F S512x128 .f32 :=
  let sq := mulf x x
  let lo := broadcastTo S512x128 (shapeCast S1x128 k0_pay6 shapeCasts_S1x128_S1x128) broadcasts_S1x128_S512x128
  let z : FVec F S512x128 .f32 := broadcast S512x128 (Scalar.ofBits .f32 0x00000000#32)
  let a := shapeCast S512x1 (multiReduction .add [1] S512 (select lo sq z) 0x00000000#32 reduces_S512x128_S512 (.inl rfl) rfl) shapeCasts_S512_S512x1
  let b := shapeCast S512x1 (multiReduction .add [1] S512 (select lo z sq) 0x00000000#32 reduces_S512x128_S512 (.inl rfl) rfl) shapeCasts_S512_S512x1
  let ms := select lo (broadcastTo S512x128 (shapeCast S512x1 a shapeCasts_S512x1_S512x1) broadcasts_S512x1_S512x128)
    (broadcastTo S512x128 (shapeCast S512x1 b shapeCasts_S512x1_S512x1) broadcasts_S512x1_S512x128)
  let rs := rsqrt (addf (mulf ms (broadcast S512x128 (Scalar.ofBits .f32 0x3C800000#32))) (broadcast S512x128 (Scalar.ofBits .f32 0x358637BD#32)))
  mulf (mulf x rs) (broadcastTo S512x128 (shapeCast S1x128 g shapeCasts_S1x128_S1x128) broadcasts_S1x128_S512x128)

theorem lower (x : Fin 128) : k0_pay6 (ix2 0 x) = if x.val < 64 then 1#1 else 0#1 := by
  pointwise [k0_pay6]
  revert x
  decide +kernel

/-- A mean over 64 lanes by a product with the reciprocal is the quotient. -/
theorem div64 (s : EReal) : s * Ideal.ofBits .f32 1015021568#32 = Ideal.div s (Ideal.ofBits .f32 1115684864#32) := by
  have h1 : Ideal.ofBits .f32 1015021568#32 = ((1 / 64 : ℝ) : EReal) := by
    simp [Ideal.ofBits, Ideal.ieee]
    rw [← EReal.coe_mul]
    norm_num
  have h2 : Ideal.ofBits .f32 1115684864#32 = ((64 : ℝ) : EReal) := by
    simp [Ideal.ofBits, Ideal.ieee]
    rw [← EReal.coe_mul]
    norm_num
  rw [h1, h2]
  unfold Ideal.div
  rw [if_neg (by norm_num), ← EReal.coe_inv]
  norm_num

/-- The lanes of a head among its pair's 128. -/
def pairLane (l : Fin 128) (j : Fin 64) : Fin 128 := ⟨l.val / 64 * 64 + j.val, by omega⟩

theorem pairLane_lower (l : Fin 128) (j : Fin 64) (h : l.val < 64) : pairLane l j = Fin.castAdd 64 j :=
  Fin.ext (by show l.val / 64 * 64 + j.val = j.val; omega)

theorem pairLane_upper (l : Fin 128) (j : Fin 64) (h : ¬l.val < 64) : pairLane l j = Fin.natAdd 64 j :=
  Fin.ext (by show l.val / 64 * 64 + j.val = 64 + j.val; omega)

theorem sum_lower (f : Fin 128 → EReal) :
    (∑ y : Fin 128, Scalar.select (if y.val < 64 then 1#1 else 0#1) (f y) 0) = ∑ j : Fin 64, f (Fin.castAdd 64 j) := by
  refine (Fin.sum_univ_add (a := 64) (b := 64) _).trans ?_
  rw [Finset.sum_eq_zero (s := Finset.univ) (f := fun i : Fin 64 => Scalar.select (if (Fin.natAdd 64 i).val < 64 then 1#1 else 0#1) (f (Fin.natAdd 64 i)) 0), add_zero]
  · refine Finset.sum_congr rfl fun j _ => ?_
    rw [if_pos (by simp)]
    rfl
  · intro j _
    rw [if_neg (by simp)]
    rfl

theorem sum_upper (f : Fin 128 → EReal) :
    (∑ y : Fin 128, Scalar.select (if y.val < 64 then 1#1 else 0#1) 0 (f y)) = ∑ j : Fin 64, f (Fin.natAdd 64 j) := by
  refine (Fin.sum_univ_add (a := 64) (b := 64) _).trans ?_
  rw [Finset.sum_eq_zero (s := Finset.univ) (f := fun i : Fin 64 => Scalar.select (if (Fin.castAdd 64 i).val < 64 then 1#1 else 0#1) 0 (f (Fin.castAdd 64 i))), zero_add]
  · refine Finset.sum_congr rfl fun j _ => ?_
    rw [if_neg (by simp)]
    rfl
  · intro j _
    rw [if_pos (by simp)]
    rfl

theorem pairNorm_apply (x : FVec Ideal S512x128 .f32) (g : Vec Ideal S1x128 .f32) (r : Fin 512) (l : Fin 128) :
    pairNorm x g (ix2 r l) = x (ix2 r l) * Ideal.rsqrt (Ideal.div (∑ j : Fin 64, x (ix2 r (pairLane l j)) * x (ix2 r (pairLane l j)))
      (Ideal.ofBits .f32 1115684864#32) + eps) * g (ix2 0 l) := by
  rw [← div64]
  pointwise [pairNorm]
  rw [lower]
  refine congrArg (fun z => x (ix2 r l) * Ideal.rsqrt (z * _ + _) * g (ix2 0 l)) ?_
  simp only [lower]
  by_cases h : l.val < 64
  · rw [if_pos h]
    exact (sum_lower fun y => x (ix2 r y) * x (ix2 r y)).trans (Finset.sum_congr rfl fun j _ => by rw [pairLane_lower l j h])
  · rw [if_neg h]
    exact (sum_upper fun y => x (ix2 r y) * x (ix2 r y)).trans (Finset.sum_congr rfl fun j _ => by rw [pairLane_upper l j h])

/-- One head pair's projected lanes, and the pair normalised: chunk `g / 2` of 256 columns, half `g % 2` of it. -/
def rawTile {F : FTy → Type} [FloatOps F] (s : FVec F S512x1024 .bf16) (w : Vec F S1024x2048 .bf16) (g : Fin 8) : FVec F S512x128 .f32 :=
  extractStridedSlice S512x128 ![0, 128 * (g.val % 2)]
    (matmul dot_S512x1024_S1024x256_S512x256_1_0_0_1_n_n none s
      (shapeCast S1024x256 (View.ld w (Rect.unit (s := S1024x2048) ![0, 256 * (g.val / 2)] S1024x256.size (by revert g; decide)) : Vec F S1024x256 .bf16) shapeCasts_S1024x256_S1024x256)
      (constant S512x256 .f32 0x00000000#32)) (by revert g; decide)

def tile {F : FTy → Type} [FloatOps F] (s : FVec F S512x1024 .bf16) (w : Vec F S1024x2048 .bf16) (gain : Vec F S1x1024 .f32) (g : Fin 8) : FVec F S512x128 .f32 :=
  pairNorm (rawTile s w g) (View.ld gain (Rect.unit (s := S1x1024) ![0, 128 * g.val] S1x128.size (by revert g; decide)) : Vec F S1x128 .f32)

/-- A row's projection through a weight block. -/
def projRow (s : FVec Ideal S512x1024 .bf16) (w : Vec Ideal S1024x2048 .bf16) (r : Fin 512) (l : Fin 2048) : EReal :=
  ∑ k : Fin 1024, s (ix2 r k) * w (ix2 k l)

theorem rawTile_apply (s : FVec Ideal S512x1024 .bf16) (w : Vec Ideal S1024x2048 .bf16) (g : Fin 8) (r : Fin 512) (l : Fin 128) :
    rawTile s w g (ix2 r l) = projRow s w r ⟨128 * g.val + l.val, by omega⟩ := by
  unfold rawTile projRow
  pointwise
  refine Finset.sum_congr rfl fun k _ => congrArg (fun z => s (ix2 r k) * w (ix2 k z)) (Fin.ext ?_)
  show 256 * (g.val / 2) + (128 * (g.val % 2) + l.val) = 128 * g.val + l.val
  omega

/-- A row normalised over each head's lanes, with a gain per lane. -/
def headRow (p gain : Fin 1024 → EReal) (l : Fin 1024) : EReal :=
  p l * Ideal.rsqrt (Ideal.div (∑ j : Fin 64, p (headLane l j) * p (headLane l j)) (Ideal.ofBits .f32 1115684864#32) + eps) * gain l

theorem tile_at (s : FVec Ideal S512x1024 .bf16) (w : Vec Ideal S1024x2048 .bf16) (gain : Vec Ideal S1x1024 .f32) (g : Fin 8)
    (x : S512x128.Idx) (y : S512x1024.Idx) (h0 : (y 0).val = (x 0).val) (h1 : (y 1).val = 128 * g.val + (x 1).val) :
    tile s w gain g x = headRow (fun l => projRow s w (y 0) ⟨l.val, by omega⟩) (fun l => gain (ix2 0 l)) (y 1) := by
  obtain ⟨r, l, rfl⟩ : ∃ (r : Fin 512) (l : Fin 128), x = ix2 r l := ⟨x 0, x 1, eq_ix2 x⟩
  obtain ⟨r', l', rfl⟩ : ∃ (r' : Fin 512) (l' : Fin 1024), y = ix2 r' l' := ⟨y 0, y 1, eq_ix2 y⟩
  obtain rfl : r' = r := Fin.ext h0
  have hl : 128 * g.val + l.val < 1024 := by omega
  obtain rfl : l' = ⟨128 * g.val + l.val, hl⟩ := Fin.ext h1
  unfold tile headRow
  rw [pairNorm_apply]
  simp only [rawTile_apply]
  have hj : ∀ j : Fin 64, (128 * g.val + (pairLane l j).val) = (headLane ⟨128 * g.val + l.val, hl⟩ j).val := fun j => by
    show 128 * g.val + (l.val / 64 * 64 + j.val) = (128 * g.val + l.val) / 64 * 64 + j.val
    omega
  simp only [hj]
  refine congrArg₂ (· * ·) rfl (congrArg gain (funext fun a => Fin.ext ?_))
  match a with
  | 0 => rfl
  | 1 => show 128 * g.val + 1 * l.val = 128 * g.val + l.val; omega

variable (x0 : Vec Ideal S512x1024 .f32) (x1 : Vec Ideal S1x1024 .f32) (x2 : Vec Ideal S1x1024 .f32) (x3 : Vec Ideal S1024x2048 .bf16) (x4 x5 : Vec Ideal S1024x128 .bf16) (x6 : Vec Ideal S1024x2048 .bf16) (x7 : Vec Ideal S1x16 .f32) (x8 x9 : Vec Ideal S1x1024 .f32)

/-- The two normalised streams the projections read. -/
abbrev sIn : FVec Ideal S512x1024 .bf16 := k0_pay83 x0 x1 x2 x3 x4 x5 x6 x7 x8 x9
abbrev hIn : FVec Ideal S512x1024 .bf16 := k0_pay84 x0 x1 x2 x3 x4 x5 x6 x7 x8 x9

def out10 (y : S512x1024.Idx) : EReal :=
  headRow (fun l => projRow (sIn x0 x1 x2 x3 x4 x5 x6 x7 x8 x9) x3 (y 0) ⟨l.val, by omega⟩) (fun l => x8 (ix2 0 l)) (y 1)

def out15 (y : S512x1024.Idx) : EReal :=
  headRow (fun l => projRow (hIn x0 x1 x2 x3 x4 x5 x6 x7 x8 x9) x6 (y 0) ⟨l.val, by omega⟩) (fun l => x9 (ix2 0 l)) (y 1) * Ideal.ofBits .f32 1040187392#32

theorem out0_10_eq : out0_10 x0 x1 x2 x3 x4 x5 x6 x7 x8 x9 = out10 x0 x1 x2 x3 x4 x5 x6 x7 x8 x9 := by
  unfold out0_10
  funext y
  canon_tiles x h
  case piece0 => exact (congrFun (show _ = tile (sIn x0 x1 x2 x3 x4 x5 x6 x7 x8 x9) x3 x8 7 from by rfl) x).trans (id (tile_at _ _ _ 7 x y h0 h1))
  case piece1 => exact (congrFun (show _ = tile (sIn x0 x1 x2 x3 x4 x5 x6 x7 x8 x9) x3 x8 6 from by rfl) x).trans (id (tile_at _ _ _ 6 x y h0 h1))
  case piece2 => exact (congrFun (show _ = tile (sIn x0 x1 x2 x3 x4 x5 x6 x7 x8 x9) x3 x8 5 from by rfl) x).trans (id (tile_at _ _ _ 5 x y h0 h1))
  case piece3 => exact (congrFun (show _ = tile (sIn x0 x1 x2 x3 x4 x5 x6 x7 x8 x9) x3 x8 4 from by rfl) x).trans (id (tile_at _ _ _ 4 x y h0 h1))
  case piece4 => exact (congrFun (show _ = tile (sIn x0 x1 x2 x3 x4 x5 x6 x7 x8 x9) x3 x8 3 from by rfl) x).trans (id (tile_at _ _ _ 3 x y h0 h1))
  case piece5 => exact (congrFun (show _ = tile (sIn x0 x1 x2 x3 x4 x5 x6 x7 x8 x9) x3 x8 2 from by rfl) x).trans (id (tile_at _ _ _ 2 x y h0 h1))
  case piece6 => exact (congrFun (show _ = tile (sIn x0 x1 x2 x3 x4 x5 x6 x7 x8 x9) x3 x8 1 from by rfl) x).trans (id (tile_at _ _ _ 1 x y h0 h1))
  case piece7 => exact (congrFun (show _ = tile (sIn x0 x1 x2 x3 x4 x5 x6 x7 x8 x9) x3 x8 0 from by rfl) x).trans (id (tile_at _ _ _ 0 x y h0 (by simpa using h1)))

theorem out0_13_eq : out0_13 x0 x1 x2 x3 x4 x5 x6 x7 x8 x9 = out10 x0 x1 x2 x3 x4 x5 x6 x7 x8 x9 := by
  unfold out0_13
  funext y
  canon_tiles x h
  case piece0 => exact (congrFun (show _ = truncf .bf16 (tile (sIn x0 x1 x2 x3 x4 x5 x6 x7 x8 x9) x3 x8 7) bitsLt_bf16_f32 from by rfl) x).trans (id (tile_at _ _ _ 7 x y h0 h1))
  case piece1 => exact (congrFun (show _ = truncf .bf16 (tile (sIn x0 x1 x2 x3 x4 x5 x6 x7 x8 x9) x3 x8 6) bitsLt_bf16_f32 from by rfl) x).trans (id (tile_at _ _ _ 6 x y h0 h1))
  case piece2 => exact (congrFun (show _ = truncf .bf16 (tile (sIn x0 x1 x2 x3 x4 x5 x6 x7 x8 x9) x3 x8 5) bitsLt_bf16_f32 from by rfl) x).trans (id (tile_at _ _ _ 5 x y h0 h1))
  case piece3 => exact (congrFun (show _ = truncf .bf16 (tile (sIn x0 x1 x2 x3 x4 x5 x6 x7 x8 x9) x3 x8 4) bitsLt_bf16_f32 from by rfl) x).trans (id (tile_at _ _ _ 4 x y h0 h1))
  case piece4 => exact (congrFun (show _ = truncf .bf16 (tile (sIn x0 x1 x2 x3 x4 x5 x6 x7 x8 x9) x3 x8 3) bitsLt_bf16_f32 from by rfl) x).trans (id (tile_at _ _ _ 3 x y h0 h1))
  case piece5 => exact (congrFun (show _ = truncf .bf16 (tile (sIn x0 x1 x2 x3 x4 x5 x6 x7 x8 x9) x3 x8 2) bitsLt_bf16_f32 from by rfl) x).trans (id (tile_at _ _ _ 2 x y h0 h1))
  case piece6 => exact (congrFun (show _ = truncf .bf16 (tile (sIn x0 x1 x2 x3 x4 x5 x6 x7 x8 x9) x3 x8 1) bitsLt_bf16_f32 from by rfl) x).trans (id (tile_at _ _ _ 1 x y h0 h1))
  case piece7 => exact (congrFun (show _ = truncf .bf16 (tile (sIn x0 x1 x2 x3 x4 x5 x6 x7 x8 x9) x3 x8 0) bitsLt_bf16_f32 from by rfl) x).trans (id (tile_at _ _ _ 0 x y h0 (by simpa using h1)))

theorem out0_15_eq : out0_15 x0 x1 x2 x3 x4 x5 x6 x7 x8 x9 = out15 x0 x1 x2 x3 x4 x5 x6 x7 x8 x9 := by
  unfold out0_15
  funext y
  canon_tiles x h
  case piece0 => exact (congrFun (show _ = truncf .bf16 (mulf (tile (hIn x0 x1 x2 x3 x4 x5 x6 x7 x8 x9) x6 x9 7) (broadcast S512x128 (Scalar.ofBits .f32 0x3E000000#32))) bitsLt_bf16_f32 from by rfl) x).trans (congrArg (· * Ideal.ofBits .f32 1040187392#32) (tile_at _ _ _ 7 x y h0 h1))
  case piece1 => exact (congrFun (show _ = truncf .bf16 (mulf (tile (hIn x0 x1 x2 x3 x4 x5 x6 x7 x8 x9) x6 x9 6) (broadcast S512x128 (Scalar.ofBits .f32 0x3E000000#32))) bitsLt_bf16_f32 from by rfl) x).trans (congrArg (· * Ideal.ofBits .f32 1040187392#32) (tile_at _ _ _ 6 x y h0 h1))
  case piece2 => exact (congrFun (show _ = truncf .bf16 (mulf (tile (hIn x0 x1 x2 x3 x4 x5 x6 x7 x8 x9) x6 x9 5) (broadcast S512x128 (Scalar.ofBits .f32 0x3E000000#32))) bitsLt_bf16_f32 from by rfl) x).trans (congrArg (· * Ideal.ofBits .f32 1040187392#32) (tile_at _ _ _ 5 x y h0 h1))
  case piece3 => exact (congrFun (show _ = truncf .bf16 (mulf (tile (hIn x0 x1 x2 x3 x4 x5 x6 x7 x8 x9) x6 x9 4) (broadcast S512x128 (Scalar.ofBits .f32 0x3E000000#32))) bitsLt_bf16_f32 from by rfl) x).trans (congrArg (· * Ideal.ofBits .f32 1040187392#32) (tile_at _ _ _ 4 x y h0 h1))
  case piece4 => exact (congrFun (show _ = truncf .bf16 (mulf (tile (hIn x0 x1 x2 x3 x4 x5 x6 x7 x8 x9) x6 x9 3) (broadcast S512x128 (Scalar.ofBits .f32 0x3E000000#32))) bitsLt_bf16_f32 from by rfl) x).trans (congrArg (· * Ideal.ofBits .f32 1040187392#32) (tile_at _ _ _ 3 x y h0 h1))
  case piece5 => exact (congrFun (show _ = truncf .bf16 (mulf (tile (hIn x0 x1 x2 x3 x4 x5 x6 x7 x8 x9) x6 x9 2) (broadcast S512x128 (Scalar.ofBits .f32 0x3E000000#32))) bitsLt_bf16_f32 from by rfl) x).trans (congrArg (· * Ideal.ofBits .f32 1040187392#32) (tile_at _ _ _ 2 x y h0 h1))
  case piece6 => exact (congrFun (show _ = truncf .bf16 (mulf (tile (hIn x0 x1 x2 x3 x4 x5 x6 x7 x8 x9) x6 x9 1) (broadcast S512x128 (Scalar.ofBits .f32 0x3E000000#32))) bitsLt_bf16_f32 from by rfl) x).trans (congrArg (· * Ideal.ofBits .f32 1040187392#32) (tile_at _ _ _ 1 x y h0 h1))
  case piece7 => exact (congrFun (show _ = truncf .bf16 (mulf (tile (hIn x0 x1 x2 x3 x4 x5 x6 x7 x8 x9) x6 x9 0) (broadcast S512x128 (Scalar.ofBits .f32 0x3E000000#32))) bitsLt_bf16_f32 from by rfl) x).trans (congrArg (· * Ideal.ofBits .f32 1040187392#32) (tile_at _ _ _ 0 x y h0 (by simpa using h1)))

theorem sIn_apply (r : Fin 512) (l : Fin 1024) :
    sIn x0 x1 x2 x3 x4 x5 x6 x7 x8 x9 (ix2 r l) = normed (fun k => x0 (ix2 r k)) (fun k => x1 (ix2 0 k)) l := by
  unfold normed eps
  pointwise [sIn, k0_pay83, k0_pay4, k0_pay3, k0_pay2]

theorem hIn_apply (r : Fin 512) (l : Fin 1024) :
    hIn x0 x1 x2 x3 x4 x5 x6 x7 x8 x9 (ix2 r l) = normed (fun k => x0 (ix2 r k)) (fun k => x2 (ix2 0 k)) l := by
  unfold normed eps
  pointwise [hIn, k0_pay84, k0_pay5, k0_pay2]

theorem pay81_apply (s : FVec Ideal S512x1024 .bf16) (w : Vec Ideal S1024x2048 .bf16) (r : Fin 512) (l : Fin 1024) :
    k0_pay81 s (View.ld w r0_25) (ix2 r l) = projRow s w r ⟨1024 + l.val, by omega⟩ := by
  unfold projRow
  pointwise [k0_pay81]

theorem out0_11_eq (r : Fin 512) (l : Fin 1024) : out0_11 x0 x1 x2 x3 x4 x5 x6 x7 x8 x9 (ix2 r l) = projRow (sIn x0 x1 x2 x3 x4 x5 x6 x7 x8 x9) x3 r ⟨1024 + l.val, by omega⟩ := by
  rw [← pay81_apply]
  unfold out0_11
  canon_tiles x h
  rw [show x = ix2 r l from (eq_ix2 x).trans (congrArg₂ ix2 (Fin.ext h0.symm) (Fin.ext h1.symm))]

theorem pay82_apply (s : FVec Ideal S512x1024 .bf16) (w : Vec Ideal S1024x2048 .bf16) (r : Fin 512) (l : Fin 1024) :
    k0_pay82 s (View.ld w r0_25) (ix2 r l) = projRow s w r ⟨1024 + l.val, by omega⟩ := pay81_apply s w r l

theorem out0_14_eq (r : Fin 512) (l : Fin 1024) : out0_14 x0 x1 x2 x3 x4 x5 x6 x7 x8 x9 (ix2 r l) = projRow (sIn x0 x1 x2 x3 x4 x5 x6 x7 x8 x9) x3 r ⟨1024 + l.val, by omega⟩ := by
  rw [← pay82_apply]
  unfold out0_14
  canon_tiles x h
  rw [show x = ix2 r l from (eq_ix2 x).trans (congrArg₂ ix2 (Fin.ext h0.symm) (Fin.ext h1.symm))]

theorem out0_16_eq (r : Fin 512) (l : Fin 1024) : out0_16 x0 x1 x2 x3 x4 x5 x6 x7 x8 x9 (ix2 r l) = projRow (hIn x0 x1 x2 x3 x4 x5 x6 x7 x8 x9) x6 r ⟨1024 + l.val, by omega⟩ := by
  rw [← pay81_apply]
  unfold out0_16
  canon_tiles x h
  rw [show x = ix2 r l from (eq_ix2 x).trans (congrArg₂ ix2 (Fin.ext h0.symm) (Fin.ext h1.symm))]
  rfl

/-- The split of a row into a rounded part and a rest, times the split weights, is the one product when the rests vanish. -/
theorem pay7_apply (v0 : Vec Ideal S512x1024 .f32) (v1 : Vec Ideal S1x1024 .f32) (w4 w5 : Vec Ideal S1024x128 .bf16)
    (hs : ∀ r k, k0_pay3 v0 v1 (ix2 r k) - k0_pay3 v0 v1 (ix2 r k) = 0) (h5 : ∀ k h, w5 (ix2 k h) = 0) (r : Fin 512) (h : Fin 16) :
    k0_pay7 v0 v1 w4 w5 (ix2 r h) = ∑ k : Fin 1024, k0_pay3 v0 v1 (ix2 r k) * w4 (ix2 k ⟨h.val, by omega⟩) := by
  unfold k0_pay7
  have e : (k0_pay4 v0 v1 : FVec Ideal S512x1024 .bf16) = k0_pay3 v0 v1 := rfl
  rw [e]
  generalize k0_pay3 v0 v1 = p at hs ⊢
  pointwise
  simp only [hs, h5]
  simp

theorem pay8_apply (w : Vec Ideal S1x16 .f32) (r : Fin 512) (h : Fin 16) : k0_pay8 w (ix2 r h) = w (ix2 0 h) := by
  pointwise [k0_pay8]

theorem pay9_apply (a b : FVec Ideal S512x16 .f32) (r : Fin 512) (h : Fin 16) : k0_pay9 a b (ix2 r h) = logSig (a (ix2 r h) + b (ix2 r h)) := by
  rw [← logSig_eq]
  pointwise [k0_pay9]
  rfl

theorem ld_whole (w : Vec Ideal S1024x128 .bf16) (k : Fin 1024) (h : Fin 128) : View.ld w r0_2 (ix2 k h) = w (ix2 k h) := by
  pointwise

theorem ld_row (w : Vec Ideal S1x16 .f32) (h : Fin 16) : View.ld w r0_3 (ix2 0 h) = w (ix2 0 h) := by
  pointwise

theorem out0_12_eq (hs : ∀ r k, sIn x0 x1 x2 x3 x4 x5 x6 x7 x8 x9 (ix2 r k) - sIn x0 x1 x2 x3 x4 x5 x6 x7 x8 x9 (ix2 r k) = 0) (h5 : ∀ k h, x5 (ix2 k h) = 0) (r : Fin 512) (h : Fin 16) :
    out0_12 x0 x1 x2 x3 x4 x5 x6 x7 x8 x9 (ix2 r h) = logSig ((∑ k : Fin 1024, sIn x0 x1 x2 x3 x4 x5 x6 x7 x8 x9 (ix2 r k) * x4 (ix2 k ⟨h.val, by omega⟩)) + x7 (ix2 0 h)) := by
  unfold out0_12
  canon_tiles x hx
  rw [show x = ix2 r h from (eq_ix2 x).trans (congrArg₂ ix2 (Fin.ext hx0.symm) (Fin.ext hx1.symm))]
  rw [pay9_apply, pay8_apply, pay7_apply _ _ _ _ hs (fun k h => (ld_whole x5 k h).trans (h5 k h)), ld_row]
  refine congrArg (fun z => logSig (z + x7 (ix2 0 h))) (Finset.sum_congr rfl fun k _ => congrArg (_ * ·) ?_)
  exact ld_whole x4 k ⟨h.val, by omega⟩

end Proof.NewFox

end
-- ==== Proof.NewFoxBlocks.lean ====
/- The blocks the projection kernel's grid point `t` stages, read at an index: rows `512 * t …` of the stream, and the weights
   whole. The forget gate's 16 columns come padded to 128 and split into a rounded part and a rest. Here over the sample
   batch's 512 rows. -/
module

public import proofs.«01_k».proof.Proof.NewFoxIdeal
public import Idealize.ShloMosaic.Lib.Claim

@[expose] public section

set_option maxRecDepth 100000

noncomputable section

namespace Proof.NewFox

open Cert.Kernel6Ideal Cert.Kernel6Ideal.Gen Idealize.ShloMosaic Idealize.ShloMosaic.TcCoe Idealize.SL.Sem Proof.Fox

variable (m : (ℓ : Loc nD τ sig) → Buf (Elt Ideal) ℓ)

/-- Every window's block index at a point. -/
theorem idx : ∀ t : Fin cfg0.N, win0_0.index t = ![t.val, 0] ∧ win0_1.index t = ![0, 0]
    ∧ win0_2.index t = ![0, 0] ∧ win0_3.index t = ![0, 0]
    ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

def row (t : Fin cfg0.N) (r : Fin 512) : Fin 512 := ⟨512 * t.val + r.val, by have := lt_of_lt_of_eq t.isLt (show cfg0.N = 1 from N_0); omega⟩

theorem blk0 (c : Dev nD) (t : Fin cfg0.N) (r : Fin 512) (l : Fin 1024) :
    iblk m c 0 t (ix2 r l) = m ((c : Thread nD τ).loc main_arg0) (ix2 (row t r) l) := by
  blk_ext! [iblk, V, idx t, row]

theorem blk1 (c : Dev nD) (t : Fin cfg0.N) (l : Fin 1024) :
    iblk m c 1 t (ix2 0 l) = m ((c : Thread nD τ).loc main_arg1) (ix1 l) := by
  blk_simp [iblk]
  simp only [V, hostOps0, hostOps0_1, hostOps0_2, List.flatten_cons, List.flatten_nil, List.append_nil, List.cons_append, List.nil_append]
  entry_read
  pointwise
  blk_ext! [idx t]

theorem blk2 (c : Dev nD) (t : Fin cfg0.N) (l : Fin 1024) :
    iblk m c 2 t (ix2 0 l) = m ((c : Thread nD τ).loc main_arg2) (ix1 l) := by
  blk_simp [iblk]
  simp only [V, hostOps0, hostOps0_1, hostOps0_2, List.flatten_cons, List.flatten_nil, List.append_nil, List.cons_append, List.nil_append]
  entry_read
  pointwise
  blk_ext! [idx t]

theorem blk3 (c : Dev nD) (t : Fin cfg0.N) (k : Fin 1024) (l : Fin 2048) :
    iblk m c 3 t (ix2 k l) = m ((c : Thread nD τ).loc main_arg3) (ix2 k ⟨l.val, by omega⟩) := by
  blk_simp [iblk]
  simp only [V, hostOps0, hostOps0_1, hostOps0_2, List.flatten_cons, List.flatten_nil, List.append_nil, List.cons_append, List.nil_append]
  entry_read
  pointwise
  blk_ext! [idx t]

/-- The forget gate's columns padded with zeros to 128. -/
def padW (w : FVec Ideal S1024x2064 .f32) : FVec Ideal S1024x128 .f32 :=
  pad S1024x128 ![0, 0] ![0, 112] ![0, 0] (extractStridedSlice S1024x16 ![0, 2048] w slices_S1024x2064_S1024x16_0_2048)
    (sitofp (F := Ideal) FTy.f32 (constantI S_ 32 0#32)) pads_S1024x16_S1024x128_000_01120 h_S_

theorem padW_apply (w : FVec Ideal S1024x2064 .f32) (k : Fin 1024) (h : Fin 128) :
    padW w (ix2 k h) = if hh : h.val < 16 then w (ix2 k ⟨2048 + h.val, by omega⟩) else 0 := by
  pointwise [padW]
  split
  · rfl
  · show (((0#32 : BitVec 32).toInt : ℝ) : EReal) = 0
    simp

theorem blk4 (c : Dev nD) (t : Fin cfg0.N) (k : Fin 1024) (h : Fin 128) :
    iblk m c 4 t (ix2 k h) = padW (m ((c : Thread nD τ).loc main_arg3)) (ix2 k h) := by
  blk_simp [iblk]
  simp only [V, hostOps0, hostOps0_1, hostOps0_2, List.flatten_cons, List.flatten_nil, List.append_nil, List.cons_append, List.nil_append]
  entry_read
  have e : (((cfg0.win 4).blk t).view.emb (ix2 k h) : S1024x128.Idx) = ix2 k h := by
    blk_ext! [idx t]
  show padW _ (((cfg0.win 4).blk t).view.emb (ix2 k h)) = _
  rw [e]

theorem blk5 (c : Dev nD) (t : Fin cfg0.N) (k : Fin 1024) (h : Fin 128) :
    (show EReal from iblk m c 5 t (ix2 k h))
      = padW (m ((c : Thread nD τ).loc main_arg3)) (ix2 k h) - padW (m ((c : Thread nD τ).loc main_arg3)) (ix2 k h) := by
  blk_simp [iblk]
  simp only [V, hostOps0, hostOps0_1, hostOps0_2, List.flatten_cons, List.flatten_nil, List.append_nil, List.cons_append, List.nil_append]
  entry_read
  have e : (((cfg0.win 5).blk t).view.emb (ix2 k h) : S1024x128.Idx) = ix2 k h := by
    blk_ext! [idx t]
  show padW _ (((cfg0.win 5).blk t).view.emb (ix2 k h)) - padW _ (((cfg0.win 5).blk t).view.emb (ix2 k h)) = _
  rw [e]

theorem blk6 (c : Dev nD) (t : Fin cfg0.N) (k : Fin 1024) (l : Fin 2048) :
    iblk m c 6 t (ix2 k l) = m ((c : Thread nD τ).loc main_arg6) (ix2 k l) := by
  blk_simp [iblk]
  simp only [V, hostOps0, hostOps0_1, hostOps0_2, List.flatten_cons, List.flatten_nil, List.append_nil, List.cons_append, List.nil_append]
  entry_read
  pointwise
  blk_ext! [idx t]

theorem blk7 (c : Dev nD) (t : Fin cfg0.N) (h : Fin 16) :
    iblk m c 7 t (ix2 0 h) = m ((c : Thread nD τ).loc main_arg4) (ix1 h) := by
  blk_simp [iblk]
  simp only [V, hostOps0, hostOps0_1, hostOps0_2, List.flatten_cons, List.flatten_nil, List.append_nil, List.cons_append, List.nil_append]
  entry_read
  pointwise
  blk_ext! [idx t]

theorem blk8 (c : Dev nD) (t : Fin cfg0.N) (l : Fin 1024) :
    iblk m c 8 t (ix2 0 l) = m ((c : Thread nD τ).loc main_arg5) (ix1 ⟨l.val % 64, by omega⟩) := by
  blk_simp [iblk]
  simp only [V, hostOps0, hostOps0_1, hostOps0_2, List.flatten_cons, List.flatten_nil, List.append_nil, List.cons_append, List.nil_append]
  entry_read
  pointwise
  blk_ext! [idx t]

theorem blk9 (c : Dev nD) (t : Fin cfg0.N) (l : Fin 1024) :
    iblk m c 9 t (ix2 0 l) = m ((c : Thread nD τ).loc main_arg7) (ix1 ⟨l.val % 64, by omega⟩) := by
  blk_simp [iblk]
  simp only [V, hostOps0, hostOps0_1, hostOps0_2, List.flatten_cons, List.flatten_nil, List.append_nil, List.cons_append, List.nil_append]
  entry_read
  pointwise
  blk_ext! [idx t]

end Proof.NewFox

end
-- ==== Proof.NewFoxFinite.lean ====
/- What the precondition on the sample batch's projections says of the gain and of the forget gate's columns. -/
module

public import proofs.«01_k».proof.Proof.FoxFinite
public import proofs.«01_k».proof.Proof.SampleValue
public import proofs.«01_k».proof.Proof.Gen.Pre_finite_forget_sample

@[expose] public section

set_option maxRecDepth 100000

noncomputable section

namespace Cert.Pre_finite_forget_sample.Read

open Idealize.ShloMosaic Cert.Pre_finite_forget_sample Cert.Pre_finite_forget_sample.Gen

theorem finite (x0 : FVec Ideal S512x1024 .f32) (x1 x2 : FVec Ideal S1024 .f32) (x3 : FVec Ideal S1024x2064 .f32)
    (x4 : FVec Ideal S16 .f32) (x5 : FVec Ideal S64 .f32) (x6 : FVec Ideal S1024x2048 .f32) (x7 : FVec Ideal S64 .f32)
    (h : fn (F := Ideal) x0 x1 x2 x3 x4 x5 x6 x7 = fun _ => 1#1) :
    (∀ i, x1 i ≠ ⊤ ∧ x1 i ≠ ⊥) ∧ ∀ (k : Fin 1024) (j : Fin 16), x3 (ix2 k ⟨2048 + j.val, by omega⟩) ≠ ⊤ ∧ x3 (ix2 k ⟨2048 + j.val, by omega⟩) ≠ ⊥ := by
  have e := congrFun h ix0
  unfold fn at e
  have andi_one (a b : BitVec 1) : IntOp.andi a b = 1#1 ↔ a = 1#1 ∧ b = 1#1 := by revert a b; decide
  simp only [andi, andi_one] at e
  obtain ⟨e0, e1⟩ := e
  refine ⟨fun i => Cert.Pre_finite_logits.Read.real_of_one _ _ _ _ e0 i, fun k j => ?_⟩
  have := Cert.Pre_finite_logits.Read.real_of_one _ _ _ _ e1 (ix2 k j)
  revert this
  pointwise
  exact id

end Cert.Pre_finite_forget_sample.Read

end
-- ==== Proof.NewFoxValue.lean ====
/- The arrays the projection call leaves are the reference's keys, values, forget gates, queries and output gates of the same
   arguments, where the gain of the keys' norm and the forget gate's columns are finite. Here over the sample
   batch's 512 rows. -/
module

public import proofs.«01_k».proof.Proof.NewFoxBlocks
public import proofs.«01_k».proof.Proof.NewFoxFinite

@[expose] public section

set_option maxRecDepth 100000

noncomputable section

namespace Proof.NewFox

open Cert.Kernel6Ideal Cert.Kernel6Ideal.Gen Cert.Kernel6Ideal.Value Idealize.ShloMosaic Idealize.ShloMosaic.TcCoe Idealize.SL.Sem Proof.Fox

variable (m : (ℓ : Loc nD τ sig) → Buf (Elt Ideal) ℓ) (c : Dev nD)

/-- The call's arguments. -/
abbrev A0 : FVec Ideal S512x1024 .f32 := m ((c : Thread nD τ).loc main_arg0)
abbrev A1 : FVec Ideal S1024 .f32 := m ((c : Thread nD τ).loc main_arg1)
abbrev A2 : FVec Ideal S1024 .f32 := m ((c : Thread nD τ).loc main_arg2)
abbrev A3 : FVec Ideal S1024x2064 .f32 := m ((c : Thread nD τ).loc main_arg3)
abbrev A4 : FVec Ideal S16 .f32 := m ((c : Thread nD τ).loc main_arg4)
abbrev A5 : FVec Ideal S64 .f32 := m ((c : Thread nD τ).loc main_arg5)
abbrev A6 : FVec Ideal S1024x2048 .f32 := m ((c : Thread nD τ).loc main_arg6)
abbrev A7 : FVec Ideal S64 .f32 := m ((c : Thread nD τ).loc main_arg7)

theorem headRow_eq (p q gain : Fin 1024 → EReal) (g : Fin 64 → EReal) (hp : ∀ l, p l = q l) (hg : ∀ l : Fin 1024, gain l = g ⟨l.val % 64, by omega⟩)
    (l : Fin 1024) : headRow p gain l = headNormed q g l := by
  obtain rfl : p = q := funext hp
  unfold headRow headNormed
  rw [hg]

/-- What the precondition says of them. -/
def Fin1 : Prop := ∀ l : Fin 1024, A1 m c (ix1 l) ≠ ⊤ ∧ A1 m c (ix1 l) ≠ ⊥
def Fin3 : Prop := ∀ (k : Fin 1024) (j : Fin 16), A3 m c (ix2 k ⟨2048 + j.val, by omega⟩) ≠ ⊤ ∧ A3 m c (ix2 k ⟨2048 + j.val, by omega⟩) ≠ ⊥

/-- The normalised streams of a grid point. -/
theorem blk_kvIn (t : Fin cfg0.N) (r : Fin 512) (l : Fin 1024) :
    sIn (iblk m c 0 t) (iblk m c 1 t) (iblk m c 2 t) (iblk m c 3 t) (iblk m c 4 t) (iblk m c 5 t) (iblk m c 6 t) (iblk m c 7 t) (iblk m c 8 t) (iblk m c 9 t) (ix2 r l) = kvIn (A0 m c) (A1 m c) (row t r) l := by
  rw [sIn_apply]
  simp only [blk0, blk1]
  rfl

theorem blk_qIn (t : Fin cfg0.N) (r : Fin 512) (l : Fin 1024) :
    hIn (iblk m c 0 t) (iblk m c 1 t) (iblk m c 2 t) (iblk m c 3 t) (iblk m c 4 t) (iblk m c 5 t) (iblk m c 6 t) (iblk m c 7 t) (iblk m c 8 t) (iblk m c 9 t) (ix2 r l) = qIn (A0 m c) (A2 m c) (row t r) l := by
  rw [hIn_apply]
  simp only [blk0, blk2]
  rfl

/-- Their projections. -/
theorem blk_kvf (t : Fin cfg0.N) (r : Fin 512) (l : Fin 2048) :
    projRow (sIn (iblk m c 0 t) (iblk m c 1 t) (iblk m c 2 t) (iblk m c 3 t) (iblk m c 4 t) (iblk m c 5 t) (iblk m c 6 t) (iblk m c 7 t) (iblk m c 8 t) (iblk m c 9 t)) (iblk m c 3 t) r l = kvf (A0 m c) (A1 m c) (A3 m c) (row t r) ⟨l.val, by omega⟩ := by
  unfold projRow kvf
  refine Finset.sum_congr rfl fun k _ => ?_
  rw [blk_kvIn, blk3]

theorem blk_qg (t : Fin cfg0.N) (r : Fin 512) (l : Fin 2048) :
    projRow (hIn (iblk m c 0 t) (iblk m c 1 t) (iblk m c 2 t) (iblk m c 3 t) (iblk m c 4 t) (iblk m c 5 t) (iblk m c 6 t) (iblk m c 7 t) (iblk m c 8 t) (iblk m c 9 t)) (iblk m c 6 t) r l = qg (A0 m c) (A2 m c) (A6 m c) (row t r) l := by
  unfold projRow qg
  refine Finset.sum_congr rfl fun k _ => ?_
  rw [blk_qIn, blk6]

theorem out10_apply (t : Fin cfg0.N) (r : Fin 512) (l : Fin 1024) :
    out10 (iblk m c 0 t) (iblk m c 1 t) (iblk m c 2 t) (iblk m c 3 t) (iblk m c 4 t) (iblk m c 5 t) (iblk m c 6 t) (iblk m c 7 t) (iblk m c 8 t) (iblk m c 9 t) (ix2 r l) = key (A0 m c) (A1 m c) (A3 m c) (A5 m c) (row t r) l := by
  exact headRow_eq _ _ _ _ (fun l => blk_kvf m c t r ⟨l.val, by omega⟩) (fun l => blk8 m c t l) l

theorem out15_apply (t : Fin cfg0.N) (r : Fin 512) (l : Fin 1024) :
    out15 (iblk m c 0 t) (iblk m c 1 t) (iblk m c 2 t) (iblk m c 3 t) (iblk m c 4 t) (iblk m c 5 t) (iblk m c 6 t) (iblk m c 7 t) (iblk m c 8 t) (iblk m c 9 t) (ix2 r l) = query (A0 m c) (A2 m c) (A6 m c) (A7 m c) (row t r) l := by
  exact congrArg (· * Ideal.ofBits .f32 1040187392#32)
    (headRow_eq _ _ _ _ (fun l => blk_qg m c t r ⟨l.val, by omega⟩) (fun l => blk9 m c t l) l)

theorem val_apply (t : Fin cfg0.N) (r : Fin 512) (l : Fin 1024) :
    projRow (sIn (iblk m c 0 t) (iblk m c 1 t) (iblk m c 2 t) (iblk m c 3 t) (iblk m c 4 t) (iblk m c 5 t) (iblk m c 6 t) (iblk m c 7 t) (iblk m c 8 t) (iblk m c 9 t)) (iblk m c 3 t) r ⟨1024 + l.val, by omega⟩ = val (A0 m c) (A1 m c) (A3 m c) (row t r) l := blk_kvf m c t r _

theorem gate_apply (t : Fin cfg0.N) (r : Fin 512) (l : Fin 1024) :
    projRow (hIn (iblk m c 0 t) (iblk m c 1 t) (iblk m c 2 t) (iblk m c 3 t) (iblk m c 4 t) (iblk m c 5 t) (iblk m c 6 t) (iblk m c 7 t) (iblk m c 8 t) (iblk m c 9 t)) (iblk m c 6 t) r ⟨1024 + l.val, by omega⟩ = gate (A0 m c) (A2 m c) (A6 m c) (row t r) l := blk_qg m c t r _

/-- The rest of the split stream, and of the split columns, is zero. -/
theorem rest_stream (h1 : Fin1 m c) (t : Fin cfg0.N) (r : Fin 512) (k : Fin 1024) :
    sIn (iblk m c 0 t) (iblk m c 1 t) (iblk m c 2 t) (iblk m c 3 t) (iblk m c 4 t) (iblk m c 5 t) (iblk m c 6 t) (iblk m c 7 t) (iblk m c 8 t) (iblk m c 9 t) (ix2 r k) - sIn (iblk m c 0 t) (iblk m c 1 t) (iblk m c 2 t) (iblk m c 3 t) (iblk m c 4 t) (iblk m c 5 t) (iblk m c 6 t) (iblk m c 7 t) (iblk m c 8 t) (iblk m c 9 t) (ix2 r k) = 0 := by
  rw [blk_kvIn]
  exact normed_sub _ _ _ (h1 k)

theorem rest_cols (h3 : Fin3 m c) (t : Fin cfg0.N) (k : Fin 1024) (h : Fin 128) : iblk m c 5 t (ix2 k h) = (0 : EReal) := by
  refine (blk5 m c t k h).trans ?_
  rw [padW_apply]
  split
  · rename_i hh
    exact sub_self_real _ (h3 k ⟨h.val, hh⟩)
  · exact sub_self_real _ ⟨EReal.zero_ne_top, EReal.zero_ne_bot⟩

theorem forget_apply (h1 : Fin1 m c) (h3 : Fin3 m c) (t : Fin cfg0.N) (r : Fin 512) (h : Fin 16) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r h) = forget (A0 m c) (A1 m c) (A3 m c) (A4 m c) (row t r) h := by
  rw [out0_12_eq _ _ _ _ _ _ _ _ _ _ (rest_stream m c h1 t) (rest_cols m c h3 t)]
  unfold forget kvf
  refine congrArg logSig (congrArg₂ (· + ·) (Finset.sum_congr rfl fun k _ => ?_) (blk7 m c t h))
  rw [blk_kvIn]
  refine congrArg (_ * ·) ((blk4 m c t k ⟨h.val, by omega⟩).trans ?_)
  rw [padW_apply, dif_pos h.isLt]

/-- Output 0: the keys. -/
def G10 : Buf (Elt Ideal) ((c : Thread nD τ).loc main_v20_0) := fun i =>
  key (A0 m c) (A1 m c) (A3 m c) (A5 m c) (i 0) (i 1)

theorem flushed10_eq (t : Fin cfg0.N) : (dats m 0 c).flushed 10 t = ((cfg0.win 10).blk t).view.read (Elt Ideal) (G10 m c) := by
  rw [flushed10]
  obtain ⟨-, -, -, -, -, -, -, -, -, -, e, -, -, -, -, -, -⟩ := idx t
  funext y
  have h0 : (y 0).val < 512 := (y 0).isLt
  have h1 : (y 1).val < 1024 := (y 1).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 1024 + 1 * (y 1).val := rfl
  rw [e] at hb0 hb1
  have hx : (cfg0.win 10).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_10 (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) y) = G10 m c (((cfg0.win 10).blk t).view.emb y)
  rw [hx]
  refine ((congrFun (out0_10_eq _ _ _ _ _ _ _ _ _ _) _).trans (out10_apply m c t _ _)).trans ?_
  unfold G10
  refine congrArg₂ (key (A0 m c) (A1 m c) (A3 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered10 (i : S512x1024.Idx) : ∃ t : Fin cfg0.N, (cfg0.win 10).flush t = true ∧ i ∈ ((cfg0.win 10).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, e, -, -, -, -, -, -⟩ := idx ⟨(i 0).val / 512, hN⟩
  refine ⟨⟨(i 0).val / 512, hN⟩, flush0_10 _, ?_⟩
  show i ∈ ((View.whole main_v20_0).slice (win0_10.rect ⟨(i 0).val / 512, hN⟩)).set
  rw [View.set_slice_whole, Rect.mem_set_unit]
  intro a
  have q0 : win0_10.index ⟨(i 0).val / 512, hN⟩ (0 : Fin 2) = (i 0).val / 512 := congrFun e 0
  have q1 : win0_10.index ⟨(i 0).val / 512, hN⟩ (1 : Fin 2) = 0 := congrFun e 1
  match a with
  | ⟨0, _⟩ => show win0_10.index ⟨(i 0).val / 512, hN⟩ (0 : Fin 2) * 512 ≤ (i 0).val ∧ (i 0).val < win0_10.index ⟨(i 0).val / 512, hN⟩ (0 : Fin 2) * 512 + 512; omega
  | ⟨1, _⟩ => show win0_10.index ⟨(i 0).val / 512, hN⟩ (1 : Fin 2) * 1024 ≤ (i 1).val ∧ (i 1).val < win0_10.index ⟨(i 0).val / 512, hN⟩ (1 : Fin 2) * 1024 + 1024; omega

theorem final10 : (dats m 0 c).arrAt 10 cfg0.N = G10 m c :=
  (dats m 0 c).arrAt_eq_of_cover 10 _ (fun t _ => flushed10_eq m c t) (fun i => covered10 i)

/-- Output 1: the values. -/
def G11 : Buf (Elt Ideal) ((c : Thread nD τ).loc main_v20_1) := fun i =>
  val (A0 m c) (A1 m c) (A3 m c) (i 0) (i 1)

theorem flushed11_eq (t : Fin cfg0.N) : (dats m 0 c).flushed 11 t = ((cfg0.win 11).blk t).view.read (Elt Ideal) (G11 m c) := by
  rw [flushed11]
  obtain ⟨-, -, -, -, -, -, -, -, -, -, -, e, -, -, -, -, -⟩ := idx t
  funext y
  have h0 : (y 0).val < 512 := (y 0).isLt
  have h1 : (y 1).val < 1024 := (y 1).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 1024 + 1 * (y 1).val := rfl
  rw [e] at hb0 hb1
  have hx : (cfg0.win 11).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_11 (iblk m c 0 t) (iblk m c 1 t) (iblk m c 2 t) (iblk m c 3 t) (iblk m c 4 t) (iblk m c 5 t) (iblk m c 6 t) (iblk m c 7 t) (iblk m c 8 t) (iblk m c 9 t) ((cfg0.win 11).xinj (grid0.coords t) y) = G11 m c (((cfg0.win 11).blk t).view.emb y)
  rw [hx]
  refine ((out0_11_eq _ _ _ _ _ _ _ _ _ _ _ _).trans (val_apply m c t _ _)).trans ?_
  unfold G11
  refine congrArg₂ (val (A0 m c) (A1 m c) (A3 m c)) (Fin.ext ?_) (Fin.ext ?_)
  · rw [hb0]; show 512 * t.val + (y 0).val = t.val * 512 + 1 * (y 0).val; omega
  · rw [hb1]; show (y 1).val = 0 * 1024 + 1 * (y 1).val; omega

theorem covered11 (i : S512x1024.Idx) : ∃ t : Fin cfg0.N, (cfg0.win 11).flush t = true ∧ i ∈ ((cfg0.win 11).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, -, e, -, -, -, -, -⟩ := idx ⟨(i 0).val / 512, hN⟩
  refine ⟨⟨(i 0).val / 512, hN⟩, flush0_11 _, ?_⟩
  show i ∈ ((View.whole main_v20_1).slice (win0_11.rect ⟨(i 0).val / 512, hN⟩)).set
  rw [View.set_slice_whole, Rect.mem_set_unit]
  intro a
  have q0 : win0_11.index ⟨(i 0).val / 512, hN⟩ (0 : Fin 2) = (i 0).val / 512 := congrFun e 0
  have q1 : win0_11.index ⟨(i 0).val / 512, hN⟩ (1 : Fin 2) = 0 := congrFun e 1
  match a with
  | ⟨0, _⟩ => show win0_11.index ⟨(i 0).val / 512, hN⟩ (0 : Fin 2) * 512 ≤ (i 0).val ∧ (i 0).val < win0_11.index ⟨(i 0).val / 512, hN⟩ (0 : Fin 2) * 512 + 512; omega
  | ⟨1, _⟩ => show win0_11.index ⟨(i 0).val / 512, hN⟩ (1 : Fin 2) * 1024 ≤ (i 1).val ∧ (i 1).val < win0_11.index ⟨(i 0).val / 512, hN⟩ (1 : Fin 2) * 1024 + 1024; omega

theorem final11 : (dats m 0 c).arrAt 11 cfg0.N = G11 m c :=
  (dats m 0 c).arrAt_eq_of_cover 11 _ (fun t _ => flushed11_eq m c t) (fun i => covered11 i)

/-- Output 2: the forget gates. -/
def G12 : Buf (Elt Ideal) ((c : Thread nD τ).loc main_v20_2) := fun i =>
  forget (A0 m c) (A1 m c) (A3 m c) (A4 m c) (i 0) (i 1)

theorem flushed12_eq (f1 : Fin1 m c) (f3 : Fin3 m c) (t : Fin cfg0.N) : (dats m 0 c).flushed 12 t = ((cfg0.win 12).blk t).view.read (Elt Ideal) (G12 m c) := by
  rw [flushed12]
  obtain ⟨-, -, -, -, -, -, -, -, -, -, -, -, e, -, -, -, -⟩ := idx t
  funext y
  have h0 : (y 0).val < 512 := (y 0).isLt
  have h1 : (y 1).val < 16 := (y 1).isLt
  have hb0 : (((cfg0.win 12).blk t).view.emb y 0).val = win0_12.index t (0 : Fin 2) * 512 + 1 * (y 0).val := rfl
  have hb1 : (((cfg0.win 12).blk t).view.emb y 1).val = win0_12.index t (1 : Fin 2) * 16 + 1 * (y 1).val := rfl
  rw [e] at hb0 hb1
  have hx : (cfg0.win 12).xinj (grid0.coords t) y = ix2 (⟨(y 0).val, h0⟩ : Fin 512) (⟨(y 1).val, h1⟩ : Fin 16) := by
    funext a; apply Fin.ext
    match a with
    | ⟨0, _⟩ => rfl
    | ⟨1, _⟩ => rfl
  show out0_12 (iblk m c 0 t) (iblk m c 1 t) (iblk m c 2 t) (iblk m c 3 t) (iblk m c 4 t) (iblk m c 5 t) (iblk m c 6 t) (iblk m c 7 t) (iblk m c 8 t) (iblk m c 9 t) ((cfg0.win 12).xinj (grid0.coords t) y) = G12 m c (((cfg0.win 12).blk t).view.emb y)
  rw [hx]
  refine (forget_apply m c f1 f3 t _ _).trans ?_
  unfold G12
  refine congrArg₂ (forget (A0 m c) (A1 m c) (A3 m c) (A4 m c)) (Fin.ext ?_) (Fin.ext ?_)
  · rw [hb0]; show 512 * t.val + (y 0).val = t.val * 512 + 1 * (y 0).val; omega
  · rw [hb1]; show (y 1).val = 0 * 16 + 1 * (y 1).val; omega

theorem covered12 (i : S512x16.Idx) : ∃ t : Fin cfg0.N, (cfg0.win 12).flush t = true ∧ i ∈ ((cfg0.win 12).blk t).view.set := by
  have hi0 : (i 0).val < 512 := (i 0).isLt
  have hi1 : (i 1).val < 16 := (i 1).isLt
  have hN : (i 0).val / 512 < cfg0.N := by rw [show cfg0.N = 1 from N_0]; omega
  obtain ⟨-, -, -, -, -, -, -, -, -, -, -, -, e, -, -, -, -⟩ := idx ⟨(i 0).val / 512, hN⟩
  refine ⟨⟨(i 0).val / 512, hN⟩, flush0_12 _, ?_⟩
  show i ∈ ((View.whole main_v20_2).slice (win0_12.rect ⟨(i 0).val / 512, hN⟩)).set
  rw [View.set_slice_whole, Rect.mem_set_unit]
  intro a
  have q0 : win0_12.index ⟨(i 0).val / 512, hN⟩ (0 : Fin 2) = (i 0).val / 512 := congrFun e 0
  have q1 : win0_12.index ⟨(i 0).val / 512, hN⟩ (1 : Fin 2) = 0 := congrFun e 1
  match a with
  | ⟨0, _⟩ => show win0_12.index ⟨(i 0).val / 512, hN⟩ (0 : Fin 2) * 512 ≤ (i 0).val ∧ (i 0).val < win0_12.index ⟨(i 0).val / 512, hN⟩ (0 : Fin 2) * 512 + 512; omega
  | ⟨1, _⟩ => show win0_12.index ⟨(i 0).val / 512, hN⟩ (1 : Fin 2) * 16 ≤ (i 1).val ∧ (i 1).val < win0_12.index ⟨(i 0).val / 512, hN⟩ (1 : Fin 2) * 16 + 16; omega

theorem final12 (f1 : Fin1 m c) (f3 : Fin3 m c) : (dats m 0 c).arrAt 12 cfg0.N = G12 m c :=
  (dats m 0 c).arrAt_eq_of_cover 12 _ (fun t _ => flushed12_eq m c f1 f3 t) (fun i => covered12 i)

/-- Output 3: the keys, rounded. -/
def G13 : Buf (Elt Ideal) ((c : Thread nD τ).loc main_v20_3) := fun i =>
  key (A0 m c) (A1 m c) (A3 m c) (A5 m c) (i 0) (i 1)

theorem flushed13_eq (t : Fin cfg0.N) : (dats m 0 c).flushed 13 t = ((cfg0.win 13).blk t).view.read (Elt Ideal) (G13 m c) := by
  rw [flushed13]
  obtain ⟨-, -, -, -, -, -, -, -, -, -, -, -, -, e, -, -, -⟩ := idx t
  funext y
  have h0 : (y 0).val < 512 := (y 0).isLt
  have h1 : (y 1).val < 1024 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 1024 + 1 * (y 1).val := rfl
  rw [e] at hb0 hb1
  have hx : (cfg0.win 13).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_13 (iblk m c 0 t) (iblk m c 1 t) (iblk m c 2 t) (iblk m c 3 t) (iblk m c 4 t) (iblk m c 5 t) (iblk m c 6 t) (iblk m c 7 t) (iblk m c 8 t) (iblk m c 9 t) ((cfg0.win 13).xinj (grid0.coords t) y) = G13 m c (((cfg0.win 13).blk t).view.emb y)
  rw [hx]
  refine ((congrFun (out0_13_eq _ _ _ _ _ _ _ _ _ _) _).trans (out10_apply m c t _ _)).trans ?_
  unfold G13
  refine congrArg₂ (key (A0 m c) (A1 m c) (A3 m c) (A5 m c)) (Fin.ext ?_) (Fin.ext ?_)
  · rw [hb0]; show 512 * t.val + (y 0).val = t.val * 512 + 1 * (y 0).val; omega
  · rw [hb1]; show (y 1).val = 0 * 1024 + 1 * (y 1).val; omega

theorem covered13 (i : S512x1024.Idx) : ∃ t : Fin cfg0.N, (cfg0.win 13).flush t = true ∧ i ∈ ((cfg0.win 13).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, -, -, -, e, -, -, -⟩ := idx ⟨(i 0).val / 512, hN⟩
  refine ⟨⟨(i 0).val / 512, hN⟩, flush0_13 _, ?_⟩
  show i ∈ ((View.whole main_v20_3).slice (win0_13.rect ⟨(i 0).val / 512, hN⟩)).set
  rw [View.set_slice_whole, Rect.mem_set_unit]
  intro a
  have q0 : win0_13.index ⟨(i 0).val / 512, hN⟩ (0 : Fin 2) = (i 0).val / 512 := congrFun e 0
  have q1 : win0_13.index ⟨(i 0).val / 512, hN⟩ (1 : Fin 2) = 0 := congrFun e 1
  match a with
  | ⟨0, _⟩ => show win0_13.index ⟨(i 0).val / 512, hN⟩ (0 : Fin 2) * 512 ≤ (i 0).val ∧ (i 0).val < win0_13.index ⟨(i 0).val / 512, hN⟩ (0 : Fin 2) * 512 + 512; omega
  | ⟨1, _⟩ => show win0_13.index ⟨(i 0).val / 512, hN⟩ (1 : Fin 2) * 1024 ≤ (i 1).val ∧ (i 1).val < win0_13.index ⟨(i 0).val / 512, hN⟩ (1 : Fin 2) * 1024 + 1024; omega

theorem final13 : (dats m 0 c).arrAt 13 cfg0.N = G13 m c :=
  (dats m 0 c).arrAt_eq_of_cover 13 _ (fun t _ => flushed13_eq m c t) (fun i => covered13 i)

/-- Output 4: the values, rounded. -/
def G14 : Buf (Elt Ideal) ((c : Thread nD τ).loc main_v20_4) := fun i =>
  val (A0 m c) (A1 m c) (A3 m c) (i 0) (i 1)

theorem flushed14_eq (t : Fin cfg0.N) : (dats m 0 c).flushed 14 t = ((cfg0.win 14).blk t).view.read (Elt Ideal) (G14 m c) := by
  rw [flushed14]
  obtain ⟨-, -, -, -, -, -, -, -, -, -, -, -, -, -, e, -, -⟩ := idx t
  funext y
  have h0 : (y 0).val < 512 := (y 0).isLt
  have h1 : (y 1).val < 1024 := (y 1).isLt
  have hb0 : (((cfg0.win 14).blk t).view.emb y 0).val = win0_14.index t (0 : Fin 2) * 512 + 1 * (y 0).val := rfl
  have hb1 : (((cfg0.win 14).blk t).view.emb y 1).val = win0_14.index t (1 : Fin 2) * 1024 + 1 * (y 1).val := rfl
  rw [e] at hb0 hb1
  have hx : (cfg0.win 14).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_14 (iblk m c 0 t) (iblk m c 1 t) (iblk m c 2 t) (iblk m c 3 t) (iblk m c 4 t) (iblk m c 5 t) (iblk m c 6 t) (iblk m c 7 t) (iblk m c 8 t) (iblk m c 9 t) ((cfg0.win 14).xinj (grid0.coords t) y) = G14 m c (((cfg0.win 14).blk t).view.emb y)
  rw [hx]
  refine ((out0_14_eq _ _ _ _ _ _ _ _ _ _ _ _).trans (val_apply m c t _ _)).trans ?_
  unfold G14
  refine congrArg₂ (val (A0 m c) (A1 m c) (A3 m c)) (Fin.ext ?_) (Fin.ext ?_)
  · rw [hb0]; show 512 * t.val + (y 0).val = t.val * 512 + 1 * (y 0).val; omega
  · rw [hb1]; show (y 1).val = 0 * 1024 + 1 * (y 1).val; omega

theorem covered14 (i : S512x1024.Idx) : ∃ t : Fin cfg0.N, (cfg0.win 14).flush t = true ∧ i ∈ ((cfg0.win 14).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, -, -, -, -, e, -, -⟩ := idx ⟨(i 0).val / 512, hN⟩
  refine ⟨⟨(i 0).val / 512, hN⟩, flush0_14 _, ?_⟩
  show i ∈ ((View.whole main_v20_4).slice (win0_14.rect ⟨(i 0).val / 512, hN⟩)).set
  rw [View.set_slice_whole, Rect.mem_set_unit]
  intro a
  have q0 : win0_14.index ⟨(i 0).val / 512, hN⟩ (0 : Fin 2) = (i 0).val / 512 := congrFun e 0
  have q1 : win0_14.index ⟨(i 0).val / 512, hN⟩ (1 : Fin 2) = 0 := congrFun e 1
  match a with
  | ⟨0, _⟩ => show win0_14.index ⟨(i 0).val / 512, hN⟩ (0 : Fin 2) * 512 ≤ (i 0).val ∧ (i 0).val < win0_14.index ⟨(i 0).val / 512, hN⟩ (0 : Fin 2) * 512 + 512; omega
  | ⟨1, _⟩ => show win0_14.index ⟨(i 0).val / 512, hN⟩ (1 : Fin 2) * 1024 ≤ (i 1).val ∧ (i 1).val < win0_14.index ⟨(i 0).val / 512, hN⟩ (1 : Fin 2) * 1024 + 1024; omega

theorem final14 : (dats m 0 c).arrAt 14 cfg0.N = G14 m c :=
  (dats m 0 c).arrAt_eq_of_cover 14 _ (fun t _ => flushed14_eq m c t) (fun i => covered14 i)

/-- Output 5: the queries. -/
def G15 : Buf (Elt Ideal) ((c : Thread nD τ).loc main_v20_5) := fun i =>
  query (A0 m c) (A2 m c) (A6 m c) (A7 m c) (i 0) (i 1)

theorem flushed15_eq (t : Fin cfg0.N) : (dats m 0 c).flushed 15 t = ((cfg0.win 15).blk t).view.read (Elt Ideal) (G15 m c) := by
  rw [flushed15]
  obtain ⟨-, -, -, -, -, -, -, -, -, -, -, -, -, -, -, e, -⟩ := idx t
  funext y
  have h0 : (y 0).val < 512 := (y 0).isLt
  have h1 : (y 1).val < 1024 := (y 1).isLt
  have hb0 : (((cfg0.win 15).blk t).view.emb y 0).val = win0_15.index t (0 : Fin 2) * 512 + 1 * (y 0).val := rfl
  have hb1 : (((cfg0.win 15).blk t).view.emb y 1).val = win0_15.index t (1 : Fin 2) * 1024 + 1 * (y 1).val := rfl
  rw [e] at hb0 hb1
  have hx : (cfg0.win 15).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_15 (iblk m c 0 t) (iblk m c 1 t) (iblk m c 2 t) (iblk m c 3 t) (iblk m c 4 t) (iblk m c 5 t) (iblk m c 6 t) (iblk m c 7 t) (iblk m c 8 t) (iblk m c 9 t) ((cfg0.win 15).xinj (grid0.coords t) y) = G15 m c (((cfg0.win 15).blk t).view.emb y)
  rw [hx]
  refine ((congrFun (out0_15_eq _ _ _ _ _ _ _ _ _ _) _).trans (out15_apply m c t _ _)).trans ?_
  unfold G15
  refine congrArg₂ (query (A0 m c) (A2 m c) (A6 m c) (A7 m c)) (Fin.ext ?_) (Fin.ext ?_)
  · rw [hb0]; show 512 * t.val + (y 0).val = t.val * 512 + 1 * (y 0).val; omega
  · rw [hb1]; show (y 1).val = 0 * 1024 + 1 * (y 1).val; omega

theorem covered15 (i : S512x1024.Idx) : ∃ t : Fin cfg0.N, (cfg0.win 15).flush t = true ∧ i ∈ ((cfg0.win 15).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, -, -, -, -, -, e, -⟩ := idx ⟨(i 0).val / 512, hN⟩
  refine ⟨⟨(i 0).val / 512, hN⟩, flush0_15 _, ?_⟩
  show i ∈ ((View.whole main_v20_5).slice (win0_15.rect ⟨(i 0).val / 512, hN⟩)).set
  rw [View.set_slice_whole, Rect.mem_set_unit]
  intro a
  have q0 : win0_15.index ⟨(i 0).val / 512, hN⟩ (0 : Fin 2) = (i 0).val / 512 := congrFun e 0
  have q1 : win0_15.index ⟨(i 0).val / 512, hN⟩ (1 : Fin 2) = 0 := congrFun e 1
  match a with
  | ⟨0, _⟩ => show win0_15.index ⟨(i 0).val / 512, hN⟩ (0 : Fin 2) * 512 ≤ (i 0).val ∧ (i 0).val < win0_15.index ⟨(i 0).val / 512, hN⟩ (0 : Fin 2) * 512 + 512; omega
  | ⟨1, _⟩ => show win0_15.index ⟨(i 0).val / 512, hN⟩ (1 : Fin 2) * 1024 ≤ (i 1).val ∧ (i 1).val < win0_15.index ⟨(i 0).val / 512, hN⟩ (1 : Fin 2) * 1024 + 1024; omega

theorem final15 : (dats m 0 c).arrAt 15 cfg0.N = G15 m c :=
  (dats m 0 c).arrAt_eq_of_cover 15 _ (fun t _ => flushed15_eq m c t) (fun i => covered15 i)

/-- Output 6: the output gates. -/
def G16 : Buf (Elt Ideal) ((c : Thread nD τ).loc main_v20_6) := fun i =>
  gate (A0 m c) (A2 m c) (A6 m c) (i 0) (i 1)

theorem flushed16_eq (t : Fin cfg0.N) : (dats m 0 c).flushed 16 t = ((cfg0.win 16).blk t).view.read (Elt Ideal) (G16 m c) := by
  rw [flushed16]
  obtain ⟨-, -, -, -, -, -, -, -, -, -, -, -, -, -, -, -, e⟩ := idx t
  funext y
  have h0 : (y 0).val < 512 := (y 0).isLt
  have h1 : (y 1).val < 1024 := (y 1).isLt
  have hb0 : (((cfg0.win 16).blk t).view.emb y 0).val = win0_16.index t (0 : Fin 2) * 512 + 1 * (y 0).val := rfl
  have hb1 : (((cfg0.win 16).blk t).view.emb y 1).val = win0_16.index t (1 : Fin 2) * 1024 + 1 * (y 1).val := rfl
  rw [e] at hb0 hb1
  have hx : (cfg0.win 16).xinj (grid0.coords t) y = ix2 (⟨(y 0).val, h0⟩ : Fin 512) (⟨(y 1).val, h1⟩ : Fin 1024) := by
    funext a; apply Fin.ext
    match a with
    | ⟨0, _⟩ => rfl
    | ⟨1, _⟩ => rfl
  show out0_16 (iblk m c 0 t) (iblk m c 1 t) (iblk m c 2 t) (iblk m c 3 t) (iblk m c 4 t) (iblk m c 5 t) (iblk m c 6 t) (iblk m c 7 t) (iblk m c 8 t) (iblk m c 9 t) ((cfg0.win 16).xinj (grid0.coords t) y) = G16 m c (((cfg0.win 16).blk t).view.emb y)
  rw [hx]
  refine ((out0_16_eq _ _ _ _ _ _ _ _ _ _ _ _).trans (gate_apply m c t _ _)).trans ?_
  unfold G16
  refine congrArg₂ (gate (A0 m c) (A2 m c) (A6 m c)) (Fin.ext ?_) (Fin.ext ?_)
  · rw [hb0]; show 512 * t.val + (y 0).val = t.val * 512 + 1 * (y 0).val; omega
  · rw [hb1]; show (y 1).val = 0 * 1024 + 1 * (y 1).val; omega

theorem covered16 (i : S512x1024.Idx) : ∃ t : Fin cfg0.N, (cfg0.win 16).flush t = true ∧ i ∈ ((cfg0.win 16).blk t).view.set := by
  have hi0 : (i 0).val < 512 := (i 0).isLt
  have hi1 : (i 1).val < 1024 := (i 1).isLt
  have hN : (i 0).val / 512 < cfg0.N := by rw [show cfg0.N = 1 from N_0]; omega
  obtain ⟨-, -, -, -, -, -, -, -, -, -, -, -, -, -, -, -, e⟩ := idx ⟨(i 0).val / 512, hN⟩
  refine ⟨⟨(i 0).val / 512, hN⟩, flush0_16 _, ?_⟩
  show i ∈ ((View.whole main_v20_6).slice (win0_16.rect ⟨(i 0).val / 512, hN⟩)).set
  rw [View.set_slice_whole, Rect.mem_set_unit]
  intro a
  have q0 : win0_16.index ⟨(i 0).val / 512, hN⟩ (0 : Fin 2) = (i 0).val / 512 := congrFun e 0
  have q1 : win0_16.index ⟨(i 0).val / 512, hN⟩ (1 : Fin 2) = 0 := congrFun e 1
  match a with
  | ⟨0, _⟩ => show win0_16.index ⟨(i 0).val / 512, hN⟩ (0 : Fin 2) * 512 ≤ (i 0).val ∧ (i 0).val < win0_16.index ⟨(i 0).val / 512, hN⟩ (0 : Fin 2) * 512 + 512; omega
  | ⟨1, _⟩ => show win0_16.index ⟨(i 0).val / 512, hN⟩ (1 : Fin 2) * 1024 ≤ (i 1).val ∧ (i 1).val < win0_16.index ⟨(i 0).val / 512, hN⟩ (1 : Fin 2) * 1024 + 1024; omega

theorem final16 : (dats m 0 c).arrAt 16 cfg0.N = G16 m c :=
  (dats m 0 c).arrAt_eq_of_cover 16 _ (fun t _ => flushed16_eq m c t) (fun i => covered16 i)

/-! The arrays are the reference's results on the same arguments. -/

theorem value10 : (G10 m c : S512x1024.Idx → EReal) = Cert.Reference6Ideal.Read.val_main_v31 (F := Ideal) (A0 m c) (A1 m c) (A3 m c) (A5 m c) := by
  funext y
  obtain ⟨r, l, rfl⟩ : ∃ (r : Fin 512) (l : Fin 1024), y = ix2 r l := ⟨y 0, y 1, eq_ix2 y⟩
  exact (ref_key (A0 m c) (A1 m c) (A3 m c) (A5 m c) r l).symm

theorem value11 : (G11 m c : S512x1024.Idx → EReal) = Cert.Reference6Ideal.Read.val_main_v15 (F := Ideal) (A0 m c) (A1 m c) (A3 m c) := by
  funext y
  obtain ⟨r, l, rfl⟩ : ∃ (r : Fin 512) (l : Fin 1024), y = ix2 r l := ⟨y 0, y 1, eq_ix2 y⟩
  exact (ref_val (A0 m c) (A1 m c) (A3 m c) r l).symm

theorem value12 : (G12 m c : S512x16.Idx → EReal) = Cert.Reference6Ideal.Read.val_main_v35 (F := Ideal) (A0 m c) (A1 m c) (A3 m c) (A4 m c) := by
  funext y
  obtain ⟨r, l, rfl⟩ : ∃ (r : Fin 512) (l : Fin 16), y = ix2 r l := ⟨y 0, y 1, eq_ix2 y⟩
  exact (ref_forget (A0 m c) (A1 m c) (A3 m c) (A4 m c) r l).symm

theorem value13 : (G13 m c : S512x1024.Idx → EReal) = Cert.Reference6Ideal.Read.val_main_v69 (F := Ideal) (A0 m c) (A1 m c) (A3 m c) (A5 m c) := by
  funext y
  obtain ⟨r, l, rfl⟩ : ∃ (r : Fin 512) (l : Fin 1024), y = ix2 r l := ⟨y 0, y 1, eq_ix2 y⟩
  exact (ref_key (A0 m c) (A1 m c) (A3 m c) (A5 m c) r l).symm

theorem value14 : (G14 m c : S512x1024.Idx → EReal) = Cert.Reference6Ideal.Read.val_main_v70 (F := Ideal) (A0 m c) (A1 m c) (A3 m c) := by
  funext y
  obtain ⟨r, l, rfl⟩ : ∃ (r : Fin 512) (l : Fin 1024), y = ix2 r l := ⟨y 0, y 1, eq_ix2 y⟩
  exact (ref_val (A0 m c) (A1 m c) (A3 m c) r l).symm

theorem value15 : (G15 m c : S512x1024.Idx → EReal) = Cert.Reference6Ideal.Read.val_main_v71 (F := Ideal) (A0 m c) (A2 m c) (A6 m c) (A7 m c) := by
  funext y
  obtain ⟨r, l, rfl⟩ : ∃ (r : Fin 512) (l : Fin 1024), y = ix2 r l := ⟨y 0, y 1, eq_ix2 y⟩
  exact (ref_query (A0 m c) (A2 m c) (A6 m c) (A7 m c) r l).symm

theorem value16 : (G16 m c : S512x1024.Idx → EReal) = Cert.Reference6Ideal.Read.val_main_v51 (F := Ideal) (A0 m c) (A2 m c) (A6 m c) := by
  funext y
  obtain ⟨r, l, rfl⟩ : ∃ (r : Fin 512) (l : Fin 1024), y = ix2 r l := ⟨y 0, y 1, eq_ix2 y⟩
  exact (ref_gate (A0 m c) (A2 m c) (A6 m c) r l).symm

end Proof.NewFox

end
-- ==== Proof.MemStep.lean ====
/- The sample's mLSTM for one head and for one pair of heads, as the kernel's body computes it: the operations of the
   first pair's payloads, as functions of the blocks that it loads. Every other pair's payloads are these at its blocks. -/
module

public import proofs.«01_k».proof.Proof.Gen.Kernel7Ideal.Value

@[expose] public section

noncomputable section

namespace Cert.Kernel7Ideal.Step

open Cert.Kernel7Ideal Cert.Kernel7Ideal.Gen Idealize.ShloMosaic

variable {F : FTy → Type} [FloatOps F] [Named F]

/-- The lanes of a head: the lower half of its pair's for an even head, the upper half for an odd one. -/
def half (h : Fin 8) : IVec S1x128 1 :=
  match h.val % 2 with
  | 0 => k0_pay14
  | _ => xori k0_pay14 (constantI S1x128 1 1#1)

/-- The pair of a head. -/
abbrev pair (h : Fin 8) : Fin 4 := ⟨h.val / 2, by omega⟩

/-- A pair's lanes of the queries or keys, and a head's lanes of the values, output gates and gains. -/
def lanesP {e : EltTy} (x : Vec F S1x16x512 e) (p : Fin 4) : Vec F S1x16x128 e :=
  View.ld x (Rect.unit ![0, 0, 128 * p.val] ![1, 16, 128] (by intro a; have := p.isLt; fin_cases a <;> simp [S1x16x512] <;> omega))

def lanesH {e : EltTy} (x : Vec F S1x16x1024 e) (h : Fin 8) : Vec F S1x16x128 e :=
  View.ld x (Rect.unit ![0, 0, 128 * h.val] ![1, 16, 128] (by intro a; have := h.isLt; fin_cases a <;> simp [S1x16x1024] <;> omega))

def gainH (x : Vec F S1x1024 .f32) (h : Fin 8) : Vec F S1x128 .f32 :=
  View.ld x (Rect.unit ![0, 128 * h.val] ![1, 128] (by intro a; have := h.isLt; fin_cases a <;> simp [S1x1024] <;> omega))

/-- A pair's part of the state and of the normaliser, and a head's part of the running maximum. -/
def partC (x : Vec F S4x128x128 .f32) (p : Fin 4) : Vec F S1x128x128 .f32 :=
  View.ld x (Rect.unit ![p.val, 0, 0] ![1, 128, 128] (by intro a; have := p.isLt; fin_cases a <;> simp [S4x128x128] <;> omega))

def partN (x : Vec F S4x1x128 .f32) (p : Fin 4) : Vec F S1x1x128 .f32 :=
  View.ld x (Rect.unit ![p.val, 0, 0] ![1, 1, 128] (by intro a; have := p.isLt; fin_cases a <;> simp [S4x1x128] <;> omega))

def partM (x : Vec F S8x1x128 .f32) (h : Fin 8) : Vec F S1x1x128 .f32 :=
  View.ld x (Rect.unit ![h.val, 0, 0] ![1, 1, 128] (by intro a; have := h.isLt; fin_cases a <;> simp [S8x1x128] <;> omega))

/-- A head's input and forget gates, as a column and as a row. -/
def colOf (x : FVec F S16x8 .f32) (h : Fin 8) : FVec F S16x1 .f32 :=
  extractStridedSlice S16x1 ![0, h.val] x (by refine ⟨rfl, fun a => ?_⟩; have := h.isLt; fin_cases a <;> simp [S16x8] <;> omega)

def rowOf (x : FVec F S8x16 .f32) (h : Fin 8) : FVec F S1x16 .f32 :=
  extractStridedSlice S1x16 ![h.val, 0] x (by refine ⟨rfl, fun a => ?_⟩; have := h.isLt; fin_cases a <;> simp [S8x16] <;> omega)

/-- The cumulative forget gates, as a column and as a row. -/
def bcol (r : FVec F S1x16 .f32) : FVec F S16x1 .f32 :=
  shapeCast S16x1 (multiReduction .add [1] S16 (select k0_pay13 (broadcastTo S16x16 (shapeCast S1x16 r shapeCasts_S1x16_S1x16) broadcasts_S1x16_S16x16) (broadcast S16x16 (Scalar.ofBits .f32 0x00000000#32))) 0x00000000#32 reduces_S16x16_S16 (.inl rfl) rfl) shapeCasts_S16_S16x1

def brow (cc : FVec F S16x1 .f32) : FVec F S1x16 .f32 :=
  shapeCast S1x16 (multiReduction .add [0] S16 (select (cmpi .sle (iota .tc S16x16 32 [0] iota_S16x16_d0_w32) (iota .tc S16x16 32 [1] iota_S16x16_d1_w32)) (broadcastTo S16x16 (shapeCast S16x1 cc shapeCasts_S16x1_S16x1) broadcasts_S16x1_S16x16) (broadcast S16x16 (Scalar.ofBits .f32 0x00000000#32))) 0x00000000#32 reduces_S16x16_S16_2 (.inl rfl) rfl) shapeCasts_S16_S1x16

/-- The log weights of the tokens of the chunk, none for a later one. -/
def dmat (fc : FVec F S16x1 .f32) (ir fr : FVec F S1x16 .f32) : FVec F S16x16 .f32 :=
  select k0_pay13 (addf (subf (broadcastTo S16x16 (bcol fr) broadcasts_S16x1_S16x16) (broadcastTo S16x16 (brow fc) broadcasts_S1x16_S16x16)) (broadcastTo S16x16 ir broadcasts_S1x16_S16x16)) (broadcast S16x16 (Named.named κ "mask" 0xF149F2CA#32))

/-- The log weight of the state. -/
def inter (fr : FVec F S1x16 .f32) (m : FVec F S1x1 .f32) : FVec F S16x1 .f32 :=
  addf (bcol fr) (broadcastTo S16x1 m broadcasts_S1x1_S16x1)

def mt (fc : FVec F S16x1 .f32) (ir fr : FVec F S1x16 .f32) (m : FVec F S1x1 .f32) : FVec F S16x1 .f32 :=
  maximumf (inter fr m) (shapeCast S16x1 (multiReduction .maximumf [1] S16 (dmat fc ir fr) 0xFF800000#32 reduces_S16x16_S16 (.inl rfl) rfl) shapeCasts_S16_S16x1)

def gt (fc : FVec F S16x1 .f32) (ir fr : FVec F S1x16 .f32) (m : FVec F S1x1 .f32) : FVec F S16x1 .f32 :=
  exp (subf (inter fr m) (mt fc ir fr m))

def qm (hf : IVec S1x128 1) (q : FVec F S16x128 .bf16) : FVec F S16x128 .bf16 :=
  select (broadcastTo S16x128 (shapeCast S1x128 hf shapeCasts_S1x128_S1x128) broadcasts_S1x128_S16x128) q (broadcast S16x128 (Scalar.ofBits .bf16 0x0000#16))

def sc (hf : IVec S1x128 1) (q k : FVec F S16x128 .bf16) (fc : FVec F S16x1 .f32) (ir fr : FVec F S1x16 .f32) (m : FVec F S1x1 .f32) : FVec F S16x16 .f32 :=
  mulf (matmul dot_S16x128_S16x128_S16x16_1_1_0_0_n_n none (qm hf q) k (constant S16x16 .f32 0x00000000#32))
    (select k0_pay13 (exp (subf (dmat fc ir fr) (broadcastTo S16x16 (mt fc ir fr m) broadcasts_S16x1_S16x16))) (broadcast S16x16 (Scalar.ofBits .f32 0x00000000#32)))

/-- The weighted values over the weighted keys. -/
def num (hf : IVec S1x128 1) (q k : FVec F S16x128 .bf16) (v : FVec F S16x128 .bf16) (c : FVec F S128x128 .f32) (fc : FVec F S16x1 .f32) (ir fr : FVec F S1x16 .f32) (m : FVec F S1x1 .f32) : FVec F S16x128 .f32 :=
  addf (mulf (broadcastTo S16x128 (gt fc ir fr m) broadcasts_S16x1_S16x128) (matmul dot_S16x128_S128x128_S16x128_1_0_0_1_n_n none (qm hf q) (truncf .bf16 c bitsLt_bf16_f32) (constant S16x128 .f32 0x00000000#32)))
    (matmul dot_S16x16_S16x128_S16x128_1_0_0_1_n_n none (truncf .bf16 (sc hf q k fc ir fr m) bitsLt_bf16_f32) v (constant S16x128 .f32 0x00000000#32))

def den (hf : IVec S1x128 1) (q k : FVec F S16x128 .bf16) (n : FVec F S1x128 .f32) (fc : FVec F S16x1 .f32) (ir fr : FVec F S1x16 .f32) (m : FVec F S1x1 .f32) : FVec F S16x1 .f32 :=
  addf (mulf (gt fc ir fr m) (shapeCast S16x1 (multiReduction .add [1] S16 (select (broadcastTo S16x128 (shapeCast S1x128 hf shapeCasts_S1x128_S1x128) broadcasts_S1x128_S16x128) (mulf (extf .f32 q bitsLt_bf16_f32) (broadcastTo S16x128 n broadcasts_S1x128_S16x128)) (broadcast S16x128 (Scalar.ofBits .f32 0x00000000#32))) 0x00000000#32 reduces_S16x128_S16 (.inl rfl) rfl) shapeCasts_S16_S16x1))
    (shapeCast S16x1 (multiReduction .add [1] S16 (sc hf q k fc ir fr m) 0x00000000#32 reduces_S16x16_S16 (.inl rfl) rfl) shapeCasts_S16_S16x1)

def quot (hf : IVec S1x128 1) (q k : FVec F S16x128 .bf16) (v : FVec F S16x128 .bf16) (c : FVec F S128x128 .f32) (n : FVec F S1x128 .f32) (fc : FVec F S16x1 .f32) (ir fr : FVec F S1x16 .f32) (m : FVec F S1x1 .f32) : FVec F S16x128 .f32 :=
  divf (num hf q k v c fc ir fr m) (broadcastTo S16x128 (maximumf (absf (den hf q k n fc ir fr m)) (exp (subf (broadcast S16x1 (Scalar.ofBits .f32 0x00000000#32)) (mt fc ir fr m)))) broadcasts_S16x1_S16x128)

/-- The norm, the gain and the output gate. -/
def normed (x : FVec F S16x128 .f32) (g : FVec F S1x128 .f32) (o : Vec F S1x16x128 .f32) : FVec F S1x16x128 .bf16 :=
  shapeCast S1x16x128 (truncf .bf16 (mulf (mulf (mulf x (broadcastTo S16x128 (rsqrt (addf (divf (shapeCast S16x1 (multiReduction .add [1] S16 (mulf x x) 0x00000000#32 reduces_S16x128_S16 (.inl rfl) rfl) shapeCasts_S16_S16x1) (broadcast S16x1 (Scalar.ofBits .f32 0x43000000#32))) (broadcast S16x1 (Scalar.ofBits .f32 0x358637BD#32)))) broadcasts_S16x1_S16x128))
      (broadcastTo S16x128 (shapeCast S1x128 g shapeCasts_S1x128_S1x128) broadcasts_S1x128_S16x128))
    (divf (broadcast S16x128 (Scalar.ofBits .f32 0x3F800000#32)) (addf (broadcast S16x128 (Scalar.ofBits .f32 0x3F800000#32)) (exp (subf (broadcast S16x128 (Scalar.ofBits .f32 0x00000000#32)) (shapeCast S16x128 o shapeCasts_S1x16x128_S16x128)))))) bitsLt_bf16_f32) shapeCasts_S16x128_S1x16x128

/-- The whole chunk's forget gate, and the new state's log weights. -/
def blast (fr : FVec F S1x16 .f32) : FVec F S1x1 .f32 :=
  shapeCast S1x1 (multiReduction .add [1] S1 fr 0x00000000#32 reduces_S1x16_S1 (.inl rfl) rfl) shapeCasts_S1_S1x1

def wcol (ic : FVec F S16x1 .f32) (fr : FVec F S1x16 .f32) : FVec F S16x1 .f32 :=
  addf (subf (broadcastTo S16x1 (blast fr) broadcasts_S1x1_S16x1) (bcol fr)) ic

def mnew (ic : FVec F S16x1 .f32) (fr : FVec F S1x16 .f32) (m : FVec F S1x1 .f32) : FVec F S1x1 .f32 :=
  maximumf (addf (blast fr) m) (shapeCast S1x1 (multiReduction .maximumf [0] S1 (wcol ic fr) 0xFF800000#32 reduces_S16x1_S1 (.inl rfl) rfl) shapeCasts_S1_S1x1)

def gc (ic : FVec F S16x1 .f32) (fr : FVec F S1x16 .f32) (m : FVec F S1x1 .f32) : FVec F S1x1 .f32 :=
  exp (subf (addf (blast fr) m) (mnew ic fr m))

def ws (ic : FVec F S16x1 .f32) (fr : FVec F S1x16 .f32) (m : FVec F S1x1 .f32) : FVec F S16x1 .f32 :=
  exp (subf (wcol ic fr) (broadcastTo S16x1 (mnew ic fr m) broadcasts_S1x1_S16x1))

/-- The keys turned, and the new values weighted over them. -/
def kt (k : FVec F S16x128 .bf16) : FVec F S128x16 .bf16 :=
  truncf .bf16 (matmul dot_S128x128_S16x128_S128x16_1_1_0_0_n_n none (k0_pay16 (F := F)) k (constant S128x16 .f32 0x00000000#32)) bitsLt_bf16_f32

def upd (k v : FVec F S16x128 .bf16) (w : FVec F S16x1 .f32) : FVec F S128x128 .f32 :=
  matmul dot_S128x16_S16x128_S128x128_1_0_0_1_n_n none (kt k) (truncf .bf16 (mulf (broadcastTo S16x128 w broadcasts_S16x1_S16x128) (extf .f32 v bitsLt_bf16_f32)) bitsLt_bf16_f32) (constant S128x128 .f32 0x00000000#32)

/-- The pair's new state and normaliser from its heads' scales and weights. -/
def stepC (k v0 v1 : FVec F S16x128 .bf16) (c : FVec F S128x128 .f32) (g0 g1 : FVec F S1x1 .f32) (w0 w1 : FVec F S16x1 .f32) : FVec F S1x128x128 .f32 :=
  shapeCast S1x128x128 (addf (mulf (broadcastTo S128x128 (select k0_pay15 (broadcastTo S128x1 (shapeCast S1x1 g0 shapeCasts_S1x1_S1x1) broadcasts_S1x1_S128x1) (broadcastTo S128x1 (shapeCast S1x1 g1 shapeCasts_S1x1_S1x1) broadcasts_S1x1_S128x1)) broadcasts_S128x1_S128x128) c)
    (select (broadcastTo S128x128 (shapeCast S128x1 k0_pay15 shapeCasts_S128x1_S128x1) broadcasts_S128x1_S128x128) (upd k v0 w0) (upd k v1 w1))) shapeCasts_S128x128_S1x128x128

def stepN (k : FVec F S16x128 .bf16) (n : FVec F S1x128 .f32) (g0 g1 : FVec F S1x1 .f32) (w0 w1 : FVec F S16x1 .f32) : FVec F S1x1x128 .f32 :=
  shapeCast S1x1x128 (addf (mulf (select k0_pay14 (broadcastTo S1x128 (shapeCast S1x1 g0 shapeCasts_S1x1_S1x1) broadcasts_S1x1_S1x128) (broadcastTo S1x128 (shapeCast S1x1 g1 shapeCasts_S1x1_S1x1) broadcasts_S1x1_S1x128)) n)
    (shapeCast S1x128 (multiReduction .add [0] S128 (mulf (select (broadcastTo S16x128 (shapeCast S1x128 k0_pay14 shapeCasts_S1x128_S1x128) broadcasts_S1x128_S16x128) (broadcastTo S16x128 (shapeCast S16x1 w0 shapeCasts_S16x1_S16x1) broadcasts_S16x1_S16x128) (broadcastTo S16x128 (shapeCast S16x1 w1 shapeCasts_S16x1_S16x1) broadcasts_S16x1_S16x128)) (extf .f32 k bitsLt_bf16_f32)) 0x00000000#32 reduces_S16x128_S128 (.inl rfl) rfl) shapeCasts_S128_S1x128)) shapeCasts_S1x128_S1x1x128

/-! ## All heads at once -/

variable (x0 x1 : Vec F S1x16x512 .bf16) (x2 : Vec F S1x16x1024 .bf16) (x3 : Vec F S1x16x1024 .f32)
  (x4 x5 : Vec F S1x16x16 .f32) (x6 : Vec F S1x16 .f32) (x7 : Vec F S16x1 .f32) (x8 : Vec F S1x1024 .f32)
  (x9 : Vec F S1x4x128x128 .f32) (x10 : Vec F S1x4x1x128 .f32) (x11 : Vec F S1x8x1x128 .f32)

def licH (h : Fin 8) : FVec F S16x1 .f32 := colOf (k0_pay9 x4 x6) h
def lfcH (h : Fin 8) : FVec F S16x1 .f32 := colOf (k0_pay10 x4 x6) h
def lirH (h : Fin 8) : FVec F S1x16 .f32 := rowOf (k0_pay11 x5 x7) h
def lfrH (h : Fin 8) : FVec F S1x16 .f32 := rowOf (k0_pay12 (k0_pay8 x5 x7)) h
def mH (h : Fin 8) : FVec F S1x1 .f32 := k0_pay27 (partM (k0_pay6 x11) h)
def qH (p : Fin 4) : FVec F S16x128 .bf16 := shapeCast S16x128 (lanesP x0 p) shapeCasts_S1x16x128_S16x128
def vH (h : Fin 8) : FVec F S16x128 .bf16 := shapeCast S16x128 (lanesH x2 h) shapeCasts_S1x16x128_S16x128
def cP (p : Fin 4) : FVec F S128x128 .f32 := shapeCast S128x128 (partC (k0_pay4 x9) p) shapeCasts_S1x128x128_S128x128
def nP (p : Fin 4) : FVec F S1x128 .f32 := shapeCast S1x128 (partN (k0_pay5 x10) p) shapeCasts_S1x1x128_S1x128
def gcH (h : Fin 8) : FVec F S1x1 .f32 := gc (licH x4 x6 h) (lfrH x5 x7 h) (mH x11 h)
def wsH (h : Fin 8) : FVec F S16x1 .f32 := ws (licH x4 x6 h) (lfrH x5 x7 h) (mH x11 h)

/-- The even and the odd head of a pair. -/
abbrev even (p : Fin 4) : Fin 8 := ⟨2 * p.val, by omega⟩
abbrev odd (p : Fin 4) : Fin 8 := ⟨2 * p.val + 1, by omega⟩

def headH (h : Fin 8) : Vec F S1x16x128 .bf16 :=
  normed (quot (half h) (qH x0 (pair h)) (qH x1 (pair h)) (vH x2 h) (cP x9 (pair h)) (nP x10 (pair h))
    (lfcH x4 x6 h) (lirH x5 x7 h) (lfrH x5 x7 h) (mH x11 h)) (gainH x8 h) (lanesH x3 h)

def headM (h : Fin 8) : Vec F S1x1x128 .f32 :=
  shapeCast S1x1x128 (broadcastTo S1x128 (shapeCast S1x1 (mnew (licH x4 x6 h) (lfrH x5 x7 h) (mH x11 h)) shapeCasts_S1x1_S1x1) broadcasts_S1x1_S1x128) shapeCasts_S1x128_S1x1x128

def pairC (p : Fin 4) : Vec F S1x128x128 .f32 :=
  stepC (qH x1 p) (vH x2 (even p)) (vH x2 (odd p)) (cP x9 p) (gcH x4 x5 x6 x7 x11 (even p)) (gcH x4 x5 x6 x7 x11 (odd p))
    (wsH x4 x5 x6 x7 x11 (even p)) (wsH x4 x5 x6 x7 x11 (odd p))

def pairN (p : Fin 4) : Vec F S1x1x128 .f32 :=
  stepN (qH x1 p) (nP x10 p) (gcH x4 x5 x6 x7 x11 (even p)) (gcH x4 x5 x6 x7 x11 (odd p))
    (wsH x4 x5 x6 x7 x11 (even p)) (wsH x4 x5 x6 x7 x11 (odd p))

/-- The heads' outputs side by side, and the parts of the state put together. -/
def stackH {α : Type} (f : Fin 8 → S1x16x128.Idx → α) : S1x16x1024.Idx → α :=
  fun y => f ⟨(y 2).val / 128, by have : (y 2).val < 1024 := (y 2).isLt; omega⟩
    (fun a => match a with | 0 => y 0 | 1 => y 1 | 2 => (⟨(y 2).val % 128, Nat.mod_lt _ (by decide)⟩ : Fin 128))

theorem stackH_at {α : Type} (f : Fin 8 → S1x16x128.Idx → α) (p : Fin 8) (x : S1x16x128.Idx) (y : S1x16x1024.Idx)
    (h0 : (y 0 : ℕ) = (x 0 : ℕ)) (h1 : (y 1 : ℕ) = (x 1 : ℕ)) (h2 : (y 2 : ℕ) = 128 * p.val + (x 2 : ℕ)) : f p x = stackH f y := by
  have hx2 : (x 2 : ℕ) < 128 := (x 2).isLt
  unfold stackH
  congr 1
  · have e : p = ⟨(y 2).val / 128, by omega⟩ := Fin.ext (by show p.val = (y 2).val / 128; omega)
    rw [← e]
  · funext a
    match a with
    | 0 => exact Fin.ext h0.symm
    | 1 => exact Fin.ext h1.symm
    | 2 => exact Fin.ext (by show (x 2 : ℕ) = (y 2).val % 128; omega)

def stackC {α : Type} (f : Fin 4 → S1x128x128.Idx → α) : S4x128x128.Idx → α :=
  fun y => f (y 0) (fun a => match a with | 0 => (0 : Fin 1) | 1 => y 1 | 2 => y 2)

theorem stackC_at {α : Type} (f : Fin 4 → S1x128x128.Idx → α) (h : Fin 4) (x : S1x128x128.Idx) (y : S4x128x128.Idx)
    (h0 : (y 0 : ℕ) = h.val + (x 0 : ℕ)) (h1 : (y 1 : ℕ) = (x 1 : ℕ)) (h2 : (y 2 : ℕ) = (x 2 : ℕ)) : f h x = stackC f y := by
  have hx0 : (x 0 : ℕ) < 1 := (x 0).isLt
  have e : y 0 = h := Fin.ext (by omega)
  unfold stackC
  rw [e]
  congr 1
  funext a
  match a with
  | 0 => exact Fin.ext (by show (x 0 : ℕ) = 0; omega)
  | 1 => exact Fin.ext h1.symm
  | 2 => exact Fin.ext h2.symm

def stackN {α : Type} (f : Fin 4 → S1x1x128.Idx → α) : S4x1x128.Idx → α :=
  fun y => f (y 0) (fun a => match a with | 0 => (0 : Fin 1) | 1 => y 1 | 2 => y 2)

theorem stackN_at {α : Type} (f : Fin 4 → S1x1x128.Idx → α) (h : Fin 4) (x : S1x1x128.Idx) (y : S4x1x128.Idx)
    (h0 : (y 0 : ℕ) = h.val + (x 0 : ℕ)) (h1 : (y 1 : ℕ) = (x 1 : ℕ)) (h2 : (y 2 : ℕ) = (x 2 : ℕ)) : f h x = stackN f y := by
  have hx0 : (x 0 : ℕ) < 1 := (x 0).isLt
  have e : y 0 = h := Fin.ext (by omega)
  unfold stackN
  rw [e]
  congr 1
  funext a
  match a with
  | 0 => exact Fin.ext (by show (x 0 : ℕ) = 0; omega)
  | 1 => exact Fin.ext h1.symm
  | 2 => exact Fin.ext h2.symm

def stackM {α : Type} (f : Fin 8 → S1x1x128.Idx → α) : S8x1x128.Idx → α :=
  fun y => f (y 0) (fun a => match a with | 0 => (0 : Fin 1) | 1 => y 1 | 2 => y 2)

theorem stackM_at {α : Type} (f : Fin 8 → S1x1x128.Idx → α) (h : Fin 8) (x : S1x1x128.Idx) (y : S8x1x128.Idx)
    (h0 : (y 0 : ℕ) = h.val + (x 0 : ℕ)) (h1 : (y 1 : ℕ) = (x 1 : ℕ)) (h2 : (y 2 : ℕ) = (x 2 : ℕ)) : f h x = stackM f y := by
  have hx0 : (x 0 : ℕ) < 1 := (x 0).isLt
  have e : y 0 = h := Fin.ext (by omega)
  unfold stackM
  rw [e]
  congr 1
  funext a
  match a with
  | 0 => exact Fin.ext (by show (x 0 : ℕ) = 0; omega)
  | 1 => exact Fin.ext h1.symm
  | 2 => exact Fin.ext h2.symm

end Cert.Kernel7Ideal.Step

end
-- ==== Proof.MemSpec.lean ====
/- One head of the sample's mLSTM over a chunk of 16 tokens, as functions of the head's gates, queries, keys, values and
   state, over the extended reals. -/
module

public import proofs.«01_k».proof.Proof.FoxSpec

@[expose] public section

noncomputable section

namespace Proof.Mem

open Idealize.ShloMosaic Proof.Fox

/-- A gate's pre-activation held between -15 and 15. -/
def capped (z : EReal) : EReal := Ideal.ofBits .f32 1097859072#32 * Ideal.tanh (Ideal.div z (Ideal.ofBits .f32 1097859072#32))

variable (I L : Fin 16 → EReal) (m : EReal) (q k : Fin 16 → Fin 64 → EReal) (v : Fin 16 → Fin 128 → EReal)
  (C : Fin 64 → Fin 128 → EReal) (N : Fin 64 → EReal)

/-- The log forget gates up to a token, and of the whole chunk. -/
def cum (t : Fin 16) : EReal := ∑ s : Fin 16, if s.val ≤ t.val then L s else 0
def last : EReal := ∑ s : Fin 16, L s

/-- The log weight of token `s` at token `t`, none if it is a later one. -/
def D (t s : Fin 16) : EReal := if s.val ≤ t.val then cum L t - cum L s + I s else ⊥

/-- The largest log weight at a token, and the state's weight over it. -/
def M (t : Fin 16) : EReal := max (cum L t + m) (Finset.fold max ⊥ (fun s => D I L t s) Finset.univ)
def G (t : Fin 16) : EReal := Ideal.exp (cum L t + m - M I L m t)

/-- The weighted scores. -/
def S (t s : Fin 16) : EReal := (∑ l : Fin 64, q t l * k s l) * Ideal.exp (D I L t s - M I L m t)

def num (t : Fin 16) (j : Fin 128) : EReal :=
  G I L m t * (∑ l : Fin 64, q t l * C l j) + ∑ s : Fin 16, S I L m q k t s * v s j
def den (t : Fin 16) : EReal := G I L m t * (∑ l : Fin 64, q t l * N l) + ∑ s : Fin 16, S I L m q k t s
def quo (t : Fin 16) (j : Fin 128) : EReal :=
  Ideal.div (num I L m q k v C t j) (max (max (den I L m q k N t) (-den I L m q k N t)) (Ideal.exp (0 - M I L m t)))

/-- The head's output, normalised by its root mean square, with a gain and the output gate. -/
def out (g : Fin 128 → EReal) (o : Fin 16 → Fin 128 → EReal) (t : Fin 16) (j : Fin 128) : EReal :=
  quo I L m q k v C N t j
    * Ideal.rsqrt (Ideal.div (∑ i : Fin 128, quo I L m q k v C N t i * quo I L m q k v C N t i) (Ideal.ofBits .f32 1124073472#32) + eps)
    * g j * Ideal.div 1 (1 + Ideal.exp (-o t j))

/-- The log weight of token `s` in the new state, the largest of them, and the weights over it. -/
def W (s : Fin 16) : EReal := last L - cum L s + I s
def newM : EReal := max (last L + m) (Finset.fold max ⊥ (fun s => W I L s) Finset.univ)
def newG : EReal := Ideal.exp (last L + m - newM I L m)
def newW (s : Fin 16) : EReal := Ideal.exp (W I L s - newM I L m)

/-- The new state and normaliser. -/
def newC (l : Fin 64) (j : Fin 128) : EReal := newG I L m * C l j + ∑ s : Fin 16, k s l * (newW I L m s * v s j)
def newN (l : Fin 64) : EReal := newG I L m * N l + ∑ s : Fin 16, newW I L m s * k s l

end Proof.Mem

end
-- ==== Proof.MemIdeal.lean ====
/- The sample's mLSTM of one head over the extended reals, read at an index: the kernel's operations are the head's
   functions. -/
module

public import proofs.«01_k».proof.Proof.MemStep
public import proofs.«01_k».proof.Proof.MemSpec
public import Idealize.ShloMosaic.Lib.Pointwise

@[expose] public section

set_option maxRecDepth 100000

noncomputable section

namespace Cert.Kernel7Ideal.Step

open Cert.Kernel7Ideal Cert.Kernel7Ideal.Gen Idealize.ShloMosaic Proof

theorem lower (x : Fin 128) : k0_pay14 (ix2 0 x) = if x.val < 64 then 1#1 else 0#1 := by
  pointwise [k0_pay14]
  revert x
  decide +kernel

theorem upper (x : Fin 128) : xori k0_pay14 (constantI S1x128 1 1#1) (ix2 0 x) = if x.val < 64 then 0#1 else 1#1 := by
  pointwise [k0_pay14]
  revert x
  decide +kernel

theorem lowRow (x : Fin 128) : k0_pay15 (ix2 x 0) = if x.val < 64 then 1#1 else 0#1 := by
  pointwise [k0_pay15]
  revert x
  decide +kernel

theorem seen_apply (r j : Fin 16) : k0_pay13 (ix2 r j) = if j.val ≤ r.val then 1#1 else 0#1 := by
  pointwise [k0_pay13]
  revert r j
  decide +kernel

theorem seen' (r j : Fin 16) : IntOp.cmpi .sle (BitVec.ofNat 32 j.val) (BitVec.ofNat 32 r.val) = if j.val ≤ r.val then 1#1 else 0#1 := by
  revert r j
  decide +kernel

theorem same (r j : Fin 128) : BitVec.setWidth 32 (IntOp.cmpi .eq (BitVec.ofNat 32 r.val) (BitVec.ofNat 32 j.val)) = if r = j then 1#32 else 0#32 := by
  revert r j
  decide +kernel

theorem eye_apply (r j : Fin 128) : (k0_pay16 : FVec Ideal S128x128 .bf16) (ix2 r j) = if r = j then (1 : EReal) else 0 := by
  pointwise [k0_pay16]
  rw [same]
  split
  · show (((1#32 : BitVec 32).toInt : ℝ) : EReal) = 1
    simp
  · show (((0#32 : BitVec 32).toInt : ℝ) : EReal) = 0
    simp

theorem mask_eq : (Named.named κ "mask" 4048155338#32 : Ideal .f32) = ⊥ := rfl

theorem start_eq : Ideal.ofBits FTy.f32 4286578688#32 = ⊥ := by simp [Ideal.ofBits, Ideal.ieee]

theorem sel {α : Type} (p : Prop) [Decidable p] (a b : α) : Scalar.select (if p then 1#1 else 0#1) a b = if p then a else b := by
  split <;> rfl

/-- A head's lane `l` among its pair's. -/
def hl (h : Fin 8) (l : Fin 64) : Fin 128 := ⟨64 * (h.val % 2) + l.val, by omega⟩

/-- The other head's lanes drop out of a sum over a pair's 128. -/
theorem sum_half (h : Fin 8) (f : Fin 128 → EReal) :
    ∑ x : Fin 128, Scalar.select (half h (ix2 0 x)) (f x) 0 = ∑ l : Fin 64, f (hl h l) := by
  rw [show (∑ x : Fin 128, Scalar.select (half h (ix2 0 x)) (f x) 0)
      = ∑ x : Fin (64 + 64), Scalar.select (half h (ix2 0 x)) (f x) 0 from rfl, Fin.sum_univ_add]
  obtain hp | hp := Nat.mod_two_eq_zero_or_one h.val
  · have hh : half h = k0_pay14 := by unfold half; rw [hp]; rfl
    rw [hh, Finset.sum_eq_zero (s := Finset.univ) (f := fun i : Fin 64 => Scalar.select (k0_pay14 (ix2 0 (Fin.natAdd 64 i))) _ 0), add_zero]
    · refine Finset.sum_congr rfl fun l _ => ?_
      rw [lower, if_pos (by simp)]
      exact congrArg f (Fin.ext (by simp [hl]; omega))
    · intro l _
      rw [lower, if_neg (by simp)]
      rfl
  · have hh : half h = xori k0_pay14 (constantI S1x128 1 1#1) := by unfold half; rw [hp]; rfl
    rw [hh, Finset.sum_eq_zero (s := Finset.univ) (f := fun i : Fin 64 => Scalar.select (xori k0_pay14 (constantI S1x128 1 1#1) (ix2 0 (Fin.castAdd 64 i))) _ 0), zero_add]
    · refine Finset.sum_congr rfl fun l _ => ?_
      rw [upper, if_neg (by simp)]
      exact congrArg f (Fin.ext (by simp [hl]; omega))
    · intro l _
      rw [upper, if_pos (by simp)]
      rfl

section Head

variable {fc ic : FVec Ideal S16x1 .f32} {ir fr : FVec Ideal S1x16 .f32} {mm : FVec Ideal S1x1 .f32} {I L : Fin 16 → EReal} {m : EReal}

theorem bcol_spec (hfr : ∀ t, fr (ix2 0 t) = L t) (t : Fin 16) : bcol fr (ix2 t 0) = Mem.cum L t := by
  unfold Mem.cum
  pointwise [bcol]
  simp only [seen_apply, sel, hfr]

theorem brow_spec (hfc : ∀ t, fc (ix2 t 0) = L t) (t : Fin 16) : brow fc (ix2 0 t) = Mem.cum L t := by
  unfold Mem.cum
  pointwise [brow]
  simp only [seen', sel, hfc]

theorem dmat_spec (hfc : ∀ t, fc (ix2 t 0) = L t) (hfr : ∀ t, fr (ix2 0 t) = L t) (hir : ∀ t, ir (ix2 0 t) = I t) (t s : Fin 16) :
    dmat fc ir fr (ix2 t s) = Mem.D I L t s := by
  unfold Mem.D
  pointwise [dmat]
  simp only [seen_apply, sel, hir, bcol_spec hfr, brow_spec hfc, mask_eq]

theorem mt_spec (hfc : ∀ t, fc (ix2 t 0) = L t) (hfr : ∀ t, fr (ix2 0 t) = L t) (hir : ∀ t, ir (ix2 0 t) = I t)
    (hm : mm (ix2 0 0) = m) (t : Fin 16) : mt fc ir fr mm (ix2 t 0) = Mem.M I L m t := by
  unfold Mem.M
  pointwise [mt, inter]
  simp only [start_eq, bcol_spec hfr, hm, dmat_spec hfc hfr hir]

theorem sc_spec (hfc : ∀ t, fc (ix2 t 0) = L t) (hfr : ∀ t, fr (ix2 0 t) = L t) (hir : ∀ t, ir (ix2 0 t) = I t)
    (hm : mm (ix2 0 0) = m) (h : Fin 8) (q k : FVec Ideal S16x128 .bf16) (Q K : Fin 16 → Fin 64 → EReal)
    (hq : ∀ t l, q (ix2 t (hl h l)) = Q t l) (hk : ∀ t l, k (ix2 t (hl h l)) = K t l) (t s : Fin 16) :
    sc (half h) q k fc ir fr mm (ix2 t s) = Mem.S I L m Q K t s := by
  unfold Mem.S
  pointwise [sc, qm]
  rw [sum_half h fun x => q (ix2 t x) * k (ix2 s x), seen_apply, sel, mt_spec hfc hfr hir hm, dmat_spec hfc hfr hir]
  simp only [hq, hk]
  split
  · rfl
  · rename_i hts
    unfold Mem.D
    rw [if_neg hts]
    simp

theorem num_spec (hfc : ∀ t, fc (ix2 t 0) = L t) (hfr : ∀ t, fr (ix2 0 t) = L t) (hir : ∀ t, ir (ix2 0 t) = I t)
    (hm : mm (ix2 0 0) = m) (h : Fin 8) (q k v : FVec Ideal S16x128 .bf16) (c : FVec Ideal S128x128 .f32)
    (Q K : Fin 16 → Fin 64 → EReal) (V : Fin 16 → Fin 128 → EReal) (C : Fin 64 → Fin 128 → EReal)
    (hq : ∀ t l, q (ix2 t (hl h l)) = Q t l) (hk : ∀ t l, k (ix2 t (hl h l)) = K t l) (hv : ∀ t j, v (ix2 t j) = V t j)
    (hc : ∀ l j, c (ix2 (hl h l) j) = C l j) (t : Fin 16) (j : Fin 128) :
    num (half h) q k v c fc ir fr mm (ix2 t j) = Mem.num I L m Q K V C t j := by
  unfold Mem.num Mem.G
  pointwise [num, gt, inter, qm]
  rw [sum_half h fun x => q (ix2 t x) * c (ix2 x j)]
  simp only [mt_spec hfc hfr hir hm, bcol_spec hfr, hm, sc_spec hfc hfr hir hm h q k Q K hq hk, hq, hc, hv]

theorem den_spec (hfc : ∀ t, fc (ix2 t 0) = L t) (hfr : ∀ t, fr (ix2 0 t) = L t) (hir : ∀ t, ir (ix2 0 t) = I t)
    (hm : mm (ix2 0 0) = m) (h : Fin 8) (q k : FVec Ideal S16x128 .bf16) (n : FVec Ideal S1x128 .f32)
    (Q K : Fin 16 → Fin 64 → EReal) (N : Fin 64 → EReal)
    (hq : ∀ t l, q (ix2 t (hl h l)) = Q t l) (hk : ∀ t l, k (ix2 t (hl h l)) = K t l) (hn : ∀ l, n (ix2 0 (hl h l)) = N l) (t : Fin 16) :
    den (half h) q k n fc ir fr mm (ix2 t 0) = Mem.den I L m Q K N t := by
  unfold Mem.den Mem.G
  pointwise [den, gt, inter, qm]
  rw [sum_half h fun x => q (ix2 t x) * n (ix2 0 x)]
  simp only [mt_spec hfc hfr hir hm, bcol_spec hfr, hm, sc_spec hfc hfr hir hm h q k Q K hq hk, hq, hn]

theorem quot_spec (hfc : ∀ t, fc (ix2 t 0) = L t) (hfr : ∀ t, fr (ix2 0 t) = L t) (hir : ∀ t, ir (ix2 0 t) = I t)
    (hm : mm (ix2 0 0) = m) (h : Fin 8) (q k v : FVec Ideal S16x128 .bf16) (c : FVec Ideal S128x128 .f32) (n : FVec Ideal S1x128 .f32)
    (Q K : Fin 16 → Fin 64 → EReal) (V : Fin 16 → Fin 128 → EReal) (C : Fin 64 → Fin 128 → EReal) (N : Fin 64 → EReal)
    (hq : ∀ t l, q (ix2 t (hl h l)) = Q t l) (hk : ∀ t l, k (ix2 t (hl h l)) = K t l) (hv : ∀ t j, v (ix2 t j) = V t j)
    (hc : ∀ l j, c (ix2 (hl h l) j) = C l j) (hn : ∀ l, n (ix2 0 (hl h l)) = N l) (t : Fin 16) (j : Fin 128) :
    quot (half h) q k v c n fc ir fr mm (ix2 t j) = Mem.quo I L m Q K V C N t j := by
  unfold Mem.quo
  rw [← num_spec hfc hfr hir hm h q k v c Q K V C hq hk hv hc, ← den_spec hfc hfr hir hm h q k n Q K N hq hk hn, ← mt_spec hfc hfr hir hm]
  unfold quot
  generalize num (half h) q k v c fc ir fr mm = a
  generalize den (half h) q k n fc ir fr mm = b
  generalize mt fc ir fr mm = d
  pointwise
  rfl

theorem normed_spec (x : FVec Ideal S16x128 .f32) (g : FVec Ideal S1x128 .f32) (o : Vec Ideal S1x16x128 .f32) (t : Fin 16) (j : Fin 128) :
    normed x g o (ix3 0 t j) = x (ix2 t j)
      * Ideal.rsqrt (Ideal.div (∑ i : Fin 128, x (ix2 t i) * x (ix2 t i)) (Ideal.ofBits .f32 1124073472#32) + Fox.eps)
      * g (ix2 0 j) * Ideal.div 1 (1 + Ideal.exp (-o (ix3 0 t j))) := by
  unfold Fox.eps
  rw [← zero_sub (o (ix3 0 t j))]
  pointwise [normed]

theorem mnew_spec (hfr : ∀ t, fr (ix2 0 t) = L t) (hic : ∀ t, ic (ix2 t 0) = I t) (hm : mm (ix2 0 0) = m) :
    mnew ic fr mm (ix2 0 0) = Mem.newM I L m := by
  unfold Mem.newM Mem.W Mem.last
  pointwise [mnew, blast, wcol]
  simp only [start_eq, hfr, hm, hic, bcol_spec hfr]

theorem gc_spec (hfr : ∀ t, fr (ix2 0 t) = L t) (hic : ∀ t, ic (ix2 t 0) = I t) (hm : mm (ix2 0 0) = m) :
    gc ic fr mm (ix2 0 0) = Mem.newG I L m := by
  unfold Mem.newG Mem.last
  rw [← mnew_spec hfr hic hm]
  pointwise [gc, blast]
  simp only [hfr, hm]

theorem ws_spec (hfr : ∀ t, fr (ix2 0 t) = L t) (hic : ∀ t, ic (ix2 t 0) = I t) (hm : mm (ix2 0 0) = m) (s : Fin 16) :
    ws ic fr mm (ix2 s 0) = Mem.newW I L m s := by
  unfold Mem.newW Mem.W Mem.last
  rw [← mnew_spec hfr hic hm]
  pointwise [ws, blast, wcol]
  simp only [hfr, hm, hic, bcol_spec hfr]

end Head

theorem kt_apply (k : FVec Ideal S16x128 .bf16) (l : Fin 128) (s : Fin 16) : kt k (ix2 l s) = k (ix2 s l) := by
  pointwise [kt]
  simp [eye_apply]

theorem upd_apply (k v : FVec Ideal S16x128 .bf16) (w : FVec Ideal S16x1 .f32) (l j : Fin 128) :
    upd k v w (ix2 l j) = ∑ s : Fin 16, k (ix2 s l) * (w (ix2 s 0) * v (ix2 s j)) := by
  pointwise [upd]
  simp only [kt_apply]

theorem stepC_apply (k v0 v1 : FVec Ideal S16x128 .bf16) (c : FVec Ideal S128x128 .f32) (g0 g1 : FVec Ideal S1x1 .f32) (w0 w1 : FVec Ideal S16x1 .f32) (l j : Fin 128) :
    stepC k v0 v1 c g0 g1 w0 w1 (ix3 0 l j)
      = (if l.val < 64 then g0 (ix2 0 0) else g1 (ix2 0 0)) * c (ix2 l j)
        + if l.val < 64 then ∑ s : Fin 16, k (ix2 s l) * (w0 (ix2 s 0) * v0 (ix2 s j)) else ∑ s : Fin 16, k (ix2 s l) * (w1 (ix2 s 0) * v1 (ix2 s j)) := by
  pointwise [stepC]
  simp only [lowRow, sel, upd_apply]

theorem stepN_apply (k : FVec Ideal S16x128 .bf16) (n : FVec Ideal S1x128 .f32) (g0 g1 : FVec Ideal S1x1 .f32) (w0 w1 : FVec Ideal S16x1 .f32) (l : Fin 128) :
    stepN k n g0 g1 w0 w1 (ix3 0 0 l)
      = (if l.val < 64 then g0 (ix2 0 0) else g1 (ix2 0 0)) * n (ix2 0 l)
        + ∑ s : Fin 16, (if l.val < 64 then w0 (ix2 s 0) else w1 (ix2 s 0)) * k (ix2 s l) := by
  pointwise [stepN]
  simp only [lower, sel]

theorem colOf_apply (x : FVec Ideal S16x8 .f32) (h : Fin 8) (t : Fin 16) : colOf x h (ix2 t 0) = x (ix2 t h) := by
  unfold colOf
  pointwise

theorem rowOf_apply (x : FVec Ideal S8x16 .f32) (h : Fin 8) (t : Fin 16) : rowOf x h (ix2 0 t) = x (ix2 h t) := by
  unfold rowOf
  pointwise

end Cert.Kernel7Ideal.Step

end
-- ==== Proof.MemHeads.lean ====
/- What the sample mLSTM's body leaves of a grid point's blocks, read at an index: each head's functions of its gates,
   queries, keys, values and state. -/
module

public import proofs.«01_k».proof.Proof.MemIdeal

@[expose] public section

set_option maxRecDepth 100000

noncomputable section

namespace Cert.Kernel7Ideal.Step

open Cert.Kernel7Ideal Cert.Kernel7Ideal.Gen Idealize.ShloMosaic Proof

theorem lanesP_apply {e : EltTy} (x : Vec Ideal S1x16x512 e) (p : Fin 4) (t : Fin 16) (l : Fin 128) :
    lanesP x p (ix3 0 t l) = x (ix3 0 t ⟨128 * p.val + l.val, by omega⟩) := by
  unfold lanesP
  pointwise

theorem lanesH_apply {e : EltTy} (x : Vec Ideal S1x16x1024 e) (h : Fin 8) (t : Fin 16) (l : Fin 128) :
    lanesH x h (ix3 0 t l) = x (ix3 0 t ⟨128 * h.val + l.val, by omega⟩) := by
  unfold lanesH
  pointwise

theorem gainH_apply (x : Vec Ideal S1x1024 .f32) (h : Fin 8) (l : Fin 128) :
    gainH x h (ix2 0 l) = x (ix2 0 ⟨128 * h.val + l.val, by omega⟩) := by
  unfold gainH
  pointwise

theorem partC_apply (x : Vec Ideal S4x128x128 .f32) (p : Fin 4) (l j : Fin 128) : partC x p (ix3 0 l j) = x (ix3 p l j) := by
  unfold partC
  pointwise

theorem partN_apply (x : Vec Ideal S4x1x128 .f32) (p : Fin 4) (l : Fin 128) : partN x p (ix3 0 0 l) = x (ix3 p 0 l) := by
  unfold partN
  pointwise

theorem partM_apply (x : Vec Ideal S8x1x128 .f32) (h : Fin 8) (l : Fin 128) : partM x h (ix3 0 0 l) = x (ix3 h 0 l) := by
  unfold partM
  pointwise

variable (x0 x1 : Vec Ideal S1x16x512 .bf16) (x2 : Vec Ideal S1x16x1024 .bf16) (x3 : Vec Ideal S1x16x1024 .f32)
  (x4 x5 : Vec Ideal S1x16x16 .f32) (x6 : Vec Ideal S1x16 .f32) (x7 : Vec Ideal S16x1 .f32) (x8 : Vec Ideal S1x1024 .f32)
  (x9 : Vec Ideal S1x4x128x128 .f32) (x10 : Vec Ideal S1x4x1x128 .f32) (x11 : Vec Ideal S1x8x1x128 .f32)

theorem qH_apply (p : Fin 4) (t : Fin 16) (l : Fin 128) : qH x0 p (ix2 t l) = x0 (ix3 0 t ⟨128 * p.val + l.val, by omega⟩) := by
  refine Eq.trans ?_ (lanesP_apply x0 p t l)
  unfold qH
  generalize lanesP x0 p = y
  pointwise

theorem vH_apply (h : Fin 8) (t : Fin 16) (l : Fin 128) : vH x2 h (ix2 t l) = x2 (ix3 0 t ⟨128 * h.val + l.val, by omega⟩) := by
  refine Eq.trans ?_ (lanesH_apply x2 h t l)
  unfold vH
  generalize lanesH x2 h = y
  pointwise

theorem pay4_apply (p : Fin 4) (l j : Fin 128) : k0_pay4 x9 (ix3 p l j) = x9 (ix4 0 p l j) := by
  pointwise [k0_pay4]

theorem pay5_apply (p : Fin 4) (l : Fin 128) : k0_pay5 x10 (ix3 p 0 l) = x10 (ix4 0 p 0 l) := by
  pointwise [k0_pay5]

theorem pay6_apply (h : Fin 8) (l : Fin 128) : k0_pay6 x11 (ix3 h 0 l) = x11 (ix4 0 h 0 l) := by
  pointwise [k0_pay6]

theorem cP_apply (p : Fin 4) (l j : Fin 128) : cP x9 p (ix2 l j) = x9 (ix4 0 p l j) := by
  refine Eq.trans ?_ ((partC_apply (k0_pay4 x9) p l j).trans (pay4_apply x9 p l j))
  unfold cP
  generalize partC (k0_pay4 x9) p = y
  pointwise

theorem nP_apply (p : Fin 4) (l : Fin 128) : nP x10 p (ix2 0 l) = x10 (ix4 0 p 0 l) := by
  refine Eq.trans ?_ ((partN_apply (k0_pay5 x10) p l).trans (pay5_apply x10 p l))
  unfold nP
  generalize partN (k0_pay5 x10) p = y
  pointwise

theorem mH_apply (h : Fin 8) : mH x11 h (ix2 0 0) = x11 (ix4 0 h 0 0) := by
  refine Eq.trans ?_ ((partM_apply (k0_pay6 x11) h 0).trans (pay6_apply x11 h 0))
  unfold mH
  generalize partM (k0_pay6 x11) h = y
  pointwise [k0_pay27]

/-- A head's gates, read from the columns and from the rows. -/
def inC (h : Fin 8) (t : Fin 16) : EReal := Mem.capped (x4 (ix3 0 t ⟨h.val, by omega⟩) + x6 (ix2 0 ⟨h.val, by omega⟩))
def fgC (h : Fin 8) (t : Fin 16) : EReal := Fox.logSig (Mem.capped (x4 (ix3 0 t ⟨8 + h.val, by omega⟩) + x6 (ix2 0 ⟨8 + h.val, by omega⟩)))

theorem licH_apply (h : Fin 8) (t : Fin 16) : licH x4 x6 h (ix2 t 0) = inC x4 x6 h t := by
  unfold licH inC Mem.capped
  rw [colOf_apply]
  pointwise [k0_pay9, k0_pay7]

theorem lfcH_apply (h : Fin 8) (t : Fin 16) : lfcH x4 x6 h (ix2 t 0) = fgC x4 x6 h t := by
  unfold lfcH fgC Mem.capped
  rw [colOf_apply, ← Fox.logSig_eq]
  pointwise [k0_pay10, k0_pay7]
  rfl

theorem lirH_apply (h : Fin 8) (t : Fin 16) (h5 : ∀ a b, x5 (ix3 0 a b) = x4 (ix3 0 b a)) (h7 : ∀ a, x7 (ix2 a 0) = x6 (ix2 0 a)) :
    lirH x5 x7 h (ix2 0 t) = inC x4 x6 h t := by
  unfold lirH inC Mem.capped
  rw [rowOf_apply, ← h5, ← h7]
  pointwise [k0_pay11, k0_pay8]

theorem lfrH_apply (h : Fin 8) (t : Fin 16) (h5 : ∀ a b, x5 (ix3 0 a b) = x4 (ix3 0 b a)) (h7 : ∀ a, x7 (ix2 a 0) = x6 (ix2 0 a)) :
    lfrH x5 x7 h (ix2 0 t) = fgC x4 x6 h t := by
  unfold lfrH fgC Mem.capped
  rw [rowOf_apply, ← Fox.logSig_eq, ← h5, ← h7]
  pointwise [k0_pay12, k0_pay8]
  rfl

/-- The pair's lane of a head's lane. -/
theorem hl_lane (h : Fin 8) (l : Fin 64) : 128 * (pair h).val + (hl h l).val = 64 * h.val + l.val := by
  show 128 * (h.val / 2) + (64 * (h.val % 2) + l.val) = 64 * h.val + l.val
  omega

section Rows

variable (h5 : ∀ a b, x5 (ix3 0 a b) = x4 (ix3 0 b a)) (h7 : ∀ a, x7 (ix2 a 0) = x6 (ix2 0 a))

/-- A head's queries or keys, and its part of the state. -/
def qS (x : Vec Ideal S1x16x512 .bf16) (h : Fin 8) (t : Fin 16) (l : Fin 64) : EReal := x (ix3 0 t ⟨64 * h.val + l.val, by omega⟩)
def vS (h : Fin 8) (t : Fin 16) (j : Fin 128) : EReal := x2 (ix3 0 t ⟨128 * h.val + j.val, by omega⟩)
def cS (h : Fin 8) (l : Fin 64) (j : Fin 128) : EReal := x9 (ix4 0 (pair h) (hl h l) j)
def nS (h : Fin 8) (l : Fin 64) : EReal := x10 (ix4 0 (pair h) 0 (hl h l))

theorem qH_spec (x : Vec Ideal S1x16x512 .bf16) (h : Fin 8) (t : Fin 16) (l : Fin 64) : qH x (pair h) (ix2 t (hl h l)) = qS x h t l := by
  rw [qH_apply]
  unfold qS
  exact congrArg (fun a => x (ix3 0 t a)) (Fin.ext (hl_lane h l))

include h5 h7 in
theorem headH_apply (h : Fin 8) (t : Fin 16) (j : Fin 128) :
    headH x0 x1 x2 x3 x4 x5 x6 x7 x8 x9 x10 x11 h (ix3 0 t j)
      = Mem.out (inC x4 x6 h) (fgC x4 x6 h) (x11 (ix4 0 h 0 0)) (qS x0 h) (qS x1 h) (vS x2 h) (cS x9 h) (nS x10 h)
          (fun j => x8 (ix2 0 ⟨128 * h.val + j.val, by omega⟩)) (fun t j => x3 (ix3 0 t ⟨128 * h.val + j.val, by omega⟩)) t j := by
  unfold headH Mem.out
  rw [normed_spec, gainH_apply, lanesH_apply]
  have e : ∀ i : Fin 128, quot (half h) (qH x0 (pair h)) (qH x1 (pair h)) (vH x2 h) (cP x9 (pair h)) (nP x10 (pair h))
      (lfcH x4 x6 h) (lirH x5 x7 h) (lfrH x5 x7 h) (mH x11 h) (ix2 t i)
      = Mem.quo (inC x4 x6 h) (fgC x4 x6 h) (x11 (ix4 0 h 0 0)) (qS x0 h) (qS x1 h) (vS x2 h) (cS x9 h) (nS x10 h) t i := fun i =>
    quot_spec (lfcH_apply x4 x6 h) (fun t => lfrH_apply x4 x5 x6 x7 h t h5 h7) (fun t => lirH_apply x4 x5 x6 x7 h t h5 h7) (mH_apply x11 h) h
      _ _ _ _ _ _ _ _ _ _ (qH_spec x0 h) (qH_spec x1 h) (vH_apply x2 h) (fun l j => cP_apply x9 (pair h) (hl h l) j)
      (fun l => nP_apply x10 (pair h) (hl h l)) t i
  simp only [e]

include h5 h7 in
theorem headM_apply (h : Fin 8) (l : Fin 128) :
    headM x4 x5 x6 x7 x11 h (ix3 0 0 l) = Mem.newM (inC x4 x6 h) (fgC x4 x6 h) (x11 (ix4 0 h 0 0)) := by
  rw [← mnew_spec (fun t => lfrH_apply x4 x5 x6 x7 h t h5 h7) (licH_apply x4 x6 h) (mH_apply x11 h)]
  unfold headM
  generalize mnew (licH x4 x6 h) (lfrH x5 x7 h) (mH x11 h) = y
  pointwise

include h5 h7 in
theorem gcH_apply (h : Fin 8) : gcH x4 x5 x6 x7 x11 h (ix2 0 0) = Mem.newG (inC x4 x6 h) (fgC x4 x6 h) (x11 (ix4 0 h 0 0)) :=
  gc_spec (fun t => lfrH_apply x4 x5 x6 x7 h t h5 h7) (licH_apply x4 x6 h) (mH_apply x11 h)

include h5 h7 in
theorem wsH_apply (h : Fin 8) (s : Fin 16) : wsH x4 x5 x6 x7 x11 h (ix2 s 0) = Mem.newW (inC x4 x6 h) (fgC x4 x6 h) (x11 (ix4 0 h 0 0)) s :=
  ws_spec (fun t => lfrH_apply x4 x5 x6 x7 h t h5 h7) (licH_apply x4 x6 h) (mH_apply x11 h) s

/-- The head of a pair that a lane belongs to. -/
def headOf (p : Fin 4) (l : Fin 128) : Fin 8 := ⟨2 * p.val + l.val / 64, by omega⟩
def laneOf (l : Fin 128) : Fin 64 := ⟨l.val % 64, by omega⟩

theorem headOf_lower (p : Fin 4) (l : Fin 128) (h : l.val < 64) : headOf p l = even p := Fin.ext (by show 2 * p.val + l.val / 64 = 2 * p.val; omega)
theorem headOf_upper (p : Fin 4) (l : Fin 128) (h : ¬l.val < 64) : headOf p l = odd p := Fin.ext (by show 2 * p.val + l.val / 64 = 2 * p.val + 1; omega)
theorem pair_headOf (p : Fin 4) (l : Fin 128) : pair (headOf p l) = p := Fin.ext (by show (2 * p.val + l.val / 64) / 2 = p.val; omega)
theorem hl_laneOf (p : Fin 4) (l : Fin 128) : hl (headOf p l) (laneOf l) = l :=
  Fin.ext (by show 64 * ((2 * p.val + l.val / 64) % 2) + l.val % 64 = l.val; omega)

theorem qH_of (x : Vec Ideal S1x16x512 .bf16) (p : Fin 4) (s : Fin 16) (l : Fin 128) : qH x p (ix2 s l) = qS x (headOf p l) s (laneOf l) := by
  rw [← qH_spec, pair_headOf, hl_laneOf]

include h5 h7 in
theorem pairC_apply (p : Fin 4) (l j : Fin 128) :
    pairC x1 x2 x4 x5 x6 x7 x9 x11 p (ix3 0 l j)
      = Mem.newC (inC x4 x6 (headOf p l)) (fgC x4 x6 (headOf p l)) (x11 (ix4 0 (headOf p l) 0 0)) (qS x1 (headOf p l)) (vS x2 (headOf p l))
          (cS x9 (headOf p l)) (laneOf l) j := by
  unfold pairC Mem.newC
  rw [stepC_apply]
  simp only [gcH_apply x4 x5 x6 x7 x11 h5 h7, wsH_apply x4 x5 x6 x7 x11 h5 h7, vH_apply, qH_of, cP_apply]
  unfold cS
  rw [pair_headOf, hl_laneOf]
  split
  · rename_i hlt
    rw [headOf_lower p l hlt]
    rfl
  · rename_i hlt
    rw [headOf_upper p l hlt]
    rfl

include h5 h7 in
theorem pairN_apply (p : Fin 4) (l : Fin 128) :
    pairN x1 x4 x5 x6 x7 x10 x11 p (ix3 0 0 l)
      = Mem.newN (inC x4 x6 (headOf p l)) (fgC x4 x6 (headOf p l)) (x11 (ix4 0 (headOf p l) 0 0)) (qS x1 (headOf p l))
          (nS x10 (headOf p l)) (laneOf l) := by
  unfold pairN Mem.newN
  rw [stepN_apply]
  simp only [gcH_apply x4 x5 x6 x7 x11 h5 h7, wsH_apply x4 x5 x6 x7 x11 h5 h7, qH_of, nP_apply]
  unfold nS
  rw [pair_headOf, hl_laneOf]
  split
  · rename_i hlt
    rw [headOf_lower p l hlt]
  · rename_i hlt
    rw [headOf_upper p l hlt]

end Rows

theorem stack4 (f : Fin 4 → S1x128x128.Idx → EReal) (p : Fin 4) (l j : Fin 128) : k0_pay1 (F := Ideal) (stackC f) (ix4 0 p l j) = f p (ix3 0 l j) := by
  refine Eq.trans ?_ (stackC_at f p (ix3 0 l j) (ix3 p l j) rfl rfl rfl).symm
  generalize stackC f = y
  pointwise [k0_pay1]

theorem stack1 (f : Fin 4 → S1x1x128.Idx → EReal) (p : Fin 4) (l : Fin 128) : k0_pay2 (F := Ideal) (stackN f) (ix4 0 p 0 l) = f p (ix3 0 0 l) := by
  refine Eq.trans ?_ (stackN_at f p (ix3 0 0 l) (ix3 p 0 l) rfl rfl rfl).symm
  generalize stackN f = y
  pointwise [k0_pay2]

theorem stack8 (f : Fin 8 → S1x1x128.Idx → EReal) (p : Fin 8) (l : Fin 128) : k0_pay3 (F := Ideal) (stackM f) (ix4 0 p 0 l) = f p (ix3 0 0 l) := by
  refine Eq.trans ?_ (stackM_at f p (ix3 0 0 l) (ix3 p 0 l) rfl rfl rfl).symm
  generalize stackM f = y
  pointwise [k0_pay3]

end Cert.Kernel7Ideal.Step

end
-- ==== Proof.MemBlocks.lean ====
/- The blocks the sample mLSTM's grid point `t` stages, read at an index: user `t`'s rows of the projections, its gates as
   columns and turned, the biases, the gain and its state. -/
module

public import proofs.«01_k».proof.Proof.MemHeads
public import Idealize.ShloMosaic.Lib.Claim
public import Idealize.ShloMosaic.Lib.Pipeline.ValueKit

@[expose] public section

set_option maxRecDepth 100000

noncomputable section

namespace Proof.Mem

open Cert.Kernel7Ideal Cert.Kernel7Ideal.Gen Idealize.ShloMosaic Idealize.ShloMosaic.TcCoe Idealize.SL.Sem

variable (m : (ℓ : Loc nD τ sig) → Buf (Elt Ideal) ℓ)

/-- Every window's block index at a point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![0, 0] ∧ win0_7.index t = ![0, 0] ∧ win0_8.index t = ![0, 0]
    ∧ win0_9.index t = ![t.val, 0, 0, 0] ∧ win0_10.index t = ![t.val, 0, 0, 0] ∧ win0_11.index t = ![t.val, 0, 0, 0]
    ∧ win0_12.index t = ![t.val, 0, 0] ∧ win0_13.index t = ![t.val, 0, 0, 0] ∧ win0_14.index t = ![t.val, 0, 0, 0]
    ∧ win0_15.index t = ![t.val, 0, 0, 0] :=
  (by decide +kernel : ∀ t : Fin grid0.N, _)

/-- The user of a grid point. -/
def user (t : Fin cfg0.N) : Fin 32 := ⟨t.val, lt_of_lt_of_eq t.isLt (show cfg0.N = 32 from N_0)⟩

theorem blk0 (c : Dev nD) (t : Fin cfg0.N) (r : Fin 16) (l : Fin 512) :
    iblk m c 0 t (ix3 0 r l) = m ((c : Thread nD τ).loc main_arg0) (ix3 (user t) r l) := by
  blk_ext! [iblk, V, idx t, user]

theorem blk1 (c : Dev nD) (t : Fin cfg0.N) (r : Fin 16) (l : Fin 512) :
    iblk m c 1 t (ix3 0 r l) = m ((c : Thread nD τ).loc main_arg1) (ix3 (user t) r l) := by
  blk_ext! [iblk, V, idx t, user]

theorem blk2 (c : Dev nD) (t : Fin cfg0.N) (r : Fin 16) (l : Fin 1024) :
    iblk m c 2 t (ix3 0 r l) = m ((c : Thread nD τ).loc main_arg2) (ix3 (user t) r l) := by
  blk_ext! [iblk, V, idx t, user]

theorem blk3 (c : Dev nD) (t : Fin cfg0.N) (r : Fin 16) (l : Fin 1024) :
    iblk m c 3 t (ix3 0 r l) = m ((c : Thread nD τ).loc main_arg3) (ix3 (user t) r l) := by
  blk_ext! [iblk, V, idx t, user]

theorem blk4 (c : Dev nD) (t : Fin cfg0.N) (r g : Fin 16) :
    iblk m c 4 t (ix3 0 r g) = m ((c : Thread nD τ).loc main_arg4) (ix3 (user t) r g) := by
  blk_ext! [iblk, V, idx t, user]

theorem blk5 (c : Dev nD) (t : Fin cfg0.N) (r g : Fin 16) :
    iblk m c 5 t (ix3 0 g r) = m ((c : Thread nD τ).loc main_arg4) (ix3 (user t) r g) := by
  blk_simp [iblk]
  simp only [V, hostOps0, List.flatten_cons, List.flatten_nil, List.append_nil, List.cons_append, List.nil_append]
  entry_read
  pointwise
  blk_ext! [idx t, user]

theorem blk8 (c : Dev nD) (t : Fin cfg0.N) (l : Fin 1024) :
    iblk m c 8 t (ix2 0 l) = m ((c : Thread nD τ).loc main_arg7) (ix1 l) := by
  blk_simp [iblk]
  simp only [V, hostOps0, List.flatten_cons, List.flatten_nil, List.append_nil, List.cons_append, List.nil_append]
  entry_read
  pointwise
  blk_ext! [idx t]

theorem blk10 (c : Dev nD) (t : Fin cfg0.N) (p : Fin 4) (l : Fin 128) :
    iblk m c 10 t (ix4 0 p 0 l) = m ((c : Thread nD τ).loc main_arg9) (ix3 (user t) ⟨2 * p.val + l.val / 64, by omega⟩ ⟨l.val % 64, by omega⟩) := by
  blk_simp [iblk]
  simp only [V, hostOps0, List.flatten_cons, List.flatten_nil, List.append_nil, List.cons_append, List.nil_append]
  entry_read
  pointwise
  blk_ext! [idx t, user]

theorem blk11 (c : Dev nD) (t : Fin cfg0.N) (h : Fin 8) (l : Fin 128) :
    iblk m c 11 t (ix4 0 h 0 l) = m ((c : Thread nD τ).loc main_arg10) (ix2 (user t) h) := by
  blk_simp [iblk]
  simp only [V, hostOps0, List.flatten_cons, List.flatten_nil, List.append_nil, List.cons_append, List.nil_append]
  entry_read
  pointwise
  blk_ext! [idx t, user]

theorem blk9 (c : Dev nD) (t : Fin cfg0.N) (p : Fin 4) (l j : Fin 128) :
    iblk m c 9 t (ix4 0 p l j) = m ((c : Thread nD τ).loc main_arg8) (ix4 (user t) ⟨2 * p.val + l.val / 64, by omega⟩ j ⟨l.val % 64, by omega⟩) := by
  blk_simp [iblk]
  simp only [V, hostOps0, List.flatten_cons, List.flatten_nil, List.append_nil, List.cons_append, List.nil_append]
  entry_read
  pointwise
  blk_ext! [idx t, user]

/-- The lane a window of the biases reads is the block's own lane. -/
theorem lane6 (t : Fin cfg0.N) (g : Fin 16) :
    ((((View.whole main_v8).slice (win0_6.rect t)).emb (ix2 (0 : Fin 1) g) (1 : Fin 2))).val = g.val := by
  obtain ⟨-, -, -, -, -, -, e, -⟩ := idx t
  have h : ((((View.whole main_v8).slice (win0_6.rect t)).emb (ix2 (0 : Fin 1) g) (1 : Fin 2))).val
      = win0_6.index t (1 : Fin 2) * 16 + 1 * g.val := rfl
  rw [h, e]
  show 0 * 16 + 1 * g.val = g.val
  omega

theorem lane7 (t : Fin cfg0.N) (g : Fin 16) :
    ((((View.whole main_v9).slice (win0_7.rect t)).emb (ix2 g (0 : Fin 1)) (0 : Fin 2))).val = g.val := by
  obtain ⟨-, -, -, -, -, -, -, e, -⟩ := idx t
  have h : ((((View.whole main_v9).slice (win0_7.rect t)).emb (ix2 g (0 : Fin 1)) (0 : Fin 2))).val
      = win0_7.index t (0 : Fin 2) * 16 + 1 * g.val := rfl
  rw [h, e]
  show 0 * 16 + 1 * g.val = g.val
  omega

theorem blk6i (c : Dev nD) (t : Fin cfg0.N) (h : Fin 8) :
    iblk m c 6 t (ix2 0 ⟨h.val, by omega⟩) = m ((c : Thread nD τ).loc main_arg5) (ix1 h) := by
  blk_simp [iblk]
  simp only [V, hostOps0, List.flatten_cons, List.flatten_nil, List.append_nil, List.cons_append, List.nil_append]
  entry_read
  pointwise
  have e := lane6 t ⟨h.val, by omega⟩
  rw [dif_pos (lt_of_eq_of_lt e h.isLt)]
  blk_ext! [idx t]

theorem blk6f (c : Dev nD) (t : Fin cfg0.N) (h : Fin 8) :
    iblk m c 6 t (ix2 0 ⟨8 + h.val, by omega⟩) = m ((c : Thread nD τ).loc main_arg6) (ix1 h) := by
  blk_simp [iblk]
  simp only [V, hostOps0, List.flatten_cons, List.flatten_nil, List.append_nil, List.cons_append, List.nil_append]
  entry_read
  pointwise
  have e := lane6 t ⟨8 + h.val, by omega⟩
  rw [dif_neg (fun hl => by have := lt_of_eq_of_lt e.symm hl; dsimp only at this; omega)]
  blk_ext! [idx t]

theorem blk7 (c : Dev nD) (t : Fin cfg0.N) (g : Fin 16) : iblk m c 7 t (ix2 g 0) = iblk m c 6 t (ix2 0 g) := by
  blk_simp [iblk]
  simp only [V, hostOps0, List.flatten_cons, List.flatten_nil, List.append_nil, List.cons_append, List.nil_append]
  entry_read
  pointwise
  have e := lane6 t g
  have e' := lane7 t g
  by_cases hg : g.val < 8
  · rw [dif_pos (lt_of_eq_of_lt e hg), dif_pos (lt_of_eq_of_lt e' hg)]
    blk_ext! [idx t]
  · rw [dif_neg (fun hl => hg (lt_of_eq_of_lt e.symm hl)), dif_neg (fun hl => hg (lt_of_eq_of_lt e'.symm hl))]
    blk_ext! [idx t]

end Proof.Mem

end
-- ==== Proof.MemH.lean ====
/- What the sample's mLSTM's body leaves, read off the frame certificate's recorded stores: the heads' outputs side by side,
   and the pairs' and heads' parts of the new state. -/
module

public import proofs.«01_k».proof.Proof.MemStep
public import Idealize.ShloMosaic.Lib.Pipeline.ReadBack
public import Idealize.ShloMosaic.Lib.Pipeline.ValueKit

@[expose] public section

set_option maxRecDepth 100000
set_option maxHeartbeats 4000000

noncomputable section

namespace Cert.Kernel7Ideal.Step

open Cert.Kernel7Ideal Cert.Kernel7Ideal.Gen Idealize.ShloMosaic

variable {F : FTy → Type} [FloatOps F] [Named F]

theorem out_A_12 (c : Dev nD) (i : grid0.Coords) (arg2 : Memref sig .tc .vmem S1x16x512 .bf16) (harg2 : arg2.IsWhole) (arg3 : Memref sig .tc .vmem S1x16x512 .bf16) (harg3 : arg3.IsWhole) (arg4 : Memref sig .tc .vmem S1x16x1024 .bf16) (harg4 : arg4.IsWhole) (arg5 : Memref sig .tc .vmem S1x16x1024 .f32) (harg5 : arg5.IsWhole) (arg6 : Memref sig .tc .vmem S1x16x16 .f32) (harg6 : arg6.IsWhole) (arg7 : Memref sig .tc .vmem S1x16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1024 .f32) (harg10 : arg10.IsWhole) (arg11 : Memref sig .tc .vmem S1x4x128x128 .f32) (harg11 : arg11.IsWhole) (arg12 : Memref sig .tc .vmem S1x4x1x128 .f32) (harg12 : arg12.IsWhole) (arg13 : Memref sig .tc .vmem S1x8x1x128 .f32) (harg13 : arg13.IsWhole) (arg14 : Memref sig .tc .vmem S1x16x1024 .bf16) (harg14 : arg14.IsWhole) (arg15 : Memref sig .tc .vmem S1x4x128x128 .f32) (harg15 : arg15.IsWhole) (arg16 : Memref sig .tc .vmem S1x4x1x128 .f32) (harg16 : arg16.IsWhole) (arg17 : Memref sig .tc .vmem S1x8x1x128 .f32) (harg17 : arg17.IsWhole) (arg18 : Memref sig .tc .vmem S4x128x128 .f32) (harg18 : arg18.IsWhole) (arg19 : Memref sig .tc .vmem S4x1x128 .f32) (harg19 : arg19.IsWhole) (arg20 : Memref sig .tc .vmem S8x1x128 .f32) (harg20 : arg20.IsWhole) (hc0 : cond0_0 i) (hc1 : cond0_1 i)
    (x0 : Vec F S1x16x512 .bf16) (x1 : Vec F S1x16x512 .bf16) (x2 : Vec F S1x16x1024 .bf16) (x3 : Vec F S1x16x1024 .f32) (x4 : Vec F S1x16x16 .f32) (x5 : Vec F S1x16x16 .f32) (x6 : Vec F S1x16 .f32) (x7 : Vec F S16x1 .f32) (x8 : Vec F S1x1024 .f32) (x9 : Vec F S1x4x128x128 .f32) (x10 : Vec F S1x4x1x128 .f32) (x11 : Vec F S1x8x1x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = stackH (headH x0 x1 x2 x3 x4 x5 x6 x7 x8 x9 x10 x11) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  simp (disch := decide) only [Gen.kernelRun0_A.sl.HS0_1, Gen.kernelRun0_A.sl.HS0_2, Gen.kernelRun0_A.sl.HS0_3, Gen.kernelRun0_A.sl.HS0_4, Gen.kernelRun0_A.sl.HS0_5, Gen.kernelRun0_A.sl.HS1_1, Gen.kernelRun0_A.sl.HS1_2, Gen.kernelRun0_A.sl.HS1_3, Gen.kernelRun0_A.sl.HS1_4, Gen.kernelRun0_A.sl.HS1_5, Gen.kernelRun0_A.sl.HS2_1, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, Gen.kernelRun0_A.sl.cst, Gen.kernelRun0_A.sl.cst_117, Gen.kernelRun0_A.sl.cst_13, Gen.kernelRun0_A.sl.cst_15, Gen.kernelRun0_A.sl.cst_26, Gen.kernelRun0_A.sl.cst_282, Gen.kernelRun0_A.sl.cst_283, Gen.kernelRun0_A.sl.cst_48, Gen.kernelRun0_A.sl.cst_51, Gen.kernelRun0_A.sl.cst_55, Gen.kernelRun0_A.sl.cst_56, Gen.kernelRun0_A.sl.cst_68, Gen.kernelRun0_A.sl.cst_69, Gen.kernelRun0_A.sl.cst_70, Gen.kernelRun0_A.sl.cst_74, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_6, Gen.kernelRun0_A.sl.r_7, Gen.kernelRun0_A.sl.r_8, Gen.kernelRun0_A.sl.r_9, Gen.kernelRun0_A.sl.v0, Gen.kernelRun0_A.sl.v1, Gen.kernelRun0_A.sl.v10, Gen.kernelRun0_A.sl.v1005, Gen.kernelRun0_A.sl.v1009, Gen.kernelRun0_A.sl.v1010, Gen.kernelRun0_A.sl.v1011, Gen.kernelRun0_A.sl.v1013, Gen.kernelRun0_A.sl.v1014, Gen.kernelRun0_A.sl.v1015, Gen.kernelRun0_A.sl.v1016, Gen.kernelRun0_A.sl.v1017, Gen.kernelRun0_A.sl.v1018, Gen.kernelRun0_A.sl.v1019, Gen.kernelRun0_A.sl.v1023, Gen.kernelRun0_A.sl.v1024, Gen.kernelRun0_A.sl.v1025, Gen.kernelRun0_A.sl.v1026, Gen.kernelRun0_A.sl.v1027, Gen.kernelRun0_A.sl.v1028, Gen.kernelRun0_A.sl.v1029, Gen.kernelRun0_A.sl.v1030, Gen.kernelRun0_A.sl.v1032, Gen.kernelRun0_A.sl.v1033, Gen.kernelRun0_A.sl.v1034, Gen.kernelRun0_A.sl.v1035, Gen.kernelRun0_A.sl.v1036, Gen.kernelRun0_A.sl.v1037, Gen.kernelRun0_A.sl.v1038, Gen.kernelRun0_A.sl.v1039, Gen.kernelRun0_A.sl.v1041, Gen.kernelRun0_A.sl.v1043, Gen.kernelRun0_A.sl.v1044, Gen.kernelRun0_A.sl.v1045, Gen.kernelRun0_A.sl.v1046, Gen.kernelRun0_A.sl.v1048, Gen.kernelRun0_A.sl.v1049, Gen.kernelRun0_A.sl.v1050, Gen.kernelRun0_A.sl.v1052, Gen.kernelRun0_A.sl.v1054, Gen.kernelRun0_A.sl.v1055, Gen.kernelRun0_A.sl.v1057, Gen.kernelRun0_A.sl.v1059, Gen.kernelRun0_A.sl.v1060, Gen.kernelRun0_A.sl.v1061, Gen.kernelRun0_A.sl.v1062, Gen.kernelRun0_A.sl.v1063, Gen.kernelRun0_A.sl.v1064, Gen.kernelRun0_A.sl.v1065, Gen.kernelRun0_A.sl.v1066, Gen.kernelRun0_A.sl.v1067, Gen.kernelRun0_A.sl.v1068, Gen.kernelRun0_A.sl.v1069, Gen.kernelRun0_A.sl.v1070, Gen.kernelRun0_A.sl.v1071, Gen.kernelRun0_A.sl.v1072, Gen.kernelRun0_A.sl.v1073, Gen.kernelRun0_A.sl.v1075, Gen.kernelRun0_A.sl.v1076, Gen.kernelRun0_A.sl.v1077, Gen.kernelRun0_A.sl.v1078, Gen.kernelRun0_A.sl.v1079, Gen.kernelRun0_A.sl.v1080, Gen.kernelRun0_A.sl.v1081, Gen.kernelRun0_A.sl.v1082, Gen.kernelRun0_A.sl.v1083, Gen.kernelRun0_A.sl.v1084, Gen.kernelRun0_A.sl.v1085, Gen.kernelRun0_A.sl.v1086, Gen.kernelRun0_A.sl.v1087, Gen.kernelRun0_A.sl.v1088, Gen.kernelRun0_A.sl.v1089, Gen.kernelRun0_A.sl.v1095, Gen.kernelRun0_A.sl.v11, Gen.kernelRun0_A.sl.v1137, Gen.kernelRun0_A.sl.v1138, Gen.kernelRun0_A.sl.v1139, Gen.kernelRun0_A.sl.v1140, Gen.kernelRun0_A.sl.v1141, Gen.kernelRun0_A.sl.v1142, Gen.kernelRun0_A.sl.v1143, Gen.kernelRun0_A.sl.v1144, Gen.kernelRun0_A.sl.v1147, Gen.kernelRun0_A.sl.v1148, Gen.kernelRun0_A.sl.v1149, Gen.kernelRun0_A.sl.v1150, Gen.kernelRun0_A.sl.v1151, Gen.kernelRun0_A.sl.v1152, Gen.kernelRun0_A.sl.v1153, Gen.kernelRun0_A.sl.v1154, Gen.kernelRun0_A.sl.v1156, Gen.kernelRun0_A.sl.v1157, Gen.kernelRun0_A.sl.v1158, Gen.kernelRun0_A.sl.v1159, Gen.kernelRun0_A.sl.v1160, Gen.kernelRun0_A.sl.v1161, Gen.kernelRun0_A.sl.v1162, Gen.kernelRun0_A.sl.v1163, Gen.kernelRun0_A.sl.v1165, Gen.kernelRun0_A.sl.v1167, Gen.kernelRun0_A.sl.v1168, Gen.kernelRun0_A.sl.v1169, Gen.kernelRun0_A.sl.v1170, Gen.kernelRun0_A.sl.v1172, Gen.kernelRun0_A.sl.v1173, Gen.kernelRun0_A.sl.v1174, Gen.kernelRun0_A.sl.v1176, Gen.kernelRun0_A.sl.v1178, Gen.kernelRun0_A.sl.v1179, Gen.kernelRun0_A.sl.v1181, Gen.kernelRun0_A.sl.v1183, Gen.kernelRun0_A.sl.v1184, Gen.kernelRun0_A.sl.v1185, Gen.kernelRun0_A.sl.v1186, Gen.kernelRun0_A.sl.v1187, Gen.kernelRun0_A.sl.v1188, Gen.kernelRun0_A.sl.v1189, Gen.kernelRun0_A.sl.v1190, Gen.kernelRun0_A.sl.v1191, Gen.kernelRun0_A.sl.v1192, Gen.kernelRun0_A.sl.v1193, Gen.kernelRun0_A.sl.v1194, Gen.kernelRun0_A.sl.v1195, Gen.kernelRun0_A.sl.v1196, Gen.kernelRun0_A.sl.v1197, Gen.kernelRun0_A.sl.v1199, Gen.kernelRun0_A.sl.v1200, Gen.kernelRun0_A.sl.v1201, Gen.kernelRun0_A.sl.v1202, Gen.kernelRun0_A.sl.v1203, Gen.kernelRun0_A.sl.v1204, Gen.kernelRun0_A.sl.v1205, Gen.kernelRun0_A.sl.v1206, Gen.kernelRun0_A.sl.v1207, Gen.kernelRun0_A.sl.v1208, Gen.kernelRun0_A.sl.v1209, Gen.kernelRun0_A.sl.v1210, Gen.kernelRun0_A.sl.v1211, Gen.kernelRun0_A.sl.v1212, Gen.kernelRun0_A.sl.v1213, Gen.kernelRun0_A.sl.v1214, Gen.kernelRun0_A.sl.v1215, Gen.kernelRun0_A.sl.v1216, Gen.kernelRun0_A.sl.v1217, Gen.kernelRun0_A.sl.v1218, Gen.kernelRun0_A.sl.v1219, Gen.kernelRun0_A.sl.v1220, Gen.kernelRun0_A.sl.v1223, Gen.kernelRun0_A.sl.v1224, Gen.kernelRun0_A.sl.v125, Gen.kernelRun0_A.sl.v1251, Gen.kernelRun0_A.sl.v1252, Gen.kernelRun0_A.sl.v1254, Gen.kernelRun0_A.sl.v1255, Gen.kernelRun0_A.sl.v1255_1, Gen.kernelRun0_A.sl.v1257, Gen.kernelRun0_A.sl.v1259, Gen.kernelRun0_A.sl.v1259_1, Gen.kernelRun0_A.sl.v126, Gen.kernelRun0_A.sl.v1260, Gen.kernelRun0_A.sl.v1262, Gen.kernelRun0_A.sl.v1264, Gen.kernelRun0_A.sl.v1265, Gen.kernelRun0_A.sl.v127, Gen.kernelRun0_A.sl.v128, Gen.kernelRun0_A.sl.v129, Gen.kernelRun0_A.sl.v13, Gen.kernelRun0_A.sl.v130, Gen.kernelRun0_A.sl.v131, Gen.kernelRun0_A.sl.v132, Gen.kernelRun0_A.sl.v134, Gen.kernelRun0_A.sl.v135, Gen.kernelRun0_A.sl.v136, Gen.kernelRun0_A.sl.v137, Gen.kernelRun0_A.sl.v138, Gen.kernelRun0_A.sl.v139, Gen.kernelRun0_A.sl.v140, Gen.kernelRun0_A.sl.v141, Gen.kernelRun0_A.sl.v142, Gen.kernelRun0_A.sl.v143, Gen.kernelRun0_A.sl.v144, Gen.kernelRun0_A.sl.v145, Gen.kernelRun0_A.sl.v146, Gen.kernelRun0_A.sl.v147, Gen.kernelRun0_A.sl.v148, Gen.kernelRun0_A.sl.v149, Gen.kernelRun0_A.sl.v15, Gen.kernelRun0_A.sl.v150, Gen.kernelRun0_A.sl.v151, Gen.kernelRun0_A.sl.v152, Gen.kernelRun0_A.sl.v153, Gen.kernelRun0_A.sl.v154, Gen.kernelRun0_A.sl.v155, Gen.kernelRun0_A.sl.v156, Gen.kernelRun0_A.sl.v157, Gen.kernelRun0_A.sl.v158, Gen.kernelRun0_A.sl.v160, Gen.kernelRun0_A.sl.v161, Gen.kernelRun0_A.sl.v162, Gen.kernelRun0_A.sl.v164, Gen.kernelRun0_A.sl.v166, Gen.kernelRun0_A.sl.v167, Gen.kernelRun0_A.sl.v168, Gen.kernelRun0_A.sl.v169, Gen.kernelRun0_A.sl.v17, Gen.kernelRun0_A.sl.v171, Gen.kernelRun0_A.sl.v172, Gen.kernelRun0_A.sl.v173, Gen.kernelRun0_A.sl.v175, Gen.kernelRun0_A.sl.v176, Gen.kernelRun0_A.sl.v177, Gen.kernelRun0_A.sl.v178, Gen.kernelRun0_A.sl.v179, Gen.kernelRun0_A.sl.v18, Gen.kernelRun0_A.sl.v180, Gen.kernelRun0_A.sl.v181, Gen.kernelRun0_A.sl.v182, Gen.kernelRun0_A.sl.v183, Gen.kernelRun0_A.sl.v184, Gen.kernelRun0_A.sl.v185, Gen.kernelRun0_A.sl.v187, Gen.kernelRun0_A.sl.v188, Gen.kernelRun0_A.sl.v189, Gen.kernelRun0_A.sl.v19, Gen.kernelRun0_A.sl.v190, Gen.kernelRun0_A.sl.v191, Gen.kernelRun0_A.sl.v192, Gen.kernelRun0_A.sl.v193, Gen.kernelRun0_A.sl.v194, Gen.kernelRun0_A.sl.v195, Gen.kernelRun0_A.sl.v196, Gen.kernelRun0_A.sl.v197, Gen.kernelRun0_A.sl.v198, Gen.kernelRun0_A.sl.v199, Gen.kernelRun0_A.sl.v2, Gen.kernelRun0_A.sl.v200, Gen.kernelRun0_A.sl.v201, Gen.kernelRun0_A.sl.v202, Gen.kernelRun0_A.sl.v203, Gen.kernelRun0_A.sl.v204, Gen.kernelRun0_A.sl.v205, Gen.kernelRun0_A.sl.v206, Gen.kernelRun0_A.sl.v207, Gen.kernelRun0_A.sl.v208, Gen.kernelRun0_A.sl.v209, Gen.kernelRun0_A.sl.v21, Gen.kernelRun0_A.sl.v210, Gen.kernelRun0_A.sl.v211, Gen.kernelRun0_A.sl.v22, Gen.kernelRun0_A.sl.v24, Gen.kernelRun0_A.sl.v25, Gen.kernelRun0_A.sl.v259, Gen.kernelRun0_A.sl.v26, Gen.kernelRun0_A.sl.v260, Gen.kernelRun0_A.sl.v261, Gen.kernelRun0_A.sl.v262, Gen.kernelRun0_A.sl.v263, Gen.kernelRun0_A.sl.v264, Gen.kernelRun0_A.sl.v265, Gen.kernelRun0_A.sl.v266, Gen.kernelRun0_A.sl.v268, Gen.kernelRun0_A.sl.v269, Gen.kernelRun0_A.sl.v27, Gen.kernelRun0_A.sl.v270, Gen.kernelRun0_A.sl.v271, Gen.kernelRun0_A.sl.v272, Gen.kernelRun0_A.sl.v273, Gen.kernelRun0_A.sl.v274, Gen.kernelRun0_A.sl.v275, Gen.kernelRun0_A.sl.v277, Gen.kernelRun0_A.sl.v279, Gen.kernelRun0_A.sl.v28, Gen.kernelRun0_A.sl.v280, Gen.kernelRun0_A.sl.v281, Gen.kernelRun0_A.sl.v282, Gen.kernelRun0_A.sl.v284, Gen.kernelRun0_A.sl.v285, Gen.kernelRun0_A.sl.v286, Gen.kernelRun0_A.sl.v288, Gen.kernelRun0_A.sl.v29, Gen.kernelRun0_A.sl.v290, Gen.kernelRun0_A.sl.v291, Gen.kernelRun0_A.sl.v293, Gen.kernelRun0_A.sl.v295, Gen.kernelRun0_A.sl.v296, Gen.kernelRun0_A.sl.v297, Gen.kernelRun0_A.sl.v298, Gen.kernelRun0_A.sl.v299, Gen.kernelRun0_A.sl.v300, Gen.kernelRun0_A.sl.v301, Gen.kernelRun0_A.sl.v302, Gen.kernelRun0_A.sl.v303, Gen.kernelRun0_A.sl.v304, Gen.kernelRun0_A.sl.v305, Gen.kernelRun0_A.sl.v306, Gen.kernelRun0_A.sl.v307, Gen.kernelRun0_A.sl.v308, Gen.kernelRun0_A.sl.v309, Gen.kernelRun0_A.sl.v31, Gen.kernelRun0_A.sl.v311, Gen.kernelRun0_A.sl.v312, Gen.kernelRun0_A.sl.v313, Gen.kernelRun0_A.sl.v314, Gen.kernelRun0_A.sl.v315, Gen.kernelRun0_A.sl.v316, Gen.kernelRun0_A.sl.v317, Gen.kernelRun0_A.sl.v318, Gen.kernelRun0_A.sl.v319, Gen.kernelRun0_A.sl.v32, Gen.kernelRun0_A.sl.v320, Gen.kernelRun0_A.sl.v321, Gen.kernelRun0_A.sl.v322, Gen.kernelRun0_A.sl.v325, Gen.kernelRun0_A.sl.v326, Gen.kernelRun0_A.sl.v327, Gen.kernelRun0_A.sl.v328, Gen.kernelRun0_A.sl.v329, Gen.kernelRun0_A.sl.v33, Gen.kernelRun0_A.sl.v330, Gen.kernelRun0_A.sl.v331, Gen.kernelRun0_A.sl.v332, Gen.kernelRun0_A.sl.v333, Gen.kernelRun0_A.sl.v335, Gen.kernelRun0_A.sl.v336, Gen.kernelRun0_A.sl.v339, Gen.kernelRun0_A.sl.v34, Gen.kernelRun0_A.sl.v342, Gen.kernelRun0_A.sl.v343, Gen.kernelRun0_A.sl.v344, Gen.kernelRun0_A.sl.v345, Gen.kernelRun0_A.sl.v346, Gen.kernelRun0_A.sl.v348, Gen.kernelRun0_A.sl.v35, Gen.kernelRun0_A.sl.v350, Gen.kernelRun0_A.sl.v351, Gen.kernelRun0_A.sl.v352, Gen.kernelRun0_A.sl.v353, Gen.kernelRun0_A.sl.v354, Gen.kernelRun0_A.sl.v355, Gen.kernelRun0_A.sl.v356, Gen.kernelRun0_A.sl.v359, Gen.kernelRun0_A.sl.v36, Gen.kernelRun0_A.sl.v361, Gen.kernelRun0_A.sl.v363, Gen.kernelRun0_A.sl.v364, Gen.kernelRun0_A.sl.v365, Gen.kernelRun0_A.sl.v366, Gen.kernelRun0_A.sl.v367, Gen.kernelRun0_A.sl.v368, Gen.kernelRun0_A.sl.v369, Gen.kernelRun0_A.sl.v37, Gen.kernelRun0_A.sl.v370, Gen.kernelRun0_A.sl.v371, Gen.kernelRun0_A.sl.v372, Gen.kernelRun0_A.sl.v373, Gen.kernelRun0_A.sl.v374, Gen.kernelRun0_A.sl.v375, Gen.kernelRun0_A.sl.v376, Gen.kernelRun0_A.sl.v377, Gen.kernelRun0_A.sl.v378, Gen.kernelRun0_A.sl.v379, Gen.kernelRun0_A.sl.v38, Gen.kernelRun0_A.sl.v380, Gen.kernelRun0_A.sl.v381, Gen.kernelRun0_A.sl.v382, Gen.kernelRun0_A.sl.v383, Gen.kernelRun0_A.sl.v384, Gen.kernelRun0_A.sl.v385, Gen.kernelRun0_A.sl.v39, Gen.kernelRun0_A.sl.v4, Gen.kernelRun0_A.sl.v40, Gen.kernelRun0_A.sl.v41, Gen.kernelRun0_A.sl.v43, Gen.kernelRun0_A.sl.v432, Gen.kernelRun0_A.sl.v433, Gen.kernelRun0_A.sl.v434, Gen.kernelRun0_A.sl.v435, Gen.kernelRun0_A.sl.v436, Gen.kernelRun0_A.sl.v437, Gen.kernelRun0_A.sl.v438, Gen.kernelRun0_A.sl.v44, Gen.kernelRun0_A.sl.v440, Gen.kernelRun0_A.sl.v441, Gen.kernelRun0_A.sl.v442, Gen.kernelRun0_A.sl.v443, Gen.kernelRun0_A.sl.v444, Gen.kernelRun0_A.sl.v445, Gen.kernelRun0_A.sl.v446, Gen.kernelRun0_A.sl.v447, Gen.kernelRun0_A.sl.v449, Gen.kernelRun0_A.sl.v45, Gen.kernelRun0_A.sl.v451, Gen.kernelRun0_A.sl.v452, Gen.kernelRun0_A.sl.v453, Gen.kernelRun0_A.sl.v454, Gen.kernelRun0_A.sl.v456, Gen.kernelRun0_A.sl.v457, Gen.kernelRun0_A.sl.v458, Gen.kernelRun0_A.sl.v46, Gen.kernelRun0_A.sl.v460, Gen.kernelRun0_A.sl.v462, Gen.kernelRun0_A.sl.v463, Gen.kernelRun0_A.sl.v465, Gen.kernelRun0_A.sl.v467, Gen.kernelRun0_A.sl.v468, Gen.kernelRun0_A.sl.v469, Gen.kernelRun0_A.sl.v47, Gen.kernelRun0_A.sl.v470, Gen.kernelRun0_A.sl.v471, Gen.kernelRun0_A.sl.v472, Gen.kernelRun0_A.sl.v473, Gen.kernelRun0_A.sl.v474, Gen.kernelRun0_A.sl.v475, Gen.kernelRun0_A.sl.v476, Gen.kernelRun0_A.sl.v477, Gen.kernelRun0_A.sl.v478, Gen.kernelRun0_A.sl.v479, Gen.kernelRun0_A.sl.v48, Gen.kernelRun0_A.sl.v480, Gen.kernelRun0_A.sl.v481, Gen.kernelRun0_A.sl.v483, Gen.kernelRun0_A.sl.v484, Gen.kernelRun0_A.sl.v485, Gen.kernelRun0_A.sl.v486, Gen.kernelRun0_A.sl.v487, Gen.kernelRun0_A.sl.v488, Gen.kernelRun0_A.sl.v489, Gen.kernelRun0_A.sl.v49, Gen.kernelRun0_A.sl.v490, Gen.kernelRun0_A.sl.v491, Gen.kernelRun0_A.sl.v492, Gen.kernelRun0_A.sl.v493, Gen.kernelRun0_A.sl.v494, Gen.kernelRun0_A.sl.v497, Gen.kernelRun0_A.sl.v499, Gen.kernelRun0_A.sl.v50, Gen.kernelRun0_A.sl.v500, Gen.kernelRun0_A.sl.v501, Gen.kernelRun0_A.sl.v502, Gen.kernelRun0_A.sl.v503, Gen.kernelRun0_A.sl.v504, Gen.kernelRun0_A.sl.v505, Gen.kernelRun0_A.sl.v506, Gen.kernelRun0_A.sl.v507, Gen.kernelRun0_A.sl.v509, Gen.kernelRun0_A.sl.v510, Gen.kernelRun0_A.sl.v511, Gen.kernelRun0_A.sl.v513, Gen.kernelRun0_A.sl.v514, Gen.kernelRun0_A.sl.v516, Gen.kernelRun0_A.sl.v517, Gen.kernelRun0_A.sl.v518, Gen.kernelRun0_A.sl.v519, Gen.kernelRun0_A.sl.v52, Gen.kernelRun0_A.sl.v53, Gen.kernelRun0_A.sl.v55, Gen.kernelRun0_A.sl.v56, Gen.kernelRun0_A.sl.v566, Gen.kernelRun0_A.sl.v567, Gen.kernelRun0_A.sl.v568, Gen.kernelRun0_A.sl.v569, Gen.kernelRun0_A.sl.v570, Gen.kernelRun0_A.sl.v571, Gen.kernelRun0_A.sl.v573, Gen.kernelRun0_A.sl.v575, Gen.kernelRun0_A.sl.v576, Gen.kernelRun0_A.sl.v577, Gen.kernelRun0_A.sl.v578, Gen.kernelRun0_A.sl.v58, Gen.kernelRun0_A.sl.v580, Gen.kernelRun0_A.sl.v581, Gen.kernelRun0_A.sl.v582, Gen.kernelRun0_A.sl.v584, Gen.kernelRun0_A.sl.v586, Gen.kernelRun0_A.sl.v587, Gen.kernelRun0_A.sl.v589, Gen.kernelRun0_A.sl.v59, Gen.kernelRun0_A.sl.v591, Gen.kernelRun0_A.sl.v592, Gen.kernelRun0_A.sl.v593, Gen.kernelRun0_A.sl.v594, Gen.kernelRun0_A.sl.v595, Gen.kernelRun0_A.sl.v596, Gen.kernelRun0_A.sl.v597, Gen.kernelRun0_A.sl.v598, Gen.kernelRun0_A.sl.v599, Gen.kernelRun0_A.sl.v6, Gen.kernelRun0_A.sl.v600, Gen.kernelRun0_A.sl.v601, Gen.kernelRun0_A.sl.v602, Gen.kernelRun0_A.sl.v603, Gen.kernelRun0_A.sl.v604, Gen.kernelRun0_A.sl.v605, Gen.kernelRun0_A.sl.v607, Gen.kernelRun0_A.sl.v608, Gen.kernelRun0_A.sl.v609, Gen.kernelRun0_A.sl.v61, Gen.kernelRun0_A.sl.v610, Gen.kernelRun0_A.sl.v611, Gen.kernelRun0_A.sl.v612, Gen.kernelRun0_A.sl.v613, Gen.kernelRun0_A.sl.v614, Gen.kernelRun0_A.sl.v615, Gen.kernelRun0_A.sl.v616, Gen.kernelRun0_A.sl.v617, Gen.kernelRun0_A.sl.v618, Gen.kernelRun0_A.sl.v62, Gen.kernelRun0_A.sl.v621, Gen.kernelRun0_A.sl.v622, Gen.kernelRun0_A.sl.v623, Gen.kernelRun0_A.sl.v624, Gen.kernelRun0_A.sl.v625, Gen.kernelRun0_A.sl.v626, Gen.kernelRun0_A.sl.v627, Gen.kernelRun0_A.sl.v628, Gen.kernelRun0_A.sl.v63, Gen.kernelRun0_A.sl.v631, Gen.kernelRun0_A.sl.v632, Gen.kernelRun0_A.sl.v635, Gen.kernelRun0_A.sl.v638, Gen.kernelRun0_A.sl.v639, Gen.kernelRun0_A.sl.v640, Gen.kernelRun0_A.sl.v641, Gen.kernelRun0_A.sl.v642, Gen.kernelRun0_A.sl.v644, Gen.kernelRun0_A.sl.v646, Gen.kernelRun0_A.sl.v647, Gen.kernelRun0_A.sl.v648, Gen.kernelRun0_A.sl.v649, Gen.kernelRun0_A.sl.v65, Gen.kernelRun0_A.sl.v650, Gen.kernelRun0_A.sl.v651, Gen.kernelRun0_A.sl.v652, Gen.kernelRun0_A.sl.v655, Gen.kernelRun0_A.sl.v657, Gen.kernelRun0_A.sl.v659, Gen.kernelRun0_A.sl.v660, Gen.kernelRun0_A.sl.v661, Gen.kernelRun0_A.sl.v662, Gen.kernelRun0_A.sl.v663, Gen.kernelRun0_A.sl.v664, Gen.kernelRun0_A.sl.v665, Gen.kernelRun0_A.sl.v666, Gen.kernelRun0_A.sl.v667, Gen.kernelRun0_A.sl.v668, Gen.kernelRun0_A.sl.v669, Gen.kernelRun0_A.sl.v67, Gen.kernelRun0_A.sl.v670, Gen.kernelRun0_A.sl.v671, Gen.kernelRun0_A.sl.v672, Gen.kernelRun0_A.sl.v673, Gen.kernelRun0_A.sl.v674, Gen.kernelRun0_A.sl.v675, Gen.kernelRun0_A.sl.v676, Gen.kernelRun0_A.sl.v677, Gen.kernelRun0_A.sl.v678, Gen.kernelRun0_A.sl.v679, Gen.kernelRun0_A.sl.v68, Gen.kernelRun0_A.sl.v681, Gen.kernelRun0_A.sl.v682, Gen.kernelRun0_A.sl.v683, Gen.kernelRun0_A.sl.v685, Gen.kernelRun0_A.sl.v686, Gen.kernelRun0_A.sl.v688, Gen.kernelRun0_A.sl.v689, Gen.kernelRun0_A.sl.v69, Gen.kernelRun0_A.sl.v690, Gen.kernelRun0_A.sl.v691, Gen.kernelRun0_A.sl.v692, Gen.kernelRun0_A.sl.v693, Gen.kernelRun0_A.sl.v694, Gen.kernelRun0_A.sl.v7, Gen.kernelRun0_A.sl.v70, Gen.kernelRun0_A.sl.v71, Gen.kernelRun0_A.sl.v72, Gen.kernelRun0_A.sl.v73, Gen.kernelRun0_A.sl.v74, Gen.kernelRun0_A.sl.v741, Gen.kernelRun0_A.sl.v742, Gen.kernelRun0_A.sl.v743, Gen.kernelRun0_A.sl.v745, Gen.kernelRun0_A.sl.v747, Gen.kernelRun0_A.sl.v748, Gen.kernelRun0_A.sl.v749, Gen.kernelRun0_A.sl.v75, Gen.kernelRun0_A.sl.v750, Gen.kernelRun0_A.sl.v752, Gen.kernelRun0_A.sl.v753, Gen.kernelRun0_A.sl.v754, Gen.kernelRun0_A.sl.v756, Gen.kernelRun0_A.sl.v758, Gen.kernelRun0_A.sl.v759, Gen.kernelRun0_A.sl.v76, Gen.kernelRun0_A.sl.v761, Gen.kernelRun0_A.sl.v763, Gen.kernelRun0_A.sl.v764, Gen.kernelRun0_A.sl.v765, Gen.kernelRun0_A.sl.v766, Gen.kernelRun0_A.sl.v767, Gen.kernelRun0_A.sl.v768, Gen.kernelRun0_A.sl.v769, Gen.kernelRun0_A.sl.v77, Gen.kernelRun0_A.sl.v770, Gen.kernelRun0_A.sl.v771, Gen.kernelRun0_A.sl.v772, Gen.kernelRun0_A.sl.v773, Gen.kernelRun0_A.sl.v774, Gen.kernelRun0_A.sl.v775, Gen.kernelRun0_A.sl.v776, Gen.kernelRun0_A.sl.v777, Gen.kernelRun0_A.sl.v779, Gen.kernelRun0_A.sl.v78, Gen.kernelRun0_A.sl.v780, Gen.kernelRun0_A.sl.v781, Gen.kernelRun0_A.sl.v782, Gen.kernelRun0_A.sl.v783, Gen.kernelRun0_A.sl.v79, Gen.kernelRun0_A.sl.v799, Gen.kernelRun0_A.sl.v8, Gen.kernelRun0_A.sl.v829, Gen.kernelRun0_A.sl.v83, Gen.kernelRun0_A.sl.v830, Gen.kernelRun0_A.sl.v831, Gen.kernelRun0_A.sl.v833, Gen.kernelRun0_A.sl.v834, Gen.kernelRun0_A.sl.v835, Gen.kernelRun0_A.sl.v837, Gen.kernelRun0_A.sl.v838, Gen.kernelRun0_A.sl.v839, Gen.kernelRun0_A.sl.v841, Gen.kernelRun0_A.sl.v842, Gen.kernelRun0_A.sl.v843, Gen.kernelRun0_A.sl.v844, Gen.kernelRun0_A.sl.v845, Gen.kernelRun0_A.sl.v846, Gen.kernelRun0_A.sl.v847, Gen.kernelRun0_A.sl.v851, Gen.kernelRun0_A.sl.v852, Gen.kernelRun0_A.sl.v853, Gen.kernelRun0_A.sl.v854, Gen.kernelRun0_A.sl.v855, Gen.kernelRun0_A.sl.v856, Gen.kernelRun0_A.sl.v857, Gen.kernelRun0_A.sl.v858, Gen.kernelRun0_A.sl.v860, Gen.kernelRun0_A.sl.v861, Gen.kernelRun0_A.sl.v862, Gen.kernelRun0_A.sl.v863, Gen.kernelRun0_A.sl.v864, Gen.kernelRun0_A.sl.v865, Gen.kernelRun0_A.sl.v866, Gen.kernelRun0_A.sl.v867, Gen.kernelRun0_A.sl.v869, Gen.kernelRun0_A.sl.v871, Gen.kernelRun0_A.sl.v872, Gen.kernelRun0_A.sl.v873, Gen.kernelRun0_A.sl.v874, Gen.kernelRun0_A.sl.v876, Gen.kernelRun0_A.sl.v877, Gen.kernelRun0_A.sl.v878, Gen.kernelRun0_A.sl.v880, Gen.kernelRun0_A.sl.v882, Gen.kernelRun0_A.sl.v883, Gen.kernelRun0_A.sl.v885, Gen.kernelRun0_A.sl.v887, Gen.kernelRun0_A.sl.v888, Gen.kernelRun0_A.sl.v889, Gen.kernelRun0_A.sl.v890, Gen.kernelRun0_A.sl.v891, Gen.kernelRun0_A.sl.v892, Gen.kernelRun0_A.sl.v893, Gen.kernelRun0_A.sl.v894, Gen.kernelRun0_A.sl.v895, Gen.kernelRun0_A.sl.v896, Gen.kernelRun0_A.sl.v897, Gen.kernelRun0_A.sl.v898, Gen.kernelRun0_A.sl.v899, Gen.kernelRun0_A.sl.v9, Gen.kernelRun0_A.sl.v900, Gen.kernelRun0_A.sl.v901, Gen.kernelRun0_A.sl.v903, Gen.kernelRun0_A.sl.v904, Gen.kernelRun0_A.sl.v905, Gen.kernelRun0_A.sl.v906, Gen.kernelRun0_A.sl.v907, Gen.kernelRun0_A.sl.v908, Gen.kernelRun0_A.sl.v909, Gen.kernelRun0_A.sl.v910, Gen.kernelRun0_A.sl.v911, Gen.kernelRun0_A.sl.v912, Gen.kernelRun0_A.sl.v913, Gen.kernelRun0_A.sl.v914, Gen.kernelRun0_A.sl.v915, Gen.kernelRun0_A.sl.v916, Gen.kernelRun0_A.sl.v917, Gen.kernelRun0_A.sl.v918, Gen.kernelRun0_A.sl.v919, Gen.kernelRun0_A.sl.v920, Gen.kernelRun0_A.sl.v921, Gen.kernelRun0_A.sl.v922, Gen.kernelRun0_A.sl.v923, Gen.kernelRun0_A.sl.v924, Gen.kernelRun0_A.sl.v927, Gen.kernelRun0_A.sl.v928, Gen.kernelRun0_A.sl.v931, Gen.kernelRun0_A.sl.v934, Gen.kernelRun0_A.sl.v935, Gen.kernelRun0_A.sl.v936, Gen.kernelRun0_A.sl.v937, Gen.kernelRun0_A.sl.v938, Gen.kernelRun0_A.sl.v940, Gen.kernelRun0_A.sl.v942, Gen.kernelRun0_A.sl.v943, Gen.kernelRun0_A.sl.v944, Gen.kernelRun0_A.sl.v945, Gen.kernelRun0_A.sl.v946, Gen.kernelRun0_A.sl.v947, Gen.kernelRun0_A.sl.v948, Gen.kernelRun0_A.sl.v951, Gen.kernelRun0_A.sl.v953, Gen.kernelRun0_A.sl.v955, Gen.kernelRun0_A.sl.v956, Gen.kernelRun0_A.sl.v957, Gen.kernelRun0_A.sl.v958, Gen.kernelRun0_A.sl.v960, Gen.kernelRun0_A.sl.v963, Gen.kernelRun0_A.sl.v971, View.readCov_skip, View.readCov_cons_toLoadRect, View.readCov_fill, View.readAt_eq_ld, Memref.IsWhole.read_unread, View.ld_unit_lit']
  funext y
  canon_tiles x h
  case piece0 => exact Eq.trans (congrFun (by rfl) x) (stackH_at (headH x0 x1 x2 x3 x4 x5 x6 x7 x8 x9 x10 x11) 7 x y h0 h1 h2)
  case piece1 => exact Eq.trans (congrFun (by rfl) x) (stackH_at (headH x0 x1 x2 x3 x4 x5 x6 x7 x8 x9 x10 x11) 6 x y h0 h1 h2)
  case piece2 => exact Eq.trans (congrFun (by rfl) x) (stackH_at (headH x0 x1 x2 x3 x4 x5 x6 x7 x8 x9 x10 x11) 5 x y h0 h1 h2)
  case piece3 => exact Eq.trans (congrFun (by rfl) x) (stackH_at (headH x0 x1 x2 x3 x4 x5 x6 x7 x8 x9 x10 x11) 4 x y h0 h1 h2)
  case piece4 => exact Eq.trans (congrFun (by rfl) x) (stackH_at (headH x0 x1 x2 x3 x4 x5 x6 x7 x8 x9 x10 x11) 3 x y h0 h1 h2)
  case piece5 => exact Eq.trans (congrFun (by rfl) x) (stackH_at (headH x0 x1 x2 x3 x4 x5 x6 x7 x8 x9 x10 x11) 2 x y h0 h1 h2)
  case piece6 => exact Eq.trans (congrFun (by rfl) x) (stackH_at (headH x0 x1 x2 x3 x4 x5 x6 x7 x8 x9 x10 x11) 1 x y h0 h1 h2)
  case piece7 => exact Eq.trans (congrFun (by rfl) x) (stackH_at (headH x0 x1 x2 x3 x4 x5 x6 x7 x8 x9 x10 x11) 0 x y h0 h1 (by simpa using h2))

end Cert.Kernel7Ideal.Step

end
-- ==== Proof.MemC.lean ====
/- What the sample's mLSTM's body leaves, read off the frame certificate's recorded stores: the heads' outputs side by side,
   and the pairs' and heads' parts of the new state. -/
module

public import proofs.«01_k».proof.Proof.MemStep
public import proofs.«01_k».proof.Proof.SampleStep
public import Idealize.ShloMosaic.Lib.Pipeline.ReadBack
public import Idealize.ShloMosaic.Lib.Pipeline.ValueKit

@[expose] public section

set_option maxRecDepth 100000
set_option maxHeartbeats 4000000

noncomputable section

namespace Cert.Kernel7Ideal.Step

open Cert.Kernel7Ideal Cert.Kernel7Ideal.Gen Idealize.ShloMosaic

variable {F : FTy → Type} [FloatOps F] [Named F]

/-- A read of a whole buffer is what its stores leave. -/
theorem readCov_whole {Val : EltTy → Type} [∀ e, Nonempty (Val e)] {sig : RefSig} {κ : Kind} {sp : Space} {S : Shape} {e : EltTy} (v : View sig κ sp S e)
    (L : List (View.Piece Val S e)) {off : Fin S.rank → Nat} (inb : ∀ a, off a + S.size a ≤ S.size a) (h : ∀ a, off a = 0) :
    v.readCov L (Rect.unit off S.size inb).toLoadRect = View.canon L :=
  (View.readCov_eq_canon' v L _).trans (View.ld_unit_lit inb (View.canon L) h)

theorem out_A_13 (c : Dev nD) (i : grid0.Coords) (arg2 : Memref sig .tc .vmem S1x16x512 .bf16) (harg2 : arg2.IsWhole) (arg3 : Memref sig .tc .vmem S1x16x512 .bf16) (harg3 : arg3.IsWhole) (arg4 : Memref sig .tc .vmem S1x16x1024 .bf16) (harg4 : arg4.IsWhole) (arg5 : Memref sig .tc .vmem S1x16x1024 .f32) (harg5 : arg5.IsWhole) (arg6 : Memref sig .tc .vmem S1x16x16 .f32) (harg6 : arg6.IsWhole) (arg7 : Memref sig .tc .vmem S1x16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1024 .f32) (harg10 : arg10.IsWhole) (arg11 : Memref sig .tc .vmem S1x4x128x128 .f32) (harg11 : arg11.IsWhole) (arg12 : Memref sig .tc .vmem S1x4x1x128 .f32) (harg12 : arg12.IsWhole) (arg13 : Memref sig .tc .vmem S1x8x1x128 .f32) (harg13 : arg13.IsWhole) (arg14 : Memref sig .tc .vmem S1x16x1024 .bf16) (harg14 : arg14.IsWhole) (arg15 : Memref sig .tc .vmem S1x4x128x128 .f32) (harg15 : arg15.IsWhole) (arg16 : Memref sig .tc .vmem S1x4x1x128 .f32) (harg16 : arg16.IsWhole) (arg17 : Memref sig .tc .vmem S1x8x1x128 .f32) (harg17 : arg17.IsWhole) (arg18 : Memref sig .tc .vmem S4x128x128 .f32) (harg18 : arg18.IsWhole) (arg19 : Memref sig .tc .vmem S4x1x128 .f32) (harg19 : arg19.IsWhole) (arg20 : Memref sig .tc .vmem S8x1x128 .f32) (harg20 : arg20.IsWhole) (hc0 : cond0_0 i) (hc1 : cond0_1 i)
    (x0 : Vec F S1x16x512 .bf16) (x1 : Vec F S1x16x512 .bf16) (x2 : Vec F S1x16x1024 .bf16) (x3 : Vec F S1x16x1024 .f32) (x4 : Vec F S1x16x16 .f32) (x5 : Vec F S1x16x16 .f32) (x6 : Vec F S1x16 .f32) (x7 : Vec F S16x1 .f32) (x8 : Vec F S1x1024 .f32) (x9 : Vec F S1x4x128x128 .f32) (x10 : Vec F S1x4x1x128 .f32) (x11 : Vec F S1x8x1x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay1 (stackC (pairC x1 x2 x4 x5 x6 x7 x9 x11)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  simp (disch := decide) only [Gen.kernelRun0_A.sl.HS0_1, Gen.kernelRun0_A.sl.HS0_2, Gen.kernelRun0_A.sl.HS0_3, Gen.kernelRun0_A.sl.HS0_4, Gen.kernelRun0_A.sl.HS0_5, Gen.kernelRun0_A.sl.HS1_1, Gen.kernelRun0_A.sl.HS1_2, Gen.kernelRun0_A.sl.HS1_3, Gen.kernelRun0_A.sl.HS1_4, Gen.kernelRun0_A.sl.HS1_5, Gen.kernelRun0_A.sl.HS2_1, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, Gen.kernelRun0_A.sl.cst, Gen.kernelRun0_A.sl.cst_117, Gen.kernelRun0_A.sl.cst_13, Gen.kernelRun0_A.sl.cst_15, Gen.kernelRun0_A.sl.cst_26, Gen.kernelRun0_A.sl.cst_282, Gen.kernelRun0_A.sl.cst_283, Gen.kernelRun0_A.sl.cst_48, Gen.kernelRun0_A.sl.cst_51, Gen.kernelRun0_A.sl.cst_55, Gen.kernelRun0_A.sl.cst_56, Gen.kernelRun0_A.sl.cst_68, Gen.kernelRun0_A.sl.cst_69, Gen.kernelRun0_A.sl.cst_70, Gen.kernelRun0_A.sl.cst_74, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_6, Gen.kernelRun0_A.sl.r_7, Gen.kernelRun0_A.sl.r_8, Gen.kernelRun0_A.sl.r_9, Gen.kernelRun0_A.sl.v0, Gen.kernelRun0_A.sl.v1, Gen.kernelRun0_A.sl.v10, Gen.kernelRun0_A.sl.v1005, Gen.kernelRun0_A.sl.v1009, Gen.kernelRun0_A.sl.v1010, Gen.kernelRun0_A.sl.v1011, Gen.kernelRun0_A.sl.v1013, Gen.kernelRun0_A.sl.v1014, Gen.kernelRun0_A.sl.v1015, Gen.kernelRun0_A.sl.v1016, Gen.kernelRun0_A.sl.v1017, Gen.kernelRun0_A.sl.v1018, Gen.kernelRun0_A.sl.v1019, Gen.kernelRun0_A.sl.v1023, Gen.kernelRun0_A.sl.v1024, Gen.kernelRun0_A.sl.v1025, Gen.kernelRun0_A.sl.v1026, Gen.kernelRun0_A.sl.v1027, Gen.kernelRun0_A.sl.v1028, Gen.kernelRun0_A.sl.v1029, Gen.kernelRun0_A.sl.v1030, Gen.kernelRun0_A.sl.v1032, Gen.kernelRun0_A.sl.v1033, Gen.kernelRun0_A.sl.v1034, Gen.kernelRun0_A.sl.v1035, Gen.kernelRun0_A.sl.v1036, Gen.kernelRun0_A.sl.v1037, Gen.kernelRun0_A.sl.v1038, Gen.kernelRun0_A.sl.v1039, Gen.kernelRun0_A.sl.v1041, Gen.kernelRun0_A.sl.v1043, Gen.kernelRun0_A.sl.v1044, Gen.kernelRun0_A.sl.v1045, Gen.kernelRun0_A.sl.v1046, Gen.kernelRun0_A.sl.v1048, Gen.kernelRun0_A.sl.v1049, Gen.kernelRun0_A.sl.v1050, Gen.kernelRun0_A.sl.v1052, Gen.kernelRun0_A.sl.v1054, Gen.kernelRun0_A.sl.v1055, Gen.kernelRun0_A.sl.v1057, Gen.kernelRun0_A.sl.v1059, Gen.kernelRun0_A.sl.v1060, Gen.kernelRun0_A.sl.v1061, Gen.kernelRun0_A.sl.v1062, Gen.kernelRun0_A.sl.v1063, Gen.kernelRun0_A.sl.v1064, Gen.kernelRun0_A.sl.v1065, Gen.kernelRun0_A.sl.v1066, Gen.kernelRun0_A.sl.v1067, Gen.kernelRun0_A.sl.v1068, Gen.kernelRun0_A.sl.v1069, Gen.kernelRun0_A.sl.v1070, Gen.kernelRun0_A.sl.v1071, Gen.kernelRun0_A.sl.v1072, Gen.kernelRun0_A.sl.v1073, Gen.kernelRun0_A.sl.v1075, Gen.kernelRun0_A.sl.v1076, Gen.kernelRun0_A.sl.v1077, Gen.kernelRun0_A.sl.v1078, Gen.kernelRun0_A.sl.v1079, Gen.kernelRun0_A.sl.v1080, Gen.kernelRun0_A.sl.v1081, Gen.kernelRun0_A.sl.v1082, Gen.kernelRun0_A.sl.v1083, Gen.kernelRun0_A.sl.v1084, Gen.kernelRun0_A.sl.v1085, Gen.kernelRun0_A.sl.v1086, Gen.kernelRun0_A.sl.v1087, Gen.kernelRun0_A.sl.v1088, Gen.kernelRun0_A.sl.v1089, Gen.kernelRun0_A.sl.v1095, Gen.kernelRun0_A.sl.v11, Gen.kernelRun0_A.sl.v1137, Gen.kernelRun0_A.sl.v1138, Gen.kernelRun0_A.sl.v1139, Gen.kernelRun0_A.sl.v1140, Gen.kernelRun0_A.sl.v1141, Gen.kernelRun0_A.sl.v1142, Gen.kernelRun0_A.sl.v1143, Gen.kernelRun0_A.sl.v1144, Gen.kernelRun0_A.sl.v1147, Gen.kernelRun0_A.sl.v1148, Gen.kernelRun0_A.sl.v1149, Gen.kernelRun0_A.sl.v1150, Gen.kernelRun0_A.sl.v1151, Gen.kernelRun0_A.sl.v1152, Gen.kernelRun0_A.sl.v1153, Gen.kernelRun0_A.sl.v1154, Gen.kernelRun0_A.sl.v1156, Gen.kernelRun0_A.sl.v1157, Gen.kernelRun0_A.sl.v1158, Gen.kernelRun0_A.sl.v1159, Gen.kernelRun0_A.sl.v1160, Gen.kernelRun0_A.sl.v1161, Gen.kernelRun0_A.sl.v1162, Gen.kernelRun0_A.sl.v1163, Gen.kernelRun0_A.sl.v1165, Gen.kernelRun0_A.sl.v1167, Gen.kernelRun0_A.sl.v1168, Gen.kernelRun0_A.sl.v1169, Gen.kernelRun0_A.sl.v1170, Gen.kernelRun0_A.sl.v1172, Gen.kernelRun0_A.sl.v1173, Gen.kernelRun0_A.sl.v1174, Gen.kernelRun0_A.sl.v1176, Gen.kernelRun0_A.sl.v1178, Gen.kernelRun0_A.sl.v1179, Gen.kernelRun0_A.sl.v1181, Gen.kernelRun0_A.sl.v1183, Gen.kernelRun0_A.sl.v1184, Gen.kernelRun0_A.sl.v1185, Gen.kernelRun0_A.sl.v1186, Gen.kernelRun0_A.sl.v1187, Gen.kernelRun0_A.sl.v1188, Gen.kernelRun0_A.sl.v1189, Gen.kernelRun0_A.sl.v1190, Gen.kernelRun0_A.sl.v1191, Gen.kernelRun0_A.sl.v1192, Gen.kernelRun0_A.sl.v1193, Gen.kernelRun0_A.sl.v1194, Gen.kernelRun0_A.sl.v1195, Gen.kernelRun0_A.sl.v1196, Gen.kernelRun0_A.sl.v1197, Gen.kernelRun0_A.sl.v1199, Gen.kernelRun0_A.sl.v1200, Gen.kernelRun0_A.sl.v1201, Gen.kernelRun0_A.sl.v1202, Gen.kernelRun0_A.sl.v1203, Gen.kernelRun0_A.sl.v1204, Gen.kernelRun0_A.sl.v1205, Gen.kernelRun0_A.sl.v1206, Gen.kernelRun0_A.sl.v1207, Gen.kernelRun0_A.sl.v1208, Gen.kernelRun0_A.sl.v1209, Gen.kernelRun0_A.sl.v1210, Gen.kernelRun0_A.sl.v1211, Gen.kernelRun0_A.sl.v1212, Gen.kernelRun0_A.sl.v1213, Gen.kernelRun0_A.sl.v1214, Gen.kernelRun0_A.sl.v1215, Gen.kernelRun0_A.sl.v1216, Gen.kernelRun0_A.sl.v1217, Gen.kernelRun0_A.sl.v1218, Gen.kernelRun0_A.sl.v1219, Gen.kernelRun0_A.sl.v1220, Gen.kernelRun0_A.sl.v1223, Gen.kernelRun0_A.sl.v1224, Gen.kernelRun0_A.sl.v125, Gen.kernelRun0_A.sl.v1251, Gen.kernelRun0_A.sl.v1252, Gen.kernelRun0_A.sl.v1254, Gen.kernelRun0_A.sl.v1255, Gen.kernelRun0_A.sl.v1255_1, Gen.kernelRun0_A.sl.v1257, Gen.kernelRun0_A.sl.v1259, Gen.kernelRun0_A.sl.v1259_1, Gen.kernelRun0_A.sl.v126, Gen.kernelRun0_A.sl.v1260, Gen.kernelRun0_A.sl.v1262, Gen.kernelRun0_A.sl.v1264, Gen.kernelRun0_A.sl.v1265, Gen.kernelRun0_A.sl.v127, Gen.kernelRun0_A.sl.v128, Gen.kernelRun0_A.sl.v129, Gen.kernelRun0_A.sl.v13, Gen.kernelRun0_A.sl.v130, Gen.kernelRun0_A.sl.v131, Gen.kernelRun0_A.sl.v132, Gen.kernelRun0_A.sl.v134, Gen.kernelRun0_A.sl.v135, Gen.kernelRun0_A.sl.v136, Gen.kernelRun0_A.sl.v137, Gen.kernelRun0_A.sl.v138, Gen.kernelRun0_A.sl.v139, Gen.kernelRun0_A.sl.v140, Gen.kernelRun0_A.sl.v141, Gen.kernelRun0_A.sl.v142, Gen.kernelRun0_A.sl.v143, Gen.kernelRun0_A.sl.v144, Gen.kernelRun0_A.sl.v145, Gen.kernelRun0_A.sl.v146, Gen.kernelRun0_A.sl.v147, Gen.kernelRun0_A.sl.v148, Gen.kernelRun0_A.sl.v149, Gen.kernelRun0_A.sl.v15, Gen.kernelRun0_A.sl.v150, Gen.kernelRun0_A.sl.v151, Gen.kernelRun0_A.sl.v152, Gen.kernelRun0_A.sl.v153, Gen.kernelRun0_A.sl.v154, Gen.kernelRun0_A.sl.v155, Gen.kernelRun0_A.sl.v156, Gen.kernelRun0_A.sl.v157, Gen.kernelRun0_A.sl.v158, Gen.kernelRun0_A.sl.v160, Gen.kernelRun0_A.sl.v161, Gen.kernelRun0_A.sl.v162, Gen.kernelRun0_A.sl.v164, Gen.kernelRun0_A.sl.v166, Gen.kernelRun0_A.sl.v167, Gen.kernelRun0_A.sl.v168, Gen.kernelRun0_A.sl.v169, Gen.kernelRun0_A.sl.v17, Gen.kernelRun0_A.sl.v171, Gen.kernelRun0_A.sl.v172, Gen.kernelRun0_A.sl.v173, Gen.kernelRun0_A.sl.v175, Gen.kernelRun0_A.sl.v176, Gen.kernelRun0_A.sl.v177, Gen.kernelRun0_A.sl.v178, Gen.kernelRun0_A.sl.v179, Gen.kernelRun0_A.sl.v18, Gen.kernelRun0_A.sl.v180, Gen.kernelRun0_A.sl.v181, Gen.kernelRun0_A.sl.v182, Gen.kernelRun0_A.sl.v183, Gen.kernelRun0_A.sl.v184, Gen.kernelRun0_A.sl.v185, Gen.kernelRun0_A.sl.v187, Gen.kernelRun0_A.sl.v188, Gen.kernelRun0_A.sl.v189, Gen.kernelRun0_A.sl.v19, Gen.kernelRun0_A.sl.v190, Gen.kernelRun0_A.sl.v191, Gen.kernelRun0_A.sl.v192, Gen.kernelRun0_A.sl.v193, Gen.kernelRun0_A.sl.v194, Gen.kernelRun0_A.sl.v195, Gen.kernelRun0_A.sl.v196, Gen.kernelRun0_A.sl.v197, Gen.kernelRun0_A.sl.v198, Gen.kernelRun0_A.sl.v199, Gen.kernelRun0_A.sl.v2, Gen.kernelRun0_A.sl.v200, Gen.kernelRun0_A.sl.v201, Gen.kernelRun0_A.sl.v202, Gen.kernelRun0_A.sl.v203, Gen.kernelRun0_A.sl.v204, Gen.kernelRun0_A.sl.v205, Gen.kernelRun0_A.sl.v206, Gen.kernelRun0_A.sl.v207, Gen.kernelRun0_A.sl.v208, Gen.kernelRun0_A.sl.v209, Gen.kernelRun0_A.sl.v21, Gen.kernelRun0_A.sl.v210, Gen.kernelRun0_A.sl.v211, Gen.kernelRun0_A.sl.v22, Gen.kernelRun0_A.sl.v24, Gen.kernelRun0_A.sl.v25, Gen.kernelRun0_A.sl.v259, Gen.kernelRun0_A.sl.v26, Gen.kernelRun0_A.sl.v260, Gen.kernelRun0_A.sl.v261, Gen.kernelRun0_A.sl.v262, Gen.kernelRun0_A.sl.v263, Gen.kernelRun0_A.sl.v264, Gen.kernelRun0_A.sl.v265, Gen.kernelRun0_A.sl.v266, Gen.kernelRun0_A.sl.v268, Gen.kernelRun0_A.sl.v269, Gen.kernelRun0_A.sl.v27, Gen.kernelRun0_A.sl.v270, Gen.kernelRun0_A.sl.v271, Gen.kernelRun0_A.sl.v272, Gen.kernelRun0_A.sl.v273, Gen.kernelRun0_A.sl.v274, Gen.kernelRun0_A.sl.v275, Gen.kernelRun0_A.sl.v277, Gen.kernelRun0_A.sl.v279, Gen.kernelRun0_A.sl.v28, Gen.kernelRun0_A.sl.v280, Gen.kernelRun0_A.sl.v281, Gen.kernelRun0_A.sl.v282, Gen.kernelRun0_A.sl.v284, Gen.kernelRun0_A.sl.v285, Gen.kernelRun0_A.sl.v286, Gen.kernelRun0_A.sl.v288, Gen.kernelRun0_A.sl.v29, Gen.kernelRun0_A.sl.v290, Gen.kernelRun0_A.sl.v291, Gen.kernelRun0_A.sl.v293, Gen.kernelRun0_A.sl.v295, Gen.kernelRun0_A.sl.v296, Gen.kernelRun0_A.sl.v297, Gen.kernelRun0_A.sl.v298, Gen.kernelRun0_A.sl.v299, Gen.kernelRun0_A.sl.v300, Gen.kernelRun0_A.sl.v301, Gen.kernelRun0_A.sl.v302, Gen.kernelRun0_A.sl.v303, Gen.kernelRun0_A.sl.v304, Gen.kernelRun0_A.sl.v305, Gen.kernelRun0_A.sl.v306, Gen.kernelRun0_A.sl.v307, Gen.kernelRun0_A.sl.v308, Gen.kernelRun0_A.sl.v309, Gen.kernelRun0_A.sl.v31, Gen.kernelRun0_A.sl.v311, Gen.kernelRun0_A.sl.v312, Gen.kernelRun0_A.sl.v313, Gen.kernelRun0_A.sl.v314, Gen.kernelRun0_A.sl.v315, Gen.kernelRun0_A.sl.v316, Gen.kernelRun0_A.sl.v317, Gen.kernelRun0_A.sl.v318, Gen.kernelRun0_A.sl.v319, Gen.kernelRun0_A.sl.v32, Gen.kernelRun0_A.sl.v320, Gen.kernelRun0_A.sl.v321, Gen.kernelRun0_A.sl.v322, Gen.kernelRun0_A.sl.v325, Gen.kernelRun0_A.sl.v326, Gen.kernelRun0_A.sl.v327, Gen.kernelRun0_A.sl.v328, Gen.kernelRun0_A.sl.v329, Gen.kernelRun0_A.sl.v33, Gen.kernelRun0_A.sl.v330, Gen.kernelRun0_A.sl.v331, Gen.kernelRun0_A.sl.v332, Gen.kernelRun0_A.sl.v333, Gen.kernelRun0_A.sl.v335, Gen.kernelRun0_A.sl.v336, Gen.kernelRun0_A.sl.v339, Gen.kernelRun0_A.sl.v34, Gen.kernelRun0_A.sl.v342, Gen.kernelRun0_A.sl.v343, Gen.kernelRun0_A.sl.v344, Gen.kernelRun0_A.sl.v345, Gen.kernelRun0_A.sl.v346, Gen.kernelRun0_A.sl.v348, Gen.kernelRun0_A.sl.v35, Gen.kernelRun0_A.sl.v350, Gen.kernelRun0_A.sl.v351, Gen.kernelRun0_A.sl.v352, Gen.kernelRun0_A.sl.v353, Gen.kernelRun0_A.sl.v354, Gen.kernelRun0_A.sl.v355, Gen.kernelRun0_A.sl.v356, Gen.kernelRun0_A.sl.v359, Gen.kernelRun0_A.sl.v36, Gen.kernelRun0_A.sl.v361, Gen.kernelRun0_A.sl.v363, Gen.kernelRun0_A.sl.v364, Gen.kernelRun0_A.sl.v365, Gen.kernelRun0_A.sl.v366, Gen.kernelRun0_A.sl.v367, Gen.kernelRun0_A.sl.v368, Gen.kernelRun0_A.sl.v369, Gen.kernelRun0_A.sl.v37, Gen.kernelRun0_A.sl.v370, Gen.kernelRun0_A.sl.v371, Gen.kernelRun0_A.sl.v372, Gen.kernelRun0_A.sl.v373, Gen.kernelRun0_A.sl.v374, Gen.kernelRun0_A.sl.v375, Gen.kernelRun0_A.sl.v376, Gen.kernelRun0_A.sl.v377, Gen.kernelRun0_A.sl.v378, Gen.kernelRun0_A.sl.v379, Gen.kernelRun0_A.sl.v38, Gen.kernelRun0_A.sl.v380, Gen.kernelRun0_A.sl.v381, Gen.kernelRun0_A.sl.v382, Gen.kernelRun0_A.sl.v383, Gen.kernelRun0_A.sl.v384, Gen.kernelRun0_A.sl.v385, Gen.kernelRun0_A.sl.v39, Gen.kernelRun0_A.sl.v4, Gen.kernelRun0_A.sl.v40, Gen.kernelRun0_A.sl.v41, Gen.kernelRun0_A.sl.v43, Gen.kernelRun0_A.sl.v432, Gen.kernelRun0_A.sl.v433, Gen.kernelRun0_A.sl.v434, Gen.kernelRun0_A.sl.v435, Gen.kernelRun0_A.sl.v436, Gen.kernelRun0_A.sl.v437, Gen.kernelRun0_A.sl.v438, Gen.kernelRun0_A.sl.v44, Gen.kernelRun0_A.sl.v440, Gen.kernelRun0_A.sl.v441, Gen.kernelRun0_A.sl.v442, Gen.kernelRun0_A.sl.v443, Gen.kernelRun0_A.sl.v444, Gen.kernelRun0_A.sl.v445, Gen.kernelRun0_A.sl.v446, Gen.kernelRun0_A.sl.v447, Gen.kernelRun0_A.sl.v449, Gen.kernelRun0_A.sl.v45, Gen.kernelRun0_A.sl.v451, Gen.kernelRun0_A.sl.v452, Gen.kernelRun0_A.sl.v453, Gen.kernelRun0_A.sl.v454, Gen.kernelRun0_A.sl.v456, Gen.kernelRun0_A.sl.v457, Gen.kernelRun0_A.sl.v458, Gen.kernelRun0_A.sl.v46, Gen.kernelRun0_A.sl.v460, Gen.kernelRun0_A.sl.v462, Gen.kernelRun0_A.sl.v463, Gen.kernelRun0_A.sl.v465, Gen.kernelRun0_A.sl.v467, Gen.kernelRun0_A.sl.v468, Gen.kernelRun0_A.sl.v469, Gen.kernelRun0_A.sl.v47, Gen.kernelRun0_A.sl.v470, Gen.kernelRun0_A.sl.v471, Gen.kernelRun0_A.sl.v472, Gen.kernelRun0_A.sl.v473, Gen.kernelRun0_A.sl.v474, Gen.kernelRun0_A.sl.v475, Gen.kernelRun0_A.sl.v476, Gen.kernelRun0_A.sl.v477, Gen.kernelRun0_A.sl.v478, Gen.kernelRun0_A.sl.v479, Gen.kernelRun0_A.sl.v48, Gen.kernelRun0_A.sl.v480, Gen.kernelRun0_A.sl.v481, Gen.kernelRun0_A.sl.v483, Gen.kernelRun0_A.sl.v484, Gen.kernelRun0_A.sl.v485, Gen.kernelRun0_A.sl.v486, Gen.kernelRun0_A.sl.v487, Gen.kernelRun0_A.sl.v488, Gen.kernelRun0_A.sl.v489, Gen.kernelRun0_A.sl.v49, Gen.kernelRun0_A.sl.v490, Gen.kernelRun0_A.sl.v491, Gen.kernelRun0_A.sl.v492, Gen.kernelRun0_A.sl.v493, Gen.kernelRun0_A.sl.v494, Gen.kernelRun0_A.sl.v497, Gen.kernelRun0_A.sl.v499, Gen.kernelRun0_A.sl.v50, Gen.kernelRun0_A.sl.v500, Gen.kernelRun0_A.sl.v501, Gen.kernelRun0_A.sl.v502, Gen.kernelRun0_A.sl.v503, Gen.kernelRun0_A.sl.v504, Gen.kernelRun0_A.sl.v505, Gen.kernelRun0_A.sl.v506, Gen.kernelRun0_A.sl.v507, Gen.kernelRun0_A.sl.v509, Gen.kernelRun0_A.sl.v510, Gen.kernelRun0_A.sl.v511, Gen.kernelRun0_A.sl.v513, Gen.kernelRun0_A.sl.v514, Gen.kernelRun0_A.sl.v516, Gen.kernelRun0_A.sl.v517, Gen.kernelRun0_A.sl.v518, Gen.kernelRun0_A.sl.v519, Gen.kernelRun0_A.sl.v52, Gen.kernelRun0_A.sl.v53, Gen.kernelRun0_A.sl.v55, Gen.kernelRun0_A.sl.v56, Gen.kernelRun0_A.sl.v566, Gen.kernelRun0_A.sl.v567, Gen.kernelRun0_A.sl.v568, Gen.kernelRun0_A.sl.v569, Gen.kernelRun0_A.sl.v570, Gen.kernelRun0_A.sl.v571, Gen.kernelRun0_A.sl.v573, Gen.kernelRun0_A.sl.v575, Gen.kernelRun0_A.sl.v576, Gen.kernelRun0_A.sl.v577, Gen.kernelRun0_A.sl.v578, Gen.kernelRun0_A.sl.v58, Gen.kernelRun0_A.sl.v580, Gen.kernelRun0_A.sl.v581, Gen.kernelRun0_A.sl.v582, Gen.kernelRun0_A.sl.v584, Gen.kernelRun0_A.sl.v586, Gen.kernelRun0_A.sl.v587, Gen.kernelRun0_A.sl.v589, Gen.kernelRun0_A.sl.v59, Gen.kernelRun0_A.sl.v591, Gen.kernelRun0_A.sl.v592, Gen.kernelRun0_A.sl.v593, Gen.kernelRun0_A.sl.v594, Gen.kernelRun0_A.sl.v595, Gen.kernelRun0_A.sl.v596, Gen.kernelRun0_A.sl.v597, Gen.kernelRun0_A.sl.v598, Gen.kernelRun0_A.sl.v599, Gen.kernelRun0_A.sl.v6, Gen.kernelRun0_A.sl.v600, Gen.kernelRun0_A.sl.v601, Gen.kernelRun0_A.sl.v602, Gen.kernelRun0_A.sl.v603, Gen.kernelRun0_A.sl.v604, Gen.kernelRun0_A.sl.v605, Gen.kernelRun0_A.sl.v607, Gen.kernelRun0_A.sl.v608, Gen.kernelRun0_A.sl.v609, Gen.kernelRun0_A.sl.v61, Gen.kernelRun0_A.sl.v610, Gen.kernelRun0_A.sl.v611, Gen.kernelRun0_A.sl.v612, Gen.kernelRun0_A.sl.v613, Gen.kernelRun0_A.sl.v614, Gen.kernelRun0_A.sl.v615, Gen.kernelRun0_A.sl.v616, Gen.kernelRun0_A.sl.v617, Gen.kernelRun0_A.sl.v618, Gen.kernelRun0_A.sl.v62, Gen.kernelRun0_A.sl.v621, Gen.kernelRun0_A.sl.v622, Gen.kernelRun0_A.sl.v623, Gen.kernelRun0_A.sl.v624, Gen.kernelRun0_A.sl.v625, Gen.kernelRun0_A.sl.v626, Gen.kernelRun0_A.sl.v627, Gen.kernelRun0_A.sl.v628, Gen.kernelRun0_A.sl.v63, Gen.kernelRun0_A.sl.v631, Gen.kernelRun0_A.sl.v632, Gen.kernelRun0_A.sl.v635, Gen.kernelRun0_A.sl.v638, Gen.kernelRun0_A.sl.v639, Gen.kernelRun0_A.sl.v640, Gen.kernelRun0_A.sl.v641, Gen.kernelRun0_A.sl.v642, Gen.kernelRun0_A.sl.v644, Gen.kernelRun0_A.sl.v646, Gen.kernelRun0_A.sl.v647, Gen.kernelRun0_A.sl.v648, Gen.kernelRun0_A.sl.v649, Gen.kernelRun0_A.sl.v65, Gen.kernelRun0_A.sl.v650, Gen.kernelRun0_A.sl.v651, Gen.kernelRun0_A.sl.v652, Gen.kernelRun0_A.sl.v655, Gen.kernelRun0_A.sl.v657, Gen.kernelRun0_A.sl.v659, Gen.kernelRun0_A.sl.v660, Gen.kernelRun0_A.sl.v661, Gen.kernelRun0_A.sl.v662, Gen.kernelRun0_A.sl.v663, Gen.kernelRun0_A.sl.v664, Gen.kernelRun0_A.sl.v665, Gen.kernelRun0_A.sl.v666, Gen.kernelRun0_A.sl.v667, Gen.kernelRun0_A.sl.v668, Gen.kernelRun0_A.sl.v669, Gen.kernelRun0_A.sl.v67, Gen.kernelRun0_A.sl.v670, Gen.kernelRun0_A.sl.v671, Gen.kernelRun0_A.sl.v672, Gen.kernelRun0_A.sl.v673, Gen.kernelRun0_A.sl.v674, Gen.kernelRun0_A.sl.v675, Gen.kernelRun0_A.sl.v676, Gen.kernelRun0_A.sl.v677, Gen.kernelRun0_A.sl.v678, Gen.kernelRun0_A.sl.v679, Gen.kernelRun0_A.sl.v68, Gen.kernelRun0_A.sl.v681, Gen.kernelRun0_A.sl.v682, Gen.kernelRun0_A.sl.v683, Gen.kernelRun0_A.sl.v685, Gen.kernelRun0_A.sl.v686, Gen.kernelRun0_A.sl.v688, Gen.kernelRun0_A.sl.v689, Gen.kernelRun0_A.sl.v69, Gen.kernelRun0_A.sl.v690, Gen.kernelRun0_A.sl.v691, Gen.kernelRun0_A.sl.v692, Gen.kernelRun0_A.sl.v693, Gen.kernelRun0_A.sl.v694, Gen.kernelRun0_A.sl.v7, Gen.kernelRun0_A.sl.v70, Gen.kernelRun0_A.sl.v71, Gen.kernelRun0_A.sl.v72, Gen.kernelRun0_A.sl.v73, Gen.kernelRun0_A.sl.v74, Gen.kernelRun0_A.sl.v741, Gen.kernelRun0_A.sl.v742, Gen.kernelRun0_A.sl.v743, Gen.kernelRun0_A.sl.v745, Gen.kernelRun0_A.sl.v747, Gen.kernelRun0_A.sl.v748, Gen.kernelRun0_A.sl.v749, Gen.kernelRun0_A.sl.v75, Gen.kernelRun0_A.sl.v750, Gen.kernelRun0_A.sl.v752, Gen.kernelRun0_A.sl.v753, Gen.kernelRun0_A.sl.v754, Gen.kernelRun0_A.sl.v756, Gen.kernelRun0_A.sl.v758, Gen.kernelRun0_A.sl.v759, Gen.kernelRun0_A.sl.v76, Gen.kernelRun0_A.sl.v761, Gen.kernelRun0_A.sl.v763, Gen.kernelRun0_A.sl.v764, Gen.kernelRun0_A.sl.v765, Gen.kernelRun0_A.sl.v766, Gen.kernelRun0_A.sl.v767, Gen.kernelRun0_A.sl.v768, Gen.kernelRun0_A.sl.v769, Gen.kernelRun0_A.sl.v77, Gen.kernelRun0_A.sl.v770, Gen.kernelRun0_A.sl.v771, Gen.kernelRun0_A.sl.v772, Gen.kernelRun0_A.sl.v773, Gen.kernelRun0_A.sl.v774, Gen.kernelRun0_A.sl.v775, Gen.kernelRun0_A.sl.v776, Gen.kernelRun0_A.sl.v777, Gen.kernelRun0_A.sl.v779, Gen.kernelRun0_A.sl.v78, Gen.kernelRun0_A.sl.v780, Gen.kernelRun0_A.sl.v781, Gen.kernelRun0_A.sl.v782, Gen.kernelRun0_A.sl.v783, Gen.kernelRun0_A.sl.v79, Gen.kernelRun0_A.sl.v799, Gen.kernelRun0_A.sl.v8, Gen.kernelRun0_A.sl.v829, Gen.kernelRun0_A.sl.v83, Gen.kernelRun0_A.sl.v830, Gen.kernelRun0_A.sl.v831, Gen.kernelRun0_A.sl.v833, Gen.kernelRun0_A.sl.v834, Gen.kernelRun0_A.sl.v835, Gen.kernelRun0_A.sl.v837, Gen.kernelRun0_A.sl.v838, Gen.kernelRun0_A.sl.v839, Gen.kernelRun0_A.sl.v841, Gen.kernelRun0_A.sl.v842, Gen.kernelRun0_A.sl.v843, Gen.kernelRun0_A.sl.v844, Gen.kernelRun0_A.sl.v845, Gen.kernelRun0_A.sl.v846, Gen.kernelRun0_A.sl.v847, Gen.kernelRun0_A.sl.v851, Gen.kernelRun0_A.sl.v852, Gen.kernelRun0_A.sl.v853, Gen.kernelRun0_A.sl.v854, Gen.kernelRun0_A.sl.v855, Gen.kernelRun0_A.sl.v856, Gen.kernelRun0_A.sl.v857, Gen.kernelRun0_A.sl.v858, Gen.kernelRun0_A.sl.v860, Gen.kernelRun0_A.sl.v861, Gen.kernelRun0_A.sl.v862, Gen.kernelRun0_A.sl.v863, Gen.kernelRun0_A.sl.v864, Gen.kernelRun0_A.sl.v865, Gen.kernelRun0_A.sl.v866, Gen.kernelRun0_A.sl.v867, Gen.kernelRun0_A.sl.v869, Gen.kernelRun0_A.sl.v871, Gen.kernelRun0_A.sl.v872, Gen.kernelRun0_A.sl.v873, Gen.kernelRun0_A.sl.v874, Gen.kernelRun0_A.sl.v876, Gen.kernelRun0_A.sl.v877, Gen.kernelRun0_A.sl.v878, Gen.kernelRun0_A.sl.v880, Gen.kernelRun0_A.sl.v882, Gen.kernelRun0_A.sl.v883, Gen.kernelRun0_A.sl.v885, Gen.kernelRun0_A.sl.v887, Gen.kernelRun0_A.sl.v888, Gen.kernelRun0_A.sl.v889, Gen.kernelRun0_A.sl.v890, Gen.kernelRun0_A.sl.v891, Gen.kernelRun0_A.sl.v892, Gen.kernelRun0_A.sl.v893, Gen.kernelRun0_A.sl.v894, Gen.kernelRun0_A.sl.v895, Gen.kernelRun0_A.sl.v896, Gen.kernelRun0_A.sl.v897, Gen.kernelRun0_A.sl.v898, Gen.kernelRun0_A.sl.v899, Gen.kernelRun0_A.sl.v9, Gen.kernelRun0_A.sl.v900, Gen.kernelRun0_A.sl.v901, Gen.kernelRun0_A.sl.v903, Gen.kernelRun0_A.sl.v904, Gen.kernelRun0_A.sl.v905, Gen.kernelRun0_A.sl.v906, Gen.kernelRun0_A.sl.v907, Gen.kernelRun0_A.sl.v908, Gen.kernelRun0_A.sl.v909, Gen.kernelRun0_A.sl.v910, Gen.kernelRun0_A.sl.v911, Gen.kernelRun0_A.sl.v912, Gen.kernelRun0_A.sl.v913, Gen.kernelRun0_A.sl.v914, Gen.kernelRun0_A.sl.v915, Gen.kernelRun0_A.sl.v916, Gen.kernelRun0_A.sl.v917, Gen.kernelRun0_A.sl.v918, Gen.kernelRun0_A.sl.v919, Gen.kernelRun0_A.sl.v920, Gen.kernelRun0_A.sl.v921, Gen.kernelRun0_A.sl.v922, Gen.kernelRun0_A.sl.v923, Gen.kernelRun0_A.sl.v924, Gen.kernelRun0_A.sl.v927, Gen.kernelRun0_A.sl.v928, Gen.kernelRun0_A.sl.v931, Gen.kernelRun0_A.sl.v934, Gen.kernelRun0_A.sl.v935, Gen.kernelRun0_A.sl.v936, Gen.kernelRun0_A.sl.v937, Gen.kernelRun0_A.sl.v938, Gen.kernelRun0_A.sl.v940, Gen.kernelRun0_A.sl.v942, Gen.kernelRun0_A.sl.v943, Gen.kernelRun0_A.sl.v944, Gen.kernelRun0_A.sl.v945, Gen.kernelRun0_A.sl.v946, Gen.kernelRun0_A.sl.v947, Gen.kernelRun0_A.sl.v948, Gen.kernelRun0_A.sl.v951, Gen.kernelRun0_A.sl.v953, Gen.kernelRun0_A.sl.v955, Gen.kernelRun0_A.sl.v956, Gen.kernelRun0_A.sl.v957, Gen.kernelRun0_A.sl.v958, Gen.kernelRun0_A.sl.v960, Gen.kernelRun0_A.sl.v963, Gen.kernelRun0_A.sl.v971, View.readCov_skip, View.readCov_cons_toLoadRect, View.readCov_fill, View.readAt_eq_ld, Memref.IsWhole.read_unread, View.ld_unit_lit']
  refine (View.canon_cons_unit_lit _ _ _ (by decide)).trans ?_
  refine congrArg k0_pay1 ?_
  refine (readCov_whole _ _ _ (by decide)).trans ?_
  funext y
  refine (Cert.KernelIdeal.Step.canon_append_of_cover _ [_, _, _, _] y ?_).trans ?_
  · exact View.cover_of_tiledL (s := S4x128x128) _ S1x128x128.size (by sl_kernel_rfl) y
  canon_tiles x h
  case piece0 => exact Eq.trans (congrFun (by rfl) x) (stackC_at (pairC x1 x2 x4 x5 x6 x7 x9 x11) 3 x y h0 h1 h2)
  case piece1 => exact Eq.trans (congrFun (by rfl) x) (stackC_at (pairC x1 x2 x4 x5 x6 x7 x9 x11) 2 x y h0 h1 h2)
  case piece2 => exact Eq.trans (congrFun (by rfl) x) (stackC_at (pairC x1 x2 x4 x5 x6 x7 x9 x11) 1 x y h0 h1 h2)
  case piece3 => exact Eq.trans (congrFun (by rfl) x) (stackC_at (pairC x1 x2 x4 x5 x6 x7 x9 x11) 0 x y (by simpa using h0) h1 h2)

end Cert.Kernel7Ideal.Step

end
-- ==== Proof.MemN.lean ====
/- What the sample's mLSTM's body leaves, read off the frame certificate's recorded stores: the heads' outputs side by side,
   and the pairs' and heads' parts of the new state. -/
module

public import proofs.«01_k».proof.Proof.MemStep
public import proofs.«01_k».proof.Proof.MemC
public import Idealize.ShloMosaic.Lib.Pipeline.ReadBack
public import Idealize.ShloMosaic.Lib.Pipeline.ValueKit

@[expose] public section

set_option maxRecDepth 100000
set_option maxHeartbeats 4000000

noncomputable section

namespace Cert.Kernel7Ideal.Step

open Cert.Kernel7Ideal Cert.Kernel7Ideal.Gen Idealize.ShloMosaic

variable {F : FTy → Type} [FloatOps F] [Named F]

theorem out_A_14 (c : Dev nD) (i : grid0.Coords) (arg2 : Memref sig .tc .vmem S1x16x512 .bf16) (harg2 : arg2.IsWhole) (arg3 : Memref sig .tc .vmem S1x16x512 .bf16) (harg3 : arg3.IsWhole) (arg4 : Memref sig .tc .vmem S1x16x1024 .bf16) (harg4 : arg4.IsWhole) (arg5 : Memref sig .tc .vmem S1x16x1024 .f32) (harg5 : arg5.IsWhole) (arg6 : Memref sig .tc .vmem S1x16x16 .f32) (harg6 : arg6.IsWhole) (arg7 : Memref sig .tc .vmem S1x16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1024 .f32) (harg10 : arg10.IsWhole) (arg11 : Memref sig .tc .vmem S1x4x128x128 .f32) (harg11 : arg11.IsWhole) (arg12 : Memref sig .tc .vmem S1x4x1x128 .f32) (harg12 : arg12.IsWhole) (arg13 : Memref sig .tc .vmem S1x8x1x128 .f32) (harg13 : arg13.IsWhole) (arg14 : Memref sig .tc .vmem S1x16x1024 .bf16) (harg14 : arg14.IsWhole) (arg15 : Memref sig .tc .vmem S1x4x128x128 .f32) (harg15 : arg15.IsWhole) (arg16 : Memref sig .tc .vmem S1x4x1x128 .f32) (harg16 : arg16.IsWhole) (arg17 : Memref sig .tc .vmem S1x8x1x128 .f32) (harg17 : arg17.IsWhole) (arg18 : Memref sig .tc .vmem S4x128x128 .f32) (harg18 : arg18.IsWhole) (arg19 : Memref sig .tc .vmem S4x1x128 .f32) (harg19 : arg19.IsWhole) (arg20 : Memref sig .tc .vmem S8x1x128 .f32) (harg20 : arg20.IsWhole) (hc0 : cond0_0 i) (hc1 : cond0_1 i)
    (x0 : Vec F S1x16x512 .bf16) (x1 : Vec F S1x16x512 .bf16) (x2 : Vec F S1x16x1024 .bf16) (x3 : Vec F S1x16x1024 .f32) (x4 : Vec F S1x16x16 .f32) (x5 : Vec F S1x16x16 .f32) (x6 : Vec F S1x16 .f32) (x7 : Vec F S16x1 .f32) (x8 : Vec F S1x1024 .f32) (x9 : Vec F S1x4x128x128 .f32) (x10 : Vec F S1x4x1x128 .f32) (x11 : Vec F S1x8x1x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay2 (stackN (pairN x1 x4 x5 x6 x7 x10 x11)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  simp (disch := decide) only [Gen.kernelRun0_A.sl.HS0_1, Gen.kernelRun0_A.sl.HS0_2, Gen.kernelRun0_A.sl.HS0_3, Gen.kernelRun0_A.sl.HS0_4, Gen.kernelRun0_A.sl.HS0_5, Gen.kernelRun0_A.sl.HS1_1, Gen.kernelRun0_A.sl.HS1_2, Gen.kernelRun0_A.sl.HS1_3, Gen.kernelRun0_A.sl.HS1_4, Gen.kernelRun0_A.sl.HS1_5, Gen.kernelRun0_A.sl.HS2_1, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, Gen.kernelRun0_A.sl.cst, Gen.kernelRun0_A.sl.cst_117, Gen.kernelRun0_A.sl.cst_13, Gen.kernelRun0_A.sl.cst_15, Gen.kernelRun0_A.sl.cst_26, Gen.kernelRun0_A.sl.cst_282, Gen.kernelRun0_A.sl.cst_283, Gen.kernelRun0_A.sl.cst_48, Gen.kernelRun0_A.sl.cst_51, Gen.kernelRun0_A.sl.cst_55, Gen.kernelRun0_A.sl.cst_56, Gen.kernelRun0_A.sl.cst_68, Gen.kernelRun0_A.sl.cst_69, Gen.kernelRun0_A.sl.cst_70, Gen.kernelRun0_A.sl.cst_74, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_6, Gen.kernelRun0_A.sl.r_7, Gen.kernelRun0_A.sl.r_8, Gen.kernelRun0_A.sl.r_9, Gen.kernelRun0_A.sl.v0, Gen.kernelRun0_A.sl.v1, Gen.kernelRun0_A.sl.v10, Gen.kernelRun0_A.sl.v1005, Gen.kernelRun0_A.sl.v1009, Gen.kernelRun0_A.sl.v1010, Gen.kernelRun0_A.sl.v1011, Gen.kernelRun0_A.sl.v1013, Gen.kernelRun0_A.sl.v1014, Gen.kernelRun0_A.sl.v1015, Gen.kernelRun0_A.sl.v1016, Gen.kernelRun0_A.sl.v1017, Gen.kernelRun0_A.sl.v1018, Gen.kernelRun0_A.sl.v1019, Gen.kernelRun0_A.sl.v1023, Gen.kernelRun0_A.sl.v1024, Gen.kernelRun0_A.sl.v1025, Gen.kernelRun0_A.sl.v1026, Gen.kernelRun0_A.sl.v1027, Gen.kernelRun0_A.sl.v1028, Gen.kernelRun0_A.sl.v1029, Gen.kernelRun0_A.sl.v1030, Gen.kernelRun0_A.sl.v1032, Gen.kernelRun0_A.sl.v1033, Gen.kernelRun0_A.sl.v1034, Gen.kernelRun0_A.sl.v1035, Gen.kernelRun0_A.sl.v1036, Gen.kernelRun0_A.sl.v1037, Gen.kernelRun0_A.sl.v1038, Gen.kernelRun0_A.sl.v1039, Gen.kernelRun0_A.sl.v1041, Gen.kernelRun0_A.sl.v1043, Gen.kernelRun0_A.sl.v1044, Gen.kernelRun0_A.sl.v1045, Gen.kernelRun0_A.sl.v1046, Gen.kernelRun0_A.sl.v1048, Gen.kernelRun0_A.sl.v1049, Gen.kernelRun0_A.sl.v1050, Gen.kernelRun0_A.sl.v1052, Gen.kernelRun0_A.sl.v1054, Gen.kernelRun0_A.sl.v1055, Gen.kernelRun0_A.sl.v1057, Gen.kernelRun0_A.sl.v1059, Gen.kernelRun0_A.sl.v1060, Gen.kernelRun0_A.sl.v1061, Gen.kernelRun0_A.sl.v1062, Gen.kernelRun0_A.sl.v1063, Gen.kernelRun0_A.sl.v1064, Gen.kernelRun0_A.sl.v1065, Gen.kernelRun0_A.sl.v1066, Gen.kernelRun0_A.sl.v1067, Gen.kernelRun0_A.sl.v1068, Gen.kernelRun0_A.sl.v1069, Gen.kernelRun0_A.sl.v1070, Gen.kernelRun0_A.sl.v1071, Gen.kernelRun0_A.sl.v1072, Gen.kernelRun0_A.sl.v1073, Gen.kernelRun0_A.sl.v1075, Gen.kernelRun0_A.sl.v1076, Gen.kernelRun0_A.sl.v1077, Gen.kernelRun0_A.sl.v1078, Gen.kernelRun0_A.sl.v1079, Gen.kernelRun0_A.sl.v1080, Gen.kernelRun0_A.sl.v1081, Gen.kernelRun0_A.sl.v1082, Gen.kernelRun0_A.sl.v1083, Gen.kernelRun0_A.sl.v1084, Gen.kernelRun0_A.sl.v1085, Gen.kernelRun0_A.sl.v1086, Gen.kernelRun0_A.sl.v1087, Gen.kernelRun0_A.sl.v1088, Gen.kernelRun0_A.sl.v1089, Gen.kernelRun0_A.sl.v1095, Gen.kernelRun0_A.sl.v11, Gen.kernelRun0_A.sl.v1137, Gen.kernelRun0_A.sl.v1138, Gen.kernelRun0_A.sl.v1139, Gen.kernelRun0_A.sl.v1140, Gen.kernelRun0_A.sl.v1141, Gen.kernelRun0_A.sl.v1142, Gen.kernelRun0_A.sl.v1143, Gen.kernelRun0_A.sl.v1144, Gen.kernelRun0_A.sl.v1147, Gen.kernelRun0_A.sl.v1148, Gen.kernelRun0_A.sl.v1149, Gen.kernelRun0_A.sl.v1150, Gen.kernelRun0_A.sl.v1151, Gen.kernelRun0_A.sl.v1152, Gen.kernelRun0_A.sl.v1153, Gen.kernelRun0_A.sl.v1154, Gen.kernelRun0_A.sl.v1156, Gen.kernelRun0_A.sl.v1157, Gen.kernelRun0_A.sl.v1158, Gen.kernelRun0_A.sl.v1159, Gen.kernelRun0_A.sl.v1160, Gen.kernelRun0_A.sl.v1161, Gen.kernelRun0_A.sl.v1162, Gen.kernelRun0_A.sl.v1163, Gen.kernelRun0_A.sl.v1165, Gen.kernelRun0_A.sl.v1167, Gen.kernelRun0_A.sl.v1168, Gen.kernelRun0_A.sl.v1169, Gen.kernelRun0_A.sl.v1170, Gen.kernelRun0_A.sl.v1172, Gen.kernelRun0_A.sl.v1173, Gen.kernelRun0_A.sl.v1174, Gen.kernelRun0_A.sl.v1176, Gen.kernelRun0_A.sl.v1178, Gen.kernelRun0_A.sl.v1179, Gen.kernelRun0_A.sl.v1181, Gen.kernelRun0_A.sl.v1183, Gen.kernelRun0_A.sl.v1184, Gen.kernelRun0_A.sl.v1185, Gen.kernelRun0_A.sl.v1186, Gen.kernelRun0_A.sl.v1187, Gen.kernelRun0_A.sl.v1188, Gen.kernelRun0_A.sl.v1189, Gen.kernelRun0_A.sl.v1190, Gen.kernelRun0_A.sl.v1191, Gen.kernelRun0_A.sl.v1192, Gen.kernelRun0_A.sl.v1193, Gen.kernelRun0_A.sl.v1194, Gen.kernelRun0_A.sl.v1195, Gen.kernelRun0_A.sl.v1196, Gen.kernelRun0_A.sl.v1197, Gen.kernelRun0_A.sl.v1199, Gen.kernelRun0_A.sl.v1200, Gen.kernelRun0_A.sl.v1201, Gen.kernelRun0_A.sl.v1202, Gen.kernelRun0_A.sl.v1203, Gen.kernelRun0_A.sl.v1204, Gen.kernelRun0_A.sl.v1205, Gen.kernelRun0_A.sl.v1206, Gen.kernelRun0_A.sl.v1207, Gen.kernelRun0_A.sl.v1208, Gen.kernelRun0_A.sl.v1209, Gen.kernelRun0_A.sl.v1210, Gen.kernelRun0_A.sl.v1211, Gen.kernelRun0_A.sl.v1212, Gen.kernelRun0_A.sl.v1213, Gen.kernelRun0_A.sl.v1214, Gen.kernelRun0_A.sl.v1215, Gen.kernelRun0_A.sl.v1216, Gen.kernelRun0_A.sl.v1217, Gen.kernelRun0_A.sl.v1218, Gen.kernelRun0_A.sl.v1219, Gen.kernelRun0_A.sl.v1220, Gen.kernelRun0_A.sl.v1223, Gen.kernelRun0_A.sl.v1224, Gen.kernelRun0_A.sl.v125, Gen.kernelRun0_A.sl.v1251, Gen.kernelRun0_A.sl.v1252, Gen.kernelRun0_A.sl.v1254, Gen.kernelRun0_A.sl.v1255, Gen.kernelRun0_A.sl.v1255_1, Gen.kernelRun0_A.sl.v1257, Gen.kernelRun0_A.sl.v1259, Gen.kernelRun0_A.sl.v1259_1, Gen.kernelRun0_A.sl.v126, Gen.kernelRun0_A.sl.v1260, Gen.kernelRun0_A.sl.v1262, Gen.kernelRun0_A.sl.v1264, Gen.kernelRun0_A.sl.v1265, Gen.kernelRun0_A.sl.v127, Gen.kernelRun0_A.sl.v128, Gen.kernelRun0_A.sl.v129, Gen.kernelRun0_A.sl.v13, Gen.kernelRun0_A.sl.v130, Gen.kernelRun0_A.sl.v131, Gen.kernelRun0_A.sl.v132, Gen.kernelRun0_A.sl.v134, Gen.kernelRun0_A.sl.v135, Gen.kernelRun0_A.sl.v136, Gen.kernelRun0_A.sl.v137, Gen.kernelRun0_A.sl.v138, Gen.kernelRun0_A.sl.v139, Gen.kernelRun0_A.sl.v140, Gen.kernelRun0_A.sl.v141, Gen.kernelRun0_A.sl.v142, Gen.kernelRun0_A.sl.v143, Gen.kernelRun0_A.sl.v144, Gen.kernelRun0_A.sl.v145, Gen.kernelRun0_A.sl.v146, Gen.kernelRun0_A.sl.v147, Gen.kernelRun0_A.sl.v148, Gen.kernelRun0_A.sl.v149, Gen.kernelRun0_A.sl.v15, Gen.kernelRun0_A.sl.v150, Gen.kernelRun0_A.sl.v151, Gen.kernelRun0_A.sl.v152, Gen.kernelRun0_A.sl.v153, Gen.kernelRun0_A.sl.v154, Gen.kernelRun0_A.sl.v155, Gen.kernelRun0_A.sl.v156, Gen.kernelRun0_A.sl.v157, Gen.kernelRun0_A.sl.v158, Gen.kernelRun0_A.sl.v160, Gen.kernelRun0_A.sl.v161, Gen.kernelRun0_A.sl.v162, Gen.kernelRun0_A.sl.v164, Gen.kernelRun0_A.sl.v166, Gen.kernelRun0_A.sl.v167, Gen.kernelRun0_A.sl.v168, Gen.kernelRun0_A.sl.v169, Gen.kernelRun0_A.sl.v17, Gen.kernelRun0_A.sl.v171, Gen.kernelRun0_A.sl.v172, Gen.kernelRun0_A.sl.v173, Gen.kernelRun0_A.sl.v175, Gen.kernelRun0_A.sl.v176, Gen.kernelRun0_A.sl.v177, Gen.kernelRun0_A.sl.v178, Gen.kernelRun0_A.sl.v179, Gen.kernelRun0_A.sl.v18, Gen.kernelRun0_A.sl.v180, Gen.kernelRun0_A.sl.v181, Gen.kernelRun0_A.sl.v182, Gen.kernelRun0_A.sl.v183, Gen.kernelRun0_A.sl.v184, Gen.kernelRun0_A.sl.v185, Gen.kernelRun0_A.sl.v187, Gen.kernelRun0_A.sl.v188, Gen.kernelRun0_A.sl.v189, Gen.kernelRun0_A.sl.v19, Gen.kernelRun0_A.sl.v190, Gen.kernelRun0_A.sl.v191, Gen.kernelRun0_A.sl.v192, Gen.kernelRun0_A.sl.v193, Gen.kernelRun0_A.sl.v194, Gen.kernelRun0_A.sl.v195, Gen.kernelRun0_A.sl.v196, Gen.kernelRun0_A.sl.v197, Gen.kernelRun0_A.sl.v198, Gen.kernelRun0_A.sl.v199, Gen.kernelRun0_A.sl.v2, Gen.kernelRun0_A.sl.v200, Gen.kernelRun0_A.sl.v201, Gen.kernelRun0_A.sl.v202, Gen.kernelRun0_A.sl.v203, Gen.kernelRun0_A.sl.v204, Gen.kernelRun0_A.sl.v205, Gen.kernelRun0_A.sl.v206, Gen.kernelRun0_A.sl.v207, Gen.kernelRun0_A.sl.v208, Gen.kernelRun0_A.sl.v209, Gen.kernelRun0_A.sl.v21, Gen.kernelRun0_A.sl.v210, Gen.kernelRun0_A.sl.v211, Gen.kernelRun0_A.sl.v22, Gen.kernelRun0_A.sl.v24, Gen.kernelRun0_A.sl.v25, Gen.kernelRun0_A.sl.v259, Gen.kernelRun0_A.sl.v26, Gen.kernelRun0_A.sl.v260, Gen.kernelRun0_A.sl.v261, Gen.kernelRun0_A.sl.v262, Gen.kernelRun0_A.sl.v263, Gen.kernelRun0_A.sl.v264, Gen.kernelRun0_A.sl.v265, Gen.kernelRun0_A.sl.v266, Gen.kernelRun0_A.sl.v268, Gen.kernelRun0_A.sl.v269, Gen.kernelRun0_A.sl.v27, Gen.kernelRun0_A.sl.v270, Gen.kernelRun0_A.sl.v271, Gen.kernelRun0_A.sl.v272, Gen.kernelRun0_A.sl.v273, Gen.kernelRun0_A.sl.v274, Gen.kernelRun0_A.sl.v275, Gen.kernelRun0_A.sl.v277, Gen.kernelRun0_A.sl.v279, Gen.kernelRun0_A.sl.v28, Gen.kernelRun0_A.sl.v280, Gen.kernelRun0_A.sl.v281, Gen.kernelRun0_A.sl.v282, Gen.kernelRun0_A.sl.v284, Gen.kernelRun0_A.sl.v285, Gen.kernelRun0_A.sl.v286, Gen.kernelRun0_A.sl.v288, Gen.kernelRun0_A.sl.v29, Gen.kernelRun0_A.sl.v290, Gen.kernelRun0_A.sl.v291, Gen.kernelRun0_A.sl.v293, Gen.kernelRun0_A.sl.v295, Gen.kernelRun0_A.sl.v296, Gen.kernelRun0_A.sl.v297, Gen.kernelRun0_A.sl.v298, Gen.kernelRun0_A.sl.v299, Gen.kernelRun0_A.sl.v300, Gen.kernelRun0_A.sl.v301, Gen.kernelRun0_A.sl.v302, Gen.kernelRun0_A.sl.v303, Gen.kernelRun0_A.sl.v304, Gen.kernelRun0_A.sl.v305, Gen.kernelRun0_A.sl.v306, Gen.kernelRun0_A.sl.v307, Gen.kernelRun0_A.sl.v308, Gen.kernelRun0_A.sl.v309, Gen.kernelRun0_A.sl.v31, Gen.kernelRun0_A.sl.v311, Gen.kernelRun0_A.sl.v312, Gen.kernelRun0_A.sl.v313, Gen.kernelRun0_A.sl.v314, Gen.kernelRun0_A.sl.v315, Gen.kernelRun0_A.sl.v316, Gen.kernelRun0_A.sl.v317, Gen.kernelRun0_A.sl.v318, Gen.kernelRun0_A.sl.v319, Gen.kernelRun0_A.sl.v32, Gen.kernelRun0_A.sl.v320, Gen.kernelRun0_A.sl.v321, Gen.kernelRun0_A.sl.v322, Gen.kernelRun0_A.sl.v325, Gen.kernelRun0_A.sl.v326, Gen.kernelRun0_A.sl.v327, Gen.kernelRun0_A.sl.v328, Gen.kernelRun0_A.sl.v329, Gen.kernelRun0_A.sl.v33, Gen.kernelRun0_A.sl.v330, Gen.kernelRun0_A.sl.v331, Gen.kernelRun0_A.sl.v332, Gen.kernelRun0_A.sl.v333, Gen.kernelRun0_A.sl.v335, Gen.kernelRun0_A.sl.v336, Gen.kernelRun0_A.sl.v339, Gen.kernelRun0_A.sl.v34, Gen.kernelRun0_A.sl.v342, Gen.kernelRun0_A.sl.v343, Gen.kernelRun0_A.sl.v344, Gen.kernelRun0_A.sl.v345, Gen.kernelRun0_A.sl.v346, Gen.kernelRun0_A.sl.v348, Gen.kernelRun0_A.sl.v35, Gen.kernelRun0_A.sl.v350, Gen.kernelRun0_A.sl.v351, Gen.kernelRun0_A.sl.v352, Gen.kernelRun0_A.sl.v353, Gen.kernelRun0_A.sl.v354, Gen.kernelRun0_A.sl.v355, Gen.kernelRun0_A.sl.v356, Gen.kernelRun0_A.sl.v359, Gen.kernelRun0_A.sl.v36, Gen.kernelRun0_A.sl.v361, Gen.kernelRun0_A.sl.v363, Gen.kernelRun0_A.sl.v364, Gen.kernelRun0_A.sl.v365, Gen.kernelRun0_A.sl.v366, Gen.kernelRun0_A.sl.v367, Gen.kernelRun0_A.sl.v368, Gen.kernelRun0_A.sl.v369, Gen.kernelRun0_A.sl.v37, Gen.kernelRun0_A.sl.v370, Gen.kernelRun0_A.sl.v371, Gen.kernelRun0_A.sl.v372, Gen.kernelRun0_A.sl.v373, Gen.kernelRun0_A.sl.v374, Gen.kernelRun0_A.sl.v375, Gen.kernelRun0_A.sl.v376, Gen.kernelRun0_A.sl.v377, Gen.kernelRun0_A.sl.v378, Gen.kernelRun0_A.sl.v379, Gen.kernelRun0_A.sl.v38, Gen.kernelRun0_A.sl.v380, Gen.kernelRun0_A.sl.v381, Gen.kernelRun0_A.sl.v382, Gen.kernelRun0_A.sl.v383, Gen.kernelRun0_A.sl.v384, Gen.kernelRun0_A.sl.v385, Gen.kernelRun0_A.sl.v39, Gen.kernelRun0_A.sl.v4, Gen.kernelRun0_A.sl.v40, Gen.kernelRun0_A.sl.v41, Gen.kernelRun0_A.sl.v43, Gen.kernelRun0_A.sl.v432, Gen.kernelRun0_A.sl.v433, Gen.kernelRun0_A.sl.v434, Gen.kernelRun0_A.sl.v435, Gen.kernelRun0_A.sl.v436, Gen.kernelRun0_A.sl.v437, Gen.kernelRun0_A.sl.v438, Gen.kernelRun0_A.sl.v44, Gen.kernelRun0_A.sl.v440, Gen.kernelRun0_A.sl.v441, Gen.kernelRun0_A.sl.v442, Gen.kernelRun0_A.sl.v443, Gen.kernelRun0_A.sl.v444, Gen.kernelRun0_A.sl.v445, Gen.kernelRun0_A.sl.v446, Gen.kernelRun0_A.sl.v447, Gen.kernelRun0_A.sl.v449, Gen.kernelRun0_A.sl.v45, Gen.kernelRun0_A.sl.v451, Gen.kernelRun0_A.sl.v452, Gen.kernelRun0_A.sl.v453, Gen.kernelRun0_A.sl.v454, Gen.kernelRun0_A.sl.v456, Gen.kernelRun0_A.sl.v457, Gen.kernelRun0_A.sl.v458, Gen.kernelRun0_A.sl.v46, Gen.kernelRun0_A.sl.v460, Gen.kernelRun0_A.sl.v462, Gen.kernelRun0_A.sl.v463, Gen.kernelRun0_A.sl.v465, Gen.kernelRun0_A.sl.v467, Gen.kernelRun0_A.sl.v468, Gen.kernelRun0_A.sl.v469, Gen.kernelRun0_A.sl.v47, Gen.kernelRun0_A.sl.v470, Gen.kernelRun0_A.sl.v471, Gen.kernelRun0_A.sl.v472, Gen.kernelRun0_A.sl.v473, Gen.kernelRun0_A.sl.v474, Gen.kernelRun0_A.sl.v475, Gen.kernelRun0_A.sl.v476, Gen.kernelRun0_A.sl.v477, Gen.kernelRun0_A.sl.v478, Gen.kernelRun0_A.sl.v479, Gen.kernelRun0_A.sl.v48, Gen.kernelRun0_A.sl.v480, Gen.kernelRun0_A.sl.v481, Gen.kernelRun0_A.sl.v483, Gen.kernelRun0_A.sl.v484, Gen.kernelRun0_A.sl.v485, Gen.kernelRun0_A.sl.v486, Gen.kernelRun0_A.sl.v487, Gen.kernelRun0_A.sl.v488, Gen.kernelRun0_A.sl.v489, Gen.kernelRun0_A.sl.v49, Gen.kernelRun0_A.sl.v490, Gen.kernelRun0_A.sl.v491, Gen.kernelRun0_A.sl.v492, Gen.kernelRun0_A.sl.v493, Gen.kernelRun0_A.sl.v494, Gen.kernelRun0_A.sl.v497, Gen.kernelRun0_A.sl.v499, Gen.kernelRun0_A.sl.v50, Gen.kernelRun0_A.sl.v500, Gen.kernelRun0_A.sl.v501, Gen.kernelRun0_A.sl.v502, Gen.kernelRun0_A.sl.v503, Gen.kernelRun0_A.sl.v504, Gen.kernelRun0_A.sl.v505, Gen.kernelRun0_A.sl.v506, Gen.kernelRun0_A.sl.v507, Gen.kernelRun0_A.sl.v509, Gen.kernelRun0_A.sl.v510, Gen.kernelRun0_A.sl.v511, Gen.kernelRun0_A.sl.v513, Gen.kernelRun0_A.sl.v514, Gen.kernelRun0_A.sl.v516, Gen.kernelRun0_A.sl.v517, Gen.kernelRun0_A.sl.v518, Gen.kernelRun0_A.sl.v519, Gen.kernelRun0_A.sl.v52, Gen.kernelRun0_A.sl.v53, Gen.kernelRun0_A.sl.v55, Gen.kernelRun0_A.sl.v56, Gen.kernelRun0_A.sl.v566, Gen.kernelRun0_A.sl.v567, Gen.kernelRun0_A.sl.v568, Gen.kernelRun0_A.sl.v569, Gen.kernelRun0_A.sl.v570, Gen.kernelRun0_A.sl.v571, Gen.kernelRun0_A.sl.v573, Gen.kernelRun0_A.sl.v575, Gen.kernelRun0_A.sl.v576, Gen.kernelRun0_A.sl.v577, Gen.kernelRun0_A.sl.v578, Gen.kernelRun0_A.sl.v58, Gen.kernelRun0_A.sl.v580, Gen.kernelRun0_A.sl.v581, Gen.kernelRun0_A.sl.v582, Gen.kernelRun0_A.sl.v584, Gen.kernelRun0_A.sl.v586, Gen.kernelRun0_A.sl.v587, Gen.kernelRun0_A.sl.v589, Gen.kernelRun0_A.sl.v59, Gen.kernelRun0_A.sl.v591, Gen.kernelRun0_A.sl.v592, Gen.kernelRun0_A.sl.v593, Gen.kernelRun0_A.sl.v594, Gen.kernelRun0_A.sl.v595, Gen.kernelRun0_A.sl.v596, Gen.kernelRun0_A.sl.v597, Gen.kernelRun0_A.sl.v598, Gen.kernelRun0_A.sl.v599, Gen.kernelRun0_A.sl.v6, Gen.kernelRun0_A.sl.v600, Gen.kernelRun0_A.sl.v601, Gen.kernelRun0_A.sl.v602, Gen.kernelRun0_A.sl.v603, Gen.kernelRun0_A.sl.v604, Gen.kernelRun0_A.sl.v605, Gen.kernelRun0_A.sl.v607, Gen.kernelRun0_A.sl.v608, Gen.kernelRun0_A.sl.v609, Gen.kernelRun0_A.sl.v61, Gen.kernelRun0_A.sl.v610, Gen.kernelRun0_A.sl.v611, Gen.kernelRun0_A.sl.v612, Gen.kernelRun0_A.sl.v613, Gen.kernelRun0_A.sl.v614, Gen.kernelRun0_A.sl.v615, Gen.kernelRun0_A.sl.v616, Gen.kernelRun0_A.sl.v617, Gen.kernelRun0_A.sl.v618, Gen.kernelRun0_A.sl.v62, Gen.kernelRun0_A.sl.v621, Gen.kernelRun0_A.sl.v622, Gen.kernelRun0_A.sl.v623, Gen.kernelRun0_A.sl.v624, Gen.kernelRun0_A.sl.v625, Gen.kernelRun0_A.sl.v626, Gen.kernelRun0_A.sl.v627, Gen.kernelRun0_A.sl.v628, Gen.kernelRun0_A.sl.v63, Gen.kernelRun0_A.sl.v631, Gen.kernelRun0_A.sl.v632, Gen.kernelRun0_A.sl.v635, Gen.kernelRun0_A.sl.v638, Gen.kernelRun0_A.sl.v639, Gen.kernelRun0_A.sl.v640, Gen.kernelRun0_A.sl.v641, Gen.kernelRun0_A.sl.v642, Gen.kernelRun0_A.sl.v644, Gen.kernelRun0_A.sl.v646, Gen.kernelRun0_A.sl.v647, Gen.kernelRun0_A.sl.v648, Gen.kernelRun0_A.sl.v649, Gen.kernelRun0_A.sl.v65, Gen.kernelRun0_A.sl.v650, Gen.kernelRun0_A.sl.v651, Gen.kernelRun0_A.sl.v652, Gen.kernelRun0_A.sl.v655, Gen.kernelRun0_A.sl.v657, Gen.kernelRun0_A.sl.v659, Gen.kernelRun0_A.sl.v660, Gen.kernelRun0_A.sl.v661, Gen.kernelRun0_A.sl.v662, Gen.kernelRun0_A.sl.v663, Gen.kernelRun0_A.sl.v664, Gen.kernelRun0_A.sl.v665, Gen.kernelRun0_A.sl.v666, Gen.kernelRun0_A.sl.v667, Gen.kernelRun0_A.sl.v668, Gen.kernelRun0_A.sl.v669, Gen.kernelRun0_A.sl.v67, Gen.kernelRun0_A.sl.v670, Gen.kernelRun0_A.sl.v671, Gen.kernelRun0_A.sl.v672, Gen.kernelRun0_A.sl.v673, Gen.kernelRun0_A.sl.v674, Gen.kernelRun0_A.sl.v675, Gen.kernelRun0_A.sl.v676, Gen.kernelRun0_A.sl.v677, Gen.kernelRun0_A.sl.v678, Gen.kernelRun0_A.sl.v679, Gen.kernelRun0_A.sl.v68, Gen.kernelRun0_A.sl.v681, Gen.kernelRun0_A.sl.v682, Gen.kernelRun0_A.sl.v683, Gen.kernelRun0_A.sl.v685, Gen.kernelRun0_A.sl.v686, Gen.kernelRun0_A.sl.v688, Gen.kernelRun0_A.sl.v689, Gen.kernelRun0_A.sl.v69, Gen.kernelRun0_A.sl.v690, Gen.kernelRun0_A.sl.v691, Gen.kernelRun0_A.sl.v692, Gen.kernelRun0_A.sl.v693, Gen.kernelRun0_A.sl.v694, Gen.kernelRun0_A.sl.v7, Gen.kernelRun0_A.sl.v70, Gen.kernelRun0_A.sl.v71, Gen.kernelRun0_A.sl.v72, Gen.kernelRun0_A.sl.v73, Gen.kernelRun0_A.sl.v74, Gen.kernelRun0_A.sl.v741, Gen.kernelRun0_A.sl.v742, Gen.kernelRun0_A.sl.v743, Gen.kernelRun0_A.sl.v745, Gen.kernelRun0_A.sl.v747, Gen.kernelRun0_A.sl.v748, Gen.kernelRun0_A.sl.v749, Gen.kernelRun0_A.sl.v75, Gen.kernelRun0_A.sl.v750, Gen.kernelRun0_A.sl.v752, Gen.kernelRun0_A.sl.v753, Gen.kernelRun0_A.sl.v754, Gen.kernelRun0_A.sl.v756, Gen.kernelRun0_A.sl.v758, Gen.kernelRun0_A.sl.v759, Gen.kernelRun0_A.sl.v76, Gen.kernelRun0_A.sl.v761, Gen.kernelRun0_A.sl.v763, Gen.kernelRun0_A.sl.v764, Gen.kernelRun0_A.sl.v765, Gen.kernelRun0_A.sl.v766, Gen.kernelRun0_A.sl.v767, Gen.kernelRun0_A.sl.v768, Gen.kernelRun0_A.sl.v769, Gen.kernelRun0_A.sl.v77, Gen.kernelRun0_A.sl.v770, Gen.kernelRun0_A.sl.v771, Gen.kernelRun0_A.sl.v772, Gen.kernelRun0_A.sl.v773, Gen.kernelRun0_A.sl.v774, Gen.kernelRun0_A.sl.v775, Gen.kernelRun0_A.sl.v776, Gen.kernelRun0_A.sl.v777, Gen.kernelRun0_A.sl.v779, Gen.kernelRun0_A.sl.v78, Gen.kernelRun0_A.sl.v780, Gen.kernelRun0_A.sl.v781, Gen.kernelRun0_A.sl.v782, Gen.kernelRun0_A.sl.v783, Gen.kernelRun0_A.sl.v79, Gen.kernelRun0_A.sl.v799, Gen.kernelRun0_A.sl.v8, Gen.kernelRun0_A.sl.v829, Gen.kernelRun0_A.sl.v83, Gen.kernelRun0_A.sl.v830, Gen.kernelRun0_A.sl.v831, Gen.kernelRun0_A.sl.v833, Gen.kernelRun0_A.sl.v834, Gen.kernelRun0_A.sl.v835, Gen.kernelRun0_A.sl.v837, Gen.kernelRun0_A.sl.v838, Gen.kernelRun0_A.sl.v839, Gen.kernelRun0_A.sl.v841, Gen.kernelRun0_A.sl.v842, Gen.kernelRun0_A.sl.v843, Gen.kernelRun0_A.sl.v844, Gen.kernelRun0_A.sl.v845, Gen.kernelRun0_A.sl.v846, Gen.kernelRun0_A.sl.v847, Gen.kernelRun0_A.sl.v851, Gen.kernelRun0_A.sl.v852, Gen.kernelRun0_A.sl.v853, Gen.kernelRun0_A.sl.v854, Gen.kernelRun0_A.sl.v855, Gen.kernelRun0_A.sl.v856, Gen.kernelRun0_A.sl.v857, Gen.kernelRun0_A.sl.v858, Gen.kernelRun0_A.sl.v860, Gen.kernelRun0_A.sl.v861, Gen.kernelRun0_A.sl.v862, Gen.kernelRun0_A.sl.v863, Gen.kernelRun0_A.sl.v864, Gen.kernelRun0_A.sl.v865, Gen.kernelRun0_A.sl.v866, Gen.kernelRun0_A.sl.v867, Gen.kernelRun0_A.sl.v869, Gen.kernelRun0_A.sl.v871, Gen.kernelRun0_A.sl.v872, Gen.kernelRun0_A.sl.v873, Gen.kernelRun0_A.sl.v874, Gen.kernelRun0_A.sl.v876, Gen.kernelRun0_A.sl.v877, Gen.kernelRun0_A.sl.v878, Gen.kernelRun0_A.sl.v880, Gen.kernelRun0_A.sl.v882, Gen.kernelRun0_A.sl.v883, Gen.kernelRun0_A.sl.v885, Gen.kernelRun0_A.sl.v887, Gen.kernelRun0_A.sl.v888, Gen.kernelRun0_A.sl.v889, Gen.kernelRun0_A.sl.v890, Gen.kernelRun0_A.sl.v891, Gen.kernelRun0_A.sl.v892, Gen.kernelRun0_A.sl.v893, Gen.kernelRun0_A.sl.v894, Gen.kernelRun0_A.sl.v895, Gen.kernelRun0_A.sl.v896, Gen.kernelRun0_A.sl.v897, Gen.kernelRun0_A.sl.v898, Gen.kernelRun0_A.sl.v899, Gen.kernelRun0_A.sl.v9, Gen.kernelRun0_A.sl.v900, Gen.kernelRun0_A.sl.v901, Gen.kernelRun0_A.sl.v903, Gen.kernelRun0_A.sl.v904, Gen.kernelRun0_A.sl.v905, Gen.kernelRun0_A.sl.v906, Gen.kernelRun0_A.sl.v907, Gen.kernelRun0_A.sl.v908, Gen.kernelRun0_A.sl.v909, Gen.kernelRun0_A.sl.v910, Gen.kernelRun0_A.sl.v911, Gen.kernelRun0_A.sl.v912, Gen.kernelRun0_A.sl.v913, Gen.kernelRun0_A.sl.v914, Gen.kernelRun0_A.sl.v915, Gen.kernelRun0_A.sl.v916, Gen.kernelRun0_A.sl.v917, Gen.kernelRun0_A.sl.v918, Gen.kernelRun0_A.sl.v919, Gen.kernelRun0_A.sl.v920, Gen.kernelRun0_A.sl.v921, Gen.kernelRun0_A.sl.v922, Gen.kernelRun0_A.sl.v923, Gen.kernelRun0_A.sl.v924, Gen.kernelRun0_A.sl.v927, Gen.kernelRun0_A.sl.v928, Gen.kernelRun0_A.sl.v931, Gen.kernelRun0_A.sl.v934, Gen.kernelRun0_A.sl.v935, Gen.kernelRun0_A.sl.v936, Gen.kernelRun0_A.sl.v937, Gen.kernelRun0_A.sl.v938, Gen.kernelRun0_A.sl.v940, Gen.kernelRun0_A.sl.v942, Gen.kernelRun0_A.sl.v943, Gen.kernelRun0_A.sl.v944, Gen.kernelRun0_A.sl.v945, Gen.kernelRun0_A.sl.v946, Gen.kernelRun0_A.sl.v947, Gen.kernelRun0_A.sl.v948, Gen.kernelRun0_A.sl.v951, Gen.kernelRun0_A.sl.v953, Gen.kernelRun0_A.sl.v955, Gen.kernelRun0_A.sl.v956, Gen.kernelRun0_A.sl.v957, Gen.kernelRun0_A.sl.v958, Gen.kernelRun0_A.sl.v960, Gen.kernelRun0_A.sl.v963, Gen.kernelRun0_A.sl.v971, View.readCov_skip, View.readCov_cons_toLoadRect, View.readCov_fill, View.readAt_eq_ld, Memref.IsWhole.read_unread, View.ld_unit_lit']
  refine (View.canon_cons_unit_lit _ _ _ (by decide)).trans ?_
  refine congrArg k0_pay2 ?_
  refine (readCov_whole _ _ _ (by decide)).trans ?_
  funext y
  refine (Cert.KernelIdeal.Step.canon_append_of_cover _ [_, _, _, _] y ?_).trans ?_
  · exact View.cover_of_tiledL (s := S4x1x128) _ S1x1x128.size (by sl_kernel_rfl) y
  canon_tiles x h
  case piece0 => exact Eq.trans (congrFun (by rfl) x) (stackN_at (pairN x1 x4 x5 x6 x7 x10 x11) 3 x y h0 h1 h2)
  case piece1 => exact Eq.trans (congrFun (by rfl) x) (stackN_at (pairN x1 x4 x5 x6 x7 x10 x11) 2 x y h0 h1 h2)
  case piece2 => exact Eq.trans (congrFun (by rfl) x) (stackN_at (pairN x1 x4 x5 x6 x7 x10 x11) 1 x y h0 h1 h2)
  case piece3 => exact Eq.trans (congrFun (by rfl) x) (stackN_at (pairN x1 x4 x5 x6 x7 x10 x11) 0 x y (by simpa using h0) h1 h2)

end Cert.Kernel7Ideal.Step

end
-- ==== Proof.MemM.lean ====
/- What the sample's mLSTM's body leaves, read off the frame certificate's recorded stores: the heads' outputs side by side,
   and the pairs' and heads' parts of the new state. -/
module

public import proofs.«01_k».proof.Proof.MemStep
public import proofs.«01_k».proof.Proof.MemC
public import Idealize.ShloMosaic.Lib.Pipeline.ReadBack
public import Idealize.ShloMosaic.Lib.Pipeline.ValueKit

@[expose] public section

set_option maxRecDepth 100000
set_option maxHeartbeats 4000000

noncomputable section

namespace Cert.Kernel7Ideal.Step

open Cert.Kernel7Ideal Cert.Kernel7Ideal.Gen Idealize.ShloMosaic

variable {F : FTy → Type} [FloatOps F] [Named F]

theorem out_A_15 (c : Dev nD) (i : grid0.Coords) (arg2 : Memref sig .tc .vmem S1x16x512 .bf16) (harg2 : arg2.IsWhole) (arg3 : Memref sig .tc .vmem S1x16x512 .bf16) (harg3 : arg3.IsWhole) (arg4 : Memref sig .tc .vmem S1x16x1024 .bf16) (harg4 : arg4.IsWhole) (arg5 : Memref sig .tc .vmem S1x16x1024 .f32) (harg5 : arg5.IsWhole) (arg6 : Memref sig .tc .vmem S1x16x16 .f32) (harg6 : arg6.IsWhole) (arg7 : Memref sig .tc .vmem S1x16x16 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x1024 .f32) (harg10 : arg10.IsWhole) (arg11 : Memref sig .tc .vmem S1x4x128x128 .f32) (harg11 : arg11.IsWhole) (arg12 : Memref sig .tc .vmem S1x4x1x128 .f32) (harg12 : arg12.IsWhole) (arg13 : Memref sig .tc .vmem S1x8x1x128 .f32) (harg13 : arg13.IsWhole) (arg14 : Memref sig .tc .vmem S1x16x1024 .bf16) (harg14 : arg14.IsWhole) (arg15 : Memref sig .tc .vmem S1x4x128x128 .f32) (harg15 : arg15.IsWhole) (arg16 : Memref sig .tc .vmem S1x4x1x128 .f32) (harg16 : arg16.IsWhole) (arg17 : Memref sig .tc .vmem S1x8x1x128 .f32) (harg17 : arg17.IsWhole) (arg18 : Memref sig .tc .vmem S4x128x128 .f32) (harg18 : arg18.IsWhole) (arg19 : Memref sig .tc .vmem S4x1x128 .f32) (harg19 : arg19.IsWhole) (arg20 : Memref sig .tc .vmem S8x1x128 .f32) (harg20 : arg20.IsWhole) (hc0 : cond0_0 i) (hc1 : cond0_1 i)
    (x0 : Vec F S1x16x512 .bf16) (x1 : Vec F S1x16x512 .bf16) (x2 : Vec F S1x16x1024 .bf16) (x3 : Vec F S1x16x1024 .f32) (x4 : Vec F S1x16x16 .f32) (x5 : Vec F S1x16x16 .f32) (x6 : Vec F S1x16 .f32) (x7 : Vec F S16x1 .f32) (x8 : Vec F S1x1024 .f32) (x9 : Vec F S1x4x128x128 .f32) (x10 : Vec F S1x4x1x128 .f32) (x11 : Vec F S1x8x1x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay3 (stackM (headM x4 x5 x6 x7 x11)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  simp (disch := decide) only [Gen.kernelRun0_A.sl.HS0_1, Gen.kernelRun0_A.sl.HS0_2, Gen.kernelRun0_A.sl.HS0_3, Gen.kernelRun0_A.sl.HS0_4, Gen.kernelRun0_A.sl.HS0_5, Gen.kernelRun0_A.sl.HS1_1, Gen.kernelRun0_A.sl.HS1_2, Gen.kernelRun0_A.sl.HS1_3, Gen.kernelRun0_A.sl.HS1_4, Gen.kernelRun0_A.sl.HS1_5, Gen.kernelRun0_A.sl.HS2_1, Gen.kernelRun0_A.sl.HS2_2, Gen.kernelRun0_A.sl.HS2_3, Gen.kernelRun0_A.sl.HS2_4, Gen.kernelRun0_A.sl.HS2_5, Gen.kernelRun0_A.sl.HS2_6, Gen.kernelRun0_A.sl.HS2_7, Gen.kernelRun0_A.sl.HS2_8, Gen.kernelRun0_A.sl.HS2_9, Gen.kernelRun0_A.sl.cst, Gen.kernelRun0_A.sl.cst_117, Gen.kernelRun0_A.sl.cst_13, Gen.kernelRun0_A.sl.cst_15, Gen.kernelRun0_A.sl.cst_26, Gen.kernelRun0_A.sl.cst_282, Gen.kernelRun0_A.sl.cst_283, Gen.kernelRun0_A.sl.cst_48, Gen.kernelRun0_A.sl.cst_51, Gen.kernelRun0_A.sl.cst_55, Gen.kernelRun0_A.sl.cst_56, Gen.kernelRun0_A.sl.cst_68, Gen.kernelRun0_A.sl.cst_69, Gen.kernelRun0_A.sl.cst_70, Gen.kernelRun0_A.sl.cst_74, Gen.kernelRun0_A.sl.r, Gen.kernelRun0_A.sl.r_1, Gen.kernelRun0_A.sl.r_10, Gen.kernelRun0_A.sl.r_11, Gen.kernelRun0_A.sl.r_12, Gen.kernelRun0_A.sl.r_13, Gen.kernelRun0_A.sl.r_14, Gen.kernelRun0_A.sl.r_15, Gen.kernelRun0_A.sl.r_16, Gen.kernelRun0_A.sl.r_17, Gen.kernelRun0_A.sl.r_18, Gen.kernelRun0_A.sl.r_19, Gen.kernelRun0_A.sl.r_2, Gen.kernelRun0_A.sl.r_20, Gen.kernelRun0_A.sl.r_21, Gen.kernelRun0_A.sl.r_22, Gen.kernelRun0_A.sl.r_23, Gen.kernelRun0_A.sl.r_24, Gen.kernelRun0_A.sl.r_25, Gen.kernelRun0_A.sl.r_26, Gen.kernelRun0_A.sl.r_27, Gen.kernelRun0_A.sl.r_28, Gen.kernelRun0_A.sl.r_29, Gen.kernelRun0_A.sl.r_3, Gen.kernelRun0_A.sl.r_30, Gen.kernelRun0_A.sl.r_31, Gen.kernelRun0_A.sl.r_32, Gen.kernelRun0_A.sl.r_33, Gen.kernelRun0_A.sl.r_34, Gen.kernelRun0_A.sl.r_35, Gen.kernelRun0_A.sl.r_36, Gen.kernelRun0_A.sl.r_37, Gen.kernelRun0_A.sl.r_38, Gen.kernelRun0_A.sl.r_39, Gen.kernelRun0_A.sl.r_4, Gen.kernelRun0_A.sl.r_40, Gen.kernelRun0_A.sl.r_41, Gen.kernelRun0_A.sl.r_42, Gen.kernelRun0_A.sl.r_43, Gen.kernelRun0_A.sl.r_44, Gen.kernelRun0_A.sl.r_45, Gen.kernelRun0_A.sl.r_46, Gen.kernelRun0_A.sl.r_47, Gen.kernelRun0_A.sl.r_48, Gen.kernelRun0_A.sl.r_49, Gen.kernelRun0_A.sl.r_5, Gen.kernelRun0_A.sl.r_50, Gen.kernelRun0_A.sl.r_51, Gen.kernelRun0_A.sl.r_52, Gen.kernelRun0_A.sl.r_53, Gen.kernelRun0_A.sl.r_54, Gen.kernelRun0_A.sl.r_6, Gen.kernelRun0_A.sl.r_7, Gen.kernelRun0_A.sl.r_8, Gen.kernelRun0_A.sl.r_9, Gen.kernelRun0_A.sl.v0, Gen.kernelRun0_A.sl.v1, Gen.kernelRun0_A.sl.v10, Gen.kernelRun0_A.sl.v1005, Gen.kernelRun0_A.sl.v1009, Gen.kernelRun0_A.sl.v1010, Gen.kernelRun0_A.sl.v1011, Gen.kernelRun0_A.sl.v1013, Gen.kernelRun0_A.sl.v1014, Gen.kernelRun0_A.sl.v1015, Gen.kernelRun0_A.sl.v1016, Gen.kernelRun0_A.sl.v1017, Gen.kernelRun0_A.sl.v1018, Gen.kernelRun0_A.sl.v1019, Gen.kernelRun0_A.sl.v1023, Gen.kernelRun0_A.sl.v1024, Gen.kernelRun0_A.sl.v1025, Gen.kernelRun0_A.sl.v1026, Gen.kernelRun0_A.sl.v1027, Gen.kernelRun0_A.sl.v1028, Gen.kernelRun0_A.sl.v1029, Gen.kernelRun0_A.sl.v1030, Gen.kernelRun0_A.sl.v1032, Gen.kernelRun0_A.sl.v1033, Gen.kernelRun0_A.sl.v1034, Gen.kernelRun0_A.sl.v1035, Gen.kernelRun0_A.sl.v1036, Gen.kernelRun0_A.sl.v1037, Gen.kernelRun0_A.sl.v1038, Gen.kernelRun0_A.sl.v1039, Gen.kernelRun0_A.sl.v1041, Gen.kernelRun0_A.sl.v1043, Gen.kernelRun0_A.sl.v1044, Gen.kernelRun0_A.sl.v1045, Gen.kernelRun0_A.sl.v1046, Gen.kernelRun0_A.sl.v1048, Gen.kernelRun0_A.sl.v1049, Gen.kernelRun0_A.sl.v1050, Gen.kernelRun0_A.sl.v1052, Gen.kernelRun0_A.sl.v1054, Gen.kernelRun0_A.sl.v1055, Gen.kernelRun0_A.sl.v1057, Gen.kernelRun0_A.sl.v1059, Gen.kernelRun0_A.sl.v1060, Gen.kernelRun0_A.sl.v1061, Gen.kernelRun0_A.sl.v1062, Gen.kernelRun0_A.sl.v1063, Gen.kernelRun0_A.sl.v1064, Gen.kernelRun0_A.sl.v1065, Gen.kernelRun0_A.sl.v1066, Gen.kernelRun0_A.sl.v1067, Gen.kernelRun0_A.sl.v1068, Gen.kernelRun0_A.sl.v1069, Gen.kernelRun0_A.sl.v1070, Gen.kernelRun0_A.sl.v1071, Gen.kernelRun0_A.sl.v1072, Gen.kernelRun0_A.sl.v1073, Gen.kernelRun0_A.sl.v1075, Gen.kernelRun0_A.sl.v1076, Gen.kernelRun0_A.sl.v1077, Gen.kernelRun0_A.sl.v1078, Gen.kernelRun0_A.sl.v1079, Gen.kernelRun0_A.sl.v1080, Gen.kernelRun0_A.sl.v1081, Gen.kernelRun0_A.sl.v1082, Gen.kernelRun0_A.sl.v1083, Gen.kernelRun0_A.sl.v1084, Gen.kernelRun0_A.sl.v1085, Gen.kernelRun0_A.sl.v1086, Gen.kernelRun0_A.sl.v1087, Gen.kernelRun0_A.sl.v1088, Gen.kernelRun0_A.sl.v1089, Gen.kernelRun0_A.sl.v1095, Gen.kernelRun0_A.sl.v11, Gen.kernelRun0_A.sl.v1137, Gen.kernelRun0_A.sl.v1138, Gen.kernelRun0_A.sl.v1139, Gen.kernelRun0_A.sl.v1140, Gen.kernelRun0_A.sl.v1141, Gen.kernelRun0_A.sl.v1142, Gen.kernelRun0_A.sl.v1143, Gen.kernelRun0_A.sl.v1144, Gen.kernelRun0_A.sl.v1147, Gen.kernelRun0_A.sl.v1148, Gen.kernelRun0_A.sl.v1149, Gen.kernelRun0_A.sl.v1150, Gen.kernelRun0_A.sl.v1151, Gen.kernelRun0_A.sl.v1152, Gen.kernelRun0_A.sl.v1153, Gen.kernelRun0_A.sl.v1154, Gen.kernelRun0_A.sl.v1156, Gen.kernelRun0_A.sl.v1157, Gen.kernelRun0_A.sl.v1158, Gen.kernelRun0_A.sl.v1159, Gen.kernelRun0_A.sl.v1160, Gen.kernelRun0_A.sl.v1161, Gen.kernelRun0_A.sl.v1162, Gen.kernelRun0_A.sl.v1163, Gen.kernelRun0_A.sl.v1165, Gen.kernelRun0_A.sl.v1167, Gen.kernelRun0_A.sl.v1168, Gen.kernelRun0_A.sl.v1169, Gen.kernelRun0_A.sl.v1170, Gen.kernelRun0_A.sl.v1172, Gen.kernelRun0_A.sl.v1173, Gen.kernelRun0_A.sl.v1174, Gen.kernelRun0_A.sl.v1176, Gen.kernelRun0_A.sl.v1178, Gen.kernelRun0_A.sl.v1179, Gen.kernelRun0_A.sl.v1181, Gen.kernelRun0_A.sl.v1183, Gen.kernelRun0_A.sl.v1184, Gen.kernelRun0_A.sl.v1185, Gen.kernelRun0_A.sl.v1186, Gen.kernelRun0_A.sl.v1187, Gen.kernelRun0_A.sl.v1188, Gen.kernelRun0_A.sl.v1189, Gen.kernelRun0_A.sl.v1190, Gen.kernelRun0_A.sl.v1191, Gen.kernelRun0_A.sl.v1192, Gen.kernelRun0_A.sl.v1193, Gen.kernelRun0_A.sl.v1194, Gen.kernelRun0_A.sl.v1195, Gen.kernelRun0_A.sl.v1196, Gen.kernelRun0_A.sl.v1197, Gen.kernelRun0_A.sl.v1199, Gen.kernelRun0_A.sl.v1200, Gen.kernelRun0_A.sl.v1201, Gen.kernelRun0_A.sl.v1202, Gen.kernelRun0_A.sl.v1203, Gen.kernelRun0_A.sl.v1204, Gen.kernelRun0_A.sl.v1205, Gen.kernelRun0_A.sl.v1206, Gen.kernelRun0_A.sl.v1207, Gen.kernelRun0_A.sl.v1208, Gen.kernelRun0_A.sl.v1209, Gen.kernelRun0_A.sl.v1210, Gen.kernelRun0_A.sl.v1211, Gen.kernelRun0_A.sl.v1212, Gen.kernelRun0_A.sl.v1213, Gen.kernelRun0_A.sl.v1214, Gen.kernelRun0_A.sl.v1215, Gen.kernelRun0_A.sl.v1216, Gen.kernelRun0_A.sl.v1217, Gen.kernelRun0_A.sl.v1218, Gen.kernelRun0_A.sl.v1219, Gen.kernelRun0_A.sl.v1220, Gen.kernelRun0_A.sl.v1223, Gen.kernelRun0_A.sl.v1224, Gen.kernelRun0_A.sl.v125, Gen.kernelRun0_A.sl.v1251, Gen.kernelRun0_A.sl.v1252, Gen.kernelRun0_A.sl.v1254, Gen.kernelRun0_A.sl.v1255, Gen.kernelRun0_A.sl.v1255_1, Gen.kernelRun0_A.sl.v1257, Gen.kernelRun0_A.sl.v1259, Gen.kernelRun0_A.sl.v1259_1, Gen.kernelRun0_A.sl.v126, Gen.kernelRun0_A.sl.v1260, Gen.kernelRun0_A.sl.v1262, Gen.kernelRun0_A.sl.v1264, Gen.kernelRun0_A.sl.v1265, Gen.kernelRun0_A.sl.v127, Gen.kernelRun0_A.sl.v128, Gen.kernelRun0_A.sl.v129, Gen.kernelRun0_A.sl.v13, Gen.kernelRun0_A.sl.v130, Gen.kernelRun0_A.sl.v131, Gen.kernelRun0_A.sl.v132, Gen.kernelRun0_A.sl.v134, Gen.kernelRun0_A.sl.v135, Gen.kernelRun0_A.sl.v136, Gen.kernelRun0_A.sl.v137, Gen.kernelRun0_A.sl.v138, Gen.kernelRun0_A.sl.v139, Gen.kernelRun0_A.sl.v140, Gen.kernelRun0_A.sl.v141, Gen.kernelRun0_A.sl.v142, Gen.kernelRun0_A.sl.v143, Gen.kernelRun0_A.sl.v144, Gen.kernelRun0_A.sl.v145, Gen.kernelRun0_A.sl.v146, Gen.kernelRun0_A.sl.v147, Gen.kernelRun0_A.sl.v148, Gen.kernelRun0_A.sl.v149, Gen.kernelRun0_A.sl.v15, Gen.kernelRun0_A.sl.v150, Gen.kernelRun0_A.sl.v151, Gen.kernelRun0_A.sl.v152, Gen.kernelRun0_A.sl.v153, Gen.kernelRun0_A.sl.v154, Gen.kernelRun0_A.sl.v155, Gen.kernelRun0_A.sl.v156, Gen.kernelRun0_A.sl.v157, Gen.kernelRun0_A.sl.v158, Gen.kernelRun0_A.sl.v160, Gen.kernelRun0_A.sl.v161, Gen.kernelRun0_A.sl.v162, Gen.kernelRun0_A.sl.v164, Gen.kernelRun0_A.sl.v166, Gen.kernelRun0_A.sl.v167, Gen.kernelRun0_A.sl.v168, Gen.kernelRun0_A.sl.v169, Gen.kernelRun0_A.sl.v17, Gen.kernelRun0_A.sl.v171, Gen.kernelRun0_A.sl.v172, Gen.kernelRun0_A.sl.v173, Gen.kernelRun0_A.sl.v175, Gen.kernelRun0_A.sl.v176, Gen.kernelRun0_A.sl.v177, Gen.kernelRun0_A.sl.v178, Gen.kernelRun0_A.sl.v179, Gen.kernelRun0_A.sl.v18, Gen.kernelRun0_A.sl.v180, Gen.kernelRun0_A.sl.v181, Gen.kernelRun0_A.sl.v182, Gen.kernelRun0_A.sl.v183, Gen.kernelRun0_A.sl.v184, Gen.kernelRun0_A.sl.v185, Gen.kernelRun0_A.sl.v187, Gen.kernelRun0_A.sl.v188, Gen.kernelRun0_A.sl.v189, Gen.kernelRun0_A.sl.v19, Gen.kernelRun0_A.sl.v190, Gen.kernelRun0_A.sl.v191, Gen.kernelRun0_A.sl.v192, Gen.kernelRun0_A.sl.v193, Gen.kernelRun0_A.sl.v194, Gen.kernelRun0_A.sl.v195, Gen.kernelRun0_A.sl.v196, Gen.kernelRun0_A.sl.v197, Gen.kernelRun0_A.sl.v198, Gen.kernelRun0_A.sl.v199, Gen.kernelRun0_A.sl.v2, Gen.kernelRun0_A.sl.v200, Gen.kernelRun0_A.sl.v201, Gen.kernelRun0_A.sl.v202, Gen.kernelRun0_A.sl.v203, Gen.kernelRun0_A.sl.v204, Gen.kernelRun0_A.sl.v205, Gen.kernelRun0_A.sl.v206, Gen.kernelRun0_A.sl.v207, Gen.kernelRun0_A.sl.v208, Gen.kernelRun0_A.sl.v209, Gen.kernelRun0_A.sl.v21, Gen.kernelRun0_A.sl.v210, Gen.kernelRun0_A.sl.v211, Gen.kernelRun0_A.sl.v22, Gen.kernelRun0_A.sl.v24, Gen.kernelRun0_A.sl.v25, Gen.kernelRun0_A.sl.v259, Gen.kernelRun0_A.sl.v26, Gen.kernelRun0_A.sl.v260, Gen.kernelRun0_A.sl.v261, Gen.kernelRun0_A.sl.v262, Gen.kernelRun0_A.sl.v263, Gen.kernelRun0_A.sl.v264, Gen.kernelRun0_A.sl.v265, Gen.kernelRun0_A.sl.v266, Gen.kernelRun0_A.sl.v268, Gen.kernelRun0_A.sl.v269, Gen.kernelRun0_A.sl.v27, Gen.kernelRun0_A.sl.v270, Gen.kernelRun0_A.sl.v271, Gen.kernelRun0_A.sl.v272, Gen.kernelRun0_A.sl.v273, Gen.kernelRun0_A.sl.v274, Gen.kernelRun0_A.sl.v275, Gen.kernelRun0_A.sl.v277, Gen.kernelRun0_A.sl.v279, Gen.kernelRun0_A.sl.v28, Gen.kernelRun0_A.sl.v280, Gen.kernelRun0_A.sl.v281, Gen.kernelRun0_A.sl.v282, Gen.kernelRun0_A.sl.v284, Gen.kernelRun0_A.sl.v285, Gen.kernelRun0_A.sl.v286, Gen.kernelRun0_A.sl.v288, Gen.kernelRun0_A.sl.v29, Gen.kernelRun0_A.sl.v290, Gen.kernelRun0_A.sl.v291, Gen.kernelRun0_A.sl.v293, Gen.kernelRun0_A.sl.v295, Gen.kernelRun0_A.sl.v296, Gen.kernelRun0_A.sl.v297, Gen.kernelRun0_A.sl.v298, Gen.kernelRun0_A.sl.v299, Gen.kernelRun0_A.sl.v300, Gen.kernelRun0_A.sl.v301, Gen.kernelRun0_A.sl.v302, Gen.kernelRun0_A.sl.v303, Gen.kernelRun0_A.sl.v304, Gen.kernelRun0_A.sl.v305, Gen.kernelRun0_A.sl.v306, Gen.kernelRun0_A.sl.v307, Gen.kernelRun0_A.sl.v308, Gen.kernelRun0_A.sl.v309, Gen.kernelRun0_A.sl.v31, Gen.kernelRun0_A.sl.v311, Gen.kernelRun0_A.sl.v312, Gen.kernelRun0_A.sl.v313, Gen.kernelRun0_A.sl.v314, Gen.kernelRun0_A.sl.v315, Gen.kernelRun0_A.sl.v316, Gen.kernelRun0_A.sl.v317, Gen.kernelRun0_A.sl.v318, Gen.kernelRun0_A.sl.v319, Gen.kernelRun0_A.sl.v32, Gen.kernelRun0_A.sl.v320, Gen.kernelRun0_A.sl.v321, Gen.kernelRun0_A.sl.v322, Gen.kernelRun0_A.sl.v325, Gen.kernelRun0_A.sl.v326, Gen.kernelRun0_A.sl.v327, Gen.kernelRun0_A.sl.v328, Gen.kernelRun0_A.sl.v329, Gen.kernelRun0_A.sl.v33, Gen.kernelRun0_A.sl.v330, Gen.kernelRun0_A.sl.v331, Gen.kernelRun0_A.sl.v332, Gen.kernelRun0_A.sl.v333, Gen.kernelRun0_A.sl.v335, Gen.kernelRun0_A.sl.v336, Gen.kernelRun0_A.sl.v339, Gen.kernelRun0_A.sl.v34, Gen.kernelRun0_A.sl.v342, Gen.kernelRun0_A.sl.v343, Gen.kernelRun0_A.sl.v344, Gen.kernelRun0_A.sl.v345, Gen.kernelRun0_A.sl.v346, Gen.kernelRun0_A.sl.v348, Gen.kernelRun0_A.sl.v35, Gen.kernelRun0_A.sl.v350, Gen.kernelRun0_A.sl.v351, Gen.kernelRun0_A.sl.v352, Gen.kernelRun0_A.sl.v353, Gen.kernelRun0_A.sl.v354, Gen.kernelRun0_A.sl.v355, Gen.kernelRun0_A.sl.v356, Gen.kernelRun0_A.sl.v359, Gen.kernelRun0_A.sl.v36, Gen.kernelRun0_A.sl.v361, Gen.kernelRun0_A.sl.v363, Gen.kernelRun0_A.sl.v364, Gen.kernelRun0_A.sl.v365, Gen.kernelRun0_A.sl.v366, Gen.kernelRun0_A.sl.v367, Gen.kernelRun0_A.sl.v368, Gen.kernelRun0_A.sl.v369, Gen.kernelRun0_A.sl.v37, Gen.kernelRun0_A.sl.v370, Gen.kernelRun0_A.sl.v371, Gen.kernelRun0_A.sl.v372, Gen.kernelRun0_A.sl.v373, Gen.kernelRun0_A.sl.v374, Gen.kernelRun0_A.sl.v375, Gen.kernelRun0_A.sl.v376, Gen.kernelRun0_A.sl.v377, Gen.kernelRun0_A.sl.v378, Gen.kernelRun0_A.sl.v379, Gen.kernelRun0_A.sl.v38, Gen.kernelRun0_A.sl.v380, Gen.kernelRun0_A.sl.v381, Gen.kernelRun0_A.sl.v382, Gen.kernelRun0_A.sl.v383, Gen.kernelRun0_A.sl.v384, Gen.kernelRun0_A.sl.v385, Gen.kernelRun0_A.sl.v39, Gen.kernelRun0_A.sl.v4, Gen.kernelRun0_A.sl.v40, Gen.kernelRun0_A.sl.v41, Gen.kernelRun0_A.sl.v43, Gen.kernelRun0_A.sl.v432, Gen.kernelRun0_A.sl.v433, Gen.kernelRun0_A.sl.v434, Gen.kernelRun0_A.sl.v435, Gen.kernelRun0_A.sl.v436, Gen.kernelRun0_A.sl.v437, Gen.kernelRun0_A.sl.v438, Gen.kernelRun0_A.sl.v44, Gen.kernelRun0_A.sl.v440, Gen.kernelRun0_A.sl.v441, Gen.kernelRun0_A.sl.v442, Gen.kernelRun0_A.sl.v443, Gen.kernelRun0_A.sl.v444, Gen.kernelRun0_A.sl.v445, Gen.kernelRun0_A.sl.v446, Gen.kernelRun0_A.sl.v447, Gen.kernelRun0_A.sl.v449, Gen.kernelRun0_A.sl.v45, Gen.kernelRun0_A.sl.v451, Gen.kernelRun0_A.sl.v452, Gen.kernelRun0_A.sl.v453, Gen.kernelRun0_A.sl.v454, Gen.kernelRun0_A.sl.v456, Gen.kernelRun0_A.sl.v457, Gen.kernelRun0_A.sl.v458, Gen.kernelRun0_A.sl.v46, Gen.kernelRun0_A.sl.v460, Gen.kernelRun0_A.sl.v462, Gen.kernelRun0_A.sl.v463, Gen.kernelRun0_A.sl.v465, Gen.kernelRun0_A.sl.v467, Gen.kernelRun0_A.sl.v468, Gen.kernelRun0_A.sl.v469, Gen.kernelRun0_A.sl.v47, Gen.kernelRun0_A.sl.v470, Gen.kernelRun0_A.sl.v471, Gen.kernelRun0_A.sl.v472, Gen.kernelRun0_A.sl.v473, Gen.kernelRun0_A.sl.v474, Gen.kernelRun0_A.sl.v475, Gen.kernelRun0_A.sl.v476, Gen.kernelRun0_A.sl.v477, Gen.kernelRun0_A.sl.v478, Gen.kernelRun0_A.sl.v479, Gen.kernelRun0_A.sl.v48, Gen.kernelRun0_A.sl.v480, Gen.kernelRun0_A.sl.v481, Gen.kernelRun0_A.sl.v483, Gen.kernelRun0_A.sl.v484, Gen.kernelRun0_A.sl.v485, Gen.kernelRun0_A.sl.v486, Gen.kernelRun0_A.sl.v487, Gen.kernelRun0_A.sl.v488, Gen.kernelRun0_A.sl.v489, Gen.kernelRun0_A.sl.v49, Gen.kernelRun0_A.sl.v490, Gen.kernelRun0_A.sl.v491, Gen.kernelRun0_A.sl.v492, Gen.kernelRun0_A.sl.v493, Gen.kernelRun0_A.sl.v494, Gen.kernelRun0_A.sl.v497, Gen.kernelRun0_A.sl.v499, Gen.kernelRun0_A.sl.v50, Gen.kernelRun0_A.sl.v500, Gen.kernelRun0_A.sl.v501, Gen.kernelRun0_A.sl.v502, Gen.kernelRun0_A.sl.v503, Gen.kernelRun0_A.sl.v504, Gen.kernelRun0_A.sl.v505, Gen.kernelRun0_A.sl.v506, Gen.kernelRun0_A.sl.v507, Gen.kernelRun0_A.sl.v509, Gen.kernelRun0_A.sl.v510, Gen.kernelRun0_A.sl.v511, Gen.kernelRun0_A.sl.v513, Gen.kernelRun0_A.sl.v514, Gen.kernelRun0_A.sl.v516, Gen.kernelRun0_A.sl.v517, Gen.kernelRun0_A.sl.v518, Gen.kernelRun0_A.sl.v519, Gen.kernelRun0_A.sl.v52, Gen.kernelRun0_A.sl.v53, Gen.kernelRun0_A.sl.v55, Gen.kernelRun0_A.sl.v56, Gen.kernelRun0_A.sl.v566, Gen.kernelRun0_A.sl.v567, Gen.kernelRun0_A.sl.v568, Gen.kernelRun0_A.sl.v569, Gen.kernelRun0_A.sl.v570, Gen.kernelRun0_A.sl.v571, Gen.kernelRun0_A.sl.v573, Gen.kernelRun0_A.sl.v575, Gen.kernelRun0_A.sl.v576, Gen.kernelRun0_A.sl.v577, Gen.kernelRun0_A.sl.v578, Gen.kernelRun0_A.sl.v58, Gen.kernelRun0_A.sl.v580, Gen.kernelRun0_A.sl.v581, Gen.kernelRun0_A.sl.v582, Gen.kernelRun0_A.sl.v584, Gen.kernelRun0_A.sl.v586, Gen.kernelRun0_A.sl.v587, Gen.kernelRun0_A.sl.v589, Gen.kernelRun0_A.sl.v59, Gen.kernelRun0_A.sl.v591, Gen.kernelRun0_A.sl.v592, Gen.kernelRun0_A.sl.v593, Gen.kernelRun0_A.sl.v594, Gen.kernelRun0_A.sl.v595, Gen.kernelRun0_A.sl.v596, Gen.kernelRun0_A.sl.v597, Gen.kernelRun0_A.sl.v598, Gen.kernelRun0_A.sl.v599, Gen.kernelRun0_A.sl.v6, Gen.kernelRun0_A.sl.v600, Gen.kernelRun0_A.sl.v601, Gen.kernelRun0_A.sl.v602, Gen.kernelRun0_A.sl.v603, Gen.kernelRun0_A.sl.v604, Gen.kernelRun0_A.sl.v605, Gen.kernelRun0_A.sl.v607, Gen.kernelRun0_A.sl.v608, Gen.kernelRun0_A.sl.v609, Gen.kernelRun0_A.sl.v61, Gen.kernelRun0_A.sl.v610, Gen.kernelRun0_A.sl.v611, Gen.kernelRun0_A.sl.v612, Gen.kernelRun0_A.sl.v613, Gen.kernelRun0_A.sl.v614, Gen.kernelRun0_A.sl.v615, Gen.kernelRun0_A.sl.v616, Gen.kernelRun0_A.sl.v617, Gen.kernelRun0_A.sl.v618, Gen.kernelRun0_A.sl.v62, Gen.kernelRun0_A.sl.v621, Gen.kernelRun0_A.sl.v622, Gen.kernelRun0_A.sl.v623, Gen.kernelRun0_A.sl.v624, Gen.kernelRun0_A.sl.v625, Gen.kernelRun0_A.sl.v626, Gen.kernelRun0_A.sl.v627, Gen.kernelRun0_A.sl.v628, Gen.kernelRun0_A.sl.v63, Gen.kernelRun0_A.sl.v631, Gen.kernelRun0_A.sl.v632, Gen.kernelRun0_A.sl.v635, Gen.kernelRun0_A.sl.v638, Gen.kernelRun0_A.sl.v639, Gen.kernelRun0_A.sl.v640, Gen.kernelRun0_A.sl.v641, Gen.kernelRun0_A.sl.v642, Gen.kernelRun0_A.sl.v644, Gen.kernelRun0_A.sl.v646, Gen.kernelRun0_A.sl.v647, Gen.kernelRun0_A.sl.v648, Gen.kernelRun0_A.sl.v649, Gen.kernelRun0_A.sl.v65, Gen.kernelRun0_A.sl.v650, Gen.kernelRun0_A.sl.v651, Gen.kernelRun0_A.sl.v652, Gen.kernelRun0_A.sl.v655, Gen.kernelRun0_A.sl.v657, Gen.kernelRun0_A.sl.v659, Gen.kernelRun0_A.sl.v660, Gen.kernelRun0_A.sl.v661, Gen.kernelRun0_A.sl.v662, Gen.kernelRun0_A.sl.v663, Gen.kernelRun0_A.sl.v664, Gen.kernelRun0_A.sl.v665, Gen.kernelRun0_A.sl.v666, Gen.kernelRun0_A.sl.v667, Gen.kernelRun0_A.sl.v668, Gen.kernelRun0_A.sl.v669, Gen.kernelRun0_A.sl.v67, Gen.kernelRun0_A.sl.v670, Gen.kernelRun0_A.sl.v671, Gen.kernelRun0_A.sl.v672, Gen.kernelRun0_A.sl.v673, Gen.kernelRun0_A.sl.v674, Gen.kernelRun0_A.sl.v675, Gen.kernelRun0_A.sl.v676, Gen.kernelRun0_A.sl.v677, Gen.kernelRun0_A.sl.v678, Gen.kernelRun0_A.sl.v679, Gen.kernelRun0_A.sl.v68, Gen.kernelRun0_A.sl.v681, Gen.kernelRun0_A.sl.v682, Gen.kernelRun0_A.sl.v683, Gen.kernelRun0_A.sl.v685, Gen.kernelRun0_A.sl.v686, Gen.kernelRun0_A.sl.v688, Gen.kernelRun0_A.sl.v689, Gen.kernelRun0_A.sl.v69, Gen.kernelRun0_A.sl.v690, Gen.kernelRun0_A.sl.v691, Gen.kernelRun0_A.sl.v692, Gen.kernelRun0_A.sl.v693, Gen.kernelRun0_A.sl.v694, Gen.kernelRun0_A.sl.v7, Gen.kernelRun0_A.sl.v70, Gen.kernelRun0_A.sl.v71, Gen.kernelRun0_A.sl.v72, Gen.kernelRun0_A.sl.v73, Gen.kernelRun0_A.sl.v74, Gen.kernelRun0_A.sl.v741, Gen.kernelRun0_A.sl.v742, Gen.kernelRun0_A.sl.v743, Gen.kernelRun0_A.sl.v745, Gen.kernelRun0_A.sl.v747, Gen.kernelRun0_A.sl.v748, Gen.kernelRun0_A.sl.v749, Gen.kernelRun0_A.sl.v75, Gen.kernelRun0_A.sl.v750, Gen.kernelRun0_A.sl.v752, Gen.kernelRun0_A.sl.v753, Gen.kernelRun0_A.sl.v754, Gen.kernelRun0_A.sl.v756, Gen.kernelRun0_A.sl.v758, Gen.kernelRun0_A.sl.v759, Gen.kernelRun0_A.sl.v76, Gen.kernelRun0_A.sl.v761, Gen.kernelRun0_A.sl.v763, Gen.kernelRun0_A.sl.v764, Gen.kernelRun0_A.sl.v765, Gen.kernelRun0_A.sl.v766, Gen.kernelRun0_A.sl.v767, Gen.kernelRun0_A.sl.v768, Gen.kernelRun0_A.sl.v769, Gen.kernelRun0_A.sl.v77, Gen.kernelRun0_A.sl.v770, Gen.kernelRun0_A.sl.v771, Gen.kernelRun0_A.sl.v772, Gen.kernelRun0_A.sl.v773, Gen.kernelRun0_A.sl.v774, Gen.kernelRun0_A.sl.v775, Gen.kernelRun0_A.sl.v776, Gen.kernelRun0_A.sl.v777, Gen.kernelRun0_A.sl.v779, Gen.kernelRun0_A.sl.v78, Gen.kernelRun0_A.sl.v780, Gen.kernelRun0_A.sl.v781, Gen.kernelRun0_A.sl.v782, Gen.kernelRun0_A.sl.v783, Gen.kernelRun0_A.sl.v79, Gen.kernelRun0_A.sl.v799, Gen.kernelRun0_A.sl.v8, Gen.kernelRun0_A.sl.v829, Gen.kernelRun0_A.sl.v83, Gen.kernelRun0_A.sl.v830, Gen.kernelRun0_A.sl.v831, Gen.kernelRun0_A.sl.v833, Gen.kernelRun0_A.sl.v834, Gen.kernelRun0_A.sl.v835, Gen.kernelRun0_A.sl.v837, Gen.kernelRun0_A.sl.v838, Gen.kernelRun0_A.sl.v839, Gen.kernelRun0_A.sl.v841, Gen.kernelRun0_A.sl.v842, Gen.kernelRun0_A.sl.v843, Gen.kernelRun0_A.sl.v844, Gen.kernelRun0_A.sl.v845, Gen.kernelRun0_A.sl.v846, Gen.kernelRun0_A.sl.v847, Gen.kernelRun0_A.sl.v851, Gen.kernelRun0_A.sl.v852, Gen.kernelRun0_A.sl.v853, Gen.kernelRun0_A.sl.v854, Gen.kernelRun0_A.sl.v855, Gen.kernelRun0_A.sl.v856, Gen.kernelRun0_A.sl.v857, Gen.kernelRun0_A.sl.v858, Gen.kernelRun0_A.sl.v860, Gen.kernelRun0_A.sl.v861, Gen.kernelRun0_A.sl.v862, Gen.kernelRun0_A.sl.v863, Gen.kernelRun0_A.sl.v864, Gen.kernelRun0_A.sl.v865, Gen.kernelRun0_A.sl.v866, Gen.kernelRun0_A.sl.v867, Gen.kernelRun0_A.sl.v869, Gen.kernelRun0_A.sl.v871, Gen.kernelRun0_A.sl.v872, Gen.kernelRun0_A.sl.v873, Gen.kernelRun0_A.sl.v874, Gen.kernelRun0_A.sl.v876, Gen.kernelRun0_A.sl.v877, Gen.kernelRun0_A.sl.v878, Gen.kernelRun0_A.sl.v880, Gen.kernelRun0_A.sl.v882, Gen.kernelRun0_A.sl.v883, Gen.kernelRun0_A.sl.v885, Gen.kernelRun0_A.sl.v887, Gen.kernelRun0_A.sl.v888, Gen.kernelRun0_A.sl.v889, Gen.kernelRun0_A.sl.v890, Gen.kernelRun0_A.sl.v891, Gen.kernelRun0_A.sl.v892, Gen.kernelRun0_A.sl.v893, Gen.kernelRun0_A.sl.v894, Gen.kernelRun0_A.sl.v895, Gen.kernelRun0_A.sl.v896, Gen.kernelRun0_A.sl.v897, Gen.kernelRun0_A.sl.v898, Gen.kernelRun0_A.sl.v899, Gen.kernelRun0_A.sl.v9, Gen.kernelRun0_A.sl.v900, Gen.kernelRun0_A.sl.v901, Gen.kernelRun0_A.sl.v903, Gen.kernelRun0_A.sl.v904, Gen.kernelRun0_A.sl.v905, Gen.kernelRun0_A.sl.v906, Gen.kernelRun0_A.sl.v907, Gen.kernelRun0_A.sl.v908, Gen.kernelRun0_A.sl.v909, Gen.kernelRun0_A.sl.v910, Gen.kernelRun0_A.sl.v911, Gen.kernelRun0_A.sl.v912, Gen.kernelRun0_A.sl.v913, Gen.kernelRun0_A.sl.v914, Gen.kernelRun0_A.sl.v915, Gen.kernelRun0_A.sl.v916, Gen.kernelRun0_A.sl.v917, Gen.kernelRun0_A.sl.v918, Gen.kernelRun0_A.sl.v919, Gen.kernelRun0_A.sl.v920, Gen.kernelRun0_A.sl.v921, Gen.kernelRun0_A.sl.v922, Gen.kernelRun0_A.sl.v923, Gen.kernelRun0_A.sl.v924, Gen.kernelRun0_A.sl.v927, Gen.kernelRun0_A.sl.v928, Gen.kernelRun0_A.sl.v931, Gen.kernelRun0_A.sl.v934, Gen.kernelRun0_A.sl.v935, Gen.kernelRun0_A.sl.v936, Gen.kernelRun0_A.sl.v937, Gen.kernelRun0_A.sl.v938, Gen.kernelRun0_A.sl.v940, Gen.kernelRun0_A.sl.v942, Gen.kernelRun0_A.sl.v943, Gen.kernelRun0_A.sl.v944, Gen.kernelRun0_A.sl.v945, Gen.kernelRun0_A.sl.v946, Gen.kernelRun0_A.sl.v947, Gen.kernelRun0_A.sl.v948, Gen.kernelRun0_A.sl.v951, Gen.kernelRun0_A.sl.v953, Gen.kernelRun0_A.sl.v955, Gen.kernelRun0_A.sl.v956, Gen.kernelRun0_A.sl.v957, Gen.kernelRun0_A.sl.v958, Gen.kernelRun0_A.sl.v960, Gen.kernelRun0_A.sl.v963, Gen.kernelRun0_A.sl.v971, View.readCov_skip, View.readCov_cons_toLoadRect, View.readCov_fill, View.readAt_eq_ld, Memref.IsWhole.read_unread, View.ld_unit_lit']
  refine (View.canon_cons_unit_lit _ _ _ (by decide)).trans ?_
  refine congrArg k0_pay3 ?_
  refine (readCov_whole _ _ _ (by decide)).trans ?_
  funext y
  refine (Cert.KernelIdeal.Step.canon_append_of_cover _ [_, _, _, _, _, _, _, _] y ?_).trans ?_
  · exact View.cover_of_tiledL (s := S8x1x128) _ S1x1x128.size (by sl_kernel_rfl) y
  canon_tiles x h
  case piece0 => exact Eq.trans (congrFun (by rfl) x) (stackM_at (headM x4 x5 x6 x7 x11) 7 x y h0 h1 h2)
  case piece1 => exact Eq.trans (congrFun (by rfl) x) (stackM_at (headM x4 x5 x6 x7 x11) 6 x y h0 h1 h2)
  case piece2 => exact Eq.trans (congrFun (by rfl) x) (stackM_at (headM x4 x5 x6 x7 x11) 5 x y h0 h1 h2)
  case piece3 => exact Eq.trans (congrFun (by rfl) x) (stackM_at (headM x4 x5 x6 x7 x11) 4 x y h0 h1 h2)
  case piece4 => exact Eq.trans (congrFun (by rfl) x) (stackM_at (headM x4 x5 x6 x7 x11) 3 x y h0 h1 h2)
  case piece5 => exact Eq.trans (congrFun (by rfl) x) (stackM_at (headM x4 x5 x6 x7 x11) 2 x y h0 h1 h2)
  case piece6 => exact Eq.trans (congrFun (by rfl) x) (stackM_at (headM x4 x5 x6 x7 x11) 1 x y h0 h1 h2)
  case piece7 => exact Eq.trans (congrFun (by rfl) x) (stackM_at (headM x4 x5 x6 x7 x11) 0 x y (by simpa using h0) h1 h2)

end Cert.Kernel7Ideal.Step

end
-- ==== Proof.MemSum.lean ====
/- The reference's running sum of the forget gates, read at an index. -/
module

public import proofs.«01_k».proof.Proof.MemSpec
public import proofs.«01_k».proof.Proof.Gen.Reference7Ideal.Run
public import proofs.«01_k».proof.Proof.Gen.Reference7Ideal.Read
public import Idealize.ShloMosaic.Lib.Pointwise
public import Idealize.ShloMosaic.Lib.KernelVsHost

@[expose] public section

set_option maxRecDepth 100000

noncomputable section

namespace Cert.Reference7Ideal.Read

open Cert.Reference7Ideal Cert.Reference7Ideal.Gen Idealize.ShloMosaic Proof

theorem start_eq : Ideal.ofBits FTy.f32 4286578688#32 = ⊥ := by simp [Ideal.ofBits, Ideal.ieee]

/-! ## The running sum -/

theorem foldl_sum (N : ℕ) (f : Fin N → EReal) : (List.finRange N).foldl (fun r n => r + f n) 0 = ∑ n : Fin N, f n := by
  have g : ∀ (l : List (Fin N)) (v : EReal), l.foldl (fun r n => r + f n) v = v + (l.map f).sum := by
    intro l
    induction l with
    | nil => intro v; simp
    | cons a l ih => intro v; simp [ih, add_assoc]
  rw [g, zero_add, Fin.sum_univ_def]

theorem window_sum (t : Fin 16) (f : Fin 16 → EReal) :
    (∑ n : Fin 16, if h : 15 ≤ t.val + n.val ∧ t.val + n.val - 15 < 16 then f ⟨t.val + n.val - 15, h.2⟩ else 0)
      = ∑ s : Fin 16, if s.val ≤ t.val then f s else 0 := by
  fin_cases t <;> simp [Fin.sum_univ_succ] <;> rfl

theorem pos2 : ∀ n : Fin (⟨3, ![1, 1, 16]⟩ : Shape).numel, ((⟨3, ![1, 1, 16]⟩ : Shape).rowMajor.symm n 0).val = 0
    ∧ ((⟨3, ![1, 1, 16]⟩ : Shape).rowMajor.symm n 1).val = 0 ∧ ((⟨3, ![1, 1, 16]⟩ : Shape).rowMajor.symm n 2).val = n.val := by
  decide +kernel

theorem numel16 : (⟨3, ![1, 1, 16]⟩ : Shape).numel = 16 := by decide

theorem cumsum_apply (x : FVec Ideal S32x8x16 .f32) (init : S_.Idx → Ideal .f32) (hi : init (Shape.Idx.first h_S_) = (0 : EReal)) (b : Fin 32) (h : Fin 8) (t : Fin 16) :
    (Host.reduceWindowAdd ![1, 1, 16] ![1, 1, 1] ![0, 0, 15] ![0, 0, 0] x init reduceWindows_S32x8x16_S32x8x16_w1s1p0_0_w1s1p0_0_w16s1p15_0 h_S_ (ix3 b h t) : EReal)
      = ∑ s : Fin 16, if s.val ≤ t.val then x (ix3 b h s) else 0 := by
  unfold Host.reduceWindowAdd
  rw [hi]
  refine (foldl_sum _ _).trans ?_
  refine Eq.trans ?_ (window_sum t fun s => x (ix3 b h s))
  refine Fintype.sum_equiv (finCongr numel16) _ _ fun n => ?_
  obtain ⟨p0, p1, p2⟩ := pos2 n
  have hn : n.val < 16 := lt_of_lt_of_eq n.isLt numel16
  have ht := t.isLt
  by_cases hc : 15 ≤ t.val + n.val
  · rw [dif_pos (show 15 ≤ t.val + (finCongr numel16 n).val ∧ t.val + (finCongr numel16 n).val - 15 < 16 from ⟨hc, by show t.val + n.val - 15 < 16; omega⟩)]
    refine (dif_pos fun a => ?_).trans ?_
    · match a with
      | ⟨0, _⟩ =>
        show 0 ≤ b.val * 1 + ((⟨3, ![1, 1, 16]⟩ : Shape).rowMajor.symm n 0).val ∧ b.val * 1 + ((⟨3, ![1, 1, 16]⟩ : Shape).rowMajor.symm n 0).val - 0 < 32
        rw [p0]; omega
      | ⟨1, _⟩ =>
        show 0 ≤ h.val * 1 + ((⟨3, ![1, 1, 16]⟩ : Shape).rowMajor.symm n 1).val ∧ h.val * 1 + ((⟨3, ![1, 1, 16]⟩ : Shape).rowMajor.symm n 1).val - 0 < 8
        rw [p1]; omega
      | ⟨2, _⟩ =>
        show 15 ≤ t.val * 1 + ((⟨3, ![1, 1, 16]⟩ : Shape).rowMajor.symm n 2).val ∧ t.val * 1 + ((⟨3, ![1, 1, 16]⟩ : Shape).rowMajor.symm n 2).val - 15 < 16
        rw [p2]; omega
    · refine congrArg x (funext fun a => Fin.ext ?_)
      match a with
      | ⟨0, _⟩ =>
        show b.val * 1 + ((⟨3, ![1, 1, 16]⟩ : Shape).rowMajor.symm n 0).val - 0 = b.val
        rw [p0]; omega
      | ⟨1, _⟩ =>
        show h.val * 1 + ((⟨3, ![1, 1, 16]⟩ : Shape).rowMajor.symm n 1).val - 0 = h.val
        rw [p1]; omega
      | ⟨2, _⟩ =>
        show t.val * 1 + ((⟨3, ![1, 1, 16]⟩ : Shape).rowMajor.symm n 2).val - 15 = t.val + n.val - 15
        rw [p2]; omega
  · rw [dif_neg (show ¬(15 ≤ t.val + (finCongr numel16 n).val ∧ t.val + (finCongr numel16 n).val - 15 < 16) from fun q => hc q.1)]
    refine dif_neg fun q => hc ?_
    have q2 : 15 ≤ t.val * 1 + ((⟨3, ![1, 1, 16]⟩ : Shape).rowMajor.symm n 2).val := (q 2).1
    rw [p2] at q2
    omega

end Cert.Reference7Ideal.Read

end
-- ==== Proof.MemRef.lean ====
/- The reference's mLSTM, read at an index: each head's functions of its gates, queries, keys, values and state. -/
module

public import proofs.«01_k».proof.Proof.MemSum

@[expose] public section

set_option maxRecDepth 100000

noncomputable section

namespace Cert.Reference7Ideal.Read

open Cert.Reference7Ideal Cert.Reference7Ideal.Gen Idealize.ShloMosaic Proof

variable (x0 x1 : FVec Ideal S32x16x512 .bf16) (x2 : FVec Ideal S32x16x1024 .bf16) (x3 : FVec Ideal S32x16x1024 .f32)
  (x4 : FVec Ideal S32x16x16 .f32) (x5 x6 : FVec Ideal S8 .f32) (x7 : FVec Ideal S1024 .f32) (x8 : FVec Ideal S32x8x128x64 .f32)
  (x9 : FVec Ideal S32x8x64 .f32) (x10 : FVec Ideal S32x8 .f32) (b : Fin 32) (h : Fin 8)

/-- A head's gates, queries or keys, values and state. -/
def inR (t : Fin 16) : EReal := Mem.capped (x4 (ix3 b t ⟨h.val, by omega⟩) + x5 (ix1 h))
def fgR (t : Fin 16) : EReal := Fox.logSig (Mem.capped (x4 (ix3 b t ⟨8 + h.val, by omega⟩) + x6 (ix1 h)))
def qR (x : FVec Ideal S32x16x512 .bf16) (b : Fin 32) (h : Fin 8) (t : Fin 16) (l : Fin 64) : EReal := x (ix3 b t ⟨64 * h.val + l.val, by omega⟩)
def vR (t : Fin 16) (j : Fin 128) : EReal := x2 (ix3 b t ⟨128 * h.val + j.val, by omega⟩)
def cR (l : Fin 64) (j : Fin 128) : EReal := x8 (ix4 b h j l)
def nR (l : Fin 64) : EReal := x9 (ix3 b h l)

theorem ref_in (t : Fin 16) : val_main_v18 (F := Ideal) x4 x5 (ix3 b h t) = inR x4 x5 b h t := by
  unfold inR Mem.capped
  pointwise [val_main_v18, val_main_v17, val_main_v16, val_main_v15, val_main_v14, val_main_v13, val_main_v12, val_main_v11, val_main_v10, val_main_v9, val_main_cst, val_main_cst_0]

theorem ref_pre (t : Fin 16) : val_main_v27 (F := Ideal) x4 x6 (ix3 b t h) = Mem.capped (x4 (ix3 b t ⟨8 + h.val, by omega⟩) + x6 (ix1 h)) := by
  unfold Mem.capped
  pointwise [val_main_v27, val_main_v26, val_main_v25, val_main_v24, val_main_v23, val_main_v22, val_main_v21, val_main_v20, val_main_v19, val_main_cst_1, val_main_cst_2]

theorem ref_fg (t : Fin 16) : val_main_v29 (F := Ideal) x4 x6 (ix3 b h t) = fgR x4 x6 b h t := by
  unfold fgR Fox.logSig
  rw [← ref_pre]
  unfold val_main_v29 val_main_v28 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0
  generalize val_main_v27 (F := Ideal) x4 x6 = p
  pointwise [val_main_call0_call0_cst]
  rw [if_neg (fun h => h rfl)]
  rfl

theorem ref_q (t : Fin 16) (l : Fin 64) : val_main_v2 (F := Ideal) x0 (ix4 b h t l) = qR x0 b h t l := by
  unfold qR
  pointwise [val_main_v2, val_main_v1, val_main_v0]
  exact congrArg (fun a => x0 (ix3 b t a)) (Fin.ext (by show h.val * 64 + l.val = 64 * h.val + l.val; omega))

theorem ref_k (t : Fin 16) (l : Fin 64) : val_main_v5 (F := Ideal) x1 (ix4 b h t l) = qR x1 b h t l := by
  unfold qR
  pointwise [val_main_v5, val_main_v4, val_main_v3]
  exact congrArg (fun a => x1 (ix3 b t a)) (Fin.ext (by show h.val * 64 + l.val = 64 * h.val + l.val; omega))

theorem ref_v (t : Fin 16) (j : Fin 128) : val_main_v8 (F := Ideal) x2 (ix4 b h t j) = vR x2 b h t j := by
  unfold vR
  pointwise [val_main_v8, val_main_v7, val_main_v6]
  exact congrArg (fun a => x2 (ix3 b t a)) (Fin.ext (by show h.val * 128 + j.val = 128 * h.val + j.val; omega))

theorem ref_cum (t : Fin 16) : val_main_v30 (F := Ideal) x4 x6 (ix3 b h t) = Mem.cum (fgR x4 x6 b h) t := by
  unfold Mem.cum
  simp only [← ref_fg]
  exact cumsum_apply _ _ (by pointwise [val_main_call1_call0_v0, val_main_call1_call0_cst]) b h t

theorem seen : ∀ t s : Fin 16, IntOp.cmpi .sge (IntOp.addi (BitVec.ofNat 32 t.val) 0#32) (BitVec.ofNat 32 s.val) = if s.val ≤ t.val then 1#1 else 0#1 := by
  decide +kernel

theorem ref_seen (t s : Fin 16) : val_main_v32 (F := Ideal) (ix2 t s) = if s.val ≤ t.val then 1#1 else 0#1 := by
  pointwise [val_main_v32, val_main_v31, val_main_c, val_main_call2_v5, val_main_call2_c_0, val_main_call2_v4, val_main_call2_v3, val_main_call2_v2, val_main_call2_v1, val_main_call2_v0, val_main_call2_c]
  rw [seen]
  split <;> rfl

theorem ref_D (t s : Fin 16) : val_main_v41 (F := Ideal) x4 x5 x6 (ix4 b h t s) = Mem.D (inR x4 x5 b h) (fgR x4 x6 b h) t s := by
  unfold Mem.D
  rw [← ref_cum, ← ref_cum, ← ref_in]
  pointwise [val_main_v41, val_main_call3_v2, val_main_call3_v1, val_main_call3_v0, val_main_cst_3, val_main_v40, val_main_v39, val_main_v38, val_main_v37, val_main_v36, val_main_v35, val_main_v34, val_main_v33]
  rw [ref_seen]
  split
  · rfl
  · exact start_eq

theorem ref_inter (t : Fin 16) : val_main_v44 (F := Ideal) x4 x6 x10 (ix3 b h t) = Mem.cum (fgR x4 x6 b h) t + x10 (ix2 b h) := by
  rw [← ref_cum]
  pointwise [val_main_v44, val_main_v43, val_main_v42]

theorem rowMax_apply (y : FVec Ideal S32x8x16x16 .f32) (t : Fin 16) :
    Host.reduce FloatOps.maximumf y (val_main_cst_4 (F := Ideal)) reducesTo_S32x8x16x16_S32x8x16_d3 h_S_ (ix3 b h t)
      = Finset.fold max ⊥ (fun k => y (ix4 b h t k)) Finset.univ := by
  rw [← start_eq]
  pointwise [val_main_cst_4]

theorem headMax_apply (y : FVec Ideal S32x8x16 .f32) :
    Host.reduce FloatOps.maximumf y (val_main_cst_6 (F := Ideal)) reducesTo_S32x8x16_S32x8_d2 h_S_ (ix2 b h)
      = Finset.fold max ⊥ (fun k => y (ix3 b h k)) Finset.univ := by
  rw [← start_eq]
  pointwise [val_main_cst_6]

theorem ref_M (t : Fin 16) : val_main_v46 (F := Ideal) x4 x5 x6 x10 (ix3 b h t) = Mem.M (inR x4 x5 b h) (fgR x4 x6 b h) (x10 (ix2 b h)) t := by
  unfold Mem.M
  have e : val_main_v45 (F := Ideal) x4 x5 x6 (ix3 b h t) = _ := rowMax_apply b h _ t
  simp only [ref_D] at e
  rw [val_main_v46_apply, e, ref_inter]
  rfl

theorem ref_G (t : Fin 16) : val_main_v48 (F := Ideal) x4 x5 x6 x10 (ix3 b h t) = Mem.G (inR x4 x5 b h) (fgR x4 x6 b h) (x10 (ix2 b h)) t := by
  unfold Mem.G
  rw [← ref_M, ← ref_inter]
  pointwise [val_main_v48, val_main_v47]

theorem ref_S (t s : Fin 16) : val_main_v54 (F := Ideal) x0 x1 x4 x5 x6 x10 (ix4 b h t s)
    = Mem.S (inR x4 x5 b h) (fgR x4 x6 b h) (x10 (ix2 b h)) (qR x0 b h) (qR x1 b h) t s := by
  unfold Mem.S
  rw [← ref_M, ← ref_D]
  simp only [← ref_q x0, ← ref_k x1]
  pointwise [val_main_v54, val_main_v53, val_main_v52, val_main_v51, val_main_v50, val_main_v49]

theorem ref_num (t : Fin 16) (j : Fin 128) : val_main_v60 (F := Ideal) x0 x1 x2 x4 x5 x6 x8 x10 (ix4 b h t j)
    = Mem.num (inR x4 x5 b h) (fgR x4 x6 b h) (x10 (ix2 b h)) (qR x0 b h) (qR x1 b h) (vR x2 b h) (cR x8 b h) t j := by
  unfold Mem.num cR
  rw [← ref_G]
  simp only [← ref_S, ← ref_q, ← ref_v]
  pointwise [val_main_v60, val_main_v59, val_main_v58, val_main_v57, val_main_v56, val_main_v55]

theorem ref_den (t : Fin 16) : val_main_v64 (F := Ideal) x0 x1 x4 x5 x6 x9 x10 (ix3 b h t)
    = Mem.den (inR x4 x5 b h) (fgR x4 x6 b h) (x10 (ix2 b h)) (qR x0 b h) (qR x1 b h) (nR x9 b h) t := by
  unfold Mem.den nR
  rw [← ref_G]
  simp only [← ref_S, ← ref_q]
  pointwise [val_main_v64, val_main_v63, val_main_v62, val_main_v61, val_main_cst_5]
  simp only [mul_comm]

theorem ref_quo (t : Fin 16) (j : Fin 128) : val_main_v71 (F := Ideal) x0 x1 x2 x4 x5 x6 x8 x9 x10 (ix4 b h t j)
    = Mem.quo (inR x4 x5 b h) (fgR x4 x6 b h) (x10 (ix2 b h)) (qR x0 b h) (qR x1 b h) (vR x2 b h) (cR x8 b h) (nR x9 b h) t j := by
  unfold Mem.quo
  rw [← ref_num, ← ref_den, ← ref_M, zero_sub]
  pointwise [val_main_v71, val_main_v70, val_main_v69, val_main_v68, val_main_v67, val_main_v66, val_main_v65]
  rfl

theorem cum_last (L : Fin 16 → EReal) : Mem.cum L 15 = Mem.last L := by
  unfold Mem.cum Mem.last
  exact Finset.sum_congr rfl fun s _ => if_pos (by have := s.isLt; show s.val ≤ 15; omega)

theorem ref_last : val_main_v73 (F := Ideal) x4 x6 (ix2 b h) = Mem.last (fgR x4 x6 b h) := by
  rw [← cum_last, ← ref_cum]
  pointwise [val_main_v73, val_main_v72]

theorem ref_W (s : Fin 16) : val_main_v77 (F := Ideal) x4 x5 x6 (ix3 b h s) = Mem.W (inR x4 x5 b h) (fgR x4 x6 b h) s := by
  unfold Mem.W
  rw [← ref_last, ← ref_cum, ← ref_in]
  pointwise [val_main_v77, val_main_v76, val_main_v75, val_main_v74]

theorem ref_newM : val_main_v80 (F := Ideal) x4 x5 x6 x10 (ix2 b h) = Mem.newM (inR x4 x5 b h) (fgR x4 x6 b h) (x10 (ix2 b h)) := by
  unfold Mem.newM
  have e : val_main_v79 (F := Ideal) x4 x5 x6 (ix2 b h) = _ := headMax_apply b h _
  simp only [ref_W] at e
  rw [val_main_v80_apply, e, val_main_v78_apply, ref_last]
  rfl

theorem ref_newG : val_main_v83 (F := Ideal) x4 x5 x6 x10 (ix2 b h) = Mem.newG (inR x4 x5 b h) (fgR x4 x6 b h) (x10 (ix2 b h)) := by
  unfold Mem.newG
  rw [← ref_newM, ← ref_last]
  pointwise [val_main_v83, val_main_v82, val_main_v81]

theorem ref_newW (s : Fin 16) : val_main_v87 (F := Ideal) x4 x5 x6 x10 (ix3 b h s) = Mem.newW (inR x4 x5 b h) (fgR x4 x6 b h) (x10 (ix2 b h)) s := by
  unfold Mem.newW
  rw [← ref_newM, ← ref_W]
  pointwise [val_main_v87, val_main_v86, val_main_v85, val_main_v84]

theorem ref_newC (j : Fin 128) (l : Fin 64) : val_main_v95 (F := Ideal) x1 x2 x4 x5 x6 x8 x10 (ix4 b h j l)
    = Mem.newC (inR x4 x5 b h) (fgR x4 x6 b h) (x10 (ix2 b h)) (qR x1 b h) (vR x2 b h) (cR x8 b h) l j := by
  unfold Mem.newC cR
  rw [← ref_newG]
  simp only [← ref_newW, ← ref_k, ← ref_v]
  pointwise [val_main_v95, val_main_v94, val_main_v93, val_main_v92, val_main_v91, val_main_v90, val_main_v89, val_main_v88]
  exact congrArg (_ + ·) (Finset.sum_congr rfl fun s _ => mul_comm _ _)

theorem ref_newN (l : Fin 64) : val_main_v100 (F := Ideal) x1 x4 x5 x6 x9 x10 (ix3 b h l)
    = Mem.newN (inR x4 x5 b h) (fgR x4 x6 b h) (x10 (ix2 b h)) (qR x1 b h) (nR x9 b h) l := by
  unfold Mem.newN nR
  rw [← ref_newG]
  simp only [← ref_newW, ← ref_k]
  pointwise [val_main_v100, val_main_v99, val_main_v98, val_main_v97, val_main_v96]

/-! ## The four results -/

theorem ref_h (t : Fin 16) (L : Fin 1024) : val_main_v128 (F := Ideal) x0 x1 x2 x3 x4 x5 x6 x7 x8 x9 x10 (ix3 b t L)
    = (fun h : Fin 8 => fun j : Fin 128 => Mem.out (inR x4 x5 b h) (fgR x4 x6 b h) (x10 (ix2 b h)) (qR x0 b h) (qR x1 b h) (vR x2 b h) (cR x8 b h) (nR x9 b h)
        (fun _ => x7 (ix1 L)) (fun t _ => x3 (ix3 b t L)) t j) ⟨L.val / 128, by omega⟩ ⟨L.val % 128, by omega⟩ := by
  unfold Mem.out Fox.eps
  simp only [← ref_quo]
  unfold val_main_v128 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101
  generalize val_main_v71 (F := Ideal) x0 x1 x2 x4 x5 x6 x8 x9 x10 = p
  pointwise [val_main_cst_7, val_main_cst_8, val_main_cst_9, val_main_cst_10, val_main_cst_11]

theorem ref_c (p : Fin 4) (l j : Fin 128) : val_main_v124 (F := Ideal) x1 x2 x4 x5 x6 x8 x10 (ix4 b p l j)
    = (fun h : Fin 8 => Mem.newC (inR x4 x5 b h) (fgR x4 x6 b h) (x10 (ix2 b h)) (qR x1 b h) (vR x2 b h) (cR x8 b h) ⟨l.val % 64, by omega⟩ j)
        ⟨2 * p.val + l.val / 64, by omega⟩ := by
  simp only [← ref_newC]
  unfold val_main_v124 val_main_v123
  generalize val_main_v95 (F := Ideal) x1 x2 x4 x5 x6 x8 x10 = y
  pointwise
  exact congrArg (fun a => y (ix4 b a j ⟨l.val % 64, by omega⟩)) (Fin.ext (by show p.val * 2 + l.val / 64 = 2 * p.val + l.val / 64; omega))

theorem ref_n (p : Fin 4) (l : Fin 128) : val_main_v125 (F := Ideal) x1 x4 x5 x6 x9 x10 (ix4 b p 0 l)
    = (fun h : Fin 8 => Mem.newN (inR x4 x5 b h) (fgR x4 x6 b h) (x10 (ix2 b h)) (qR x1 b h) (nR x9 b h) ⟨l.val % 64, by omega⟩)
        ⟨2 * p.val + l.val / 64, by omega⟩ := by
  simp only [← ref_newN]
  unfold val_main_v125
  generalize val_main_v100 (F := Ideal) x1 x4 x5 x6 x9 x10 = y
  pointwise
  exact congrArg (fun a => y (ix3 b a ⟨l.val % 64, by omega⟩)) (Fin.ext (by show p.val * 2 + l.val / 64 = 2 * p.val + l.val / 64; omega))

theorem ref_m (l : Fin 128) : val_main_v127 (F := Ideal) x4 x5 x6 x10 (ix4 b h 0 l)
    = Mem.newM (inR x4 x5 b h) (fgR x4 x6 b h) (x10 (ix2 b h)) := by
  rw [← ref_newM]
  unfold val_main_v127 val_main_v126
  generalize val_main_v80 (F := Ideal) x4 x5 x6 x10 = y
  pointwise

end Cert.Reference7Ideal.Read

end
-- ==== Proof.MemValue.lean ====
/- The arrays the sample's mLSTM call leaves are the reference's heads and new states of the same arguments. -/
module

public import proofs.«01_k».proof.Proof.MemBlocks
public import proofs.«01_k».proof.Proof.MemH
public import proofs.«01_k».proof.Proof.MemC
public import proofs.«01_k».proof.Proof.MemN
public import proofs.«01_k».proof.Proof.MemM
public import proofs.«01_k».proof.Proof.MemHeads
public import proofs.«01_k».proof.Proof.MemRef

@[expose] public section

set_option maxRecDepth 100000

noncomputable section

namespace Proof.Mem

open Cert.Kernel7Ideal Cert.Kernel7Ideal.Gen Cert.Kernel7Ideal.Value Cert.Kernel7Ideal.Step Idealize.ShloMosaic Idealize.ShloMosaic.TcCoe Idealize.SL.Sem

variable (m : (ℓ : Loc nD τ sig) → Buf (Elt Ideal) ℓ) (c : Dev nD)

/-- The call's arguments. -/
abbrev A0 : FVec Ideal Cert.Kernel7Ideal.S32x16x512 .bf16 := m ((c : Thread nD τ).loc Cert.Kernel7Ideal.main_arg0)
abbrev A1 : FVec Ideal Cert.Kernel7Ideal.S32x16x512 .bf16 := m ((c : Thread nD τ).loc Cert.Kernel7Ideal.main_arg1)
abbrev A2 : FVec Ideal Cert.Kernel7Ideal.S32x16x1024 .bf16 := m ((c : Thread nD τ).loc Cert.Kernel7Ideal.main_arg2)
abbrev A3 : FVec Ideal Cert.Kernel7Ideal.S32x16x1024 .f32 := m ((c : Thread nD τ).loc Cert.Kernel7Ideal.main_arg3)
abbrev A4 : FVec Ideal Cert.Kernel7Ideal.S32x16x16 .f32 := m ((c : Thread nD τ).loc Cert.Kernel7Ideal.main_arg4)
abbrev A5 : FVec Ideal Cert.Kernel7Ideal.S8 .f32 := m ((c : Thread nD τ).loc Cert.Kernel7Ideal.main_arg5)
abbrev A6 : FVec Ideal Cert.Kernel7Ideal.S8 .f32 := m ((c : Thread nD τ).loc Cert.Kernel7Ideal.main_arg6)
abbrev A7 : FVec Ideal Cert.Kernel7Ideal.S1024 .f32 := m ((c : Thread nD τ).loc Cert.Kernel7Ideal.main_arg7)
abbrev A8 : FVec Ideal Cert.Kernel7Ideal.S32x8x128x64 .f32 := m ((c : Thread nD τ).loc Cert.Kernel7Ideal.main_arg8)
abbrev A9 : FVec Ideal Cert.Kernel7Ideal.S32x8x64 .f32 := m ((c : Thread nD τ).loc Cert.Kernel7Ideal.main_arg9)
abbrev A10 : FVec Ideal Cert.Kernel7Ideal.S32x8 .f32 := m ((c : Thread nD τ).loc Cert.Kernel7Ideal.main_arg10)

/-- The gates' second copy is the first one transposed, and the biases' too. -/
theorem gates_t (t : Fin cfg0.N) (a b : Fin 16) : iblk m c 5 t (ix3 0 a b) = iblk m c 4 t (ix3 0 b a) :=
  (blk5 m c t b a).trans (blk4 m c t b a).symm

/-- What a head of a grid point reads is what that head of that user reads. -/
theorem in_eq (t : Fin cfg0.N) (h : Fin 8) : inC (iblk m c 4 t) (iblk m c 6 t) h = Cert.Reference7Ideal.Read.inR (A4 m c) (A5 m c) (user t) h := by
  funext r; unfold inC Cert.Reference7Ideal.Read.inR; rw [blk4, blk6i]
theorem fg_eq (t : Fin cfg0.N) (h : Fin 8) : fgC (iblk m c 4 t) (iblk m c 6 t) h = Cert.Reference7Ideal.Read.fgR (A4 m c) (A6 m c) (user t) h := by
  funext r; unfold fgC Cert.Reference7Ideal.Read.fgR; rw [blk4, blk6f]
theorem q_eq (t : Fin cfg0.N) (h : Fin 8) : qS (iblk m c 0 t) h = Cert.Reference7Ideal.Read.qR (A0 m c) (user t) h := by
  funext r l; exact blk0 m c t _ _
theorem k_eq (t : Fin cfg0.N) (h : Fin 8) : qS (iblk m c 1 t) h = Cert.Reference7Ideal.Read.qR (A1 m c) (user t) h := by
  funext r l; exact blk1 m c t _ _
theorem v_eq (t : Fin cfg0.N) (h : Fin 8) : vS (iblk m c 2 t) h = Cert.Reference7Ideal.Read.vR (A2 m c) (user t) h := by
  funext r l; exact blk2 m c t _ _
theorem c_eq (t : Fin cfg0.N) (h : Fin 8) : cS (iblk m c 9 t) h = Cert.Reference7Ideal.Read.cR (A8 m c) (user t) h := by
  funext l j
  have e1 : (⟨2 * (pair h).val + (hl h l).val / 64, by omega⟩ : Fin 8) = h := Fin.ext (by
    show 2 * (h.val / 2) + (64 * (h.val % 2) + l.val) / 64 = h.val; omega)
  have e2 : (⟨(hl h l).val % 64, by omega⟩ : Fin 64) = l := Fin.ext (by
    show (64 * (h.val % 2) + l.val) % 64 = l.val; omega)
  refine (blk9 m c t (pair h) (hl h l) j).trans ?_
  rw [e1, e2]; rfl
theorem n_eq (t : Fin cfg0.N) (h : Fin 8) : nS (iblk m c 10 t) h = Cert.Reference7Ideal.Read.nR (A9 m c) (user t) h := by
  funext l
  have e1 : (⟨2 * (pair h).val + (hl h l).val / 64, by omega⟩ : Fin 8) = h := Fin.ext (by
    show 2 * (h.val / 2) + (64 * (h.val % 2) + l.val) / 64 = h.val; omega)
  have e2 : (⟨(hl h l).val % 64, by omega⟩ : Fin 64) = l := Fin.ext (by
    show (64 * (h.val % 2) + l.val) % 64 = l.val; omega)
  refine (blk10 m c t (pair h) (hl h l)).trans ?_
  rw [e1, e2]; rfl

theorem apply12 (t : Fin cfg0.N) (r : Fin 16) (L : Fin 1024) :
    stackH (headH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 r L) = Cert.Reference7Ideal.Read.val_main_v128 (F := Ideal) (A0 m c) (A1 m c) (A2 m c) (A3 m c) (A4 m c) (A5 m c) (A6 m c) (A7 m c) (A8 m c) (A9 m c) (A10 m c) (ix3 (user t) r L) := by
  have eL : ∀ hL, (⟨128 * (L.val / 128) + L.val % 128, hL⟩ : Fin 1024) = L := fun _ => Fin.ext (by show 128 * (L.val / 128) + L.val % 128 = L.val; omega)
  refine (stackH_at _ ⟨L.val / 128, by omega⟩ (ix3 0 r ⟨L.val % 128, by omega⟩) (ix3 0 r L) rfl rfl (by show L.val = 128 * (L.val / 128) + L.val % 128; omega)).symm.trans ?_
  refine (headH_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (gates_t m c t) (blk7 m c t) ⟨L.val / 128, by omega⟩ r ⟨L.val % 128, by omega⟩).trans ?_
  refine Eq.trans ?_ (Cert.Reference7Ideal.Read.ref_h (A0 m c) (A1 m c) (A2 m c) (A3 m c) (A4 m c) (A5 m c) (A6 m c) (A7 m c) (A8 m c) (A9 m c) (A10 m c) (user t) r L).symm
  rw [in_eq, fg_eq, q_eq, k_eq, v_eq, c_eq, n_eq, blk11]
  unfold Mem.out
  dsimp only
  rw [blk8, blk3, eL]

theorem apply13 (t : Fin cfg0.N) (p : Fin 4) (l j : Fin 128) :
    k0_pay1 (F := Ideal) (stackC (pairC (iblk m c 1 t) (iblk m c 2 t) (iblk m c 4 t) (iblk m c 5 t) (iblk m c 6 t) (iblk m c 7 t) (iblk m c 9 t) (iblk m c 11 t))) (ix4 0 p l j) = Cert.Reference7Ideal.Read.val_main_v124 (F := Ideal) (A1 m c) (A2 m c) (A4 m c) (A5 m c) (A6 m c) (A8 m c) (A10 m c) (ix4 (user t) p l j) := by
  refine (stack4 _ p l j).trans ?_
  refine (pairC_apply (iblk m c 1 t) (iblk m c 2 t) (iblk m c 4 t) (iblk m c 5 t) (iblk m c 6 t) (iblk m c 7 t) (iblk m c 9 t) (iblk m c 11 t) (gates_t m c t) (blk7 m c t) p l j).trans ?_
  refine Eq.trans ?_ (Cert.Reference7Ideal.Read.ref_c (A1 m c) (A2 m c) (A4 m c) (A5 m c) (A6 m c) (A8 m c) (A10 m c) (user t) p l j).symm
  rw [in_eq, fg_eq, k_eq, v_eq, c_eq, blk11]
  rfl

theorem apply14 (t : Fin cfg0.N) (p : Fin 4) (l : Fin 128) :
    k0_pay2 (F := Ideal) (stackN (pairN (iblk m c 1 t) (iblk m c 4 t) (iblk m c 5 t) (iblk m c 6 t) (iblk m c 7 t) (iblk m c 10 t) (iblk m c 11 t))) (ix4 0 p 0 l) = Cert.Reference7Ideal.Read.val_main_v125 (F := Ideal) (A1 m c) (A4 m c) (A5 m c) (A6 m c) (A9 m c) (A10 m c) (ix4 (user t) p 0 l) := by
  refine (stack1 _ p l).trans ?_
  refine (pairN_apply (iblk m c 1 t) (iblk m c 4 t) (iblk m c 5 t) (iblk m c 6 t) (iblk m c 7 t) (iblk m c 10 t) (iblk m c 11 t) (gates_t m c t) (blk7 m c t) p l).trans ?_
  refine Eq.trans ?_ (Cert.Reference7Ideal.Read.ref_n (A1 m c) (A4 m c) (A5 m c) (A6 m c) (A9 m c) (A10 m c) (user t) p l).symm
  rw [in_eq, fg_eq, k_eq, n_eq, blk11]
  rfl

theorem apply15 (t : Fin cfg0.N) (h : Fin 8) (l : Fin 128) :
    k0_pay3 (F := Ideal) (stackM (headM (iblk m c 4 t) (iblk m c 5 t) (iblk m c 6 t) (iblk m c 7 t) (iblk m c 11 t))) (ix4 0 h 0 l) = Cert.Reference7Ideal.Read.val_main_v127 (F := Ideal) (A4 m c) (A5 m c) (A6 m c) (A10 m c) (ix4 (user t) h 0 l) := by
  refine (stack8 _ h l).trans ?_
  refine (headM_apply (iblk m c 4 t) (iblk m c 5 t) (iblk m c 6 t) (iblk m c 7 t) (iblk m c 11 t) (gates_t m c t) (blk7 m c t) h l).trans ?_
  refine Eq.trans ?_ (Cert.Reference7Ideal.Read.ref_m (A4 m c) (A5 m c) (A6 m c) (A10 m c) (user t) h l).symm
  rw [in_eq, fg_eq, blk11]

/-- Output 0: the heads. -/
def G12 : Buf (Elt Ideal) ((c : Thread nD τ).loc main_v11_0) := fun i =>
  Cert.Reference7Ideal.Read.val_main_v128 (F := Ideal) (A0 m c) (A1 m c) (A2 m c) (A3 m c) (A4 m c) (A5 m c) (A6 m c) (A7 m c) (A8 m c) (A9 m c) (A10 m c) i

theorem flushed12_eq (t : Fin cfg0.N) : (dats m 0 c).flushed 12 t = ((cfg0.win 12).blk t).view.read (Elt Ideal) (G12 m c) := by
  rw [flushed12_A, out_A_12]
  obtain ⟨-, -, -, -, -, -, -, -, -, -, -, -, e, -, -, -⟩ := idx t
  funext y
  have h0 : (y 0).val < 1 := (y 0).isLt
  have h1 : (y 1).val < 16 := (y 1).isLt
  have h2 : (y 2).val < 1024 := (y 2).isLt
  have hb0 : (((cfg0.win 12).blk t).view.emb y 0).val = win0_12.index t (0 : Fin 3) * 1 + 1 * (y 0).val := rfl
  have hb1 : (((cfg0.win 12).blk t).view.emb y 1).val = win0_12.index t (1 : Fin 3) * 16 + 1 * (y 1).val := rfl
  have hb2 : (((cfg0.win 12).blk t).view.emb y 2).val = win0_12.index t (2 : Fin 3) * 1024 + 1 * (y 2).val := rfl
  rw [e] at hb0 hb1 hb2
  have hx : (cfg0.win 12).xinj (grid0.coords t) y = ix3 (0 : Fin 1) (⟨(y 1).val, h1⟩ : Fin 16) (⟨(y 2).val, h2⟩ : Fin 1024) := by
    funext a; apply Fin.ext
    match a with
    | ⟨0, _⟩ => exact Nat.lt_one_iff.mp h0
    | ⟨1, _⟩ => rfl
    | ⟨2, _⟩ => rfl
  have he : ((cfg0.win 12).blk t).view.emb y = ix3 (user t) (⟨(y 1).val, h1⟩ : Fin 16) (⟨(y 2).val, h2⟩ : Fin 1024) := by
    funext a; apply Fin.ext
    match a with
    | ⟨0, _⟩ => refine hb0.trans ?_; show t.val * 1 + 1 * (y 0).val = t.val; omega
    | ⟨1, _⟩ => refine hb1.trans ?_; show 0 * 16 + 1 * (y 1).val = (y 1).val; omega
    | ⟨2, _⟩ => refine hb2.trans ?_; show 0 * 1024 + 1 * (y 2).val = (y 2).val; omega
  show stackH (headH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ((cfg0.win 12).xinj (grid0.coords t) y) = Cert.Reference7Ideal.Read.val_main_v128 (F := Ideal) (A0 m c) (A1 m c) (A2 m c) (A3 m c) (A4 m c) (A5 m c) (A6 m c) (A7 m c) (A8 m c) (A9 m c) (A10 m c) (((cfg0.win 12).blk t).view.emb y)
  rw [hx, he]
  exact apply12 m c t _ _

theorem covered12 (i : S32x16x1024.Idx) : ∃ t : Fin cfg0.N, (cfg0.win 12).flush t = true ∧ i ∈ ((cfg0.win 12).blk t).view.set := by
  have hi0 : (i 0).val < 32 := (i 0).isLt
  have hi1 : (i 1).val < 16 := (i 1).isLt
  have hi2 : (i 2).val < 1024 := (i 2).isLt
  have hN : (i 0).val < cfg0.N := by rw [show cfg0.N = 32 from N_0]; omega
  obtain ⟨-, -, -, -, -, -, -, -, -, -, -, -, e, -, -, -⟩ := idx ⟨(i 0).val, hN⟩
  refine ⟨⟨(i 0).val, hN⟩, flush0_12 _, ?_⟩
  show i ∈ ((View.whole main_v11_0).slice (win0_12.rect ⟨(i 0).val, hN⟩)).set
  rw [View.set_slice_whole, Rect.mem_set_unit]
  intro a
  have q0 : win0_12.index ⟨(i 0).val, hN⟩ (0 : Fin 3) = (i 0).val := congrFun e 0
  have q1 : win0_12.index ⟨(i 0).val, hN⟩ (1 : Fin 3) = 0 := congrFun e 1
  have q2 : win0_12.index ⟨(i 0).val, hN⟩ (2 : Fin 3) = 0 := congrFun e 2
  match a with
  | ⟨0, _⟩ => show win0_12.index ⟨(i 0).val, hN⟩ (0 : Fin 3) * 1 ≤ (i 0).val ∧ (i 0).val < win0_12.index ⟨(i 0).val, hN⟩ (0 : Fin 3) * 1 + 1; omega
  | ⟨1, _⟩ => show win0_12.index ⟨(i 0).val, hN⟩ (1 : Fin 3) * 16 ≤ (i 1).val ∧ (i 1).val < win0_12.index ⟨(i 0).val, hN⟩ (1 : Fin 3) * 16 + 16; omega
  | ⟨2, _⟩ => show win0_12.index ⟨(i 0).val, hN⟩ (2 : Fin 3) * 1024 ≤ (i 2).val ∧ (i 2).val < win0_12.index ⟨(i 0).val, hN⟩ (2 : Fin 3) * 1024 + 1024; omega

theorem final12 : (dats m 0 c).arrAt 12 cfg0.N = G12 m c :=
  (dats m 0 c).arrAt_eq_of_cover 12 _ (fun t _ => flushed12_eq m c t) (fun i => covered12 i)

/-- Output 1: the new state. -/
def G13 : Buf (Elt Ideal) ((c : Thread nD τ).loc main_v11_1) := fun i =>
  Cert.Reference7Ideal.Read.val_main_v124 (F := Ideal) (A1 m c) (A2 m c) (A4 m c) (A5 m c) (A6 m c) (A8 m c) (A10 m c) i

theorem flushed13_eq (t : Fin cfg0.N) : (dats m 0 c).flushed 13 t = ((cfg0.win 13).blk t).view.read (Elt Ideal) (G13 m c) := by
  rw [flushed13_A, out_A_13]
  obtain ⟨-, -, -, -, -, -, -, -, -, -, -, -, -, e, -, -⟩ := idx t
  funext y
  have h0 : (y 0).val < 1 := (y 0).isLt
  have h1 : (y 1).val < 4 := (y 1).isLt
  have h2 : (y 2).val < 128 := (y 2).isLt
  have h3 : (y 3).val < 128 := (y 3).isLt
  have hb0 : (((cfg0.win 13).blk t).view.emb y 0).val = win0_13.index t (0 : Fin 4) * 1 + 1 * (y 0).val := rfl
  have hb1 : (((cfg0.win 13).blk t).view.emb y 1).val = win0_13.index t (1 : Fin 4) * 4 + 1 * (y 1).val := rfl
  have hb2 : (((cfg0.win 13).blk t).view.emb y 2).val = win0_13.index t (2 : Fin 4) * 128 + 1 * (y 2).val := rfl
  have hb3 : (((cfg0.win 13).blk t).view.emb y 3).val = win0_13.index t (3 : Fin 4) * 128 + 1 * (y 3).val := rfl
  rw [e] at hb0 hb1 hb2 hb3
  have hx : (cfg0.win 13).xinj (grid0.coords t) y = ix4 (0 : Fin 1) (⟨(y 1).val, h1⟩ : Fin 4) (⟨(y 2).val, h2⟩ : Fin 128) (⟨(y 3).val, h3⟩ : Fin 128) := by
    funext a; apply Fin.ext
    match a with
    | ⟨0, _⟩ => exact Nat.lt_one_iff.mp h0
    | ⟨1, _⟩ => rfl
    | ⟨2, _⟩ => rfl
    | ⟨3, _⟩ => rfl
  have he : ((cfg0.win 13).blk t).view.emb y = ix4 (user t) (⟨(y 1).val, h1⟩ : Fin 4) (⟨(y 2).val, h2⟩ : Fin 128) (⟨(y 3).val, h3⟩ : Fin 128) := by
    funext a; apply Fin.ext
    match a with
    | ⟨0, _⟩ => refine hb0.trans ?_; show t.val * 1 + 1 * (y 0).val = t.val; omega
    | ⟨1, _⟩ => refine hb1.trans ?_; show 0 * 4 + 1 * (y 1).val = (y 1).val; omega
    | ⟨2, _⟩ => refine hb2.trans ?_; show 0 * 128 + 1 * (y 2).val = (y 2).val; omega
    | ⟨3, _⟩ => refine hb3.trans ?_; show 0 * 128 + 1 * (y 3).val = (y 3).val; omega
  show k0_pay1 (F := Ideal) (stackC (pairC (iblk m c 1 t) (iblk m c 2 t) (iblk m c 4 t) (iblk m c 5 t) (iblk m c 6 t) (iblk m c 7 t) (iblk m c 9 t) (iblk m c 11 t))) ((cfg0.win 13).xinj (grid0.coords t) y) = Cert.Reference7Ideal.Read.val_main_v124 (F := Ideal) (A1 m c) (A2 m c) (A4 m c) (A5 m c) (A6 m c) (A8 m c) (A10 m c) (((cfg0.win 13).blk t).view.emb y)
  rw [hx, he]
  exact apply13 m c t _ _ _

theorem covered13 (i : S32x4x128x128.Idx) : ∃ t : Fin cfg0.N, (cfg0.win 13).flush t = true ∧ i ∈ ((cfg0.win 13).blk t).view.set := by
  have hi0 : (i 0).val < 32 := (i 0).isLt
  have hi1 : (i 1).val < 4 := (i 1).isLt
  have hi2 : (i 2).val < 128 := (i 2).isLt
  have hi3 : (i 3).val < 128 := (i 3).isLt
  have hN : (i 0).val < cfg0.N := by rw [show cfg0.N = 32 from N_0]; omega
  obtain ⟨-, -, -, -, -, -, -, -, -, -, -, -, -, e, -, -⟩ := idx ⟨(i 0).val, hN⟩
  refine ⟨⟨(i 0).val, hN⟩, flush0_13 _, ?_⟩
  show i ∈ ((View.whole main_v11_1).slice (win0_13.rect ⟨(i 0).val, hN⟩)).set
  rw [View.set_slice_whole, Rect.mem_set_unit]
  intro a
  have q0 : win0_13.index ⟨(i 0).val, hN⟩ (0 : Fin 4) = (i 0).val := congrFun e 0
  have q1 : win0_13.index ⟨(i 0).val, hN⟩ (1 : Fin 4) = 0 := congrFun e 1
  have q2 : win0_13.index ⟨(i 0).val, hN⟩ (2 : Fin 4) = 0 := congrFun e 2
  have q3 : win0_13.index ⟨(i 0).val, hN⟩ (3 : Fin 4) = 0 := congrFun e 3
  match a with
  | ⟨0, _⟩ => show win0_13.index ⟨(i 0).val, hN⟩ (0 : Fin 4) * 1 ≤ (i 0).val ∧ (i 0).val < win0_13.index ⟨(i 0).val, hN⟩ (0 : Fin 4) * 1 + 1; omega
  | ⟨1, _⟩ => show win0_13.index ⟨(i 0).val, hN⟩ (1 : Fin 4) * 4 ≤ (i 1).val ∧ (i 1).val < win0_13.index ⟨(i 0).val, hN⟩ (1 : Fin 4) * 4 + 4; omega
  | ⟨2, _⟩ => show win0_13.index ⟨(i 0).val, hN⟩ (2 : Fin 4) * 128 ≤ (i 2).val ∧ (i 2).val < win0_13.index ⟨(i 0).val, hN⟩ (2 : Fin 4) * 128 + 128; omega
  | ⟨3, _⟩ => show win0_13.index ⟨(i 0).val, hN⟩ (3 : Fin 4) * 128 ≤ (i 3).val ∧ (i 3).val < win0_13.index ⟨(i 0).val, hN⟩ (3 : Fin 4) * 128 + 128; omega

theorem final13 : (dats m 0 c).arrAt 13 cfg0.N = G13 m c :=
  (dats m 0 c).arrAt_eq_of_cover 13 _ (fun t _ => flushed13_eq m c t) (fun i => covered13 i)

/-- Output 2: the new normaliser. -/
def G14 : Buf (Elt Ideal) ((c : Thread nD τ).loc main_v11_2) := fun i =>
  Cert.Reference7Ideal.Read.val_main_v125 (F := Ideal) (A1 m c) (A4 m c) (A5 m c) (A6 m c) (A9 m c) (A10 m c) i

theorem flushed14_eq (t : Fin cfg0.N) : (dats m 0 c).flushed 14 t = ((cfg0.win 14).blk t).view.read (Elt Ideal) (G14 m c) := by
  rw [flushed14_A, out_A_14]
  obtain ⟨-, -, -, -, -, -, -, -, -, -, -, -, -, -, e, -⟩ := idx t
  funext y
  have h0 : (y 0).val < 1 := (y 0).isLt
  have h1 : (y 1).val < 4 := (y 1).isLt
  have h2 : (y 2).val < 1 := (y 2).isLt
  have h3 : (y 3).val < 128 := (y 3).isLt
  have hb0 : (((cfg0.win 14).blk t).view.emb y 0).val = win0_14.index t (0 : Fin 4) * 1 + 1 * (y 0).val := rfl
  have hb1 : (((cfg0.win 14).blk t).view.emb y 1).val = win0_14.index t (1 : Fin 4) * 4 + 1 * (y 1).val := rfl
  have hb2 : (((cfg0.win 14).blk t).view.emb y 2).val = win0_14.index t (2 : Fin 4) * 1 + 1 * (y 2).val := rfl
  have hb3 : (((cfg0.win 14).blk t).view.emb y 3).val = win0_14.index t (3 : Fin 4) * 128 + 1 * (y 3).val := rfl
  rw [e] at hb0 hb1 hb2 hb3
  have hx : (cfg0.win 14).xinj (grid0.coords t) y = ix4 (0 : Fin 1) (⟨(y 1).val, h1⟩ : Fin 4) (⟨(y 2).val, h2⟩ : Fin 1) (⟨(y 3).val, h3⟩ : Fin 128) := by
    funext a; apply Fin.ext
    match a with
    | ⟨0, _⟩ => exact Nat.lt_one_iff.mp h0
    | ⟨1, _⟩ => rfl
    | ⟨2, _⟩ => rfl
    | ⟨3, _⟩ => rfl
  have he : ((cfg0.win 14).blk t).view.emb y = ix4 (user t) (⟨(y 1).val, h1⟩ : Fin 4) (⟨(y 2).val, h2⟩ : Fin 1) (⟨(y 3).val, h3⟩ : Fin 128) := by
    funext a; apply Fin.ext
    match a with
    | ⟨0, _⟩ => refine hb0.trans ?_; show t.val * 1 + 1 * (y 0).val = t.val; omega
    | ⟨1, _⟩ => refine hb1.trans ?_; show 0 * 4 + 1 * (y 1).val = (y 1).val; omega
    | ⟨2, _⟩ => refine hb2.trans ?_; show 0 * 1 + 1 * (y 2).val = (y 2).val; omega
    | ⟨3, _⟩ => refine hb3.trans ?_; show 0 * 128 + 1 * (y 3).val = (y 3).val; omega
  show k0_pay2 (F := Ideal) (stackN (pairN (iblk m c 1 t) (iblk m c 4 t) (iblk m c 5 t) (iblk m c 6 t) (iblk m c 7 t) (iblk m c 10 t) (iblk m c 11 t))) ((cfg0.win 14).xinj (grid0.coords t) y) = Cert.Reference7Ideal.Read.val_main_v125 (F := Ideal) (A1 m c) (A4 m c) (A5 m c) (A6 m c) (A9 m c) (A10 m c) (((cfg0.win 14).blk t).view.emb y)
  rw [hx, he]
  have z : (⟨(y 2).val, h2⟩ : Fin 1) = 0 := Subsingleton.elim _ _
  rw [z]
  exact apply14 m c t _ _

theorem covered14 (i : S32x4x1x128.Idx) : ∃ t : Fin cfg0.N, (cfg0.win 14).flush t = true ∧ i ∈ ((cfg0.win 14).blk t).view.set := by
  have hi0 : (i 0).val < 32 := (i 0).isLt
  have hi1 : (i 1).val < 4 := (i 1).isLt
  have hi2 : (i 2).val < 1 := (i 2).isLt
  have hi3 : (i 3).val < 128 := (i 3).isLt
  have hN : (i 0).val < cfg0.N := by rw [show cfg0.N = 32 from N_0]; omega
  obtain ⟨-, -, -, -, -, -, -, -, -, -, -, -, -, -, e, -⟩ := idx ⟨(i 0).val, hN⟩
  refine ⟨⟨(i 0).val, hN⟩, flush0_14 _, ?_⟩
  show i ∈ ((View.whole main_v11_2).slice (win0_14.rect ⟨(i 0).val, hN⟩)).set
  rw [View.set_slice_whole, Rect.mem_set_unit]
  intro a
  have q0 : win0_14.index ⟨(i 0).val, hN⟩ (0 : Fin 4) = (i 0).val := congrFun e 0
  have q1 : win0_14.index ⟨(i 0).val, hN⟩ (1 : Fin 4) = 0 := congrFun e 1
  have q2 : win0_14.index ⟨(i 0).val, hN⟩ (2 : Fin 4) = 0 := congrFun e 2
  have q3 : win0_14.index ⟨(i 0).val, hN⟩ (3 : Fin 4) = 0 := congrFun e 3
  match a with
  | ⟨0, _⟩ => show win0_14.index ⟨(i 0).val, hN⟩ (0 : Fin 4) * 1 ≤ (i 0).val ∧ (i 0).val < win0_14.index ⟨(i 0).val, hN⟩ (0 : Fin 4) * 1 + 1; omega
  | ⟨1, _⟩ => show win0_14.index ⟨(i 0).val, hN⟩ (1 : Fin 4) * 4 ≤ (i 1).val ∧ (i 1).val < win0_14.index ⟨(i 0).val, hN⟩ (1 : Fin 4) * 4 + 4; omega
  | ⟨2, _⟩ => show win0_14.index ⟨(i 0).val, hN⟩ (2 : Fin 4) * 1 ≤ (i 2).val ∧ (i 2).val < win0_14.index ⟨(i 0).val, hN⟩ (2 : Fin 4) * 1 + 1; omega
  | ⟨3, _⟩ => show win0_14.index ⟨(i 0).val, hN⟩ (3 : Fin 4) * 128 ≤ (i 3).val ∧ (i 3).val < win0_14.index ⟨(i 0).val, hN⟩ (3 : Fin 4) * 128 + 128; omega

theorem final14 : (dats m 0 c).arrAt 14 cfg0.N = G14 m c :=
  (dats m 0 c).arrAt_eq_of_cover 14 _ (fun t _ => flushed14_eq m c t) (fun i => covered14 i)

/-- Output 3: the new maximum. -/
def G15 : Buf (Elt Ideal) ((c : Thread nD τ).loc main_v11_3) := fun i =>
  Cert.Reference7Ideal.Read.val_main_v127 (F := Ideal) (A4 m c) (A5 m c) (A6 m c) (A10 m c) i

theorem flushed15_eq (t : Fin cfg0.N) : (dats m 0 c).flushed 15 t = ((cfg0.win 15).blk t).view.read (Elt Ideal) (G15 m c) := by
  rw [flushed15_A, out_A_15]
  obtain ⟨-, -, -, -, -, -, -, -, -, -, -, -, -, -, -, e⟩ := idx t
  funext y
  have h0 : (y 0).val < 1 := (y 0).isLt
  have h1 : (y 1).val < 8 := (y 1).isLt
  have h2 : (y 2).val < 1 := (y 2).isLt
  have h3 : (y 3).val < 128 := (y 3).isLt
  have hb0 : (((cfg0.win 15).blk t).view.emb y 0).val = win0_15.index t (0 : Fin 4) * 1 + 1 * (y 0).val := rfl
  have hb1 : (((cfg0.win 15).blk t).view.emb y 1).val = win0_15.index t (1 : Fin 4) * 8 + 1 * (y 1).val := rfl
  have hb2 : (((cfg0.win 15).blk t).view.emb y 2).val = win0_15.index t (2 : Fin 4) * 1 + 1 * (y 2).val := rfl
  have hb3 : (((cfg0.win 15).blk t).view.emb y 3).val = win0_15.index t (3 : Fin 4) * 128 + 1 * (y 3).val := rfl
  rw [e] at hb0 hb1 hb2 hb3
  have hx : (cfg0.win 15).xinj (grid0.coords t) y = ix4 (0 : Fin 1) (⟨(y 1).val, h1⟩ : Fin 8) (⟨(y 2).val, h2⟩ : Fin 1) (⟨(y 3).val, h3⟩ : Fin 128) := by
    funext a; apply Fin.ext
    match a with
    | ⟨0, _⟩ => exact Nat.lt_one_iff.mp h0
    | ⟨1, _⟩ => rfl
    | ⟨2, _⟩ => rfl
    | ⟨3, _⟩ => rfl
  have he : ((cfg0.win 15).blk t).view.emb y = ix4 (user t) (⟨(y 1).val, h1⟩ : Fin 8) (⟨(y 2).val, h2⟩ : Fin 1) (⟨(y 3).val, h3⟩ : Fin 128) := by
    funext a; apply Fin.ext
    match a with
    | ⟨0, _⟩ => refine hb0.trans ?_; show t.val * 1 + 1 * (y 0).val = t.val; omega
    | ⟨1, _⟩ => refine hb1.trans ?_; show 0 * 8 + 1 * (y 1).val = (y 1).val; omega
    | ⟨2, _⟩ => refine hb2.trans ?_; show 0 * 1 + 1 * (y 2).val = (y 2).val; omega
    | ⟨3, _⟩ => refine hb3.trans ?_; show 0 * 128 + 1 * (y 3).val = (y 3).val; omega
  show k0_pay3 (F := Ideal) (stackM (headM (iblk m c 4 t) (iblk m c 5 t) (iblk m c 6 t) (iblk m c 7 t) (iblk m c 11 t))) ((cfg0.win 15).xinj (grid0.coords t) y) = Cert.Reference7Ideal.Read.val_main_v127 (F := Ideal) (A4 m c) (A5 m c) (A6 m c) (A10 m c) (((cfg0.win 15).blk t).view.emb y)
  rw [hx, he]
  have z : (⟨(y 2).val, h2⟩ : Fin 1) = 0 := Subsingleton.elim _ _
  rw [z]
  exact apply15 m c t _ _

theorem covered15 (i : S32x8x1x128.Idx) : ∃ t : Fin cfg0.N, (cfg0.win 15).flush t = true ∧ i ∈ ((cfg0.win 15).blk t).view.set := by
  have hi0 : (i 0).val < 32 := (i 0).isLt
  have hi1 : (i 1).val < 8 := (i 1).isLt
  have hi2 : (i 2).val < 1 := (i 2).isLt
  have hi3 : (i 3).val < 128 := (i 3).isLt
  have hN : (i 0).val < cfg0.N := by rw [show cfg0.N = 32 from N_0]; omega
  obtain ⟨-, -, -, -, -, -, -, -, -, -, -, -, -, -, -, e⟩ := idx ⟨(i 0).val, hN⟩
  refine ⟨⟨(i 0).val, hN⟩, flush0_15 _, ?_⟩
  show i ∈ ((View.whole main_v11_3).slice (win0_15.rect ⟨(i 0).val, hN⟩)).set
  rw [View.set_slice_whole, Rect.mem_set_unit]
  intro a
  have q0 : win0_15.index ⟨(i 0).val, hN⟩ (0 : Fin 4) = (i 0).val := congrFun e 0
  have q1 : win0_15.index ⟨(i 0).val, hN⟩ (1 : Fin 4) = 0 := congrFun e 1
  have q2 : win0_15.index ⟨(i 0).val, hN⟩ (2 : Fin 4) = 0 := congrFun e 2
  have q3 : win0_15.index ⟨(i 0).val, hN⟩ (3 : Fin 4) = 0 := congrFun e 3
  match a with
  | ⟨0, _⟩ => show win0_15.index ⟨(i 0).val, hN⟩ (0 : Fin 4) * 1 ≤ (i 0).val ∧ (i 0).val < win0_15.index ⟨(i 0).val, hN⟩ (0 : Fin 4) * 1 + 1; omega
  | ⟨1, _⟩ => show win0_15.index ⟨(i 0).val, hN⟩ (1 : Fin 4) * 8 ≤ (i 1).val ∧ (i 1).val < win0_15.index ⟨(i 0).val, hN⟩ (1 : Fin 4) * 8 + 8; omega
  | ⟨2, _⟩ => show win0_15.index ⟨(i 0).val, hN⟩ (2 : Fin 4) * 1 ≤ (i 2).val ∧ (i 2).val < win0_15.index ⟨(i 0).val, hN⟩ (2 : Fin 4) * 1 + 1; omega
  | ⟨3, _⟩ => show win0_15.index ⟨(i 0).val, hN⟩ (3 : Fin 4) * 128 ≤ (i 3).val ∧ (i 3).val < win0_15.index ⟨(i 0).val, hN⟩ (3 : Fin 4) * 128 + 128; omega

theorem final15 : (dats m 0 c).arrAt 15 cfg0.N = G15 m c :=
  (dats m 0 c).arrAt_eq_of_cover 15 _ (fun t _ => flushed15_eq m c t) (fun i => covered15 i)

end Proof.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_logits
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Pre_finite_forget
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Pre_finite_gates
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Pre_finite_forget_sample
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.SampleValue
public import proofs.«01_k».proof.Proof.FfnValue
public import proofs.«01_k».proof.Proof.FoxValue
public import proofs.«01_k».proof.Proof.InValue
public import proofs.«01_k».proof.Proof.NewFfnValue
public import proofs.«01_k».proof.Proof.NewFoxValue
public import proofs.«01_k».proof.Proof.MemValue
public import Idealize.ShloMosaic.Adequacy
public import Idealize.ShloMosaic.Init

@[expose] public section

noncomputable section

namespace Cert.Proof

open Idealize.ShloMosaic Idealize.SL.Sem Cert.Kernel

/-- The sample attention: from agreeing arguments, under the precondition, both programs end with the same array. -/
theorem sample_attention :
    Cert.algebraic_KernelIdeal_ReferenceIdeal_pre_finite_logits (hKernelIdeal := Cert.KernelIdeal.Gen.facts)
      (hReferenceIdeal := Cert.ReferenceIdeal.Gen.facts) (hPre_finite_logits := Cert.Pre_finite_logits.Gen.facts) := by
  intro m g m' g' hpre hag
  refine ⟨fun c => Cert.KernelIdeal.Value.G8 m c, Cert.KernelIdeal.Value.run m g, ?_⟩
  refine (θ_run _ _ _).mono (fun r h c => ⟨(h c).1.trans ?_, (h c).2⟩) (Cert.ReferenceIdeal.Value.run m' g')
  obtain ⟨hq, hck, hcc, hk, hnc⟩ := Cert.Pre_finite_logits.Read.finite _ _ _ _ _ _ _ _ (hpre c)
  obtain ⟨e0, e1, e2, e3, e4, e5, e6, e7⟩ := hag c
  rw [Cert.ReferenceIdeal.Read.val_main_v49_eq, e0, e1, e2, e3, e4, e5, e6, e7]
  exact (Cert.KernelIdeal.Step.value_eq m c hq hck hcc hk hnc).symm

/-- The reference is host code: it runs, keeps its arguments, and has no semaphore. -/
theorem reference_frame : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run m g)

/-- The feed-forward block: from agreeing arguments, both programs end with the same array. -/
theorem mix_ffn :
    Cert.algebraic_Kernel2Ideal_Reference2Ideal (hKernel2Ideal := Cert.Kernel2Ideal.Gen.facts)
      (hReference2Ideal := Cert.Reference2Ideal.Gen.facts) := by
  intro m g m' g' _ hag
  refine ⟨fun c => _root_.Proof.Ffn.G7 m c, ?_, ?_⟩
  · exact (θ_run _ _ _).mono (fun r h c => ⟨(h c).1.trans (_root_.Proof.Ffn.final7 m c), (h c).2⟩) (Cert.Kernel2Ideal.Value.run_blocks m g)
  · refine (θ_run _ _ _).mono (fun r h c => ⟨(h c).1.trans ?_, (h c).2⟩) (Cert.Reference2Ideal.Value.run m' g')
    obtain ⟨e0, e1, e2, e3, e4, e5⟩ := hag c
    rw [Cert.Reference2Ideal.Read.val_main_v22_eq, e0, e1, e2, e3, e4, e5]
    exact (_root_.Proof.Ffn.value_eq m c).symm

theorem reference2_frame : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run m g)

/-- The projections: from agreeing arguments, under the precondition, both programs end with the same seven arrays. -/
theorem fox_proj :
    Cert.algebraic_Kernel3Ideal_Reference3Ideal_pre_finite_forget (hKernel3Ideal := Cert.Kernel3Ideal.Gen.facts)
      (hReference3Ideal := Cert.Reference3Ideal.Gen.facts) (hPre_finite_forget := Cert.Pre_finite_forget.Gen.facts) := by
  intro m g m' g' hpre hag
  have f1 : ∀ c, _root_.Proof.Fox.Fin1 m c := fun c l => (Cert.Pre_finite_forget.Read.finite _ _ _ _ _ _ _ _ (hpre c)).1 (ix1 l)
  have f3 : ∀ c, _root_.Proof.Fox.Fin3 m c := fun c => (Cert.Pre_finite_forget.Read.finite _ _ _ _ _ _ _ _ (hpre c)).2
  refine ⟨fun c => _root_.Proof.Fox.G10 m c, fun c => _root_.Proof.Fox.G11 m c, fun c => _root_.Proof.Fox.G12 m c, fun c => _root_.Proof.Fox.G13 m c, fun c => _root_.Proof.Fox.G14 m c, fun c => _root_.Proof.Fox.G15 m c, fun c => _root_.Proof.Fox.G16 m c, ?_, ?_⟩
  · exact (θ_run _ _ _).mono (fun r h c => ⟨(h c).1.trans (_root_.Proof.Fox.final10 m c),
      (h c).2.1.trans (_root_.Proof.Fox.final11 m c),
      (h c).2.2.1.trans (_root_.Proof.Fox.final12 m c (f1 c) (f3 c)),
      (h c).2.2.2.1.trans (_root_.Proof.Fox.final13 m c),
      (h c).2.2.2.2.1.trans (_root_.Proof.Fox.final14 m c),
      (h c).2.2.2.2.2.1.trans (_root_.Proof.Fox.final15 m c),
      (h c).2.2.2.2.2.2.1.trans (_root_.Proof.Fox.final16 m c),
      (h c).2.2.2.2.2.2.2⟩) (Cert.Kernel3Ideal.Value.run_blocks m g)
  · refine (θ_run _ _ _).mono (fun r h c => ?_) (Cert.Reference3Ideal.Value.run m' g')
    obtain ⟨e0, e1, e2, e3, e4, e5, e6, e7⟩ := hag c
    obtain ⟨r0, r1, r2, r3, r4, r5, r6, rest⟩ := h c
    refine ⟨r0.trans ?_, r1.trans ?_, r2.trans ?_, r3.trans ?_, r4.trans ?_, r5.trans ?_, r6.trans ?_, rest⟩
    · rw [Cert.Reference3Ideal.Read.val_main_v31_eq, e0, e1, e3, e5]; exact (_root_.Proof.Fox.value10 m c).symm
    · rw [Cert.Reference3Ideal.Read.val_main_v15_eq, e0, e1, e3]; exact (_root_.Proof.Fox.value11 m c).symm
    · rw [Cert.Reference3Ideal.Read.val_main_v35_eq, e0, e1, e3, e4]; exact (_root_.Proof.Fox.value12 m c).symm
    · rw [Cert.Reference3Ideal.Read.val_main_v69_eq, e0, e1, e3, e5]; exact (_root_.Proof.Fox.value13 m c).symm
    · rw [Cert.Reference3Ideal.Read.val_main_v70_eq, e0, e1, e3]; exact (_root_.Proof.Fox.value14 m c).symm
    · rw [Cert.Reference3Ideal.Read.val_main_v71_eq, e0, e2, e6, e7]; exact (_root_.Proof.Fox.value15 m c).symm
    · rw [Cert.Reference3Ideal.Read.val_main_v51_eq, e0, e2, e6]; exact (_root_.Proof.Fox.value16 m c).symm

theorem reference3_frame : Cert.quiescent_Reference3Ideal (hReference3Ideal := Cert.Reference3Ideal.Gen.facts) := fun m g _ =>
  (θ_run (Cert.Reference3Ideal.defs (F := Ideal)) _ _).mono (fun r h => ⟨fun c => (h c).2.2.2.2.2.2.2, sem_eq_zero_of_no_sems (by decide) r.2⟩)
    (Cert.Reference3Ideal.Value.run m g)

/-- The mLSTM's projections: from agreeing arguments, under the precondition, both programs end with the same five arrays. -/
theorem in_proj :
    Cert.algebraic_Kernel4Ideal_Reference4Ideal_pre_finite_gates (hKernel4Ideal := Cert.Kernel4Ideal.Gen.facts)
      (hReference4Ideal := Cert.Reference4Ideal.Gen.facts) (hPre_finite_gates := Cert.Pre_finite_gates.Gen.facts) := by
  intro m g m' g' hpre hag
  have f1 : ∀ c, _root_.Proof.In.Fin1 m c := fun c l => (Cert.Pre_finite_gates.Read.finite _ _ _ (hpre c)).1 (ix1 l)
  have f2 : ∀ c, _root_.Proof.In.Fin2 m c := fun c => (Cert.Pre_finite_gates.Read.finite _ _ _ (hpre c)).2
  refine ⟨fun c => _root_.Proof.In.G5 m c, fun c => _root_.Proof.In.G6 m c, fun c => _root_.Proof.In.G7 m c, fun c => _root_.Proof.In.G8 m c, fun c => _root_.Proof.In.G9 m c, ?_, ?_⟩
  · exact (θ_run _ _ _).mono (fun r h c => ⟨(h c).1.trans (_root_.Proof.In.final5 m c),
      (h c).2.1.trans (_root_.Proof.In.final6 m c),
      (h c).2.2.1.trans (_root_.Proof.In.final7 m c),
      (h c).2.2.2.1.trans (_root_.Proof.In.final8 m c),
      (h c).2.2.2.2.1.trans (_root_.Proof.In.final9 m c (f1 c) (f2 c)),
      (h c).2.2.2.2.2⟩) (Cert.Kernel4Ideal.Value.run_blocks m g)
  · refine (θ_run _ _ _).mono (fun r h c => ?_) (Cert.Reference4Ideal.Value.run m' g')
    obtain ⟨e0, e1, e2⟩ := hag c
    obtain ⟨r0, r1, r2, r3, r4, rest⟩ := h c
    refine ⟨r0.trans ?_, r1.trans ?_, r2.trans ?_, r3.trans ?_, r4.trans ?_, rest⟩
    · rw [Cert.Reference4Ideal.Read.val_main_v21_eq, e0, e1, e2]; exact (_root_.Proof.In.value5 m c).symm
    · rw [Cert.Reference4Ideal.Read.val_main_v22_eq, e0, e1, e2]; exact (_root_.Proof.In.value6 m c).symm
    · rw [Cert.Reference4Ideal.Read.val_main_v23_eq, e0, e1, e2]; exact (_root_.Proof.In.value7 m c).symm
    · rw [Cert.Reference4Ideal.Read.val_main_v17_eq, e0, e1, e2]; exact (_root_.Proof.In.value8 m c).symm
    · rw [Cert.Reference4Ideal.Read.val_main_v18_eq, e0, e1, e2]; exact (_root_.Proof.In.value9 m c).symm

theorem reference4_frame : Cert.quiescent_Reference4Ideal (hReference4Ideal := Cert.Reference4Ideal.Gen.facts) := fun m g _ =>
  (θ_run (Cert.Reference4Ideal.defs (F := Ideal)) _ _).mono (fun r h => ⟨fun c => (h c).2.2.2.2.2, sem_eq_zero_of_no_sems (by decide) r.2⟩)
    (Cert.Reference4Ideal.Value.run m g)

/-- The feed-forward block over the sample batch: from agreeing arguments, both programs end with the same array. -/
theorem mix_ffn_sample :
    Cert.algebraic_Kernel5Ideal_Reference5Ideal (hKernel5Ideal := Cert.Kernel5Ideal.Gen.facts)
      (hReference5Ideal := Cert.Reference5Ideal.Gen.facts) := by
  intro m g m' g' _ hag
  refine ⟨fun c => _root_.Proof.NewFfn.G7 m c, ?_, ?_⟩
  · exact (θ_run _ _ _).mono (fun r h c => ⟨(h c).1.trans (_root_.Proof.NewFfn.final7 m c), (h c).2⟩) (Cert.Kernel5Ideal.Value.run_blocks m g)
  · refine (θ_run _ _ _).mono (fun r h c => ⟨(h c).1.trans ?_, (h c).2⟩) (Cert.Reference5Ideal.Value.run m' g')
    obtain ⟨e0, e1, e2, e3, e4, e5⟩ := hag c
    rw [Cert.Reference5Ideal.Read.val_main_v22_eq, e0, e1, e2, e3, e4, e5]
    exact (_root_.Proof.NewFfn.value_eq m c).symm

theorem reference5_frame : Cert.quiescent_Reference5Ideal (hReference5Ideal := Cert.Reference5Ideal.Gen.facts) := fun m g _ =>
  (θ_run (Cert.Reference5Ideal.defs (F := Ideal)) _ _).mono (fun r h => ⟨fun c => (h c).2, sem_eq_zero_of_no_sems (by decide) r.2⟩)
    (Cert.Reference5Ideal.Value.run m g)

/-- The projections over the sample batch: from agreeing arguments, under the precondition, both programs end with the same seven arrays. -/
theorem fox_proj_sample :
    Cert.algebraic_Kernel6Ideal_Reference6Ideal_pre_finite_forget_sample (hKernel6Ideal := Cert.Kernel6Ideal.Gen.facts)
      (hReference6Ideal := Cert.Reference6Ideal.Gen.facts) (hPre_finite_forget_sample := Cert.Pre_finite_forget_sample.Gen.facts) := by
  intro m g m' g' hpre hag
  have f1 : ∀ c, _root_.Proof.NewFox.Fin1 m c := fun c l => (Cert.Pre_finite_forget_sample.Read.finite _ _ _ _ _ _ _ _ (hpre c)).1 (ix1 l)
  have f3 : ∀ c, _root_.Proof.NewFox.Fin3 m c := fun c => (Cert.Pre_finite_forget_sample.Read.finite _ _ _ _ _ _ _ _ (hpre c)).2
  refine ⟨fun c => _root_.Proof.NewFox.G10 m c, fun c => _root_.Proof.NewFox.G11 m c, fun c => _root_.Proof.NewFox.G12 m c, fun c => _root_.Proof.NewFox.G13 m c, fun c => _root_.Proof.NewFox.G14 m c, fun c => _root_.Proof.NewFox.G15 m c, fun c => _root_.Proof.NewFox.G16 m c, ?_, ?_⟩
  · exact (θ_run _ _ _).mono (fun r h c => ⟨(h c).1.trans (_root_.Proof.NewFox.final10 m c),
      (h c).2.1.trans (_root_.Proof.NewFox.final11 m c),
      (h c).2.2.1.trans (_root_.Proof.NewFox.final12 m c (f1 c) (f3 c)),
      (h c).2.2.2.1.trans (_root_.Proof.NewFox.final13 m c),
      (h c).2.2.2.2.1.trans (_root_.Proof.NewFox.final14 m c),
      (h c).2.2.2.2.2.1.trans (_root_.Proof.NewFox.final15 m c),
      (h c).2.2.2.2.2.2.1.trans (_root_.Proof.NewFox.final16 m c),
      (h c).2.2.2.2.2.2.2⟩) (Cert.Kernel6Ideal.Value.run_blocks m g)
  · refine (θ_run _ _ _).mono (fun r h c => ?_) (Cert.Reference6Ideal.Value.run m' g')
    obtain ⟨e0, e1, e2, e3, e4, e5, e6, e7⟩ := hag c
    obtain ⟨r0, r1, r2, r3, r4, r5, r6, rest⟩ := h c
    refine ⟨r0.trans ?_, r1.trans ?_, r2.trans ?_, r3.trans ?_, r4.trans ?_, r5.trans ?_, r6.trans ?_, rest⟩
    · rw [Cert.Reference6Ideal.Read.val_main_v31_eq, e0, e1, e3, e5]; exact (_root_.Proof.NewFox.value10 m c).symm
    · rw [Cert.Reference6Ideal.Read.val_main_v15_eq, e0, e1, e3]; exact (_root_.Proof.NewFox.value11 m c).symm
    · rw [Cert.Reference6Ideal.Read.val_main_v35_eq, e0, e1, e3, e4]; exact (_root_.Proof.NewFox.value12 m c).symm
    · rw [Cert.Reference6Ideal.Read.val_main_v69_eq, e0, e1, e3, e5]; exact (_root_.Proof.NewFox.value13 m c).symm
    · rw [Cert.Reference6Ideal.Read.val_main_v70_eq, e0, e1, e3]; exact (_root_.Proof.NewFox.value14 m c).symm
    · rw [Cert.Reference6Ideal.Read.val_main_v71_eq, e0, e2, e6, e7]; exact (_root_.Proof.NewFox.value15 m c).symm
    · rw [Cert.Reference6Ideal.Read.val_main_v51_eq, e0, e2, e6]; exact (_root_.Proof.NewFox.value16 m c).symm

theorem reference6_frame : Cert.quiescent_Reference6Ideal (hReference6Ideal := Cert.Reference6Ideal.Gen.facts) := fun m g _ =>
  (θ_run (Cert.Reference6Ideal.defs (F := Ideal)) _ _).mono (fun r h => ⟨fun c => (h c).2.2.2.2.2.2.2, sem_eq_zero_of_no_sems (by decide) r.2⟩)
    (Cert.Reference6Ideal.Value.run m g)

/-- The sample's mLSTM: from agreeing arguments, both programs end with the same heads and the same new state. -/
theorem mlstm_sample :
    Cert.algebraic_Kernel7Ideal_Reference7Ideal (hKernel7Ideal := Cert.Kernel7Ideal.Gen.facts)
      (hReference7Ideal := Cert.Reference7Ideal.Gen.facts) := by
  intro m g m' g' _ hag
  refine ⟨fun c => _root_.Proof.Mem.G12 m c, fun c => _root_.Proof.Mem.G13 m c, fun c => _root_.Proof.Mem.G14 m c, fun c => _root_.Proof.Mem.G15 m c, ?_, ?_⟩
  · exact (θ_run _ _ _).mono (fun r h c => ⟨(h c).1.trans (_root_.Proof.Mem.final12 m c),
      (h c).2.1.trans (_root_.Proof.Mem.final13 m c),
      (h c).2.2.1.trans (_root_.Proof.Mem.final14 m c),
      (h c).2.2.2.1.trans (_root_.Proof.Mem.final15 m c),
      (h c).2.2.2.2⟩) (Cert.Kernel7Ideal.Value.run_blocks m g)
  · refine (θ_run _ _ _).mono (fun r h c => ?_) (Cert.Reference7Ideal.Value.run m' g')
    obtain ⟨e0, e1, e2, e3, e4, e5, e6, e7, e8, e9, e10⟩ := hag c
    have l0 : StableHlo.launchContents m' c (Proc.devRef .tc Cert.Reference7Ideal.main_arg0) = m ((c.tc : Thread Cert.Kernel7Ideal.nD Cert.Kernel7Ideal.τ).loc Cert.Kernel7Ideal.main_arg0) := e0
    have l1 : StableHlo.launchContents m' c (Proc.devRef .tc Cert.Reference7Ideal.main_arg1) = m ((c.tc : Thread Cert.Kernel7Ideal.nD Cert.Kernel7Ideal.τ).loc Cert.Kernel7Ideal.main_arg1) := e1
    have l2 : StableHlo.launchContents m' c (Proc.devRef .tc Cert.Reference7Ideal.main_arg2) = m ((c.tc : Thread Cert.Kernel7Ideal.nD Cert.Kernel7Ideal.τ).loc Cert.Kernel7Ideal.main_arg2) := e2
    have l3 : StableHlo.launchContents m' c (Proc.devRef .tc Cert.Reference7Ideal.main_arg3) = m ((c.tc : Thread Cert.Kernel7Ideal.nD Cert.Kernel7Ideal.τ).loc Cert.Kernel7Ideal.main_arg3) := e3
    have l4 : StableHlo.launchContents m' c (Proc.devRef .tc Cert.Reference7Ideal.main_arg4) = m ((c.tc : Thread Cert.Kernel7Ideal.nD Cert.Kernel7Ideal.τ).loc Cert.Kernel7Ideal.main_arg4) := e4
    have l5 : StableHlo.launchContents m' c (Proc.devRef .tc Cert.Reference7Ideal.main_arg5) = m ((c.tc : Thread Cert.Kernel7Ideal.nD Cert.Kernel7Ideal.τ).loc Cert.Kernel7Ideal.main_arg5) := e5
    have l6 : StableHlo.launchContents m' c (Proc.devRef .tc Cert.Reference7Ideal.main_arg6) = m ((c.tc : Thread Cert.Kernel7Ideal.nD Cert.Kernel7Ideal.τ).loc Cert.Kernel7Ideal.main_arg6) := e6
    have l7 : StableHlo.launchContents m' c (Proc.devRef .tc Cert.Reference7Ideal.main_arg7) = m ((c.tc : Thread Cert.Kernel7Ideal.nD Cert.Kernel7Ideal.τ).loc Cert.Kernel7Ideal.main_arg7) := e7
    have l8 : StableHlo.launchContents m' c (Proc.devRef .tc Cert.Reference7Ideal.main_arg8) = m ((c.tc : Thread Cert.Kernel7Ideal.nD Cert.Kernel7Ideal.τ).loc Cert.Kernel7Ideal.main_arg8) := e8
    have l9 : StableHlo.launchContents m' c (Proc.devRef .tc Cert.Reference7Ideal.main_arg9) = m ((c.tc : Thread Cert.Kernel7Ideal.nD Cert.Kernel7Ideal.τ).loc Cert.Kernel7Ideal.main_arg9) := e9
    have l10 : StableHlo.launchContents m' c (Proc.devRef .tc Cert.Reference7Ideal.main_arg10) = m ((c.tc : Thread Cert.Kernel7Ideal.nD Cert.Kernel7Ideal.τ).loc Cert.Kernel7Ideal.main_arg10) := e10
    obtain ⟨r0, r1, r2, r3, rest⟩ := h c
    refine ⟨r0.trans ?_, r1.trans ?_, r2.trans ?_, r3.trans ?_, rest⟩
    · refine (Cert.Reference7Ideal.Read.val_main_v128_eq (StableHlo.launchContents m' c)).trans ?_
      rw [l0, l1, l2, l3, l4, l5, l6, l7, l8, l9, l10]; rfl
    · refine (Cert.Reference7Ideal.Read.val_main_v124_eq (StableHlo.launchContents m' c)).trans ?_
      rw [l1, l2, l4, l5, l6, l8, l10]; rfl
    · refine (Cert.Reference7Ideal.Read.val_main_v125_eq (StableHlo.launchContents m' c)).trans ?_
      rw [l1, l4, l5, l6, l9, l10]; rfl
    · refine (Cert.Reference7Ideal.Read.val_main_v127_eq (StableHlo.launchContents m' c)).trans ?_
      rw [l4, l5, l6, l10]; rfl

theorem reference7_frame : Cert.quiescent_Reference7Ideal (hReference7Ideal := Cert.Reference7Ideal.Gen.facts) := fun m g _ =>
  (θ_run (Cert.Reference7Ideal.defs (F := Ideal)) _ _).mono (fun r h => ⟨fun c => (h c).2.2.2.2, sem_eq_zero_of_no_sems (by decide) r.2⟩)
    (Cert.Reference7Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_logits.Gen.facts, Cert.Pre_finite_forget.Gen.facts, Cert.Pre_finite_gates.Gen.facts,
  Cert.Pre_finite_forget_sample.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  fun m ρ _ => Cert.Kernel3Ideal.Gen.frame m ρ,
  reference3_frame,
  fun m ρ _ => reference3_frame m ρ trivial,
  fun m ρ _ => Cert.Kernel4.Gen.frame m ρ,
  fun m ρ _ => Cert.Kernel4Ideal.Gen.frame m ρ,
  fun m ρ _ => Cert.Kernel4Ideal.Gen.frame m ρ,
  reference4_frame,
  fun m ρ _ => reference4_frame m ρ trivial,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  fun m ρ _ => Cert.Kernel6Ideal.Gen.frame m ρ,
  reference6_frame,
  fun m ρ _ => reference6_frame m ρ trivial,
  fun m ρ _ => Cert.Kernel7.Gen.frame m ρ,
  fun m ρ _ => Cert.Kernel7Ideal.Gen.frame m ρ,
  reference7_frame,
  IdealRules.named_const.statement Cert.KernelIdeal.κ "mask" .f32 0xF149F2CA#32 ⊥ rfl,
  sample_attention,
  trivial,
  mix_ffn,
  trivial,
  fox_proj,
  trivial,
  in_proj,
  trivial,
  mix_ffn_sample,
  trivial,
  fox_proj_sample,
  IdealRules.named_const.statement Cert.Kernel7Ideal.κ "mask" .f32 0xF149F2CA#32 ⊥ rfl,
  mlstm_sample⟩

end Cert.Proof

end
